-- ==== Defs.lean ====
def Pre_Gwin (m : (ℓ : Loc Cert.Gwin.nD Cert.Gwin.τ Cert.Gwin.sig) → Buf (Elt Bits) ℓ) : Prop :=
  True

def Pre_GwinIdeal (m : (ℓ : Loc Cert.GwinIdeal.nD Cert.GwinIdeal.τ Cert.GwinIdeal.sig) → Buf (Elt Ideal) ℓ) : Prop :=
  True

def Pre_GwinRefIdeal (m : (ℓ : Loc Cert.GwinRefIdeal.nD Cert.GwinRefIdeal.τ Cert.GwinRefIdeal.sig) → Buf (Elt Ideal) ℓ) : Prop :=
  True

def Pre_Gw1 (m : (ℓ : Loc Cert.Gw1.nD Cert.Gw1.τ Cert.Gw1.sig) → Buf (Elt Bits) ℓ) : Prop :=
  True

def Pre_Gw1Ideal (m : (ℓ : Loc Cert.Gw1Ideal.nD Cert.Gw1Ideal.τ Cert.Gw1Ideal.sig) → Buf (Elt Ideal) ℓ) : Prop :=
  True

def Pre_Gw1RefIdeal (m : (ℓ : Loc Cert.Gw1RefIdeal.nD Cert.Gw1RefIdeal.τ Cert.Gw1RefIdeal.sig) → Buf (Elt Ideal) ℓ) : Prop :=
  True

def Pre_Gw2 (m : (ℓ : Loc Cert.Gw2.nD Cert.Gw2.τ Cert.Gw2.sig) → Buf (Elt Bits) ℓ) : Prop :=
  True

def Pre_Gw2Ideal (m : (ℓ : Loc Cert.Gw2Ideal.nD Cert.Gw2Ideal.τ Cert.Gw2Ideal.sig) → Buf (Elt Ideal) ℓ) : Prop :=
  True

def Pre_Gw2RefIdeal (m : (ℓ : Loc Cert.Gw2RefIdeal.nD Cert.Gw2RefIdeal.τ Cert.Gw2RefIdeal.sig) → Buf (Elt Ideal) ℓ) : Prop :=
  True

def Pre_Gwo (m : (ℓ : Loc Cert.Gwo.nD Cert.Gwo.τ Cert.Gwo.sig) → Buf (Elt Bits) ℓ) : Prop :=
  True

def Pre_GwoIdeal (m : (ℓ : Loc Cert.GwoIdeal.nD Cert.GwoIdeal.τ Cert.GwoIdeal.sig) → Buf (Elt Ideal) ℓ) : Prop :=
  True

def Pre_GwoRefIdeal (m : (ℓ : Loc Cert.GwoRefIdeal.nD Cert.GwoRefIdeal.τ Cert.GwoRefIdeal.sig) → Buf (Elt Ideal) ℓ) : Prop :=
  True

def Pre_Gwa (m : (ℓ : Loc Cert.Gwa.nD Cert.Gwa.τ Cert.Gwa.sig) → Buf (Elt Bits) ℓ) : Prop :=
  True

def Pre_GwaIdeal (m : (ℓ : Loc Cert.GwaIdeal.nD Cert.GwaIdeal.τ Cert.GwaIdeal.sig) → Buf (Elt Ideal) ℓ) : Prop :=
  True

def Pre_GwaRefIdeal (m : (ℓ : Loc Cert.GwaRefIdeal.nD Cert.GwaRefIdeal.τ Cert.GwaRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaRefIdeal (m : (ℓ : Loc Cert.DaRefIdeal.nD Cert.DaRefIdeal.τ Cert.DaRefIdeal.sig) → Buf (Elt Ideal) ℓ) : Prop :=
  True

def Pre_Dz (m : (ℓ : Loc Cert.Dz.nD Cert.Dz.τ Cert.Dz.sig) → Buf (Elt Bits) ℓ) : Prop :=
  True

def Pre_DzIdeal (m : (ℓ : Loc Cert.DzIdeal.nD Cert.DzIdeal.τ Cert.DzIdeal.sig) → Buf (Elt Ideal) ℓ) : Prop :=
  True

def Pre_DzRefIdeal (m : (ℓ : Loc Cert.DzRefIdeal.nD Cert.DzRefIdeal.τ Cert.DzRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybRefIdeal (m : (ℓ : Loc Cert.DybRefIdeal.nD Cert.DybRefIdeal.τ Cert.DybRefIdeal.sig) → Buf (Elt Ideal) ℓ) : Prop :=
  True

def Pre_U1 (m : (ℓ : Loc Cert.U1.nD Cert.U1.τ Cert.U1.sig) → Buf (Elt Bits) ℓ) : Prop :=
  True

def Pre_U1Ideal (m : (ℓ : Loc Cert.U1Ideal.nD Cert.U1Ideal.τ Cert.U1Ideal.sig) → Buf (Elt Ideal) ℓ) : Prop :=
  True

def Pre_U1RefIdeal (m : (ℓ : Loc Cert.U1RefIdeal.nD Cert.U1RefIdeal.τ Cert.U1RefIdeal.sig) → Buf (Elt Ideal) ℓ) : Prop :=
  True

def Pre_Mf (m : (ℓ : Loc Cert.Mf.nD Cert.Mf.τ Cert.Mf.sig) → Buf (Elt Bits) ℓ) : Prop :=
  True

def Pre_MfIdeal (m : (ℓ : Loc Cert.MfIdeal.nD Cert.MfIdeal.τ Cert.MfIdeal.sig) → Buf (Elt Ideal) ℓ) : Prop :=
  True

def Pre_MfRefIdeal (m : (ℓ : Loc Cert.MfRefIdeal.nD Cert.MfRefIdeal.τ Cert.MfRefIdeal.sig) → Buf (Elt Ideal) ℓ) : Prop :=
  True

def Pre_Mo (m : (ℓ : Loc Cert.Mo.nD Cert.Mo.τ Cert.Mo.sig) → Buf (Elt Bits) ℓ) : Prop :=
  True

def Pre_MoIdeal (m : (ℓ : Loc Cert.MoIdeal.nD Cert.MoIdeal.τ Cert.MoIdeal.sig) → Buf (Elt Ideal) ℓ) : Prop :=
  True

def Pre_MoRefIdeal (m : (ℓ : Loc Cert.MoRefIdeal.nD Cert.MoRefIdeal.τ Cert.MoRefIdeal.sig) → Buf (Elt Ideal) ℓ) : Prop :=
  True

def Pre_Za (m : (ℓ : Loc Cert.Za.nD Cert.Za.τ Cert.Za.sig) → Buf (Elt Bits) ℓ) : Prop :=
  True

def Pre_ZaIdeal (m : (ℓ : Loc Cert.ZaIdeal.nD Cert.ZaIdeal.τ Cert.ZaIdeal.sig) → Buf (Elt Ideal) ℓ) : Prop :=
  True

def Pre_ZaRefIdeal (m : (ℓ : Loc Cert.ZaRefIdeal.nD Cert.ZaRefIdeal.τ Cert.ZaRefIdeal.sig) → Buf (Elt Ideal) ℓ) : Prop :=
  True

def Pre_AdaB (m : (ℓ : Loc Cert.AdaB.nD Cert.AdaB.τ Cert.AdaB.sig) → Buf (Elt Bits) ℓ) : Prop :=
  True

def Pre_AdaBIdeal (m : (ℓ : Loc Cert.AdaBIdeal.nD Cert.AdaBIdeal.τ Cert.AdaBIdeal.sig) → Buf (Elt Ideal) ℓ) : Prop :=
  True

def Pre_AdaBRefIdeal (m : (ℓ : Loc Cert.AdaBRefIdeal.nD Cert.AdaBRefIdeal.τ Cert.AdaBRefIdeal.sig) → Buf (Elt Ideal) ℓ) : Prop :=
  True

def Pre_CCtx (m : (ℓ : Loc Cert.CCtx.nD Cert.CCtx.τ Cert.CCtx.sig) → Buf (Elt Bits) ℓ) : Prop :=
  True

def Pre_CCtxIdeal (m : (ℓ : Loc Cert.CCtxIdeal.nD Cert.CCtxIdeal.τ Cert.CCtxIdeal.sig) → Buf (Elt Ideal) ℓ) : Prop :=
  True

def Pre_CCtxIdeal_finite_rows [hPre_finite_rows : Cert.Pre_finite_rows.Facts] (m : (ℓ : Loc Cert.CCtxIdeal.nD Cert.CCtxIdeal.τ Cert.CCtxIdeal.sig) → Buf (Elt Ideal) ℓ) : Prop :=
  ∀ c : Dev Cert.CCtxIdeal.nD,
    (Cert.Pre_finite_rows.fn (F := Ideal) (m ((c.tc : Thread Cert.CCtxIdeal.nD Cert.CCtxIdeal.τ).loc Cert.CCtxIdeal.main_arg0)) (m ((c.tc : Thread Cert.CCtxIdeal.nD Cert.CCtxIdeal.τ).loc Cert.CCtxIdeal.main_arg1))) = (fun _ => 1#1)

def Pre_CCtxRefIdeal (m : (ℓ : Loc Cert.CCtxRefIdeal.nD Cert.CCtxRefIdeal.τ Cert.CCtxRefIdeal.sig) → Buf (Elt Ideal) ℓ) : Prop :=
  True

def Pre_CCtxRefIdeal_finite_rows [hPre_finite_rows : Cert.Pre_finite_rows.Facts] (m : (ℓ : Loc Cert.CCtxRefIdeal.nD Cert.CCtxRefIdeal.τ Cert.CCtxRefIdeal.sig) → Buf (Elt Ideal) ℓ) : Prop :=
  ∀ c : Dev Cert.CCtxRefIdeal.nD,
    (Cert.Pre_finite_rows.fn (F := Ideal) (m ((c.tc : Thread Cert.CCtxRefIdeal.nD Cert.CCtxRefIdeal.τ).loc Cert.CCtxRefIdeal.main_arg0)) (m ((c.tc : Thread Cert.CCtxRefIdeal.nD Cert.CCtxRefIdeal.τ).loc Cert.CCtxRefIdeal.main_arg1))) = (fun _ => 1#1)

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumInTop (m : (ℓ : Loc Cert.SumInTop.nD Cert.SumInTop.τ Cert.SumInTop.sig) → Buf (Elt Bits) ℓ) : Prop :=
  True

def Pre_SumInTopIdeal (m : (ℓ : Loc Cert.SumInTopIdeal.nD Cert.SumInTopIdeal.τ Cert.SumInTopIdeal.sig) → Buf (Elt Ideal) ℓ) : Prop :=
  True

def Pre_SumInTopRefIdeal (m : (ℓ : Loc Cert.SumInTopRefIdeal.nD Cert.SumInTopRefIdeal.τ Cert.SumInTopRefIdeal.sig) → Buf (Elt Ideal) ℓ) : Prop :=
  True

def Pre_SumInBottom (m : (ℓ : Loc Cert.SumInBottom.nD Cert.SumInBottom.τ Cert.SumInBottom.sig) → Buf (Elt Bits) ℓ) : Prop :=
  True

def Pre_SumInBottomIdeal (m : (ℓ : Loc Cert.SumInBottomIdeal.nD Cert.SumInBottomIdeal.τ Cert.SumInBottomIdeal.sig) → Buf (Elt Ideal) ℓ) : Prop :=
  True

def Pre_SumInBottomRefIdeal (m : (ℓ : Loc Cert.SumInBottomRefIdeal.nD Cert.SumInBottomRefIdeal.τ Cert.SumInBottomRefIdeal.sig) → Buf (Elt Ideal) ℓ) : Prop :=
  True

def Pre_SumBranchTop (m : (ℓ : Loc Cert.SumBranchTop.nD Cert.SumBranchTop.τ Cert.SumBranchTop.sig) → Buf (Elt Bits) ℓ) : Prop :=
  True

def Pre_SumBranchTopIdeal (m : (ℓ : Loc Cert.SumBranchTopIdeal.nD Cert.SumBranchTopIdeal.τ Cert.SumBranchTopIdeal.sig) → Buf (Elt Ideal) ℓ) : Prop :=
  True

def Pre_SumBranchTopRefIdeal (m : (ℓ : Loc Cert.SumBranchTopRefIdeal.nD Cert.SumBranchTopRefIdeal.τ Cert.SumBranchTopRefIdeal.sig) → Buf (Elt Ideal) ℓ) : Prop :=
  True

def Pre_SumBranchBottom (m : (ℓ : Loc Cert.SumBranchBottom.nD Cert.SumBranchBottom.τ Cert.SumBranchBottom.sig) → Buf (Elt Bits) ℓ) : Prop :=
  True

def Pre_SumBranchBottomIdeal (m : (ℓ : Loc Cert.SumBranchBottomIdeal.nD Cert.SumBranchBottomIdeal.τ Cert.SumBranchBottomIdeal.sig) → Buf (Elt Ideal) ℓ) : Prop :=
  True

def Pre_SumBranchBottomRefIdeal (m : (ℓ : Loc Cert.SumBranchBottomRefIdeal.nD Cert.SumBranchBottomRefIdeal.τ Cert.SumBranchBottomRefIdeal.sig) → Buf (Elt Ideal) ℓ) : Prop :=
  True

def Pre_SumOutTop (m : (ℓ : Loc Cert.SumOutTop.nD Cert.SumOutTop.τ Cert.SumOutTop.sig) → Buf (Elt Bits) ℓ) : Prop :=
  True

def Pre_SumOutTopIdeal (m : (ℓ : Loc Cert.SumOutTopIdeal.nD Cert.SumOutTopIdeal.τ Cert.SumOutTopIdeal.sig) → Buf (Elt Ideal) ℓ) : Prop :=
  True

def Pre_SumOutTopRefIdeal (m : (ℓ : Loc Cert.SumOutTopRefIdeal.nD Cert.SumOutTopRefIdeal.τ Cert.SumOutTopRefIdeal.sig) → Buf (Elt Ideal) ℓ) : Prop :=
  True

def Pre_SumOutBottom (m : (ℓ : Loc Cert.SumOutBottom.nD Cert.SumOutBottom.τ Cert.SumOutBottom.sig) → Buf (Elt Bits) ℓ) : Prop :=
  True

def Pre_SumOutBottomIdeal (m : (ℓ : Loc Cert.SumOutBottomIdeal.nD Cert.SumOutBottomIdeal.τ Cert.SumOutBottomIdeal.sig) → Buf (Elt Ideal) ℓ) : Prop :=
  True

def Pre_SumOutBottomRefIdeal (m : (ℓ : Loc Cert.SumOutBottomRefIdeal.nD Cert.SumOutBottomRefIdeal.τ Cert.SumOutBottomRefIdeal.sig) → Buf (Elt Ideal) ℓ) : Prop :=
  True

def Pre_SumFfn1Top (m : (ℓ : Loc Cert.SumFfn1Top.nD Cert.SumFfn1Top.τ Cert.SumFfn1Top.sig) → Buf (Elt Bits) ℓ) : Prop :=
  True

def Pre_SumFfn1TopIdeal (m : (ℓ : Loc Cert.SumFfn1TopIdeal.nD Cert.SumFfn1TopIdeal.τ Cert.SumFfn1TopIdeal.sig) → Buf (Elt Ideal) ℓ) : Prop :=
  True

def Pre_SumFfn1TopRefIdeal (m : (ℓ : Loc Cert.SumFfn1TopRefIdeal.nD Cert.SumFfn1TopRefIdeal.τ Cert.SumFfn1TopRefIdeal.sig) → Buf (Elt Ideal) ℓ) : Prop :=
  True

def Pre_SumFfn1Bottom (m : (ℓ : Loc Cert.SumFfn1Bottom.nD Cert.SumFfn1Bottom.τ Cert.SumFfn1Bottom.sig) → Buf (Elt Bits) ℓ) : Prop :=
  True

def Pre_SumFfn1BottomIdeal (m : (ℓ : Loc Cert.SumFfn1BottomIdeal.nD Cert.SumFfn1BottomIdeal.τ Cert.SumFfn1BottomIdeal.sig) → Buf (Elt Ideal) ℓ) : Prop :=
  True

def Pre_SumFfn1BottomRefIdeal (m : (ℓ : Loc Cert.SumFfn1BottomRefIdeal.nD Cert.SumFfn1BottomRefIdeal.τ Cert.SumFfn1BottomRefIdeal.sig) → Buf (Elt Ideal) ℓ) : Prop :=
  True

def Pre_SumFfn2Top (m : (ℓ : Loc Cert.SumFfn2Top.nD Cert.SumFfn2Top.τ Cert.SumFfn2Top.sig) → Buf (Elt Bits) ℓ) : Prop :=
  True

def Pre_SumFfn2TopIdeal (m : (ℓ : Loc Cert.SumFfn2TopIdeal.nD Cert.SumFfn2TopIdeal.τ Cert.SumFfn2TopIdeal.sig) → Buf (Elt Ideal) ℓ) : Prop :=
  True

def Pre_SumFfn2TopRefIdeal (m : (ℓ : Loc Cert.SumFfn2TopRefIdeal.nD Cert.SumFfn2TopRefIdeal.τ Cert.SumFfn2TopRefIdeal.sig) → Buf (Elt Ideal) ℓ) : Prop :=
  True

def Pre_SumFfn2Bottom (m : (ℓ : Loc Cert.SumFfn2Bottom.nD Cert.SumFfn2Bottom.τ Cert.SumFfn2Bottom.sig) → Buf (Elt Bits) ℓ) : Prop :=
  True

def Pre_SumFfn2BottomIdeal (m : (ℓ : Loc Cert.SumFfn2BottomIdeal.nD Cert.SumFfn2BottomIdeal.τ Cert.SumFfn2BottomIdeal.sig) → Buf (Elt Ideal) ℓ) : Prop :=
  True

def Pre_SumFfn2BottomRefIdeal (m : (ℓ : Loc Cert.SumFfn2BottomRefIdeal.nD Cert.SumFfn2BottomRefIdeal.τ Cert.SumFfn2BottomRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamFfn1 (m : (ℓ : Loc Cert.AdamFfn1.nD Cert.AdamFfn1.τ Cert.AdamFfn1.sig) → Buf (Elt Bits) ℓ) : Prop :=
  True

def Pre_AdamFfn1Ideal (m : (ℓ : Loc Cert.AdamFfn1Ideal.nD Cert.AdamFfn1Ideal.τ Cert.AdamFfn1Ideal.sig) → Buf (Elt Ideal) ℓ) : Prop :=
  True

def Pre_AdamFfn1RefIdeal (m : (ℓ : Loc Cert.AdamFfn1RefIdeal.nD Cert.AdamFfn1RefIdeal.τ Cert.AdamFfn1RefIdeal.sig) → Buf (Elt Ideal) ℓ) : Prop :=
  True

def Pre_AdamFfn2 (m : (ℓ : Loc Cert.AdamFfn2.nD Cert.AdamFfn2.τ Cert.AdamFfn2.sig) → Buf (Elt Bits) ℓ) : Prop :=
  True

def Pre_AdamFfn2Ideal (m : (ℓ : Loc Cert.AdamFfn2Ideal.nD Cert.AdamFfn2Ideal.τ Cert.AdamFfn2Ideal.sig) → Buf (Elt Ideal) ℓ) : Prop :=
  True

def Pre_AdamFfn2RefIdeal (m : (ℓ : Loc Cert.AdamFfn2RefIdeal.nD Cert.AdamFfn2RefIdeal.τ Cert.AdamFfn2RefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Gwin [hGwin : Cert.Gwin.Facts] : Prop :=
  ∀ (m : (ℓ : Loc Cert.Gwin.nD Cert.Gwin.τ Cert.Gwin.sig) → Buf (Elt Bits) ℓ) (g : Dev Cert.Gwin.nD → PrngReg), Pre_Gwin m →
    θ_run (Cert.Gwin.defs (F := Bits)) (onTc (τ := Cert.Gwin.τ) (Cert.Gwin.main (F := Bits))) ⟨m, fun _ => 0, g⟩ (fun r => (∀ c : Dev Cert.Gwin.nD,
      r.2.mem ((c.tc : Thread Cert.Gwin.nD Cert.Gwin.τ).loc Cert.Gwin.main_arg0) = m ((c.tc : Thread Cert.Gwin.nD Cert.Gwin.τ).loc Cert.Gwin.main_arg0)
      ∧ r.2.mem ((c.tc : Thread Cert.Gwin.nD Cert.Gwin.τ).loc Cert.Gwin.main_arg1) = m ((c.tc : Thread Cert.Gwin.nD Cert.Gwin.τ).loc Cert.Gwin.main_arg1))
      ∧ r.2.sem = fun _ => 0)

def quiescent_GwinIdeal [hGwinIdeal : Cert.GwinIdeal.Facts] : Prop :=
  ∀ (m : (ℓ : Loc Cert.GwinIdeal.nD Cert.GwinIdeal.τ Cert.GwinIdeal.sig) → Buf (Elt Ideal) ℓ) (g : Dev Cert.GwinIdeal.nD → PrngReg), Pre_GwinIdeal m →
    θ_run (Cert.GwinIdeal.defs (F := Ideal)) (onTc (τ := Cert.GwinIdeal.τ) (Cert.GwinIdeal.main (F := Ideal))) ⟨m, fun _ => 0, g⟩ (fun r => (∀ c : Dev Cert.GwinIdeal.nD,
      r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
      ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ r.2.sem = fun _ => 0)

def quiescent_GwinRefIdeal [hGwinRefIdeal : Cert.GwinRefIdeal.Facts] : Prop :=
  ∀ (m : (ℓ : Loc Cert.GwinRefIdeal.nD Cert.GwinRefIdeal.τ Cert.GwinRefIdeal.sig) → Buf (Elt Ideal) ℓ) (g : Dev Cert.GwinRefIdeal.nD → PrngReg), Pre_GwinRefIdeal m →
    θ_run (Cert.GwinRefIdeal.defs (F := Ideal)) (onTc (τ := Cert.GwinRefIdeal.τ) (Cert.GwinRefIdeal.main (F := Ideal))) ⟨m, fun _ => 0, g⟩ (fun r => (∀ c : Dev Cert.GwinRefIdeal.nD,
      r.2.mem ((c.tc : Thread Cert.GwinRefIdeal.nD Cert.GwinRefIdeal.τ).loc Cert.GwinRefIdeal.main_arg0) = m ((c.tc : Thread Cert.GwinRefIdeal.nD Cert.GwinRefIdeal.τ).loc Cert.GwinRefIdeal.main_arg0)
      ∧ r.2.mem ((c.tc : Thread Cert.GwinRefIdeal.nD Cert.GwinRefIdeal.τ).loc Cert.GwinRefIdeal.main_arg1) = m ((c.tc : Thread Cert.GwinRefIdeal.nD Cert.GwinRefIdeal.τ).loc Cert.GwinRefIdeal.main_arg1))
      ∧ r.2.sem = fun _ => 0)

def quiescent_Gw1 [hGw1 : Cert.Gw1.Facts] : Prop :=
  ∀ (m : (ℓ : Loc Cert.Gw1.nD Cert.Gw1.τ Cert.Gw1.sig) → Buf (Elt Bits) ℓ) (g : Dev Cert.Gw1.nD → PrngReg), Pre_Gw1 m →
    θ_run (Cert.Gw1.defs (F := Bits)) (onTc (τ := Cert.Gw1.τ) (Cert.Gw1.main (F := Bits))) ⟨m, fun _ => 0, g⟩ (fun r => (∀ c : Dev Cert.Gw1.nD,
      r.2.mem ((c.tc : Thread Cert.Gw1.nD Cert.Gw1.τ).loc Cert.Gw1.main_arg0) = m ((c.tc : Thread Cert.Gw1.nD Cert.Gw1.τ).loc Cert.Gw1.main_arg0)
      ∧ r.2.mem ((c.tc : Thread Cert.Gw1.nD Cert.Gw1.τ).loc Cert.Gw1.main_arg1) = m ((c.tc : Thread Cert.Gw1.nD Cert.Gw1.τ).loc Cert.Gw1.main_arg1))
      ∧ r.2.sem = fun _ => 0)

def quiescent_Gw1Ideal [hGw1Ideal : Cert.Gw1Ideal.Facts] : Prop :=
  ∀ (m : (ℓ : Loc Cert.Gw1Ideal.nD Cert.Gw1Ideal.τ Cert.Gw1Ideal.sig) → Buf (Elt Ideal) ℓ) (g : Dev Cert.Gw1Ideal.nD → PrngReg), Pre_Gw1Ideal m →
    θ_run (Cert.Gw1Ideal.defs (F := Ideal)) (onTc (τ := Cert.Gw1Ideal.τ) (Cert.Gw1Ideal.main (F := Ideal))) ⟨m, fun _ => 0, g⟩ (fun r => (∀ c : Dev Cert.Gw1Ideal.nD,
      r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
      ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ r.2.sem = fun _ => 0)

def quiescent_Gw1RefIdeal [hGw1RefIdeal : Cert.Gw1RefIdeal.Facts] : Prop :=
  ∀ (m : (ℓ : Loc Cert.Gw1RefIdeal.nD Cert.Gw1RefIdeal.τ Cert.Gw1RefIdeal.sig) → Buf (Elt Ideal) ℓ) (g : Dev Cert.Gw1RefIdeal.nD → PrngReg), Pre_Gw1RefIdeal m →
    θ_run (Cert.Gw1RefIdeal.defs (F := Ideal)) (onTc (τ := Cert.Gw1RefIdeal.τ) (Cert.Gw1RefIdeal.main (F := Ideal))) ⟨m, fun _ => 0, g⟩ (fun r => (∀ c : Dev Cert.Gw1RefIdeal.nD,
      r.2.mem ((c.tc : Thread Cert.Gw1RefIdeal.nD Cert.Gw1RefIdeal.τ).loc Cert.Gw1RefIdeal.main_arg0) = m ((c.tc : Thread Cert.Gw1RefIdeal.nD Cert.Gw1RefIdeal.τ).loc Cert.Gw1RefIdeal.main_arg0)
      ∧ r.2.mem ((c.tc : Thread Cert.Gw1RefIdeal.nD Cert.Gw1RefIdeal.τ).loc Cert.Gw1RefIdeal.main_arg1) = m ((c.tc : Thread Cert.Gw1RefIdeal.nD Cert.Gw1RefIdeal.τ).loc Cert.Gw1RefIdeal.main_arg1))
      ∧ r.2.sem = fun _ => 0)

def quiescent_Gw2 [hGw2 : Cert.Gw2.Facts] : Prop :=
  ∀ (m : (ℓ : Loc Cert.Gw2.nD Cert.Gw2.τ Cert.Gw2.sig) → Buf (Elt Bits) ℓ) (g : Dev Cert.Gw2.nD → PrngReg), Pre_Gw2 m →
    θ_run (Cert.Gw2.defs (F := Bits)) (onTc (τ := Cert.Gw2.τ) (Cert.Gw2.main (F := Bits))) ⟨m, fun _ => 0, g⟩ (fun r => (∀ c : Dev Cert.Gw2.nD,
      r.2.mem ((c.tc : Thread Cert.Gw2.nD Cert.Gw2.τ).loc Cert.Gw2.main_arg0) = m ((c.tc : Thread Cert.Gw2.nD Cert.Gw2.τ).loc Cert.Gw2.main_arg0)
      ∧ r.2.mem ((c.tc : Thread Cert.Gw2.nD Cert.Gw2.τ).loc Cert.Gw2.main_arg1) = m ((c.tc : Thread Cert.Gw2.nD Cert.Gw2.τ).loc Cert.Gw2.main_arg1))
      ∧ r.2.sem = fun _ => 0)

def quiescent_Gw2Ideal [hGw2Ideal : Cert.Gw2Ideal.Facts] : Prop :=
  ∀ (m : (ℓ : Loc Cert.Gw2Ideal.nD Cert.Gw2Ideal.τ Cert.Gw2Ideal.sig) → Buf (Elt Ideal) ℓ) (g : Dev Cert.Gw2Ideal.nD → PrngReg), Pre_Gw2Ideal m →
    θ_run (Cert.Gw2Ideal.defs (F := Ideal)) (onTc (τ := Cert.Gw2Ideal.τ) (Cert.Gw2Ideal.main (F := Ideal))) ⟨m, fun _ => 0, g⟩ (fun r => (∀ c : Dev Cert.Gw2Ideal.nD,
      r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
      ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ r.2.sem = fun _ => 0)

def quiescent_Gw2RefIdeal [hGw2RefIdeal : Cert.Gw2RefIdeal.Facts] : Prop :=
  ∀ (m : (ℓ : Loc Cert.Gw2RefIdeal.nD Cert.Gw2RefIdeal.τ Cert.Gw2RefIdeal.sig) → Buf (Elt Ideal) ℓ) (g : Dev Cert.Gw2RefIdeal.nD → PrngReg), Pre_Gw2RefIdeal m →
    θ_run (Cert.Gw2RefIdeal.defs (F := Ideal)) (onTc (τ := Cert.Gw2RefIdeal.τ) (Cert.Gw2RefIdeal.main (F := Ideal))) ⟨m, fun _ => 0, g⟩ (fun r => (∀ c : Dev Cert.Gw2RefIdeal.nD,
      r.2.mem ((c.tc : Thread Cert.Gw2RefIdeal.nD Cert.Gw2RefIdeal.τ).loc Cert.Gw2RefIdeal.main_arg0) = m ((c.tc : Thread Cert.Gw2RefIdeal.nD Cert.Gw2RefIdeal.τ).loc Cert.Gw2RefIdeal.main_arg0)
      ∧ r.2.mem ((c.tc : Thread Cert.Gw2RefIdeal.nD Cert.Gw2RefIdeal.τ).loc Cert.Gw2RefIdeal.main_arg1) = m ((c.tc : Thread Cert.Gw2RefIdeal.nD Cert.Gw2RefIdeal.τ).loc Cert.Gw2RefIdeal.main_arg1))
      ∧ r.2.sem = fun _ => 0)

def quiescent_Gwo [hGwo : Cert.Gwo.Facts] : Prop :=
  ∀ (m : (ℓ : Loc Cert.Gwo.nD Cert.Gwo.τ Cert.Gwo.sig) → Buf (Elt Bits) ℓ) (g : Dev Cert.Gwo.nD → PrngReg), Pre_Gwo m →
    θ_run (Cert.Gwo.defs (F := Bits)) (onTc (τ := Cert.Gwo.τ) (Cert.Gwo.main (F := Bits))) ⟨m, fun _ => 0, g⟩ (fun r => (∀ c : Dev Cert.Gwo.nD,
      r.2.mem ((c.tc : Thread Cert.Gwo.nD Cert.Gwo.τ).loc Cert.Gwo.main_arg0) = m ((c.tc : Thread Cert.Gwo.nD Cert.Gwo.τ).loc Cert.Gwo.main_arg0)
      ∧ r.2.mem ((c.tc : Thread Cert.Gwo.nD Cert.Gwo.τ).loc Cert.Gwo.main_arg1) = m ((c.tc : Thread Cert.Gwo.nD Cert.Gwo.τ).loc Cert.Gwo.main_arg1))
      ∧ r.2.sem = fun _ => 0)

def quiescent_GwoIdeal [hGwoIdeal : Cert.GwoIdeal.Facts] : Prop :=
  ∀ (m : (ℓ : Loc Cert.GwoIdeal.nD Cert.GwoIdeal.τ Cert.GwoIdeal.sig) → Buf (Elt Ideal) ℓ) (g : Dev Cert.GwoIdeal.nD → PrngReg), Pre_GwoIdeal m →
    θ_run (Cert.GwoIdeal.defs (F := Ideal)) (onTc (τ := Cert.GwoIdeal.τ) (Cert.GwoIdeal.main (F := Ideal))) ⟨m, fun _ => 0, g⟩ (fun r => (∀ c : Dev Cert.GwoIdeal.nD,
      r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
      ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ r.2.sem = fun _ => 0)

def quiescent_GwoRefIdeal [hGwoRefIdeal : Cert.GwoRefIdeal.Facts] : Prop :=
  ∀ (m : (ℓ : Loc Cert.GwoRefIdeal.nD Cert.GwoRefIdeal.τ Cert.GwoRefIdeal.sig) → Buf (Elt Ideal) ℓ) (g : Dev Cert.GwoRefIdeal.nD → PrngReg), Pre_GwoRefIdeal m →
    θ_run (Cert.GwoRefIdeal.defs (F := Ideal)) (onTc (τ := Cert.GwoRefIdeal.τ) (Cert.GwoRefIdeal.main (F := Ideal))) ⟨m, fun _ => 0, g⟩ (fun r => (∀ c : Dev Cert.GwoRefIdeal.nD,
      r.2.mem ((c.tc : Thread Cert.GwoRefIdeal.nD Cert.GwoRefIdeal.τ).loc Cert.GwoRefIdeal.main_arg0) = m ((c.tc : Thread Cert.GwoRefIdeal.nD Cert.GwoRefIdeal.τ).loc Cert.GwoRefIdeal.main_arg0)
      ∧ r.2.mem ((c.tc : Thread Cert.GwoRefIdeal.nD Cert.GwoRefIdeal.τ).loc Cert.GwoRefIdeal.main_arg1) = m ((c.tc : Thread Cert.GwoRefIdeal.nD Cert.GwoRefIdeal.τ).loc Cert.GwoRefIdeal.main_arg1))
      ∧ r.2.sem = fun _ => 0)

def quiescent_Gwa [hGwa : Cert.Gwa.Facts] : Prop :=
  ∀ (m : (ℓ : Loc Cert.Gwa.nD Cert.Gwa.τ Cert.Gwa.sig) → Buf (Elt Bits) ℓ) (g : Dev Cert.Gwa.nD → PrngReg), Pre_Gwa m →
    θ_run (Cert.Gwa.defs (F := Bits)) (onTc (τ := Cert.Gwa.τ) (Cert.Gwa.main (F := Bits))) ⟨m, fun _ => 0, g⟩ (fun r => (∀ c : Dev Cert.Gwa.nD,
      r.2.mem ((c.tc : Thread Cert.Gwa.nD Cert.Gwa.τ).loc Cert.Gwa.main_arg0) = m ((c.tc : Thread Cert.Gwa.nD Cert.Gwa.τ).loc Cert.Gwa.main_arg0)
      ∧ r.2.mem ((c.tc : Thread Cert.Gwa.nD Cert.Gwa.τ).loc Cert.Gwa.main_arg1) = m ((c.tc : Thread Cert.Gwa.nD Cert.Gwa.τ).loc Cert.Gwa.main_arg1))
      ∧ r.2.sem = fun _ => 0)

def quiescent_GwaIdeal [hGwaIdeal : Cert.GwaIdeal.Facts] : Prop :=
  ∀ (m : (ℓ : Loc Cert.GwaIdeal.nD Cert.GwaIdeal.τ Cert.GwaIdeal.sig) → Buf (Elt Ideal) ℓ) (g : Dev Cert.GwaIdeal.nD → PrngReg), Pre_GwaIdeal m →
    θ_run (Cert.GwaIdeal.defs (F := Ideal)) (onTc (τ := Cert.GwaIdeal.τ) (Cert.GwaIdeal.main (F := Ideal))) ⟨m, fun _ => 0, g⟩ (fun r => (∀ c : Dev Cert.GwaIdeal.nD,
      r.2.mem ((c.tc : Thread Cert.GwaIdeal.nD Cert.GwaIdeal.τ).loc Cert.GwaIdeal.main_arg0) = m ((c.tc : Thread Cert.GwaIdeal.nD Cert.GwaIdeal.τ).loc Cert.GwaIdeal.main_arg0)
      ∧ r.2.mem ((c.tc : Thread Cert.GwaIdeal.nD Cert.GwaIdeal.τ).loc Cert.GwaIdeal.main_arg1) = m ((c.tc : Thread Cert.GwaIdeal.nD Cert.GwaIdeal.τ).loc Cert.GwaIdeal.main_arg1))
      ∧ r.2.sem = fun _ => 0)

def quiescent_GwaRefIdeal [hGwaRefIdeal : Cert.GwaRefIdeal.Facts] : Prop :=
  ∀ (m : (ℓ : Loc Cert.GwaRefIdeal.nD Cert.GwaRefIdeal.τ Cert.GwaRefIdeal.sig) → Buf (Elt Ideal) ℓ) (g : Dev Cert.GwaRefIdeal.nD → PrngReg), Pre_GwaRefIdeal m →
    θ_run (Cert.GwaRefIdeal.defs (F := Ideal)) (onTc (τ := Cert.GwaRefIdeal.τ) (Cert.GwaRefIdeal.main (F := Ideal))) ⟨m, fun _ => 0, g⟩ (fun r => (∀ c : Dev Cert.GwaRefIdeal.nD,
      r.2.mem ((c.tc : Thread Cert.GwaRefIdeal.nD Cert.GwaRefIdeal.τ).loc Cert.GwaRefIdeal.main_arg0) = m ((c.tc : Thread Cert.GwaRefIdeal.nD Cert.GwaRefIdeal.τ).loc Cert.GwaRefIdeal.main_arg0)
      ∧ r.2.mem ((c.tc : Thread Cert.GwaRefIdeal.nD Cert.GwaRefIdeal.τ).loc Cert.GwaRefIdeal.main_arg1) = m ((c.tc : Thread Cert.GwaRefIdeal.nD Cert.GwaRefIdeal.τ).loc Cert.GwaRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1))
      ∧ r.2.sem = fun _ => 0)

def quiescent_Dz [hDz : Cert.Dz.Facts] : Prop :=
  ∀ (m : (ℓ : Loc Cert.Dz.nD Cert.Dz.τ Cert.Dz.sig) → Buf (Elt Bits) ℓ) (g : Dev Cert.Dz.nD → PrngReg), Pre_Dz m →
    θ_run (Cert.Dz.defs (F := Bits)) (onTc (τ := Cert.Dz.τ) (Cert.Dz.main (F := Bits))) ⟨m, fun _ => 0, g⟩ (fun r => (∀ c : Dev Cert.Dz.nD,
      r.2.mem ((c.tc : Thread Cert.Dz.nD Cert.Dz.τ).loc Cert.Dz.main_arg0) = m ((c.tc : Thread Cert.Dz.nD Cert.Dz.τ).loc Cert.Dz.main_arg0)
      ∧ r.2.mem ((c.tc : Thread Cert.Dz.nD Cert.Dz.τ).loc Cert.Dz.main_arg1) = m ((c.tc : Thread Cert.Dz.nD Cert.Dz.τ).loc Cert.Dz.main_arg1))
      ∧ r.2.sem = fun _ => 0)

def quiescent_DzIdeal [hDzIdeal : Cert.DzIdeal.Facts] : Prop :=
  ∀ (m : (ℓ : Loc Cert.DzIdeal.nD Cert.DzIdeal.τ Cert.DzIdeal.sig) → Buf (Elt Ideal) ℓ) (g : Dev Cert.DzIdeal.nD → PrngReg), Pre_DzIdeal m →
    θ_run (Cert.DzIdeal.defs (F := Ideal)) (onTc (τ := Cert.DzIdeal.τ) (Cert.DzIdeal.main (F := Ideal))) ⟨m, fun _ => 0, g⟩ (fun r => (∀ c : Dev Cert.DzIdeal.nD,
      r.2.mem ((c.tc : Thread Cert.DzIdeal.nD Cert.DzIdeal.τ).loc Cert.DzIdeal.main_arg0) = m ((c.tc : Thread Cert.DzIdeal.nD Cert.DzIdeal.τ).loc Cert.DzIdeal.main_arg0)
      ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ r.2.sem = fun _ => 0)

def quiescent_DzRefIdeal [hDzRefIdeal : Cert.DzRefIdeal.Facts] : Prop :=
  ∀ (m : (ℓ : Loc Cert.DzRefIdeal.nD Cert.DzRefIdeal.τ Cert.DzRefIdeal.sig) → Buf (Elt Ideal) ℓ) (g : Dev Cert.DzRefIdeal.nD → PrngReg), Pre_DzRefIdeal m →
    θ_run (Cert.DzRefIdeal.defs (F := Ideal)) (onTc (τ := Cert.DzRefIdeal.τ) (Cert.DzRefIdeal.main (F := Ideal))) ⟨m, fun _ => 0, g⟩ (fun r => (∀ c : Dev Cert.DzRefIdeal.nD,
      r.2.mem ((c.tc : Thread Cert.DzRefIdeal.nD Cert.DzRefIdeal.τ).loc Cert.DzRefIdeal.main_arg0) = m ((c.tc : Thread Cert.DzRefIdeal.nD Cert.DzRefIdeal.τ).loc Cert.DzRefIdeal.main_arg0)
      ∧ r.2.mem ((c.tc : Thread Cert.DzRefIdeal.nD Cert.DzRefIdeal.τ).loc Cert.DzRefIdeal.main_arg1) = m ((c.tc : Thread Cert.DzRefIdeal.nD Cert.DzRefIdeal.τ).loc Cert.DzRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1))
      ∧ r.2.sem = fun _ => 0)

def quiescent_U1 [hU1 : Cert.U1.Facts] : Prop :=
  ∀ (m : (ℓ : Loc Cert.U1.nD Cert.U1.τ Cert.U1.sig) → Buf (Elt Bits) ℓ) (g : Dev Cert.U1.nD → PrngReg), Pre_U1 m →
    θ_run (Cert.U1.defs (F := Bits)) (onTc (τ := Cert.U1.τ) (Cert.U1.main (F := Bits))) ⟨m, fun _ => 0, g⟩ (fun r => (∀ c : Dev Cert.U1.nD,
      r.2.mem ((c.tc : Thread Cert.U1.nD Cert.U1.τ).loc Cert.U1.main_arg0) = m ((c.tc : Thread Cert.U1.nD Cert.U1.τ).loc Cert.U1.main_arg0)
      ∧ r.2.mem ((c.tc : Thread Cert.U1.nD Cert.U1.τ).loc Cert.U1.main_arg1) = m ((c.tc : Thread Cert.U1.nD Cert.U1.τ).loc Cert.U1.main_arg1))
      ∧ r.2.sem = fun _ => 0)

def quiescent_U1Ideal [hU1Ideal : Cert.U1Ideal.Facts] : Prop :=
  ∀ (m : (ℓ : Loc Cert.U1Ideal.nD Cert.U1Ideal.τ Cert.U1Ideal.sig) → Buf (Elt Ideal) ℓ) (g : Dev Cert.U1Ideal.nD → PrngReg), Pre_U1Ideal m →
    θ_run (Cert.U1Ideal.defs (F := Ideal)) (onTc (τ := Cert.U1Ideal.τ) (Cert.U1Ideal.main (F := Ideal))) ⟨m, fun _ => 0, g⟩ (fun r => (∀ c : Dev Cert.U1Ideal.nD,
      r.2.mem ((c.tc : Thread Cert.U1Ideal.nD Cert.U1Ideal.τ).loc Cert.U1Ideal.main_arg0) = m ((c.tc : Thread Cert.U1Ideal.nD Cert.U1Ideal.τ).loc Cert.U1Ideal.main_arg0)
      ∧ r.2.mem ((c.tc : Thread Cert.U1Ideal.nD Cert.U1Ideal.τ).loc Cert.U1Ideal.main_arg1) = m ((c.tc : Thread Cert.U1Ideal.nD Cert.U1Ideal.τ).loc Cert.U1Ideal.main_arg1))
      ∧ r.2.sem = fun _ => 0)

def quiescent_U1RefIdeal [hU1RefIdeal : Cert.U1RefIdeal.Facts] : Prop :=
  ∀ (m : (ℓ : Loc Cert.U1RefIdeal.nD Cert.U1RefIdeal.τ Cert.U1RefIdeal.sig) → Buf (Elt Ideal) ℓ) (g : Dev Cert.U1RefIdeal.nD → PrngReg), Pre_U1RefIdeal m →
    θ_run (Cert.U1RefIdeal.defs (F := Ideal)) (onTc (τ := Cert.U1RefIdeal.τ) (Cert.U1RefIdeal.main (F := Ideal))) ⟨m, fun _ => 0, g⟩ (fun r => (∀ c : Dev Cert.U1RefIdeal.nD,
      r.2.mem ((c.tc : Thread Cert.U1RefIdeal.nD Cert.U1RefIdeal.τ).loc Cert.U1RefIdeal.main_arg0) = m ((c.tc : Thread Cert.U1RefIdeal.nD Cert.U1RefIdeal.τ).loc Cert.U1RefIdeal.main_arg0)
      ∧ r.2.mem ((c.tc : Thread Cert.U1RefIdeal.nD Cert.U1RefIdeal.τ).loc Cert.U1RefIdeal.main_arg1) = m ((c.tc : Thread Cert.U1RefIdeal.nD Cert.U1RefIdeal.τ).loc Cert.U1RefIdeal.main_arg1))
      ∧ r.2.sem = fun _ => 0)

def quiescent_Mf [hMf : Cert.Mf.Facts] : Prop :=
  ∀ (m : (ℓ : Loc Cert.Mf.nD Cert.Mf.τ Cert.Mf.sig) → Buf (Elt Bits) ℓ) (g : Dev Cert.Mf.nD → PrngReg), Pre_Mf m →
    θ_run (Cert.Mf.defs (F := Bits)) (onTc (τ := Cert.Mf.τ) (Cert.Mf.main (F := Bits))) ⟨m, fun _ => 0, g⟩ (fun r => (∀ c : Dev Cert.Mf.nD,
      r.2.mem ((c.tc : Thread Cert.Mf.nD Cert.Mf.τ).loc Cert.Mf.main_arg0) = m ((c.tc : Thread Cert.Mf.nD Cert.Mf.τ).loc Cert.Mf.main_arg0)
      ∧ r.2.mem ((c.tc : Thread Cert.Mf.nD Cert.Mf.τ).loc Cert.Mf.main_arg1) = m ((c.tc : Thread Cert.Mf.nD Cert.Mf.τ).loc Cert.Mf.main_arg1))
      ∧ r.2.sem = fun _ => 0)

def quiescent_MfIdeal [hMfIdeal : Cert.MfIdeal.Facts] : Prop :=
  ∀ (m : (ℓ : Loc Cert.MfIdeal.nD Cert.MfIdeal.τ Cert.MfIdeal.sig) → Buf (Elt Ideal) ℓ) (g : Dev Cert.MfIdeal.nD → PrngReg), Pre_MfIdeal m →
    θ_run (Cert.MfIdeal.defs (F := Ideal)) (onTc (τ := Cert.MfIdeal.τ) (Cert.MfIdeal.main (F := Ideal))) ⟨m, fun _ => 0, g⟩ (fun r => (∀ c : Dev Cert.MfIdeal.nD,
      r.2.mem ((c.tc : Thread Cert.MfIdeal.nD Cert.MfIdeal.τ).loc Cert.MfIdeal.main_arg0) = m ((c.tc : Thread Cert.MfIdeal.nD Cert.MfIdeal.τ).loc Cert.MfIdeal.main_arg0)
      ∧ r.2.mem ((c.tc : Thread Cert.MfIdeal.nD Cert.MfIdeal.τ).loc Cert.MfIdeal.main_arg1) = m ((c.tc : Thread Cert.MfIdeal.nD Cert.MfIdeal.τ).loc Cert.MfIdeal.main_arg1))
      ∧ r.2.sem = fun _ => 0)

def quiescent_MfRefIdeal [hMfRefIdeal : Cert.MfRefIdeal.Facts] : Prop :=
  ∀ (m : (ℓ : Loc Cert.MfRefIdeal.nD Cert.MfRefIdeal.τ Cert.MfRefIdeal.sig) → Buf (Elt Ideal) ℓ) (g : Dev Cert.MfRefIdeal.nD → PrngReg), Pre_MfRefIdeal m →
    θ_run (Cert.MfRefIdeal.defs (F := Ideal)) (onTc (τ := Cert.MfRefIdeal.τ) (Cert.MfRefIdeal.main (F := Ideal))) ⟨m, fun _ => 0, g⟩ (fun r => (∀ c : Dev Cert.MfRefIdeal.nD,
      r.2.mem ((c.tc : Thread Cert.MfRefIdeal.nD Cert.MfRefIdeal.τ).loc Cert.MfRefIdeal.main_arg0) = m ((c.tc : Thread Cert.MfRefIdeal.nD Cert.MfRefIdeal.τ).loc Cert.MfRefIdeal.main_arg0)
      ∧ r.2.mem ((c.tc : Thread Cert.MfRefIdeal.nD Cert.MfRefIdeal.τ).loc Cert.MfRefIdeal.main_arg1) = m ((c.tc : Thread Cert.MfRefIdeal.nD Cert.MfRefIdeal.τ).loc Cert.MfRefIdeal.main_arg1))
      ∧ r.2.sem = fun _ => 0)

def quiescent_Mo [hMo : Cert.Mo.Facts] : Prop :=
  ∀ (m : (ℓ : Loc Cert.Mo.nD Cert.Mo.τ Cert.Mo.sig) → Buf (Elt Bits) ℓ) (g : Dev Cert.Mo.nD → PrngReg), Pre_Mo m →
    θ_run (Cert.Mo.defs (F := Bits)) (onTc (τ := Cert.Mo.τ) (Cert.Mo.main (F := Bits))) ⟨m, fun _ => 0, g⟩ (fun r => (∀ c : Dev Cert.Mo.nD,
      r.2.mem ((c.tc : Thread Cert.Mo.nD Cert.Mo.τ).loc Cert.Mo.main_arg0) = m ((c.tc : Thread Cert.Mo.nD Cert.Mo.τ).loc Cert.Mo.main_arg0)
      ∧ r.2.mem ((c.tc : Thread Cert.Mo.nD Cert.Mo.τ).loc Cert.Mo.main_arg1) = m ((c.tc : Thread Cert.Mo.nD Cert.Mo.τ).loc Cert.Mo.main_arg1))
      ∧ r.2.sem = fun _ => 0)

def quiescent_MoIdeal [hMoIdeal : Cert.MoIdeal.Facts] : Prop :=
  ∀ (m : (ℓ : Loc Cert.MoIdeal.nD Cert.MoIdeal.τ Cert.MoIdeal.sig) → Buf (Elt Ideal) ℓ) (g : Dev Cert.MoIdeal.nD → PrngReg), Pre_MoIdeal m →
    θ_run (Cert.MoIdeal.defs (F := Ideal)) (onTc (τ := Cert.MoIdeal.τ) (Cert.MoIdeal.main (F := Ideal))) ⟨m, fun _ => 0, g⟩ (fun r => (∀ c : Dev Cert.MoIdeal.nD,
      r.2.mem ((c.tc : Thread Cert.MoIdeal.nD Cert.MoIdeal.τ).loc Cert.MoIdeal.main_arg0) = m ((c.tc : Thread Cert.MoIdeal.nD Cert.MoIdeal.τ).loc Cert.MoIdeal.main_arg0)
      ∧ r.2.mem ((c.tc : Thread Cert.MoIdeal.nD Cert.MoIdeal.τ).loc Cert.MoIdeal.main_arg1) = m ((c.tc : Thread Cert.MoIdeal.nD Cert.MoIdeal.τ).loc Cert.MoIdeal.main_arg1))
      ∧ r.2.sem = fun _ => 0)

def quiescent_MoRefIdeal [hMoRefIdeal : Cert.MoRefIdeal.Facts] : Prop :=
  ∀ (m : (ℓ : Loc Cert.MoRefIdeal.nD Cert.MoRefIdeal.τ Cert.MoRefIdeal.sig) → Buf (Elt Ideal) ℓ) (g : Dev Cert.MoRefIdeal.nD → PrngReg), Pre_MoRefIdeal m →
    θ_run (Cert.MoRefIdeal.defs (F := Ideal)) (onTc (τ := Cert.MoRefIdeal.τ) (Cert.MoRefIdeal.main (F := Ideal))) ⟨m, fun _ => 0, g⟩ (fun r => (∀ c : Dev Cert.MoRefIdeal.nD,
      r.2.mem ((c.tc : Thread Cert.MoRefIdeal.nD Cert.MoRefIdeal.τ).loc Cert.MoRefIdeal.main_arg0) = m ((c.tc : Thread Cert.MoRefIdeal.nD Cert.MoRefIdeal.τ).loc Cert.MoRefIdeal.main_arg0)
      ∧ r.2.mem ((c.tc : Thread Cert.MoRefIdeal.nD Cert.MoRefIdeal.τ).loc Cert.MoRefIdeal.main_arg1) = m ((c.tc : Thread Cert.MoRefIdeal.nD Cert.MoRefIdeal.τ).loc Cert.MoRefIdeal.main_arg1))
      ∧ r.2.sem = fun _ => 0)

def quiescent_Za [hZa : Cert.Za.Facts] : Prop :=
  ∀ (m : (ℓ : Loc Cert.Za.nD Cert.Za.τ Cert.Za.sig) → Buf (Elt Bits) ℓ) (g : Dev Cert.Za.nD → PrngReg), Pre_Za m →
    θ_run (Cert.Za.defs (F := Bits)) (onTc (τ := Cert.Za.τ) (Cert.Za.main (F := Bits))) ⟨m, fun _ => 0, g⟩ (fun r => (∀ c : Dev Cert.Za.nD,
      r.2.mem ((c.tc : Thread Cert.Za.nD Cert.Za.τ).loc Cert.Za.main_arg0) = m ((c.tc : Thread Cert.Za.nD Cert.Za.τ).loc Cert.Za.main_arg0)
      ∧ r.2.mem ((c.tc : Thread Cert.Za.nD Cert.Za.τ).loc Cert.Za.main_arg1) = m ((c.tc : Thread Cert.Za.nD Cert.Za.τ).loc Cert.Za.main_arg1))
      ∧ r.2.sem = fun _ => 0)

def quiescent_ZaIdeal [hZaIdeal : Cert.ZaIdeal.Facts] : Prop :=
  ∀ (m : (ℓ : Loc Cert.ZaIdeal.nD Cert.ZaIdeal.τ Cert.ZaIdeal.sig) → Buf (Elt Ideal) ℓ) (g : Dev Cert.ZaIdeal.nD → PrngReg), Pre_ZaIdeal m →
    θ_run (Cert.ZaIdeal.defs (F := Ideal)) (onTc (τ := Cert.ZaIdeal.τ) (Cert.ZaIdeal.main (F := Ideal))) ⟨m, fun _ => 0, g⟩ (fun r => (∀ c : Dev Cert.ZaIdeal.nD,
      r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
      ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ r.2.sem = fun _ => 0)

def quiescent_ZaRefIdeal [hZaRefIdeal : Cert.ZaRefIdeal.Facts] : Prop :=
  ∀ (m : (ℓ : Loc Cert.ZaRefIdeal.nD Cert.ZaRefIdeal.τ Cert.ZaRefIdeal.sig) → Buf (Elt Ideal) ℓ) (g : Dev Cert.ZaRefIdeal.nD → PrngReg), Pre_ZaRefIdeal m →
    θ_run (Cert.ZaRefIdeal.defs (F := Ideal)) (onTc (τ := Cert.ZaRefIdeal.τ) (Cert.ZaRefIdeal.main (F := Ideal))) ⟨m, fun _ => 0, g⟩ (fun r => (∀ c : Dev Cert.ZaRefIdeal.nD,
      r.2.mem ((c.tc : Thread Cert.ZaRefIdeal.nD Cert.ZaRefIdeal.τ).loc Cert.ZaRefIdeal.main_arg0) = m ((c.tc : Thread Cert.ZaRefIdeal.nD Cert.ZaRefIdeal.τ).loc Cert.ZaRefIdeal.main_arg0)
      ∧ r.2.mem ((c.tc : Thread Cert.ZaRefIdeal.nD Cert.ZaRefIdeal.τ).loc Cert.ZaRefIdeal.main_arg1) = m ((c.tc : Thread Cert.ZaRefIdeal.nD Cert.ZaRefIdeal.τ).loc Cert.ZaRefIdeal.main_arg1))
      ∧ r.2.sem = fun _ => 0)

def quiescent_AdaB [hAdaB : Cert.AdaB.Facts] : Prop :=
  ∀ (m : (ℓ : Loc Cert.AdaB.nD Cert.AdaB.τ Cert.AdaB.sig) → Buf (Elt Bits) ℓ) (g : Dev Cert.AdaB.nD → PrngReg), Pre_AdaB m →
    θ_run (Cert.AdaB.defs (F := Bits)) (onTc (τ := Cert.AdaB.τ) (Cert.AdaB.main (F := Bits))) ⟨m, fun _ => 0, g⟩ (fun r => (∀ c : Dev Cert.AdaB.nD,
      r.2.mem ((c.tc : Thread Cert.AdaB.nD Cert.AdaB.τ).loc Cert.AdaB.main_arg0) = m ((c.tc : Thread Cert.AdaB.nD Cert.AdaB.τ).loc Cert.AdaB.main_arg0)
      ∧ r.2.mem ((c.tc : Thread Cert.AdaB.nD Cert.AdaB.τ).loc Cert.AdaB.main_arg1) = m ((c.tc : Thread Cert.AdaB.nD Cert.AdaB.τ).loc Cert.AdaB.main_arg1)
      ∧ r.2.mem ((c.tc : Thread Cert.AdaB.nD Cert.AdaB.τ).loc Cert.AdaB.main_arg2) = m ((c.tc : Thread Cert.AdaB.nD Cert.AdaB.τ).loc Cert.AdaB.main_arg2))
      ∧ r.2.sem = fun _ => 0)

def quiescent_AdaBIdeal [hAdaBIdeal : Cert.AdaBIdeal.Facts] : Prop :=
  ∀ (m : (ℓ : Loc Cert.AdaBIdeal.nD Cert.AdaBIdeal.τ Cert.AdaBIdeal.sig) → Buf (Elt Ideal) ℓ) (g : Dev Cert.AdaBIdeal.nD → PrngReg), Pre_AdaBIdeal m →
    θ_run (Cert.AdaBIdeal.defs (F := Ideal)) (onTc (τ := Cert.AdaBIdeal.τ) (Cert.AdaBIdeal.main (F := Ideal))) ⟨m, fun _ => 0, g⟩ (fun r => (∀ c : Dev Cert.AdaBIdeal.nD,
      r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
      ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
      ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ r.2.sem = fun _ => 0)

def quiescent_AdaBRefIdeal [hAdaBRefIdeal : Cert.AdaBRefIdeal.Facts] : Prop :=
  ∀ (m : (ℓ : Loc Cert.AdaBRefIdeal.nD Cert.AdaBRefIdeal.τ Cert.AdaBRefIdeal.sig) → Buf (Elt Ideal) ℓ) (g : Dev Cert.AdaBRefIdeal.nD → PrngReg), Pre_AdaBRefIdeal m →
    θ_run (Cert.AdaBRefIdeal.defs (F := Ideal)) (onTc (τ := Cert.AdaBRefIdeal.τ) (Cert.AdaBRefIdeal.main (F := Ideal))) ⟨m, fun _ => 0, g⟩ (fun r => (∀ c : Dev Cert.AdaBRefIdeal.nD,
      r.2.mem ((c.tc : Thread Cert.AdaBRefIdeal.nD Cert.AdaBRefIdeal.τ).loc Cert.AdaBRefIdeal.main_arg0) = m ((c.tc : Thread Cert.AdaBRefIdeal.nD Cert.AdaBRefIdeal.τ).loc Cert.AdaBRefIdeal.main_arg0)
      ∧ r.2.mem ((c.tc : Thread Cert.AdaBRefIdeal.nD Cert.AdaBRefIdeal.τ).loc Cert.AdaBRefIdeal.main_arg1) = m ((c.tc : Thread Cert.AdaBRefIdeal.nD Cert.AdaBRefIdeal.τ).loc Cert.AdaBRefIdeal.main_arg1)
      ∧ r.2.mem ((c.tc : Thread Cert.AdaBRefIdeal.nD Cert.AdaBRefIdeal.τ).loc Cert.AdaBRefIdeal.main_arg2) = m ((c.tc : Thread Cert.AdaBRefIdeal.nD Cert.AdaBRefIdeal.τ).loc Cert.AdaBRefIdeal.main_arg2))
      ∧ r.2.sem = fun _ => 0)

def quiescent_CCtx [hCCtx : Cert.CCtx.Facts] : Prop :=
  ∀ (m : (ℓ : Loc Cert.CCtx.nD Cert.CCtx.τ Cert.CCtx.sig) → Buf (Elt Bits) ℓ) (g : Dev Cert.CCtx.nD → PrngReg), Pre_CCtx m →
    θ_run (Cert.CCtx.defs (F := Bits)) (onTc (τ := Cert.CCtx.τ) (Cert.CCtx.main (F := Bits))) ⟨m, fun _ => 0, g⟩ (fun r => (∀ c : Dev Cert.CCtx.nD,
      r.2.mem ((c.tc : Thread Cert.CCtx.nD Cert.CCtx.τ).loc Cert.CCtx.main_arg0) = m ((c.tc : Thread Cert.CCtx.nD Cert.CCtx.τ).loc Cert.CCtx.main_arg0)
      ∧ r.2.mem ((c.tc : Thread Cert.CCtx.nD Cert.CCtx.τ).loc Cert.CCtx.main_arg1) = m ((c.tc : Thread Cert.CCtx.nD Cert.CCtx.τ).loc Cert.CCtx.main_arg1))
      ∧ r.2.sem = fun _ => 0)

def quiescent_CCtxIdeal [hCCtxIdeal : Cert.CCtxIdeal.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ r.2.sem = fun _ => 0)

def quiescent_CCtxIdeal_pre_finite_rows [hCCtxIdeal : Cert.CCtxIdeal.Facts] [hPre_finite_rows : Cert.Pre_finite_rows.Facts] : Prop :=
  ∀ (m : (ℓ : Loc Cert.CCtxIdeal.nD Cert.CCtxIdeal.τ Cert.CCtxIdeal.sig) → Buf (Elt Ideal) ℓ) (g : Dev Cert.CCtxIdeal.nD → PrngReg), Pre_CCtxIdeal_finite_rows m →
    θ_run (Cert.CCtxIdeal.defs (F := Ideal)) (onTc (τ := Cert.CCtxIdeal.τ) (Cert.CCtxIdeal.main (F := Ideal))) ⟨m, fun _ => 0, g⟩ (fun r => (∀ c : Dev Cert.CCtxIdeal.nD,
      r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
      ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ r.2.sem = fun _ => 0)

def quiescent_CCtxRefIdeal [hCCtxRefIdeal : Cert.CCtxRefIdeal.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1))
      ∧ r.2.sem = fun _ => 0)

def quiescent_CCtxRefIdeal_pre_finite_rows [hCCtxRefIdeal : Cert.CCtxRefIdeal.Facts] [hPre_finite_rows : Cert.Pre_finite_rows.Facts] : Prop :=
  ∀ (m : (ℓ : Loc Cert.CCtxRefIdeal.nD Cert.CCtxRefIdeal.τ Cert.CCtxRefIdeal.sig) → Buf (Elt Ideal) ℓ) (g : Dev Cert.CCtxRefIdeal.nD → PrngReg), Pre_CCtxRefIdeal_finite_rows m →
    θ_run (Cert.CCtxRefIdeal.defs (F := Ideal)) (onTc (τ := Cert.CCtxRefIdeal.τ) (Cert.CCtxRefIdeal.main (F := Ideal))) ⟨m, fun _ => 0, g⟩ (fun r => (∀ c : Dev Cert.CCtxRefIdeal.nD,
      r.2.mem ((c.tc : Thread Cert.CCtxRefIdeal.nD Cert.CCtxRefIdeal.τ).loc Cert.CCtxRefIdeal.main_arg0) = m ((c.tc : Thread Cert.CCtxRefIdeal.nD Cert.CCtxRefIdeal.τ).loc Cert.CCtxRefIdeal.main_arg0)
      ∧ r.2.mem ((c.tc : Thread Cert.CCtxRefIdeal.nD Cert.CCtxRefIdeal.τ).loc Cert.CCtxRefIdeal.main_arg1) = m ((c.tc : Thread Cert.CCtxRefIdeal.nD Cert.CCtxRefIdeal.τ).loc Cert.CCtxRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0)
      ∧ r.2.mem ((c.tc : Thread Cert.SumSmall.nD Cert.SumSmall.τ).loc Cert.SumSmall.main_arg1) = m ((c.tc : Thread Cert.SumSmall.nD Cert.SumSmall.τ).loc Cert.SumSmall.main_arg1)
      ∧ r.2.mem ((c.tc : Thread Cert.SumSmall.nD Cert.SumSmall.τ).loc Cert.SumSmall.main_arg2) = m ((c.tc : Thread Cert.SumSmall.nD Cert.SumSmall.τ).loc Cert.SumSmall.main_arg2)
      ∧ r.2.mem ((c.tc : Thread Cert.SumSmall.nD Cert.SumSmall.τ).loc Cert.SumSmall.main_arg3) = m ((c.tc : Thread Cert.SumSmall.nD Cert.SumSmall.τ).loc Cert.SumSmall.main_arg3)
      ∧ r.2.mem ((c.tc : Thread Cert.SumSmall.nD Cert.SumSmall.τ).loc Cert.SumSmall.main_arg4) = m ((c.tc : Thread Cert.SumSmall.nD Cert.SumSmall.τ).loc Cert.SumSmall.main_arg4)
      ∧ r.2.mem ((c.tc : Thread Cert.SumSmall.nD Cert.SumSmall.τ).loc Cert.SumSmall.main_arg5) = m ((c.tc : Thread Cert.SumSmall.nD Cert.SumSmall.τ).loc Cert.SumSmall.main_arg5)
      ∧ r.2.mem ((c.tc : Thread Cert.SumSmall.nD Cert.SumSmall.τ).loc Cert.SumSmall.main_arg6) = m ((c.tc : Thread Cert.SumSmall.nD Cert.SumSmall.τ).loc Cert.SumSmall.main_arg6)
      ∧ r.2.mem ((c.tc : Thread Cert.SumSmall.nD Cert.SumSmall.τ).loc Cert.SumSmall.main_arg7) = m ((c.tc : Thread Cert.SumSmall.nD Cert.SumSmall.τ).loc Cert.SumSmall.main_arg7)
      ∧ r.2.mem ((c.tc : Thread Cert.SumSmall.nD Cert.SumSmall.τ).loc Cert.SumSmall.main_arg8) = m ((c.tc : Thread Cert.SumSmall.nD Cert.SumSmall.τ).loc Cert.SumSmall.main_arg8)
      ∧ r.2.mem ((c.tc : Thread Cert.SumSmall.nD Cert.SumSmall.τ).loc Cert.SumSmall.main_arg9) = m ((c.tc : Thread Cert.SumSmall.nD Cert.SumSmall.τ).loc Cert.SumSmall.main_arg9)
      ∧ r.2.mem ((c.tc : Thread Cert.SumSmall.nD Cert.SumSmall.τ).loc Cert.SumSmall.main_arg10) = m ((c.tc : Thread Cert.SumSmall.nD Cert.SumSmall.τ).loc Cert.SumSmall.main_arg10))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
      ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
      ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
      ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
      ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
      ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
      ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
      ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
      ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
      ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
      ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0)
      ∧ r.2.mem ((c.tc : Thread Cert.SumSmallRefIdeal.nD Cert.SumSmallRefIdeal.τ).loc Cert.SumSmallRefIdeal.main_arg1) = m ((c.tc : Thread Cert.SumSmallRefIdeal.nD Cert.SumSmallRefIdeal.τ).loc Cert.SumSmallRefIdeal.main_arg1)
      ∧ r.2.mem ((c.tc : Thread Cert.SumSmallRefIdeal.nD Cert.SumSmallRefIdeal.τ).loc Cert.SumSmallRefIdeal.main_arg2) = m ((c.tc : Thread Cert.SumSmallRefIdeal.nD Cert.SumSmallRefIdeal.τ).loc Cert.SumSmallRefIdeal.main_arg2)
      ∧ r.2.mem ((c.tc : Thread Cert.SumSmallRefIdeal.nD Cert.SumSmallRefIdeal.τ).loc Cert.SumSmallRefIdeal.main_arg3) = m ((c.tc : Thread Cert.SumSmallRefIdeal.nD Cert.SumSmallRefIdeal.τ).loc Cert.SumSmallRefIdeal.main_arg3)
      ∧ r.2.mem ((c.tc : Thread Cert.SumSmallRefIdeal.nD Cert.SumSmallRefIdeal.τ).loc Cert.SumSmallRefIdeal.main_arg4) = m ((c.tc : Thread Cert.SumSmallRefIdeal.nD Cert.SumSmallRefIdeal.τ).loc Cert.SumSmallRefIdeal.main_arg4)
      ∧ r.2.mem ((c.tc : Thread Cert.SumSmallRefIdeal.nD Cert.SumSmallRefIdeal.τ).loc Cert.SumSmallRefIdeal.main_arg5) = m ((c.tc : Thread Cert.SumSmallRefIdeal.nD Cert.SumSmallRefIdeal.τ).loc Cert.SumSmallRefIdeal.main_arg5)
      ∧ r.2.mem ((c.tc : Thread Cert.SumSmallRefIdeal.nD Cert.SumSmallRefIdeal.τ).loc Cert.SumSmallRefIdeal.main_arg6) = m ((c.tc : Thread Cert.SumSmallRefIdeal.nD Cert.SumSmallRefIdeal.τ).loc Cert.SumSmallRefIdeal.main_arg6)
      ∧ r.2.mem ((c.tc : Thread Cert.SumSmallRefIdeal.nD Cert.SumSmallRefIdeal.τ).loc Cert.SumSmallRefIdeal.main_arg7) = m ((c.tc : Thread Cert.SumSmallRefIdeal.nD Cert.SumSmallRefIdeal.τ).loc Cert.SumSmallRefIdeal.main_arg7)
      ∧ r.2.mem ((c.tc : Thread Cert.SumSmallRefIdeal.nD Cert.SumSmallRefIdeal.τ).loc Cert.SumSmallRefIdeal.main_arg8) = m ((c.tc : Thread Cert.SumSmallRefIdeal.nD Cert.SumSmallRefIdeal.τ).loc Cert.SumSmallRefIdeal.main_arg8)
      ∧ r.2.mem ((c.tc : Thread Cert.SumSmallRefIdeal.nD Cert.SumSmallRefIdeal.τ).loc Cert.SumSmallRefIdeal.main_arg9) = m ((c.tc : Thread Cert.SumSmallRefIdeal.nD Cert.SumSmallRefIdeal.τ).loc Cert.SumSmallRefIdeal.main_arg9)
      ∧ r.2.mem ((c.tc : Thread Cert.SumSmallRefIdeal.nD Cert.SumSmallRefIdeal.τ).loc Cert.SumSmallRefIdeal.main_arg10) = m ((c.tc : Thread Cert.SumSmallRefIdeal.nD Cert.SumSmallRefIdeal.τ).loc Cert.SumSmallRefIdeal.main_arg10))
      ∧ r.2.sem = fun _ => 0)

def quiescent_SumInTop [hSumInTop : Cert.SumInTop.Facts] : Prop :=
  ∀ (m : (ℓ : Loc Cert.SumInTop.nD Cert.SumInTop.τ Cert.SumInTop.sig) → Buf (Elt Bits) ℓ) (g : Dev Cert.SumInTop.nD → PrngReg), Pre_SumInTop m →
    θ_run (Cert.SumInTop.defs (F := Bits)) (onTc (τ := Cert.SumInTop.τ) (Cert.SumInTop.main (F := Bits))) ⟨m, fun _ => 0, g⟩ (fun r => (∀ c : Dev Cert.SumInTop.nD,
      r.2.mem ((c.tc : Thread Cert.SumInTop.nD Cert.SumInTop.τ).loc Cert.SumInTop.main_arg0) = m ((c.tc : Thread Cert.SumInTop.nD Cert.SumInTop.τ).loc Cert.SumInTop.main_arg0)
      ∧ r.2.mem ((c.tc : Thread Cert.SumInTop.nD Cert.SumInTop.τ).loc Cert.SumInTop.main_arg1) = m ((c.tc : Thread Cert.SumInTop.nD Cert.SumInTop.τ).loc Cert.SumInTop.main_arg1))
      ∧ r.2.sem = fun _ => 0)

def quiescent_SumInTopIdeal [hSumInTopIdeal : Cert.SumInTopIdeal.Facts] : Prop :=
  ∀ (m : (ℓ : Loc Cert.SumInTopIdeal.nD Cert.SumInTopIdeal.τ Cert.SumInTopIdeal.sig) → Buf (Elt Ideal) ℓ) (g : Dev Cert.SumInTopIdeal.nD → PrngReg), Pre_SumInTopIdeal m →
    θ_run (Cert.SumInTopIdeal.defs (F := Ideal)) (onTc (τ := Cert.SumInTopIdeal.τ) (Cert.SumInTopIdeal.main (F := Ideal))) ⟨m, fun _ => 0, g⟩ (fun r => (∀ c : Dev Cert.SumInTopIdeal.nD,
      r.2.mem ((c.tc : Thread Cert.SumInTopIdeal.nD Cert.SumInTopIdeal.τ).loc Cert.SumInTopIdeal.main_arg0) = m ((c.tc : Thread Cert.SumInTopIdeal.nD Cert.SumInTopIdeal.τ).loc Cert.SumInTopIdeal.main_arg0)
      ∧ r.2.mem ((c.tc : Thread Cert.SumInTopIdeal.nD Cert.SumInTopIdeal.τ).loc Cert.SumInTopIdeal.main_arg1) = m ((c.tc : Thread Cert.SumInTopIdeal.nD Cert.SumInTopIdeal.τ).loc Cert.SumInTopIdeal.main_arg1))
      ∧ r.2.sem = fun _ => 0)

def quiescent_SumInTopRefIdeal [hSumInTopRefIdeal : Cert.SumInTopRefIdeal.Facts] : Prop :=
  ∀ (m : (ℓ : Loc Cert.SumInTopRefIdeal.nD Cert.SumInTopRefIdeal.τ Cert.SumInTopRefIdeal.sig) → Buf (Elt Ideal) ℓ) (g : Dev Cert.SumInTopRefIdeal.nD → PrngReg), Pre_SumInTopRefIdeal m →
    θ_run (Cert.SumInTopRefIdeal.defs (F := Ideal)) (onTc (τ := Cert.SumInTopRefIdeal.τ) (Cert.SumInTopRefIdeal.main (F := Ideal))) ⟨m, fun _ => 0, g⟩ (fun r => (∀ c : Dev Cert.SumInTopRefIdeal.nD,
      r.2.mem ((c.tc : Thread Cert.SumInTopRefIdeal.nD Cert.SumInTopRefIdeal.τ).loc Cert.SumInTopRefIdeal.main_arg0) = m ((c.tc : Thread Cert.SumInTopRefIdeal.nD Cert.SumInTopRefIdeal.τ).loc Cert.SumInTopRefIdeal.main_arg0)
      ∧ r.2.mem ((c.tc : Thread Cert.SumInTopRefIdeal.nD Cert.SumInTopRefIdeal.τ).loc Cert.SumInTopRefIdeal.main_arg1) = m ((c.tc : Thread Cert.SumInTopRefIdeal.nD Cert.SumInTopRefIdeal.τ).loc Cert.SumInTopRefIdeal.main_arg1))
      ∧ r.2.sem = fun _ => 0)

def quiescent_SumInBottom [hSumInBottom : Cert.SumInBottom.Facts] : Prop :=
  ∀ (m : (ℓ : Loc Cert.SumInBottom.nD Cert.SumInBottom.τ Cert.SumInBottom.sig) → Buf (Elt Bits) ℓ) (g : Dev Cert.SumInBottom.nD → PrngReg), Pre_SumInBottom m →
    θ_run (Cert.SumInBottom.defs (F := Bits)) (onTc (τ := Cert.SumInBottom.τ) (Cert.SumInBottom.main (F := Bits))) ⟨m, fun _ => 0, g⟩ (fun r => (∀ c : Dev Cert.SumInBottom.nD,
      r.2.mem ((c.tc : Thread Cert.SumInBottom.nD Cert.SumInBottom.τ).loc Cert.SumInBottom.main_arg0) = m ((c.tc : Thread Cert.SumInBottom.nD Cert.SumInBottom.τ).loc Cert.SumInBottom.main_arg0)
      ∧ r.2.mem ((c.tc : Thread Cert.SumInBottom.nD Cert.SumInBottom.τ).loc Cert.SumInBottom.main_arg1) = m ((c.tc : Thread Cert.SumInBottom.nD Cert.SumInBottom.τ).loc Cert.SumInBottom.main_arg1))
      ∧ r.2.sem = fun _ => 0)

def quiescent_SumInBottomIdeal [hSumInBottomIdeal : Cert.SumInBottomIdeal.Facts] : Prop :=
  ∀ (m : (ℓ : Loc Cert.SumInBottomIdeal.nD Cert.SumInBottomIdeal.τ Cert.SumInBottomIdeal.sig) → Buf (Elt Ideal) ℓ) (g : Dev Cert.SumInBottomIdeal.nD → PrngReg), Pre_SumInBottomIdeal m →
    θ_run (Cert.SumInBottomIdeal.defs (F := Ideal)) (onTc (τ := Cert.SumInBottomIdeal.τ) (Cert.SumInBottomIdeal.main (F := Ideal))) ⟨m, fun _ => 0, g⟩ (fun r => (∀ c : Dev Cert.SumInBottomIdeal.nD,
      r.2.mem ((c.tc : Thread Cert.SumInBottomIdeal.nD Cert.SumInBottomIdeal.τ).loc Cert.SumInBottomIdeal.main_arg0) = m ((c.tc : Thread Cert.SumInBottomIdeal.nD Cert.SumInBottomIdeal.τ).loc Cert.SumInBottomIdeal.main_arg0)
      ∧ r.2.mem ((c.tc : Thread Cert.SumInBottomIdeal.nD Cert.SumInBottomIdeal.τ).loc Cert.SumInBottomIdeal.main_arg1) = m ((c.tc : Thread Cert.SumInBottomIdeal.nD Cert.SumInBottomIdeal.τ).loc Cert.SumInBottomIdeal.main_arg1))
      ∧ r.2.sem = fun _ => 0)

def quiescent_SumInBottomRefIdeal [hSumInBottomRefIdeal : Cert.SumInBottomRefIdeal.Facts] : Prop :=
  ∀ (m : (ℓ : Loc Cert.SumInBottomRefIdeal.nD Cert.SumInBottomRefIdeal.τ Cert.SumInBottomRefIdeal.sig) → Buf (Elt Ideal) ℓ) (g : Dev Cert.SumInBottomRefIdeal.nD → PrngReg), Pre_SumInBottomRefIdeal m →
    θ_run (Cert.SumInBottomRefIdeal.defs (F := Ideal)) (onTc (τ := Cert.SumInBottomRefIdeal.τ) (Cert.SumInBottomRefIdeal.main (F := Ideal))) ⟨m, fun _ => 0, g⟩ (fun r => (∀ c : Dev Cert.SumInBottomRefIdeal.nD,
      r.2.mem ((c.tc : Thread Cert.SumInBottomRefIdeal.nD Cert.SumInBottomRefIdeal.τ).loc Cert.SumInBottomRefIdeal.main_arg0) = m ((c.tc : Thread Cert.SumInBottomRefIdeal.nD Cert.SumInBottomRefIdeal.τ).loc Cert.SumInBottomRefIdeal.main_arg0)
      ∧ r.2.mem ((c.tc : Thread Cert.SumInBottomRefIdeal.nD Cert.SumInBottomRefIdeal.τ).loc Cert.SumInBottomRefIdeal.main_arg1) = m ((c.tc : Thread Cert.SumInBottomRefIdeal.nD Cert.SumInBottomRefIdeal.τ).loc Cert.SumInBottomRefIdeal.main_arg1))
      ∧ r.2.sem = fun _ => 0)

def quiescent_SumBranchTop [hSumBranchTop : Cert.SumBranchTop.Facts] : Prop :=
  ∀ (m : (ℓ : Loc Cert.SumBranchTop.nD Cert.SumBranchTop.τ Cert.SumBranchTop.sig) → Buf (Elt Bits) ℓ) (g : Dev Cert.SumBranchTop.nD → PrngReg), Pre_SumBranchTop m →
    θ_run (Cert.SumBranchTop.defs (F := Bits)) (onTc (τ := Cert.SumBranchTop.τ) (Cert.SumBranchTop.main (F := Bits))) ⟨m, fun _ => 0, g⟩ (fun r => (∀ c : Dev Cert.SumBranchTop.nD,
      r.2.mem ((c.tc : Thread Cert.SumBranchTop.nD Cert.SumBranchTop.τ).loc Cert.SumBranchTop.main_arg0) = m ((c.tc : Thread Cert.SumBranchTop.nD Cert.SumBranchTop.τ).loc Cert.SumBranchTop.main_arg0)
      ∧ r.2.mem ((c.tc : Thread Cert.SumBranchTop.nD Cert.SumBranchTop.τ).loc Cert.SumBranchTop.main_arg1) = m ((c.tc : Thread Cert.SumBranchTop.nD Cert.SumBranchTop.τ).loc Cert.SumBranchTop.main_arg1))
      ∧ r.2.sem = fun _ => 0)

def quiescent_SumBranchTopIdeal [hSumBranchTopIdeal : Cert.SumBranchTopIdeal.Facts] : Prop :=
  ∀ (m : (ℓ : Loc Cert.SumBranchTopIdeal.nD Cert.SumBranchTopIdeal.τ Cert.SumBranchTopIdeal.sig) → Buf (Elt Ideal) ℓ) (g : Dev Cert.SumBranchTopIdeal.nD → PrngReg), Pre_SumBranchTopIdeal m →
    θ_run (Cert.SumBranchTopIdeal.defs (F := Ideal)) (onTc (τ := Cert.SumBranchTopIdeal.τ) (Cert.SumBranchTopIdeal.main (F := Ideal))) ⟨m, fun _ => 0, g⟩ (fun r => (∀ c : Dev Cert.SumBranchTopIdeal.nD,
      r.2.mem ((c.tc : Thread Cert.SumBranchTopIdeal.nD Cert.SumBranchTopIdeal.τ).loc Cert.SumBranchTopIdeal.main_arg0) = m ((c.tc : Thread Cert.SumBranchTopIdeal.nD Cert.SumBranchTopIdeal.τ).loc Cert.SumBranchTopIdeal.main_arg0)
      ∧ r.2.mem ((c.tc : Thread Cert.SumBranchTopIdeal.nD Cert.SumBranchTopIdeal.τ).loc Cert.SumBranchTopIdeal.main_arg1) = m ((c.tc : Thread Cert.SumBranchTopIdeal.nD Cert.SumBranchTopIdeal.τ).loc Cert.SumBranchTopIdeal.main_arg1))
      ∧ r.2.sem = fun _ => 0)

def quiescent_SumBranchTopRefIdeal [hSumBranchTopRefIdeal : Cert.SumBranchTopRefIdeal.Facts] : Prop :=
  ∀ (m : (ℓ : Loc Cert.SumBranchTopRefIdeal.nD Cert.SumBranchTopRefIdeal.τ Cert.SumBranchTopRefIdeal.sig) → Buf (Elt Ideal) ℓ) (g : Dev Cert.SumBranchTopRefIdeal.nD → PrngReg), Pre_SumBranchTopRefIdeal m →
    θ_run (Cert.SumBranchTopRefIdeal.defs (F := Ideal)) (onTc (τ := Cert.SumBranchTopRefIdeal.τ) (Cert.SumBranchTopRefIdeal.main (F := Ideal))) ⟨m, fun _ => 0, g⟩ (fun r => (∀ c : Dev Cert.SumBranchTopRefIdeal.nD,
      r.2.mem ((c.tc : Thread Cert.SumBranchTopRefIdeal.nD Cert.SumBranchTopRefIdeal.τ).loc Cert.SumBranchTopRefIdeal.main_arg0) = m ((c.tc : Thread Cert.SumBranchTopRefIdeal.nD Cert.SumBranchTopRefIdeal.τ).loc Cert.SumBranchTopRefIdeal.main_arg0)
      ∧ r.2.mem ((c.tc : Thread Cert.SumBranchTopRefIdeal.nD Cert.SumBranchTopRefIdeal.τ).loc Cert.SumBranchTopRefIdeal.main_arg1) = m ((c.tc : Thread Cert.SumBranchTopRefIdeal.nD Cert.SumBranchTopRefIdeal.τ).loc Cert.SumBranchTopRefIdeal.main_arg1))
      ∧ r.2.sem = fun _ => 0)

def quiescent_SumBranchBottom [hSumBranchBottom : Cert.SumBranchBottom.Facts] : Prop :=
  ∀ (m : (ℓ : Loc Cert.SumBranchBottom.nD Cert.SumBranchBottom.τ Cert.SumBranchBottom.sig) → Buf (Elt Bits) ℓ) (g : Dev Cert.SumBranchBottom.nD → PrngReg), Pre_SumBranchBottom m →
    θ_run (Cert.SumBranchBottom.defs (F := Bits)) (onTc (τ := Cert.SumBranchBottom.τ) (Cert.SumBranchBottom.main (F := Bits))) ⟨m, fun _ => 0, g⟩ (fun r => (∀ c : Dev Cert.SumBranchBottom.nD,
      r.2.mem ((c.tc : Thread Cert.SumBranchBottom.nD Cert.SumBranchBottom.τ).loc Cert.SumBranchBottom.main_arg0) = m ((c.tc : Thread Cert.SumBranchBottom.nD Cert.SumBranchBottom.τ).loc Cert.SumBranchBottom.main_arg0)
      ∧ r.2.mem ((c.tc : Thread Cert.SumBranchBottom.nD Cert.SumBranchBottom.τ).loc Cert.SumBranchBottom.main_arg1) = m ((c.tc : Thread Cert.SumBranchBottom.nD Cert.SumBranchBottom.τ).loc Cert.SumBranchBottom.main_arg1))
      ∧ r.2.sem = fun _ => 0)

def quiescent_SumBranchBottomIdeal [hSumBranchBottomIdeal : Cert.SumBranchBottomIdeal.Facts] : Prop :=
  ∀ (m : (ℓ : Loc Cert.SumBranchBottomIdeal.nD Cert.SumBranchBottomIdeal.τ Cert.SumBranchBottomIdeal.sig) → Buf (Elt Ideal) ℓ) (g : Dev Cert.SumBranchBottomIdeal.nD → PrngReg), Pre_SumBranchBottomIdeal m →
    θ_run (Cert.SumBranchBottomIdeal.defs (F := Ideal)) (onTc (τ := Cert.SumBranchBottomIdeal.τ) (Cert.SumBranchBottomIdeal.main (F := Ideal))) ⟨m, fun _ => 0, g⟩ (fun r => (∀ c : Dev Cert.SumBranchBottomIdeal.nD,
      r.2.mem ((c.tc : Thread Cert.SumBranchBottomIdeal.nD Cert.SumBranchBottomIdeal.τ).loc Cert.SumBranchBottomIdeal.main_arg0) = m ((c.tc : Thread Cert.SumBranchBottomIdeal.nD Cert.SumBranchBottomIdeal.τ).loc Cert.SumBranchBottomIdeal.main_arg0)
      ∧ r.2.mem ((c.tc : Thread Cert.SumBranchBottomIdeal.nD Cert.SumBranchBottomIdeal.τ).loc Cert.SumBranchBottomIdeal.main_arg1) = m ((c.tc : Thread Cert.SumBranchBottomIdeal.nD Cert.SumBranchBottomIdeal.τ).loc Cert.SumBranchBottomIdeal.main_arg1))
      ∧ r.2.sem = fun _ => 0)

def quiescent_SumBranchBottomRefIdeal [hSumBranchBottomRefIdeal : Cert.SumBranchBottomRefIdeal.Facts] : Prop :=
  ∀ (m : (ℓ : Loc Cert.SumBranchBottomRefIdeal.nD Cert.SumBranchBottomRefIdeal.τ Cert.SumBranchBottomRefIdeal.sig) → Buf (Elt Ideal) ℓ) (g : Dev Cert.SumBranchBottomRefIdeal.nD → PrngReg), Pre_SumBranchBottomRefIdeal m →
    θ_run (Cert.SumBranchBottomRefIdeal.defs (F := Ideal)) (onTc (τ := Cert.SumBranchBottomRefIdeal.τ) (Cert.SumBranchBottomRefIdeal.main (F := Ideal))) ⟨m, fun _ => 0, g⟩ (fun r => (∀ c : Dev Cert.SumBranchBottomRefIdeal.nD,
      r.2.mem ((c.tc : Thread Cert.SumBranchBottomRefIdeal.nD Cert.SumBranchBottomRefIdeal.τ).loc Cert.SumBranchBottomRefIdeal.main_arg0) = m ((c.tc : Thread Cert.SumBranchBottomRefIdeal.nD Cert.SumBranchBottomRefIdeal.τ).loc Cert.SumBranchBottomRefIdeal.main_arg0)
      ∧ r.2.mem ((c.tc : Thread Cert.SumBranchBottomRefIdeal.nD Cert.SumBranchBottomRefIdeal.τ).loc Cert.SumBranchBottomRefIdeal.main_arg1) = m ((c.tc : Thread Cert.SumBranchBottomRefIdeal.nD Cert.SumBranchBottomRefIdeal.τ).loc Cert.SumBranchBottomRefIdeal.main_arg1))
      ∧ r.2.sem = fun _ => 0)

def quiescent_SumOutTop [hSumOutTop : Cert.SumOutTop.Facts] : Prop :=
  ∀ (m : (ℓ : Loc Cert.SumOutTop.nD Cert.SumOutTop.τ Cert.SumOutTop.sig) → Buf (Elt Bits) ℓ) (g : Dev Cert.SumOutTop.nD → PrngReg), Pre_SumOutTop m →
    θ_run (Cert.SumOutTop.defs (F := Bits)) (onTc (τ := Cert.SumOutTop.τ) (Cert.SumOutTop.main (F := Bits))) ⟨m, fun _ => 0, g⟩ (fun r => (∀ c : Dev Cert.SumOutTop.nD,
      r.2.mem ((c.tc : Thread Cert.SumOutTop.nD Cert.SumOutTop.τ).loc Cert.SumOutTop.main_arg0) = m ((c.tc : Thread Cert.SumOutTop.nD Cert.SumOutTop.τ).loc Cert.SumOutTop.main_arg0)
      ∧ r.2.mem ((c.tc : Thread Cert.SumOutTop.nD Cert.SumOutTop.τ).loc Cert.SumOutTop.main_arg1) = m ((c.tc : Thread Cert.SumOutTop.nD Cert.SumOutTop.τ).loc Cert.SumOutTop.main_arg1))
      ∧ r.2.sem = fun _ => 0)

def quiescent_SumOutTopIdeal [hSumOutTopIdeal : Cert.SumOutTopIdeal.Facts] : Prop :=
  ∀ (m : (ℓ : Loc Cert.SumOutTopIdeal.nD Cert.SumOutTopIdeal.τ Cert.SumOutTopIdeal.sig) → Buf (Elt Ideal) ℓ) (g : Dev Cert.SumOutTopIdeal.nD → PrngReg), Pre_SumOutTopIdeal m →
    θ_run (Cert.SumOutTopIdeal.defs (F := Ideal)) (onTc (τ := Cert.SumOutTopIdeal.τ) (Cert.SumOutTopIdeal.main (F := Ideal))) ⟨m, fun _ => 0, g⟩ (fun r => (∀ c : Dev Cert.SumOutTopIdeal.nD,
      r.2.mem ((c.tc : Thread Cert.SumOutTopIdeal.nD Cert.SumOutTopIdeal.τ).loc Cert.SumOutTopIdeal.main_arg0) = m ((c.tc : Thread Cert.SumOutTopIdeal.nD Cert.SumOutTopIdeal.τ).loc Cert.SumOutTopIdeal.main_arg0)
      ∧ r.2.mem ((c.tc : Thread Cert.SumOutTopIdeal.nD Cert.SumOutTopIdeal.τ).loc Cert.SumOutTopIdeal.main_arg1) = m ((c.tc : Thread Cert.SumOutTopIdeal.nD Cert.SumOutTopIdeal.τ).loc Cert.SumOutTopIdeal.main_arg1))
      ∧ r.2.sem = fun _ => 0)

def quiescent_SumOutTopRefIdeal [hSumOutTopRefIdeal : Cert.SumOutTopRefIdeal.Facts] : Prop :=
  ∀ (m : (ℓ : Loc Cert.SumOutTopRefIdeal.nD Cert.SumOutTopRefIdeal.τ Cert.SumOutTopRefIdeal.sig) → Buf (Elt Ideal) ℓ) (g : Dev Cert.SumOutTopRefIdeal.nD → PrngReg), Pre_SumOutTopRefIdeal m →
    θ_run (Cert.SumOutTopRefIdeal.defs (F := Ideal)) (onTc (τ := Cert.SumOutTopRefIdeal.τ) (Cert.SumOutTopRefIdeal.main (F := Ideal))) ⟨m, fun _ => 0, g⟩ (fun r => (∀ c : Dev Cert.SumOutTopRefIdeal.nD,
      r.2.mem ((c.tc : Thread Cert.SumOutTopRefIdeal.nD Cert.SumOutTopRefIdeal.τ).loc Cert.SumOutTopRefIdeal.main_arg0) = m ((c.tc : Thread Cert.SumOutTopRefIdeal.nD Cert.SumOutTopRefIdeal.τ).loc Cert.SumOutTopRefIdeal.main_arg0)
      ∧ r.2.mem ((c.tc : Thread Cert.SumOutTopRefIdeal.nD Cert.SumOutTopRefIdeal.τ).loc Cert.SumOutTopRefIdeal.main_arg1) = m ((c.tc : Thread Cert.SumOutTopRefIdeal.nD Cert.SumOutTopRefIdeal.τ).loc Cert.SumOutTopRefIdeal.main_arg1))
      ∧ r.2.sem = fun _ => 0)

def quiescent_SumOutBottom [hSumOutBottom : Cert.SumOutBottom.Facts] : Prop :=
  ∀ (m : (ℓ : Loc Cert.SumOutBottom.nD Cert.SumOutBottom.τ Cert.SumOutBottom.sig) → Buf (Elt Bits) ℓ) (g : Dev Cert.SumOutBottom.nD → PrngReg), Pre_SumOutBottom m →
    θ_run (Cert.SumOutBottom.defs (F := Bits)) (onTc (τ := Cert.SumOutBottom.τ) (Cert.SumOutBottom.main (F := Bits))) ⟨m, fun _ => 0, g⟩ (fun r => (∀ c : Dev Cert.SumOutBottom.nD,
      r.2.mem ((c.tc : Thread Cert.SumOutBottom.nD Cert.SumOutBottom.τ).loc Cert.SumOutBottom.main_arg0) = m ((c.tc : Thread Cert.SumOutBottom.nD Cert.SumOutBottom.τ).loc Cert.SumOutBottom.main_arg0)
      ∧ r.2.mem ((c.tc : Thread Cert.SumOutBottom.nD Cert.SumOutBottom.τ).loc Cert.SumOutBottom.main_arg1) = m ((c.tc : Thread Cert.SumOutBottom.nD Cert.SumOutBottom.τ).loc Cert.SumOutBottom.main_arg1))
      ∧ r.2.sem = fun _ => 0)

def quiescent_SumOutBottomIdeal [hSumOutBottomIdeal : Cert.SumOutBottomIdeal.Facts] : Prop :=
  ∀ (m : (ℓ : Loc Cert.SumOutBottomIdeal.nD Cert.SumOutBottomIdeal.τ Cert.SumOutBottomIdeal.sig) → Buf (Elt Ideal) ℓ) (g : Dev Cert.SumOutBottomIdeal.nD → PrngReg), Pre_SumOutBottomIdeal m →
    θ_run (Cert.SumOutBottomIdeal.defs (F := Ideal)) (onTc (τ := Cert.SumOutBottomIdeal.τ) (Cert.SumOutBottomIdeal.main (F := Ideal))) ⟨m, fun _ => 0, g⟩ (fun r => (∀ c : Dev Cert.SumOutBottomIdeal.nD,
      r.2.mem ((c.tc : Thread Cert.SumOutBottomIdeal.nD Cert.SumOutBottomIdeal.τ).loc Cert.SumOutBottomIdeal.main_arg0) = m ((c.tc : Thread Cert.SumOutBottomIdeal.nD Cert.SumOutBottomIdeal.τ).loc Cert.SumOutBottomIdeal.main_arg0)
      ∧ r.2.mem ((c.tc : Thread Cert.SumOutBottomIdeal.nD Cert.SumOutBottomIdeal.τ).loc Cert.SumOutBottomIdeal.main_arg1) = m ((c.tc : Thread Cert.SumOutBottomIdeal.nD Cert.SumOutBottomIdeal.τ).loc Cert.SumOutBottomIdeal.main_arg1))
      ∧ r.2.sem = fun _ => 0)

def quiescent_SumOutBottomRefIdeal [hSumOutBottomRefIdeal : Cert.SumOutBottomRefIdeal.Facts] : Prop :=
  ∀ (m : (ℓ : Loc Cert.SumOutBottomRefIdeal.nD Cert.SumOutBottomRefIdeal.τ Cert.SumOutBottomRefIdeal.sig) → Buf (Elt Ideal) ℓ) (g : Dev Cert.SumOutBottomRefIdeal.nD → PrngReg), Pre_SumOutBottomRefIdeal m →
    θ_run (Cert.SumOutBottomRefIdeal.defs (F := Ideal)) (onTc (τ := Cert.SumOutBottomRefIdeal.τ) (Cert.SumOutBottomRefIdeal.main (F := Ideal))) ⟨m, fun _ => 0, g⟩ (fun r => (∀ c : Dev Cert.SumOutBottomRefIdeal.nD,
      r.2.mem ((c.tc : Thread Cert.SumOutBottomRefIdeal.nD Cert.SumOutBottomRefIdeal.τ).loc Cert.SumOutBottomRefIdeal.main_arg0) = m ((c.tc : Thread Cert.SumOutBottomRefIdeal.nD Cert.SumOutBottomRefIdeal.τ).loc Cert.SumOutBottomRefIdeal.main_arg0)
      ∧ r.2.mem ((c.tc : Thread Cert.SumOutBottomRefIdeal.nD Cert.SumOutBottomRefIdeal.τ).loc Cert.SumOutBottomRefIdeal.main_arg1) = m ((c.tc : Thread Cert.SumOutBottomRefIdeal.nD Cert.SumOutBottomRefIdeal.τ).loc Cert.SumOutBottomRefIdeal.main_arg1))
      ∧ r.2.sem = fun _ => 0)

def quiescent_SumFfn1Top [hSumFfn1Top : Cert.SumFfn1Top.Facts] : Prop :=
  ∀ (m : (ℓ : Loc Cert.SumFfn1Top.nD Cert.SumFfn1Top.τ Cert.SumFfn1Top.sig) → Buf (Elt Bits) ℓ) (g : Dev Cert.SumFfn1Top.nD → PrngReg), Pre_SumFfn1Top m →
    θ_run (Cert.SumFfn1Top.defs (F := Bits)) (onTc (τ := Cert.SumFfn1Top.τ) (Cert.SumFfn1Top.main (F := Bits))) ⟨m, fun _ => 0, g⟩ (fun r => (∀ c : Dev Cert.SumFfn1Top.nD,
      r.2.mem ((c.tc : Thread Cert.SumFfn1Top.nD Cert.SumFfn1Top.τ).loc Cert.SumFfn1Top.main_arg0) = m ((c.tc : Thread Cert.SumFfn1Top.nD Cert.SumFfn1Top.τ).loc Cert.SumFfn1Top.main_arg0)
      ∧ r.2.mem ((c.tc : Thread Cert.SumFfn1Top.nD Cert.SumFfn1Top.τ).loc Cert.SumFfn1Top.main_arg1) = m ((c.tc : Thread Cert.SumFfn1Top.nD Cert.SumFfn1Top.τ).loc Cert.SumFfn1Top.main_arg1))
      ∧ r.2.sem = fun _ => 0)

def quiescent_SumFfn1TopIdeal [hSumFfn1TopIdeal : Cert.SumFfn1TopIdeal.Facts] : Prop :=
  ∀ (m : (ℓ : Loc Cert.SumFfn1TopIdeal.nD Cert.SumFfn1TopIdeal.τ Cert.SumFfn1TopIdeal.sig) → Buf (Elt Ideal) ℓ) (g : Dev Cert.SumFfn1TopIdeal.nD → PrngReg), Pre_SumFfn1TopIdeal m →
    θ_run (Cert.SumFfn1TopIdeal.defs (F := Ideal)) (onTc (τ := Cert.SumFfn1TopIdeal.τ) (Cert.SumFfn1TopIdeal.main (F := Ideal))) ⟨m, fun _ => 0, g⟩ (fun r => (∀ c : Dev Cert.SumFfn1TopIdeal.nD,
      r.2.mem ((c.tc : Thread Cert.SumFfn1TopIdeal.nD Cert.SumFfn1TopIdeal.τ).loc Cert.SumFfn1TopIdeal.main_arg0) = m ((c.tc : Thread Cert.SumFfn1TopIdeal.nD Cert.SumFfn1TopIdeal.τ).loc Cert.SumFfn1TopIdeal.main_arg0)
      ∧ r.2.mem ((c.tc : Thread Cert.SumFfn1TopIdeal.nD Cert.SumFfn1TopIdeal.τ).loc Cert.SumFfn1TopIdeal.main_arg1) = m ((c.tc : Thread Cert.SumFfn1TopIdeal.nD Cert.SumFfn1TopIdeal.τ).loc Cert.SumFfn1TopIdeal.main_arg1))
      ∧ r.2.sem = fun _ => 0)

def quiescent_SumFfn1TopRefIdeal [hSumFfn1TopRefIdeal : Cert.SumFfn1TopRefIdeal.Facts] : Prop :=
  ∀ (m : (ℓ : Loc Cert.SumFfn1TopRefIdeal.nD Cert.SumFfn1TopRefIdeal.τ Cert.SumFfn1TopRefIdeal.sig) → Buf (Elt Ideal) ℓ) (g : Dev Cert.SumFfn1TopRefIdeal.nD → PrngReg), Pre_SumFfn1TopRefIdeal m →
    θ_run (Cert.SumFfn1TopRefIdeal.defs (F := Ideal)) (onTc (τ := Cert.SumFfn1TopRefIdeal.τ) (Cert.SumFfn1TopRefIdeal.main (F := Ideal))) ⟨m, fun _ => 0, g⟩ (fun r => (∀ c : Dev Cert.SumFfn1TopRefIdeal.nD,
      r.2.mem ((c.tc : Thread Cert.SumFfn1TopRefIdeal.nD Cert.SumFfn1TopRefIdeal.τ).loc Cert.SumFfn1TopRefIdeal.main_arg0) = m ((c.tc : Thread Cert.SumFfn1TopRefIdeal.nD Cert.SumFfn1TopRefIdeal.τ).loc Cert.SumFfn1TopRefIdeal.main_arg0)
      ∧ r.2.mem ((c.tc : Thread Cert.SumFfn1TopRefIdeal.nD Cert.SumFfn1TopRefIdeal.τ).loc Cert.SumFfn1TopRefIdeal.main_arg1) = m ((c.tc : Thread Cert.SumFfn1TopRefIdeal.nD Cert.SumFfn1TopRefIdeal.τ).loc Cert.SumFfn1TopRefIdeal.main_arg1))
      ∧ r.2.sem = fun _ => 0)

def quiescent_SumFfn1Bottom [hSumFfn1Bottom : Cert.SumFfn1Bottom.Facts] : Prop :=
  ∀ (m : (ℓ : Loc Cert.SumFfn1Bottom.nD Cert.SumFfn1Bottom.τ Cert.SumFfn1Bottom.sig) → Buf (Elt Bits) ℓ) (g : Dev Cert.SumFfn1Bottom.nD → PrngReg), Pre_SumFfn1Bottom m →
    θ_run (Cert.SumFfn1Bottom.defs (F := Bits)) (onTc (τ := Cert.SumFfn1Bottom.τ) (Cert.SumFfn1Bottom.main (F := Bits))) ⟨m, fun _ => 0, g⟩ (fun r => (∀ c : Dev Cert.SumFfn1Bottom.nD,
      r.2.mem ((c.tc : Thread Cert.SumFfn1Bottom.nD Cert.SumFfn1Bottom.τ).loc Cert.SumFfn1Bottom.main_arg0) = m ((c.tc : Thread Cert.SumFfn1Bottom.nD Cert.SumFfn1Bottom.τ).loc Cert.SumFfn1Bottom.main_arg0)
      ∧ r.2.mem ((c.tc : Thread Cert.SumFfn1Bottom.nD Cert.SumFfn1Bottom.τ).loc Cert.SumFfn1Bottom.main_arg1) = m ((c.tc : Thread Cert.SumFfn1Bottom.nD Cert.SumFfn1Bottom.τ).loc Cert.SumFfn1Bottom.main_arg1))
      ∧ r.2.sem = fun _ => 0)

def quiescent_SumFfn1BottomIdeal [hSumFfn1BottomIdeal : Cert.SumFfn1BottomIdeal.Facts] : Prop :=
  ∀ (m : (ℓ : Loc Cert.SumFfn1BottomIdeal.nD Cert.SumFfn1BottomIdeal.τ Cert.SumFfn1BottomIdeal.sig) → Buf (Elt Ideal) ℓ) (g : Dev Cert.SumFfn1BottomIdeal.nD → PrngReg), Pre_SumFfn1BottomIdeal m →
    θ_run (Cert.SumFfn1BottomIdeal.defs (F := Ideal)) (onTc (τ := Cert.SumFfn1BottomIdeal.τ) (Cert.SumFfn1BottomIdeal.main (F := Ideal))) ⟨m, fun _ => 0, g⟩ (fun r => (∀ c : Dev Cert.SumFfn1BottomIdeal.nD,
      r.2.mem ((c.tc : Thread Cert.SumFfn1BottomIdeal.nD Cert.SumFfn1BottomIdeal.τ).loc Cert.SumFfn1BottomIdeal.main_arg0) = m ((c.tc : Thread Cert.SumFfn1BottomIdeal.nD Cert.SumFfn1BottomIdeal.τ).loc Cert.SumFfn1BottomIdeal.main_arg0)
      ∧ r.2.mem ((c.tc : Thread Cert.SumFfn1BottomIdeal.nD Cert.SumFfn1BottomIdeal.τ).loc Cert.SumFfn1BottomIdeal.main_arg1) = m ((c.tc : Thread Cert.SumFfn1BottomIdeal.nD Cert.SumFfn1BottomIdeal.τ).loc Cert.SumFfn1BottomIdeal.main_arg1))
      ∧ r.2.sem = fun _ => 0)

def quiescent_SumFfn1BottomRefIdeal [hSumFfn1BottomRefIdeal : Cert.SumFfn1BottomRefIdeal.Facts] : Prop :=
  ∀ (m : (ℓ : Loc Cert.SumFfn1BottomRefIdeal.nD Cert.SumFfn1BottomRefIdeal.τ Cert.SumFfn1BottomRefIdeal.sig) → Buf (Elt Ideal) ℓ) (g : Dev Cert.SumFfn1BottomRefIdeal.nD → PrngReg), Pre_SumFfn1BottomRefIdeal m →
    θ_run (Cert.SumFfn1BottomRefIdeal.defs (F := Ideal)) (onTc (τ := Cert.SumFfn1BottomRefIdeal.τ) (Cert.SumFfn1BottomRefIdeal.main (F := Ideal))) ⟨m, fun _ => 0, g⟩ (fun r => (∀ c : Dev Cert.SumFfn1BottomRefIdeal.nD,
      r.2.mem ((c.tc : Thread Cert.SumFfn1BottomRefIdeal.nD Cert.SumFfn1BottomRefIdeal.τ).loc Cert.SumFfn1BottomRefIdeal.main_arg0) = m ((c.tc : Thread Cert.SumFfn1BottomRefIdeal.nD Cert.SumFfn1BottomRefIdeal.τ).loc Cert.SumFfn1BottomRefIdeal.main_arg0)
      ∧ r.2.mem ((c.tc : Thread Cert.SumFfn1BottomRefIdeal.nD Cert.SumFfn1BottomRefIdeal.τ).loc Cert.SumFfn1BottomRefIdeal.main_arg1) = m ((c.tc : Thread Cert.SumFfn1BottomRefIdeal.nD Cert.SumFfn1BottomRefIdeal.τ).loc Cert.SumFfn1BottomRefIdeal.main_arg1))
      ∧ r.2.sem = fun _ => 0)

def quiescent_SumFfn2Top [hSumFfn2Top : Cert.SumFfn2Top.Facts] : Prop :=
  ∀ (m : (ℓ : Loc Cert.SumFfn2Top.nD Cert.SumFfn2Top.τ Cert.SumFfn2Top.sig) → Buf (Elt Bits) ℓ) (g : Dev Cert.SumFfn2Top.nD → PrngReg), Pre_SumFfn2Top m →
    θ_run (Cert.SumFfn2Top.defs (F := Bits)) (onTc (τ := Cert.SumFfn2Top.τ) (Cert.SumFfn2Top.main (F := Bits))) ⟨m, fun _ => 0, g⟩ (fun r => (∀ c : Dev Cert.SumFfn2Top.nD,
      r.2.mem ((c.tc : Thread Cert.SumFfn2Top.nD Cert.SumFfn2Top.τ).loc Cert.SumFfn2Top.main_arg0) = m ((c.tc : Thread Cert.SumFfn2Top.nD Cert.SumFfn2Top.τ).loc Cert.SumFfn2Top.main_arg0)
      ∧ r.2.mem ((c.tc : Thread Cert.SumFfn2Top.nD Cert.SumFfn2Top.τ).loc Cert.SumFfn2Top.main_arg1) = m ((c.tc : Thread Cert.SumFfn2Top.nD Cert.SumFfn2Top.τ).loc Cert.SumFfn2Top.main_arg1))
      ∧ r.2.sem = fun _ => 0)

def quiescent_SumFfn2TopIdeal [hSumFfn2TopIdeal : Cert.SumFfn2TopIdeal.Facts] : Prop :=
  ∀ (m : (ℓ : Loc Cert.SumFfn2TopIdeal.nD Cert.SumFfn2TopIdeal.τ Cert.SumFfn2TopIdeal.sig) → Buf (Elt Ideal) ℓ) (g : Dev Cert.SumFfn2TopIdeal.nD → PrngReg), Pre_SumFfn2TopIdeal m →
    θ_run (Cert.SumFfn2TopIdeal.defs (F := Ideal)) (onTc (τ := Cert.SumFfn2TopIdeal.τ) (Cert.SumFfn2TopIdeal.main (F := Ideal))) ⟨m, fun _ => 0, g⟩ (fun r => (∀ c : Dev Cert.SumFfn2TopIdeal.nD,
      r.2.mem ((c.tc : Thread Cert.SumFfn2TopIdeal.nD Cert.SumFfn2TopIdeal.τ).loc Cert.SumFfn2TopIdeal.main_arg0) = m ((c.tc : Thread Cert.SumFfn2TopIdeal.nD Cert.SumFfn2TopIdeal.τ).loc Cert.SumFfn2TopIdeal.main_arg0)
      ∧ r.2.mem ((c.tc : Thread Cert.SumFfn2TopIdeal.nD Cert.SumFfn2TopIdeal.τ).loc Cert.SumFfn2TopIdeal.main_arg1) = m ((c.tc : Thread Cert.SumFfn2TopIdeal.nD Cert.SumFfn2TopIdeal.τ).loc Cert.SumFfn2TopIdeal.main_arg1))
      ∧ r.2.sem = fun _ => 0)

def quiescent_SumFfn2TopRefIdeal [hSumFfn2TopRefIdeal : Cert.SumFfn2TopRefIdeal.Facts] : Prop :=
  ∀ (m : (ℓ : Loc Cert.SumFfn2TopRefIdeal.nD Cert.SumFfn2TopRefIdeal.τ Cert.SumFfn2TopRefIdeal.sig) → Buf (Elt Ideal) ℓ) (g : Dev Cert.SumFfn2TopRefIdeal.nD → PrngReg), Pre_SumFfn2TopRefIdeal m →
    θ_run (Cert.SumFfn2TopRefIdeal.defs (F := Ideal)) (onTc (τ := Cert.SumFfn2TopRefIdeal.τ) (Cert.SumFfn2TopRefIdeal.main (F := Ideal))) ⟨m, fun _ => 0, g⟩ (fun r => (∀ c : Dev Cert.SumFfn2TopRefIdeal.nD,
      r.2.mem ((c.tc : Thread Cert.SumFfn2TopRefIdeal.nD Cert.SumFfn2TopRefIdeal.τ).loc Cert.SumFfn2TopRefIdeal.main_arg0) = m ((c.tc : Thread Cert.SumFfn2TopRefIdeal.nD Cert.SumFfn2TopRefIdeal.τ).loc Cert.SumFfn2TopRefIdeal.main_arg0)
      ∧ r.2.mem ((c.tc : Thread Cert.SumFfn2TopRefIdeal.nD Cert.SumFfn2TopRefIdeal.τ).loc Cert.SumFfn2TopRefIdeal.main_arg1) = m ((c.tc : Thread Cert.SumFfn2TopRefIdeal.nD Cert.SumFfn2TopRefIdeal.τ).loc Cert.SumFfn2TopRefIdeal.main_arg1))
      ∧ r.2.sem = fun _ => 0)

def quiescent_SumFfn2Bottom [hSumFfn2Bottom : Cert.SumFfn2Bottom.Facts] : Prop :=
  ∀ (m : (ℓ : Loc Cert.SumFfn2Bottom.nD Cert.SumFfn2Bottom.τ Cert.SumFfn2Bottom.sig) → Buf (Elt Bits) ℓ) (g : Dev Cert.SumFfn2Bottom.nD → PrngReg), Pre_SumFfn2Bottom m →
    θ_run (Cert.SumFfn2Bottom.defs (F := Bits)) (onTc (τ := Cert.SumFfn2Bottom.τ) (Cert.SumFfn2Bottom.main (F := Bits))) ⟨m, fun _ => 0, g⟩ (fun r => (∀ c : Dev Cert.SumFfn2Bottom.nD,
      r.2.mem ((c.tc : Thread Cert.SumFfn2Bottom.nD Cert.SumFfn2Bottom.τ).loc Cert.SumFfn2Bottom.main_arg0) = m ((c.tc : Thread Cert.SumFfn2Bottom.nD Cert.SumFfn2Bottom.τ).loc Cert.SumFfn2Bottom.main_arg0)
      ∧ r.2.mem ((c.tc : Thread Cert.SumFfn2Bottom.nD Cert.SumFfn2Bottom.τ).loc Cert.SumFfn2Bottom.main_arg1) = m ((c.tc : Thread Cert.SumFfn2Bottom.nD Cert.SumFfn2Bottom.τ).loc Cert.SumFfn2Bottom.main_arg1))
      ∧ r.2.sem = fun _ => 0)

def quiescent_SumFfn2BottomIdeal [hSumFfn2BottomIdeal : Cert.SumFfn2BottomIdeal.Facts] : Prop :=
  ∀ (m : (ℓ : Loc Cert.SumFfn2BottomIdeal.nD Cert.SumFfn2BottomIdeal.τ Cert.SumFfn2BottomIdeal.sig) → Buf (Elt Ideal) ℓ) (g : Dev Cert.SumFfn2BottomIdeal.nD → PrngReg), Pre_SumFfn2BottomIdeal m →
    θ_run (Cert.SumFfn2BottomIdeal.defs (F := Ideal)) (onTc (τ := Cert.SumFfn2BottomIdeal.τ) (Cert.SumFfn2BottomIdeal.main (F := Ideal))) ⟨m, fun _ => 0, g⟩ (fun r => (∀ c : Dev Cert.SumFfn2BottomIdeal.nD,
      r.2.mem ((c.tc : Thread Cert.SumFfn2BottomIdeal.nD Cert.SumFfn2BottomIdeal.τ).loc Cert.SumFfn2BottomIdeal.main_arg0) = m ((c.tc : Thread Cert.SumFfn2BottomIdeal.nD Cert.SumFfn2BottomIdeal.τ).loc Cert.SumFfn2BottomIdeal.main_arg0)
      ∧ r.2.mem ((c.tc : Thread Cert.SumFfn2BottomIdeal.nD Cert.SumFfn2BottomIdeal.τ).loc Cert.SumFfn2BottomIdeal.main_arg1) = m ((c.tc : Thread Cert.SumFfn2BottomIdeal.nD Cert.SumFfn2BottomIdeal.τ).loc Cert.SumFfn2BottomIdeal.main_arg1))
      ∧ r.2.sem = fun _ => 0)

def quiescent_SumFfn2BottomRefIdeal [hSumFfn2BottomRefIdeal : Cert.SumFfn2BottomRefIdeal.Facts] : Prop :=
  ∀ (m : (ℓ : Loc Cert.SumFfn2BottomRefIdeal.nD Cert.SumFfn2BottomRefIdeal.τ Cert.SumFfn2BottomRefIdeal.sig) → Buf (Elt Ideal) ℓ) (g : Dev Cert.SumFfn2BottomRefIdeal.nD → PrngReg), Pre_SumFfn2BottomRefIdeal m →
    θ_run (Cert.SumFfn2BottomRefIdeal.defs (F := Ideal)) (onTc (τ := Cert.SumFfn2BottomRefIdeal.τ) (Cert.SumFfn2BottomRefIdeal.main (F := Ideal))) ⟨m, fun _ => 0, g⟩ (fun r => (∀ c : Dev Cert.SumFfn2BottomRefIdeal.nD,
      r.2.mem ((c.tc : Thread Cert.SumFfn2BottomRefIdeal.nD Cert.SumFfn2BottomRefIdeal.τ).loc Cert.SumFfn2BottomRefIdeal.main_arg0) = m ((c.tc : Thread Cert.SumFfn2BottomRefIdeal.nD Cert.SumFfn2BottomRefIdeal.τ).loc Cert.SumFfn2BottomRefIdeal.main_arg0)
      ∧ r.2.mem ((c.tc : Thread Cert.SumFfn2BottomRefIdeal.nD Cert.SumFfn2BottomRefIdeal.τ).loc Cert.SumFfn2BottomRefIdeal.main_arg1) = m ((c.tc : Thread Cert.SumFfn2BottomRefIdeal.nD Cert.SumFfn2BottomRefIdeal.τ).loc Cert.SumFfn2BottomRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamFfn1 [hAdamFfn1 : Cert.AdamFfn1.Facts] : Prop :=
  ∀ (m : (ℓ : Loc Cert.AdamFfn1.nD Cert.AdamFfn1.τ Cert.AdamFfn1.sig) → Buf (Elt Bits) ℓ) (g : Dev Cert.AdamFfn1.nD → PrngReg), Pre_AdamFfn1 m →
    θ_run (Cert.AdamFfn1.defs (F := Bits)) (onTc (τ := Cert.AdamFfn1.τ) (Cert.AdamFfn1.main (F := Bits))) ⟨m, fun _ => 0, g⟩ (fun r => (∀ c : Dev Cert.AdamFfn1.nD,
      r.2.mem ((c.tc : Thread Cert.AdamFfn1.nD Cert.AdamFfn1.τ).loc Cert.AdamFfn1.main_arg0) = m ((c.tc : Thread Cert.AdamFfn1.nD Cert.AdamFfn1.τ).loc Cert.AdamFfn1.main_arg0)
      ∧ r.2.mem ((c.tc : Thread Cert.AdamFfn1.nD Cert.AdamFfn1.τ).loc Cert.AdamFfn1.main_arg1) = m ((c.tc : Thread Cert.AdamFfn1.nD Cert.AdamFfn1.τ).loc Cert.AdamFfn1.main_arg1)
      ∧ r.2.mem ((c.tc : Thread Cert.AdamFfn1.nD Cert.AdamFfn1.τ).loc Cert.AdamFfn1.main_arg2) = m ((c.tc : Thread Cert.AdamFfn1.nD Cert.AdamFfn1.τ).loc Cert.AdamFfn1.main_arg2)
      ∧ r.2.mem ((c.tc : Thread Cert.AdamFfn1.nD Cert.AdamFfn1.τ).loc Cert.AdamFfn1.main_arg3) = m ((c.tc : Thread Cert.AdamFfn1.nD Cert.AdamFfn1.τ).loc Cert.AdamFfn1.main_arg3))
      ∧ r.2.sem = fun _ => 0)

def quiescent_AdamFfn1Ideal [hAdamFfn1Ideal : Cert.AdamFfn1Ideal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg), Pre_AdamFfn1Ideal m →
    θ_run (Cert.AdamFfn1Ideal.defs (F := Ideal)) (onTc (τ := Cert.AdamFfn1Ideal.τ) (Cert.AdamFfn1Ideal.main (F := Ideal))) ⟨m, fun _ => 0, g⟩ (fun r => (∀ c : Dev Cert.AdamFfn1Ideal.nD,
      r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
      ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
      ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
      ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ r.2.sem = fun _ => 0)

def quiescent_AdamFfn1RefIdeal [hAdamFfn1RefIdeal : Cert.AdamFfn1RefIdeal.Facts] : Prop :=
  ∀ (m : (ℓ : Loc Cert.AdamFfn1RefIdeal.nD Cert.AdamFfn1RefIdeal.τ Cert.AdamFfn1RefIdeal.sig) → Buf (Elt Ideal) ℓ) (g : Dev Cert.AdamFfn1RefIdeal.nD → PrngReg), Pre_AdamFfn1RefIdeal m →
    θ_run (Cert.AdamFfn1RefIdeal.defs (F := Ideal)) (onTc (τ := Cert.AdamFfn1RefIdeal.τ) (Cert.AdamFfn1RefIdeal.main (F := Ideal))) ⟨m, fun _ => 0, g⟩ (fun r => (∀ c : Dev Cert.AdamFfn1RefIdeal.nD,
      r.2.mem ((c.tc : Thread Cert.AdamFfn1RefIdeal.nD Cert.AdamFfn1RefIdeal.τ).loc Cert.AdamFfn1RefIdeal.main_arg0) = m ((c.tc : Thread Cert.AdamFfn1RefIdeal.nD Cert.AdamFfn1RefIdeal.τ).loc Cert.AdamFfn1RefIdeal.main_arg0)
      ∧ r.2.mem ((c.tc : Thread Cert.AdamFfn1RefIdeal.nD Cert.AdamFfn1RefIdeal.τ).loc Cert.AdamFfn1RefIdeal.main_arg1) = m ((c.tc : Thread Cert.AdamFfn1RefIdeal.nD Cert.AdamFfn1RefIdeal.τ).loc Cert.AdamFfn1RefIdeal.main_arg1)
      ∧ r.2.mem ((c.tc : Thread Cert.AdamFfn1RefIdeal.nD Cert.AdamFfn1RefIdeal.τ).loc Cert.AdamFfn1RefIdeal.main_arg2) = m ((c.tc : Thread Cert.AdamFfn1RefIdeal.nD Cert.AdamFfn1RefIdeal.τ).loc Cert.AdamFfn1RefIdeal.main_arg2)
      ∧ r.2.mem ((c.tc : Thread Cert.AdamFfn1RefIdeal.nD Cert.AdamFfn1RefIdeal.τ).loc Cert.AdamFfn1RefIdeal.main_arg3) = m ((c.tc : Thread Cert.AdamFfn1RefIdeal.nD Cert.AdamFfn1RefIdeal.τ).loc Cert.AdamFfn1RefIdeal.main_arg3))
      ∧ r.2.sem = fun _ => 0)

def quiescent_AdamFfn2 [hAdamFfn2 : Cert.AdamFfn2.Facts] : Prop :=
  ∀ (m : (ℓ : Loc Cert.AdamFfn2.nD Cert.AdamFfn2.τ Cert.AdamFfn2.sig) → Buf (Elt Bits) ℓ) (g : Dev Cert.AdamFfn2.nD → PrngReg), Pre_AdamFfn2 m →
    θ_run (Cert.AdamFfn2.defs (F := Bits)) (onTc (τ := Cert.AdamFfn2.τ) (Cert.AdamFfn2.main (F := Bits))) ⟨m, fun _ => 0, g⟩ (fun r => (∀ c : Dev Cert.AdamFfn2.nD,
      r.2.mem ((c.tc : Thread Cert.AdamFfn2.nD Cert.AdamFfn2.τ).loc Cert.AdamFfn2.main_arg0) = m ((c.tc : Thread Cert.AdamFfn2.nD Cert.AdamFfn2.τ).loc Cert.AdamFfn2.main_arg0)
      ∧ r.2.mem ((c.tc : Thread Cert.AdamFfn2.nD Cert.AdamFfn2.τ).loc Cert.AdamFfn2.main_arg1) = m ((c.tc : Thread Cert.AdamFfn2.nD Cert.AdamFfn2.τ).loc Cert.AdamFfn2.main_arg1)
      ∧ r.2.mem ((c.tc : Thread Cert.AdamFfn2.nD Cert.AdamFfn2.τ).loc Cert.AdamFfn2.main_arg2) = m ((c.tc : Thread Cert.AdamFfn2.nD Cert.AdamFfn2.τ).loc Cert.AdamFfn2.main_arg2)
      ∧ r.2.mem ((c.tc : Thread Cert.AdamFfn2.nD Cert.AdamFfn2.τ).loc Cert.AdamFfn2.main_arg3) = m ((c.tc : Thread Cert.AdamFfn2.nD Cert.AdamFfn2.τ).loc Cert.AdamFfn2.main_arg3))
      ∧ r.2.sem = fun _ => 0)

def quiescent_AdamFfn2Ideal [hAdamFfn2Ideal : Cert.AdamFfn2Ideal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg), Pre_AdamFfn2Ideal m →
    θ_run (Cert.AdamFfn2Ideal.defs (F := Ideal)) (onTc (τ := Cert.AdamFfn2Ideal.τ) (Cert.AdamFfn2Ideal.main (F := Ideal))) ⟨m, fun _ => 0, g⟩ (fun r => (∀ c : Dev Cert.AdamFfn2Ideal.nD,
      r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
      ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
      ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
      ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ r.2.sem = fun _ => 0)

def quiescent_AdamFfn2RefIdeal [hAdamFfn2RefIdeal : Cert.AdamFfn2RefIdeal.Facts] : Prop :=
  ∀ (m : (ℓ : Loc Cert.AdamFfn2RefIdeal.nD Cert.AdamFfn2RefIdeal.τ Cert.AdamFfn2RefIdeal.sig) → Buf (Elt Ideal) ℓ) (g : Dev Cert.AdamFfn2RefIdeal.nD → PrngReg), Pre_AdamFfn2RefIdeal m →
    θ_run (Cert.AdamFfn2RefIdeal.defs (F := Ideal)) (onTc (τ := Cert.AdamFfn2RefIdeal.τ) (Cert.AdamFfn2RefIdeal.main (F := Ideal))) ⟨m, fun _ => 0, g⟩ (fun r => (∀ c : Dev Cert.AdamFfn2RefIdeal.nD,
      r.2.mem ((c.tc : Thread Cert.AdamFfn2RefIdeal.nD Cert.AdamFfn2RefIdeal.τ).loc Cert.AdamFfn2RefIdeal.main_arg0) = m ((c.tc : Thread Cert.AdamFfn2RefIdeal.nD Cert.AdamFfn2RefIdeal.τ).loc Cert.AdamFfn2RefIdeal.main_arg0)
      ∧ r.2.mem ((c.tc : Thread Cert.AdamFfn2RefIdeal.nD Cert.AdamFfn2RefIdeal.τ).loc Cert.AdamFfn2RefIdeal.main_arg1) = m ((c.tc : Thread Cert.AdamFfn2RefIdeal.nD Cert.AdamFfn2RefIdeal.τ).loc Cert.AdamFfn2RefIdeal.main_arg1)
      ∧ r.2.mem ((c.tc : Thread Cert.AdamFfn2RefIdeal.nD Cert.AdamFfn2RefIdeal.τ).loc Cert.AdamFfn2RefIdeal.main_arg2) = m ((c.tc : Thread Cert.AdamFfn2RefIdeal.nD Cert.AdamFfn2RefIdeal.τ).loc Cert.AdamFfn2RefIdeal.main_arg2)
      ∧ r.2.mem ((c.tc : Thread Cert.AdamFfn2RefIdeal.nD Cert.AdamFfn2RefIdeal.τ).loc Cert.AdamFfn2RefIdeal.main_arg3) = m ((c.tc : Thread Cert.AdamFfn2RefIdeal.nD Cert.AdamFfn2RefIdeal.τ).loc Cert.AdamFfn2RefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43))
      ∧ r.2.sem = fun _ => 0)

def preserves_Gwin_GwinIdeal : Prop :=
  True

def algebraic_GwinIdeal_GwinRefIdeal [hGwinIdeal : Cert.GwinIdeal.Facts] [hGwinRefIdeal : Cert.GwinRefIdeal.Facts] : Prop :=
  ∀ (m : (ℓ : Loc Cert.GwinIdeal.nD Cert.GwinIdeal.τ Cert.GwinIdeal.sig) → Buf (Elt Ideal) ℓ) (g : Dev Cert.GwinIdeal.nD → PrngReg)
    (m' : (ℓ : Loc Cert.GwinRefIdeal.nD Cert.GwinRefIdeal.τ Cert.GwinRefIdeal.sig) → Buf (Elt Ideal) ℓ) (g' : Dev Cert.GwinRefIdeal.nD → PrngReg), Pre_GwinIdeal m →
    (∀ c : Dev Cert.GwinIdeal.nD,
      m' ((c.tc : Thread Cert.GwinRefIdeal.nD Cert.GwinRefIdeal.τ).loc Cert.GwinRefIdeal.main_arg0) = m ((c.tc : Thread Cert.GwinIdeal.nD Cert.GwinIdeal.τ).loc Cert.GwinIdeal.main_arg0)
      ∧ m' ((c.tc : Thread Cert.GwinRefIdeal.nD Cert.GwinRefIdeal.τ).loc Cert.GwinRefIdeal.main_arg1) = m ((c.tc : Thread Cert.GwinIdeal.nD Cert.GwinIdeal.τ).loc Cert.GwinIdeal.main_arg1)) →
    ∃ (v0 : (c : Dev Cert.GwinIdeal.nD) → Buf (Elt Ideal) ((c.tc : Thread Cert.GwinIdeal.nD Cert.GwinIdeal.τ).loc Cert.GwinIdeal.main_v0)),
      θ_run (Cert.GwinIdeal.defs (F := Ideal)) (onTc (τ := Cert.GwinIdeal.τ) (Cert.GwinIdeal.main (F := Ideal))) ⟨m, fun _ => 0, g⟩ (fun r => ∀ c : Dev Cert.GwinIdeal.nD,
          r.2.mem ((c.tc : Thread Cert.GwinIdeal.nD Cert.GwinIdeal.τ).loc Cert.GwinIdeal.main_v0) = v0 c
          ∧ r.2.mem ((c.tc : Thread Cert.GwinIdeal.nD Cert.GwinIdeal.τ).loc Cert.GwinIdeal.main_arg0) = m ((c.tc : Thread Cert.GwinIdeal.nD Cert.GwinIdeal.τ).loc Cert.GwinIdeal.main_arg0)
          ∧ r.2.mem ((c.tc : Thread Cert.GwinIdeal.nD Cert.GwinIdeal.τ).loc Cert.GwinIdeal.main_arg1) = m ((c.tc : Thread Cert.GwinIdeal.nD Cert.GwinIdeal.τ).loc Cert.GwinIdeal.main_arg1))
      ∧ θ_run (Cert.GwinRefIdeal.defs (F := Ideal)) (onTc (τ := Cert.GwinRefIdeal.τ) (Cert.GwinRefIdeal.main (F := Ideal))) ⟨m', fun _ => 0, g'⟩ (fun r => ∀ c : Dev Cert.GwinRefIdeal.nD,
          r.2.mem ((c.tc : Thread Cert.GwinRefIdeal.nD Cert.GwinRefIdeal.τ).loc Cert.GwinRefIdeal.main_v8) = v0 c
          ∧ r.2.mem ((c.tc : Thread Cert.GwinRefIdeal.nD Cert.GwinRefIdeal.τ).loc Cert.GwinRefIdeal.main_arg0) = m' ((c.tc : Thread Cert.GwinRefIdeal.nD Cert.GwinRefIdeal.τ).loc Cert.GwinRefIdeal.main_arg0)
          ∧ r.2.mem ((c.tc : Thread Cert.GwinRefIdeal.nD Cert.GwinRefIdeal.τ).loc Cert.GwinRefIdeal.main_arg1) = m' ((c.tc : Thread Cert.GwinRefIdeal.nD Cert.GwinRefIdeal.τ).loc Cert.GwinRefIdeal.main_arg1))

def preserves_Gw1_Gw1Ideal : Prop :=
  True

def algebraic_Gw1Ideal_Gw1RefIdeal [hGw1Ideal : Cert.Gw1Ideal.Facts] [hGw1RefIdeal : Cert.Gw1RefIdeal.Facts] : Prop :=
  ∀ (m : (ℓ : Loc Cert.Gw1Ideal.nD Cert.Gw1Ideal.τ Cert.Gw1Ideal.sig) → Buf (Elt Ideal) ℓ) (g : Dev Cert.Gw1Ideal.nD → PrngReg)
    (m' : (ℓ : Loc Cert.Gw1RefIdeal.nD Cert.Gw1RefIdeal.τ Cert.Gw1RefIdeal.sig) → Buf (Elt Ideal) ℓ) (g' : Dev Cert.Gw1RefIdeal.nD → PrngReg), Pre_Gw1Ideal m →
    (∀ c : Dev Cert.Gw1Ideal.nD,
      m' ((c.tc : Thread Cert.Gw1RefIdeal.nD Cert.Gw1RefIdeal.τ).loc Cert.Gw1RefIdeal.main_arg0) = m ((c.tc : Thread Cert.Gw1Ideal.nD Cert.Gw1Ideal.τ).loc Cert.Gw1Ideal.main_arg0)
      ∧ m' ((c.tc : Thread Cert.Gw1RefIdeal.nD Cert.Gw1RefIdeal.τ).loc Cert.Gw1RefIdeal.main_arg1) = m ((c.tc : Thread Cert.Gw1Ideal.nD Cert.Gw1Ideal.τ).loc Cert.Gw1Ideal.main_arg1)) →
    ∃ (v0 : (c : Dev Cert.Gw1Ideal.nD) → Buf (Elt Ideal) ((c.tc : Thread Cert.Gw1Ideal.nD Cert.Gw1Ideal.τ).loc Cert.Gw1Ideal.main_v0)),
      θ_run (Cert.Gw1Ideal.defs (F := Ideal)) (onTc (τ := Cert.Gw1Ideal.τ) (Cert.Gw1Ideal.main (F := Ideal))) ⟨m, fun _ => 0, g⟩ (fun r => ∀ c : Dev Cert.Gw1Ideal.nD,
          r.2.mem ((c.tc : Thread Cert.Gw1Ideal.nD Cert.Gw1Ideal.τ).loc Cert.Gw1Ideal.main_v0) = v0 c
          ∧ r.2.mem ((c.tc : Thread Cert.Gw1Ideal.nD Cert.Gw1Ideal.τ).loc Cert.Gw1Ideal.main_arg0) = m ((c.tc : Thread Cert.Gw1Ideal.nD Cert.Gw1Ideal.τ).loc Cert.Gw1Ideal.main_arg0)
          ∧ r.2.mem ((c.tc : Thread Cert.Gw1Ideal.nD Cert.Gw1Ideal.τ).loc Cert.Gw1Ideal.main_arg1) = m ((c.tc : Thread Cert.Gw1Ideal.nD Cert.Gw1Ideal.τ).loc Cert.Gw1Ideal.main_arg1))
      ∧ θ_run (Cert.Gw1RefIdeal.defs (F := Ideal)) (onTc (τ := Cert.Gw1RefIdeal.τ) (Cert.Gw1RefIdeal.main (F := Ideal))) ⟨m', fun _ => 0, g'⟩ (fun r => ∀ c : Dev Cert.Gw1RefIdeal.nD,
          r.2.mem ((c.tc : Thread Cert.Gw1RefIdeal.nD Cert.Gw1RefIdeal.τ).loc Cert.Gw1RefIdeal.main_v8) = v0 c
          ∧ r.2.mem ((c.tc : Thread Cert.Gw1RefIdeal.nD Cert.Gw1RefIdeal.τ).loc Cert.Gw1RefIdeal.main_arg0) = m' ((c.tc : Thread Cert.Gw1RefIdeal.nD Cert.Gw1RefIdeal.τ).loc Cert.Gw1RefIdeal.main_arg0)
          ∧ r.2.mem ((c.tc : Thread Cert.Gw1RefIdeal.nD Cert.Gw1RefIdeal.τ).loc Cert.Gw1RefIdeal.main_arg1) = m' ((c.tc : Thread Cert.Gw1RefIdeal.nD Cert.Gw1RefIdeal.τ).loc Cert.Gw1RefIdeal.main_arg1))

def preserves_Gw2_Gw2Ideal : Prop :=
  True

def algebraic_Gw2Ideal_Gw2RefIdeal [hGw2Ideal : Cert.Gw2Ideal.Facts] [hGw2RefIdeal : Cert.Gw2RefIdeal.Facts] : Prop :=
  ∀ (m : (ℓ : Loc Cert.Gw2Ideal.nD Cert.Gw2Ideal.τ Cert.Gw2Ideal.sig) → Buf (Elt Ideal) ℓ) (g : Dev Cert.Gw2Ideal.nD → PrngReg)
    (m' : (ℓ : Loc Cert.Gw2RefIdeal.nD Cert.Gw2RefIdeal.τ Cert.Gw2RefIdeal.sig) → Buf (Elt Ideal) ℓ) (g' : Dev Cert.Gw2RefIdeal.nD → PrngReg), Pre_Gw2Ideal m →
    (∀ c : Dev Cert.Gw2Ideal.nD,
      m' ((c.tc : Thread Cert.Gw2RefIdeal.nD Cert.Gw2RefIdeal.τ).loc Cert.Gw2RefIdeal.main_arg0) = m ((c.tc : Thread Cert.Gw2Ideal.nD Cert.Gw2Ideal.τ).loc Cert.Gw2Ideal.main_arg0)
      ∧ m' ((c.tc : Thread Cert.Gw2RefIdeal.nD Cert.Gw2RefIdeal.τ).loc Cert.Gw2RefIdeal.main_arg1) = m ((c.tc : Thread Cert.Gw2Ideal.nD Cert.Gw2Ideal.τ).loc Cert.Gw2Ideal.main_arg1)) →
    ∃ (v0 : (c : Dev Cert.Gw2Ideal.nD) → Buf (Elt Ideal) ((c.tc : Thread Cert.Gw2Ideal.nD Cert.Gw2Ideal.τ).loc Cert.Gw2Ideal.main_v0)),
      θ_run (Cert.Gw2Ideal.defs (F := Ideal)) (onTc (τ := Cert.Gw2Ideal.τ) (Cert.Gw2Ideal.main (F := Ideal))) ⟨m, fun _ => 0, g⟩ (fun r => ∀ c : Dev Cert.Gw2Ideal.nD,
          r.2.mem ((c.tc : Thread Cert.Gw2Ideal.nD Cert.Gw2Ideal.τ).loc Cert.Gw2Ideal.main_v0) = v0 c
          ∧ r.2.mem ((c.tc : Thread Cert.Gw2Ideal.nD Cert.Gw2Ideal.τ).loc Cert.Gw2Ideal.main_arg0) = m ((c.tc : Thread Cert.Gw2Ideal.nD Cert.Gw2Ideal.τ).loc Cert.Gw2Ideal.main_arg0)
          ∧ r.2.mem ((c.tc : Thread Cert.Gw2Ideal.nD Cert.Gw2Ideal.τ).loc Cert.Gw2Ideal.main_arg1) = m ((c.tc : Thread Cert.Gw2Ideal.nD Cert.Gw2Ideal.τ).loc Cert.Gw2Ideal.main_arg1))
      ∧ θ_run (Cert.Gw2RefIdeal.defs (F := Ideal)) (onTc (τ := Cert.Gw2RefIdeal.τ) (Cert.Gw2RefIdeal.main (F := Ideal))) ⟨m', fun _ => 0, g'⟩ (fun r => ∀ c : Dev Cert.Gw2RefIdeal.nD,
          r.2.mem ((c.tc : Thread Cert.Gw2RefIdeal.nD Cert.Gw2RefIdeal.τ).loc Cert.Gw2RefIdeal.main_v7) = v0 c
          ∧ r.2.mem ((c.tc : Thread Cert.Gw2RefIdeal.nD Cert.Gw2RefIdeal.τ).loc Cert.Gw2RefIdeal.main_arg0) = m' ((c.tc : Thread Cert.Gw2RefIdeal.nD Cert.Gw2RefIdeal.τ).loc Cert.Gw2RefIdeal.main_arg0)
          ∧ r.2.mem ((c.tc : Thread Cert.Gw2RefIdeal.nD Cert.Gw2RefIdeal.τ).loc Cert.Gw2RefIdeal.main_arg1) = m' ((c.tc : Thread Cert.Gw2RefIdeal.nD Cert.Gw2RefIdeal.τ).loc Cert.Gw2RefIdeal.main_arg1))

def preserves_Gwo_GwoIdeal : Prop :=
  True

def algebraic_GwoIdeal_GwoRefIdeal [hGwoIdeal : Cert.GwoIdeal.Facts] [hGwoRefIdeal : Cert.GwoRefIdeal.Facts] : Prop :=
  ∀ (m : (ℓ : Loc Cert.GwoIdeal.nD Cert.GwoIdeal.τ Cert.GwoIdeal.sig) → Buf (Elt Ideal) ℓ) (g : Dev Cert.GwoIdeal.nD → PrngReg)
    (m' : (ℓ : Loc Cert.GwoRefIdeal.nD Cert.GwoRefIdeal.τ Cert.GwoRefIdeal.sig) → Buf (Elt Ideal) ℓ) (g' : Dev Cert.GwoRefIdeal.nD → PrngReg), Pre_GwoIdeal m →
    (∀ c : Dev Cert.GwoIdeal.nD,
      m' ((c.tc : Thread Cert.GwoRefIdeal.nD Cert.GwoRefIdeal.τ).loc Cert.GwoRefIdeal.main_arg0) = m ((c.tc : Thread Cert.GwoIdeal.nD Cert.GwoIdeal.τ).loc Cert.GwoIdeal.main_arg0)
      ∧ m' ((c.tc : Thread Cert.GwoRefIdeal.nD Cert.GwoRefIdeal.τ).loc Cert.GwoRefIdeal.main_arg1) = m ((c.tc : Thread Cert.GwoIdeal.nD Cert.GwoIdeal.τ).loc Cert.GwoIdeal.main_arg1)) →
    ∃ (v0 : (c : Dev Cert.GwoIdeal.nD) → Buf (Elt Ideal) ((c.tc : Thread Cert.GwoIdeal.nD Cert.GwoIdeal.τ).loc Cert.GwoIdeal.main_v0)),
      θ_run (Cert.GwoIdeal.defs (F := Ideal)) (onTc (τ := Cert.GwoIdeal.τ) (Cert.GwoIdeal.main (F := Ideal))) ⟨m, fun _ => 0, g⟩ (fun r => ∀ c : Dev Cert.GwoIdeal.nD,
          r.2.mem ((c.tc : Thread Cert.GwoIdeal.nD Cert.GwoIdeal.τ).loc Cert.GwoIdeal.main_v0) = v0 c
          ∧ r.2.mem ((c.tc : Thread Cert.GwoIdeal.nD Cert.GwoIdeal.τ).loc Cert.GwoIdeal.main_arg0) = m ((c.tc : Thread Cert.GwoIdeal.nD Cert.GwoIdeal.τ).loc Cert.GwoIdeal.main_arg0)
          ∧ r.2.mem ((c.tc : Thread Cert.GwoIdeal.nD Cert.GwoIdeal.τ).loc Cert.GwoIdeal.main_arg1) = m ((c.tc : Thread Cert.GwoIdeal.nD Cert.GwoIdeal.τ).loc Cert.GwoIdeal.main_arg1))
      ∧ θ_run (Cert.GwoRefIdeal.defs (F := Ideal)) (onTc (τ := Cert.GwoRefIdeal.τ) (Cert.GwoRefIdeal.main (F := Ideal))) ⟨m', fun _ => 0, g'⟩ (fun r => ∀ c : Dev Cert.GwoRefIdeal.nD,
          r.2.mem ((c.tc : Thread Cert.GwoRefIdeal.nD Cert.GwoRefIdeal.τ).loc Cert.GwoRefIdeal.main_v7) = v0 c
          ∧ r.2.mem ((c.tc : Thread Cert.GwoRefIdeal.nD Cert.GwoRefIdeal.τ).loc Cert.GwoRefIdeal.main_arg0) = m' ((c.tc : Thread Cert.GwoRefIdeal.nD Cert.GwoRefIdeal.τ).loc Cert.GwoRefIdeal.main_arg0)
          ∧ r.2.mem ((c.tc : Thread Cert.GwoRefIdeal.nD Cert.GwoRefIdeal.τ).loc Cert.GwoRefIdeal.main_arg1) = m' ((c.tc : Thread Cert.GwoRefIdeal.nD Cert.GwoRefIdeal.τ).loc Cert.GwoRefIdeal.main_arg1))

def preserves_Gwa_GwaIdeal : Prop :=
  True

def algebraic_GwaIdeal_GwaRefIdeal [hGwaIdeal : Cert.GwaIdeal.Facts] [hGwaRefIdeal : Cert.GwaRefIdeal.Facts] : Prop :=
  ∀ (m : (ℓ : Loc Cert.GwaIdeal.nD Cert.GwaIdeal.τ Cert.GwaIdeal.sig) → Buf (Elt Ideal) ℓ) (g : Dev Cert.GwaIdeal.nD → PrngReg)
    (m' : (ℓ : Loc Cert.GwaRefIdeal.nD Cert.GwaRefIdeal.τ Cert.GwaRefIdeal.sig) → Buf (Elt Ideal) ℓ) (g' : Dev Cert.GwaRefIdeal.nD → PrngReg), Pre_GwaIdeal m →
    (∀ c : Dev Cert.GwaIdeal.nD,
      m' ((c.tc : Thread Cert.GwaRefIdeal.nD Cert.GwaRefIdeal.τ).loc Cert.GwaRefIdeal.main_arg0) = m ((c.tc : Thread Cert.GwaIdeal.nD Cert.GwaIdeal.τ).loc Cert.GwaIdeal.main_arg0)
      ∧ m' ((c.tc : Thread Cert.GwaRefIdeal.nD Cert.GwaRefIdeal.τ).loc Cert.GwaRefIdeal.main_arg1) = m ((c.tc : Thread Cert.GwaIdeal.nD Cert.GwaIdeal.τ).loc Cert.GwaIdeal.main_arg1)) →
    ∃ (v0 : (c : Dev Cert.GwaIdeal.nD) → Buf (Elt Ideal) ((c.tc : Thread Cert.GwaIdeal.nD Cert.GwaIdeal.τ).loc Cert.GwaIdeal.main_v0)),
      θ_run (Cert.GwaIdeal.defs (F := Ideal)) (onTc (τ := Cert.GwaIdeal.τ) (Cert.GwaIdeal.main (F := Ideal))) ⟨m, fun _ => 0, g⟩ (fun r => ∀ c : Dev Cert.GwaIdeal.nD,
          r.2.mem ((c.tc : Thread Cert.GwaIdeal.nD Cert.GwaIdeal.τ).loc Cert.GwaIdeal.main_v0) = v0 c
          ∧ r.2.mem ((c.tc : Thread Cert.GwaIdeal.nD Cert.GwaIdeal.τ).loc Cert.GwaIdeal.main_arg0) = m ((c.tc : Thread Cert.GwaIdeal.nD Cert.GwaIdeal.τ).loc Cert.GwaIdeal.main_arg0)
          ∧ r.2.mem ((c.tc : Thread Cert.GwaIdeal.nD Cert.GwaIdeal.τ).loc Cert.GwaIdeal.main_arg1) = m ((c.tc : Thread Cert.GwaIdeal.nD Cert.GwaIdeal.τ).loc Cert.GwaIdeal.main_arg1))
      ∧ θ_run (Cert.GwaRefIdeal.defs (F := Ideal)) (onTc (τ := Cert.GwaRefIdeal.τ) (Cert.GwaRefIdeal.main (F := Ideal))) ⟨m', fun _ => 0, g'⟩ (fun r => ∀ c : Dev Cert.GwaRefIdeal.nD,
          r.2.mem ((c.tc : Thread Cert.GwaRefIdeal.nD Cert.GwaRefIdeal.τ).loc Cert.GwaRefIdeal.main_v8) = v0 c
          ∧ r.2.mem ((c.tc : Thread Cert.GwaRefIdeal.nD Cert.GwaRefIdeal.τ).loc Cert.GwaRefIdeal.main_arg0) = m' ((c.tc : Thread Cert.GwaRefIdeal.nD Cert.GwaRefIdeal.τ).loc Cert.GwaRefIdeal.main_arg0)
          ∧ r.2.mem ((c.tc : Thread Cert.GwaRefIdeal.nD Cert.GwaRefIdeal.τ).loc Cert.GwaRefIdeal.main_arg1) = m' ((c.tc : Thread Cert.GwaRefIdeal.nD Cert.GwaRefIdeal.τ).loc Cert.GwaRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v6) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v6) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Da_DaIdeal : Prop :=
  True

def algebraic_DaIdeal_DaRefIdeal [hDaIdeal : Cert.DaIdeal.Facts] [hDaRefIdeal : Cert.DaRefIdeal.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)) →
    ∃ (v0 : (c : Dev Cert.DaIdeal.nD) → Buf (Elt Ideal) ((c.tc : Thread Cert.DaIdeal.nD Cert.DaIdeal.τ).loc Cert.DaIdeal.main_v0)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v0) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v6) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1))

def preserves_Dz_DzIdeal : Prop :=
  True

def algebraic_DzIdeal_DzRefIdeal [hDzIdeal : Cert.DzIdeal.Facts] [hDzRefIdeal : Cert.DzRefIdeal.Facts] : Prop :=
  ∀ (m : (ℓ : Loc Cert.DzIdeal.nD Cert.DzIdeal.τ Cert.DzIdeal.sig) → Buf (Elt Ideal) ℓ) (g : Dev Cert.DzIdeal.nD → PrngReg)
    (m' : (ℓ : Loc Cert.DzRefIdeal.nD Cert.DzRefIdeal.τ Cert.DzRefIdeal.sig) → Buf (Elt Ideal) ℓ) (g' : Dev Cert.DzRefIdeal.nD → PrngReg), Pre_DzIdeal m →
    (∀ c : Dev Cert.DzIdeal.nD,
      m' ((c.tc : Thread Cert.DzRefIdeal.nD Cert.DzRefIdeal.τ).loc Cert.DzRefIdeal.main_arg0) = m ((c.tc : Thread Cert.DzIdeal.nD Cert.DzIdeal.τ).loc Cert.DzIdeal.main_arg0)
      ∧ m' ((c.tc : Thread Cert.DzRefIdeal.nD Cert.DzRefIdeal.τ).loc Cert.DzRefIdeal.main_arg1) = m ((c.tc : Thread Cert.DzIdeal.nD Cert.DzIdeal.τ).loc Cert.DzIdeal.main_arg1)) →
    ∃ (v0 : (c : Dev Cert.DzIdeal.nD) → Buf (Elt Ideal) ((c.tc : Thread Cert.DzIdeal.nD Cert.DzIdeal.τ).loc Cert.DzIdeal.main_v0)),
      θ_run (Cert.DzIdeal.defs (F := Ideal)) (onTc (τ := Cert.DzIdeal.τ) (Cert.DzIdeal.main (F := Ideal))) ⟨m, fun _ => 0, g⟩ (fun r => ∀ c : Dev Cert.DzIdeal.nD,
          r.2.mem ((c.tc : Thread Cert.DzIdeal.nD Cert.DzIdeal.τ).loc Cert.DzIdeal.main_v0) = v0 c
          ∧ r.2.mem ((c.tc : Thread Cert.DzIdeal.nD Cert.DzIdeal.τ).loc Cert.DzIdeal.main_arg0) = m ((c.tc : Thread Cert.DzIdeal.nD Cert.DzIdeal.τ).loc Cert.DzIdeal.main_arg0)
          ∧ r.2.mem ((c.tc : Thread Cert.DzIdeal.nD Cert.DzIdeal.τ).loc Cert.DzIdeal.main_arg1) = m ((c.tc : Thread Cert.DzIdeal.nD Cert.DzIdeal.τ).loc Cert.DzIdeal.main_arg1))
      ∧ θ_run (Cert.DzRefIdeal.defs (F := Ideal)) (onTc (τ := Cert.DzRefIdeal.τ) (Cert.DzRefIdeal.main (F := Ideal))) ⟨m', fun _ => 0, g'⟩ (fun r => ∀ c : Dev Cert.DzRefIdeal.nD,
          r.2.mem ((c.tc : Thread Cert.DzRefIdeal.nD Cert.DzRefIdeal.τ).loc Cert.DzRefIdeal.main_v6) = v0 c
          ∧ r.2.mem ((c.tc : Thread Cert.DzRefIdeal.nD Cert.DzRefIdeal.τ).loc Cert.DzRefIdeal.main_arg0) = m' ((c.tc : Thread Cert.DzRefIdeal.nD Cert.DzRefIdeal.τ).loc Cert.DzRefIdeal.main_arg0)
          ∧ r.2.mem ((c.tc : Thread Cert.DzRefIdeal.nD Cert.DzRefIdeal.τ).loc Cert.DzRefIdeal.main_arg1) = m' ((c.tc : Thread Cert.DzRefIdeal.nD Cert.DzRefIdeal.τ).loc Cert.DzRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v0)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v0) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v6) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_Dyb_DybIdeal : Prop :=
  True

def algebraic_DybIdeal_DybRefIdeal [hDybIdeal : Cert.DybIdeal.Facts] [hDybRefIdeal : Cert.DybRefIdeal.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)) →
    ∃ (v0 : (c : Dev Cert.DybIdeal.nD) → Buf (Elt Ideal) ((c.tc : Thread Cert.DybIdeal.nD Cert.DybIdeal.τ).loc Cert.DybIdeal.main_v0)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v0) = v0 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v7) = v0 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1))

def preserves_U1_U1Ideal : Prop :=
  True

def algebraic_U1Ideal_U1RefIdeal [hU1Ideal : Cert.U1Ideal.Facts] [hU1RefIdeal : Cert.U1RefIdeal.Facts] : Prop :=
  ∀ (m : (ℓ : Loc Cert.U1Ideal.nD Cert.U1Ideal.τ Cert.U1Ideal.sig) → Buf (Elt Ideal) ℓ) (g : Dev Cert.U1Ideal.nD → PrngReg)
    (m' : (ℓ : Loc Cert.U1RefIdeal.nD Cert.U1RefIdeal.τ Cert.U1RefIdeal.sig) → Buf (Elt Ideal) ℓ) (g' : Dev Cert.U1RefIdeal.nD → PrngReg), Pre_U1Ideal m →
    (∀ c : Dev Cert.U1Ideal.nD,
      m' ((c.tc : Thread Cert.U1RefIdeal.nD Cert.U1RefIdeal.τ).loc Cert.U1RefIdeal.main_arg0) = m ((c.tc : Thread Cert.U1Ideal.nD Cert.U1Ideal.τ).loc Cert.U1Ideal.main_arg0)
      ∧ m' ((c.tc : Thread Cert.U1RefIdeal.nD Cert.U1RefIdeal.τ).loc Cert.U1RefIdeal.main_arg1) = m ((c.tc : Thread Cert.U1Ideal.nD Cert.U1Ideal.τ).loc Cert.U1Ideal.main_arg1)) →
    ∃ (v0 : (c : Dev Cert.U1Ideal.nD) → Buf (Elt Ideal) ((c.tc : Thread Cert.U1Ideal.nD Cert.U1Ideal.τ).loc Cert.U1Ideal.main_v0)),
      θ_run (Cert.U1Ideal.defs (F := Ideal)) (onTc (τ := Cert.U1Ideal.τ) (Cert.U1Ideal.main (F := Ideal))) ⟨m, fun _ => 0, g⟩ (fun r => ∀ c : Dev Cert.U1Ideal.nD,
          r.2.mem ((c.tc : Thread Cert.U1Ideal.nD Cert.U1Ideal.τ).loc Cert.U1Ideal.main_v0) = v0 c
          ∧ r.2.mem ((c.tc : Thread Cert.U1Ideal.nD Cert.U1Ideal.τ).loc Cert.U1Ideal.main_arg0) = m ((c.tc : Thread Cert.U1Ideal.nD Cert.U1Ideal.τ).loc Cert.U1Ideal.main_arg0)
          ∧ r.2.mem ((c.tc : Thread Cert.U1Ideal.nD Cert.U1Ideal.τ).loc Cert.U1Ideal.main_arg1) = m ((c.tc : Thread Cert.U1Ideal.nD Cert.U1Ideal.τ).loc Cert.U1Ideal.main_arg1))
      ∧ θ_run (Cert.U1RefIdeal.defs (F := Ideal)) (onTc (τ := Cert.U1RefIdeal.τ) (Cert.U1RefIdeal.main (F := Ideal))) ⟨m', fun _ => 0, g'⟩ (fun r => ∀ c : Dev Cert.U1RefIdeal.nD,
          r.2.mem ((c.tc : Thread Cert.U1RefIdeal.nD Cert.U1RefIdeal.τ).loc Cert.U1RefIdeal.main_v5) = v0 c
          ∧ r.2.mem ((c.tc : Thread Cert.U1RefIdeal.nD Cert.U1RefIdeal.τ).loc Cert.U1RefIdeal.main_arg0) = m' ((c.tc : Thread Cert.U1RefIdeal.nD Cert.U1RefIdeal.τ).loc Cert.U1RefIdeal.main_arg0)
          ∧ r.2.mem ((c.tc : Thread Cert.U1RefIdeal.nD Cert.U1RefIdeal.τ).loc Cert.U1RefIdeal.main_arg1) = m' ((c.tc : Thread Cert.U1RefIdeal.nD Cert.U1RefIdeal.τ).loc Cert.U1RefIdeal.main_arg1))

def preserves_Mf_MfIdeal : Prop :=
  True

def algebraic_MfIdeal_MfRefIdeal [hMfIdeal : Cert.MfIdeal.Facts] [hMfRefIdeal : Cert.MfRefIdeal.Facts] : Prop :=
  ∀ (m : (ℓ : Loc Cert.MfIdeal.nD Cert.MfIdeal.τ Cert.MfIdeal.sig) → Buf (Elt Ideal) ℓ) (g : Dev Cert.MfIdeal.nD → PrngReg)
    (m' : (ℓ : Loc Cert.MfRefIdeal.nD Cert.MfRefIdeal.τ Cert.MfRefIdeal.sig) → Buf (Elt Ideal) ℓ) (g' : Dev Cert.MfRefIdeal.nD → PrngReg), Pre_MfIdeal m →
    (∀ c : Dev Cert.MfIdeal.nD,
      m' ((c.tc : Thread Cert.MfRefIdeal.nD Cert.MfRefIdeal.τ).loc Cert.MfRefIdeal.main_arg0) = m ((c.tc : Thread Cert.MfIdeal.nD Cert.MfIdeal.τ).loc Cert.MfIdeal.main_arg0)
      ∧ m' ((c.tc : Thread Cert.MfRefIdeal.nD Cert.MfRefIdeal.τ).loc Cert.MfRefIdeal.main_arg1) = m ((c.tc : Thread Cert.MfIdeal.nD Cert.MfIdeal.τ).loc Cert.MfIdeal.main_arg1)) →
    ∃ (v0 : (c : Dev Cert.MfIdeal.nD) → Buf (Elt Ideal) ((c.tc : Thread Cert.MfIdeal.nD Cert.MfIdeal.τ).loc Cert.MfIdeal.main_v0)),
      θ_run (Cert.MfIdeal.defs (F := Ideal)) (onTc (τ := Cert.MfIdeal.τ) (Cert.MfIdeal.main (F := Ideal))) ⟨m, fun _ => 0, g⟩ (fun r => ∀ c : Dev Cert.MfIdeal.nD,
          r.2.mem ((c.tc : Thread Cert.MfIdeal.nD Cert.MfIdeal.τ).loc Cert.MfIdeal.main_v0) = v0 c
          ∧ r.2.mem ((c.tc : Thread Cert.MfIdeal.nD Cert.MfIdeal.τ).loc Cert.MfIdeal.main_arg0) = m ((c.tc : Thread Cert.MfIdeal.nD Cert.MfIdeal.τ).loc Cert.MfIdeal.main_arg0)
          ∧ r.2.mem ((c.tc : Thread Cert.MfIdeal.nD Cert.MfIdeal.τ).loc Cert.MfIdeal.main_arg1) = m ((c.tc : Thread Cert.MfIdeal.nD Cert.MfIdeal.τ).loc Cert.MfIdeal.main_arg1))
      ∧ θ_run (Cert.MfRefIdeal.defs (F := Ideal)) (onTc (τ := Cert.MfRefIdeal.τ) (Cert.MfRefIdeal.main (F := Ideal))) ⟨m', fun _ => 0, g'⟩ (fun r => ∀ c : Dev Cert.MfRefIdeal.nD,
          r.2.mem ((c.tc : Thread Cert.MfRefIdeal.nD Cert.MfRefIdeal.τ).loc Cert.MfRefIdeal.main_v3) = v0 c
          ∧ r.2.mem ((c.tc : Thread Cert.MfRefIdeal.nD Cert.MfRefIdeal.τ).loc Cert.MfRefIdeal.main_arg0) = m' ((c.tc : Thread Cert.MfRefIdeal.nD Cert.MfRefIdeal.τ).loc Cert.MfRefIdeal.main_arg0)
          ∧ r.2.mem ((c.tc : Thread Cert.MfRefIdeal.nD Cert.MfRefIdeal.τ).loc Cert.MfRefIdeal.main_arg1) = m' ((c.tc : Thread Cert.MfRefIdeal.nD Cert.MfRefIdeal.τ).loc Cert.MfRefIdeal.main_arg1))

def preserves_Mo_MoIdeal : Prop :=
  True

def algebraic_MoIdeal_MoRefIdeal [hMoIdeal : Cert.MoIdeal.Facts] [hMoRefIdeal : Cert.MoRefIdeal.Facts] : Prop :=
  ∀ (m : (ℓ : Loc Cert.MoIdeal.nD Cert.MoIdeal.τ Cert.MoIdeal.sig) → Buf (Elt Ideal) ℓ) (g : Dev Cert.MoIdeal.nD → PrngReg)
    (m' : (ℓ : Loc Cert.MoRefIdeal.nD Cert.MoRefIdeal.τ Cert.MoRefIdeal.sig) → Buf (Elt Ideal) ℓ) (g' : Dev Cert.MoRefIdeal.nD → PrngReg), Pre_MoIdeal m →
    (∀ c : Dev Cert.MoIdeal.nD,
      m' ((c.tc : Thread Cert.MoRefIdeal.nD Cert.MoRefIdeal.τ).loc Cert.MoRefIdeal.main_arg0) = m ((c.tc : Thread Cert.MoIdeal.nD Cert.MoIdeal.τ).loc Cert.MoIdeal.main_arg0)
      ∧ m' ((c.tc : Thread Cert.MoRefIdeal.nD Cert.MoRefIdeal.τ).loc Cert.MoRefIdeal.main_arg1) = m ((c.tc : Thread Cert.MoIdeal.nD Cert.MoIdeal.τ).loc Cert.MoIdeal.main_arg1)) →
    ∃ (v0 : (c : Dev Cert.MoIdeal.nD) → Buf (Elt Ideal) ((c.tc : Thread Cert.MoIdeal.nD Cert.MoIdeal.τ).loc Cert.MoIdeal.main_v0)),
      θ_run (Cert.MoIdeal.defs (F := Ideal)) (onTc (τ := Cert.MoIdeal.τ) (Cert.MoIdeal.main (F := Ideal))) ⟨m, fun _ => 0, g⟩ (fun r => ∀ c : Dev Cert.MoIdeal.nD,
          r.2.mem ((c.tc : Thread Cert.MoIdeal.nD Cert.MoIdeal.τ).loc Cert.MoIdeal.main_v0) = v0 c
          ∧ r.2.mem ((c.tc : Thread Cert.MoIdeal.nD Cert.MoIdeal.τ).loc Cert.MoIdeal.main_arg0) = m ((c.tc : Thread Cert.MoIdeal.nD Cert.MoIdeal.τ).loc Cert.MoIdeal.main_arg0)
          ∧ r.2.mem ((c.tc : Thread Cert.MoIdeal.nD Cert.MoIdeal.τ).loc Cert.MoIdeal.main_arg1) = m ((c.tc : Thread Cert.MoIdeal.nD Cert.MoIdeal.τ).loc Cert.MoIdeal.main_arg1))
      ∧ θ_run (Cert.MoRefIdeal.defs (F := Ideal)) (onTc (τ := Cert.MoRefIdeal.τ) (Cert.MoRefIdeal.main (F := Ideal))) ⟨m', fun _ => 0, g'⟩ (fun r => ∀ c : Dev Cert.MoRefIdeal.nD,
          r.2.mem ((c.tc : Thread Cert.MoRefIdeal.nD Cert.MoRefIdeal.τ).loc Cert.MoRefIdeal.main_v3) = v0 c
          ∧ r.2.mem ((c.tc : Thread Cert.MoRefIdeal.nD Cert.MoRefIdeal.τ).loc Cert.MoRefIdeal.main_arg0) = m' ((c.tc : Thread Cert.MoRefIdeal.nD Cert.MoRefIdeal.τ).loc Cert.MoRefIdeal.main_arg0)
          ∧ r.2.mem ((c.tc : Thread Cert.MoRefIdeal.nD Cert.MoRefIdeal.τ).loc Cert.MoRefIdeal.main_arg1) = m' ((c.tc : Thread Cert.MoRefIdeal.nD Cert.MoRefIdeal.τ).loc Cert.MoRefIdeal.main_arg1))

def preserves_Za_ZaIdeal : Prop :=
  True

def algebraic_ZaIdeal_ZaRefIdeal [hZaIdeal : Cert.ZaIdeal.Facts] [hZaRefIdeal : Cert.ZaRefIdeal.Facts] : Prop :=
  ∀ (m : (ℓ : Loc Cert.ZaIdeal.nD Cert.ZaIdeal.τ Cert.ZaIdeal.sig) → Buf (Elt Ideal) ℓ) (g : Dev Cert.ZaIdeal.nD → PrngReg)
    (m' : (ℓ : Loc Cert.ZaRefIdeal.nD Cert.ZaRefIdeal.τ Cert.ZaRefIdeal.sig) → Buf (Elt Ideal) ℓ) (g' : Dev Cert.ZaRefIdeal.nD → PrngReg), Pre_ZaIdeal m →
    (∀ c : Dev Cert.ZaIdeal.nD,
      m' ((c.tc : Thread Cert.ZaRefIdeal.nD Cert.ZaRefIdeal.τ).loc Cert.ZaRefIdeal.main_arg0) = m ((c.tc : Thread Cert.ZaIdeal.nD Cert.ZaIdeal.τ).loc Cert.ZaIdeal.main_arg0)
      ∧ m' ((c.tc : Thread Cert.ZaRefIdeal.nD Cert.ZaRefIdeal.τ).loc Cert.ZaRefIdeal.main_arg1) = m ((c.tc : Thread Cert.ZaIdeal.nD Cert.ZaIdeal.τ).loc Cert.ZaIdeal.main_arg1)) →
    ∃ (v0 : (c : Dev Cert.ZaIdeal.nD) → Buf (Elt Ideal) ((c.tc : Thread Cert.ZaIdeal.nD Cert.ZaIdeal.τ).loc Cert.ZaIdeal.main_v0)),
      θ_run (Cert.ZaIdeal.defs (F := Ideal)) (onTc (τ := Cert.ZaIdeal.τ) (Cert.ZaIdeal.main (F := Ideal))) ⟨m, fun _ => 0, g⟩ (fun r => ∀ c : Dev Cert.ZaIdeal.nD,
          r.2.mem ((c.tc : Thread Cert.ZaIdeal.nD Cert.ZaIdeal.τ).loc Cert.ZaIdeal.main_v0) = v0 c
          ∧ r.2.mem ((c.tc : Thread Cert.ZaIdeal.nD Cert.ZaIdeal.τ).loc Cert.ZaIdeal.main_arg0) = m ((c.tc : Thread Cert.ZaIdeal.nD Cert.ZaIdeal.τ).loc Cert.ZaIdeal.main_arg0)
          ∧ r.2.mem ((c.tc : Thread Cert.ZaIdeal.nD Cert.ZaIdeal.τ).loc Cert.ZaIdeal.main_arg1) = m ((c.tc : Thread Cert.ZaIdeal.nD Cert.ZaIdeal.τ).loc Cert.ZaIdeal.main_arg1))
      ∧ θ_run (Cert.ZaRefIdeal.defs (F := Ideal)) (onTc (τ := Cert.ZaRefIdeal.τ) (Cert.ZaRefIdeal.main (F := Ideal))) ⟨m', fun _ => 0, g'⟩ (fun r => ∀ c : Dev Cert.ZaRefIdeal.nD,
          r.2.mem ((c.tc : Thread Cert.ZaRefIdeal.nD Cert.ZaRefIdeal.τ).loc Cert.ZaRefIdeal.main_v5) = v0 c
          ∧ r.2.mem ((c.tc : Thread Cert.ZaRefIdeal.nD Cert.ZaRefIdeal.τ).loc Cert.ZaRefIdeal.main_arg0) = m' ((c.tc : Thread Cert.ZaRefIdeal.nD Cert.ZaRefIdeal.τ).loc Cert.ZaRefIdeal.main_arg0)
          ∧ r.2.mem ((c.tc : Thread Cert.ZaRefIdeal.nD Cert.ZaRefIdeal.τ).loc Cert.ZaRefIdeal.main_arg1) = m' ((c.tc : Thread Cert.ZaRefIdeal.nD Cert.ZaRefIdeal.τ).loc Cert.ZaRefIdeal.main_arg1))

def preserves_AdaB_AdaBIdeal : Prop :=
  True

def algebraic_AdaBIdeal_AdaBRefIdeal [hAdaBIdeal : Cert.AdaBIdeal.Facts] [hAdaBRefIdeal : Cert.AdaBRefIdeal.Facts] : Prop :=
  ∀ (m : (ℓ : Loc Cert.AdaBIdeal.nD Cert.AdaBIdeal.τ Cert.AdaBIdeal.sig) → Buf (Elt Ideal) ℓ) (g : Dev Cert.AdaBIdeal.nD → PrngReg)
    (m' : (ℓ : Loc Cert.AdaBRefIdeal.nD Cert.AdaBRefIdeal.τ Cert.AdaBRefIdeal.sig) → Buf (Elt Ideal) ℓ) (g' : Dev Cert.AdaBRefIdeal.nD → PrngReg), Pre_AdaBIdeal m →
    (∀ c : Dev Cert.AdaBIdeal.nD,
      m' ((c.tc : Thread Cert.AdaBRefIdeal.nD Cert.AdaBRefIdeal.τ).loc Cert.AdaBRefIdeal.main_arg0) = m ((c.tc : Thread Cert.AdaBIdeal.nD Cert.AdaBIdeal.τ).loc Cert.AdaBIdeal.main_arg0)
      ∧ m' ((c.tc : Thread Cert.AdaBRefIdeal.nD Cert.AdaBRefIdeal.τ).loc Cert.AdaBRefIdeal.main_arg1) = m ((c.tc : Thread Cert.AdaBIdeal.nD Cert.AdaBIdeal.τ).loc Cert.AdaBIdeal.main_arg1)
      ∧ m' ((c.tc : Thread Cert.AdaBRefIdeal.nD Cert.AdaBRefIdeal.τ).loc Cert.AdaBRefIdeal.main_arg2) = m ((c.tc : Thread Cert.AdaBIdeal.nD Cert.AdaBIdeal.τ).loc Cert.AdaBIdeal.main_arg2)) →
    ∃ (v0 : (c : Dev Cert.AdaBIdeal.nD) → Buf (Elt Ideal) ((c.tc : Thread Cert.AdaBIdeal.nD Cert.AdaBIdeal.τ).loc Cert.AdaBIdeal.main_v0_0)) (v1 : (c : Dev Cert.AdaBIdeal.nD) → Buf (Elt Ideal) ((c.tc : Thread Cert.AdaBIdeal.nD Cert.AdaBIdeal.τ).loc Cert.AdaBIdeal.main_v0_1)),
      θ_run (Cert.AdaBIdeal.defs (F := Ideal)) (onTc (τ := Cert.AdaBIdeal.τ) (Cert.AdaBIdeal.main (F := Ideal))) ⟨m, fun _ => 0, g⟩ (fun r => ∀ c : Dev Cert.AdaBIdeal.nD,
          r.2.mem ((c.tc : Thread Cert.AdaBIdeal.nD Cert.AdaBIdeal.τ).loc Cert.AdaBIdeal.main_v0_0) = v0 c
          ∧ r.2.mem ((c.tc : Thread Cert.AdaBIdeal.nD Cert.AdaBIdeal.τ).loc Cert.AdaBIdeal.main_v0_1) = v1 c
          ∧ r.2.mem ((c.tc : Thread Cert.AdaBIdeal.nD Cert.AdaBIdeal.τ).loc Cert.AdaBIdeal.main_arg0) = m ((c.tc : Thread Cert.AdaBIdeal.nD Cert.AdaBIdeal.τ).loc Cert.AdaBIdeal.main_arg0)
          ∧ r.2.mem ((c.tc : Thread Cert.AdaBIdeal.nD Cert.AdaBIdeal.τ).loc Cert.AdaBIdeal.main_arg1) = m ((c.tc : Thread Cert.AdaBIdeal.nD Cert.AdaBIdeal.τ).loc Cert.AdaBIdeal.main_arg1)
          ∧ r.2.mem ((c.tc : Thread Cert.AdaBIdeal.nD Cert.AdaBIdeal.τ).loc Cert.AdaBIdeal.main_arg2) = m ((c.tc : Thread Cert.AdaBIdeal.nD Cert.AdaBIdeal.τ).loc Cert.AdaBIdeal.main_arg2))
      ∧ θ_run (Cert.AdaBRefIdeal.defs (F := Ideal)) (onTc (τ := Cert.AdaBRefIdeal.τ) (Cert.AdaBRefIdeal.main (F := Ideal))) ⟨m', fun _ => 0, g'⟩ (fun r => ∀ c : Dev Cert.AdaBRefIdeal.nD,
          r.2.mem ((c.tc : Thread Cert.AdaBRefIdeal.nD Cert.AdaBRefIdeal.τ).loc Cert.AdaBRefIdeal.main_v3) = v0 c
          ∧ r.2.mem ((c.tc : Thread Cert.AdaBRefIdeal.nD Cert.AdaBRefIdeal.τ).loc Cert.AdaBRefIdeal.main_v4) = v1 c
          ∧ r.2.mem ((c.tc : Thread Cert.AdaBRefIdeal.nD Cert.AdaBRefIdeal.τ).loc Cert.AdaBRefIdeal.main_arg0) = m' ((c.tc : Thread Cert.AdaBRefIdeal.nD Cert.AdaBRefIdeal.τ).loc Cert.AdaBRefIdeal.main_arg0)
          ∧ r.2.mem ((c.tc : Thread Cert.AdaBRefIdeal.nD Cert.AdaBRefIdeal.τ).loc Cert.AdaBRefIdeal.main_arg1) = m' ((c.tc : Thread Cert.AdaBRefIdeal.nD Cert.AdaBRefIdeal.τ).loc Cert.AdaBRefIdeal.main_arg1)
          ∧ r.2.mem ((c.tc : Thread Cert.AdaBRefIdeal.nD Cert.AdaBRefIdeal.τ).loc Cert.AdaBRefIdeal.main_arg2) = m' ((c.tc : Thread Cert.AdaBRefIdeal.nD Cert.AdaBRefIdeal.τ).loc Cert.AdaBRefIdeal.main_arg2))

def preserves_CCtx_CCtxIdeal : Prop :=
  True

def algebraic_CCtxIdeal_CCtxRefIdeal_pre_finite_rows [hCCtxIdeal : Cert.CCtxIdeal.Facts] [hCCtxRefIdeal : Cert.CCtxRefIdeal.Facts] [hPre_finite_rows : Cert.Pre_finite_rows.Facts] : Prop :=
  ∀ (m : (ℓ : Loc Cert.CCtxIdeal.nD Cert.CCtxIdeal.τ Cert.CCtxIdeal.sig) → Buf (Elt Ideal) ℓ) (g : Dev Cert.CCtxIdeal.nD → PrngReg)
    (m' : (ℓ : Loc Cert.CCtxRefIdeal.nD Cert.CCtxRefIdeal.τ Cert.CCtxRefIdeal.sig) → Buf (Elt Ideal) ℓ) (g' : Dev Cert.CCtxRefIdeal.nD → PrngReg), Pre_CCtxIdeal_finite_rows m →
    (∀ c : Dev Cert.CCtxIdeal.nD,
      m' ((c.tc : Thread Cert.CCtxRefIdeal.nD Cert.CCtxRefIdeal.τ).loc Cert.CCtxRefIdeal.main_arg0) = m ((c.tc : Thread Cert.CCtxIdeal.nD Cert.CCtxIdeal.τ).loc Cert.CCtxIdeal.main_arg0)
      ∧ m' ((c.tc : Thread Cert.CCtxRefIdeal.nD Cert.CCtxRefIdeal.τ).loc Cert.CCtxRefIdeal.main_arg1) = m ((c.tc : Thread Cert.CCtxIdeal.nD Cert.CCtxIdeal.τ).loc Cert.CCtxIdeal.main_arg1)) →
    ∃ (v0 : (c : Dev Cert.CCtxIdeal.nD) → Buf (Elt Ideal) ((c.tc : Thread Cert.CCtxIdeal.nD Cert.CCtxIdeal.τ).loc Cert.CCtxIdeal.main_v3)),
      θ_run (Cert.CCtxIdeal.defs (F := Ideal)) (onTc (τ := Cert.CCtxIdeal.τ) (Cert.CCtxIdeal.main (F := Ideal))) ⟨m, fun _ => 0, g⟩ (fun r => ∀ c : Dev Cert.CCtxIdeal.nD,
          r.2.mem ((c.tc : Thread Cert.CCtxIdeal.nD Cert.CCtxIdeal.τ).loc Cert.CCtxIdeal.main_v3) = v0 c
          ∧ r.2.mem ((c.tc : Thread Cert.CCtxIdeal.nD Cert.CCtxIdeal.τ).loc Cert.CCtxIdeal.main_arg0) = m ((c.tc : Thread Cert.CCtxIdeal.nD Cert.CCtxIdeal.τ).loc Cert.CCtxIdeal.main_arg0)
          ∧ r.2.mem ((c.tc : Thread Cert.CCtxIdeal.nD Cert.CCtxIdeal.τ).loc Cert.CCtxIdeal.main_arg1) = m ((c.tc : Thread Cert.CCtxIdeal.nD Cert.CCtxIdeal.τ).loc Cert.CCtxIdeal.main_arg1))
      ∧ θ_run (Cert.CCtxRefIdeal.defs (F := Ideal)) (onTc (τ := Cert.CCtxRefIdeal.τ) (Cert.CCtxRefIdeal.main (F := Ideal))) ⟨m', fun _ => 0, g'⟩ (fun r => ∀ c : Dev Cert.CCtxRefIdeal.nD,
          r.2.mem ((c.tc : Thread Cert.CCtxRefIdeal.nD Cert.CCtxRefIdeal.τ).loc Cert.CCtxRefIdeal.main_v3) = v0 c
          ∧ r.2.mem ((c.tc : Thread Cert.CCtxRefIdeal.nD Cert.CCtxRefIdeal.τ).loc Cert.CCtxRefIdeal.main_arg0) = m' ((c.tc : Thread Cert.CCtxRefIdeal.nD Cert.CCtxRefIdeal.τ).loc Cert.CCtxRefIdeal.main_arg0)
          ∧ r.2.mem ((c.tc : Thread Cert.CCtxRefIdeal.nD Cert.CCtxRefIdeal.τ).loc Cert.CCtxRefIdeal.main_arg1) = m' ((c.tc : Thread Cert.CCtxRefIdeal.nD Cert.CCtxRefIdeal.τ).loc Cert.CCtxRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)
      ∧ m' ((c.tc : Thread Cert.SumSmallRefIdeal.nD Cert.SumSmallRefIdeal.τ).loc Cert.SumSmallRefIdeal.main_arg1) = m ((c.tc : Thread Cert.SumSmallIdeal.nD Cert.SumSmallIdeal.τ).loc Cert.SumSmallIdeal.main_arg1)
      ∧ m' ((c.tc : Thread Cert.SumSmallRefIdeal.nD Cert.SumSmallRefIdeal.τ).loc Cert.SumSmallRefIdeal.main_arg2) = m ((c.tc : Thread Cert.SumSmallIdeal.nD Cert.SumSmallIdeal.τ).loc Cert.SumSmallIdeal.main_arg2)
      ∧ m' ((c.tc : Thread Cert.SumSmallRefIdeal.nD Cert.SumSmallRefIdeal.τ).loc Cert.SumSmallRefIdeal.main_arg3) = m ((c.tc : Thread Cert.SumSmallIdeal.nD Cert.SumSmallIdeal.τ).loc Cert.SumSmallIdeal.main_arg3)
      ∧ m' ((c.tc : Thread Cert.SumSmallRefIdeal.nD Cert.SumSmallRefIdeal.τ).loc Cert.SumSmallRefIdeal.main_arg4) = m ((c.tc : Thread Cert.SumSmallIdeal.nD Cert.SumSmallIdeal.τ).loc Cert.SumSmallIdeal.main_arg4)
      ∧ m' ((c.tc : Thread Cert.SumSmallRefIdeal.nD Cert.SumSmallRefIdeal.τ).loc Cert.SumSmallRefIdeal.main_arg5) = m ((c.tc : Thread Cert.SumSmallIdeal.nD Cert.SumSmallIdeal.τ).loc Cert.SumSmallIdeal.main_arg5)
      ∧ m' ((c.tc : Thread Cert.SumSmallRefIdeal.nD Cert.SumSmallRefIdeal.τ).loc Cert.SumSmallRefIdeal.main_arg6) = m ((c.tc : Thread Cert.SumSmallIdeal.nD Cert.SumSmallIdeal.τ).loc Cert.SumSmallIdeal.main_arg6)
      ∧ m' ((c.tc : Thread Cert.SumSmallRefIdeal.nD Cert.SumSmallRefIdeal.τ).loc Cert.SumSmallRefIdeal.main_arg7) = m ((c.tc : Thread Cert.SumSmallIdeal.nD Cert.SumSmallIdeal.τ).loc Cert.SumSmallIdeal.main_arg7)
      ∧ m' ((c.tc : Thread Cert.SumSmallRefIdeal.nD Cert.SumSmallRefIdeal.τ).loc Cert.SumSmallRefIdeal.main_arg8) = m ((c.tc : Thread Cert.SumSmallIdeal.nD Cert.SumSmallIdeal.τ).loc Cert.SumSmallIdeal.main_arg8)
      ∧ m' ((c.tc : Thread Cert.SumSmallRefIdeal.nD Cert.SumSmallRefIdeal.τ).loc Cert.SumSmallRefIdeal.main_arg9) = m ((c.tc : Thread Cert.SumSmallIdeal.nD Cert.SumSmallIdeal.τ).loc Cert.SumSmallIdeal.main_arg9)
      ∧ m' ((c.tc : Thread Cert.SumSmallRefIdeal.nD Cert.SumSmallRefIdeal.τ).loc Cert.SumSmallRefIdeal.main_arg10) = m ((c.tc : Thread Cert.SumSmallIdeal.nD Cert.SumSmallIdeal.τ).loc Cert.SumSmallIdeal.main_arg10)) →
    ∃ (v0 : (c : Dev Cert.SumSmallIdeal.nD) → Buf (Elt Ideal) ((c.tc : Thread Cert.SumSmallIdeal.nD Cert.SumSmallIdeal.τ).loc Cert.SumSmallIdeal.main_v20)) (v1 : (c : Dev Cert.SumSmallIdeal.nD) → Buf (Elt Ideal) ((c.tc : Thread Cert.SumSmallIdeal.nD Cert.SumSmallIdeal.τ).loc Cert.SumSmallIdeal.main_v28)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v20) = v0 c
          ∧ r.2.mem ((c.tc : Thread Cert.SumSmallIdeal.nD Cert.SumSmallIdeal.τ).loc Cert.SumSmallIdeal.main_v28) = v1 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0)
          ∧ r.2.mem ((c.tc : Thread Cert.SumSmallIdeal.nD Cert.SumSmallIdeal.τ).loc Cert.SumSmallIdeal.main_arg1) = m ((c.tc : Thread Cert.SumSmallIdeal.nD Cert.SumSmallIdeal.τ).loc Cert.SumSmallIdeal.main_arg1)
          ∧ r.2.mem ((c.tc : Thread Cert.SumSmallIdeal.nD Cert.SumSmallIdeal.τ).loc Cert.SumSmallIdeal.main_arg2) = m ((c.tc : Thread Cert.SumSmallIdeal.nD Cert.SumSmallIdeal.τ).loc Cert.SumSmallIdeal.main_arg2)
          ∧ r.2.mem ((c.tc : Thread Cert.SumSmallIdeal.nD Cert.SumSmallIdeal.τ).loc Cert.SumSmallIdeal.main_arg3) = m ((c.tc : Thread Cert.SumSmallIdeal.nD Cert.SumSmallIdeal.τ).loc Cert.SumSmallIdeal.main_arg3)
          ∧ r.2.mem ((c.tc : Thread Cert.SumSmallIdeal.nD Cert.SumSmallIdeal.τ).loc Cert.SumSmallIdeal.main_arg4) = m ((c.tc : Thread Cert.SumSmallIdeal.nD Cert.SumSmallIdeal.τ).loc Cert.SumSmallIdeal.main_arg4)
          ∧ r.2.mem ((c.tc : Thread Cert.SumSmallIdeal.nD Cert.SumSmallIdeal.τ).loc Cert.SumSmallIdeal.main_arg5) = m ((c.tc : Thread Cert.SumSmallIdeal.nD Cert.SumSmallIdeal.τ).loc Cert.SumSmallIdeal.main_arg5)
          ∧ r.2.mem ((c.tc : Thread Cert.SumSmallIdeal.nD Cert.SumSmallIdeal.τ).loc Cert.SumSmallIdeal.main_arg6) = m ((c.tc : Thread Cert.SumSmallIdeal.nD Cert.SumSmallIdeal.τ).loc Cert.SumSmallIdeal.main_arg6)
          ∧ r.2.mem ((c.tc : Thread Cert.SumSmallIdeal.nD Cert.SumSmallIdeal.τ).loc Cert.SumSmallIdeal.main_arg7) = m ((c.tc : Thread Cert.SumSmallIdeal.nD Cert.SumSmallIdeal.τ).loc Cert.SumSmallIdeal.main_arg7)
          ∧ r.2.mem ((c.tc : Thread Cert.SumSmallIdeal.nD Cert.SumSmallIdeal.τ).loc Cert.SumSmallIdeal.main_arg8) = m ((c.tc : Thread Cert.SumSmallIdeal.nD Cert.SumSmallIdeal.τ).loc Cert.SumSmallIdeal.main_arg8)
          ∧ r.2.mem ((c.tc : Thread Cert.SumSmallIdeal.nD Cert.SumSmallIdeal.τ).loc Cert.SumSmallIdeal.main_arg9) = m ((c.tc : Thread Cert.SumSmallIdeal.nD Cert.SumSmallIdeal.τ).loc Cert.SumSmallIdeal.main_arg9)
          ∧ r.2.mem ((c.tc : Thread Cert.SumSmallIdeal.nD Cert.SumSmallIdeal.τ).loc Cert.SumSmallIdeal.main_arg10) = m ((c.tc : Thread Cert.SumSmallIdeal.nD Cert.SumSmallIdeal.τ).loc Cert.SumSmallIdeal.main_arg10))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v29) = v0 c
          ∧ r.2.mem ((c.tc : Thread Cert.SumSmallRefIdeal.nD Cert.SumSmallRefIdeal.τ).loc Cert.SumSmallRefIdeal.main_v31) = v1 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0)
          ∧ r.2.mem ((c.tc : Thread Cert.SumSmallRefIdeal.nD Cert.SumSmallRefIdeal.τ).loc Cert.SumSmallRefIdeal.main_arg1) = m' ((c.tc : Thread Cert.SumSmallRefIdeal.nD Cert.SumSmallRefIdeal.τ).loc Cert.SumSmallRefIdeal.main_arg1)
          ∧ r.2.mem ((c.tc : Thread Cert.SumSmallRefIdeal.nD Cert.SumSmallRefIdeal.τ).loc Cert.SumSmallRefIdeal.main_arg2) = m' ((c.tc : Thread Cert.SumSmallRefIdeal.nD Cert.SumSmallRefIdeal.τ).loc Cert.SumSmallRefIdeal.main_arg2)
          ∧ r.2.mem ((c.tc : Thread Cert.SumSmallRefIdeal.nD Cert.SumSmallRefIdeal.τ).loc Cert.SumSmallRefIdeal.main_arg3) = m' ((c.tc : Thread Cert.SumSmallRefIdeal.nD Cert.SumSmallRefIdeal.τ).loc Cert.SumSmallRefIdeal.main_arg3)
          ∧ r.2.mem ((c.tc : Thread Cert.SumSmallRefIdeal.nD Cert.SumSmallRefIdeal.τ).loc Cert.SumSmallRefIdeal.main_arg4) = m' ((c.tc : Thread Cert.SumSmallRefIdeal.nD Cert.SumSmallRefIdeal.τ).loc Cert.SumSmallRefIdeal.main_arg4)
          ∧ r.2.mem ((c.tc : Thread Cert.SumSmallRefIdeal.nD Cert.SumSmallRefIdeal.τ).loc Cert.SumSmallRefIdeal.main_arg5) = m' ((c.tc : Thread Cert.SumSmallRefIdeal.nD Cert.SumSmallRefIdeal.τ).loc Cert.SumSmallRefIdeal.main_arg5)
          ∧ r.2.mem ((c.tc : Thread Cert.SumSmallRefIdeal.nD Cert.SumSmallRefIdeal.τ).loc Cert.SumSmallRefIdeal.main_arg6) = m' ((c.tc : Thread Cert.SumSmallRefIdeal.nD Cert.SumSmallRefIdeal.τ).loc Cert.SumSmallRefIdeal.main_arg6)
          ∧ r.2.mem ((c.tc : Thread Cert.SumSmallRefIdeal.nD Cert.SumSmallRefIdeal.τ).loc Cert.SumSmallRefIdeal.main_arg7) = m' ((c.tc : Thread Cert.SumSmallRefIdeal.nD Cert.SumSmallRefIdeal.τ).loc Cert.SumSmallRefIdeal.main_arg7)
          ∧ r.2.mem ((c.tc : Thread Cert.SumSmallRefIdeal.nD Cert.SumSmallRefIdeal.τ).loc Cert.SumSmallRefIdeal.main_arg8) = m' ((c.tc : Thread Cert.SumSmallRefIdeal.nD Cert.SumSmallRefIdeal.τ).loc Cert.SumSmallRefIdeal.main_arg8)
          ∧ r.2.mem ((c.tc : Thread Cert.SumSmallRefIdeal.nD Cert.SumSmallRefIdeal.τ).loc Cert.SumSmallRefIdeal.main_arg9) = m' ((c.tc : Thread Cert.SumSmallRefIdeal.nD Cert.SumSmallRefIdeal.τ).loc Cert.SumSmallRefIdeal.main_arg9)
          ∧ r.2.mem ((c.tc : Thread Cert.SumSmallRefIdeal.nD Cert.SumSmallRefIdeal.τ).loc Cert.SumSmallRefIdeal.main_arg10) = m' ((c.tc : Thread Cert.SumSmallRefIdeal.nD Cert.SumSmallRefIdeal.τ).loc Cert.SumSmallRefIdeal.main_arg10))

def preserves_SumInTop_SumInTopIdeal : Prop :=
  True

def algebraic_SumInTopIdeal_SumInTopRefIdeal [hSumInTopIdeal : Cert.SumInTopIdeal.Facts] [hSumInTopRefIdeal : Cert.SumInTopRefIdeal.Facts] : Prop :=
  ∀ (m : (ℓ : Loc Cert.SumInTopIdeal.nD Cert.SumInTopIdeal.τ Cert.SumInTopIdeal.sig) → Buf (Elt Ideal) ℓ) (g : Dev Cert.SumInTopIdeal.nD → PrngReg)
    (m' : (ℓ : Loc Cert.SumInTopRefIdeal.nD Cert.SumInTopRefIdeal.τ Cert.SumInTopRefIdeal.sig) → Buf (Elt Ideal) ℓ) (g' : Dev Cert.SumInTopRefIdeal.nD → PrngReg), Pre_SumInTopIdeal m →
    (∀ c : Dev Cert.SumInTopIdeal.nD,
      m' ((c.tc : Thread Cert.SumInTopRefIdeal.nD Cert.SumInTopRefIdeal.τ).loc Cert.SumInTopRefIdeal.main_arg0) = m ((c.tc : Thread Cert.SumInTopIdeal.nD Cert.SumInTopIdeal.τ).loc Cert.SumInTopIdeal.main_arg0)
      ∧ m' ((c.tc : Thread Cert.SumInTopRefIdeal.nD Cert.SumInTopRefIdeal.τ).loc Cert.SumInTopRefIdeal.main_arg1) = m ((c.tc : Thread Cert.SumInTopIdeal.nD Cert.SumInTopIdeal.τ).loc Cert.SumInTopIdeal.main_arg1)) →
    ∃ (v0 : (c : Dev Cert.SumInTopIdeal.nD) → Buf (Elt Ideal) ((c.tc : Thread Cert.SumInTopIdeal.nD Cert.SumInTopIdeal.τ).loc Cert.SumInTopIdeal.main_v6)),
      θ_run (Cert.SumInTopIdeal.defs (F := Ideal)) (onTc (τ := Cert.SumInTopIdeal.τ) (Cert.SumInTopIdeal.main (F := Ideal))) ⟨m, fun _ => 0, g⟩ (fun r => ∀ c : Dev Cert.SumInTopIdeal.nD,
          r.2.mem ((c.tc : Thread Cert.SumInTopIdeal.nD Cert.SumInTopIdeal.τ).loc Cert.SumInTopIdeal.main_v6) = v0 c
          ∧ r.2.mem ((c.tc : Thread Cert.SumInTopIdeal.nD Cert.SumInTopIdeal.τ).loc Cert.SumInTopIdeal.main_arg0) = m ((c.tc : Thread Cert.SumInTopIdeal.nD Cert.SumInTopIdeal.τ).loc Cert.SumInTopIdeal.main_arg0)
          ∧ r.2.mem ((c.tc : Thread Cert.SumInTopIdeal.nD Cert.SumInTopIdeal.τ).loc Cert.SumInTopIdeal.main_arg1) = m ((c.tc : Thread Cert.SumInTopIdeal.nD Cert.SumInTopIdeal.τ).loc Cert.SumInTopIdeal.main_arg1))
      ∧ θ_run (Cert.SumInTopRefIdeal.defs (F := Ideal)) (onTc (τ := Cert.SumInTopRefIdeal.τ) (Cert.SumInTopRefIdeal.main (F := Ideal))) ⟨m', fun _ => 0, g'⟩ (fun r => ∀ c : Dev Cert.SumInTopRefIdeal.nD,
          r.2.mem ((c.tc : Thread Cert.SumInTopRefIdeal.nD Cert.SumInTopRefIdeal.τ).loc Cert.SumInTopRefIdeal.main_v5) = v0 c
          ∧ r.2.mem ((c.tc : Thread Cert.SumInTopRefIdeal.nD Cert.SumInTopRefIdeal.τ).loc Cert.SumInTopRefIdeal.main_arg0) = m' ((c.tc : Thread Cert.SumInTopRefIdeal.nD Cert.SumInTopRefIdeal.τ).loc Cert.SumInTopRefIdeal.main_arg0)
          ∧ r.2.mem ((c.tc : Thread Cert.SumInTopRefIdeal.nD Cert.SumInTopRefIdeal.τ).loc Cert.SumInTopRefIdeal.main_arg1) = m' ((c.tc : Thread Cert.SumInTopRefIdeal.nD Cert.SumInTopRefIdeal.τ).loc Cert.SumInTopRefIdeal.main_arg1))

def preserves_SumInBottom_SumInBottomIdeal : Prop :=
  True

def algebraic_SumInBottomIdeal_SumInBottomRefIdeal [hSumInBottomIdeal : Cert.SumInBottomIdeal.Facts] [hSumInBottomRefIdeal : Cert.SumInBottomRefIdeal.Facts] : Prop :=
  ∀ (m : (ℓ : Loc Cert.SumInBottomIdeal.nD Cert.SumInBottomIdeal.τ Cert.SumInBottomIdeal.sig) → Buf (Elt Ideal) ℓ) (g : Dev Cert.SumInBottomIdeal.nD → PrngReg)
    (m' : (ℓ : Loc Cert.SumInBottomRefIdeal.nD Cert.SumInBottomRefIdeal.τ Cert.SumInBottomRefIdeal.sig) → Buf (Elt Ideal) ℓ) (g' : Dev Cert.SumInBottomRefIdeal.nD → PrngReg), Pre_SumInBottomIdeal m →
    (∀ c : Dev Cert.SumInBottomIdeal.nD,
      m' ((c.tc : Thread Cert.SumInBottomRefIdeal.nD Cert.SumInBottomRefIdeal.τ).loc Cert.SumInBottomRefIdeal.main_arg0) = m ((c.tc : Thread Cert.SumInBottomIdeal.nD Cert.SumInBottomIdeal.τ).loc Cert.SumInBottomIdeal.main_arg0)
      ∧ m' ((c.tc : Thread Cert.SumInBottomRefIdeal.nD Cert.SumInBottomRefIdeal.τ).loc Cert.SumInBottomRefIdeal.main_arg1) = m ((c.tc : Thread Cert.SumInBottomIdeal.nD Cert.SumInBottomIdeal.τ).loc Cert.SumInBottomIdeal.main_arg1)) →
    ∃ (v0 : (c : Dev Cert.SumInBottomIdeal.nD) → Buf (Elt Ideal) ((c.tc : Thread Cert.SumInBottomIdeal.nD Cert.SumInBottomIdeal.τ).loc Cert.SumInBottomIdeal.main_v6)),
      θ_run (Cert.SumInBottomIdeal.defs (F := Ideal)) (onTc (τ := Cert.SumInBottomIdeal.τ) (Cert.SumInBottomIdeal.main (F := Ideal))) ⟨m, fun _ => 0, g⟩ (fun r => ∀ c : Dev Cert.SumInBottomIdeal.nD,
          r.2.mem ((c.tc : Thread Cert.SumInBottomIdeal.nD Cert.SumInBottomIdeal.τ).loc Cert.SumInBottomIdeal.main_v6) = v0 c
          ∧ r.2.mem ((c.tc : Thread Cert.SumInBottomIdeal.nD Cert.SumInBottomIdeal.τ).loc Cert.SumInBottomIdeal.main_arg0) = m ((c.tc : Thread Cert.SumInBottomIdeal.nD Cert.SumInBottomIdeal.τ).loc Cert.SumInBottomIdeal.main_arg0)
          ∧ r.2.mem ((c.tc : Thread Cert.SumInBottomIdeal.nD Cert.SumInBottomIdeal.τ).loc Cert.SumInBottomIdeal.main_arg1) = m ((c.tc : Thread Cert.SumInBottomIdeal.nD Cert.SumInBottomIdeal.τ).loc Cert.SumInBottomIdeal.main_arg1))
      ∧ θ_run (Cert.SumInBottomRefIdeal.defs (F := Ideal)) (onTc (τ := Cert.SumInBottomRefIdeal.τ) (Cert.SumInBottomRefIdeal.main (F := Ideal))) ⟨m', fun _ => 0, g'⟩ (fun r => ∀ c : Dev Cert.SumInBottomRefIdeal.nD,
          r.2.mem ((c.tc : Thread Cert.SumInBottomRefIdeal.nD Cert.SumInBottomRefIdeal.τ).loc Cert.SumInBottomRefIdeal.main_v5) = v0 c
          ∧ r.2.mem ((c.tc : Thread Cert.SumInBottomRefIdeal.nD Cert.SumInBottomRefIdeal.τ).loc Cert.SumInBottomRefIdeal.main_arg0) = m' ((c.tc : Thread Cert.SumInBottomRefIdeal.nD Cert.SumInBottomRefIdeal.τ).loc Cert.SumInBottomRefIdeal.main_arg0)
          ∧ r.2.mem ((c.tc : Thread Cert.SumInBottomRefIdeal.nD Cert.SumInBottomRefIdeal.τ).loc Cert.SumInBottomRefIdeal.main_arg1) = m' ((c.tc : Thread Cert.SumInBottomRefIdeal.nD Cert.SumInBottomRefIdeal.τ).loc Cert.SumInBottomRefIdeal.main_arg1))

def preserves_SumBranchTop_SumBranchTopIdeal : Prop :=
  True

def algebraic_SumBranchTopIdeal_SumBranchTopRefIdeal [hSumBranchTopIdeal : Cert.SumBranchTopIdeal.Facts] [hSumBranchTopRefIdeal : Cert.SumBranchTopRefIdeal.Facts] : Prop :=
  ∀ (m : (ℓ : Loc Cert.SumBranchTopIdeal.nD Cert.SumBranchTopIdeal.τ Cert.SumBranchTopIdeal.sig) → Buf (Elt Ideal) ℓ) (g : Dev Cert.SumBranchTopIdeal.nD → PrngReg)
    (m' : (ℓ : Loc Cert.SumBranchTopRefIdeal.nD Cert.SumBranchTopRefIdeal.τ Cert.SumBranchTopRefIdeal.sig) → Buf (Elt Ideal) ℓ) (g' : Dev Cert.SumBranchTopRefIdeal.nD → PrngReg), Pre_SumBranchTopIdeal m →
    (∀ c : Dev Cert.SumBranchTopIdeal.nD,
      m' ((c.tc : Thread Cert.SumBranchTopRefIdeal.nD Cert.SumBranchTopRefIdeal.τ).loc Cert.SumBranchTopRefIdeal.main_arg0) = m ((c.tc : Thread Cert.SumBranchTopIdeal.nD Cert.SumBranchTopIdeal.τ).loc Cert.SumBranchTopIdeal.main_arg0)
      ∧ m' ((c.tc : Thread Cert.SumBranchTopRefIdeal.nD Cert.SumBranchTopRefIdeal.τ).loc Cert.SumBranchTopRefIdeal.main_arg1) = m ((c.tc : Thread Cert.SumBranchTopIdeal.nD Cert.SumBranchTopIdeal.τ).loc Cert.SumBranchTopIdeal.main_arg1)) →
    ∃ (v0 : (c : Dev Cert.SumBranchTopIdeal.nD) → Buf (Elt Ideal) ((c.tc : Thread Cert.SumBranchTopIdeal.nD Cert.SumBranchTopIdeal.τ).loc Cert.SumBranchTopIdeal.main_v6)),
      θ_run (Cert.SumBranchTopIdeal.defs (F := Ideal)) (onTc (τ := Cert.SumBranchTopIdeal.τ) (Cert.SumBranchTopIdeal.main (F := Ideal))) ⟨m, fun _ => 0, g⟩ (fun r => ∀ c : Dev Cert.SumBranchTopIdeal.nD,
          r.2.mem ((c.tc : Thread Cert.SumBranchTopIdeal.nD Cert.SumBranchTopIdeal.τ).loc Cert.SumBranchTopIdeal.main_v6) = v0 c
          ∧ r.2.mem ((c.tc : Thread Cert.SumBranchTopIdeal.nD Cert.SumBranchTopIdeal.τ).loc Cert.SumBranchTopIdeal.main_arg0) = m ((c.tc : Thread Cert.SumBranchTopIdeal.nD Cert.SumBranchTopIdeal.τ).loc Cert.SumBranchTopIdeal.main_arg0)
          ∧ r.2.mem ((c.tc : Thread Cert.SumBranchTopIdeal.nD Cert.SumBranchTopIdeal.τ).loc Cert.SumBranchTopIdeal.main_arg1) = m ((c.tc : Thread Cert.SumBranchTopIdeal.nD Cert.SumBranchTopIdeal.τ).loc Cert.SumBranchTopIdeal.main_arg1))
      ∧ θ_run (Cert.SumBranchTopRefIdeal.defs (F := Ideal)) (onTc (τ := Cert.SumBranchTopRefIdeal.τ) (Cert.SumBranchTopRefIdeal.main (F := Ideal))) ⟨m', fun _ => 0, g'⟩ (fun r => ∀ c : Dev Cert.SumBranchTopRefIdeal.nD,
          r.2.mem ((c.tc : Thread Cert.SumBranchTopRefIdeal.nD Cert.SumBranchTopRefIdeal.τ).loc Cert.SumBranchTopRefIdeal.main_v5) = v0 c
          ∧ r.2.mem ((c.tc : Thread Cert.SumBranchTopRefIdeal.nD Cert.SumBranchTopRefIdeal.τ).loc Cert.SumBranchTopRefIdeal.main_arg0) = m' ((c.tc : Thread Cert.SumBranchTopRefIdeal.nD Cert.SumBranchTopRefIdeal.τ).loc Cert.SumBranchTopRefIdeal.main_arg0)
          ∧ r.2.mem ((c.tc : Thread Cert.SumBranchTopRefIdeal.nD Cert.SumBranchTopRefIdeal.τ).loc Cert.SumBranchTopRefIdeal.main_arg1) = m' ((c.tc : Thread Cert.SumBranchTopRefIdeal.nD Cert.SumBranchTopRefIdeal.τ).loc Cert.SumBranchTopRefIdeal.main_arg1))

def preserves_SumBranchBottom_SumBranchBottomIdeal : Prop :=
  True

def algebraic_SumBranchBottomIdeal_SumBranchBottomRefIdeal [hSumBranchBottomIdeal : Cert.SumBranchBottomIdeal.Facts] [hSumBranchBottomRefIdeal : Cert.SumBranchBottomRefIdeal.Facts] : Prop :=
  ∀ (m : (ℓ : Loc Cert.SumBranchBottomIdeal.nD Cert.SumBranchBottomIdeal.τ Cert.SumBranchBottomIdeal.sig) → Buf (Elt Ideal) ℓ) (g : Dev Cert.SumBranchBottomIdeal.nD → PrngReg)
    (m' : (ℓ : Loc Cert.SumBranchBottomRefIdeal.nD Cert.SumBranchBottomRefIdeal.τ Cert.SumBranchBottomRefIdeal.sig) → Buf (Elt Ideal) ℓ) (g' : Dev Cert.SumBranchBottomRefIdeal.nD → PrngReg), Pre_SumBranchBottomIdeal m →
    (∀ c : Dev Cert.SumBranchBottomIdeal.nD,
      m' ((c.tc : Thread Cert.SumBranchBottomRefIdeal.nD Cert.SumBranchBottomRefIdeal.τ).loc Cert.SumBranchBottomRefIdeal.main_arg0) = m ((c.tc : Thread Cert.SumBranchBottomIdeal.nD Cert.SumBranchBottomIdeal.τ).loc Cert.SumBranchBottomIdeal.main_arg0)
      ∧ m' ((c.tc : Thread Cert.SumBranchBottomRefIdeal.nD Cert.SumBranchBottomRefIdeal.τ).loc Cert.SumBranchBottomRefIdeal.main_arg1) = m ((c.tc : Thread Cert.SumBranchBottomIdeal.nD Cert.SumBranchBottomIdeal.τ).loc Cert.SumBranchBottomIdeal.main_arg1)) →
    ∃ (v0 : (c : Dev Cert.SumBranchBottomIdeal.nD) → Buf (Elt Ideal) ((c.tc : Thread Cert.SumBranchBottomIdeal.nD Cert.SumBranchBottomIdeal.τ).loc Cert.SumBranchBottomIdeal.main_v6)),
      θ_run (Cert.SumBranchBottomIdeal.defs (F := Ideal)) (onTc (τ := Cert.SumBranchBottomIdeal.τ) (Cert.SumBranchBottomIdeal.main (F := Ideal))) ⟨m, fun _ => 0, g⟩ (fun r => ∀ c : Dev Cert.SumBranchBottomIdeal.nD,
          r.2.mem ((c.tc : Thread Cert.SumBranchBottomIdeal.nD Cert.SumBranchBottomIdeal.τ).loc Cert.SumBranchBottomIdeal.main_v6) = v0 c
          ∧ r.2.mem ((c.tc : Thread Cert.SumBranchBottomIdeal.nD Cert.SumBranchBottomIdeal.τ).loc Cert.SumBranchBottomIdeal.main_arg0) = m ((c.tc : Thread Cert.SumBranchBottomIdeal.nD Cert.SumBranchBottomIdeal.τ).loc Cert.SumBranchBottomIdeal.main_arg0)
          ∧ r.2.mem ((c.tc : Thread Cert.SumBranchBottomIdeal.nD Cert.SumBranchBottomIdeal.τ).loc Cert.SumBranchBottomIdeal.main_arg1) = m ((c.tc : Thread Cert.SumBranchBottomIdeal.nD Cert.SumBranchBottomIdeal.τ).loc Cert.SumBranchBottomIdeal.main_arg1))
      ∧ θ_run (Cert.SumBranchBottomRefIdeal.defs (F := Ideal)) (onTc (τ := Cert.SumBranchBottomRefIdeal.τ) (Cert.SumBranchBottomRefIdeal.main (F := Ideal))) ⟨m', fun _ => 0, g'⟩ (fun r => ∀ c : Dev Cert.SumBranchBottomRefIdeal.nD,
          r.2.mem ((c.tc : Thread Cert.SumBranchBottomRefIdeal.nD Cert.SumBranchBottomRefIdeal.τ).loc Cert.SumBranchBottomRefIdeal.main_v5) = v0 c
          ∧ r.2.mem ((c.tc : Thread Cert.SumBranchBottomRefIdeal.nD Cert.SumBranchBottomRefIdeal.τ).loc Cert.SumBranchBottomRefIdeal.main_arg0) = m' ((c.tc : Thread Cert.SumBranchBottomRefIdeal.nD Cert.SumBranchBottomRefIdeal.τ).loc Cert.SumBranchBottomRefIdeal.main_arg0)
          ∧ r.2.mem ((c.tc : Thread Cert.SumBranchBottomRefIdeal.nD Cert.SumBranchBottomRefIdeal.τ).loc Cert.SumBranchBottomRefIdeal.main_arg1) = m' ((c.tc : Thread Cert.SumBranchBottomRefIdeal.nD Cert.SumBranchBottomRefIdeal.τ).loc Cert.SumBranchBottomRefIdeal.main_arg1))

def preserves_SumOutTop_SumOutTopIdeal : Prop :=
  True

def algebraic_SumOutTopIdeal_SumOutTopRefIdeal [hSumOutTopIdeal : Cert.SumOutTopIdeal.Facts] [hSumOutTopRefIdeal : Cert.SumOutTopRefIdeal.Facts] : Prop :=
  ∀ (m : (ℓ : Loc Cert.SumOutTopIdeal.nD Cert.SumOutTopIdeal.τ Cert.SumOutTopIdeal.sig) → Buf (Elt Ideal) ℓ) (g : Dev Cert.SumOutTopIdeal.nD → PrngReg)
    (m' : (ℓ : Loc Cert.SumOutTopRefIdeal.nD Cert.SumOutTopRefIdeal.τ Cert.SumOutTopRefIdeal.sig) → Buf (Elt Ideal) ℓ) (g' : Dev Cert.SumOutTopRefIdeal.nD → PrngReg), Pre_SumOutTopIdeal m →
    (∀ c : Dev Cert.SumOutTopIdeal.nD,
      m' ((c.tc : Thread Cert.SumOutTopRefIdeal.nD Cert.SumOutTopRefIdeal.τ).loc Cert.SumOutTopRefIdeal.main_arg0) = m ((c.tc : Thread Cert.SumOutTopIdeal.nD Cert.SumOutTopIdeal.τ).loc Cert.SumOutTopIdeal.main_arg0)
      ∧ m' ((c.tc : Thread Cert.SumOutTopRefIdeal.nD Cert.SumOutTopRefIdeal.τ).loc Cert.SumOutTopRefIdeal.main_arg1) = m ((c.tc : Thread Cert.SumOutTopIdeal.nD Cert.SumOutTopIdeal.τ).loc Cert.SumOutTopIdeal.main_arg1)) →
    ∃ (v0 : (c : Dev Cert.SumOutTopIdeal.nD) → Buf (Elt Ideal) ((c.tc : Thread Cert.SumOutTopIdeal.nD Cert.SumOutTopIdeal.τ).loc Cert.SumOutTopIdeal.main_v6)),
      θ_run (Cert.SumOutTopIdeal.defs (F := Ideal)) (onTc (τ := Cert.SumOutTopIdeal.τ) (Cert.SumOutTopIdeal.main (F := Ideal))) ⟨m, fun _ => 0, g⟩ (fun r => ∀ c : Dev Cert.SumOutTopIdeal.nD,
          r.2.mem ((c.tc : Thread Cert.SumOutTopIdeal.nD Cert.SumOutTopIdeal.τ).loc Cert.SumOutTopIdeal.main_v6) = v0 c
          ∧ r.2.mem ((c.tc : Thread Cert.SumOutTopIdeal.nD Cert.SumOutTopIdeal.τ).loc Cert.SumOutTopIdeal.main_arg0) = m ((c.tc : Thread Cert.SumOutTopIdeal.nD Cert.SumOutTopIdeal.τ).loc Cert.SumOutTopIdeal.main_arg0)
          ∧ r.2.mem ((c.tc : Thread Cert.SumOutTopIdeal.nD Cert.SumOutTopIdeal.τ).loc Cert.SumOutTopIdeal.main_arg1) = m ((c.tc : Thread Cert.SumOutTopIdeal.nD Cert.SumOutTopIdeal.τ).loc Cert.SumOutTopIdeal.main_arg1))
      ∧ θ_run (Cert.SumOutTopRefIdeal.defs (F := Ideal)) (onTc (τ := Cert.SumOutTopRefIdeal.τ) (Cert.SumOutTopRefIdeal.main (F := Ideal))) ⟨m', fun _ => 0, g'⟩ (fun r => ∀ c : Dev Cert.SumOutTopRefIdeal.nD,
          r.2.mem ((c.tc : Thread Cert.SumOutTopRefIdeal.nD Cert.SumOutTopRefIdeal.τ).loc Cert.SumOutTopRefIdeal.main_v5) = v0 c
          ∧ r.2.mem ((c.tc : Thread Cert.SumOutTopRefIdeal.nD Cert.SumOutTopRefIdeal.τ).loc Cert.SumOutTopRefIdeal.main_arg0) = m' ((c.tc : Thread Cert.SumOutTopRefIdeal.nD Cert.SumOutTopRefIdeal.τ).loc Cert.SumOutTopRefIdeal.main_arg0)
          ∧ r.2.mem ((c.tc : Thread Cert.SumOutTopRefIdeal.nD Cert.SumOutTopRefIdeal.τ).loc Cert.SumOutTopRefIdeal.main_arg1) = m' ((c.tc : Thread Cert.SumOutTopRefIdeal.nD Cert.SumOutTopRefIdeal.τ).loc Cert.SumOutTopRefIdeal.main_arg1))

def preserves_SumOutBottom_SumOutBottomIdeal : Prop :=
  True

def algebraic_SumOutBottomIdeal_SumOutBottomRefIdeal [hSumOutBottomIdeal : Cert.SumOutBottomIdeal.Facts] [hSumOutBottomRefIdeal : Cert.SumOutBottomRefIdeal.Facts] : Prop :=
  ∀ (m : (ℓ : Loc Cert.SumOutBottomIdeal.nD Cert.SumOutBottomIdeal.τ Cert.SumOutBottomIdeal.sig) → Buf (Elt Ideal) ℓ) (g : Dev Cert.SumOutBottomIdeal.nD → PrngReg)
    (m' : (ℓ : Loc Cert.SumOutBottomRefIdeal.nD Cert.SumOutBottomRefIdeal.τ Cert.SumOutBottomRefIdeal.sig) → Buf (Elt Ideal) ℓ) (g' : Dev Cert.SumOutBottomRefIdeal.nD → PrngReg), Pre_SumOutBottomIdeal m →
    (∀ c : Dev Cert.SumOutBottomIdeal.nD,
      m' ((c.tc : Thread Cert.SumOutBottomRefIdeal.nD Cert.SumOutBottomRefIdeal.τ).loc Cert.SumOutBottomRefIdeal.main_arg0) = m ((c.tc : Thread Cert.SumOutBottomIdeal.nD Cert.SumOutBottomIdeal.τ).loc Cert.SumOutBottomIdeal.main_arg0)
      ∧ m' ((c.tc : Thread Cert.SumOutBottomRefIdeal.nD Cert.SumOutBottomRefIdeal.τ).loc Cert.SumOutBottomRefIdeal.main_arg1) = m ((c.tc : Thread Cert.SumOutBottomIdeal.nD Cert.SumOutBottomIdeal.τ).loc Cert.SumOutBottomIdeal.main_arg1)) →
    ∃ (v0 : (c : Dev Cert.SumOutBottomIdeal.nD) → Buf (Elt Ideal) ((c.tc : Thread Cert.SumOutBottomIdeal.nD Cert.SumOutBottomIdeal.τ).loc Cert.SumOutBottomIdeal.main_v6)),
      θ_run (Cert.SumOutBottomIdeal.defs (F := Ideal)) (onTc (τ := Cert.SumOutBottomIdeal.τ) (Cert.SumOutBottomIdeal.main (F := Ideal))) ⟨m, fun _ => 0, g⟩ (fun r => ∀ c : Dev Cert.SumOutBottomIdeal.nD,
          r.2.mem ((c.tc : Thread Cert.SumOutBottomIdeal.nD Cert.SumOutBottomIdeal.τ).loc Cert.SumOutBottomIdeal.main_v6) = v0 c
          ∧ r.2.mem ((c.tc : Thread Cert.SumOutBottomIdeal.nD Cert.SumOutBottomIdeal.τ).loc Cert.SumOutBottomIdeal.main_arg0) = m ((c.tc : Thread Cert.SumOutBottomIdeal.nD Cert.SumOutBottomIdeal.τ).loc Cert.SumOutBottomIdeal.main_arg0)
          ∧ r.2.mem ((c.tc : Thread Cert.SumOutBottomIdeal.nD Cert.SumOutBottomIdeal.τ).loc Cert.SumOutBottomIdeal.main_arg1) = m ((c.tc : Thread Cert.SumOutBottomIdeal.nD Cert.SumOutBottomIdeal.τ).loc Cert.SumOutBottomIdeal.main_arg1))
      ∧ θ_run (Cert.SumOutBottomRefIdeal.defs (F := Ideal)) (onTc (τ := Cert.SumOutBottomRefIdeal.τ) (Cert.SumOutBottomRefIdeal.main (F := Ideal))) ⟨m', fun _ => 0, g'⟩ (fun r => ∀ c : Dev Cert.SumOutBottomRefIdeal.nD,
          r.2.mem ((c.tc : Thread Cert.SumOutBottomRefIdeal.nD Cert.SumOutBottomRefIdeal.τ).loc Cert.SumOutBottomRefIdeal.main_v5) = v0 c
          ∧ r.2.mem ((c.tc : Thread Cert.SumOutBottomRefIdeal.nD Cert.SumOutBottomRefIdeal.τ).loc Cert.SumOutBottomRefIdeal.main_arg0) = m' ((c.tc : Thread Cert.SumOutBottomRefIdeal.nD Cert.SumOutBottomRefIdeal.τ).loc Cert.SumOutBottomRefIdeal.main_arg0)
          ∧ r.2.mem ((c.tc : Thread Cert.SumOutBottomRefIdeal.nD Cert.SumOutBottomRefIdeal.τ).loc Cert.SumOutBottomRefIdeal.main_arg1) = m' ((c.tc : Thread Cert.SumOutBottomRefIdeal.nD Cert.SumOutBottomRefIdeal.τ).loc Cert.SumOutBottomRefIdeal.main_arg1))

def preserves_SumFfn1Top_SumFfn1TopIdeal : Prop :=
  True

def algebraic_SumFfn1TopIdeal_SumFfn1TopRefIdeal [hSumFfn1TopIdeal : Cert.SumFfn1TopIdeal.Facts] [hSumFfn1TopRefIdeal : Cert.SumFfn1TopRefIdeal.Facts] : Prop :=
  ∀ (m : (ℓ : Loc Cert.SumFfn1TopIdeal.nD Cert.SumFfn1TopIdeal.τ Cert.SumFfn1TopIdeal.sig) → Buf (Elt Ideal) ℓ) (g : Dev Cert.SumFfn1TopIdeal.nD → PrngReg)
    (m' : (ℓ : Loc Cert.SumFfn1TopRefIdeal.nD Cert.SumFfn1TopRefIdeal.τ Cert.SumFfn1TopRefIdeal.sig) → Buf (Elt Ideal) ℓ) (g' : Dev Cert.SumFfn1TopRefIdeal.nD → PrngReg), Pre_SumFfn1TopIdeal m →
    (∀ c : Dev Cert.SumFfn1TopIdeal.nD,
      m' ((c.tc : Thread Cert.SumFfn1TopRefIdeal.nD Cert.SumFfn1TopRefIdeal.τ).loc Cert.SumFfn1TopRefIdeal.main_arg0) = m ((c.tc : Thread Cert.SumFfn1TopIdeal.nD Cert.SumFfn1TopIdeal.τ).loc Cert.SumFfn1TopIdeal.main_arg0)
      ∧ m' ((c.tc : Thread Cert.SumFfn1TopRefIdeal.nD Cert.SumFfn1TopRefIdeal.τ).loc Cert.SumFfn1TopRefIdeal.main_arg1) = m ((c.tc : Thread Cert.SumFfn1TopIdeal.nD Cert.SumFfn1TopIdeal.τ).loc Cert.SumFfn1TopIdeal.main_arg1)) →
    ∃ (v0 : (c : Dev Cert.SumFfn1TopIdeal.nD) → Buf (Elt Ideal) ((c.tc : Thread Cert.SumFfn1TopIdeal.nD Cert.SumFfn1TopIdeal.τ).loc Cert.SumFfn1TopIdeal.main_v6)),
      θ_run (Cert.SumFfn1TopIdeal.defs (F := Ideal)) (onTc (τ := Cert.SumFfn1TopIdeal.τ) (Cert.SumFfn1TopIdeal.main (F := Ideal))) ⟨m, fun _ => 0, g⟩ (fun r => ∀ c : Dev Cert.SumFfn1TopIdeal.nD,
          r.2.mem ((c.tc : Thread Cert.SumFfn1TopIdeal.nD Cert.SumFfn1TopIdeal.τ).loc Cert.SumFfn1TopIdeal.main_v6) = v0 c
          ∧ r.2.mem ((c.tc : Thread Cert.SumFfn1TopIdeal.nD Cert.SumFfn1TopIdeal.τ).loc Cert.SumFfn1TopIdeal.main_arg0) = m ((c.tc : Thread Cert.SumFfn1TopIdeal.nD Cert.SumFfn1TopIdeal.τ).loc Cert.SumFfn1TopIdeal.main_arg0)
          ∧ r.2.mem ((c.tc : Thread Cert.SumFfn1TopIdeal.nD Cert.SumFfn1TopIdeal.τ).loc Cert.SumFfn1TopIdeal.main_arg1) = m ((c.tc : Thread Cert.SumFfn1TopIdeal.nD Cert.SumFfn1TopIdeal.τ).loc Cert.SumFfn1TopIdeal.main_arg1))
      ∧ θ_run (Cert.SumFfn1TopRefIdeal.defs (F := Ideal)) (onTc (τ := Cert.SumFfn1TopRefIdeal.τ) (Cert.SumFfn1TopRefIdeal.main (F := Ideal))) ⟨m', fun _ => 0, g'⟩ (fun r => ∀ c : Dev Cert.SumFfn1TopRefIdeal.nD,
          r.2.mem ((c.tc : Thread Cert.SumFfn1TopRefIdeal.nD Cert.SumFfn1TopRefIdeal.τ).loc Cert.SumFfn1TopRefIdeal.main_v5) = v0 c
          ∧ r.2.mem ((c.tc : Thread Cert.SumFfn1TopRefIdeal.nD Cert.SumFfn1TopRefIdeal.τ).loc Cert.SumFfn1TopRefIdeal.main_arg0) = m' ((c.tc : Thread Cert.SumFfn1TopRefIdeal.nD Cert.SumFfn1TopRefIdeal.τ).loc Cert.SumFfn1TopRefIdeal.main_arg0)
          ∧ r.2.mem ((c.tc : Thread Cert.SumFfn1TopRefIdeal.nD Cert.SumFfn1TopRefIdeal.τ).loc Cert.SumFfn1TopRefIdeal.main_arg1) = m' ((c.tc : Thread Cert.SumFfn1TopRefIdeal.nD Cert.SumFfn1TopRefIdeal.τ).loc Cert.SumFfn1TopRefIdeal.main_arg1))

def preserves_SumFfn1Bottom_SumFfn1BottomIdeal : Prop :=
  True

def algebraic_SumFfn1BottomIdeal_SumFfn1BottomRefIdeal [hSumFfn1BottomIdeal : Cert.SumFfn1BottomIdeal.Facts] [hSumFfn1BottomRefIdeal : Cert.SumFfn1BottomRefIdeal.Facts] : Prop :=
  ∀ (m : (ℓ : Loc Cert.SumFfn1BottomIdeal.nD Cert.SumFfn1BottomIdeal.τ Cert.SumFfn1BottomIdeal.sig) → Buf (Elt Ideal) ℓ) (g : Dev Cert.SumFfn1BottomIdeal.nD → PrngReg)
    (m' : (ℓ : Loc Cert.SumFfn1BottomRefIdeal.nD Cert.SumFfn1BottomRefIdeal.τ Cert.SumFfn1BottomRefIdeal.sig) → Buf (Elt Ideal) ℓ) (g' : Dev Cert.SumFfn1BottomRefIdeal.nD → PrngReg), Pre_SumFfn1BottomIdeal m →
    (∀ c : Dev Cert.SumFfn1BottomIdeal.nD,
      m' ((c.tc : Thread Cert.SumFfn1BottomRefIdeal.nD Cert.SumFfn1BottomRefIdeal.τ).loc Cert.SumFfn1BottomRefIdeal.main_arg0) = m ((c.tc : Thread Cert.SumFfn1BottomIdeal.nD Cert.SumFfn1BottomIdeal.τ).loc Cert.SumFfn1BottomIdeal.main_arg0)
      ∧ m' ((c.tc : Thread Cert.SumFfn1BottomRefIdeal.nD Cert.SumFfn1BottomRefIdeal.τ).loc Cert.SumFfn1BottomRefIdeal.main_arg1) = m ((c.tc : Thread Cert.SumFfn1BottomIdeal.nD Cert.SumFfn1BottomIdeal.τ).loc Cert.SumFfn1BottomIdeal.main_arg1)) →
    ∃ (v0 : (c : Dev Cert.SumFfn1BottomIdeal.nD) → Buf (Elt Ideal) ((c.tc : Thread Cert.SumFfn1BottomIdeal.nD Cert.SumFfn1BottomIdeal.τ).loc Cert.SumFfn1BottomIdeal.main_v6)),
      θ_run (Cert.SumFfn1BottomIdeal.defs (F := Ideal)) (onTc (τ := Cert.SumFfn1BottomIdeal.τ) (Cert.SumFfn1BottomIdeal.main (F := Ideal))) ⟨m, fun _ => 0, g⟩ (fun r => ∀ c : Dev Cert.SumFfn1BottomIdeal.nD,
          r.2.mem ((c.tc : Thread Cert.SumFfn1BottomIdeal.nD Cert.SumFfn1BottomIdeal.τ).loc Cert.SumFfn1BottomIdeal.main_v6) = v0 c
          ∧ r.2.mem ((c.tc : Thread Cert.SumFfn1BottomIdeal.nD Cert.SumFfn1BottomIdeal.τ).loc Cert.SumFfn1BottomIdeal.main_arg0) = m ((c.tc : Thread Cert.SumFfn1BottomIdeal.nD Cert.SumFfn1BottomIdeal.τ).loc Cert.SumFfn1BottomIdeal.main_arg0)
          ∧ r.2.mem ((c.tc : Thread Cert.SumFfn1BottomIdeal.nD Cert.SumFfn1BottomIdeal.τ).loc Cert.SumFfn1BottomIdeal.main_arg1) = m ((c.tc : Thread Cert.SumFfn1BottomIdeal.nD Cert.SumFfn1BottomIdeal.τ).loc Cert.SumFfn1BottomIdeal.main_arg1))
      ∧ θ_run (Cert.SumFfn1BottomRefIdeal.defs (F := Ideal)) (onTc (τ := Cert.SumFfn1BottomRefIdeal.τ) (Cert.SumFfn1BottomRefIdeal.main (F := Ideal))) ⟨m', fun _ => 0, g'⟩ (fun r => ∀ c : Dev Cert.SumFfn1BottomRefIdeal.nD,
          r.2.mem ((c.tc : Thread Cert.SumFfn1BottomRefIdeal.nD Cert.SumFfn1BottomRefIdeal.τ).loc Cert.SumFfn1BottomRefIdeal.main_v5) = v0 c
          ∧ r.2.mem ((c.tc : Thread Cert.SumFfn1BottomRefIdeal.nD Cert.SumFfn1BottomRefIdeal.τ).loc Cert.SumFfn1BottomRefIdeal.main_arg0) = m' ((c.tc : Thread Cert.SumFfn1BottomRefIdeal.nD Cert.SumFfn1BottomRefIdeal.τ).loc Cert.SumFfn1BottomRefIdeal.main_arg0)
          ∧ r.2.mem ((c.tc : Thread Cert.SumFfn1BottomRefIdeal.nD Cert.SumFfn1BottomRefIdeal.τ).loc Cert.SumFfn1BottomRefIdeal.main_arg1) = m' ((c.tc : Thread Cert.SumFfn1BottomRefIdeal.nD Cert.SumFfn1BottomRefIdeal.τ).loc Cert.SumFfn1BottomRefIdeal.main_arg1))

def preserves_SumFfn2Top_SumFfn2TopIdeal : Prop :=
  True

def algebraic_SumFfn2TopIdeal_SumFfn2TopRefIdeal [hSumFfn2TopIdeal : Cert.SumFfn2TopIdeal.Facts] [hSumFfn2TopRefIdeal : Cert.SumFfn2TopRefIdeal.Facts] : Prop :=
  ∀ (m : (ℓ : Loc Cert.SumFfn2TopIdeal.nD Cert.SumFfn2TopIdeal.τ Cert.SumFfn2TopIdeal.sig) → Buf (Elt Ideal) ℓ) (g : Dev Cert.SumFfn2TopIdeal.nD → PrngReg)
    (m' : (ℓ : Loc Cert.SumFfn2TopRefIdeal.nD Cert.SumFfn2TopRefIdeal.τ Cert.SumFfn2TopRefIdeal.sig) → Buf (Elt Ideal) ℓ) (g' : Dev Cert.SumFfn2TopRefIdeal.nD → PrngReg), Pre_SumFfn2TopIdeal m →
    (∀ c : Dev Cert.SumFfn2TopIdeal.nD,
      m' ((c.tc : Thread Cert.SumFfn2TopRefIdeal.nD Cert.SumFfn2TopRefIdeal.τ).loc Cert.SumFfn2TopRefIdeal.main_arg0) = m ((c.tc : Thread Cert.SumFfn2TopIdeal.nD Cert.SumFfn2TopIdeal.τ).loc Cert.SumFfn2TopIdeal.main_arg0)
      ∧ m' ((c.tc : Thread Cert.SumFfn2TopRefIdeal.nD Cert.SumFfn2TopRefIdeal.τ).loc Cert.SumFfn2TopRefIdeal.main_arg1) = m ((c.tc : Thread Cert.SumFfn2TopIdeal.nD Cert.SumFfn2TopIdeal.τ).loc Cert.SumFfn2TopIdeal.main_arg1)) →
    ∃ (v0 : (c : Dev Cert.SumFfn2TopIdeal.nD) → Buf (Elt Ideal) ((c.tc : Thread Cert.SumFfn2TopIdeal.nD Cert.SumFfn2TopIdeal.τ).loc Cert.SumFfn2TopIdeal.main_v6)),
      θ_run (Cert.SumFfn2TopIdeal.defs (F := Ideal)) (onTc (τ := Cert.SumFfn2TopIdeal.τ) (Cert.SumFfn2TopIdeal.main (F := Ideal))) ⟨m, fun _ => 0, g⟩ (fun r => ∀ c : Dev Cert.SumFfn2TopIdeal.nD,
          r.2.mem ((c.tc : Thread Cert.SumFfn2TopIdeal.nD Cert.SumFfn2TopIdeal.τ).loc Cert.SumFfn2TopIdeal.main_v6) = v0 c
          ∧ r.2.mem ((c.tc : Thread Cert.SumFfn2TopIdeal.nD Cert.SumFfn2TopIdeal.τ).loc Cert.SumFfn2TopIdeal.main_arg0) = m ((c.tc : Thread Cert.SumFfn2TopIdeal.nD Cert.SumFfn2TopIdeal.τ).loc Cert.SumFfn2TopIdeal.main_arg0)
          ∧ r.2.mem ((c.tc : Thread Cert.SumFfn2TopIdeal.nD Cert.SumFfn2TopIdeal.τ).loc Cert.SumFfn2TopIdeal.main_arg1) = m ((c.tc : Thread Cert.SumFfn2TopIdeal.nD Cert.SumFfn2TopIdeal.τ).loc Cert.SumFfn2TopIdeal.main_arg1))
      ∧ θ_run (Cert.SumFfn2TopRefIdeal.defs (F := Ideal)) (onTc (τ := Cert.SumFfn2TopRefIdeal.τ) (Cert.SumFfn2TopRefIdeal.main (F := Ideal))) ⟨m', fun _ => 0, g'⟩ (fun r => ∀ c : Dev Cert.SumFfn2TopRefIdeal.nD,
          r.2.mem ((c.tc : Thread Cert.SumFfn2TopRefIdeal.nD Cert.SumFfn2TopRefIdeal.τ).loc Cert.SumFfn2TopRefIdeal.main_v5) = v0 c
          ∧ r.2.mem ((c.tc : Thread Cert.SumFfn2TopRefIdeal.nD Cert.SumFfn2TopRefIdeal.τ).loc Cert.SumFfn2TopRefIdeal.main_arg0) = m' ((c.tc : Thread Cert.SumFfn2TopRefIdeal.nD Cert.SumFfn2TopRefIdeal.τ).loc Cert.SumFfn2TopRefIdeal.main_arg0)
          ∧ r.2.mem ((c.tc : Thread Cert.SumFfn2TopRefIdeal.nD Cert.SumFfn2TopRefIdeal.τ).loc Cert.SumFfn2TopRefIdeal.main_arg1) = m' ((c.tc : Thread Cert.SumFfn2TopRefIdeal.nD Cert.SumFfn2TopRefIdeal.τ).loc Cert.SumFfn2TopRefIdeal.main_arg1))

def preserves_SumFfn2Bottom_SumFfn2BottomIdeal : Prop :=
  True

def algebraic_SumFfn2BottomIdeal_SumFfn2BottomRefIdeal [hSumFfn2BottomIdeal : Cert.SumFfn2BottomIdeal.Facts] [hSumFfn2BottomRefIdeal : Cert.SumFfn2BottomRefIdeal.Facts] : Prop :=
  ∀ (m : (ℓ : Loc Cert.SumFfn2BottomIdeal.nD Cert.SumFfn2BottomIdeal.τ Cert.SumFfn2BottomIdeal.sig) → Buf (Elt Ideal) ℓ) (g : Dev Cert.SumFfn2BottomIdeal.nD → PrngReg)
    (m' : (ℓ : Loc Cert.SumFfn2BottomRefIdeal.nD Cert.SumFfn2BottomRefIdeal.τ Cert.SumFfn2BottomRefIdeal.sig) → Buf (Elt Ideal) ℓ) (g' : Dev Cert.SumFfn2BottomRefIdeal.nD → PrngReg), Pre_SumFfn2BottomIdeal m →
    (∀ c : Dev Cert.SumFfn2BottomIdeal.nD,
      m' ((c.tc : Thread Cert.SumFfn2BottomRefIdeal.nD Cert.SumFfn2BottomRefIdeal.τ).loc Cert.SumFfn2BottomRefIdeal.main_arg0) = m ((c.tc : Thread Cert.SumFfn2BottomIdeal.nD Cert.SumFfn2BottomIdeal.τ).loc Cert.SumFfn2BottomIdeal.main_arg0)
      ∧ m' ((c.tc : Thread Cert.SumFfn2BottomRefIdeal.nD Cert.SumFfn2BottomRefIdeal.τ).loc Cert.SumFfn2BottomRefIdeal.main_arg1) = m ((c.tc : Thread Cert.SumFfn2BottomIdeal.nD Cert.SumFfn2BottomIdeal.τ).loc Cert.SumFfn2BottomIdeal.main_arg1)) →
    ∃ (v0 : (c : Dev Cert.SumFfn2BottomIdeal.nD) → Buf (Elt Ideal) ((c.tc : Thread Cert.SumFfn2BottomIdeal.nD Cert.SumFfn2BottomIdeal.τ).loc Cert.SumFfn2BottomIdeal.main_v6)),
      θ_run (Cert.SumFfn2BottomIdeal.defs (F := Ideal)) (onTc (τ := Cert.SumFfn2BottomIdeal.τ) (Cert.SumFfn2BottomIdeal.main (F := Ideal))) ⟨m, fun _ => 0, g⟩ (fun r => ∀ c : Dev Cert.SumFfn2BottomIdeal.nD,
          r.2.mem ((c.tc : Thread Cert.SumFfn2BottomIdeal.nD Cert.SumFfn2BottomIdeal.τ).loc Cert.SumFfn2BottomIdeal.main_v6) = v0 c
          ∧ r.2.mem ((c.tc : Thread Cert.SumFfn2BottomIdeal.nD Cert.SumFfn2BottomIdeal.τ).loc Cert.SumFfn2BottomIdeal.main_arg0) = m ((c.tc : Thread Cert.SumFfn2BottomIdeal.nD Cert.SumFfn2BottomIdeal.τ).loc Cert.SumFfn2BottomIdeal.main_arg0)
          ∧ r.2.mem ((c.tc : Thread Cert.SumFfn2BottomIdeal.nD Cert.SumFfn2BottomIdeal.τ).loc Cert.SumFfn2BottomIdeal.main_arg1) = m ((c.tc : Thread Cert.SumFfn2BottomIdeal.nD Cert.SumFfn2BottomIdeal.τ).loc Cert.SumFfn2BottomIdeal.main_arg1))
      ∧ θ_run (Cert.SumFfn2BottomRefIdeal.defs (F := Ideal)) (onTc (τ := Cert.SumFfn2BottomRefIdeal.τ) (Cert.SumFfn2BottomRefIdeal.main (F := Ideal))) ⟨m', fun _ => 0, g'⟩ (fun r => ∀ c : Dev Cert.SumFfn2BottomRefIdeal.nD,
          r.2.mem ((c.tc : Thread Cert.SumFfn2BottomRefIdeal.nD Cert.SumFfn2BottomRefIdeal.τ).loc Cert.SumFfn2BottomRefIdeal.main_v5) = v0 c
          ∧ r.2.mem ((c.tc : Thread Cert.SumFfn2BottomRefIdeal.nD Cert.SumFfn2BottomRefIdeal.τ).loc Cert.SumFfn2BottomRefIdeal.main_arg0) = m' ((c.tc : Thread Cert.SumFfn2BottomRefIdeal.nD Cert.SumFfn2BottomRefIdeal.τ).loc Cert.SumFfn2BottomRefIdeal.main_arg0)
          ∧ r.2.mem ((c.tc : Thread Cert.SumFfn2BottomRefIdeal.nD Cert.SumFfn2BottomRefIdeal.τ).loc Cert.SumFfn2BottomRefIdeal.main_arg1) = m' ((c.tc : Thread Cert.SumFfn2BottomRefIdeal.nD Cert.SumFfn2BottomRefIdeal.τ).loc Cert.SumFfn2BottomRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg1) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v23) = v0 c
          ∧ r.2.mem ((c.tc : Thread Cert.AdamBranchRefIdeal.nD Cert.AdamBranchRefIdeal.τ).loc Cert.AdamBranchRefIdeal.main_v4) = v1 c
          ∧ r.2.mem ((c.tc : Thread Cert.AdamBranchRefIdeal.nD Cert.AdamBranchRefIdeal.τ).loc Cert.AdamBranchRefIdeal.main_v10) = v2 c
          ∧ r.2.mem ((c.tc : Thread Cert.AdamBranchRefIdeal.nD Cert.AdamBranchRefIdeal.τ).loc Cert.AdamBranchRefIdeal.main_arg1) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg1) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamFfn1_AdamFfn1Ideal : Prop :=
  True

def algebraic_AdamFfn1Ideal_AdamFfn1RefIdeal [hAdamFfn1Ideal : Cert.AdamFfn1Ideal.Facts] [hAdamFfn1RefIdeal : Cert.AdamFfn1RefIdeal.Facts] : Prop :=
  ∀ (m : (ℓ : Loc Cert.AdamFfn1Ideal.nD Cert.AdamFfn1Ideal.τ Cert.AdamFfn1Ideal.sig) → Buf (Elt Ideal) ℓ) (g : Dev Cert.AdamFfn1Ideal.nD → PrngReg)
    (m' : (ℓ : Loc Cert.AdamFfn1RefIdeal.nD Cert.AdamFfn1RefIdeal.τ Cert.AdamFfn1RefIdeal.sig) → Buf (Elt Ideal) ℓ) (g' : Dev Cert.AdamFfn1RefIdeal.nD → PrngReg), Pre_AdamFfn1Ideal m →
    (∀ c : Dev Cert.AdamFfn1Ideal.nD,
      m' ((c.tc : Thread Cert.AdamFfn1RefIdeal.nD Cert.AdamFfn1RefIdeal.τ).loc Cert.AdamFfn1RefIdeal.main_arg0) = m ((c.tc : Thread Cert.AdamFfn1Ideal.nD Cert.AdamFfn1Ideal.τ).loc Cert.AdamFfn1Ideal.main_arg0)
      ∧ m' ((c.tc : Thread Cert.AdamFfn1RefIdeal.nD Cert.AdamFfn1RefIdeal.τ).loc Cert.AdamFfn1RefIdeal.main_arg1) = m ((c.tc : Thread Cert.AdamFfn1Ideal.nD Cert.AdamFfn1Ideal.τ).loc Cert.AdamFfn1Ideal.main_arg1)
      ∧ m' ((c.tc : Thread Cert.AdamFfn1RefIdeal.nD Cert.AdamFfn1RefIdeal.τ).loc Cert.AdamFfn1RefIdeal.main_arg2) = m ((c.tc : Thread Cert.AdamFfn1Ideal.nD Cert.AdamFfn1Ideal.τ).loc Cert.AdamFfn1Ideal.main_arg2)
      ∧ m' ((c.tc : Thread Cert.AdamFfn1RefIdeal.nD Cert.AdamFfn1RefIdeal.τ).loc Cert.AdamFfn1RefIdeal.main_arg3) = m ((c.tc : Thread Cert.AdamFfn1Ideal.nD Cert.AdamFfn1Ideal.τ).loc Cert.AdamFfn1Ideal.main_arg3)) →
    ∃ (v0 : (c : Dev Cert.AdamFfn1Ideal.nD) → Buf (Elt Ideal) ((c.tc : Thread Cert.AdamFfn1Ideal.nD Cert.AdamFfn1Ideal.τ).loc Cert.AdamFfn1Ideal.main_v0_0)) (v1 : (c : Dev Cert.AdamFfn1Ideal.nD) → Buf (Elt Ideal) ((c.tc : Thread Cert.AdamFfn1Ideal.nD Cert.AdamFfn1Ideal.τ).loc Cert.AdamFfn1Ideal.main_v0_1)) (v2 : (c : Dev Cert.AdamFfn1Ideal.nD) → Buf (Elt Ideal) ((c.tc : Thread Cert.AdamFfn1Ideal.nD Cert.AdamFfn1Ideal.τ).loc Cert.AdamFfn1Ideal.main_v0_2)) (v3 : (c : Dev Cert.AdamFfn1Ideal.nD) → Buf (Elt Ideal) ((c.tc : Thread Cert.AdamFfn1Ideal.nD Cert.AdamFfn1Ideal.τ).loc Cert.AdamFfn1Ideal.main_v0_3)),
      θ_run (Cert.AdamFfn1Ideal.defs (F := Ideal)) (onTc (τ := Cert.AdamFfn1Ideal.τ) (Cert.AdamFfn1Ideal.main (F := Ideal))) ⟨m, fun _ => 0, g⟩ (fun r => ∀ c : Dev Cert.AdamFfn1Ideal.nD,
          r.2.mem ((c.tc : Thread Cert.AdamFfn1Ideal.nD Cert.AdamFfn1Ideal.τ).loc Cert.AdamFfn1Ideal.main_v0_0) = v0 c
          ∧ r.2.mem ((c.tc : Thread Cert.AdamFfn1Ideal.nD Cert.AdamFfn1Ideal.τ).loc Cert.AdamFfn1Ideal.main_v0_1) = v1 c
          ∧ r.2.mem ((c.tc : Thread Cert.AdamFfn1Ideal.nD Cert.AdamFfn1Ideal.τ).loc Cert.AdamFfn1Ideal.main_v0_2) = v2 c
          ∧ r.2.mem ((c.tc : Thread Cert.AdamFfn1Ideal.nD Cert.AdamFfn1Ideal.τ).loc Cert.AdamFfn1Ideal.main_v0_3) = v3 c
          ∧ r.2.mem ((c.tc : Thread Cert.AdamFfn1Ideal.nD Cert.AdamFfn1Ideal.τ).loc Cert.AdamFfn1Ideal.main_arg0) = m ((c.tc : Thread Cert.AdamFfn1Ideal.nD Cert.AdamFfn1Ideal.τ).loc Cert.AdamFfn1Ideal.main_arg0)
          ∧ r.2.mem ((c.tc : Thread Cert.AdamFfn1Ideal.nD Cert.AdamFfn1Ideal.τ).loc Cert.AdamFfn1Ideal.main_arg1) = m ((c.tc : Thread Cert.AdamFfn1Ideal.nD Cert.AdamFfn1Ideal.τ).loc Cert.AdamFfn1Ideal.main_arg1)
          ∧ r.2.mem ((c.tc : Thread Cert.AdamFfn1Ideal.nD Cert.AdamFfn1Ideal.τ).loc Cert.AdamFfn1Ideal.main_arg2) = m ((c.tc : Thread Cert.AdamFfn1Ideal.nD Cert.AdamFfn1Ideal.τ).loc Cert.AdamFfn1Ideal.main_arg2)
          ∧ r.2.mem ((c.tc : Thread Cert.AdamFfn1Ideal.nD Cert.AdamFfn1Ideal.τ).loc Cert.AdamFfn1Ideal.main_arg3) = m ((c.tc : Thread Cert.AdamFfn1Ideal.nD Cert.AdamFfn1Ideal.τ).loc Cert.AdamFfn1Ideal.main_arg3))
      ∧ θ_run (Cert.AdamFfn1RefIdeal.defs (F := Ideal)) (onTc (τ := Cert.AdamFfn1RefIdeal.τ) (Cert.AdamFfn1RefIdeal.main (F := Ideal))) ⟨m', fun _ => 0, g'⟩ (fun r => ∀ c : Dev Cert.AdamFfn1RefIdeal.nD,
          r.2.mem ((c.tc : Thread Cert.AdamFfn1RefIdeal.nD Cert.AdamFfn1RefIdeal.τ).loc Cert.AdamFfn1RefIdeal.main_v23) = v0 c
          ∧ r.2.mem ((c.tc : Thread Cert.AdamFfn1RefIdeal.nD Cert.AdamFfn1RefIdeal.τ).loc Cert.AdamFfn1RefIdeal.main_v4) = v1 c
          ∧ r.2.mem ((c.tc : Thread Cert.AdamFfn1RefIdeal.nD Cert.AdamFfn1RefIdeal.τ).loc Cert.AdamFfn1RefIdeal.main_v10) = v2 c
          ∧ r.2.mem ((c.tc : Thread Cert.AdamFfn1RefIdeal.nD Cert.AdamFfn1RefIdeal.τ).loc Cert.AdamFfn1RefIdeal.main_arg1) = v3 c
          ∧ r.2.mem ((c.tc : Thread Cert.AdamFfn1RefIdeal.nD Cert.AdamFfn1RefIdeal.τ).loc Cert.AdamFfn1RefIdeal.main_arg0) = m' ((c.tc : Thread Cert.AdamFfn1RefIdeal.nD Cert.AdamFfn1RefIdeal.τ).loc Cert.AdamFfn1RefIdeal.main_arg0)
          ∧ r.2.mem ((c.tc : Thread Cert.AdamFfn1RefIdeal.nD Cert.AdamFfn1RefIdeal.τ).loc Cert.AdamFfn1RefIdeal.main_arg1) = m' ((c.tc : Thread Cert.AdamFfn1RefIdeal.nD Cert.AdamFfn1RefIdeal.τ).loc Cert.AdamFfn1RefIdeal.main_arg1)
          ∧ r.2.mem ((c.tc : Thread Cert.AdamFfn1RefIdeal.nD Cert.AdamFfn1RefIdeal.τ).loc Cert.AdamFfn1RefIdeal.main_arg2) = m' ((c.tc : Thread Cert.AdamFfn1RefIdeal.nD Cert.AdamFfn1RefIdeal.τ).loc Cert.AdamFfn1RefIdeal.main_arg2)
          ∧ r.2.mem ((c.tc : Thread Cert.AdamFfn1RefIdeal.nD Cert.AdamFfn1RefIdeal.τ).loc Cert.AdamFfn1RefIdeal.main_arg3) = m' ((c.tc : Thread Cert.AdamFfn1RefIdeal.nD Cert.AdamFfn1RefIdeal.τ).loc Cert.AdamFfn1RefIdeal.main_arg3))

def preserves_AdamFfn2_AdamFfn2Ideal : Prop :=
  True

def algebraic_AdamFfn2Ideal_AdamFfn2RefIdeal [hAdamFfn2Ideal : Cert.AdamFfn2Ideal.Facts] [hAdamFfn2RefIdeal : Cert.AdamFfn2RefIdeal.Facts] : Prop :=
  ∀ (m : (ℓ : Loc Cert.AdamFfn2Ideal.nD Cert.AdamFfn2Ideal.τ Cert.AdamFfn2Ideal.sig) → Buf (Elt Ideal) ℓ) (g : Dev Cert.AdamFfn2Ideal.nD → PrngReg)
    (m' : (ℓ : Loc Cert.AdamFfn2RefIdeal.nD Cert.AdamFfn2RefIdeal.τ Cert.AdamFfn2RefIdeal.sig) → Buf (Elt Ideal) ℓ) (g' : Dev Cert.AdamFfn2RefIdeal.nD → PrngReg), Pre_AdamFfn2Ideal m →
    (∀ c : Dev Cert.AdamFfn2Ideal.nD,
      m' ((c.tc : Thread Cert.AdamFfn2RefIdeal.nD Cert.AdamFfn2RefIdeal.τ).loc Cert.AdamFfn2RefIdeal.main_arg0) = m ((c.tc : Thread Cert.AdamFfn2Ideal.nD Cert.AdamFfn2Ideal.τ).loc Cert.AdamFfn2Ideal.main_arg0)
      ∧ m' ((c.tc : Thread Cert.AdamFfn2RefIdeal.nD Cert.AdamFfn2RefIdeal.τ).loc Cert.AdamFfn2RefIdeal.main_arg1) = m ((c.tc : Thread Cert.AdamFfn2Ideal.nD Cert.AdamFfn2Ideal.τ).loc Cert.AdamFfn2Ideal.main_arg1)
      ∧ m' ((c.tc : Thread Cert.AdamFfn2RefIdeal.nD Cert.AdamFfn2RefIdeal.τ).loc Cert.AdamFfn2RefIdeal.main_arg2) = m ((c.tc : Thread Cert.AdamFfn2Ideal.nD Cert.AdamFfn2Ideal.τ).loc Cert.AdamFfn2Ideal.main_arg2)
      ∧ m' ((c.tc : Thread Cert.AdamFfn2RefIdeal.nD Cert.AdamFfn2RefIdeal.τ).loc Cert.AdamFfn2RefIdeal.main_arg3) = m ((c.tc : Thread Cert.AdamFfn2Ideal.nD Cert.AdamFfn2Ideal.τ).loc Cert.AdamFfn2Ideal.main_arg3)) →
    ∃ (v0 : (c : Dev Cert.AdamFfn2Ideal.nD) → Buf (Elt Ideal) ((c.tc : Thread Cert.AdamFfn2Ideal.nD Cert.AdamFfn2Ideal.τ).loc Cert.AdamFfn2Ideal.main_v0_0)) (v1 : (c : Dev Cert.AdamFfn2Ideal.nD) → Buf (Elt Ideal) ((c.tc : Thread Cert.AdamFfn2Ideal.nD Cert.AdamFfn2Ideal.τ).loc Cert.AdamFfn2Ideal.main_v0_1)) (v2 : (c : Dev Cert.AdamFfn2Ideal.nD) → Buf (Elt Ideal) ((c.tc : Thread Cert.AdamFfn2Ideal.nD Cert.AdamFfn2Ideal.τ).loc Cert.AdamFfn2Ideal.main_v0_2)) (v3 : (c : Dev Cert.AdamFfn2Ideal.nD) → Buf (Elt Ideal) ((c.tc : Thread Cert.AdamFfn2Ideal.nD Cert.AdamFfn2Ideal.τ).loc Cert.AdamFfn2Ideal.main_v0_3)),
      θ_run (Cert.AdamFfn2Ideal.defs (F := Ideal)) (onTc (τ := Cert.AdamFfn2Ideal.τ) (Cert.AdamFfn2Ideal.main (F := Ideal))) ⟨m, fun _ => 0, g⟩ (fun r => ∀ c : Dev Cert.AdamFfn2Ideal.nD,
          r.2.mem ((c.tc : Thread Cert.AdamFfn2Ideal.nD Cert.AdamFfn2Ideal.τ).loc Cert.AdamFfn2Ideal.main_v0_0) = v0 c
          ∧ r.2.mem ((c.tc : Thread Cert.AdamFfn2Ideal.nD Cert.AdamFfn2Ideal.τ).loc Cert.AdamFfn2Ideal.main_v0_1) = v1 c
          ∧ r.2.mem ((c.tc : Thread Cert.AdamFfn2Ideal.nD Cert.AdamFfn2Ideal.τ).loc Cert.AdamFfn2Ideal.main_v0_2) = v2 c
          ∧ r.2.mem ((c.tc : Thread Cert.AdamFfn2Ideal.nD Cert.AdamFfn2Ideal.τ).loc Cert.AdamFfn2Ideal.main_v0_3) = v3 c
          ∧ r.2.mem ((c.tc : Thread Cert.AdamFfn2Ideal.nD Cert.AdamFfn2Ideal.τ).loc Cert.AdamFfn2Ideal.main_arg0) = m ((c.tc : Thread Cert.AdamFfn2Ideal.nD Cert.AdamFfn2Ideal.τ).loc Cert.AdamFfn2Ideal.main_arg0)
          ∧ r.2.mem ((c.tc : Thread Cert.AdamFfn2Ideal.nD Cert.AdamFfn2Ideal.τ).loc Cert.AdamFfn2Ideal.main_arg1) = m ((c.tc : Thread Cert.AdamFfn2Ideal.nD Cert.AdamFfn2Ideal.τ).loc Cert.AdamFfn2Ideal.main_arg1)
          ∧ r.2.mem ((c.tc : Thread Cert.AdamFfn2Ideal.nD Cert.AdamFfn2Ideal.τ).loc Cert.AdamFfn2Ideal.main_arg2) = m ((c.tc : Thread Cert.AdamFfn2Ideal.nD Cert.AdamFfn2Ideal.τ).loc Cert.AdamFfn2Ideal.main_arg2)
          ∧ r.2.mem ((c.tc : Thread Cert.AdamFfn2Ideal.nD Cert.AdamFfn2Ideal.τ).loc Cert.AdamFfn2Ideal.main_arg3) = m ((c.tc : Thread Cert.AdamFfn2Ideal.nD Cert.AdamFfn2Ideal.τ).loc Cert.AdamFfn2Ideal.main_arg3))
      ∧ θ_run (Cert.AdamFfn2RefIdeal.defs (F := Ideal)) (onTc (τ := Cert.AdamFfn2RefIdeal.τ) (Cert.AdamFfn2RefIdeal.main (F := Ideal))) ⟨m', fun _ => 0, g'⟩ (fun r => ∀ c : Dev Cert.AdamFfn2RefIdeal.nD,
          r.2.mem ((c.tc : Thread Cert.AdamFfn2RefIdeal.nD Cert.AdamFfn2RefIdeal.τ).loc Cert.AdamFfn2RefIdeal.main_v23) = v0 c
          ∧ r.2.mem ((c.tc : Thread Cert.AdamFfn2RefIdeal.nD Cert.AdamFfn2RefIdeal.τ).loc Cert.AdamFfn2RefIdeal.main_v4) = v1 c
          ∧ r.2.mem ((c.tc : Thread Cert.AdamFfn2RefIdeal.nD Cert.AdamFfn2RefIdeal.τ).loc Cert.AdamFfn2RefIdeal.main_v10) = v2 c
          ∧ r.2.mem ((c.tc : Thread Cert.AdamFfn2RefIdeal.nD Cert.AdamFfn2RefIdeal.τ).loc Cert.AdamFfn2RefIdeal.main_arg1) = v3 c
          ∧ r.2.mem ((c.tc : Thread Cert.AdamFfn2RefIdeal.nD Cert.AdamFfn2RefIdeal.τ).loc Cert.AdamFfn2RefIdeal.main_arg0) = m' ((c.tc : Thread Cert.AdamFfn2RefIdeal.nD Cert.AdamFfn2RefIdeal.τ).loc Cert.AdamFfn2RefIdeal.main_arg0)
          ∧ r.2.mem ((c.tc : Thread Cert.AdamFfn2RefIdeal.nD Cert.AdamFfn2RefIdeal.τ).loc Cert.AdamFfn2RefIdeal.main_arg1) = m' ((c.tc : Thread Cert.AdamFfn2RefIdeal.nD Cert.AdamFfn2RefIdeal.τ).loc Cert.AdamFfn2RefIdeal.main_arg1)
          ∧ r.2.mem ((c.tc : Thread Cert.AdamFfn2RefIdeal.nD Cert.AdamFfn2RefIdeal.τ).loc Cert.AdamFfn2RefIdeal.main_arg2) = m' ((c.tc : Thread Cert.AdamFfn2RefIdeal.nD Cert.AdamFfn2RefIdeal.τ).loc Cert.AdamFfn2RefIdeal.main_arg2)
          ∧ r.2.mem ((c.tc : Thread Cert.AdamFfn2RefIdeal.nD Cert.AdamFfn2RefIdeal.τ).loc Cert.AdamFfn2RefIdeal.main_arg3) = m' ((c.tc : Thread Cert.AdamFfn2RefIdeal.nD Cert.AdamFfn2RefIdeal.τ).loc Cert.AdamFfn2RefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v23) = v0 c
          ∧ r.2.mem ((c.tc : Thread Cert.AdamAdaRefIdeal.nD Cert.AdamAdaRefIdeal.τ).loc Cert.AdamAdaRefIdeal.main_v4) = v1 c
          ∧ r.2.mem ((c.tc : Thread Cert.AdamAdaRefIdeal.nD Cert.AdamAdaRefIdeal.τ).loc Cert.AdamAdaRefIdeal.main_v10) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)) →
    ∃ (v0 : (c : Dev Cert.AdamSmallIdeal.nD) → Buf (Elt Ideal) ((c.tc : Thread Cert.AdamSmallIdeal.nD Cert.AdamSmallIdeal.τ).loc Cert.AdamSmallIdeal.main_v96_0)) (v1 : (c : Dev Cert.AdamSmallIdeal.nD) → Buf (Elt Ideal) ((c.tc : Thread Cert.AdamSmallIdeal.nD Cert.AdamSmallIdeal.τ).loc Cert.AdamSmallIdeal.main_v96_1)) (v2 : (c : Dev Cert.AdamSmallIdeal.nD) → Buf (Elt Ideal) ((c.tc : Thread Cert.AdamSmallIdeal.nD Cert.AdamSmallIdeal.τ).loc Cert.AdamSmallIdeal.main_v96_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v96_0) = v0 c
          ∧ r.2.mem ((c.tc : Thread Cert.AdamSmallIdeal.nD Cert.AdamSmallIdeal.τ).loc Cert.AdamSmallIdeal.main_v96_1) = v1 c
          ∧ r.2.mem ((c.tc : Thread Cert.AdamSmallIdeal.nD Cert.AdamSmallIdeal.τ).loc Cert.AdamSmallIdeal.main_v96_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v287) = v0 c
          ∧ r.2.mem ((c.tc : Thread Cert.AdamSmallRefIdeal.nD Cert.AdamSmallRefIdeal.τ).loc Cert.AdamSmallRefIdeal.main_v311) = v1 c
          ∧ r.2.mem ((c.tc : Thread Cert.AdamSmallRefIdeal.nD Cert.AdamSmallRefIdeal.τ).loc Cert.AdamSmallRefIdeal.main_v335) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43))

def Claim : Prop :=
  ∃ (hGwin : Cert.Gwin.Facts) (hGwinIdeal : Cert.GwinIdeal.Facts) (hGwinRefIdeal : Cert.GwinRefIdeal.Facts) (hGw1 : Cert.Gw1.Facts) (hGw1Ideal : Cert.Gw1Ideal.Facts) (hGw1RefIdeal : Cert.Gw1RefIdeal.Facts) (hGw2 : Cert.Gw2.Facts) (hGw2Ideal : Cert.Gw2Ideal.Facts) (hGw2RefIdeal : Cert.Gw2RefIdeal.Facts) (hGwo : Cert.Gwo.Facts) (hGwoIdeal : Cert.GwoIdeal.Facts) (hGwoRefIdeal : Cert.GwoRefIdeal.Facts) (hGwa : Cert.Gwa.Facts) (hGwaIdeal : Cert.GwaIdeal.Facts) (hGwaRefIdeal : Cert.GwaRefIdeal.Facts) (hDh : Cert.Dh.Facts) (hDhIdeal : Cert.DhIdeal.Facts) (hDhRefIdeal : Cert.DhRefIdeal.Facts) (hDh2 : Cert.Dh2.Facts) (hDh2Ideal : Cert.Dh2Ideal.Facts) (hDh2RefIdeal : Cert.Dh2RefIdeal.Facts) (hDa : Cert.Da.Facts) (hDaIdeal : Cert.DaIdeal.Facts) (hDaRefIdeal : Cert.DaRefIdeal.Facts) (hDz : Cert.Dz.Facts) (hDzIdeal : Cert.DzIdeal.Facts) (hDzRefIdeal : Cert.DzRefIdeal.Facts) (hDya : Cert.Dya.Facts) (hDyaIdeal : Cert.DyaIdeal.Facts) (hDyaRefIdeal : Cert.DyaRefIdeal.Facts) (hDyb : Cert.Dyb.Facts) (hDybIdeal : Cert.DybIdeal.Facts) (hDybRefIdeal : Cert.DybRefIdeal.Facts) (hU1 : Cert.U1.Facts) (hU1Ideal : Cert.U1Ideal.Facts) (hU1RefIdeal : Cert.U1RefIdeal.Facts) (hMf : Cert.Mf.Facts) (hMfIdeal : Cert.MfIdeal.Facts) (hMfRefIdeal : Cert.MfRefIdeal.Facts) (hMo : Cert.Mo.Facts) (hMoIdeal : Cert.MoIdeal.Facts) (hMoRefIdeal : Cert.MoRefIdeal.Facts) (hZa : Cert.Za.Facts) (hZaIdeal : Cert.ZaIdeal.Facts) (hZaRefIdeal : Cert.ZaRefIdeal.Facts) (hAdaB : Cert.AdaB.Facts) (hAdaBIdeal : Cert.AdaBIdeal.Facts) (hAdaBRefIdeal : Cert.AdaBRefIdeal.Facts) (hCCtx : Cert.CCtx.Facts) (hCCtxIdeal : Cert.CCtxIdeal.Facts) (hCCtxRefIdeal : Cert.CCtxRefIdeal.Facts) (hSumSmall : Cert.SumSmall.Facts) (hSumSmallIdeal : Cert.SumSmallIdeal.Facts) (hSumSmallRefIdeal : Cert.SumSmallRefIdeal.Facts) (hSumInTop : Cert.SumInTop.Facts) (hSumInTopIdeal : Cert.SumInTopIdeal.Facts) (hSumInTopRefIdeal : Cert.SumInTopRefIdeal.Facts) (hSumInBottom : Cert.SumInBottom.Facts) (hSumInBottomIdeal : Cert.SumInBottomIdeal.Facts) (hSumInBottomRefIdeal : Cert.SumInBottomRefIdeal.Facts) (hSumBranchTop : Cert.SumBranchTop.Facts) (hSumBranchTopIdeal : Cert.SumBranchTopIdeal.Facts) (hSumBranchTopRefIdeal : Cert.SumBranchTopRefIdeal.Facts) (hSumBranchBottom : Cert.SumBranchBottom.Facts) (hSumBranchBottomIdeal : Cert.SumBranchBottomIdeal.Facts) (hSumBranchBottomRefIdeal : Cert.SumBranchBottomRefIdeal.Facts) (hSumOutTop : Cert.SumOutTop.Facts) (hSumOutTopIdeal : Cert.SumOutTopIdeal.Facts) (hSumOutTopRefIdeal : Cert.SumOutTopRefIdeal.Facts) (hSumOutBottom : Cert.SumOutBottom.Facts) (hSumOutBottomIdeal : Cert.SumOutBottomIdeal.Facts) (hSumOutBottomRefIdeal : Cert.SumOutBottomRefIdeal.Facts) (hSumFfn1Top : Cert.SumFfn1Top.Facts) (hSumFfn1TopIdeal : Cert.SumFfn1TopIdeal.Facts) (hSumFfn1TopRefIdeal : Cert.SumFfn1TopRefIdeal.Facts) (hSumFfn1Bottom : Cert.SumFfn1Bottom.Facts) (hSumFfn1BottomIdeal : Cert.SumFfn1BottomIdeal.Facts) (hSumFfn1BottomRefIdeal : Cert.SumFfn1BottomRefIdeal.Facts) (hSumFfn2Top : Cert.SumFfn2Top.Facts) (hSumFfn2TopIdeal : Cert.SumFfn2TopIdeal.Facts) (hSumFfn2TopRefIdeal : Cert.SumFfn2TopRefIdeal.Facts) (hSumFfn2Bottom : Cert.SumFfn2Bottom.Facts) (hSumFfn2BottomIdeal : Cert.SumFfn2BottomIdeal.Facts) (hSumFfn2BottomRefIdeal : Cert.SumFfn2BottomRefIdeal.Facts) (hAdamIn : Cert.AdamIn.Facts) (hAdamInIdeal : Cert.AdamInIdeal.Facts) (hAdamInRefIdeal : Cert.AdamInRefIdeal.Facts) (hAdamBranch : Cert.AdamBranch.Facts) (hAdamBranchIdeal : Cert.AdamBranchIdeal.Facts) (hAdamBranchRefIdeal : Cert.AdamBranchRefIdeal.Facts) (hAdamOut : Cert.AdamOut.Facts) (hAdamOutIdeal : Cert.AdamOutIdeal.Facts) (hAdamOutRefIdeal : Cert.AdamOutRefIdeal.Facts) (hAdamFfn1 : Cert.AdamFfn1.Facts) (hAdamFfn1Ideal : Cert.AdamFfn1Ideal.Facts) (hAdamFfn1RefIdeal : Cert.AdamFfn1RefIdeal.Facts) (hAdamFfn2 : Cert.AdamFfn2.Facts) (hAdamFfn2Ideal : Cert.AdamFfn2Ideal.Facts) (hAdamFfn2RefIdeal : Cert.AdamFfn2RefIdeal.Facts) (hAdamAda : Cert.AdamAda.Facts) (hAdamAdaIdeal : Cert.AdamAdaIdeal.Facts) (hAdamAdaRefIdeal : Cert.AdamAdaRefIdeal.Facts) (hAdamSmall : Cert.AdamSmall.Facts) (hAdamSmallIdeal : Cert.AdamSmallIdeal.Facts) (hAdamSmallRefIdeal : Cert.AdamSmallRefIdeal.Facts) (hPre_finite_rows : Cert.Pre_finite_rows.Facts),
    quiescent_Gwin (hGwin := hGwin)
    ∧ quiescent_GwinIdeal (hGwinIdeal := hGwinIdeal)
    ∧ quiescent_GwinRefIdeal (hGwinRefIdeal := hGwinRefIdeal)
    ∧ quiescent_Gw1 (hGw1 := hGw1)
    ∧ quiescent_Gw1Ideal (hGw1Ideal := hGw1Ideal)
    ∧ quiescent_Gw1RefIdeal (hGw1RefIdeal := hGw1RefIdeal)
    ∧ quiescent_Gw2 (hGw2 := hGw2)
    ∧ quiescent_Gw2Ideal (hGw2Ideal := hGw2Ideal)
    ∧ quiescent_Gw2RefIdeal (hGw2RefIdeal := hGw2RefIdeal)
    ∧ quiescent_Gwo (hGwo := hGwo)
    ∧ quiescent_GwoIdeal (hGwoIdeal := hGwoIdeal)
    ∧ quiescent_GwoRefIdeal (hGwoRefIdeal := hGwoRefIdeal)
    ∧ quiescent_Gwa (hGwa := hGwa)
    ∧ quiescent_GwaIdeal (hGwaIdeal := hGwaIdeal)
    ∧ quiescent_GwaRefIdeal (hGwaRefIdeal := hGwaRefIdeal)
    ∧ quiescent_Dh (hDh := hDh)
    ∧ quiescent_DhIdeal (hDhIdeal := hDhIdeal)
    ∧ quiescent_DhRefIdeal (hDhRefIdeal := hDhRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Da (hDa := hDa)
    ∧ quiescent_DaIdeal (hDaIdeal := hDaIdeal)
    ∧ quiescent_DaRefIdeal (hDaRefIdeal := hDaRefIdeal)
    ∧ quiescent_Dz (hDz := hDz)
    ∧ quiescent_DzIdeal (hDzIdeal := hDzIdeal)
    ∧ quiescent_DzRefIdeal (hDzRefIdeal := hDzRefIdeal)
    ∧ quiescent_Dya (hDya := hDya)
    ∧ quiescent_DyaIdeal (hDyaIdeal := hDyaIdeal)
    ∧ quiescent_DyaRefIdeal (hDyaRefIdeal := hDyaRefIdeal)
    ∧ quiescent_Dyb (hDyb := hDyb)
    ∧ quiescent_DybIdeal (hDybIdeal := hDybIdeal)
    ∧ quiescent_DybRefIdeal (hDybRefIdeal := hDybRefIdeal)
    ∧ quiescent_U1 (hU1 := hU1)
    ∧ quiescent_U1Ideal (hU1Ideal := hU1Ideal)
    ∧ quiescent_U1RefIdeal (hU1RefIdeal := hU1RefIdeal)
    ∧ quiescent_Mf (hMf := hMf)
    ∧ quiescent_MfIdeal (hMfIdeal := hMfIdeal)
    ∧ quiescent_MfRefIdeal (hMfRefIdeal := hMfRefIdeal)
    ∧ quiescent_Mo (hMo := hMo)
    ∧ quiescent_MoIdeal (hMoIdeal := hMoIdeal)
    ∧ quiescent_MoRefIdeal (hMoRefIdeal := hMoRefIdeal)
    ∧ quiescent_Za (hZa := hZa)
    ∧ quiescent_ZaIdeal (hZaIdeal := hZaIdeal)
    ∧ quiescent_ZaRefIdeal (hZaRefIdeal := hZaRefIdeal)
    ∧ quiescent_AdaB (hAdaB := hAdaB)
    ∧ quiescent_AdaBIdeal (hAdaBIdeal := hAdaBIdeal)
    ∧ quiescent_AdaBRefIdeal (hAdaBRefIdeal := hAdaBRefIdeal)
    ∧ quiescent_CCtx (hCCtx := hCCtx)
    ∧ quiescent_CCtxIdeal (hCCtxIdeal := hCCtxIdeal)
    ∧ quiescent_CCtxIdeal_pre_finite_rows (hCCtxIdeal := hCCtxIdeal) (hPre_finite_rows := hPre_finite_rows)
    ∧ quiescent_CCtxRefIdeal (hCCtxRefIdeal := hCCtxRefIdeal)
    ∧ quiescent_CCtxRefIdeal_pre_finite_rows (hCCtxRefIdeal := hCCtxRefIdeal) (hPre_finite_rows := hPre_finite_rows)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumInTop (hSumInTop := hSumInTop)
    ∧ quiescent_SumInTopIdeal (hSumInTopIdeal := hSumInTopIdeal)
    ∧ quiescent_SumInTopRefIdeal (hSumInTopRefIdeal := hSumInTopRefIdeal)
    ∧ quiescent_SumInBottom (hSumInBottom := hSumInBottom)
    ∧ quiescent_SumInBottomIdeal (hSumInBottomIdeal := hSumInBottomIdeal)
    ∧ quiescent_SumInBottomRefIdeal (hSumInBottomRefIdeal := hSumInBottomRefIdeal)
    ∧ quiescent_SumBranchTop (hSumBranchTop := hSumBranchTop)
    ∧ quiescent_SumBranchTopIdeal (hSumBranchTopIdeal := hSumBranchTopIdeal)
    ∧ quiescent_SumBranchTopRefIdeal (hSumBranchTopRefIdeal := hSumBranchTopRefIdeal)
    ∧ quiescent_SumBranchBottom (hSumBranchBottom := hSumBranchBottom)
    ∧ quiescent_SumBranchBottomIdeal (hSumBranchBottomIdeal := hSumBranchBottomIdeal)
    ∧ quiescent_SumBranchBottomRefIdeal (hSumBranchBottomRefIdeal := hSumBranchBottomRefIdeal)
    ∧ quiescent_SumOutTop (hSumOutTop := hSumOutTop)
    ∧ quiescent_SumOutTopIdeal (hSumOutTopIdeal := hSumOutTopIdeal)
    ∧ quiescent_SumOutTopRefIdeal (hSumOutTopRefIdeal := hSumOutTopRefIdeal)
    ∧ quiescent_SumOutBottom (hSumOutBottom := hSumOutBottom)
    ∧ quiescent_SumOutBottomIdeal (hSumOutBottomIdeal := hSumOutBottomIdeal)
    ∧ quiescent_SumOutBottomRefIdeal (hSumOutBottomRefIdeal := hSumOutBottomRefIdeal)
    ∧ quiescent_SumFfn1Top (hSumFfn1Top := hSumFfn1Top)
    ∧ quiescent_SumFfn1TopIdeal (hSumFfn1TopIdeal := hSumFfn1TopIdeal)
    ∧ quiescent_SumFfn1TopRefIdeal (hSumFfn1TopRefIdeal := hSumFfn1TopRefIdeal)
    ∧ quiescent_SumFfn1Bottom (hSumFfn1Bottom := hSumFfn1Bottom)
    ∧ quiescent_SumFfn1BottomIdeal (hSumFfn1BottomIdeal := hSumFfn1BottomIdeal)
    ∧ quiescent_SumFfn1BottomRefIdeal (hSumFfn1BottomRefIdeal := hSumFfn1BottomRefIdeal)
    ∧ quiescent_SumFfn2Top (hSumFfn2Top := hSumFfn2Top)
    ∧ quiescent_SumFfn2TopIdeal (hSumFfn2TopIdeal := hSumFfn2TopIdeal)
    ∧ quiescent_SumFfn2TopRefIdeal (hSumFfn2TopRefIdeal := hSumFfn2TopRefIdeal)
    ∧ quiescent_SumFfn2Bottom (hSumFfn2Bottom := hSumFfn2Bottom)
    ∧ quiescent_SumFfn2BottomIdeal (hSumFfn2BottomIdeal := hSumFfn2BottomIdeal)
    ∧ quiescent_SumFfn2BottomRefIdeal (hSumFfn2BottomRefIdeal := hSumFfn2BottomRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamFfn1 (hAdamFfn1 := hAdamFfn1)
    ∧ quiescent_AdamFfn1Ideal (hAdamFfn1Ideal := hAdamFfn1Ideal)
    ∧ quiescent_AdamFfn1RefIdeal (hAdamFfn1RefIdeal := hAdamFfn1RefIdeal)
    ∧ quiescent_AdamFfn2 (hAdamFfn2 := hAdamFfn2)
    ∧ quiescent_AdamFfn2Ideal (hAdamFfn2Ideal := hAdamFfn2Ideal)
    ∧ quiescent_AdamFfn2RefIdeal (hAdamFfn2RefIdeal := hAdamFfn2RefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Gwin_GwinIdeal
    ∧ algebraic_GwinIdeal_GwinRefIdeal (hGwinIdeal := hGwinIdeal) (hGwinRefIdeal := hGwinRefIdeal)
    ∧ preserves_Gw1_Gw1Ideal
    ∧ algebraic_Gw1Ideal_Gw1RefIdeal (hGw1Ideal := hGw1Ideal) (hGw1RefIdeal := hGw1RefIdeal)
    ∧ preserves_Gw2_Gw2Ideal
    ∧ algebraic_Gw2Ideal_Gw2RefIdeal (hGw2Ideal := hGw2Ideal) (hGw2RefIdeal := hGw2RefIdeal)
    ∧ preserves_Gwo_GwoIdeal
    ∧ algebraic_GwoIdeal_GwoRefIdeal (hGwoIdeal := hGwoIdeal) (hGwoRefIdeal := hGwoRefIdeal)
    ∧ preserves_Gwa_GwaIdeal
    ∧ algebraic_GwaIdeal_GwaRefIdeal (hGwaIdeal := hGwaIdeal) (hGwaRefIdeal := hGwaRefIdeal)
    ∧ preserves_Dh_DhIdeal
    ∧ algebraic_DhIdeal_DhRefIdeal (hDhIdeal := hDhIdeal) (hDhRefIdeal := hDhRefIdeal)
    ∧ preserves_Dh2_Dh2Ideal
    ∧ algebraic_Dh2Ideal_Dh2RefIdeal (hDh2Ideal := hDh2Ideal) (hDh2RefIdeal := hDh2RefIdeal)
    ∧ preserves_Da_DaIdeal
    ∧ algebraic_DaIdeal_DaRefIdeal (hDaIdeal := hDaIdeal) (hDaRefIdeal := hDaRefIdeal)
    ∧ preserves_Dz_DzIdeal
    ∧ algebraic_DzIdeal_DzRefIdeal (hDzIdeal := hDzIdeal) (hDzRefIdeal := hDzRefIdeal)
    ∧ preserves_Dya_DyaIdeal
    ∧ algebraic_DyaIdeal_DyaRefIdeal (hDyaIdeal := hDyaIdeal) (hDyaRefIdeal := hDyaRefIdeal)
    ∧ preserves_Dyb_DybIdeal
    ∧ algebraic_DybIdeal_DybRefIdeal (hDybIdeal := hDybIdeal) (hDybRefIdeal := hDybRefIdeal)
    ∧ preserves_U1_U1Ideal
    ∧ algebraic_U1Ideal_U1RefIdeal (hU1Ideal := hU1Ideal) (hU1RefIdeal := hU1RefIdeal)
    ∧ preserves_Mf_MfIdeal
    ∧ algebraic_MfIdeal_MfRefIdeal (hMfIdeal := hMfIdeal) (hMfRefIdeal := hMfRefIdeal)
    ∧ preserves_Mo_MoIdeal
    ∧ algebraic_MoIdeal_MoRefIdeal (hMoIdeal := hMoIdeal) (hMoRefIdeal := hMoRefIdeal)
    ∧ preserves_Za_ZaIdeal
    ∧ algebraic_ZaIdeal_ZaRefIdeal (hZaIdeal := hZaIdeal) (hZaRefIdeal := hZaRefIdeal)
    ∧ preserves_AdaB_AdaBIdeal
    ∧ algebraic_AdaBIdeal_AdaBRefIdeal (hAdaBIdeal := hAdaBIdeal) (hAdaBRefIdeal := hAdaBRefIdeal)
    ∧ preserves_CCtx_CCtxIdeal
    ∧ algebraic_CCtxIdeal_CCtxRefIdeal_pre_finite_rows (hCCtxIdeal := hCCtxIdeal) (hCCtxRefIdeal := hCCtxRefIdeal) (hPre_finite_rows := hPre_finite_rows)
    ∧ preserves_SumSmall_SumSmallIdeal
    ∧ algebraic_SumSmallIdeal_SumSmallRefIdeal (hSumSmallIdeal := hSumSmallIdeal) (hSumSmallRefIdeal := hSumSmallRefIdeal)
    ∧ preserves_SumInTop_SumInTopIdeal
    ∧ algebraic_SumInTopIdeal_SumInTopRefIdeal (hSumInTopIdeal := hSumInTopIdeal) (hSumInTopRefIdeal := hSumInTopRefIdeal)
    ∧ preserves_SumInBottom_SumInBottomIdeal
    ∧ algebraic_SumInBottomIdeal_SumInBottomRefIdeal (hSumInBottomIdeal := hSumInBottomIdeal) (hSumInBottomRefIdeal := hSumInBottomRefIdeal)
    ∧ preserves_SumBranchTop_SumBranchTopIdeal
    ∧ algebraic_SumBranchTopIdeal_SumBranchTopRefIdeal (hSumBranchTopIdeal := hSumBranchTopIdeal) (hSumBranchTopRefIdeal := hSumBranchTopRefIdeal)
    ∧ preserves_SumBranchBottom_SumBranchBottomIdeal
    ∧ algebraic_SumBranchBottomIdeal_SumBranchBottomRefIdeal (hSumBranchBottomIdeal := hSumBranchBottomIdeal) (hSumBranchBottomRefIdeal := hSumBranchBottomRefIdeal)
    ∧ preserves_SumOutTop_SumOutTopIdeal
    ∧ algebraic_SumOutTopIdeal_SumOutTopRefIdeal (hSumOutTopIdeal := hSumOutTopIdeal) (hSumOutTopRefIdeal := hSumOutTopRefIdeal)
    ∧ preserves_SumOutBottom_SumOutBottomIdeal
    ∧ algebraic_SumOutBottomIdeal_SumOutBottomRefIdeal (hSumOutBottomIdeal := hSumOutBottomIdeal) (hSumOutBottomRefIdeal := hSumOutBottomRefIdeal)
    ∧ preserves_SumFfn1Top_SumFfn1TopIdeal
    ∧ algebraic_SumFfn1TopIdeal_SumFfn1TopRefIdeal (hSumFfn1TopIdeal := hSumFfn1TopIdeal) (hSumFfn1TopRefIdeal := hSumFfn1TopRefIdeal)
    ∧ preserves_SumFfn1Bottom_SumFfn1BottomIdeal
    ∧ algebraic_SumFfn1BottomIdeal_SumFfn1BottomRefIdeal (hSumFfn1BottomIdeal := hSumFfn1BottomIdeal) (hSumFfn1BottomRefIdeal := hSumFfn1BottomRefIdeal)
    ∧ preserves_SumFfn2Top_SumFfn2TopIdeal
    ∧ algebraic_SumFfn2TopIdeal_SumFfn2TopRefIdeal (hSumFfn2TopIdeal := hSumFfn2TopIdeal) (hSumFfn2TopRefIdeal := hSumFfn2TopRefIdeal)
    ∧ preserves_SumFfn2Bottom_SumFfn2BottomIdeal
    ∧ algebraic_SumFfn2BottomIdeal_SumFfn2BottomRefIdeal (hSumFfn2BottomIdeal := hSumFfn2BottomIdeal) (hSumFfn2BottomRefIdeal := hSumFfn2BottomRefIdeal)
    ∧ preserves_AdamIn_AdamInIdeal
    ∧ algebraic_AdamInIdeal_AdamInRefIdeal (hAdamInIdeal := hAdamInIdeal) (hAdamInRefIdeal := hAdamInRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamFfn1_AdamFfn1Ideal
    ∧ algebraic_AdamFfn1Ideal_AdamFfn1RefIdeal (hAdamFfn1Ideal := hAdamFfn1Ideal) (hAdamFfn1RefIdeal := hAdamFfn1RefIdeal)
    ∧ preserves_AdamFfn2_AdamFfn2Ideal
    ∧ algebraic_AdamFfn2Ideal_AdamFfn2RefIdeal (hAdamFfn2Ideal := hAdamFfn2Ideal) (hAdamFfn2RefIdeal := hAdamFfn2RefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_finite_rows.lean ====
abbrev S4x2048 : Shape := ⟨2, ![4, 2048]⟩
abbrev S2048 : Shape := ⟨1, ![2048]⟩
abbrev S_ : Shape := ⟨0, ![]⟩

class Facts : Prop where
  bcast_S_S4x2048 : S_.BroadcastsInDim S4x2048 (![] : Fin 0 → Fin S4x2048.rank)
  reducesTo_S4x2048_S_d0_1 : S4x2048.ReducesTo [0, 1] S_
  h_S_ : 0 < S_.numel

variable [Facts]

def fn {F : FTy → Type} [FloatOps F] (main_arg0 : FVec F S4x2048 .f32) (main_arg1 : FVec F S2048 .f32) : IVec S_ 1 :=
  let main_v0 : FVec F S4x2048 .f32 := Host.absf main_arg0
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  let main_c : IVec S_ 1 := constantI S_ 1 1#1
  let main_v3 : IVec S_ 1 := (fun x v => Host.reduce IntOp.andi x v reducesTo_S4x2048_S_d0_1 h_S_) main_v2 main_c
  main_v3
-- ==== Gwin.lean ====
abbrev S2304x2048 : Shape := ⟨2, ![2304, 2048]⟩
abbrev S2304x12288 : Shape := ⟨2, ![2304, 12288]⟩
abbrev S4x2048x3072 : Shape := ⟨3, ![4, 2048, 3072]⟩
abbrev S2304x1024 : Shape := ⟨2, ![2304, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x12288, .bf16⟩
  | .hbm, ⟨2, _⟩ => ⟨S4x2048x3072, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1x1024x1024, .bf16⟩
  | .local _ .vmem, ⟨5, _⟩ => ⟨S1x1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwinIdeal.lean ====
abbrev S2304x2048 : Shape := ⟨2, ![2304, 2048]⟩
abbrev S2304x12288 : Shape := ⟨2, ![2304, 12288]⟩
abbrev S4x2048x3072 : Shape := ⟨3, ![4, 2048, 3072]⟩
abbrev S2304x1024 : Shape := ⟨2, ![2304, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x12288, .bf16⟩
  | .hbm, ⟨2, _⟩ => ⟨S4x2048x3072, .bf16⟩
  | .local _ .vmem, ⟨0, _⟩ => ⟨S2304x1024, .bf16⟩
  | .local _ .vmem, ⟨1, _⟩ => ⟨S2304x1024, .bf16⟩
  | .local _ .vmem, ⟨2, _⟩ => ⟨S2304x1024, .bf16⟩
  | .local _ .vmem, ⟨3, _⟩ => ⟨S2304x1024, .bf16⟩
  | .local _ .vmem, ⟨4, _⟩ => ⟨S1x1024x1024, .bf16⟩
  | .local _ .vmem, ⟨5, _⟩ => ⟨S1x1024x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwinRefIdeal.lean ====
abbrev S2304x2048 : Shape := ⟨2, ![2304, 2048]⟩
abbrev S2304x12288 : Shape := ⟨2, ![2304, 12288]⟩
abbrev S_ : Shape := ⟨0, ![]⟩
abbrev S2048x12288 : Shape := ⟨2, ![2048, 12288]⟩
abbrev S12288x2048 : Shape := ⟨2, ![12288, 2048]⟩
abbrev S2048x4x3072 : Shape := ⟨3, ![2048, 4, 3072]⟩
abbrev S4x2048x3072 : Shape := ⟨3, ![4, 2048, 3072]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x12288, .bf16⟩
  | .hbm, ⟨2, _⟩ => ⟨S_, .f32⟩
  | .hbm, ⟨3, _⟩ => ⟨S2048x12288, .f32⟩
  | .hbm, ⟨4, _⟩ => ⟨S2304x2048, .f32⟩
  | .hbm, ⟨5, _⟩ => ⟨S2304x12288, .f32⟩
  | .hbm, ⟨6, _⟩ => ⟨S2304x12288, .f32⟩
  | .hbm, ⟨7, _⟩ => ⟨S12288x2048, .f32⟩
  | .hbm, ⟨8, _⟩ => ⟨S2048x12288, .f32⟩
  | .hbm, ⟨9, _⟩ => ⟨S2048x4x3072, .f32⟩
  | .hbm, ⟨10, _⟩ => ⟨S4x2048x3072, .f32⟩
  | .hbm, ⟨11, _⟩ => ⟨S4x2048x3072, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gw1.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Gw1Ideal.lean ====
abbrev S2048x2048 : Shape := ⟨2, ![2048, 2048]⟩
abbrev S2048x5632 : Shape := ⟨2, ![2048, 5632]⟩
abbrev S4x2048x1408 : Shape := ⟨3, ![4, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S4x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Gw1RefIdeal.lean ====
abbrev S2048x2048 : Shape := ⟨2, ![2048, 2048]⟩
abbrev S2048x5632 : Shape := ⟨2, ![2048, 5632]⟩
abbrev S_ : Shape := ⟨0, ![]⟩
abbrev S5632x2048 : Shape := ⟨2, ![5632, 2048]⟩
abbrev S2048x4x1408 : Shape := ⟨3, ![2048, 4, 1408]⟩
abbrev S4x2048x1408 : Shape := ⟨3, ![4, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5632, .bf16⟩
  | .hbm, ⟨2, _⟩ => ⟨S_, .f32⟩
  | .hbm, ⟨3, _⟩ => ⟨S2048x5632, .f32⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S5632x2048, .f32⟩
  | .hbm, ⟨8, _⟩ => ⟨S2048x5632, .f32⟩
  | .hbm, ⟨9, _⟩ => ⟨S2048x4x1408, .f32⟩
  | .hbm, ⟨10, _⟩ => ⟨S4x2048x1408, .f32⟩
  | .hbm, ⟨11, _⟩ => ⟨S4x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Gw2.lean ====
abbrev S2048x5632 : Shape := ⟨2, ![2048, 5632]⟩
abbrev S2048x2048 : Shape := ⟨2, ![2048, 2048]⟩
abbrev S1x5632x2048 : Shape := ⟨3, ![1, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Gw2Ideal.lean ====
abbrev S2048x5632 : Shape := ⟨2, ![2048, 5632]⟩
abbrev S2048x2048 : Shape := ⟨2, ![2048, 2048]⟩
abbrev S1x5632x2048 : Shape := ⟨3, ![1, 5632, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S1x5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Gw2RefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩
abbrev S1x5632x2048 : Shape := ⟨3, ![1, 5632, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S1x5632x2048, .f32⟩
  | .hbm, ⟨10, _⟩ => ⟨S1x5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gwo.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwoIdeal.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S1x2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwoRefIdeal.lean ====
abbrev S2048x2048 : Shape := ⟨2, ![2048, 2048]⟩
abbrev S_ : Shape := ⟨0, ![]⟩
abbrev S1x2048x2048 : Shape := ⟨3, ![1, 2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S1x2048x2048, .f32⟩
  | .hbm, ⟨10, _⟩ => ⟨S1x2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gwa.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwaIdeal.lean ====
abbrev S2048x1024 : Shape := ⟨2, ![2048, 1024]⟩
abbrev S2048x2048 : Shape := ⟨2, ![2048, 2048]⟩
abbrev S4x1024x512 : Shape := ⟨3, ![4, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S4x1024x512, .bf16⟩
  | .local _ .vmem, ⟨0, _⟩ => ⟨S2048x1024, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GwaRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .f32⟩
  | .hbm, ⟨3, _⟩ => ⟨S1024x2048, .f32⟩
  | .hbm, ⟨4, _⟩ => ⟨S2048x1024, .f32⟩
  | .hbm, ⟨5, _⟩ => ⟨S2048x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x4x512, .f32⟩
  | .hbm, ⟨10, _⟩ => ⟨S4x1024x512, .f32⟩
  | .hbm, ⟨11, _⟩ => ⟨S4x1024x512, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S2304x12288 : Shape := ⟨2, ![2304, 12288]⟩
abbrev S4x2048x3072 : Shape := ⟨3, ![4, 2048, 3072]⟩
abbrev S2304x2048 : Shape := ⟨2, ![2304, 2048]⟩
abbrev S768x1024 : Shape := ⟨2, ![768, 1024]⟩
abbrev S1x2048x1024 : Shape := ⟨3, ![1, 2048, 1024]⟩
abbrev S768x2048 : Shape := ⟨2, ![768, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x12288, .bf16⟩
  | .hbm, ⟨1, _⟩ => ⟨S4x2048x3072, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhIdeal.lean ====
abbrev S2304x12288 : Shape := ⟨2, ![2304, 12288]⟩
abbrev S4x2048x3072 : Shape := ⟨3, ![4, 2048, 3072]⟩
abbrev S2304x2048 : Shape := ⟨2, ![2304, 2048]⟩
abbrev S768x1024 : Shape := ⟨2, ![768, 1024]⟩
abbrev S1x2048x1024 : Shape := ⟨3, ![1, 2048, 1024]⟩
abbrev S768x2048 : Shape := ⟨2, ![768, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2304x12288, .bf16⟩
  | .hbm, ⟨1, _⟩ => ⟨S4x2048x3072, .bf16⟩
  | .hbm, ⟨2, _⟩ => ⟨S2304x2048, .f32⟩
  | .local _ .vmem, ⟨0, _⟩ => ⟨S768x1024, .bf16⟩
  | .local _ .vmem, ⟨1, _⟩ => ⟨S768x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x2048, .f32⟩
  | .local _ .vmem, ⟨5, _⟩ => ⟨S768x2048, .f32⟩
  | .local _ .vmem, ⟨6, _⟩ => ⟨S768x2048, .f32⟩
  | _, _ => ⟨S2304x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 12], ![false, false, false]⟩

def k0_cond2 (i : grid0.Coords) : BitVec 1 :=
  let arg2 : BitVec 32 := BitVec.ofNat 32 (i 2).val
  let c11_i32 : BitVec 32 := 11#32
  let v12 : BitVec 1 := Scalar.cmpi .eq arg2 c11_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.divsi arg2 c3_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg2 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DhRefIdeal.lean ====
abbrev S2304x12288 : Shape := ⟨2, ![2304, 12288]⟩
abbrev S4x2048x3072 : Shape := ⟨3, ![4, 2048, 3072]⟩
abbrev S2048x4x3072 : Shape := ⟨3, ![2048, 4, 3072]⟩
abbrev S2048x12288 : Shape := ⟨2, ![2048, 12288]⟩
abbrev S_ : Shape := ⟨0, ![]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x12288, .bf16⟩
  | .hbm, ⟨1, _⟩ => ⟨S4x2048x3072, .bf16⟩
  | .hbm, ⟨2, _⟩ => ⟨S2048x4x3072, .bf16⟩
  | .hbm, ⟨3, _⟩ => ⟨S2048x12288, .bf16⟩
  | .hbm, ⟨4, _⟩ => ⟨S_, .f32⟩
  | .hbm, ⟨5, _⟩ => ⟨S2304x2048, .f32⟩
  | .hbm, ⟨6, _⟩ => ⟨S2048x12288, .f32⟩
  | .hbm, ⟨7, _⟩ => ⟨S2304x12288, .f32⟩
  | .hbm, ⟨8, _⟩ => ⟨S2304x12288, .f32⟩
  | .hbm, ⟨9, _⟩ => ⟨S2304x2048, .f32⟩
  | _, _ => ⟨S2304x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh2.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2Ideal.lean ====
abbrev S2048x5632 : Shape := ⟨2, ![2048, 5632]⟩
abbrev S4x2048x1408 : Shape := ⟨3, ![4, 2048, 1408]⟩
abbrev S2048x2048 : Shape := ⟨2, ![2048, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S2048x5632 : Shape := ⟨2, ![2048, 5632]⟩
abbrev S4x2048x1408 : Shape := ⟨3, ![4, 2048, 1408]⟩
abbrev S2048x4x1408 : Shape := ⟨3, ![2048, 4, 1408]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S4x2048x1408, .bf16⟩
  | .hbm, ⟨2, _⟩ => ⟨S2048x4x1408, .bf16⟩
  | .hbm, ⟨3, _⟩ => ⟨S2048x5632, .bf16⟩
  | .hbm, ⟨4, _⟩ => ⟨S_, .f32⟩
  | .hbm, ⟨5, _⟩ => ⟨S2048x2048, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Da.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaIdeal.lean ====
abbrev S2048x2048 : Shape := ⟨2, ![2048, 2048]⟩
abbrev S1x5632x2048 : Shape := ⟨3, ![1, 5632, 2048]⟩
abbrev S2048x5632 : Shape := ⟨2, ![2048, 5632]⟩
abbrev S1024x2048 : Shape := ⟨2, ![1024, 2048]⟩
abbrev S1x1408x2048 : Shape := ⟨3, ![1, 1408, 2048]⟩
abbrev S1024x1408 : Shape := ⟨2, ![1024, 1408]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaRefIdeal.lean ====
abbrev S2048x2048 : Shape := ⟨2, ![2048, 2048]⟩
abbrev S1x5632x2048 : Shape := ⟨3, ![1, 5632, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x5632x2048, .bf16⟩
  | .hbm, ⟨2, _⟩ => ⟨S5632x2048, .bf16⟩
  | .hbm, ⟨3, _⟩ => ⟨S_, .f32⟩
  | .hbm, ⟨4, _⟩ => ⟨S2048x5632, .f32⟩
  | .hbm, ⟨5, _⟩ => ⟨S5632x2048, .f32⟩
  | .hbm, ⟨6, _⟩ => ⟨S2048x2048, .f32⟩
  | .hbm, ⟨7, _⟩ => ⟨S2048x2048, .f32⟩
  | .hbm, ⟨8, _⟩ => ⟨S2048x5632, .f32⟩
  | .hbm, ⟨9, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dz.lean ====
abbrev S2048x2048 : Shape := ⟨2, ![2048, 2048]⟩
abbrev S1x2048x2048 : Shape := ⟨3, ![1, 2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzIdeal.lean ====
abbrev S2048x2048 : Shape := ⟨2, ![2048, 2048]⟩
abbrev S1x2048x2048 : Shape := ⟨3, ![1, 2048, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DzRefIdeal.lean ====
abbrev S2048x2048 : Shape := ⟨2, ![2048, 2048]⟩
abbrev S1x2048x2048 : Shape := ⟨3, ![1, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dya.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaIdeal.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S2048x2048 : Shape := ⟨2, ![2048, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dyb.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybIdeal.lean ====
abbrev S2048x2048 : Shape := ⟨2, ![2048, 2048]⟩
abbrev S4x1024x512 : Shape := ⟨3, ![4, 1024, 512]⟩
abbrev S2048x1024 : Shape := ⟨2, ![2048, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybRefIdeal.lean ====
abbrev S2048x2048 : Shape := ⟨2, ![2048, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== U1.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== U1Ideal.lean ====
abbrev S2048x2048 : Shape := ⟨2, ![2048, 2048]⟩
abbrev S4x2048x1408 : Shape := ⟨3, ![4, 2048, 1408]⟩
abbrev S2048x5632 : Shape := ⟨2, ![2048, 5632]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== U1RefIdeal.lean ====
abbrev S2048x2048 : Shape := ⟨2, ![2048, 2048]⟩
abbrev S4x2048x1408 : Shape := ⟨3, ![4, 2048, 1408]⟩
abbrev S2048x4x1408 : Shape := ⟨3, ![2048, 4, 1408]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S2048x4x1408, .bf16⟩
  | .hbm, ⟨3, _⟩ => ⟨S2048x5632, .bf16⟩
  | .hbm, ⟨4, _⟩ => ⟨S2048x2048, .f32⟩
  | .hbm, ⟨5, _⟩ => ⟨S2048x5632, .f32⟩
  | .hbm, ⟨6, _⟩ => ⟨S2048x5632, .f32⟩
  | .hbm, ⟨7, _⟩ => ⟨S2048x5632, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Mf.lean ====
abbrev S2048x5632 : Shape := ⟨2, ![2048, 5632]⟩
abbrev S1x5632x2048 : Shape := ⟨3, ![1, 5632, 2048]⟩
abbrev S2048x2048 : Shape := ⟨2, ![2048, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MfIdeal.lean ====
abbrev S2048x5632 : Shape := ⟨2, ![2048, 5632]⟩
abbrev S1x5632x2048 : Shape := ⟨3, ![1, 5632, 2048]⟩
abbrev S2048x2048 : Shape := ⟨2, ![2048, 2048]⟩
abbrev S512x5632 : Shape := ⟨2, ![512, 5632]⟩
abbrev S1x5632x1024 : Shape := ⟨3, ![1, 5632, 1024]⟩
abbrev S512x1024 : Shape := ⟨2, ![512, 1024]⟩
abbrev S5632x1024 : Shape := ⟨2, ![5632, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x1024, .bf16⟩
  | .local _ .vmem, ⟨3, _⟩ => ⟨S1x5632x1024, .bf16⟩
  | .local _ .vmem, ⟨4, _⟩ => ⟨S512x1024, .f32⟩
  | .local _ .vmem, ⟨5, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MfRefIdeal.lean ====
abbrev S2048x5632 : Shape := ⟨2, ![2048, 5632]⟩
abbrev S1x5632x2048 : Shape := ⟨3, ![1, 5632, 2048]⟩
abbrev S5632x2048 : Shape := ⟨2, ![5632, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S1x5632x2048, .bf16⟩
  | .hbm, ⟨2, _⟩ => ⟨S5632x2048, .bf16⟩
  | .hbm, ⟨3, _⟩ => ⟨S2048x5632, .f32⟩
  | .hbm, ⟨4, _⟩ => ⟨S5632x2048, .f32⟩
  | .hbm, ⟨5, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mo.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoIdeal.lean ====
abbrev S2048x2048 : Shape := ⟨2, ![2048, 2048]⟩
abbrev S1x2048x2048 : Shape := ⟨3, ![1, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MoRefIdeal.lean ====
abbrev S2048x2048 : Shape := ⟨2, ![2048, 2048]⟩
abbrev S1x2048x2048 : Shape := ⟨3, ![1, 2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Za.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZaIdeal.lean ====
abbrev S2048x1024 : Shape := ⟨2, ![2048, 1024]⟩
abbrev S4x1024x512 : Shape := ⟨3, ![4, 1024, 512]⟩
abbrev S2048x2048 : Shape := ⟨2, ![2048, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x512, .bf16⟩
  | .local _ .vmem, ⟨5, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ZaRefIdeal.lean ====
abbrev S2048x1024 : Shape := ⟨2, ![2048, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1024x512, .bf16⟩
  | .hbm, ⟨2, _⟩ => ⟨S1024x4x512, .bf16⟩
  | .hbm, ⟨3, _⟩ => ⟨S1024x2048, .bf16⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== AdaB.lean ====
abbrev S16x2048 : Shape := ⟨2, ![16, 2048]⟩
abbrev S2048x3072 : Shape := ⟨2, ![2048, 3072]⟩
abbrev S16x3072 : Shape := ⟨2, ![16, 3072]⟩
abbrev S2048x512 : Shape := ⟨2, ![2048, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .hbm, ⟨3, _⟩ => ⟨S2048x3072, .f32⟩
  | .hbm, ⟨4, _⟩ => ⟨S16x2048, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S16x512, .f32⟩
  | .local _ .vmem, ⟨4, _⟩ => ⟨S16x512, .f32⟩
  | .local _ .vmem, ⟨5, _⟩ => ⟨S2048x512, .f32⟩
  | .local _ .vmem, ⟨6, _⟩ => ⟨S2048x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AdaBIdeal.lean ====
abbrev S16x2048 : Shape := ⟨2, ![16, 2048]⟩
abbrev S2048x3072 : Shape := ⟨2, ![2048, 3072]⟩
abbrev S16x3072 : Shape := ⟨2, ![16, 3072]⟩
abbrev S2048x512 : Shape := ⟨2, ![2048, 512]⟩
abbrev S16x512 : Shape := ⟨2, ![16, 512]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .hbm, ⟨3, _⟩ => ⟨S2048x3072, .f32⟩
  | .hbm, ⟨4, _⟩ => ⟨S16x2048, .f32⟩
  | .local _ .vmem, ⟨0, _⟩ => ⟨S16x2048, .f32⟩
  | .local _ .vmem, ⟨1, _⟩ => ⟨S2048x512, .f32⟩
  | .local _ .vmem, ⟨2, _⟩ => ⟨S2048x512, .f32⟩
  | .local _ .vmem, ⟨3, _⟩ => ⟨S16x512, .f32⟩
  | .local _ .vmem, ⟨4, _⟩ => ⟨S16x512, .f32⟩
  | .local _ .vmem, ⟨5, _⟩ => ⟨S2048x512, .f32⟩
  | .local _ .vmem, ⟨6, _⟩ => ⟨S2048x512, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AdaBRefIdeal.lean ====
abbrev S16x2048 : Shape := ⟨2, ![16, 2048]⟩
abbrev S2048x3072 : Shape := ⟨2, ![2048, 3072]⟩
abbrev S16x3072 : Shape := ⟨2, ![16, 3072]⟩
abbrev S_ : Shape := ⟨0, ![]⟩
abbrev S3072x2048 : Shape := ⟨2, ![3072, 2048]⟩

abbrev nBuf : Space → Nat
  | .hbm => 16
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x3072, .f32⟩
  | .hbm, ⟨2, _⟩ => ⟨S16x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S16x3072, .f32⟩
  | .hbm, ⟨13, _⟩ => ⟨S3072x2048, .f32⟩
  | .hbm, ⟨14, _⟩ => ⟨S2048x3072, .f32⟩
  | .hbm, ⟨15, _⟩ => ⟨S16x2048, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== CCtx.lean ====
abbrev S4x2048 : Shape := ⟨2, ![4, 2048]⟩
abbrev S2048 : Shape := ⟨1, ![2048]⟩
abbrev S_ : Shape := ⟨0, ![]⟩
abbrev S8x2048 : Shape := ⟨2, ![8, 2048]⟩
abbrev S1x2048 : Shape := ⟨2, ![1, 2048]⟩

abbrev nBuf : Space → Nat
  | .hbm => 7
  | .vmem => 3
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S_, .f32⟩
  | .hbm, ⟨3, _⟩ => ⟨S4x2048, .f32⟩
  | .hbm, ⟨4, _⟩ => ⟨S8x2048, .f32⟩
  | .hbm, ⟨5, _⟩ => ⟨S1x2048, .f32⟩
  | .hbm, ⟨6, _⟩ => ⟨S1x2048, .f32⟩
  | .local _ .vmem, ⟨0, _⟩ => ⟨S8x2048, .f32⟩
  | .local _ .vmem, ⟨1, _⟩ => ⟨S1x2048, .f32⟩
  | .local _ .vmem, ⟨2, _⟩ => ⟨S1x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CCtxRefIdeal.lean ====
abbrev S4x2048 : Shape := ⟨2, ![4, 2048]⟩
abbrev S2048 : Shape := ⟨1, ![2048]⟩
abbrev S_ : Shape := ⟨0, ![]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S1x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_v0_2 : Ref sig .tc := ⟨.hbm, 9, rfl⟩
abbrev main_call0_cst_1 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev main_v0_0 : Ref sig .tc := ⟨.hbm, 14, rfl⟩
abbrev main_cst : Ref sig .tc := ⟨.hbm, 15, rfl⟩
abbrev main_v1 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩

abbrev nD : Nat := 1
abbrev τ : Topo := Topo.v7x

variable {F : FTy → Type} [FloatOps F]
-- ==== SumSmall.lean ====
abbrev S8x6x2048 : Shape := ⟨3, ![8, 6, 2048]⟩
abbrev S8x2048 : Shape := ⟨2, ![8, 2048]⟩
abbrev S8x2x2x1024 : Shape := ⟨4, ![8, 2, 2, 1024]⟩
abbrev S8x128 : Shape := ⟨2, ![8, 128]⟩
abbrev S8x8x15x31 : Shape := ⟨4, ![8, 8, 15, 31]⟩
abbrev S8x3x5632 : Shape := ⟨3, ![8, 3, 5632]⟩
abbrev S8x5632 : Shape := ⟨2, ![8, 5632]⟩
abbrev S8x12288 : Shape := ⟨2, ![8, 12288]⟩
abbrev S_ : Shape := ⟨0, ![]⟩
abbrev S8x4096 : Shape := ⟨2, ![8, 4096]⟩
abbrev S8x1024 : Shape := ⟨2, ![8, 1024]⟩
abbrev S8x3720 : Shape := ⟨2, ![8, 3720]⟩
abbrev S8x16896 : Shape := ⟨2, ![8, 16896]⟩
abbrev S8x17408 : Shape := ⟨2, ![8, 17408]⟩
abbrev S8x6144 : Shape := ⟨2, ![8, 6144]⟩
abbrev S2048 : Shape := ⟨1, ![2048]⟩
abbrev S8x65536 : Shape := ⟨2, ![8, 65536]⟩
abbrev S8x64x1024 : Shape := ⟨3, ![8, 64, 1024]⟩
abbrev S64x1024 : Shape := ⟨2, ![64, 1024]⟩
abbrev S1x64x1024 : Shape := ⟨3, ![1, 64, 1024]⟩
abbrev S65536 : Shape := ⟨1, ![65536]⟩
abbrev S12288 : Shape := ⟨1, ![12288]⟩
abbrev S6x2048 : Shape := ⟨2, ![6, 2048]⟩
abbrev S1x12288 : Shape := ⟨2, ![1, 12288]⟩

abbrev nBuf : Space → Nat
  | .hbm => 63
  | .vmem => 2
  | .smem => 0
  | _ => 0

abbrev bufTy : (tb : Table) → Fin (tcTables nBuf tb) → BufTy
  | .hbm, ⟨0, _⟩ => ⟨S8x6x2048, .f32⟩
  | .hbm, ⟨1, _⟩ => ⟨S8x6x2048, .f32⟩
  | .hbm, ⟨2, _⟩ => ⟨S8x2048, .f32⟩
  | .hbm, ⟨3, _⟩ => ⟨S8x2048, .f32⟩
  | .hbm, ⟨4, _⟩ => ⟨S8x2x2x1024, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x8x15x31, .f32⟩
  | .hbm, ⟨9, _⟩ => ⟨S8x3x5632, .f32⟩
  | .hbm, ⟨10, _⟩ => ⟨S8x5632, .f32⟩
  | .hbm, ⟨11, _⟩ => ⟨S8x12288, .f32⟩
  | .hbm, ⟨12, _⟩ => ⟨S_, .i32⟩
  | .hbm, ⟨13, _⟩ => ⟨S_, .f32⟩
  | .hbm, ⟨14, _⟩ => ⟨S8x12288, .f32⟩
  | .hbm, ⟨15, _⟩ => ⟨S8x12288, .f32⟩
  | .hbm, ⟨16, _⟩ => ⟨S_, .i32⟩
  | .hbm, ⟨17, _⟩ => ⟨S_, .f32⟩
  | .hbm, ⟨18, _⟩ => ⟨S8x12288, .f32⟩
  | .hbm, ⟨19, _⟩ => ⟨S_, .i32⟩
  | .hbm, ⟨20, _⟩ => ⟨S_, .f32⟩
  | .hbm, ⟨21, _⟩ => ⟨S8x2048, .f32⟩
  | .hbm, ⟨22, _⟩ => ⟨S_, .i32⟩
  | .hbm, ⟨23, _⟩ => ⟨S_, .f32⟩
  | .hbm, ⟨24, _⟩ => ⟨S8x2048, .f32⟩
  | .hbm, ⟨25, _⟩ => ⟨S8x4096, .f32⟩
  | .hbm, ⟨26, _⟩ => ⟨S_, .i32⟩
  | .hbm, ⟨27, _⟩ => ⟨S_, .f32⟩
  | .hbm, ⟨28, _⟩ => ⟨S8x4096, .f32⟩
  | .hbm, ⟨29, _⟩ => ⟨S_, .i32⟩
  | .hbm, ⟨30, _⟩ => ⟨S_, .f32⟩
  | .hbm, ⟨31, _⟩ => ⟨S8x1024, .f32⟩
  | .hbm, ⟨32, _⟩ => ⟨S_, .i32⟩
  | .hbm, ⟨33, _⟩ => ⟨S_, .f32⟩
  | .hbm, ⟨34, _⟩ => ⟨S8x1024, .f32⟩
  | .hbm, ⟨35, _⟩ => ⟨S_, .i32⟩
  | .hbm, ⟨36, _⟩ => ⟨S_, .f32⟩
  | .hbm, ⟨37, _⟩ => ⟨S8x1024, .f32⟩
  | .hbm, ⟨38, _⟩ => ⟨S8x3720, .f32⟩
  | .hbm, ⟨39, _⟩ => ⟨S_, .i32⟩
  | .hbm, ⟨40, _⟩ => ⟨S_, .f32⟩
  | .hbm, ⟨41, _⟩ => ⟨S8x4096, .f32⟩
  | .hbm, ⟨42, _⟩ => ⟨S8x16896, .f32⟩
  | .hbm, ⟨43, _⟩ => ⟨S_, .i32⟩
  | .hbm, ⟨44, _⟩ => ⟨S_, .f32⟩
  | .hbm, ⟨45, _⟩ => ⟨S8x17408, .f32⟩
  | .hbm, ⟨46, _⟩ => ⟨S_, .i32⟩
  | .hbm, ⟨47, _⟩ => ⟨S_, .f32⟩
  | .hbm, ⟨48, _⟩ => ⟨S8x6144, .f32⟩
  | .hbm, ⟨49, _⟩ => ⟨S_, .f32⟩
  | .hbm, ⟨50, _⟩ => ⟨S2048, .f32⟩
  | .hbm, ⟨51, _⟩ => ⟨S8x2048, .f32⟩
  | .hbm, ⟨52, _⟩ => ⟨S8x65536, .f32⟩
  | .hbm, ⟨53, _⟩ => ⟨S8x64x1024, .f32⟩
  | .hbm, ⟨54, _⟩ => ⟨S64x1024, .f32⟩
  | .hbm, ⟨55, _⟩ => ⟨S65536, .f32⟩
  | .hbm, ⟨56, _⟩ => ⟨S12288, .f32⟩
  | .hbm, ⟨57, _⟩ => ⟨S6x2048, .f32⟩
  | .hbm, ⟨58, _⟩ => ⟨S65536, .f32⟩
  | .hbm, ⟨59, _⟩ => ⟨S12288, .f32⟩
  | .hbm, ⟨60, _⟩ => ⟨S6x2048, .f32⟩
  | .hbm, ⟨61, _⟩ => ⟨S6x2048, .f32⟩
  | .hbm, ⟨62, _⟩ => ⟨S1x12288, .f32⟩
  | .local _ .vmem, ⟨0, _⟩ => ⟨S8x64x1024, .f32⟩
  | .local _ .vmem, ⟨1, _⟩ => ⟨S64x1024, .f32⟩
  | _, _ => ⟨S8x6x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_c_1 : Ref sig .tc := ⟨.hbm, 19, rfl⟩
abbrev main_call2_v0 : Ref sig .tc := ⟨.hbm, 20, rfl⟩
abbrev main_v4 : Ref sig .tc := ⟨.hbm, 21, rfl⟩
abbrev main_c_2 : Ref sig .tc := ⟨.hbm, 22, rfl⟩
abbrev main_call3_v0 : Ref sig .tc := ⟨.hbm, 23, rfl⟩
abbrev main_v5 : Ref sig .tc := ⟨.hbm, 24, rfl⟩
abbrev main_v6 : Ref sig .tc := ⟨.hbm, 25, rfl⟩
abbrev main_c_3 : Ref sig .tc := ⟨.hbm, 26, rfl⟩
abbrev main_call4_v0 : Ref sig .tc := ⟨.hbm, 27, rfl⟩
abbrev main_v7 : Ref sig .tc := ⟨.hbm, 28, rfl⟩
abbrev main_c_4 : Ref sig .tc := ⟨.hbm, 29, rfl⟩
abbrev main_call5_v0 : Ref sig .tc := ⟨.hbm, 30, rfl⟩
abbrev main_v8 : Ref sig .tc := ⟨.hbm, 31, rfl⟩
abbrev main_c_5 : Ref sig .tc := ⟨.hbm, 32, rfl⟩
abbrev main_call6_v0 : Ref sig .tc := ⟨.hbm, 33, rfl⟩
abbrev main_v9 : Ref sig .tc := ⟨.hbm, 34, rfl⟩
abbrev main_c_6 : Ref sig .tc := ⟨.hbm, 35, rfl⟩
abbrev main_call7_v0 : Ref sig .tc := ⟨.hbm, 36, rfl⟩
abbrev main_v10 : Ref sig .tc := ⟨.hbm, 37, rfl⟩
abbrev main_v11 : Ref sig .tc := ⟨.hbm, 38, rfl⟩
abbrev main_c_7 : Ref sig .tc := ⟨.hbm, 39, rfl⟩
abbrev main_call8_v0 : Ref sig .tc := ⟨.hbm, 40, rfl⟩
abbrev main_v12 : Ref sig .tc := ⟨.hbm, 41, rfl⟩
abbrev main_v13 : Ref sig .tc := ⟨.hbm, 42, rfl⟩
abbrev main_c_8 : Ref sig .tc := ⟨.hbm, 43, rfl⟩
abbrev main_call9_v0 : Ref sig .tc := ⟨.hbm, 44, rfl⟩
abbrev main_v14 : Ref sig .tc := ⟨.hbm, 45, rfl⟩
abbrev main_c_9 : Ref sig .tc := ⟨.hbm, 46, rfl⟩
abbrev main_call10_v0 : Ref sig .tc := ⟨.hbm, 47, rfl⟩
abbrev main_v15 : Ref sig .tc := ⟨.hbm, 48, rfl⟩
abbrev main_cst : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x6x2048 : Shape := ⟨3, ![8, 6, 2048]⟩
abbrev S8x2048 : Shape := ⟨2, ![8, 2048]⟩
abbrev S8x2x2x1024 : Shape := ⟨4, ![8, 2, 2, 1024]⟩
abbrev S8x128 : Shape := ⟨2, ![8, 128]⟩
abbrev S8x8x15x31 : Shape := ⟨4, ![8, 8, 15, 31]⟩
abbrev S8x3x5632 : Shape := ⟨3, ![8, 3, 5632]⟩
abbrev S8x5632 : Shape := ⟨2, ![8, 5632]⟩
abbrev S_ : Shape := ⟨0, ![]⟩
abbrev S6x2048 : Shape := ⟨2, ![6, 2048]⟩
abbrev S2048 : Shape := ⟨1, ![2048]⟩
abbrev S2x2x1024 : Shape := ⟨3, ![2, 2, 1024]⟩
abbrev S128 : Shape := ⟨1, ![128]⟩
abbrev S8x15x31 : Shape := ⟨3, ![8, 15, 31]⟩
abbrev S3x5632 : Shape := ⟨2, ![3, 5632]⟩
abbrev S5632 : Shape := ⟨1, ![5632]⟩
abbrev S12288 : Shape := ⟨1, ![12288]⟩
abbrev S4096 : Shape := ⟨1, ![4096]⟩
abbrev S1024 : Shape := ⟨1, ![1024]⟩
abbrev S3720 : Shape := ⟨1, ![3720]⟩
abbrev S16896 : Shape := ⟨1, ![16896]⟩
abbrev S17408 : Shape := ⟨1, ![17408]⟩
abbrev S6144 : Shape := ⟨1, ![6144]⟩
abbrev S65536 : Shape := ⟨1, ![65536]⟩
abbrev S64x1024 : Shape := ⟨2, ![64, 1024]⟩
abbrev S1x12288 : Shape := ⟨2, ![1, 12288]⟩

abbrev nBuf : Space → Nat
  | .hbm => 77
  | .vmem => 0
  | .smem => 0
  | _ => 0

abbrev bufTy : (tb : Table) → Fin (tcTables nBuf tb) → BufTy
  | .hbm, ⟨0, _⟩ => ⟨S8x6x2048, .f32⟩
  | .hbm, ⟨1, _⟩ => ⟨S8x6x2048, .f32⟩
  | .hbm, ⟨2, _⟩ => ⟨S8x2048, .f32⟩
  | .hbm, ⟨3, _⟩ => ⟨S8x2048, .f32⟩
  | .hbm, ⟨4, _⟩ => ⟨S8x2x2x1024, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x8x15x31, .f32⟩
  | .hbm, ⟨9, _⟩ => ⟨S8x3x5632, .f32⟩
  | .hbm, ⟨10, _⟩ => ⟨S8x5632, .f32⟩
  | .hbm, ⟨11, _⟩ => ⟨S_, .f32⟩
  | .hbm, ⟨12, _⟩ => ⟨S6x2048, .f32⟩
  | .hbm, ⟨13, _⟩ => ⟨S_, .f32⟩
  | .hbm, ⟨14, _⟩ => ⟨S6x2048, .f32⟩
  | .hbm, ⟨15, _⟩ => ⟨S_, .f32⟩
  | .hbm, ⟨16, _⟩ => ⟨S2048, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2x2x1024, .f32⟩
  | .hbm, ⟨21, _⟩ => ⟨S_, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S_, .f32⟩
  | .hbm, ⟨28, _⟩ => ⟨S8x15x31, .f32⟩
  | .hbm, ⟨29, _⟩ => ⟨S_, .f32⟩
  | .hbm, ⟨30, _⟩ => ⟨S3x5632, .f32⟩
  | .hbm, ⟨31, _⟩ => ⟨S_, .f32⟩
  | .hbm, ⟨32, _⟩ => ⟨S5632, .f32⟩
  | .hbm, ⟨33, _⟩ => ⟨S12288, .f32⟩
  | .hbm, ⟨34, _⟩ => ⟨S_, .i32⟩
  | .hbm, ⟨35, _⟩ => ⟨S_, .f32⟩
  | .hbm, ⟨36, _⟩ => ⟨S12288, .f32⟩
  | .hbm, ⟨37, _⟩ => ⟨S12288, .f32⟩
  | .hbm, ⟨38, _⟩ => ⟨S_, .i32⟩
  | .hbm, ⟨39, _⟩ => ⟨S_, .f32⟩
  | .hbm, ⟨40, _⟩ => ⟨S12288, .f32⟩
  | .hbm, ⟨41, _⟩ => ⟨S_, .i32⟩
  | .hbm, ⟨42, _⟩ => ⟨S_, .f32⟩
  | .hbm, ⟨43, _⟩ => ⟨S2048, .f32⟩
  | .hbm, ⟨44, _⟩ => ⟨S_, .i32⟩
  | .hbm, ⟨45, _⟩ => ⟨S_, .f32⟩
  | .hbm, ⟨46, _⟩ => ⟨S2048, .f32⟩
  | .hbm, ⟨47, _⟩ => ⟨S4096, .f32⟩
  | .hbm, ⟨48, _⟩ => ⟨S_, .i32⟩
  | .hbm, ⟨49, _⟩ => ⟨S_, .f32⟩
  | .hbm, ⟨50, _⟩ => ⟨S4096, .f32⟩
  | .hbm, ⟨51, _⟩ => ⟨S_, .i32⟩
  | .hbm, ⟨52, _⟩ => ⟨S_, .f32⟩
  | .hbm, ⟨53, _⟩ => ⟨S1024, .f32⟩
  | .hbm, ⟨54, _⟩ => ⟨S_, .i32⟩
  | .hbm, ⟨55, _⟩ => ⟨S_, .f32⟩
  | .hbm, ⟨56, _⟩ => ⟨S1024, .f32⟩
  | .hbm, ⟨57, _⟩ => ⟨S_, .i32⟩
  | .hbm, ⟨58, _⟩ => ⟨S_, .f32⟩
  | .hbm, ⟨59, _⟩ => ⟨S1024, .f32⟩
  | .hbm, ⟨60, _⟩ => ⟨S3720, .f32⟩
  | .hbm, ⟨61, _⟩ => ⟨S_, .i32⟩
  | .hbm, ⟨62, _⟩ => ⟨S_, .f32⟩
  | .hbm, ⟨63, _⟩ => ⟨S4096, .f32⟩
  | .hbm, ⟨64, _⟩ => ⟨S16896, .f32⟩
  | .hbm, ⟨65, _⟩ => ⟨S_, .i32⟩
  | .hbm, ⟨66, _⟩ => ⟨S_, .f32⟩
  | .hbm, ⟨67, _⟩ => ⟨S17408, .f32⟩
  | .hbm, ⟨68, _⟩ => ⟨S_, .i32⟩
  | .hbm, ⟨69, _⟩ => ⟨S_, .f32⟩
  | .hbm, ⟨70, _⟩ => ⟨S6144, .f32⟩
  | .hbm, ⟨71, _⟩ => ⟨S_, .f32⟩
  | .hbm, ⟨72, _⟩ => ⟨S2048, .f32⟩
  | .hbm, ⟨73, _⟩ => ⟨S65536, .f32⟩
  | .hbm, ⟨74, _⟩ => ⟨S64x1024, .f32⟩
  | .hbm, ⟨75, _⟩ => ⟨S6x2048, .f32⟩
  | .hbm, ⟨76, _⟩ => ⟨S1x12288, .f32⟩
  | _, _ => ⟨S8x6x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_cst_3 : Ref sig .tc := ⟨.hbm, 19, rfl⟩
abbrev main_v4 : Ref sig .tc := ⟨.hbm, 20, rfl⟩
abbrev main_cst_4 : Ref sig .tc := ⟨.hbm, 21, rfl⟩
abbrev main_v5 : Ref sig .tc := ⟨.hbm, 22, rfl⟩
abbrev main_cst_5 : Ref sig .tc := ⟨.hbm, 23, rfl⟩
abbrev main_v6 : Ref sig .tc := ⟨.hbm, 24, rfl⟩
abbrev main_cst_6 : Ref sig .tc := ⟨.hbm, 25, rfl⟩
abbrev main_v7 : Ref sig .tc := ⟨.hbm, 26, rfl⟩
abbrev main_cst_7 : Ref sig .tc := ⟨.hbm, 27, rfl⟩
abbrev main_v8 : Ref sig .tc := ⟨.hbm, 28, rfl⟩
abbrev main_cst_8 : Ref sig .tc := ⟨.hbm, 29, rfl⟩
abbrev main_v9 : Ref sig .tc := ⟨.hbm, 30, rfl⟩
abbrev main_cst_9 : Ref sig .tc := ⟨.hbm, 31, rfl⟩
abbrev main_v10 : Ref sig .tc := ⟨.hbm, 32, rfl⟩
abbrev main_v11 : Ref sig .tc := ⟨.hbm, 33, rfl⟩
abbrev main_c : Ref sig .tc := ⟨.hbm, 34, rfl⟩
abbrev main_call0_v0 : Ref sig .tc := ⟨.hbm, 35, rfl⟩
abbrev main_v12 : Ref sig .tc := ⟨.hbm, 36, rfl⟩
abbrev main_v13 : Ref sig .tc := ⟨.hbm, 37, rfl⟩
abbrev main_c_10 : Ref sig .tc := ⟨.hbm, 38, rfl⟩
abbrev main_call1_v0 : Ref sig .tc := ⟨.hbm, 39, rfl⟩
abbrev main_v14 : Ref sig .tc := ⟨.hbm, 40, rfl⟩
abbrev main_c_11 : Ref sig .tc := ⟨.hbm, 41, rfl⟩
abbrev main_call2_v0 : Ref sig .tc := ⟨.hbm, 42, rfl⟩
abbrev main_v15 : Ref sig .tc := ⟨.hbm, 43, rfl⟩
abbrev main_c_12 : Ref sig .tc := ⟨.hbm, 44, rfl⟩
abbrev main_call3_v0 : Ref sig .tc := ⟨.hbm, 45, rfl⟩
abbrev main_v16 : Ref sig .tc := ⟨.hbm, 46, rfl⟩
abbrev main_v17 : Ref sig .tc := ⟨.hbm, 47, rfl⟩
abbrev main_c_13 : Ref sig .tc := ⟨.hbm, 48, rfl⟩
abbrev main_call4_v0 : Ref sig .tc := ⟨.hbm, 49, rfl⟩
abbrev main_v18 : Ref sig .tc := ⟨.hbm, 50, rfl⟩
abbrev main_c_14 : Ref sig .tc := ⟨.hbm, 51, rfl⟩
abbrev main_call5_v0 : Ref sig .tc := ⟨.hbm, 52, rfl⟩
abbrev main_v19 : Ref sig .tc := ⟨.hbm, 53, rfl⟩
abbrev main_c_15 : Ref sig .tc := ⟨.hbm, 54, rfl⟩
abbrev main_call6_v0 : Ref sig .tc := ⟨.hbm, 55, rfl⟩
abbrev main_v20 : Ref sig .tc := ⟨.hbm, 56, rfl⟩
abbrev main_c_16 : Ref sig .tc := ⟨.hbm, 57, rfl⟩
abbrev main_call7_v0 : Ref sig .tc := ⟨.hbm, 58, rfl⟩
abbrev main_v21 : Ref sig .tc := ⟨.hbm, 59, rfl⟩
abbrev main_v22 : Ref sig .tc := ⟨.hbm, 60, rfl⟩
abbrev main_c_17 : Ref sig .tc := ⟨.hbm, 61, rfl⟩
abbrev main_call8_v0 : Ref sig .tc := ⟨.hbm, 62, rfl⟩
abbrev main_v23 : Ref sig .tc := ⟨.hbm, 63, rfl⟩
abbrev main_v24 : Ref sig .tc := ⟨.hbm, 64, rfl⟩
abbrev main_c_18 : Ref sig .tc := ⟨.hbm, 65, rfl⟩
abbrev main_call9_v0 : Ref sig .tc := ⟨.hbm, 66, rfl⟩
abbrev main_v25 : Ref sig .tc := ⟨.hbm, 67, rfl⟩
abbrev main_c_19 : Ref sig .tc := ⟨.hbm, 68, rfl⟩
abbrev main_call10_v0 : Ref sig .tc := ⟨.hbm, 69, rfl⟩
abbrev main_v26 : Ref sig .tc := ⟨.hbm, 70, rfl⟩
abbrev main_cst_20 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩

abbrev nD : Nat := 1
abbrev τ : Topo := Topo.v7x

variable {F : FTy → Type} [FloatOps F]
-- ==== SumInTop.lean ====
abbrev S4x1024x3072 : Shape := ⟨3, ![4, 1024, 3072]⟩
abbrev S3x1024x3072 : Shape := ⟨3, ![3, 1024, 3072]⟩
abbrev S_ : Shape := ⟨0, ![]⟩
abbrev S1 : Shape := ⟨1, ![1]⟩
abbrev S2 : Shape := ⟨1, ![2]⟩
abbrev S2048x3072 : Shape := ⟨2, ![2048, 3072]⟩
abbrev S1x64x3072 : Shape := ⟨3, ![1, 64, 3072]⟩
abbrev S3x64x3072 : Shape := ⟨3, ![3, 64, 3072]⟩
abbrev S64x3072 : Shape := ⟨2, ![64, 3072]⟩
abbrev S1024x3072 : Shape := ⟨2, ![1024, 3072]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x3072, .f32⟩
  | .hbm, ⟨11, _⟩ => ⟨S1024x3072, .f32⟩
  | .local _ .vmem, ⟨0, _⟩ => ⟨S1x64x3072, .bf16⟩
  | .local _ .vmem, ⟨1, _⟩ => ⟨S1x64x3072, .bf16⟩
  | .local _ .vmem, ⟨2, _⟩ => ⟨S3x64x3072, .bf16⟩
  | .local _ .vmem, ⟨3, _⟩ => ⟨S3x64x3072, .bf16⟩
  | .local _ .vmem, ⟨4, _⟩ => ⟨S64x3072, .f32⟩
  | .local _ .vmem, ⟨5, _⟩ => ⟨S64x3072, .f32⟩
  | .local _ .smem, ⟨0, _⟩ => ⟨S2, .i32⟩
  | _, _ => ⟨S4x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c16_i32 : BitVec 32 := 16#32
  let v1 : BitVec 32 := Scalar.muli v0 c16_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInTopIdeal.lean ====
abbrev S4x1024x3072 : Shape := ⟨3, ![4, 1024, 3072]⟩
abbrev S3x1024x3072 : Shape := ⟨3, ![3, 1024, 3072]⟩
abbrev S_ : Shape := ⟨0, ![]⟩
abbrev S1 : Shape := ⟨1, ![1]⟩
abbrev S2 : Shape := ⟨1, ![2]⟩
abbrev S2048x3072 : Shape := ⟨2, ![2048, 3072]⟩
abbrev S1x64x3072 : Shape := ⟨3, ![1, 64, 3072]⟩
abbrev S3x64x3072 : Shape := ⟨3, ![3, 64, 3072]⟩
abbrev S64x3072 : Shape := ⟨2, ![64, 3072]⟩
abbrev S1024x3072 : Shape := ⟨2, ![1024, 3072]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x3072, .f32⟩
  | .hbm, ⟨11, _⟩ => ⟨S1024x3072, .f32⟩
  | .local _ .vmem, ⟨0, _⟩ => ⟨S1x64x3072, .bf16⟩
  | .local _ .vmem, ⟨1, _⟩ => ⟨S1x64x3072, .bf16⟩
  | .local _ .vmem, ⟨2, _⟩ => ⟨S3x64x3072, .bf16⟩
  | .local _ .vmem, ⟨3, _⟩ => ⟨S3x64x3072, .bf16⟩
  | .local _ .vmem, ⟨4, _⟩ => ⟨S64x3072, .f32⟩
  | .local _ .vmem, ⟨5, _⟩ => ⟨S64x3072, .f32⟩
  | .local _ .smem, ⟨0, _⟩ => ⟨S2, .i32⟩
  | _, _ => ⟨S4x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c16_i32 : BitVec 32 := 16#32
  let v1 : BitVec 32 := Scalar.muli v0 c16_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInTopRefIdeal.lean ====
abbrev S4x1024x3072 : Shape := ⟨3, ![4, 1024, 3072]⟩
abbrev S3x1024x3072 : Shape := ⟨3, ![3, 1024, 3072]⟩
abbrev S1x1024x3072 : Shape := ⟨3, ![1, 1024, 3072]⟩
abbrev S1024x3072 : Shape := ⟨2, ![1024, 3072]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S1x1024x3072, .bf16⟩
  | .hbm, ⟨3, _⟩ => ⟨S1024x3072, .bf16⟩
  | .hbm, ⟨4, _⟩ => ⟨S1024x3072, .f32⟩
  | .hbm, ⟨5, _⟩ => ⟨S3x1024x3072, .f32⟩
  | .hbm, ⟨6, _⟩ => ⟨S_, .f32⟩
  | .hbm, ⟨7, _⟩ => ⟨S1024x3072, .f32⟩
  | .hbm, ⟨8, _⟩ => ⟨S1024x3072, .f32⟩
  | _, _ => ⟨S4x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumInBottom.lean ====
abbrev S4x1024x3072 : Shape := ⟨3, ![4, 1024, 3072]⟩
abbrev S3x1024x3072 : Shape := ⟨3, ![3, 1024, 3072]⟩
abbrev S_ : Shape := ⟨0, ![]⟩
abbrev S1 : Shape := ⟨1, ![1]⟩
abbrev S2 : Shape := ⟨1, ![2]⟩
abbrev S2048x3072 : Shape := ⟨2, ![2048, 3072]⟩
abbrev S1x64x3072 : Shape := ⟨3, ![1, 64, 3072]⟩
abbrev S3x64x3072 : Shape := ⟨3, ![3, 64, 3072]⟩
abbrev S64x3072 : Shape := ⟨2, ![64, 3072]⟩
abbrev S1024x3072 : Shape := ⟨2, ![1024, 3072]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x3072, .f32⟩
  | .hbm, ⟨11, _⟩ => ⟨S1024x3072, .f32⟩
  | .local _ .vmem, ⟨0, _⟩ => ⟨S1x64x3072, .bf16⟩
  | .local _ .vmem, ⟨1, _⟩ => ⟨S1x64x3072, .bf16⟩
  | .local _ .vmem, ⟨2, _⟩ => ⟨S3x64x3072, .bf16⟩
  | .local _ .vmem, ⟨3, _⟩ => ⟨S3x64x3072, .bf16⟩
  | .local _ .vmem, ⟨4, _⟩ => ⟨S64x3072, .f32⟩
  | .local _ .vmem, ⟨5, _⟩ => ⟨S64x3072, .f32⟩
  | .local _ .smem, ⟨0, _⟩ => ⟨S2, .i32⟩
  | _, _ => ⟨S4x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c16_i32 : BitVec 32 := 16#32
  let v1 : BitVec 32 := Scalar.muli v0 c16_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInBottomIdeal.lean ====
abbrev S4x1024x3072 : Shape := ⟨3, ![4, 1024, 3072]⟩
abbrev S3x1024x3072 : Shape := ⟨3, ![3, 1024, 3072]⟩
abbrev S_ : Shape := ⟨0, ![]⟩
abbrev S1 : Shape := ⟨1, ![1]⟩
abbrev S2 : Shape := ⟨1, ![2]⟩
abbrev S2048x3072 : Shape := ⟨2, ![2048, 3072]⟩
abbrev S1x64x3072 : Shape := ⟨3, ![1, 64, 3072]⟩
abbrev S3x64x3072 : Shape := ⟨3, ![3, 64, 3072]⟩
abbrev S64x3072 : Shape := ⟨2, ![64, 3072]⟩
abbrev S1024x3072 : Shape := ⟨2, ![1024, 3072]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x3072, .f32⟩
  | .hbm, ⟨11, _⟩ => ⟨S1024x3072, .f32⟩
  | .local _ .vmem, ⟨0, _⟩ => ⟨S1x64x3072, .bf16⟩
  | .local _ .vmem, ⟨1, _⟩ => ⟨S1x64x3072, .bf16⟩
  | .local _ .vmem, ⟨2, _⟩ => ⟨S3x64x3072, .bf16⟩
  | .local _ .vmem, ⟨3, _⟩ => ⟨S3x64x3072, .bf16⟩
  | .local _ .vmem, ⟨4, _⟩ => ⟨S64x3072, .f32⟩
  | .local _ .vmem, ⟨5, _⟩ => ⟨S64x3072, .f32⟩
  | .local _ .smem, ⟨0, _⟩ => ⟨S2, .i32⟩
  | _, _ => ⟨S4x1024x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c16_i32 : BitVec 32 := 16#32
  let v1 : BitVec 32 := Scalar.muli v0 c16_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumInBottomRefIdeal.lean ====
abbrev S4x1024x3072 : Shape := ⟨3, ![4, 1024, 3072]⟩
abbrev S3x1024x3072 : Shape := ⟨3, ![3, 1024, 3072]⟩
abbrev S1x1024x3072 : Shape := ⟨3, ![1, 1024, 3072]⟩
abbrev S1024x3072 : Shape := ⟨2, ![1024, 3072]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x3072, .bf16⟩
  | .hbm, ⟨1, _⟩ => ⟨S3x1024x3072, .bf16⟩
  | .hbm, ⟨2, _⟩ => ⟨S1x1024x3072, .bf16⟩
  | .hbm, ⟨3, _⟩ => ⟨S1024x3072, .bf16⟩
  | .hbm, ⟨4, _⟩ => ⟨S1024x3072, .f32⟩
  | .hbm, ⟨5, _⟩ => ⟨S3x1024x3072, .f32⟩
  | .hbm, ⟨6, _⟩ => ⟨S_, .f32⟩
  | .hbm, ⟨7, _⟩ => ⟨S1024x3072, .f32⟩
  | .hbm, ⟨8, _⟩ => ⟨S1024x3072, .f32⟩
  | _, _ => ⟨S4x1024x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumBranchTop.lean ====
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 12
  | .vmem => 3
  | .smem => 1
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1024x512, .f32⟩
  | .hbm, ⟨11, _⟩ => ⟨S512x512, .f32⟩
  | .local _ .vmem, ⟨0, _⟩ => ⟨S1x512x512, .bf16⟩
  | .local _ .vmem, ⟨1, _⟩ => ⟨S3x512x512, .bf16⟩
  | .local _ .vmem, ⟨2, _⟩ => ⟨S512x512, .f32⟩
  | .local _ .smem, ⟨0, _⟩ => ⟨S2, .i32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumBranchTopIdeal.lean ====
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 12
  | .vmem => 3
  | .smem => 1
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1024x512, .f32⟩
  | .hbm, ⟨11, _⟩ => ⟨S512x512, .f32⟩
  | .local _ .vmem, ⟨0, _⟩ => ⟨S1x512x512, .bf16⟩
  | .local _ .vmem, ⟨1, _⟩ => ⟨S3x512x512, .bf16⟩
  | .local _ .vmem, ⟨2, _⟩ => ⟨S512x512, .f32⟩
  | .local _ .smem, ⟨0, _⟩ => ⟨S2, .i32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumBranchTopRefIdeal.lean ====
abbrev S4x512x512 : Shape := ⟨3, ![4, 512, 512]⟩
abbrev S3x512x512 : Shape := ⟨3, ![3, 512, 512]⟩
abbrev S1x512x512 : Shape := ⟨3, ![1, 512, 512]⟩
abbrev S512x512 : Shape := ⟨2, ![512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S1x512x512, .bf16⟩
  | .hbm, ⟨3, _⟩ => ⟨S512x512, .bf16⟩
  | .hbm, ⟨4, _⟩ => ⟨S512x512, .f32⟩
  | .hbm, ⟨5, _⟩ => ⟨S3x512x512, .f32⟩
  | .hbm, ⟨6, _⟩ => ⟨S_, .f32⟩
  | .hbm, ⟨7, _⟩ => ⟨S512x512, .f32⟩
  | .hbm, ⟨8, _⟩ => ⟨S512x512, .f32⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumBranchBottom.lean ====
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 12
  | .vmem => 3
  | .smem => 1
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1024x512, .f32⟩
  | .hbm, ⟨11, _⟩ => ⟨S512x512, .f32⟩
  | .local _ .vmem, ⟨0, _⟩ => ⟨S1x512x512, .bf16⟩
  | .local _ .vmem, ⟨1, _⟩ => ⟨S3x512x512, .bf16⟩
  | .local _ .vmem, ⟨2, _⟩ => ⟨S512x512, .f32⟩
  | .local _ .smem, ⟨0, _⟩ => ⟨S2, .i32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumBranchBottomIdeal.lean ====
abbrev S4x512x512 : Shape := ⟨3, ![4, 512, 512]⟩
abbrev S3x512x512 : Shape := ⟨3, ![3, 512, 512]⟩
abbrev S_ : Shape := ⟨0, ![]⟩
abbrev S1 : Shape := ⟨1, ![1]⟩
abbrev S2 : Shape := ⟨1, ![2]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 12
  | .vmem => 3
  | .smem => 1
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1024x512, .f32⟩
  | .hbm, ⟨11, _⟩ => ⟨S512x512, .f32⟩
  | .local _ .vmem, ⟨0, _⟩ => ⟨S1x512x512, .bf16⟩
  | .local _ .vmem, ⟨1, _⟩ => ⟨S3x512x512, .bf16⟩
  | .local _ .vmem, ⟨2, _⟩ => ⟨S512x512, .f32⟩
  | .local _ .smem, ⟨0, _⟩ => ⟨S2, .i32⟩
  | _, _ => ⟨S4x512x512, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

abbrev stage0_0 : Fin 1 → Memref sig .tc .vmem S1x512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== SumBranchBottomRefIdeal.lean ====
abbrev S4x512x512 : Shape := ⟨3, ![4, 512, 512]⟩
abbrev S3x512x512 : Shape := ⟨3, ![3, 512, 512]⟩
abbrev S1x512x512 : Shape := ⟨3, ![1, 512, 512]⟩
abbrev S512x512 : Shape := ⟨2, ![512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x512x512, .bf16⟩
  | .hbm, ⟨1, _⟩ => ⟨S3x512x512, .bf16⟩
  | .hbm, ⟨2, _⟩ => ⟨S1x512x512, .bf16⟩
  | .hbm, ⟨3, _⟩ => ⟨S512x512, .bf16⟩
  | .hbm, ⟨4, _⟩ => ⟨S512x512, .f32⟩
  | .hbm, ⟨5, _⟩ => ⟨S3x512x512, .f32⟩
  | .hbm, ⟨6, _⟩ => ⟨S_, .f32⟩
  | .hbm, ⟨7, _⟩ => ⟨S512x512, .f32⟩
  | .hbm, ⟨8, _⟩ => ⟨S512x512, .f32⟩
  | _, _ => ⟨S4x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumOutTop.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S512x2048 : Shape := ⟨2, ![512, 2048]⟩
abbrev S1x128x2048 : Shape := ⟨3, ![1, 128, 2048]⟩
abbrev S3x128x2048 : Shape := ⟨3, ![3, 128, 2048]⟩
abbrev S128x2048 : Shape := ⟨2, ![128, 2048]⟩
abbrev S256x2048 : Shape := ⟨2, ![256, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S512x2048, .f32⟩
  | .hbm, ⟨11, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S128x2048, .f32⟩
  | .local _ .vmem, ⟨5, _⟩ => ⟨S128x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutTopIdeal.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S512x2048 : Shape := ⟨2, ![512, 2048]⟩
abbrev S1x128x2048 : Shape := ⟨3, ![1, 128, 2048]⟩
abbrev S3x128x2048 : Shape := ⟨3, ![3, 128, 2048]⟩
abbrev S128x2048 : Shape := ⟨2, ![128, 2048]⟩
abbrev S256x2048 : Shape := ⟨2, ![256, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S512x2048, .f32⟩
  | .hbm, ⟨11, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S128x2048, .f32⟩
  | .local _ .vmem, ⟨5, _⟩ => ⟨S128x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutTopRefIdeal.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .bf16⟩
  | .hbm, ⟨3, _⟩ => ⟨S256x2048, .bf16⟩
  | .hbm, ⟨4, _⟩ => ⟨S256x2048, .f32⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumOutBottom.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S512x2048 : Shape := ⟨2, ![512, 2048]⟩
abbrev S1x128x2048 : Shape := ⟨3, ![1, 128, 2048]⟩
abbrev S3x128x2048 : Shape := ⟨3, ![3, 128, 2048]⟩
abbrev S128x2048 : Shape := ⟨2, ![128, 2048]⟩
abbrev S256x2048 : Shape := ⟨2, ![256, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S512x2048, .f32⟩
  | .hbm, ⟨11, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S128x2048, .f32⟩
  | .local _ .vmem, ⟨5, _⟩ => ⟨S128x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutBottomIdeal.lean ====
abbrev S4x256x2048 : Shape := ⟨3, ![4, 256, 2048]⟩
abbrev S3x256x2048 : Shape := ⟨3, ![3, 256, 2048]⟩
abbrev S_ : Shape := ⟨0, ![]⟩
abbrev S1 : Shape := ⟨1, ![1]⟩
abbrev S2 : Shape := ⟨1, ![2]⟩
abbrev S512x2048 : Shape := ⟨2, ![512, 2048]⟩
abbrev S1x128x2048 : Shape := ⟨3, ![1, 128, 2048]⟩
abbrev S3x128x2048 : Shape := ⟨3, ![3, 128, 2048]⟩
abbrev S128x2048 : Shape := ⟨2, ![128, 2048]⟩
abbrev S256x2048 : Shape := ⟨2, ![256, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S512x2048, .f32⟩
  | .hbm, ⟨11, _⟩ => ⟨S256x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S3x128x2048, .bf16⟩
  | .local _ .vmem, ⟨3, _⟩ => ⟨S3x128x2048, .bf16⟩
  | .local _ .vmem, ⟨4, _⟩ => ⟨S128x2048, .f32⟩
  | .local _ .vmem, ⟨5, _⟩ => ⟨S128x2048, .f32⟩
  | .local _ .smem, ⟨0, _⟩ => ⟨S2, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumOutBottomRefIdeal.lean ====
abbrev S4x256x2048 : Shape := ⟨3, ![4, 256, 2048]⟩
abbrev S3x256x2048 : Shape := ⟨3, ![3, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S1x256x2048, .bf16⟩
  | .hbm, ⟨3, _⟩ => ⟨S256x2048, .bf16⟩
  | .hbm, ⟨4, _⟩ => ⟨S256x2048, .f32⟩
  | .hbm, ⟨5, _⟩ => ⟨S3x256x2048, .f32⟩
  | .hbm, ⟨6, _⟩ => ⟨S_, .f32⟩
  | .hbm, ⟨7, _⟩ => ⟨S256x2048, .f32⟩
  | .hbm, ⟨8, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumFfn1Top.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S2 : Shape := ⟨1, ![2]⟩
abbrev S2048x1408 : Shape := ⟨2, ![2048, 1408]⟩
abbrev S1x128x1408 : Shape := ⟨3, ![1, 128, 1408]⟩
abbrev S3x128x1408 : Shape := ⟨3, ![3, 128, 1408]⟩
abbrev S128x1408 : Shape := ⟨2, ![128, 1408]⟩
abbrev S1024x1408 : Shape := ⟨2, ![1024, 1408]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x1408, .f32⟩
  | .hbm, ⟨11, _⟩ => ⟨S1024x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S3x128x1408, .bf16⟩
  | .local _ .vmem, ⟨3, _⟩ => ⟨S3x128x1408, .bf16⟩
  | .local _ .vmem, ⟨4, _⟩ => ⟨S128x1408, .f32⟩
  | .local _ .vmem, ⟨5, _⟩ => ⟨S128x1408, .f32⟩
  | .local _ .smem, ⟨0, _⟩ => ⟨S2, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn1TopIdeal.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S2 : Shape := ⟨1, ![2]⟩
abbrev S2048x1408 : Shape := ⟨2, ![2048, 1408]⟩
abbrev S1x128x1408 : Shape := ⟨3, ![1, 128, 1408]⟩
abbrev S3x128x1408 : Shape := ⟨3, ![3, 128, 1408]⟩
abbrev S128x1408 : Shape := ⟨2, ![128, 1408]⟩
abbrev S1024x1408 : Shape := ⟨2, ![1024, 1408]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x1408, .f32⟩
  | .hbm, ⟨11, _⟩ => ⟨S1024x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S3x128x1408, .bf16⟩
  | .local _ .vmem, ⟨3, _⟩ => ⟨S3x128x1408, .bf16⟩
  | .local _ .vmem, ⟨4, _⟩ => ⟨S128x1408, .f32⟩
  | .local _ .vmem, ⟨5, _⟩ => ⟨S128x1408, .f32⟩
  | .local _ .smem, ⟨0, _⟩ => ⟨S2, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn1TopRefIdeal.lean ====
abbrev S4x1024x1408 : Shape := ⟨3, ![4, 1024, 1408]⟩
abbrev S3x1024x1408 : Shape := ⟨3, ![3, 1024, 1408]⟩
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S1x1024x1408, .bf16⟩
  | .hbm, ⟨3, _⟩ => ⟨S1024x1408, .bf16⟩
  | .hbm, ⟨4, _⟩ => ⟨S1024x1408, .f32⟩
  | .hbm, ⟨5, _⟩ => ⟨S3x1024x1408, .f32⟩
  | .hbm, ⟨6, _⟩ => ⟨S_, .f32⟩
  | .hbm, ⟨7, _⟩ => ⟨S1024x1408, .f32⟩
  | .hbm, ⟨8, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumFfn1Bottom.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S2 : Shape := ⟨1, ![2]⟩
abbrev S2048x1408 : Shape := ⟨2, ![2048, 1408]⟩
abbrev S1x128x1408 : Shape := ⟨3, ![1, 128, 1408]⟩
abbrev S3x128x1408 : Shape := ⟨3, ![3, 128, 1408]⟩
abbrev S128x1408 : Shape := ⟨2, ![128, 1408]⟩
abbrev S1024x1408 : Shape := ⟨2, ![1024, 1408]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x1408, .f32⟩
  | .hbm, ⟨11, _⟩ => ⟨S1024x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S3x128x1408, .bf16⟩
  | .local _ .vmem, ⟨3, _⟩ => ⟨S3x128x1408, .bf16⟩
  | .local _ .vmem, ⟨4, _⟩ => ⟨S128x1408, .f32⟩
  | .local _ .vmem, ⟨5, _⟩ => ⟨S128x1408, .f32⟩
  | .local _ .smem, ⟨0, _⟩ => ⟨S2, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn1BottomIdeal.lean ====
abbrev S4x1024x1408 : Shape := ⟨3, ![4, 1024, 1408]⟩
abbrev S3x1024x1408 : Shape := ⟨3, ![3, 1024, 1408]⟩
abbrev S_ : Shape := ⟨0, ![]⟩
abbrev S1 : Shape := ⟨1, ![1]⟩
abbrev S2 : Shape := ⟨1, ![2]⟩
abbrev S2048x1408 : Shape := ⟨2, ![2048, 1408]⟩
abbrev S1x128x1408 : Shape := ⟨3, ![1, 128, 1408]⟩
abbrev S3x128x1408 : Shape := ⟨3, ![3, 128, 1408]⟩
abbrev S128x1408 : Shape := ⟨2, ![128, 1408]⟩
abbrev S1024x1408 : Shape := ⟨2, ![1024, 1408]⟩

abbrev nBuf : Space → Nat
  | .hbm => 12
  | .vmem => 6
  | .smem => 1
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S2048x1408, .f32⟩
  | .hbm, ⟨11, _⟩ => ⟨S1024x1408, .f32⟩
  | .local _ .vmem, ⟨0, _⟩ => ⟨S1x128x1408, .bf16⟩
  | .local _ .vmem, ⟨1, _⟩ => ⟨S1x128x1408, .bf16⟩
  | .local _ .vmem, ⟨2, _⟩ => ⟨S3x128x1408, .bf16⟩
  | .local _ .vmem, ⟨3, _⟩ => ⟨S3x128x1408, .bf16⟩
  | .local _ .vmem, ⟨4, _⟩ => ⟨S128x1408, .f32⟩
  | .local _ .vmem, ⟨5, _⟩ => ⟨S128x1408, .f32⟩
  | .local _ .smem, ⟨0, _⟩ => ⟨S2, .i32⟩
  | _, _ => ⟨S4x1024x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c8_i32 : BitVec 32 := 8#32
  let v1 : BitVec 32 := Scalar.muli v0 c8_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x128x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn1BottomRefIdeal.lean ====
abbrev S4x1024x1408 : Shape := ⟨3, ![4, 1024, 1408]⟩
abbrev S3x1024x1408 : Shape := ⟨3, ![3, 1024, 1408]⟩
abbrev S1x1024x1408 : Shape := ⟨3, ![1, 1024, 1408]⟩
abbrev S1024x1408 : Shape := ⟨2, ![1024, 1408]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x1024x1408, .bf16⟩
  | .hbm, ⟨1, _⟩ => ⟨S3x1024x1408, .bf16⟩
  | .hbm, ⟨2, _⟩ => ⟨S1x1024x1408, .bf16⟩
  | .hbm, ⟨3, _⟩ => ⟨S1024x1408, .bf16⟩
  | .hbm, ⟨4, _⟩ => ⟨S1024x1408, .f32⟩
  | .hbm, ⟨5, _⟩ => ⟨S3x1024x1408, .f32⟩
  | .hbm, ⟨6, _⟩ => ⟨S_, .f32⟩
  | .hbm, ⟨7, _⟩ => ⟨S1024x1408, .f32⟩
  | .hbm, ⟨8, _⟩ => ⟨S1024x1408, .f32⟩
  | _, _ => ⟨S4x1024x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumFfn2Top.lean ====
abbrev S4x704x2048 : Shape := ⟨3, ![4, 704, 2048]⟩
abbrev S3x704x2048 : Shape := ⟨3, ![3, 704, 2048]⟩
abbrev S_ : Shape := ⟨0, ![]⟩
abbrev S1 : Shape := ⟨1, ![1]⟩
abbrev S2 : Shape := ⟨1, ![2]⟩
abbrev S1408x2048 : Shape := ⟨2, ![1408, 2048]⟩
abbrev S1x64x2048 : Shape := ⟨3, ![1, 64, 2048]⟩
abbrev S3x64x2048 : Shape := ⟨3, ![3, 64, 2048]⟩
abbrev S64x2048 : Shape := ⟨2, ![64, 2048]⟩
abbrev S704x2048 : Shape := ⟨2, ![704, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1408x2048, .f32⟩
  | .hbm, ⟨11, _⟩ => ⟨S704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S3x64x2048, .bf16⟩
  | .local _ .vmem, ⟨3, _⟩ => ⟨S3x64x2048, .bf16⟩
  | .local _ .vmem, ⟨4, _⟩ => ⟨S64x2048, .f32⟩
  | .local _ .vmem, ⟨5, _⟩ => ⟨S64x2048, .f32⟩
  | .local _ .smem, ⟨0, _⟩ => ⟨S2, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn2TopRefIdeal.lean ====
abbrev S4x704x2048 : Shape := ⟨3, ![4, 704, 2048]⟩
abbrev S3x704x2048 : Shape := ⟨3, ![3, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S1x704x2048, .bf16⟩
  | .hbm, ⟨3, _⟩ => ⟨S704x2048, .bf16⟩
  | .hbm, ⟨4, _⟩ => ⟨S704x2048, .f32⟩
  | .hbm, ⟨5, _⟩ => ⟨S3x704x2048, .f32⟩
  | .hbm, ⟨6, _⟩ => ⟨S_, .f32⟩
  | .hbm, ⟨7, _⟩ => ⟨S704x2048, .f32⟩
  | .hbm, ⟨8, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SumFfn2Bottom.lean ====
abbrev S4x704x2048 : Shape := ⟨3, ![4, 704, 2048]⟩
abbrev S3x704x2048 : Shape := ⟨3, ![3, 704, 2048]⟩
abbrev S_ : Shape := ⟨0, ![]⟩
abbrev S1 : Shape := ⟨1, ![1]⟩
abbrev S2 : Shape := ⟨1, ![2]⟩
abbrev S1408x2048 : Shape := ⟨2, ![1408, 2048]⟩
abbrev S1x64x2048 : Shape := ⟨3, ![1, 64, 2048]⟩
abbrev S3x64x2048 : Shape := ⟨3, ![3, 64, 2048]⟩
abbrev S64x2048 : Shape := ⟨2, ![64, 2048]⟩
abbrev S704x2048 : Shape := ⟨2, ![704, 2048]⟩

abbrev nBuf : Space → Nat
  | .hbm => 12
  | .vmem => 6
  | .smem => 1
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S1, .i32⟩
  | .hbm, ⟨10, _⟩ => ⟨S1408x2048, .f32⟩
  | .hbm, ⟨11, _⟩ => ⟨S704x2048, .f32⟩
  | .local _ .vmem, ⟨0, _⟩ => ⟨S1x64x2048, .bf16⟩
  | .local _ .vmem, ⟨1, _⟩ => ⟨S1x64x2048, .bf16⟩
  | .local _ .vmem, ⟨2, _⟩ => ⟨S3x64x2048, .bf16⟩
  | .local _ .vmem, ⟨3, _⟩ => ⟨S3x64x2048, .bf16⟩
  | .local _ .vmem, ⟨4, _⟩ => ⟨S64x2048, .f32⟩
  | .local _ .vmem, ⟨5, _⟩ => ⟨S64x2048, .f32⟩
  | .local _ .smem, ⟨0, _⟩ => ⟨S2, .i32⟩
  | _, _ => ⟨S4x704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_c_2 : Ref sig .tc := ⟨.hbm, 8, rfl⟩
abbrev main_v3 : Ref sig .tc := ⟨.hbm, 9, rfl⟩
abbrev main_v5 : Ref sig .tc := ⟨.hbm, 10, rfl⟩
abbrev main_v6 : Ref sig .tc := ⟨.hbm, 11, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_0 : ∀ a, (![0] : Fin 1 → Nat) a + S1.size a ≤ S2.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let c1 : Index := 1#32
  let v0 : BitVec 32 := pf.at 0 (Rect.unit (s := S2) ![1] S1.size inb_S2_S1_1) numel1_S1
  let c11_i32 : BitVec 32 := 11#32
  let v1 : BitVec 32 := Scalar.muli v0 c11_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumFfn2BottomRefIdeal.lean ====
abbrev S4x704x2048 : Shape := ⟨3, ![4, 704, 2048]⟩
abbrev S3x704x2048 : Shape := ⟨3, ![3, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x704x2048, .bf16⟩
  | .hbm, ⟨1, _⟩ => ⟨S3x704x2048, .bf16⟩
  | .hbm, ⟨2, _⟩ => ⟨S1x704x2048, .bf16⟩
  | .hbm, ⟨3, _⟩ => ⟨S704x2048, .bf16⟩
  | .hbm, ⟨4, _⟩ => ⟨S704x2048, .f32⟩
  | .hbm, ⟨5, _⟩ => ⟨S3x704x2048, .f32⟩
  | .hbm, ⟨6, _⟩ => ⟨S_, .f32⟩
  | .hbm, ⟨7, _⟩ => ⟨S704x2048, .f32⟩
  | .hbm, ⟨8, _⟩ => ⟨S704x2048, .f32⟩
  | _, _ => ⟨S4x704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamIn.lean ====
abbrev S2048x3072 : Shape := ⟨2, ![2048, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | .local _ .vmem, ⟨14, _⟩ => ⟨S64x3072, .f32⟩
  | .local _ .vmem, ⟨15, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S2048x3072 : Shape := ⟨2, ![2048, 3072]⟩
abbrev S64x3072 : Shape := ⟨2, ![64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .hbm, ⟨7, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | .local _ .vmem, ⟨14, _⟩ => ⟨S64x3072, .f32⟩
  | .local _ .vmem, ⟨15, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamBranch.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchIdeal.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamBranchRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn1.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn1Ideal.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn1RefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn2.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn2Ideal.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfn2RefIdeal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S2048x3072 : Shape := ⟨2, ![2048, 3072]⟩
abbrev S64x3072 : Shape := ⟨2, ![64, 3072]⟩

abbrev nBuf : Space → Nat
  | .hbm => 7
  | .vmem => 14
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x3072, .f32⟩
  | .hbm, ⟨6, _⟩ => ⟨S2048x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S64x3072, .f32⟩
  | .local _ .vmem, ⟨7, _⟩ => ⟨S64x3072, .f32⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaRefIdeal.lean ====
abbrev S2048x3072 : Shape := ⟨2, ![2048, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x3072, .f32⟩
  | .hbm, ⟨2, _⟩ => ⟨S2048x3072, .f32⟩
  | .hbm, ⟨3, _⟩ => ⟨S2048x3072, .f32⟩
  | .hbm, ⟨4, _⟩ => ⟨S_, .f32⟩
  | .hbm, ⟨5, _⟩ => ⟨S2048x3072, .f32⟩
  | .hbm, ⟨6, _⟩ => ⟨S2048x3072, .f32⟩
  | .hbm, ⟨7, _⟩ => ⟨S_, .f32⟩
  | .hbm, ⟨8, _⟩ => ⟨S2048x3072, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S_, .f32⟩
  | .hbm, ⟨23, _⟩ => ⟨S2048x3072, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S2048 : Shape := ⟨1, ![2048]⟩
abbrev S1x12288 : Shape := ⟨2, ![1, 12288]⟩
abbrev S1x2048 : Shape := ⟨2, ![1, 2048]⟩
abbrev S2x2x256 : Shape := ⟨3, ![2, 2, 256]⟩
abbrev S1x128 : Shape := ⟨2, ![1, 128]⟩
abbrev S1x8x15x31 : Shape := ⟨4, ![1, 8, 15, 31]⟩
abbrev S1x3x1408 : Shape := ⟨3, ![1, 3, 1408]⟩
abbrev S1x5632 : Shape := ⟨2, ![1, 5632]⟩
abbrev S_ : Shape := ⟨0, ![]⟩
abbrev S12288 : Shape := ⟨1, ![12288]⟩
abbrev S1024 : Shape := ⟨1, ![1024]⟩
abbrev S128 : Shape := ⟨1, ![128]⟩
abbrev S3720 : Shape := ⟨1, ![3720]⟩
abbrev S4096 : Shape := ⟨1, ![4096]⟩
abbrev S4224 : Shape := ⟨1, ![4224]⟩
abbrev S5120 : Shape := ⟨1, ![5120]⟩
abbrev S5632 : Shape := ⟨1, ![5632]⟩
abbrev S6144 : Shape := ⟨1, ![6144]⟩
abbrev S3072 : Shape := ⟨1, ![3072]⟩
abbrev S40960 : Shape := ⟨1, ![40960]⟩
abbrev S40x1024 : Shape := ⟨2, ![40, 1024]⟩
abbrev S8x1024 : Shape := ⟨2, ![8, 1024]⟩

abbrev nBuf : Space → Nat
  | .hbm => 235
  | .vmem => 14
  | .smem => 0
  | _ => 0

abbrev hbmTy0_0 (i : Nat) : BufTy := match i % 128 with
  | 0 => ⟨S2048, .f32⟩
  | 1 => ⟨S1x12288, .f32⟩
  | 2 => ⟨S1x2048, .f32⟩
  | 3 => ⟨S1x2048, .f32⟩
  | 4 => ⟨S2x2x256, .f32⟩
  | 5 => ⟨S1x128, .f32⟩
  | 6 => ⟨S1x128, .f32⟩
  | 7 => ⟨S1x128, .f32⟩
  | 8 => ⟨S1x8x15x31, .f32⟩
  | 9 => ⟨S1x3x1408, .f32⟩
  | 10 => ⟨S1x5632, .f32⟩
  | 11 => ⟨S2048, .f32⟩
  | 12 => ⟨S1x12288, .f32⟩
  | 13 => ⟨S1x2048, .f32⟩
  | 14 => ⟨S1x2048, .f32⟩
  | 15 => ⟨S2x2x256, .f32⟩
  | 16 => ⟨S1x128, .f32⟩
  | 17 => ⟨S1x128, .f32⟩
  | 18 => ⟨S1x128, .f32⟩
  | 19 => ⟨S1x8x15x31, .f32⟩
  | 20 => ⟨S1x3x1408, .f32⟩
  | 21 => ⟨S1x5632, .f32⟩
  | 22 => ⟨S2048, .f32⟩
  | 23 => ⟨S1x12288, .f32⟩
  | 24 => ⟨S1x2048, .f32⟩
  | 25 => ⟨S1x2048, .f32⟩
  | 26 => ⟨S2x2x256, .f32⟩
  | 27 => ⟨S1x128, .f32⟩
  | 28 => ⟨S1x128, .f32⟩
  | 29 => ⟨S1x128, .f32⟩
  | 30 => ⟨S1x8x15x31, .f32⟩
  | 31 => ⟨S1x3x1408, .f32⟩
  | 32 => ⟨S1x5632, .f32⟩
  | 33 => ⟨S2048, .f32⟩
  | 34 => ⟨S1x12288, .f32⟩
  | 35 => ⟨S1x2048, .f32⟩
  | 36 => ⟨S1x2048, .f32⟩
  | 37 => ⟨S2x2x256, .f32⟩
  | 38 => ⟨S1x128, .f32⟩
  | 39 => ⟨S1x128, .f32⟩
  | 40 => ⟨S1x128, .f32⟩
  | 41 => ⟨S1x8x15x31, .f32⟩
  | 42 => ⟨S1x3x1408, .f32⟩
  | 43 => ⟨S1x5632, .f32⟩
  | 44 => ⟨S_, .i32⟩
  | 45 => ⟨S_, .f32⟩
  | 46 => ⟨S2048, .f32⟩
  | 47 => ⟨S12288, .f32⟩
  | 48 => ⟨S_, .i32⟩
  | 49 => ⟨S_, .f32⟩
  | 50 => ⟨S12288, .f32⟩
  | 51 => ⟨S2048, .f32⟩
  | 52 => ⟨S_, .i32⟩
  | 53 => ⟨S_, .f32⟩
  | 54 => ⟨S2048, .f32⟩
  | 55 => ⟨S2048, .f32⟩
  | 56 => ⟨S_, .i32⟩
  | 57 => ⟨S_, .f32⟩
  | 58 => ⟨S2048, .f32⟩
  | 59 => ⟨S1024, .f32⟩
  | 60 => ⟨S_, .i32⟩
  | 61 => ⟨S_, .f32⟩
  | 62 => ⟨S1024, .f32⟩
  | 63 => ⟨S128, .f32⟩
  | 64 => ⟨S_, .i32⟩
  | 65 => ⟨S_, .f32⟩
  | 66 => ⟨S1024, .f32⟩
  | 67 => ⟨S128, .f32⟩
  | 68 => ⟨S_, .i32⟩
  | 69 => ⟨S_, .f32⟩
  | 70 => ⟨S1024, .f32⟩
  | 71 => ⟨S128, .f32⟩
  | 72 => ⟨S_, .i32⟩
  | 73 => ⟨S_, .f32⟩
  | 74 => ⟨S1024, .f32⟩
  | 75 => ⟨S3720, .f32⟩
  | 76 => ⟨S_, .i32⟩
  | 77 => ⟨S_, .f32⟩
  | 78 => ⟨S4096, .f32⟩
  | 79 => ⟨S4224, .f32⟩
  | 80 => ⟨S_, .i32⟩
  | 81 => ⟨S_, .f32⟩
  | 82 => ⟨S5120, .f32⟩
  | 83 => ⟨S5632, .f32⟩
  | 84 => ⟨S_, .i32⟩
  | 85 => ⟨S_, .f32⟩
  | 86 => ⟨S6144, .f32⟩
  | 87 => ⟨S_, .f32⟩
  | 88 => ⟨S3072, .f32⟩
  | 89 => ⟨S40960, .f32⟩
  | 90 => ⟨S40x1024, .f32⟩
  | 91 => ⟨S_, .i32⟩
  | 92 => ⟨S_, .f32⟩
  | 93 => ⟨S2048, .f32⟩
  | 94 => ⟨S12288, .f32⟩
  | 95 => ⟨S_, .i32⟩
  | 96 => ⟨S_, .f32⟩
  | 97 => ⟨S12288, .f32⟩
  | 98 => ⟨S2048, .f32⟩
  | 99 => ⟨S_, .i32⟩
  | 100 => ⟨S_, .f32⟩
  | 101 => ⟨S2048, .f32⟩
  | 102 => ⟨S2048, .f32⟩
  | 103 => ⟨S_, .i32⟩
  | 104 => ⟨S_, .f32⟩
  | 105 => ⟨S2048, .f32⟩
  | 106 => ⟨S1024, .f32⟩
  | 107 => ⟨S_, .i32⟩
  | 108 => ⟨S_, .f32⟩
  | 109 => ⟨S1024, .f32⟩
  | 110 => ⟨S128, .f32⟩
  | 111 => ⟨S_, .i32⟩
  | 112 => ⟨S_, .f32⟩
  | 113 => ⟨S1024, .f32⟩
  | 114 => ⟨S128, .f32⟩
  | 115 => ⟨S_, .i32⟩
  | 116 => ⟨S_, .f32⟩
  | 117 => ⟨S1024, .f32⟩
  | 118 => ⟨S128, .f32⟩
  | 119 => ⟨S_, .i32⟩
  | 120 => ⟨S_, .f32⟩
  | 121 => ⟨S1024, .f32⟩
  | 122 => ⟨S3720, .f32⟩
  | 123 => ⟨S_, .i32⟩
  | 124 => ⟨S_, .f32⟩
  | 125 => ⟨S4096, .f32⟩
  | 126 => ⟨S4224, .f32⟩
  | 127 => ⟨S_, .i32⟩
  | _ => ⟨S2048, .f32⟩

abbrev hbmTy0_1 (i : Nat) : BufTy := match i % 128 with
  | 0 => ⟨S_, .f32⟩
  | 1 => ⟨S5120, .f32⟩
  | 2 => ⟨S5632, .f32⟩
  | 3 => ⟨S_, .i32⟩
  | 4 => ⟨S_, .f32⟩
  | 5 => ⟨S6144, .f32⟩
  | 6 => ⟨S_, .f32⟩
  | 7 => ⟨S3072, .f32⟩
  | 8 => ⟨S40960, .f32⟩
  | 9 => ⟨S40x1024, .f32⟩
  | 10 => ⟨S_, .i32⟩
  | 11 => ⟨S_, .f32⟩
  | 12 => ⟨S2048, .f32⟩
  | 13 => ⟨S12288, .f32⟩
  | 14 => ⟨S_, .i32⟩
  | 15 => ⟨S_, .f32⟩
  | 16 => ⟨S12288, .f32⟩
  | 17 => ⟨S2048, .f32⟩
  | 18 => ⟨S_, .i32⟩
  | 19 => ⟨S_, .f32⟩
  | 20 => ⟨S2048, .f32⟩
  | 21 => ⟨S2048, .f32⟩
  | 22 => ⟨S_, .i32⟩
  | 23 => ⟨S_, .f32⟩
  | 24 => ⟨S2048, .f32⟩
  | 25 => ⟨S1024, .f32⟩
  | 26 => ⟨S_, .i32⟩
  | 27 => ⟨S_, .f32⟩
  | 28 => ⟨S1024, .f32⟩
  | 29 => ⟨S128, .f32⟩
  | 30 => ⟨S_, .i32⟩
  | 31 => ⟨S_, .f32⟩
  | 32 => ⟨S1024, .f32⟩
  | 33 => ⟨S128, .f32⟩
  | 34 => ⟨S_, .i32⟩
  | 35 => ⟨S_, .f32⟩
  | 36 => ⟨S1024, .f32⟩
  | 37 => ⟨S128, .f32⟩
  | 38 => ⟨S_, .i32⟩
  | 39 => ⟨S_, .f32⟩
  | 40 => ⟨S1024, .f32⟩
  | 41 => ⟨S3720, .f32⟩
  | 42 => ⟨S_, .i32⟩
  | 43 => ⟨S_, .f32⟩
  | 44 => ⟨S4096, .f32⟩
  | 45 => ⟨S4224, .f32⟩
  | 46 => ⟨S_, .i32⟩
  | 47 => ⟨S_, .f32⟩
  | 48 => ⟨S5120, .f32⟩
  | 49 => ⟨S5632, .f32⟩
  | 50 => ⟨S_, .i32⟩
  | 51 => ⟨S_, .f32⟩
  | 52 => ⟨S6144, .f32⟩
  | 53 => ⟨S_, .f32⟩
  | 54 => ⟨S3072, .f32⟩
  | 55 => ⟨S40960, .f32⟩
  | 56 => ⟨S40x1024, .f32⟩
  | 57 => ⟨S_, .i32⟩
  | 58 => ⟨S_, .f32⟩
  | 59 => ⟨S2048, .f32⟩
  | 60 => ⟨S12288, .f32⟩
  | 61 => ⟨S_, .i32⟩
  | 62 => ⟨S_, .f32⟩
  | 63 => ⟨S12288, .f32⟩
  | 64 => ⟨S2048, .f32⟩
  | 65 => ⟨S_, .i32⟩
  | 66 => ⟨S_, .f32⟩
  | 67 => ⟨S2048, .f32⟩
  | 68 => ⟨S2048, .f32⟩
  | 69 => ⟨S_, .i32⟩
  | 70 => ⟨S_, .f32⟩
  | 71 => ⟨S2048, .f32⟩
  | 72 => ⟨S1024, .f32⟩
  | 73 => ⟨S_, .i32⟩
  | 74 => ⟨S_, .f32⟩
  | 75 => ⟨S1024, .f32⟩
  | 76 => ⟨S128, .f32⟩
  | 77 => ⟨S_, .i32⟩
  | 78 => ⟨S_, .f32⟩
  | 79 => ⟨S1024, .f32⟩
  | 80 => ⟨S128, .f32⟩
  | 81 => ⟨S_, .i32⟩
  | 82 => ⟨S_, .f32⟩
  | 83 => ⟨S1024, .f32⟩
  | 84 => ⟨S128, .f32⟩
  | 85 => ⟨S_, .i32⟩
  | 86 => ⟨S_, .f32⟩
  | 87 => ⟨S1024, .f32⟩
  | 88 => ⟨S3720, .f32⟩
  | 89 => ⟨S_, .i32⟩
  | 90 => ⟨S_, .f32⟩
  | 91 => ⟨S4096, .f32⟩
  | 92 => ⟨S4224, .f32⟩
  | 93 => ⟨S_, .i32⟩
  | 94 => ⟨S_, .f32⟩
  | 95 => ⟨S5120, .f32⟩
  | 96 => ⟨S5632, .f32⟩
  | 97 => ⟨S_, .i32⟩
  | 98 => ⟨S_, .f32⟩
  | 99 => ⟨S6144, .f32⟩
  | 100 => ⟨S_, .f32⟩
  | 101 => ⟨S3072, .f32⟩
  | 102 => ⟨S40960, .f32⟩
  | 103 => ⟨S40x1024, .f32⟩
  | 104 => ⟨S40x1024, .f32⟩
  | 105 => ⟨S40x1024, .f32⟩
  | 106 => ⟨S40x1024, .f32⟩
  | _ => ⟨S2048, .f32⟩

abbrev hbmTy (i : Nat) : BufTy := match i / 128 with
  | 0 => hbmTy0_0 i
  | 1 => hbmTy0_1 i
  | _ => ⟨S2048, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x1024, .f32⟩
  | _, _ => ⟨S2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_c : Ref sig .tc := ⟨.hbm, 44, rfl⟩
abbrev main_call0_v0 : Ref sig .tc := ⟨.hbm, 45, rfl⟩
abbrev main_v0 : Ref sig .tc := ⟨.hbm, 46, rfl⟩
abbrev main_v1 : Ref sig .tc := ⟨.hbm, 47, rfl⟩
abbrev main_c_0 : Ref sig .tc := ⟨.hbm, 48, rfl⟩
abbrev main_call1_v0 : Ref sig .tc := ⟨.hbm, 49, rfl⟩
abbrev main_v2 : Ref sig .tc := ⟨.hbm, 50, rfl⟩
abbrev main_v3 : Ref sig .tc := ⟨.hbm, 51, rfl⟩
abbrev main_c_1 : Ref sig .tc := ⟨.hbm, 52, rfl⟩
abbrev main_call2_v0 : Ref sig .tc := ⟨.hbm, 53, rfl⟩
abbrev main_v4 : Ref sig .tc := ⟨.hbm, 54, rfl⟩
abbrev main_v5 : Ref sig .tc := ⟨.hbm, 55, rfl⟩
abbrev main_c_2 : Ref sig .tc := ⟨.hbm, 56, rfl⟩
abbrev main_call3_v0 : Ref sig .tc := ⟨.hbm, 57, rfl⟩
abbrev main_v6 : Ref sig .tc := ⟨.hbm, 58, rfl⟩
abbrev main_v7 : Ref sig .tc := ⟨.hbm, 59, rfl⟩
abbrev main_c_3 : Ref sig .tc := ⟨.hbm, 60, rfl⟩
abbrev main_call4_v0 : Ref sig .tc := ⟨.hbm, 61, rfl⟩
abbrev main_v8 : Ref sig .tc := ⟨.hbm, 62, rfl⟩
abbrev main_v9 : Ref sig .tc := ⟨.hbm, 63, rfl⟩
abbrev main_c_4 : Ref sig .tc := ⟨.hbm, 64, rfl⟩
abbrev main_call5_v0 : Ref sig .tc := ⟨.hbm, 65, rfl⟩
abbrev main_v10 : Ref sig .tc := ⟨.hbm, 66, rfl⟩
abbrev main_v11 : Ref sig .tc := ⟨.hbm, 67, rfl⟩
abbrev main_c_5 : Ref sig .tc := ⟨.hbm, 68, rfl⟩
abbrev main_call6_v0 : Ref sig .tc := ⟨.hbm, 69, rfl⟩
abbrev main_v12 : Ref sig .tc := ⟨.hbm, 70, rfl⟩
abbrev main_v13 : Ref sig .tc := ⟨.hbm, 71, rfl⟩
abbrev main_c_6 : Ref sig .tc := ⟨.hbm, 72, rfl⟩
abbrev main_call7_v0 : Ref sig .tc := ⟨.hbm, 73, rfl⟩
abbrev main_v14 : Ref sig .tc := ⟨.hbm, 74, rfl⟩
abbrev main_v15 : Ref sig .tc := ⟨.hbm, 75, rfl⟩
abbrev main_c_7 : Ref sig .tc := ⟨.hbm, 76, rfl⟩
abbrev main_call8_v0 : Ref sig .tc := ⟨.hbm, 77, rfl⟩
abbrev main_v16 : Ref sig .tc := ⟨.hbm, 78, rfl⟩
abbrev main_v17 : Ref sig .tc := ⟨.hbm, 79, rfl⟩
abbrev main_c_8 : Ref sig .tc := ⟨.hbm, 80, rfl⟩
abbrev main_call9_v0 : Ref sig .tc := ⟨.hbm, 81, rfl⟩
abbrev main_v18 : Ref sig .tc := ⟨.hbm, 82, rfl⟩
abbrev main_v19 : Ref sig .tc := ⟨.hbm, 83, rfl⟩
abbrev main_c_9 : Ref sig .tc := ⟨.hbm, 84, rfl⟩
abbrev main_call10_v0 : Ref sig .tc := ⟨.hbm, 85, rfl⟩
abbrev main_v20 : Ref sig .tc := ⟨.hbm, 86, rfl⟩
abbrev main_cst : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_c_10 : Ref sig .tc := ⟨.hbm, 91, rfl⟩
abbrev main_call11_v0 : Ref sig .tc := ⟨.hbm, 92, rfl⟩
abbrev main_v24 : Ref sig .tc := ⟨.hbm, 93, rfl⟩
abbrev main_v25 : Ref sig .tc := ⟨.hbm, 94, rfl⟩
abbrev main_c_11 : Ref sig .tc := ⟨.hbm, 95, rfl⟩
abbrev main_call12_v0 : Ref sig .tc := ⟨.hbm, 96, rfl⟩
abbrev main_v26 : Ref sig .tc := ⟨.hbm, 97, rfl⟩
abbrev main_v27 : Ref sig .tc := ⟨.hbm, 98, rfl⟩
abbrev main_c_12 : Ref sig .tc := ⟨.hbm, 99, rfl⟩
abbrev main_call13_v0 : Ref sig .tc := ⟨.hbm, 100, rfl⟩
abbrev main_v28 : Ref sig .tc := ⟨.hbm, 101, rfl⟩
abbrev main_v29 : Ref sig .tc := ⟨.hbm, 102, rfl⟩
abbrev main_c_13 : Ref sig .tc := ⟨.hbm, 103, rfl⟩
abbrev main_call14_v0 : Ref sig .tc := ⟨.hbm, 104, rfl⟩
abbrev main_v30 : Ref sig .tc := ⟨.hbm, 105, rfl⟩
abbrev main_v31 : Ref sig .tc := ⟨.hbm, 106, rfl⟩
abbrev main_c_14 : Ref sig .tc := ⟨.hbm, 107, rfl⟩
abbrev main_call15_v0 : Ref sig .tc := ⟨.hbm, 108, rfl⟩
abbrev main_v32 : Ref sig .tc := ⟨.hbm, 109, rfl⟩
abbrev main_v33 : Ref sig .tc := ⟨.hbm, 110, rfl⟩
abbrev main_c_15 : Ref sig .tc := ⟨.hbm, 111, rfl⟩
abbrev main_call16_v0 : Ref sig .tc := ⟨.hbm, 112, rfl⟩
abbrev main_v34 : Ref sig .tc := ⟨.hbm, 113, rfl⟩
abbrev main_v35 : Ref sig .tc := ⟨.hbm, 114, rfl⟩
abbrev main_c_16 : Ref sig .tc := ⟨.hbm, 115, rfl⟩
abbrev main_call17_v0 : Ref sig .tc := ⟨.hbm, 116, rfl⟩
abbrev main_v36 : Ref sig .tc := ⟨.hbm, 117, rfl⟩
abbrev main_v37 : Ref sig .tc := ⟨.hbm, 118, rfl⟩
abbrev main_c_17 : Ref sig .tc := ⟨.hbm, 119, rfl⟩
abbrev main_call18_v0 : Ref sig .tc := ⟨.hbm, 120, rfl⟩
abbrev main_v38 : Ref sig .tc := ⟨.hbm, 121, rfl⟩
abbrev main_v39 : Ref sig .tc := ⟨.hbm, 122, rfl⟩
abbrev main_c_18 : Ref sig .tc := ⟨.hbm, 123, rfl⟩
abbrev main_call19_v0 : Ref sig .tc := ⟨.hbm, 124, rfl⟩
abbrev main_v40 : Ref sig .tc := ⟨.hbm, 125, rfl⟩
abbrev main_v41 : Ref sig .tc := ⟨.hbm, 126, rfl⟩
abbrev main_c_19 : Ref sig .tc := ⟨.hbm, 127, rfl⟩
abbrev main_call20_v0 : Ref sig .tc := ⟨.hbm, 128, rfl⟩
abbrev main_v42 : Ref sig .tc := ⟨.hbm, 129, rfl⟩
abbrev main_v43 : Ref sig .tc := ⟨.hbm, 130, rfl⟩
abbrev main_c_20 : Ref sig .tc := ⟨.hbm, 131, rfl⟩
abbrev main_call21_v0 : Ref sig .tc := ⟨.hbm, 132, rfl⟩
abbrev main_v44 : Ref sig .tc := ⟨.hbm, 133, rfl⟩
abbrev main_cst_21 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_c_22 : Ref sig .tc := ⟨.hbm, 138, rfl⟩
abbrev main_call22_v0 : Ref sig .tc := ⟨.hbm, 139, rfl⟩
abbrev main_v48 : Ref sig .tc := ⟨.hbm, 140, rfl⟩
abbrev main_v49 : Ref sig .tc := ⟨.hbm, 141, rfl⟩
abbrev main_c_23 : Ref sig .tc := ⟨.hbm, 142, rfl⟩
abbrev main_call23_v0 : Ref sig .tc := ⟨.hbm, 143, rfl⟩
abbrev main_v50 : Ref sig .tc := ⟨.hbm, 144, rfl⟩
abbrev main_v51 : Ref sig .tc := ⟨.hbm, 145, rfl⟩
abbrev main_c_24 : Ref sig .tc := ⟨.hbm, 146, rfl⟩
abbrev main_call24_v0 : Ref sig .tc := ⟨.hbm, 147, rfl⟩
abbrev main_v52 : Ref sig .tc := ⟨.hbm, 148, rfl⟩
abbrev main_v53 : Ref sig .tc := ⟨.hbm, 149, rfl⟩
abbrev main_c_25 : Ref sig .tc := ⟨.hbm, 150, rfl⟩
abbrev main_call25_v0 : Ref sig .tc := ⟨.hbm, 151, rfl⟩
abbrev main_v54 : Ref sig .tc := ⟨.hbm, 152, rfl⟩
abbrev main_v55 : Ref sig .tc := ⟨.hbm, 153, rfl⟩
abbrev main_c_26 : Ref sig .tc := ⟨.hbm, 154, rfl⟩
abbrev main_call26_v0 : Ref sig .tc := ⟨.hbm, 155, rfl⟩
abbrev main_v56 : Ref sig .tc := ⟨.hbm, 156, rfl⟩
abbrev main_v57 : Ref sig .tc := ⟨.hbm, 157, rfl⟩
abbrev main_c_27 : Ref sig .tc := ⟨.hbm, 158, rfl⟩
abbrev main_call27_v0 : Ref sig .tc := ⟨.hbm, 159, rfl⟩
abbrev main_v58 : Ref sig .tc := ⟨.hbm, 160, rfl⟩
abbrev main_v59 : Ref sig .tc := ⟨.hbm, 161, rfl⟩
abbrev main_c_28 : Ref sig .tc := ⟨.hbm, 162, rfl⟩
abbrev main_call28_v0 : Ref sig .tc := ⟨.hbm, 163, rfl⟩
abbrev main_v60 : Ref sig .tc := ⟨.hbm, 164, rfl⟩
abbrev main_v61 : Ref sig .tc := ⟨.hbm, 165, rfl⟩
abbrev main_c_29 : Ref sig .tc := ⟨.hbm, 166, rfl⟩
abbrev main_call29_v0 : Ref sig .tc := ⟨.hbm, 167, rfl⟩
abbrev main_v62 : Ref sig .tc := ⟨.hbm, 168, rfl⟩
abbrev main_v63 : Ref sig .tc := ⟨.hbm, 169, rfl⟩
abbrev main_c_30 : Ref sig .tc := ⟨.hbm, 170, rfl⟩
abbrev main_call30_v0 : Ref sig .tc := ⟨.hbm, 171, rfl⟩
abbrev main_v64 : Ref sig .tc := ⟨.hbm, 172, rfl⟩
abbrev main_v65 : Ref sig .tc := ⟨.hbm, 173, rfl⟩
abbrev main_c_31 : Ref sig .tc := ⟨.hbm, 174, rfl⟩
abbrev main_call31_v0 : Ref sig .tc := ⟨.hbm, 175, rfl⟩
abbrev main_v66 : Ref sig .tc := ⟨.hbm, 176, rfl⟩
abbrev main_v67 : Ref sig .tc := ⟨.hbm, 177, rfl⟩
abbrev main_c_32 : Ref sig .tc := ⟨.hbm, 178, rfl⟩
abbrev main_call32_v0 : Ref sig .tc := ⟨.hbm, 179, rfl⟩
abbrev main_v68 : Ref sig .tc := ⟨.hbm, 180, rfl⟩
abbrev main_cst_33 : Ref sig .tc := ⟨.hbm, 181, rfl⟩
abbrev main_v69 : Ref sig .tc := ⟨.hbm, 182, rfl⟩
abbrev main_v70 : Ref sig .tc := ⟨.hbm, 183, rfl⟩
abbrev main_v71 : Ref sig .tc := ⟨.hbm, 184, rfl⟩
abbrev main_c_34 : Ref sig .tc := ⟨.hbm, 185, rfl⟩
abbrev main_call33_v0 : Ref sig .tc := ⟨.hbm, 186, rfl⟩
abbrev main_v72 : Ref sig .tc := ⟨.hbm, 187, rfl⟩
abbrev main_v73 : Ref sig .tc := ⟨.hbm, 188, rfl⟩
abbrev main_c_35 : Ref sig .tc := ⟨.hbm, 189, rfl⟩
abbrev main_call34_v0 : Ref sig .tc := ⟨.hbm, 190, rfl⟩
abbrev main_v74 : Ref sig .tc := ⟨.hbm, 191, rfl⟩
abbrev main_v75 : Ref sig .tc := ⟨.hbm, 192, rfl⟩
abbrev main_c_36 : Ref sig .tc := ⟨.hbm, 193, rfl⟩
abbrev main_call35_v0 : Ref sig .tc := ⟨.hbm, 194, rfl⟩
abbrev main_v76 : Ref sig .tc := ⟨.hbm, 195, rfl⟩
abbrev main_v77 : Ref sig .tc := ⟨.hbm, 196, rfl⟩
abbrev main_c_37 : Ref sig .tc := ⟨.hbm, 197, rfl⟩
abbrev main_call36_v0 : Ref sig .tc := ⟨.hbm, 198, rfl⟩
abbrev main_v78 : Ref sig .tc := ⟨.hbm, 199, rfl⟩
abbrev main_v79 : Ref sig .tc := ⟨.hbm, 200, rfl⟩
abbrev main_c_38 : Ref sig .tc := ⟨.hbm, 201, rfl⟩
abbrev main_call37_v0 : Ref sig .tc := ⟨.hbm, 202, rfl⟩
abbrev main_v80 : Ref sig .tc := ⟨.hbm, 203, rfl⟩
abbrev main_v81 : Ref sig .tc := ⟨.hbm, 204, rfl⟩
abbrev main_c_39 : Ref sig .tc := ⟨.hbm, 205, rfl⟩
abbrev main_call38_v0 : Ref sig .tc := ⟨.hbm, 206, rfl⟩
abbrev main_v82 : Ref sig .tc := ⟨.hbm, 207, rfl⟩
abbrev main_v83 : Ref sig .tc := ⟨.hbm, 208, rfl⟩
abbrev main_c_40 : Ref sig .tc := ⟨.hbm, 209, rfl⟩
abbrev main_call39_v0 : Ref sig .tc := ⟨.hbm, 210, rfl⟩
abbrev main_v84 : Ref sig .tc := ⟨.hbm, 211, rfl⟩
abbrev main_v85 : Ref sig .tc := ⟨.hbm, 212, rfl⟩
abbrev main_c_41 : Ref sig .tc := ⟨.hbm, 213, rfl⟩
abbrev main_call40_v0 : Ref sig .tc := ⟨.hbm, 214, rfl⟩
abbrev main_v86 : Ref sig .tc := ⟨.hbm, 215, rfl⟩
abbrev main_v87 : Ref sig .tc := ⟨.hbm, 216, rfl⟩
abbrev main_c_42 : Ref sig .tc := ⟨.hbm, 217, rfl⟩
abbrev main_call41_v0 : Ref sig .tc := ⟨.hbm, 218, rfl⟩
abbrev main_v88 : Ref sig .tc := ⟨.hbm, 219, rfl⟩
abbrev main_v89 : Ref sig .tc := ⟨.hbm, 220, rfl⟩
abbrev main_c_43 : Ref sig .tc := ⟨.hbm, 221, rfl⟩
abbrev main_call42_v0 : Ref sig .tc := ⟨.hbm, 222, rfl⟩
abbrev main_v90 : Ref sig .tc := ⟨.hbm, 223, rfl⟩
abbrev main_v91 : Ref sig .tc := ⟨.hbm, 224, rfl⟩
abbrev main_c_44 : Ref sig .tc := ⟨.hbm, 225, rfl⟩
abbrev main_call43_v0 : Ref sig .tc := ⟨.hbm, 226, rfl⟩
abbrev main_v92 : Ref sig .tc := ⟨.hbm, 227, rfl⟩
abbrev main_cst_45 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96_0 : Ref sig .tc := ⟨.hbm, 232, rfl⟩
abbrev main_v96_1 : Ref sig .tc := ⟨.hbm, 233, rfl⟩
abbrev main_v96_2 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallRefIdeal.lean ====
abbrev S2048 : Shape := ⟨1, ![2048]⟩
abbrev S1x12288 : Shape := ⟨2, ![1, 12288]⟩
abbrev S1x2048 : Shape := ⟨2, ![1, 2048]⟩
abbrev S2x2x256 : Shape := ⟨3, ![2, 2, 256]⟩
abbrev S1x128 : Shape := ⟨2, ![1, 128]⟩
abbrev S1x8x15x31 : Shape := ⟨4, ![1, 8, 15, 31]⟩
abbrev S1x3x1408 : Shape := ⟨3, ![1, 3, 1408]⟩
abbrev S1x5632 : Shape := ⟨2, ![1, 5632]⟩
abbrev S_ : Shape := ⟨0, ![]⟩
abbrev S12288 : Shape := ⟨1, ![12288]⟩
abbrev S1024 : Shape := ⟨1, ![1024]⟩
abbrev S128 : Shape := ⟨1, ![128]⟩
abbrev S3720 : Shape := ⟨1, ![3720]⟩
abbrev S4096 : Shape := ⟨1, ![4096]⟩
abbrev S4224 : Shape := ⟨1, ![4224]⟩
abbrev S5120 : Shape := ⟨1, ![5120]⟩
abbrev S5632 : Shape := ⟨1, ![5632]⟩
abbrev S6144 : Shape := ⟨1, ![6144]⟩
abbrev S3072 : Shape := ⟨1, ![3072]⟩
abbrev S40960 : Shape := ⟨1, ![40960]⟩
abbrev S40x1024 : Shape := ⟨2, ![40, 1024]⟩

abbrev nBuf : Space → Nat
  | .hbm => 548
  | .vmem => 0
  | .smem => 0
  | _ => 0

abbrev hbmTy0_0 (i : Nat) : BufTy := match i % 128 with
  | 0 => ⟨S2048, .f32⟩
  | 1 => ⟨S1x12288, .f32⟩
  | 2 => ⟨S1x2048, .f32⟩
  | 3 => ⟨S1x2048, .f32⟩
  | 4 => ⟨S2x2x256, .f32⟩
  | 5 => ⟨S1x128, .f32⟩
  | 6 => ⟨S1x128, .f32⟩
  | 7 => ⟨S1x128, .f32⟩
  | 8 => ⟨S1x8x15x31, .f32⟩
  | 9 => ⟨S1x3x1408, .f32⟩
  | 10 => ⟨S1x5632, .f32⟩
  | 11 => ⟨S2048, .f32⟩
  | 12 => ⟨S1x12288, .f32⟩
  | 13 => ⟨S1x2048, .f32⟩
  | 14 => ⟨S1x2048, .f32⟩
  | 15 => ⟨S2x2x256, .f32⟩
  | 16 => ⟨S1x128, .f32⟩
  | 17 => ⟨S1x128, .f32⟩
  | 18 => ⟨S1x128, .f32⟩
  | 19 => ⟨S1x8x15x31, .f32⟩
  | 20 => ⟨S1x3x1408, .f32⟩
  | 21 => ⟨S1x5632, .f32⟩
  | 22 => ⟨S2048, .f32⟩
  | 23 => ⟨S1x12288, .f32⟩
  | 24 => ⟨S1x2048, .f32⟩
  | 25 => ⟨S1x2048, .f32⟩
  | 26 => ⟨S2x2x256, .f32⟩
  | 27 => ⟨S1x128, .f32⟩
  | 28 => ⟨S1x128, .f32⟩
  | 29 => ⟨S1x128, .f32⟩
  | 30 => ⟨S1x8x15x31, .f32⟩
  | 31 => ⟨S1x3x1408, .f32⟩
  | 32 => ⟨S1x5632, .f32⟩
  | 33 => ⟨S2048, .f32⟩
  | 34 => ⟨S1x12288, .f32⟩
  | 35 => ⟨S1x2048, .f32⟩
  | 36 => ⟨S1x2048, .f32⟩
  | 37 => ⟨S2x2x256, .f32⟩
  | 38 => ⟨S1x128, .f32⟩
  | 39 => ⟨S1x128, .f32⟩
  | 40 => ⟨S1x128, .f32⟩
  | 41 => ⟨S1x8x15x31, .f32⟩
  | 42 => ⟨S1x3x1408, .f32⟩
  | 43 => ⟨S1x5632, .f32⟩
  | 44 => ⟨S_, .f32⟩
  | 45 => ⟨S2048, .f32⟩
  | 46 => ⟨S2048, .f32⟩
  | 47 => ⟨S_, .f32⟩
  | 48 => ⟨S2048, .f32⟩
  | 49 => ⟨S2048, .f32⟩
  | 50 => ⟨S2048, .f32⟩
  | 51 => ⟨S_, .f32⟩
  | 52 => ⟨S2048, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S_, .f32⟩
  | 60 => ⟨S2048, .f32⟩
  | 61 => ⟨S2048, .f32⟩
  | 62 => ⟨S_, .f32⟩
  | 63 => ⟨S2048, .f32⟩
  | 64 => ⟨S2048, .f32⟩
  | 65 => ⟨S2048, .f32⟩
  | 66 => ⟨S_, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S_, .f32⟩
  | 75 => ⟨S2048, .f32⟩
  | 76 => ⟨S2048, .f32⟩
  | 77 => ⟨S_, .f32⟩
  | 78 => ⟨S1x12288, .f32⟩
  | 79 => ⟨S1x12288, .f32⟩
  | 80 => ⟨S_, .f32⟩
  | 81 => ⟨S1x12288, .f32⟩
  | 82 => ⟨S1x12288, .f32⟩
  | 83 => ⟨S1x12288, .f32⟩
  | 84 => ⟨S_, .f32⟩
  | 85 => ⟨S1x12288, .f32⟩
  | 86 => ⟨S1x12288, .f32⟩
  | 87 => ⟨S1x12288, .f32⟩
  | 88 => ⟨S_, .f32⟩
  | 89 => ⟨S1x12288, .f32⟩
  | 90 => ⟨S1x12288, .f32⟩
  | 91 => ⟨S1x12288, .f32⟩
  | 92 => ⟨S_, .f32⟩
  | 93 => ⟨S1x12288, .f32⟩
  | 94 => ⟨S1x12288, .f32⟩
  | 95 => ⟨S_, .f32⟩
  | 96 => ⟨S1x12288, .f32⟩
  | 97 => ⟨S1x12288, .f32⟩
  | 98 => ⟨S1x12288, .f32⟩
  | 99 => ⟨S_, .f32⟩
  | 100 => ⟨S1x12288, .f32⟩
  | 101 => ⟨S1x12288, .f32⟩
  | 102 => ⟨S1x12288, .f32⟩
  | 103 => ⟨S_, .f32⟩
  | 104 => ⟨S1x12288, .f32⟩
  | 105 => ⟨S1x12288, .f32⟩
  | 106 => ⟨S1x12288, .f32⟩
  | 107 => ⟨S_, .f32⟩
  | 108 => ⟨S1x12288, .f32⟩
  | 109 => ⟨S1x12288, .f32⟩
  | 110 => ⟨S_, .f32⟩
  | 111 => ⟨S1x2048, .f32⟩
  | 112 => ⟨S1x2048, .f32⟩
  | 113 => ⟨S_, .f32⟩
  | 114 => ⟨S1x2048, .f32⟩
  | 115 => ⟨S1x2048, .f32⟩
  | 116 => ⟨S1x2048, .f32⟩
  | 117 => ⟨S_, .f32⟩
  | 118 => ⟨S1x2048, .f32⟩
  | 119 => ⟨S1x2048, .f32⟩
  | 120 => ⟨S1x2048, .f32⟩
  | 121 => ⟨S_, .f32⟩
  | 122 => ⟨S1x2048, .f32⟩
  | 123 => ⟨S1x2048, .f32⟩
  | 124 => ⟨S1x2048, .f32⟩
  | 125 => ⟨S_, .f32⟩
  | 126 => ⟨S1x2048, .f32⟩
  | 127 => ⟨S1x2048, .f32⟩
  | _ => ⟨S2048, .f32⟩

abbrev hbmTy0_1 (i : Nat) : BufTy := match i % 128 with
  | 0 => ⟨S_, .f32⟩
  | 1 => ⟨S1x2048, .f32⟩
  | 2 => ⟨S1x2048, .f32⟩
  | 3 => ⟨S1x2048, .f32⟩
  | 4 => ⟨S_, .f32⟩
  | 5 => ⟨S1x2048, .f32⟩
  | 6 => ⟨S1x2048, .f32⟩
  | 7 => ⟨S1x2048, .f32⟩
  | 8 => ⟨S_, .f32⟩
  | 9 => ⟨S1x2048, .f32⟩
  | 10 => ⟨S1x2048, .f32⟩
  | 11 => ⟨S1x2048, .f32⟩
  | 12 => ⟨S_, .f32⟩
  | 13 => ⟨S1x2048, .f32⟩
  | 14 => ⟨S1x2048, .f32⟩
  | 15 => ⟨S_, .f32⟩
  | 16 => ⟨S1x2048, .f32⟩
  | 17 => ⟨S1x2048, .f32⟩
  | 18 => ⟨S_, .f32⟩
  | 19 => ⟨S1x2048, .f32⟩
  | 20 => ⟨S1x2048, .f32⟩
  | 21 => ⟨S1x2048, .f32⟩
  | 22 => ⟨S_, .f32⟩
  | 23 => ⟨S1x2048, .f32⟩
  | 24 => ⟨S1x2048, .f32⟩
  | 25 => ⟨S1x2048, .f32⟩
  | 26 => ⟨S_, .f32⟩
  | 27 => ⟨S1x2048, .f32⟩
  | 28 => ⟨S1x2048, .f32⟩
  | 29 => ⟨S1x2048, .f32⟩
  | 30 => ⟨S_, .f32⟩
  | 31 => ⟨S1x2048, .f32⟩
  | 32 => ⟨S1x2048, .f32⟩
  | 33 => ⟨S_, .f32⟩
  | 34 => ⟨S1x2048, .f32⟩
  | 35 => ⟨S1x2048, .f32⟩
  | 36 => ⟨S1x2048, .f32⟩
  | 37 => ⟨S_, .f32⟩
  | 38 => ⟨S1x2048, .f32⟩
  | 39 => ⟨S1x2048, .f32⟩
  | 40 => ⟨S1x2048, .f32⟩
  | 41 => ⟨S_, .f32⟩
  | 42 => ⟨S1x2048, .f32⟩
  | 43 => ⟨S1x2048, .f32⟩
  | 44 => ⟨S1x2048, .f32⟩
  | 45 => ⟨S_, .f32⟩
  | 46 => ⟨S1x2048, .f32⟩
  | 47 => ⟨S1x2048, .f32⟩
  | 48 => ⟨S_, .f32⟩
  | 49 => ⟨S2x2x256, .f32⟩
  | 50 => ⟨S2x2x256, .f32⟩
  | 51 => ⟨S_, .f32⟩
  | 52 => ⟨S2x2x256, .f32⟩
  | 53 => ⟨S2x2x256, .f32⟩
  | 54 => ⟨S2x2x256, .f32⟩
  | 55 => ⟨S_, .f32⟩
  | 56 => ⟨S2x2x256, .f32⟩
  | 57 => ⟨S2x2x256, .f32⟩
  | 58 => ⟨S2x2x256, .f32⟩
  | 59 => ⟨S_, .f32⟩
  | 60 => ⟨S2x2x256, .f32⟩
  | 61 => ⟨S2x2x256, .f32⟩
  | 62 => ⟨S2x2x256, .f32⟩
  | 63 => ⟨S_, .f32⟩
  | 64 => ⟨S2x2x256, .f32⟩
  | 65 => ⟨S2x2x256, .f32⟩
  | 66 => ⟨S_, .f32⟩
  | 67 => ⟨S2x2x256, .f32⟩
  | 68 => ⟨S2x2x256, .f32⟩
  | 69 => ⟨S2x2x256, .f32⟩
  | 70 => ⟨S_, .f32⟩
  | 71 => ⟨S2x2x256, .f32⟩
  | 72 => ⟨S2x2x256, .f32⟩
  | 73 => ⟨S2x2x256, .f32⟩
  | 74 => ⟨S_, .f32⟩
  | 75 => ⟨S2x2x256, .f32⟩
  | 76 => ⟨S2x2x256, .f32⟩
  | 77 => ⟨S2x2x256, .f32⟩
  | 78 => ⟨S_, .f32⟩
  | 79 => ⟨S2x2x256, .f32⟩
  | 80 => ⟨S2x2x256, .f32⟩
  | 81 => ⟨S_, .f32⟩
  | 82 => ⟨S1x128, .f32⟩
  | 83 => ⟨S1x128, .f32⟩
  | 84 => ⟨S_, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S_, .f32⟩
  | 93 => ⟨S1x128, .f32⟩
  | 94 => ⟨S1x128, .f32⟩
  | 95 => ⟨S1x128, .f32⟩
  | 96 => ⟨S_, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S1x128, .f32⟩
  | 103 => ⟨S_, .f32⟩
  | 104 => ⟨S1x128, .f32⟩
  | 105 => ⟨S1x128, .f32⟩
  | 106 => ⟨S1x128, .f32⟩
  | 107 => ⟨S_, .f32⟩
  | 108 => ⟨S1x128, .f32⟩
  | 109 => ⟨S1x128, .f32⟩
  | 110 => ⟨S1x128, .f32⟩
  | 111 => ⟨S_, .f32⟩
  | 112 => ⟨S1x128, .f32⟩
  | 113 => ⟨S1x128, .f32⟩
  | 114 => ⟨S_, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S2048, .f32⟩

abbrev hbmTy0_2 (i : Nat) : BufTy := match i % 128 with
  | 0 => ⟨S1x128, .f32⟩
  | 1 => ⟨S_, .f32⟩
  | 2 => ⟨S1x128, .f32⟩
  | 3 => ⟨S1x128, .f32⟩
  | 4 => ⟨S_, .f32⟩
  | 5 => ⟨S1x128, .f32⟩
  | 6 => ⟨S1x128, .f32⟩
  | 7 => ⟨S1x128, .f32⟩
  | 8 => ⟨S_, .f32⟩
  | 9 => ⟨S1x128, .f32⟩
  | 10 => ⟨S1x128, .f32⟩
  | 11 => ⟨S1x128, .f32⟩
  | 12 => ⟨S_, .f32⟩
  | 13 => ⟨S1x128, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S_, .f32⟩
  | 20 => ⟨S1x128, .f32⟩
  | 21 => ⟨S1x128, .f32⟩
  | 22 => ⟨S_, .f32⟩
  | 23 => ⟨S1x128, .f32⟩
  | 24 => ⟨S1x128, .f32⟩
  | 25 => ⟨S1x128, .f32⟩
  | 26 => ⟨S_, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S_, .f32⟩
  | 50 => ⟨S1x128, .f32⟩
  | 51 => ⟨S1x128, .f32⟩
  | 52 => ⟨S_, .f32⟩
  | 53 => ⟨S1x8x15x31, .f32⟩
  | 54 => ⟨S1x8x15x31, .f32⟩
  | 55 => ⟨S_, .f32⟩
  | 56 => ⟨S1x8x15x31, .f32⟩
  | 57 => ⟨S1x8x15x31, .f32⟩
  | 58 => ⟨S1x8x15x31, .f32⟩
  | 59 => ⟨S_, .f32⟩
  | 60 => ⟨S1x8x15x31, .f32⟩
  | 61 => ⟨S1x8x15x31, .f32⟩
  | 62 => ⟨S1x8x15x31, .f32⟩
  | 63 => ⟨S_, .f32⟩
  | 64 => ⟨S1x8x15x31, .f32⟩
  | 65 => ⟨S1x8x15x31, .f32⟩
  | 66 => ⟨S1x8x15x31, .f32⟩
  | 67 => ⟨S_, .f32⟩
  | 68 => ⟨S1x8x15x31, .f32⟩
  | 69 => ⟨S1x8x15x31, .f32⟩
  | 70 => ⟨S_, .f32⟩
  | 71 => ⟨S1x8x15x31, .f32⟩
  | 72 => ⟨S1x8x15x31, .f32⟩
  | 73 => ⟨S1x8x15x31, .f32⟩
  | 74 => ⟨S_, .f32⟩
  | 75 => ⟨S1x8x15x31, .f32⟩
  | 76 => ⟨S1x8x15x31, .f32⟩
  | 77 => ⟨S1x8x15x31, .f32⟩
  | 78 => ⟨S_, .f32⟩
  | 79 => ⟨S1x8x15x31, .f32⟩
  | 80 => ⟨S1x8x15x31, .f32⟩
  | 81 => ⟨S1x8x15x31, .f32⟩
  | 82 => ⟨S_, .f32⟩
  | 83 => ⟨S1x8x15x31, .f32⟩
  | 84 => ⟨S1x8x15x31, .f32⟩
  | 85 => ⟨S_, .f32⟩
  | 86 => ⟨S1x3x1408, .f32⟩
  | 87 => ⟨S1x3x1408, .f32⟩
  | 88 => ⟨S_, .f32⟩
  | 89 => ⟨S1x3x1408, .f32⟩
  | 90 => ⟨S1x3x1408, .f32⟩
  | 91 => ⟨S1x3x1408, .f32⟩
  | 92 => ⟨S_, .f32⟩
  | 93 => ⟨S1x3x1408, .f32⟩
  | 94 => ⟨S1x3x1408, .f32⟩
  | 95 => ⟨S1x3x1408, .f32⟩
  | 96 => ⟨S_, .f32⟩
  | 97 => ⟨S1x3x1408, .f32⟩
  | 98 => ⟨S1x3x1408, .f32⟩
  | 99 => ⟨S1x3x1408, .f32⟩
  | 100 => ⟨S_, .f32⟩
  | 101 => ⟨S1x3x1408, .f32⟩
  | 102 => ⟨S1x3x1408, .f32⟩
  | 103 => ⟨S_, .f32⟩
  | 104 => ⟨S1x3x1408, .f32⟩
  | 105 => ⟨S1x3x1408, .f32⟩
  | 106 => ⟨S1x3x1408, .f32⟩
  | 107 => ⟨S_, .f32⟩
  | 108 => ⟨S1x3x1408, .f32⟩
  | 109 => ⟨S1x3x1408, .f32⟩
  | 110 => ⟨S1x3x1408, .f32⟩
  | 111 => ⟨S_, .f32⟩
  | 112 => ⟨S1x3x1408, .f32⟩
  | 113 => ⟨S1x3x1408, .f32⟩
  | 114 => ⟨S1x3x1408, .f32⟩
  | 115 => ⟨S_, .f32⟩
  | 116 => ⟨S1x3x1408, .f32⟩
  | 117 => ⟨S1x3x1408, .f32⟩
  | 118 => ⟨S_, .f32⟩
  | 119 => ⟨S1x5632, .f32⟩
  | 120 => ⟨S1x5632, .f32⟩
  | 121 => ⟨S_, .f32⟩
  | 122 => ⟨S1x5632, .f32⟩
  | 123 => ⟨S1x5632, .f32⟩
  | 124 => ⟨S1x5632, .f32⟩
  | 125 => ⟨S_, .f32⟩
  | 126 => ⟨S1x5632, .f32⟩
  | 127 => ⟨S1x5632, .f32⟩
  | _ => ⟨S2048, .f32⟩

abbrev hbmTy0_3 (i : Nat) : BufTy := match i % 128 with
  | 0 => ⟨S1x5632, .f32⟩
  | 1 => ⟨S_, .f32⟩
  | 2 => ⟨S1x5632, .f32⟩
  | 3 => ⟨S1x5632, .f32⟩
  | 4 => ⟨S1x5632, .f32⟩
  | 5 => ⟨S_, .f32⟩
  | 6 => ⟨S1x5632, .f32⟩
  | 7 => ⟨S1x5632, .f32⟩
  | 8 => ⟨S_, .f32⟩
  | 9 => ⟨S1x5632, .f32⟩
  | 10 => ⟨S1x5632, .f32⟩
  | 11 => ⟨S1x5632, .f32⟩
  | 12 => ⟨S_, .f32⟩
  | 13 => ⟨S1x5632, .f32⟩
  | 14 => ⟨S1x5632, .f32⟩
  | 15 => ⟨S1x5632, .f32⟩
  | 16 => ⟨S_, .f32⟩
  | 17 => ⟨S1x5632, .f32⟩
  | 18 => ⟨S1x5632, .f32⟩
  | 19 => ⟨S1x5632, .f32⟩
  | 20 => ⟨S_, .f32⟩
  | 21 => ⟨S1x5632, .f32⟩
  | 22 => ⟨S1x5632, .f32⟩
  | 23 => ⟨S_, .i32⟩
  | 24 => ⟨S_, .f32⟩
  | 25 => ⟨S2048, .f32⟩
  | 26 => ⟨S12288, .f32⟩
  | 27 => ⟨S_, .i32⟩
  | 28 => ⟨S_, .f32⟩
  | 29 => ⟨S12288, .f32⟩
  | 30 => ⟨S2048, .f32⟩
  | 31 => ⟨S_, .i32⟩
  | 32 => ⟨S_, .f32⟩
  | 33 => ⟨S2048, .f32⟩
  | 34 => ⟨S2048, .f32⟩
  | 35 => ⟨S_, .i32⟩
  | 36 => ⟨S_, .f32⟩
  | 37 => ⟨S2048, .f32⟩
  | 38 => ⟨S1024, .f32⟩
  | 39 => ⟨S_, .i32⟩
  | 40 => ⟨S_, .f32⟩
  | 41 => ⟨S1024, .f32⟩
  | 42 => ⟨S128, .f32⟩
  | 43 => ⟨S_, .i32⟩
  | 44 => ⟨S_, .f32⟩
  | 45 => ⟨S1024, .f32⟩
  | 46 => ⟨S128, .f32⟩
  | 47 => ⟨S_, .i32⟩
  | 48 => ⟨S_, .f32⟩
  | 49 => ⟨S1024, .f32⟩
  | 50 => ⟨S128, .f32⟩
  | 51 => ⟨S_, .i32⟩
  | 52 => ⟨S_, .f32⟩
  | 53 => ⟨S1024, .f32⟩
  | 54 => ⟨S3720, .f32⟩
  | 55 => ⟨S_, .i32⟩
  | 56 => ⟨S_, .f32⟩
  | 57 => ⟨S4096, .f32⟩
  | 58 => ⟨S4224, .f32⟩
  | 59 => ⟨S_, .i32⟩
  | 60 => ⟨S_, .f32⟩
  | 61 => ⟨S5120, .f32⟩
  | 62 => ⟨S5632, .f32⟩
  | 63 => ⟨S_, .i32⟩
  | 64 => ⟨S_, .f32⟩
  | 65 => ⟨S6144, .f32⟩
  | 66 => ⟨S_, .f32⟩
  | 67 => ⟨S3072, .f32⟩
  | 68 => ⟨S40960, .f32⟩
  | 69 => ⟨S40x1024, .f32⟩
  | 70 => ⟨S_, .i32⟩
  | 71 => ⟨S_, .f32⟩
  | 72 => ⟨S2048, .f32⟩
  | 73 => ⟨S12288, .f32⟩
  | 74 => ⟨S_, .i32⟩
  | 75 => ⟨S_, .f32⟩
  | 76 => ⟨S12288, .f32⟩
  | 77 => ⟨S2048, .f32⟩
  | 78 => ⟨S_, .i32⟩
  | 79 => ⟨S_, .f32⟩
  | 80 => ⟨S2048, .f32⟩
  | 81 => ⟨S2048, .f32⟩
  | 82 => ⟨S_, .i32⟩
  | 83 => ⟨S_, .f32⟩
  | 84 => ⟨S2048, .f32⟩
  | 85 => ⟨S1024, .f32⟩
  | 86 => ⟨S_, .i32⟩
  | 87 => ⟨S_, .f32⟩
  | 88 => ⟨S1024, .f32⟩
  | 89 => ⟨S128, .f32⟩
  | 90 => ⟨S_, .i32⟩
  | 91 => ⟨S_, .f32⟩
  | 92 => ⟨S1024, .f32⟩
  | 93 => ⟨S128, .f32⟩
  | 94 => ⟨S_, .i32⟩
  | 95 => ⟨S_, .f32⟩
  | 96 => ⟨S1024, .f32⟩
  | 97 => ⟨S128, .f32⟩
  | 98 => ⟨S_, .i32⟩
  | 99 => ⟨S_, .f32⟩
  | 100 => ⟨S1024, .f32⟩
  | 101 => ⟨S3720, .f32⟩
  | 102 => ⟨S_, .i32⟩
  | 103 => ⟨S_, .f32⟩
  | 104 => ⟨S4096, .f32⟩
  | 105 => ⟨S4224, .f32⟩
  | 106 => ⟨S_, .i32⟩
  | 107 => ⟨S_, .f32⟩
  | 108 => ⟨S5120, .f32⟩
  | 109 => ⟨S5632, .f32⟩
  | 110 => ⟨S_, .i32⟩
  | 111 => ⟨S_, .f32⟩
  | 112 => ⟨S6144, .f32⟩
  | 113 => ⟨S_, .f32⟩
  | 114 => ⟨S3072, .f32⟩
  | 115 => ⟨S40960, .f32⟩
  | 116 => ⟨S40x1024, .f32⟩
  | 117 => ⟨S_, .i32⟩
  | 118 => ⟨S_, .f32⟩
  | 119 => ⟨S2048, .f32⟩
  | 120 => ⟨S12288, .f32⟩
  | 121 => ⟨S_, .i32⟩
  | 122 => ⟨S_, .f32⟩
  | 123 => ⟨S12288, .f32⟩
  | 124 => ⟨S2048, .f32⟩
  | 125 => ⟨S_, .i32⟩
  | 126 => ⟨S_, .f32⟩
  | 127 => ⟨S2048, .f32⟩
  | _ => ⟨S2048, .f32⟩

abbrev hbmTy0_4 (i : Nat) : BufTy := match i % 128 with
  | 0 => ⟨S2048, .f32⟩
  | 1 => ⟨S_, .i32⟩
  | 2 => ⟨S_, .f32⟩
  | 3 => ⟨S2048, .f32⟩
  | 4 => ⟨S1024, .f32⟩
  | 5 => ⟨S_, .i32⟩
  | 6 => ⟨S_, .f32⟩
  | 7 => ⟨S1024, .f32⟩
  | 8 => ⟨S128, .f32⟩
  | 9 => ⟨S_, .i32⟩
  | 10 => ⟨S_, .f32⟩
  | 11 => ⟨S1024, .f32⟩
  | 12 => ⟨S128, .f32⟩
  | 13 => ⟨S_, .i32⟩
  | 14 => ⟨S_, .f32⟩
  | 15 => ⟨S1024, .f32⟩
  | 16 => ⟨S128, .f32⟩
  | 17 => ⟨S_, .i32⟩
  | 18 => ⟨S_, .f32⟩
  | 19 => ⟨S1024, .f32⟩
  | 20 => ⟨S3720, .f32⟩
  | 21 => ⟨S_, .i32⟩
  | 22 => ⟨S_, .f32⟩
  | 23 => ⟨S4096, .f32⟩
  | 24 => ⟨S4224, .f32⟩
  | 25 => ⟨S_, .i32⟩
  | 26 => ⟨S_, .f32⟩
  | 27 => ⟨S5120, .f32⟩
  | 28 => ⟨S5632, .f32⟩
  | 29 => ⟨S_, .i32⟩
  | 30 => ⟨S_, .f32⟩
  | 31 => ⟨S6144, .f32⟩
  | 32 => ⟨S_, .f32⟩
  | 33 => ⟨S3072, .f32⟩
  | 34 => ⟨S40960, .f32⟩
  | 35 => ⟨S40x1024, .f32⟩
  | _ => ⟨S2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2048, .f32⟩

abbrev bufTy : (tb : Table) → Fin (tcTables nBuf tb) → BufTy
  | .hbm, ⟨i, _⟩ => hbmTy i
  | _, _ => ⟨S2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_cst : Ref sig .tc := ⟨.hbm, 44, rfl⟩
abbrev main_v0 : Ref sig .tc := ⟨.hbm, 45, rfl⟩
abbrev main_v1 : Ref sig .tc := ⟨.hbm, 46, rfl⟩
abbrev main_cst_0 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_cst_1 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_cst_2 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_3 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_5 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_cst_6 : Ref sig .tc := ⟨.hbm, 70, rfl⟩
abbrev main_v19 : Ref sig .tc := ⟨.hbm, 71, rfl⟩
abbrev main_v20 : Ref sig .tc := ⟨.hbm, 72, rfl⟩
abbrev main_v21 : Ref sig .tc := ⟨.hbm, 73, rfl⟩
abbrev main_cst_7 : Ref sig .tc := ⟨.hbm, 74, rfl⟩
abbrev main_v22 : Ref sig .tc := ⟨.hbm, 75, rfl⟩
abbrev main_v23 : Ref sig .tc := ⟨.hbm, 76, rfl⟩
abbrev main_cst_8 : Ref sig .tc := ⟨.hbm, 77, rfl⟩
abbrev main_v24 : Ref sig .tc := ⟨.hbm, 78, rfl⟩
abbrev main_v25 : Ref sig .tc := ⟨.hbm, 79, rfl⟩
abbrev main_cst_9 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_cst_10 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_cst_11 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_cst_14 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_15 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_16 : Ref sig .tc := ⟨.hbm, 107, rfl⟩
abbrev main_v46 : Ref sig .tc := ⟨.hbm, 108, rfl⟩
abbrev main_v47 : Ref sig .tc := ⟨.hbm, 109, rfl⟩
abbrev main_cst_17 : Ref sig .tc := ⟨.hbm, 110, rfl⟩
abbrev main_v48 : Ref sig .tc := ⟨.hbm, 111, rfl⟩
abbrev main_v49 : Ref sig .tc := ⟨.hbm, 112, rfl⟩
abbrev main_cst_18 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_cst_19 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_cst_20 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_21 : Ref sig .tc := ⟨.hbm, 125, rfl⟩
abbrev main_v59 : Ref sig .tc := ⟨.hbm, 126, rfl⟩
abbrev main_v60 : Ref sig .tc := ⟨.hbm, 127, rfl⟩
abbrev main_cst_22 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_cst_23 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_24 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_cst_25 : Ref sig .tc := ⟨.hbm, 140, rfl⟩
abbrev main_v70 : Ref sig .tc := ⟨.hbm, 141, rfl⟩
abbrev main_v71 : Ref sig .tc := ⟨.hbm, 142, rfl⟩
abbrev main_cst_26 : Ref sig .tc := ⟨.hbm, 143, rfl⟩
abbrev main_v72 : Ref sig .tc := ⟨.hbm, 144, rfl⟩
abbrev main_v73 : Ref sig .tc := ⟨.hbm, 145, rfl⟩
abbrev main_cst_27 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_cst_28 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_29 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_cst_30 : Ref sig .tc := ⟨.hbm, 158, rfl⟩
abbrev main_v83 : Ref sig .tc := ⟨.hbm, 159, rfl⟩
abbrev main_v84 : Ref sig .tc := ⟨.hbm, 160, rfl⟩
abbrev main_cst_31 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_32 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_cst_33 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_cst_34 : Ref sig .tc := ⟨.hbm, 173, rfl⟩
abbrev main_v94 : Ref sig .tc := ⟨.hbm, 174, rfl⟩
abbrev main_v95 : Ref sig .tc := ⟨.hbm, 175, rfl⟩
abbrev main_cst_35 : Ref sig .tc := ⟨.hbm, 176, rfl⟩
abbrev main_v96 : Ref sig .tc := ⟨.hbm, 177, rfl⟩
abbrev main_v97 : Ref sig .tc := ⟨.hbm, 178, rfl⟩
abbrev main_cst_36 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_37 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_cst_38 : Ref sig .tc := ⟨.hbm, 187, rfl⟩
abbrev main_v104 : Ref sig .tc := ⟨.hbm, 188, rfl⟩
abbrev main_v105 : Ref sig .tc := ⟨.hbm, 189, rfl⟩
abbrev main_v106 : Ref sig .tc := ⟨.hbm, 190, rfl⟩
abbrev main_cst_39 : Ref sig .tc := ⟨.hbm, 191, rfl⟩
abbrev main_v107 : Ref sig .tc := ⟨.hbm, 192, rfl⟩
abbrev main_v108 : Ref sig .tc := ⟨.hbm, 193, rfl⟩
abbrev main_cst_40 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_cst_41 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_cst_42 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_cst_43 : Ref sig .tc := ⟨.hbm, 206, rfl⟩
abbrev main_v118 : Ref sig .tc := ⟨.hbm, 207, rfl⟩
abbrev main_v119 : Ref sig .tc := ⟨.hbm, 208, rfl⟩
abbrev main_cst_44 : Ref sig .tc := ⟨.hbm, 209, rfl⟩
abbrev main_v120 : Ref sig .tc := ⟨.hbm, 210, rfl⟩
abbrev main_v121 : Ref sig .tc := ⟨.hbm, 211, rfl⟩
abbrev main_cst_45 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_cst_46 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_cst_47 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_48 : Ref sig .tc := ⟨.hbm, 224, rfl⟩
abbrev main_v131 : Ref sig .tc := ⟨.hbm, 225, rfl⟩
abbrev main_v132 : Ref sig .tc := ⟨.hbm, 226, rfl⟩
abbrev main_cst_49 : Ref sig .tc := ⟨.hbm, 227, rfl⟩
abbrev main_v133 : Ref sig .tc := ⟨.hbm, 228, rfl⟩
abbrev main_v134 : Ref sig .tc := ⟨.hbm, 229, rfl⟩
abbrev main_v135 : Ref sig .tc := ⟨.hbm, 230, rfl⟩
abbrev main_cst_50 : Ref sig .tc := ⟨.hbm, 231, rfl⟩
abbrev main_v136 : Ref sig .tc := ⟨.hbm, 232, rfl⟩
abbrev main_v137 : Ref sig .tc := ⟨.hbm, 233, rfl⟩
abbrev main_v138 : Ref sig .tc := ⟨.hbm, 234, rfl⟩
abbrev main_cst_51 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_52 : Ref sig .tc := ⟨.hbm, 239, rfl⟩
abbrev main_v142 : Ref sig .tc := ⟨.hbm, 240, rfl⟩
abbrev main_v143 : Ref sig .tc := ⟨.hbm, 241, rfl⟩
abbrev main_cst_53 : Ref sig .tc := ⟨.hbm, 242, rfl⟩
abbrev main_v144 : Ref sig .tc := ⟨.hbm, 243, rfl⟩
abbrev main_v145 : Ref sig .tc := ⟨.hbm, 244, rfl⟩
abbrev main_cst_54 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_cst_55 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_cst_56 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_cst_57 : Ref sig .tc := ⟨.hbm, 257, rfl⟩
abbrev main_v155 : Ref sig .tc := ⟨.hbm, 258, rfl⟩
abbrev main_v156 : Ref sig .tc := ⟨.hbm, 259, rfl⟩
abbrev main_cst_58 : Ref sig .tc := ⟨.hbm, 260, rfl⟩
abbrev main_v157 : Ref sig .tc := ⟨.hbm, 261, rfl⟩
abbrev main_v158 : Ref sig .tc := ⟨.hbm, 262, rfl⟩
abbrev main_v159 : Ref sig .tc := ⟨.hbm, 263, rfl⟩
abbrev main_cst_59 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_60 : Ref sig .tc := ⟨.hbm, 268, rfl⟩
abbrev main_v163 : Ref sig .tc := ⟨.hbm, 269, rfl⟩
abbrev main_v164 : Ref sig .tc := ⟨.hbm, 270, rfl⟩
abbrev main_v165 : Ref sig .tc := ⟨.hbm, 271, rfl⟩
abbrev main_cst_61 : Ref sig .tc := ⟨.hbm, 272, rfl⟩
abbrev main_v166 : Ref sig .tc := ⟨.hbm, 273, rfl⟩
abbrev main_v167 : Ref sig .tc := ⟨.hbm, 274, rfl⟩
abbrev main_cst_62 : Ref sig .tc := ⟨.hbm, 275, rfl⟩
abbrev main_v168 : Ref sig .tc := ⟨.hbm, 276, rfl⟩
abbrev main_v169 : Ref sig .tc := ⟨.hbm, 277, rfl⟩
abbrev main_cst_63 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_64 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_65 : Ref sig .tc := ⟨.hbm, 286, rfl⟩
abbrev main_v176 : Ref sig .tc := ⟨.hbm, 287, rfl⟩
abbrev main_v177 : Ref sig .tc := ⟨.hbm, 288, rfl⟩
abbrev main_v178 : Ref sig .tc := ⟨.hbm, 289, rfl⟩
abbrev main_cst_66 : Ref sig .tc := ⟨.hbm, 290, rfl⟩
abbrev main_v179 : Ref sig .tc := ⟨.hbm, 291, rfl⟩
abbrev main_v180 : Ref sig .tc := ⟨.hbm, 292, rfl⟩
abbrev main_cst_67 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_cst_68 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_cst_69 : Ref sig .tc := ⟨.hbm, 301, rfl⟩
abbrev main_v187 : Ref sig .tc := ⟨.hbm, 302, rfl⟩
abbrev main_v188 : Ref sig .tc := ⟨.hbm, 303, rfl⟩
abbrev main_v189 : Ref sig .tc := ⟨.hbm, 304, rfl⟩
abbrev main_cst_70 : Ref sig .tc := ⟨.hbm, 305, rfl⟩
abbrev main_v190 : Ref sig .tc := ⟨.hbm, 306, rfl⟩
abbrev main_v191 : Ref sig .tc := ⟨.hbm, 307, rfl⟩
abbrev main_cst_71 : Ref sig .tc := ⟨.hbm, 308, rfl⟩
abbrev main_v192 : Ref sig .tc := ⟨.hbm, 309, rfl⟩
abbrev main_v193 : Ref sig .tc := ⟨.hbm, 310, rfl⟩
abbrev main_cst_72 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_cst_73 : Ref sig .tc := ⟨.hbm, 315, rfl⟩
abbrev main_v197 : Ref sig .tc := ⟨.hbm, 316, rfl⟩
abbrev main_v198 : Ref sig .tc := ⟨.hbm, 317, rfl⟩
abbrev main_v199 : Ref sig .tc := ⟨.hbm, 318, rfl⟩
abbrev main_cst_74 : Ref sig .tc := ⟨.hbm, 319, rfl⟩
abbrev main_v200 : Ref sig .tc := ⟨.hbm, 320, rfl⟩
abbrev main_v201 : Ref sig .tc := ⟨.hbm, 321, rfl⟩
abbrev main_v202 : Ref sig .tc := ⟨.hbm, 322, rfl⟩
abbrev main_cst_75 : Ref sig .tc := ⟨.hbm, 323, rfl⟩
abbrev main_v203 : Ref sig .tc := ⟨.hbm, 324, rfl⟩
abbrev main_v204 : Ref sig .tc := ⟨.hbm, 325, rfl⟩
abbrev main_cst_76 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_cst_77 : Ref sig .tc := ⟨.hbm, 330, rfl⟩
abbrev main_v208 : Ref sig .tc := ⟨.hbm, 331, rfl⟩
abbrev main_v209 : Ref sig .tc := ⟨.hbm, 332, rfl⟩
abbrev main_v210 : Ref sig .tc := ⟨.hbm, 333, rfl⟩
abbrev main_cst_78 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_cst_79 : Ref sig .tc := ⟨.hbm, 338, rfl⟩
abbrev main_v214 : Ref sig .tc := ⟨.hbm, 339, rfl⟩
abbrev main_v215 : Ref sig .tc := ⟨.hbm, 340, rfl⟩
abbrev main_cst_80 : Ref sig .tc := ⟨.hbm, 341, rfl⟩
abbrev main_v216 : Ref sig .tc := ⟨.hbm, 342, rfl⟩
abbrev main_v217 : Ref sig .tc := ⟨.hbm, 343, rfl⟩
abbrev main_cst_81 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_cst_82 : Ref sig .tc := ⟨.hbm, 348, rfl⟩
abbrev main_v221 : Ref sig .tc := ⟨.hbm, 349, rfl⟩
abbrev main_v222 : Ref sig .tc := ⟨.hbm, 350, rfl⟩
abbrev main_v223 : Ref sig .tc := ⟨.hbm, 351, rfl⟩
abbrev main_cst_83 : Ref sig .tc := ⟨.hbm, 352, rfl⟩
abbrev main_v224 : Ref sig .tc := ⟨.hbm, 353, rfl⟩
abbrev main_v225 : Ref sig .tc := ⟨.hbm, 354, rfl⟩
abbrev main_v226 : Ref sig .tc := ⟨.hbm, 355, rfl⟩
abbrev main_cst_84 : Ref sig .tc := ⟨.hbm, 356, rfl⟩
abbrev main_v227 : Ref sig .tc := ⟨.hbm, 357, rfl⟩
abbrev main_v228 : Ref sig .tc := ⟨.hbm, 358, rfl⟩
abbrev main_cst_85 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_cst_86 : Ref sig .tc := ⟨.hbm, 363, rfl⟩
abbrev main_v232 : Ref sig .tc := ⟨.hbm, 364, rfl⟩
abbrev main_v233 : Ref sig .tc := ⟨.hbm, 365, rfl⟩
abbrev main_v234 : Ref sig .tc := ⟨.hbm, 366, rfl⟩
abbrev main_cst_87 : Ref sig .tc := ⟨.hbm, 367, rfl⟩
abbrev main_v235 : Ref sig .tc := ⟨.hbm, 368, rfl⟩
abbrev main_v236 : Ref sig .tc := ⟨.hbm, 369, rfl⟩
abbrev main_v237 : Ref sig .tc := ⟨.hbm, 370, rfl⟩
abbrev main_cst_88 : Ref sig .tc := ⟨.hbm, 371, rfl⟩
abbrev main_v238 : Ref sig .tc := ⟨.hbm, 372, rfl⟩
abbrev main_v239 : Ref sig .tc := ⟨.hbm, 373, rfl⟩
abbrev main_cst_89 : Ref sig .tc := ⟨.hbm, 374, rfl⟩
abbrev main_v240 : Ref sig .tc := ⟨.hbm, 375, rfl⟩
abbrev main_v241 : Ref sig .tc := ⟨.hbm, 376, rfl⟩
abbrev main_cst_90 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_cst_91 : Ref sig .tc := ⟨.hbm, 381, rfl⟩
abbrev main_v245 : Ref sig .tc := ⟨.hbm, 382, rfl⟩
abbrev main_v246 : Ref sig .tc := ⟨.hbm, 383, rfl⟩
abbrev main_v247 : Ref sig .tc := ⟨.hbm, 384, rfl⟩
abbrev main_cst_92 : Ref sig .tc := ⟨.hbm, 385, rfl⟩
abbrev main_v248 : Ref sig .tc := ⟨.hbm, 386, rfl⟩
abbrev main_v249 : Ref sig .tc := ⟨.hbm, 387, rfl⟩
abbrev main_v250 : Ref sig .tc := ⟨.hbm, 388, rfl⟩
abbrev main_cst_93 : Ref sig .tc := ⟨.hbm, 389, rfl⟩
abbrev main_v251 : Ref sig .tc := ⟨.hbm, 390, rfl⟩
abbrev main_v252 : Ref sig .tc := ⟨.hbm, 391, rfl⟩
abbrev main_cst_94 : Ref sig .tc := ⟨.hbm, 392, rfl⟩
abbrev main_v253 : Ref sig .tc := ⟨.hbm, 393, rfl⟩
abbrev main_v254 : Ref sig .tc := ⟨.hbm, 394, rfl⟩
abbrev main_v255 : Ref sig .tc := ⟨.hbm, 395, rfl⟩
abbrev main_cst_95 : Ref sig .tc := ⟨.hbm, 396, rfl⟩
abbrev main_v256 : Ref sig .tc := ⟨.hbm, 397, rfl⟩
abbrev main_v257 : Ref sig .tc := ⟨.hbm, 398, rfl⟩
abbrev main_v258 : Ref sig .tc := ⟨.hbm, 399, rfl⟩
abbrev main_cst_96 : Ref sig .tc := ⟨.hbm, 400, rfl⟩
abbrev main_v259 : Ref sig .tc := ⟨.hbm, 401, rfl⟩
abbrev main_v260 : Ref sig .tc := ⟨.hbm, 402, rfl⟩
abbrev main_v261 : Ref sig .tc := ⟨.hbm, 403, rfl⟩
abbrev main_cst_97 : Ref sig .tc := ⟨.hbm, 404, rfl⟩
abbrev main_v262 : Ref sig .tc := ⟨.hbm, 405, rfl⟩
abbrev main_v263 : Ref sig .tc := ⟨.hbm, 406, rfl⟩
abbrev main_c : Ref sig .tc := ⟨.hbm, 407, rfl⟩
abbrev main_call0_v0 : Ref sig .tc := ⟨.hbm, 408, rfl⟩
abbrev main_v264 : Ref sig .tc := ⟨.hbm, 409, rfl⟩
abbrev main_v265 : Ref sig .tc := ⟨.hbm, 410, rfl⟩
abbrev main_c_98 : Ref sig .tc := ⟨.hbm, 411, rfl⟩
abbrev main_call1_v0 : Ref sig .tc := ⟨.hbm, 412, rfl⟩
abbrev main_v266 : Ref sig .tc := ⟨.hbm, 413, rfl⟩
abbrev main_v267 : Ref sig .tc := ⟨.hbm, 414, rfl⟩
abbrev main_c_99 : Ref sig .tc := ⟨.hbm, 415, rfl⟩
abbrev main_call2_v0 : Ref sig .tc := ⟨.hbm, 416, rfl⟩
abbrev main_v268 : Ref sig .tc := ⟨.hbm, 417, rfl⟩
abbrev main_v269 : Ref sig .tc := ⟨.hbm, 418, rfl⟩
abbrev main_c_100 : Ref sig .tc := ⟨.hbm, 419, rfl⟩
abbrev main_call3_v0 : Ref sig .tc := ⟨.hbm, 420, rfl⟩
abbrev main_v270 : Ref sig .tc := ⟨.hbm, 421, rfl⟩
abbrev main_v271 : Ref sig .tc := ⟨.hbm, 422, rfl⟩
abbrev main_c_101 : Ref sig .tc := ⟨.hbm, 423, rfl⟩
abbrev main_call4_v0 : Ref sig .tc := ⟨.hbm, 424, rfl⟩
abbrev main_v272 : Ref sig .tc := ⟨.hbm, 425, rfl⟩
abbrev main_v273 : Ref sig .tc := ⟨.hbm, 426, rfl⟩
abbrev main_c_102 : Ref sig .tc := ⟨.hbm, 427, rfl⟩
abbrev main_call5_v0 : Ref sig .tc := ⟨.hbm, 428, rfl⟩
abbrev main_v274 : Ref sig .tc := ⟨.hbm, 429, rfl⟩
abbrev main_v275 : Ref sig .tc := ⟨.hbm, 430, rfl⟩
abbrev main_c_103 : Ref sig .tc := ⟨.hbm, 431, rfl⟩
abbrev main_call6_v0 : Ref sig .tc := ⟨.hbm, 432, rfl⟩
abbrev main_v276 : Ref sig .tc := ⟨.hbm, 433, rfl⟩
abbrev main_v277 : Ref sig .tc := ⟨.hbm, 434, rfl⟩
abbrev main_c_104 : Ref sig .tc := ⟨.hbm, 435, rfl⟩
abbrev main_call7_v0 : Ref sig .tc := ⟨.hbm, 436, rfl⟩
abbrev main_v278 : Ref sig .tc := ⟨.hbm, 437, rfl⟩
abbrev main_v279 : Ref sig .tc := ⟨.hbm, 438, rfl⟩
abbrev main_c_105 : Ref sig .tc := ⟨.hbm, 439, rfl⟩
abbrev main_call8_v0 : Ref sig .tc := ⟨.hbm, 440, rfl⟩
abbrev main_v280 : Ref sig .tc := ⟨.hbm, 441, rfl⟩
abbrev main_v281 : Ref sig .tc := ⟨.hbm, 442, rfl⟩
abbrev main_c_106 : Ref sig .tc := ⟨.hbm, 443, rfl⟩
abbrev main_call9_v0 : Ref sig .tc := ⟨.hbm, 444, rfl⟩
abbrev main_v282 : Ref sig .tc := ⟨.hbm, 445, rfl⟩
abbrev main_v283 : Ref sig .tc := ⟨.hbm, 446, rfl⟩
abbrev main_c_107 : Ref sig .tc := ⟨.hbm, 447, rfl⟩
abbrev main_call10_v0 : Ref sig .tc := ⟨.hbm, 448, rfl⟩
abbrev main_v284 : Ref sig .tc := ⟨.hbm, 449, rfl⟩
abbrev main_cst_108 : Ref sig .tc := ⟨.hbm, 450, rfl⟩
abbrev main_v285 : Ref sig .tc := ⟨.hbm, 451, rfl⟩
abbrev main_v286 : Ref sig .tc := ⟨.hbm, 452, rfl⟩
abbrev main_v287 : Ref sig .tc := ⟨.hbm, 453, rfl⟩
abbrev main_c_109 : Ref sig .tc := ⟨.hbm, 454, rfl⟩
abbrev main_call11_v0 : Ref sig .tc := ⟨.hbm, 455, rfl⟩
abbrev main_v288 : Ref sig .tc := ⟨.hbm, 456, rfl⟩
abbrev main_v289 : Ref sig .tc := ⟨.hbm, 457, rfl⟩
abbrev main_c_110 : Ref sig .tc := ⟨.hbm, 458, rfl⟩
abbrev main_call12_v0 : Ref sig .tc := ⟨.hbm, 459, rfl⟩
abbrev main_v290 : Ref sig .tc := ⟨.hbm, 460, rfl⟩
abbrev main_v291 : Ref sig .tc := ⟨.hbm, 461, rfl⟩
abbrev main_c_111 : Ref sig .tc := ⟨.hbm, 462, rfl⟩
abbrev main_call13_v0 : Ref sig .tc := ⟨.hbm, 463, rfl⟩
abbrev main_v292 : Ref sig .tc := ⟨.hbm, 464, rfl⟩
abbrev main_v293 : Ref sig .tc := ⟨.hbm, 465, rfl⟩
abbrev main_c_112 : Ref sig .tc := ⟨.hbm, 466, rfl⟩
abbrev main_call14_v0 : Ref sig .tc := ⟨.hbm, 467, rfl⟩
abbrev main_v294 : Ref sig .tc := ⟨.hbm, 468, rfl⟩
abbrev main_v295 : Ref sig .tc := ⟨.hbm, 469, rfl⟩
abbrev main_c_113 : Ref sig .tc := ⟨.hbm, 470, rfl⟩
abbrev main_call15_v0 : Ref sig .tc := ⟨.hbm, 471, rfl⟩
abbrev main_v296 : Ref sig .tc := ⟨.hbm, 472, rfl⟩
abbrev main_v297 : Ref sig .tc := ⟨.hbm, 473, rfl⟩
abbrev main_c_114 : Ref sig .tc := ⟨.hbm, 474, rfl⟩
abbrev main_call16_v0 : Ref sig .tc := ⟨.hbm, 475, rfl⟩
abbrev main_v298 : Ref sig .tc := ⟨.hbm, 476, rfl⟩
abbrev main_v299 : Ref sig .tc := ⟨.hbm, 477, rfl⟩
abbrev main_c_115 : Ref sig .tc := ⟨.hbm, 478, rfl⟩
abbrev main_call17_v0 : Ref sig .tc := ⟨.hbm, 479, rfl⟩
abbrev main_v300 : Ref sig .tc := ⟨.hbm, 480, rfl⟩
abbrev main_v301 : Ref sig .tc := ⟨.hbm, 481, rfl⟩
abbrev main_c_116 : Ref sig .tc := ⟨.hbm, 482, rfl⟩
abbrev main_call18_v0 : Ref sig .tc := ⟨.hbm, 483, rfl⟩
abbrev main_v302 : Ref sig .tc := ⟨.hbm, 484, rfl⟩
abbrev main_v303 : Ref sig .tc := ⟨.hbm, 485, rfl⟩
abbrev main_c_117 : Ref sig .tc := ⟨.hbm, 486, rfl⟩
abbrev main_call19_v0 : Ref sig .tc := ⟨.hbm, 487, rfl⟩
abbrev main_v304 : Ref sig .tc := ⟨.hbm, 488, rfl⟩
abbrev main_v305 : Ref sig .tc := ⟨.hbm, 489, rfl⟩
abbrev main_c_118 : Ref sig .tc := ⟨.hbm, 490, rfl⟩
abbrev main_call20_v0 : Ref sig .tc := ⟨.hbm, 491, rfl⟩
abbrev main_v306 : Ref sig .tc := ⟨.hbm, 492, rfl⟩
abbrev main_v307 : Ref sig .tc := ⟨.hbm, 493, rfl⟩
abbrev main_c_119 : Ref sig .tc := ⟨.hbm, 494, rfl⟩
abbrev main_call21_v0 : Ref sig .tc := ⟨.hbm, 495, rfl⟩
abbrev main_v308 : Ref sig .tc := ⟨.hbm, 496, rfl⟩
abbrev main_cst_120 : Ref sig .tc := ⟨.hbm, 497, rfl⟩
abbrev main_v309 : Ref sig .tc := ⟨.hbm, 498, rfl⟩
abbrev main_v310 : Ref sig .tc := ⟨.hbm, 499, rfl⟩
abbrev main_v311 : Ref sig .tc := ⟨.hbm, 500, rfl⟩
abbrev main_c_121 : Ref sig .tc := ⟨.hbm, 501, rfl⟩
abbrev main_call22_v0 : Ref sig .tc := ⟨.hbm, 502, rfl⟩
abbrev main_v312 : Ref sig .tc := ⟨.hbm, 503, rfl⟩
abbrev main_v313 : Ref sig .tc := ⟨.hbm, 504, rfl⟩
abbrev main_c_122 : Ref sig .tc := ⟨.hbm, 505, rfl⟩
abbrev main_call23_v0 : Ref sig .tc := ⟨.hbm, 506, rfl⟩
abbrev main_v314 : Ref sig .tc := ⟨.hbm, 507, rfl⟩
abbrev main_v315 : Ref sig .tc := ⟨.hbm, 508, rfl⟩
abbrev main_c_123 : Ref sig .tc := ⟨.hbm, 509, rfl⟩
abbrev main_call24_v0 : Ref sig .tc := ⟨.hbm, 510, rfl⟩
abbrev main_v316 : Ref sig .tc := ⟨.hbm, 511, rfl⟩
abbrev main_v317 : Ref sig .tc := ⟨.hbm, 512, rfl⟩
abbrev main_c_124 : Ref sig .tc := ⟨.hbm, 513, rfl⟩
abbrev main_call25_v0 : Ref sig .tc := ⟨.hbm, 514, rfl⟩
abbrev main_v318 : Ref sig .tc := ⟨.hbm, 515, rfl⟩
abbrev main_v319 : Ref sig .tc := ⟨.hbm, 516, rfl⟩
abbrev main_c_125 : Ref sig .tc := ⟨.hbm, 517, rfl⟩
abbrev main_call26_v0 : Ref sig .tc := ⟨.hbm, 518, rfl⟩
abbrev main_v320 : Ref sig .tc := ⟨.hbm, 519, rfl⟩
abbrev main_v321 : Ref sig .tc := ⟨.hbm, 520, rfl⟩
abbrev main_c_126 : Ref sig .tc := ⟨.hbm, 521, rfl⟩
abbrev main_call27_v0 : Ref sig .tc := ⟨.hbm, 522, rfl⟩
abbrev main_v322 : Ref sig .tc := ⟨.hbm, 523, rfl⟩
abbrev main_v323 : Ref sig .tc := ⟨.hbm, 524, rfl⟩
abbrev main_c_127 : Ref sig .tc := ⟨.hbm, 525, rfl⟩
abbrev main_call28_v0 : Ref sig .tc := ⟨.hbm, 526, rfl⟩
abbrev main_v324 : Ref sig .tc := ⟨.hbm, 527, rfl⟩
abbrev main_v325 : Ref sig .tc := ⟨.hbm, 528, rfl⟩
abbrev main_c_128 : Ref sig .tc := ⟨.hbm, 529, rfl⟩
abbrev main_call29_v0 : Ref sig .tc := ⟨.hbm, 530, rfl⟩
abbrev main_v326 : Ref sig .tc := ⟨.hbm, 531, rfl⟩
abbrev main_v327 : Ref sig .tc := ⟨.hbm, 532, rfl⟩
abbrev main_c_129 : Ref sig .tc := ⟨.hbm, 533, rfl⟩
abbrev main_call30_v0 : Ref sig .tc := ⟨.hbm, 534, rfl⟩
abbrev main_v328 : Ref sig .tc := ⟨.hbm, 535, rfl⟩
abbrev main_v329 : Ref sig .tc := ⟨.hbm, 536, rfl⟩
abbrev main_c_130 : Ref sig .tc := ⟨.hbm, 537, rfl⟩
abbrev main_call31_v0 : Ref sig .tc := ⟨.hbm, 538, rfl⟩
abbrev main_v330 : Ref sig .tc := ⟨.hbm, 539, rfl⟩
abbrev main_v331 : Ref sig .tc := ⟨.hbm, 540, rfl⟩
abbrev main_c_131 : Ref sig .tc := ⟨.hbm, 541, rfl⟩
abbrev main_call32_v0 : Ref sig .tc := ⟨.hbm, 542, rfl⟩
abbrev main_v332 : Ref sig .tc := ⟨.hbm, 543, rfl⟩
abbrev main_cst_132 : Ref sig .tc := ⟨.hbm, 544, rfl⟩
abbrev main_v333 : Ref sig .tc := ⟨.hbm, 545, rfl⟩
abbrev main_v334 : Ref sig .tc := ⟨.hbm, 546, rfl⟩
abbrev main_v335 : Ref sig .tc := ⟨.hbm, 547, rfl⟩

abbrev nD : Nat := 1
abbrev τ : Topo := Topo.v7x

variable {F : FTy → Type} [FloatOps F]
-- ==== Proof.Sums.lean ====
/-
  Facts the values share: the offset of a whole block, and what an accumulator holds at the end of a run of steps.
-/
module

public import Idealize.ShloMosaic.Lib.Pipeline.Value
public import Idealize.ShloMosaic.Lib.Pointwise

@[expose] public section

open Idealize.ShloMosaic Idealize.SL.Sem

namespace Cert.Proof

/-- The offset of a block read or written whole. -/
theorem zeros2 : (![0, 0] : Fin 2 → Nat) = fun _ => 0 := funext fun a => by fin_cases a <;> rfl
theorem zeros3 : (![0, 0, 0] : Fin 3 → Nat) = fun _ => 0 := funext fun a => by fin_cases a <;> rfl

/-- A whole buffer read back after several whole writes holds the last of them. -/
theorem readCov_last {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- An accumulator that takes `P n` at the first step of each run of `T` steps and adds `P n` at the others holds, after
    the step at place `j` of run `q`, the sum over the run's steps so far. -/
theorem gathered {N T : ℕ} (S P : ∀ n, n < N → EReal) (first : ∀ n h, n % T = 0 → S n h = P n h)
    (next : ∀ n h, ¬n % T = 0 → S n h = S (n - 1) (Nat.lt_of_le_of_lt (Nat.sub_le _ _) h) + P n h) (q : ℕ) :
    ∀ (j : ℕ) (_ : j < T) (h : T * q + j < N),
      S (T * q + j) h = ∑ s : Fin (j + 1), P (T * q + s.val) (by omega)
  | 0, _, h => by
    rw [first _ h (by simp), Fin.sum_univ_one]
    rfl
  | j + 1, hj, h => by
    rw [next _ h (by rw [Nat.mul_add_mod, Nat.mod_eq_of_lt hj]; omega), Fin.sum_univ_castSucc]
    exact congrArg (· + _) (gathered S P first next q j (by omega) (by omega))

end Cert.Proof
-- ==== Proof.Gwin.Value.lean ====
/-
  `mm_gwin`, the weight gradient of the input projection: what the array holds after the run, as sums over the 2304
  rows, and the host reference's array as the same sums.
-/
module

public import proofs.«01_k».proof.Defs
public import proofs.«01_k».proof.Proof.Gen.Gwin.Frame
public import proofs.«01_k».proof.Proof.Gen.GwinIdeal.Value
public import proofs.«01_k».proof.Proof.Gen.GwinRefIdeal.Run
public import proofs.«01_k».proof.Proof.Gen.GwinRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.GwinIdeal.Product

open Cert.GwinIdeal Cert.GwinIdeal.Gen

variable (m : (ℓ : Loc nD τ sig) → Buf (Elt Ideal) ℓ) (ρ : Dev nD → PrngReg)

/-- The product of the transposed left argument with the right one, cut in four column blocks. -/
def product (x : FVec Ideal S2304x2048 .bf16) (dy : FVec Ideal S2304x12288 .bf16) : FVec Ideal S4x2048x3072 .bf16 :=
  fun i => ∑ k : Fin 2304, x (ix2 k (i 1)) * dy (ix2 k ⟨3072 * (i 0).val + (i 2).val, by
    have h0 : (i 0).val < 4 := (i 0).isLt
    have h2 : (i 2).val < 3072 := (i 2).isLt
    omega⟩)

/-- One block of the product, element by element. -/
theorem block_apply (a b : FVec Ideal S2304x1024 .bf16) (y : S1x1024x1024.Idx) :
    k0_pay1 (F := Ideal) a b y = ∑ k : Fin 2304, a (ix2 k (y 1)) * b (ix2 k (y 2)) := by
  pointwise [k0_pay1]

/-- Where the windows' blocks lie at a grid point. -/
theorem places : ∀ t : Fin cfg0.N,
    win0_0.index t 0 = 0 ∧ win0_0.index t 1 = t.val % 2 ∧ win0_1.index t 0 = 0 ∧ win0_1.index t 1 = t.val / 2
    ∧ win0_2.index t 0 = t.val / 2 / 3 ∧ win0_2.index t 1 = t.val % 2 ∧ win0_2.index t 2 = t.val / 2 % 3 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros3, View.ld_unit_zero zeros2, View.ld_unit_zero zeros2]
  obtain ⟨e00, e01, e10, e11, e20, e21, e22⟩ := places t
  funext y
  have h0 : (y 0).val < 1 := (y 0).isLt
  have h1 : (y 1).val < 1024 := (y 1).isLt
  have h2 : (y 2).val < 1024 := (y 2).isLt
  have ht : t.val < 24 := t.isLt
  refine (block_apply _ _ y).trans ?_
  show _ = product _ _ (((cfg0.win 2).blk t).view.emb y)
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 2304 + 1 * k.val = k.val; omega
    | ⟨1, _⟩ => show win0_0.index t 1 * 1024 + 1 * (y 1).val = win0_2.index t 1 * 1024 + 1 * (y 1).val; omega
  · match a with
    | ⟨0, _⟩ => show win0_1.index t 0 * 2304 + 1 * k.val = k.val; omega
    | ⟨1, _⟩ => show win0_1.index t 1 * 1024 + 1 * (y 2).val
                  = 3072 * (win0_2.index t 0 * 1 + 1 * (y 0).val) + (win0_2.index t 2 * 1024 + 1 * (y 2).val); omega

/-- Every element of the result lies in some grid point's block. -/
theorem cover (i : S4x2048x3072.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 3072 := (i 2).isLt
  let t : Fin cfg0.N := ⟨(3 * (i 0).val + (i 2).val / 1024) * 2 + (i 1).val / 1024, by show _ < 24; omega⟩
  have ht : t.val = (3 * (i 0).val + (i 2).val / 1024) * 2 + (i 1).val / 1024 := rfl
  refine ⟨t, flush0_2 t, ?_⟩
  show i ∈ ((View.whole main_v0).slice (win0_2.rect t)).set
  rw [View.set_slice_whole, Rect.mem_set_unit]
  obtain ⟨-, -, -, -, e20, e21, e22⟩ := places t
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 1024 ≤ (i 2).val ∧ (i 2).val < win0_2.index t 2 * 1024 + 1024; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.GwinIdeal.Product

namespace Cert.GwinRefIdeal.Product

open Cert.GwinRefIdeal Cert.GwinRefIdeal.Gen Cert.GwinRefIdeal.Read

/-- The host's gradient, element by element. -/
theorem value (x : FVec Ideal S2304x2048 .bf16) (dy : FVec Ideal S2304x12288 .bf16) :
    val_main_v8 (F := Ideal) x dy = Cert.GwinIdeal.Product.product x dy := by
  funext i
  have h0 : (i 0).val < 4 := (i 0).isLt
  have h1 : (i 1).val < 2048 := (i 1).isLt
  have h2 : (i 2).val < 3072 := (i 2).isLt
  rw [val_main_v8_apply, val_main_v7_apply, val_main_v6_apply, val_main_v5_apply]
  refine (val_main_v4_apply x dy _).trans (Finset.sum_congr rfl fun k _ => ?_)
  rw [mul_comm]
  refine congrArg₂ (· * ·) (congrArg x (funext fun a => Fin.ext ?_)) (congrArg dy (funext fun a => Fin.ext ?_))
  · match a with
    | ⟨0, _⟩ => rfl
    | ⟨1, _⟩ => show (((i 1).val * 4 + (i 0).val) * 3072 + (i 2).val) / 12288 = (i 1).val; omega
  · match a with
    | ⟨0, _⟩ => rfl
    | ⟨1, _⟩ => show (((i 1).val * 4 + (i 0).val) * 3072 + (i 2).val) % 12288 = 3072 * (i 0).val + (i 2).val; omega

end Cert.GwinRefIdeal.Product

namespace Cert.Proof

/-- `mm_gwin` computes the gradient of the projection's weight. -/
theorem algebraic_Gwin : Cert.algebraic_GwinIdeal_GwinRefIdeal (hGwinIdeal := Cert.GwinIdeal.Gen.facts)
    (hGwinRefIdeal := Cert.GwinRefIdeal.Gen.facts) := by
  intro m g m' g' _ hargs
  refine ⟨fun c => Cert.GwinIdeal.Product.product (m ((c.tc : Thread Cert.GwinIdeal.nD Cert.GwinIdeal.τ).loc Cert.GwinIdeal.main_arg0))
    (m ((c.tc : Thread Cert.GwinIdeal.nD Cert.GwinIdeal.τ).loc Cert.GwinIdeal.main_arg1)), ?_, ?_⟩
  · exact (θ_run _ _ _).mono (fun _ h c => ⟨(h c).1.trans (Cert.GwinIdeal.Product.final m c), (h c).2⟩)
      (Cert.GwinIdeal.Value.run_blocks m g)
  · refine (θ_run _ _ _).mono (fun _ h c => ⟨(h c).1.trans ?_, (h c).2⟩) (Cert.GwinRefIdeal.Value.run m' g')
    rw [(hargs c).1, (hargs c).2]
    exact (Cert.GwinRefIdeal.Read.val_main_v8_eq _ _).trans (Cert.GwinRefIdeal.Product.value _ _)

end Cert.Proof

end
-- ==== Proof.Gw1.Value.lean ====
/-
  `mm_gw1` and `mm_gw3`, the weight gradients of the two gated layers. The array after the run is written as sums, and the
  host reference's array is shown to be the same sums.
-/
module

public import proofs.«01_k».proof.Defs
public import proofs.«01_k».proof.Proof.Gen.Gw1.Frame
public import proofs.«01_k».proof.Proof.Gen.Gw1Ideal.Value
public import proofs.«01_k».proof.Proof.Gen.Gw1RefIdeal.Run
public import proofs.«01_k».proof.Proof.Gen.Gw1RefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.Gw1Ideal.Product

open Cert.Gw1Ideal Cert.Gw1Ideal.Gen

variable (m : (ℓ : Loc nD τ sig) → Buf (Elt Ideal) ℓ) (ρ : Dev nD → PrngReg)

/-- The product of the transposed left argument with the right one, cut in 4 column blocks. -/
def product (x : FVec Ideal S2048x2048 .bf16) (dy : FVec Ideal S2048x5632 .bf16) : FVec Ideal S4x2048x1408 .bf16 :=
  fun i => ∑ k : Fin 2048, x (ix2 k (i 1)) * dy (ix2 k ⟨1408 * (i 0).val + (i 2).val, by
    have h0 : (i 0).val < 4 := (i 0).isLt
    have h2 : (i 2).val < 1408 := (i 2).isLt
    omega⟩)

/-- One block of the product, element by element. -/
theorem block_apply (a : FVec Ideal S2048x1024 .bf16) (b : FVec Ideal S2048x1408 .bf16) (y : S1x1024x1408.Idx) :
    k0_pay1 (F := Ideal) a b y = ∑ k : Fin 2048, a (ix2 k (y 1)) * b (ix2 k (y 2)) := by
  pointwise [k0_pay1]

/-- Where the windows' blocks lie at a grid point. -/
theorem places : ∀ t : Fin cfg0.N,
    win0_0.index t 0 = 0 ∧ win0_0.index t 1 = t.val % 2 ∧ win0_1.index t 0 = 0 ∧ win0_1.index t 1 = t.val / 2
    ∧ win0_2.index t 0 = t.val / 2 ∧ win0_2.index t 1 = t.val % 2 ∧ win0_2.index t 2 = 0 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros3, View.ld_unit_zero zeros2, View.ld_unit_zero zeros2]
  obtain ⟨e00, e01, e10, e11, e20, e21, e22⟩ := places t
  funext y
  have h0 : (y 0).val < 1 := (y 0).isLt
  have ht : t.val < 8 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 2048 + 1 * k.val = k.val; omega
    | ⟨1, _⟩ => show win0_0.index t 1 * 1024 + 1 * (y 1).val = win0_2.index t 1 * 1024 + 1 * (y 1).val; omega
  · match a with
    | ⟨0, _⟩ => show win0_1.index t 0 * 2048 + 1 * k.val = k.val; omega
    | ⟨1, _⟩ => show win0_1.index t 1 * 1408 + 1 * (y 2).val
                  = 1408 * (win0_2.index t 0 * 1 + 1 * (y 0).val) + (win0_2.index t 2 * 1408 + 1 * (y 2).val); omega

/-- Every element of the result lies in some grid point's block. -/
theorem cover (i : S4x2048x1408.Idx) : ∃ t : Fin cfg0.N, (cfg0.win 2).flush t = true ∧ i ∈ ((cfg0.win 2).blk t).view.set := by
  have h0 : (i 0).val < 4 := (i 0).isLt
  have h1 : (i 1).val < 2048 := (i 1).isLt
  have h2 : (i 2).val < 1408 := (i 2).isLt
  let t : Fin cfg0.N := ⟨((i 0).val) * 2 + (i 1).val / 1024, by show _ < 8; omega⟩
  have ht : t.val = ((i 0).val) * 2 + (i 1).val / 1024 := rfl
  refine ⟨t, flush0_2 t, ?_⟩
  show i ∈ ((View.whole main_v0).slice (win0_2.rect t)).set
  rw [View.set_slice_whole, Rect.mem_set_unit]
  obtain ⟨-, -, -, -, e20, e21, e22⟩ := places t
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 1408 ≤ (i 2).val ∧ (i 2).val < win0_2.index t 2 * 1408 + 1408; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.Gw1Ideal.Product

namespace Cert.Gw1RefIdeal.Product

open Cert.Gw1RefIdeal Cert.Gw1RefIdeal.Gen Cert.Gw1RefIdeal.Read

/-- The host's gradient, element by element. -/
theorem value (x : FVec Ideal S2048x2048 .bf16) (dy : FVec Ideal S2048x5632 .bf16) :
    val_main_v8 (F := Ideal) x dy = Cert.Gw1Ideal.Product.product x dy := by
  funext i
  have h0 : (i 0).val < 4 := (i 0).isLt
  have h1 : (i 1).val < 2048 := (i 1).isLt
  have h2 : (i 2).val < 1408 := (i 2).isLt
  rw [val_main_v8_apply, val_main_v7_apply, val_main_v6_apply, val_main_v5_apply]
  refine (val_main_v4_apply x dy _).trans (Finset.sum_congr rfl fun k _ => ?_)
  rw [mul_comm]
  refine congrArg₂ (· * ·) (congrArg x (funext fun a => Fin.ext ?_)) (congrArg dy (funext fun a => Fin.ext ?_))
  · match a with
    | ⟨0, _⟩ => rfl
    | ⟨1, _⟩ => show (((i 1).val * 4 + (i 0).val) * 1408 + (i 2).val) / 5632 = (i 1).val; omega
  · match a with
    | ⟨0, _⟩ => rfl
    | ⟨1, _⟩ => show (((i 1).val * 4 + (i 0).val) * 1408 + (i 2).val) % 5632 = 1408 * (i 0).val + (i 2).val; omega

end Cert.Gw1RefIdeal.Product

namespace Cert.Proof

/-- `mm_gw1` and `mm_gw3` compute the gradients of the gated layers' weights. -/
theorem algebraic_Gw1 : Cert.algebraic_Gw1Ideal_Gw1RefIdeal (hGw1Ideal := Cert.Gw1Ideal.Gen.facts)
    (hGw1RefIdeal := Cert.Gw1RefIdeal.Gen.facts) := by
  intro m g m' g' _ hargs
  refine ⟨fun c => Cert.Gw1Ideal.Product.product (m ((c.tc : Thread Cert.Gw1Ideal.nD Cert.Gw1Ideal.τ).loc Cert.Gw1Ideal.main_arg0))
    (m ((c.tc : Thread Cert.Gw1Ideal.nD Cert.Gw1Ideal.τ).loc Cert.Gw1Ideal.main_arg1)), ?_, ?_⟩
  · exact (θ_run _ _ _).mono (fun _ h c => ⟨(h c).1.trans (Cert.Gw1Ideal.Product.final m c), (h c).2⟩)
      (Cert.Gw1Ideal.Value.run_blocks m g)
  · refine (θ_run _ _ _).mono (fun _ h c => ⟨(h c).1.trans ?_, (h c).2⟩) (Cert.Gw1RefIdeal.Value.run m' g')
    rw [(hargs c).1, (hargs c).2]
    exact (Cert.Gw1RefIdeal.Read.val_main_v8_eq _ _).trans (Cert.Gw1RefIdeal.Product.value _ _)

end Cert.Proof

end
-- ==== Proof.Gw2.Value.lean ====
/-
  `mm_gw2`, the weight gradient of the layer out of the gated pair. The array after the run is written as sums, and the
  host reference's array is shown to be the same sums.
-/
module

public import proofs.«01_k».proof.Defs
public import proofs.«01_k».proof.Proof.Gen.Gw2.Frame
public import proofs.«01_k».proof.Proof.Gen.Gw2Ideal.Value
public import proofs.«01_k».proof.Proof.Gen.Gw2RefIdeal.Run
public import proofs.«01_k».proof.Proof.Gen.Gw2RefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.Gw2Ideal.Product

open Cert.Gw2Ideal Cert.Gw2Ideal.Gen

variable (m : (ℓ : Loc nD τ sig) → Buf (Elt Ideal) ℓ) (ρ : Dev nD → PrngReg)

/-- The product of the transposed left argument with the right one. -/
def product (x : FVec Ideal S2048x5632 .bf16) (dy : FVec Ideal S2048x2048 .bf16) : FVec Ideal S1x5632x2048 .bf16 :=
  fun i => ∑ k : Fin 2048, x (ix2 k (i 1)) * dy (ix2 k (i 2))

/-- One block of the product, element by element. -/
theorem block_apply (a : FVec Ideal S2048x512 .bf16) (b : FVec Ideal S2048x1024 .bf16) (y : S1x512x1024.Idx) :
    k0_pay1 (F := Ideal) a b y = ∑ k : Fin 2048, a (ix2 k (y 1)) * b (ix2 k (y 2)) := by
  pointwise [k0_pay1]

/-- Where the windows' blocks lie at a grid point. -/
theorem places : ∀ t : Fin cfg0.N,
    win0_0.index t 0 = 0 ∧ win0_0.index t 1 = t.val % 11 ∧ win0_1.index t 0 = 0 ∧ win0_1.index t 1 = t.val / 11
    ∧ win0_2.index t 0 = 0 ∧ win0_2.index t 1 = t.val % 11 ∧ win0_2.index t 2 = t.val / 11 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros3, View.ld_unit_zero zeros2, View.ld_unit_zero zeros2]
  obtain ⟨e00, e01, e10, e11, e20, e21, e22⟩ := places t
  funext y
  have h0 : (y 0).val < 1 := (y 0).isLt
  have ht : t.val < 22 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 2048 + 1 * k.val = k.val; omega
    | ⟨1, _⟩ => show win0_0.index t 1 * 512 + 1 * (y 1).val = win0_2.index t 1 * 512 + 1 * (y 1).val; omega
  · match a with
    | ⟨0, _⟩ => show win0_1.index t 0 * 2048 + 1 * k.val = k.val; omega
    | ⟨1, _⟩ => show win0_1.index t 1 * 1024 + 1 * (y 2).val = win0_2.index t 2 * 1024 + 1 * (y 2).val; omega

/-- Every element of the result lies in some grid point's block. -/
theorem cover (i : S1x5632x2048.Idx) : ∃ t : Fin cfg0.N, (cfg0.win 2).flush t = true ∧ i ∈ ((cfg0.win 2).blk t).view.set := by
  have h0 : (i 0).val < 1 := (i 0).isLt
  have h1 : (i 1).val < 5632 := (i 1).isLt
  have h2 : (i 2).val < 2048 := (i 2).isLt
  let t : Fin cfg0.N := ⟨((i 2).val / 1024) * 11 + (i 1).val / 512, by show _ < 22; omega⟩
  have ht : t.val = ((i 2).val / 1024) * 11 + (i 1).val / 512 := rfl
  refine ⟨t, flush0_2 t, ?_⟩
  show i ∈ ((View.whole main_v0).slice (win0_2.rect t)).set
  rw [View.set_slice_whole, Rect.mem_set_unit]
  obtain ⟨-, -, -, -, e20, e21, e22⟩ := places t
  intro a
  match a with
  | ⟨0, _⟩ => show win0_2.index t 0 * 1 ≤ (i 0).val ∧ (i 0).val < win0_2.index t 0 * 1 + 1; omega
  | ⟨1, _⟩ => show win0_2.index t 1 * 512 ≤ (i 1).val ∧ (i 1).val < win0_2.index t 1 * 512 + 512; omega
  | ⟨2, _⟩ => show win0_2.index t 2 * 1024 ≤ (i 2).val ∧ (i 2).val < win0_2.index t 2 * 1024 + 1024; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.Gw2Ideal.Product

namespace Cert.Gw2RefIdeal.Product

open Cert.Gw2RefIdeal Cert.Gw2RefIdeal.Gen Cert.Gw2RefIdeal.Read

/-- The host's gradient, element by element. -/
theorem value (x : FVec Ideal S2048x5632 .bf16) (dy : FVec Ideal S2048x2048 .bf16) :
    val_main_v7 (F := Ideal) x dy = Cert.Gw2Ideal.Product.product x dy := by
  funext i
  have h0 : (i 0).val < 1 := (i 0).isLt
  have h1 : (i 1).val < 5632 := (i 1).isLt
  have h2 : (i 2).val < 2048 := (i 2).isLt
  rw [val_main_v7_apply, val_main_v6_apply, val_main_v5_apply]
  refine (val_main_v4_apply x dy _).trans (Finset.sum_congr rfl fun k _ => ?_)
  rw [mul_comm]
  refine congrArg₂ (· * ·) (congrArg x (funext fun a => Fin.ext ?_)) (congrArg dy (funext fun a => Fin.ext ?_))
  · match a with
    | ⟨0, _⟩ => rfl
    | ⟨1, _⟩ => rfl
  · match a with
    | ⟨0, _⟩ => rfl
    | ⟨1, _⟩ => rfl

end Cert.Gw2RefIdeal.Product

namespace Cert.Proof

/-- `mm_gw2` computes the gradient of that layer's weight. -/
theorem algebraic_Gw2 : Cert.algebraic_Gw2Ideal_Gw2RefIdeal (hGw2Ideal := Cert.Gw2Ideal.Gen.facts)
    (hGw2RefIdeal := Cert.Gw2RefIdeal.Gen.facts) := by
  intro m g m' g' _ hargs
  refine ⟨fun c => Cert.Gw2Ideal.Product.product (m ((c.tc : Thread Cert.Gw2Ideal.nD Cert.Gw2Ideal.τ).loc Cert.Gw2Ideal.main_arg0))
    (m ((c.tc : Thread Cert.Gw2Ideal.nD Cert.Gw2Ideal.τ).loc Cert.Gw2Ideal.main_arg1)), ?_, ?_⟩
  · exact (θ_run _ _ _).mono (fun _ h c => ⟨(h c).1.trans (Cert.Gw2Ideal.Product.final m c), (h c).2⟩)
      (Cert.Gw2Ideal.Value.run_blocks m g)
  · refine (θ_run _ _ _).mono (fun _ h c => ⟨(h c).1.trans ?_, (h c).2⟩) (Cert.Gw2RefIdeal.Value.run m' g')
    rw [(hargs c).1, (hargs c).2]
    exact (Cert.Gw2RefIdeal.Read.val_main_v7_eq _ _).trans (Cert.Gw2RefIdeal.Product.value _ _)

end Cert.Proof

end
-- ==== Proof.Gwo.Value.lean ====
/-
  `mm_gwo`, the weight gradient of the output projection. The array after the run is written as sums, and the
  host reference's array is shown to be the same sums.
-/
module

public import proofs.«01_k».proof.Defs
public import proofs.«01_k».proof.Proof.Gen.Gwo.Frame
public import proofs.«01_k».proof.Proof.Gen.GwoIdeal.Value
public import proofs.«01_k».proof.Proof.Gen.GwoRefIdeal.Run
public import proofs.«01_k».proof.Proof.Gen.GwoRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.GwoIdeal.Product

open Cert.GwoIdeal Cert.GwoIdeal.Gen

variable (m : (ℓ : Loc nD τ sig) → Buf (Elt Ideal) ℓ) (ρ : Dev nD → PrngReg)

/-- The product of the transposed left argument with the right one. -/
def product (x : FVec Ideal S2048x2048 .bf16) (dy : FVec Ideal S2048x2048 .bf16) : FVec Ideal S1x2048x2048 .bf16 :=
  fun i => ∑ k : Fin 2048, x (ix2 k (i 1)) * dy (ix2 k (i 2))

/-- One block of the product, element by element. -/
theorem block_apply (a : FVec Ideal S2048x1024 .bf16) (b : FVec Ideal S2048x1024 .bf16) (y : S1x1024x1024.Idx) :
    k0_pay1 (F := Ideal) a b y = ∑ k : Fin 2048, a (ix2 k (y 1)) * b (ix2 k (y 2)) := by
  pointwise [k0_pay1]

/-- Where the windows' blocks lie at a grid point. -/
theorem places : ∀ t : Fin cfg0.N,
    win0_0.index t 0 = 0 ∧ win0_0.index t 1 = t.val % 2 ∧ win0_1.index t 0 = 0 ∧ win0_1.index t 1 = t.val / 2
    ∧ win0_2.index t 0 = 0 ∧ win0_2.index t 1 = t.val % 2 ∧ win0_2.index t 2 = t.val / 2 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros3, View.ld_unit_zero zeros2, View.ld_unit_zero zeros2]
  obtain ⟨e00, e01, e10, e11, e20, e21, e22⟩ := places t
  funext y
  have h0 : (y 0).val < 1 := (y 0).isLt
  have ht : t.val < 4 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 2048 + 1 * k.val = k.val; omega
    | ⟨1, _⟩ => show win0_0.index t 1 * 1024 + 1 * (y 1).val = win0_2.index t 1 * 1024 + 1 * (y 1).val; omega
  · match a with
    | ⟨0, _⟩ => show win0_1.index t 0 * 2048 + 1 * k.val = k.val; omega
    | ⟨1, _⟩ => show win0_1.index t 1 * 1024 + 1 * (y 2).val = win0_2.index t 2 * 1024 + 1 * (y 2).val; omega

/-- Every element of the result lies in some grid point's block. -/
theorem cover (i : S1x2048x2048.Idx) : ∃ t : Fin cfg0.N, (cfg0.win 2).flush t = true ∧ i ∈ ((cfg0.win 2).blk t).view.set := by
  have h0 : (i 0).val < 1 := (i 0).isLt
  have h1 : (i 1).val < 2048 := (i 1).isLt
  have h2 : (i 2).val < 2048 := (i 2).isLt
  let t : Fin cfg0.N := ⟨((i 2).val / 1024) * 2 + (i 1).val / 1024, by show _ < 4; omega⟩
  have ht : t.val = ((i 2).val / 1024) * 2 + (i 1).val / 1024 := rfl
  refine ⟨t, flush0_2 t, ?_⟩
  show i ∈ ((View.whole main_v0).slice (win0_2.rect t)).set
  rw [View.set_slice_whole, Rect.mem_set_unit]
  obtain ⟨-, -, -, -, e20, e21, e22⟩ := places t
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 1024 ≤ (i 2).val ∧ (i 2).val < win0_2.index t 2 * 1024 + 1024; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.GwoIdeal.Product

namespace Cert.GwoRefIdeal.Product

open Cert.GwoRefIdeal Cert.GwoRefIdeal.Gen Cert.GwoRefIdeal.Read

/-- The host's gradient, element by element. -/
theorem value (x : FVec Ideal S2048x2048 .bf16) (dy : FVec Ideal S2048x2048 .bf16) :
    val_main_v7 (F := Ideal) x dy = Cert.GwoIdeal.Product.product x dy := by
  funext i
  have h0 : (i 0).val < 1 := (i 0).isLt
  have h1 : (i 1).val < 2048 := (i 1).isLt
  have h2 : (i 2).val < 2048 := (i 2).isLt
  rw [val_main_v7_apply, val_main_v6_apply, val_main_v5_apply]
  refine (val_main_v4_apply x dy _).trans (Finset.sum_congr rfl fun k _ => ?_)
  rw [mul_comm]
  refine congrArg₂ (· * ·) (congrArg x (funext fun a => Fin.ext ?_)) (congrArg dy (funext fun a => Fin.ext ?_))
  · match a with
    | ⟨0, _⟩ => rfl
    | ⟨1, _⟩ => rfl
  · match a with
    | ⟨0, _⟩ => rfl
    | ⟨1, _⟩ => rfl

end Cert.GwoRefIdeal.Product

namespace Cert.Proof

/-- `mm_gwo` computes the gradient of the output projection's weight. -/
theorem algebraic_Gwo : Cert.algebraic_GwoIdeal_GwoRefIdeal (hGwoIdeal := Cert.GwoIdeal.Gen.facts)
    (hGwoRefIdeal := Cert.GwoRefIdeal.Gen.facts) := by
  intro m g m' g' _ hargs
  refine ⟨fun c => Cert.GwoIdeal.Product.product (m ((c.tc : Thread Cert.GwoIdeal.nD Cert.GwoIdeal.τ).loc Cert.GwoIdeal.main_arg0))
    (m ((c.tc : Thread Cert.GwoIdeal.nD Cert.GwoIdeal.τ).loc Cert.GwoIdeal.main_arg1)), ?_, ?_⟩
  · exact (θ_run _ _ _).mono (fun _ h c => ⟨(h c).1.trans (Cert.GwoIdeal.Product.final m c), (h c).2⟩)
      (Cert.GwoIdeal.Value.run_blocks m g)
  · refine (θ_run _ _ _).mono (fun _ h c => ⟨(h c).1.trans ?_, (h c).2⟩) (Cert.GwoRefIdeal.Value.run m' g')
    rw [(hargs c).1, (hargs c).2]
    exact (Cert.GwoRefIdeal.Read.val_main_v7_eq _ _).trans (Cert.GwoRefIdeal.Product.value _ _)

end Cert.Proof

end
-- ==== Proof.Gwa.Value.lean ====
/-
  `mm_gwa` and `mm_gwb`, the weight gradients of the two branch projections. The array after the run is written as sums, and the
  host reference's array is shown to be the same sums.
-/
module

public import proofs.«01_k».proof.Defs
public import proofs.«01_k».proof.Proof.Gen.Gwa.Frame
public import proofs.«01_k».proof.Proof.Gen.GwaIdeal.Value
public import proofs.«01_k».proof.Proof.Gen.GwaRefIdeal.Run
public import proofs.«01_k».proof.Proof.Gen.GwaRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.GwaIdeal.Product

open Cert.GwaIdeal Cert.GwaIdeal.Gen

variable (m : (ℓ : Loc nD τ sig) → Buf (Elt Ideal) ℓ) (ρ : Dev nD → PrngReg)

/-- The product of the transposed left argument with the right one, cut in 4 column blocks. -/
def product (x : FVec Ideal S2048x1024 .bf16) (dy : FVec Ideal S2048x2048 .bf16) : FVec Ideal S4x1024x512 .bf16 :=
  fun i => ∑ k : Fin 2048, x (ix2 k (i 1)) * dy (ix2 k ⟨512 * (i 0).val + (i 2).val, by
    have h0 : (i 0).val < 4 := (i 0).isLt
    have h2 : (i 2).val < 512 := (i 2).isLt
    omega⟩)

/-- One block of the product, element by element. -/
theorem block_apply (a : FVec Ideal S2048x1024 .bf16) (b : FVec Ideal S2048x512 .bf16) (y : S1x1024x512.Idx) :
    k0_pay1 (F := Ideal) a b y = ∑ k : Fin 2048, a (ix2 k (y 1)) * b (ix2 k (y 2)) := by
  pointwise [k0_pay1]

/-- Where the windows' blocks lie at a grid point. -/
theorem places : ∀ t : Fin cfg0.N,
    win0_0.index t 0 = 0 ∧ win0_0.index t 1 = 0 ∧ win0_1.index t 0 = 0 ∧ win0_1.index t 1 = t.val
    ∧ win0_2.index t 0 = t.val ∧ win0_2.index t 1 = 0 ∧ win0_2.index t 2 = 0 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros3, View.ld_unit_zero zeros2, View.ld_unit_zero zeros2]
  obtain ⟨e00, e01, e10, e11, e20, e21, e22⟩ := places t
  funext y
  have h0 : (y 0).val < 1 := (y 0).isLt
  have ht : t.val < 4 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 2048 + 1 * k.val = k.val; omega
    | ⟨1, _⟩ => show win0_0.index t 1 * 1024 + 1 * (y 1).val = win0_2.index t 1 * 1024 + 1 * (y 1).val; omega
  · match a with
    | ⟨0, _⟩ => show win0_1.index t 0 * 2048 + 1 * k.val = k.val; omega
    | ⟨1, _⟩ => show win0_1.index t 1 * 512 + 1 * (y 2).val
                  = 512 * (win0_2.index t 0 * 1 + 1 * (y 0).val) + (win0_2.index t 2 * 512 + 1 * (y 2).val); omega

/-- Every element of the result lies in some grid point's block. -/
theorem cover (i : S4x1024x512.Idx) : ∃ t : Fin cfg0.N, (cfg0.win 2).flush t = true ∧ i ∈ ((cfg0.win 2).blk t).view.set := by
  have h0 : (i 0).val < 4 := (i 0).isLt
  have h1 : (i 1).val < 1024 := (i 1).isLt
  have h2 : (i 2).val < 512 := (i 2).isLt
  let t : Fin cfg0.N := ⟨(i 0).val, by show _ < 4; omega⟩
  have ht : t.val = (i 0).val := rfl
  refine ⟨t, flush0_2 t, ?_⟩
  show i ∈ ((View.whole main_v0).slice (win0_2.rect t)).set
  rw [View.set_slice_whole, Rect.mem_set_unit]
  obtain ⟨-, -, -, -, e20, e21, e22⟩ := places t
  intro a
  match a with
  | ⟨0, _⟩ => show win0_2.index t 0 * 1 ≤ (i 0).val ∧ (i 0).val < win0_2.index t 0 * 1 + 1; omega
  | ⟨1, _⟩ => show win0_2.index t 1 * 1024 ≤ (i 1).val ∧ (i 1).val < win0_2.index t 1 * 1024 + 1024; omega
  | ⟨2, _⟩ => show win0_2.index t 2 * 512 ≤ (i 2).val ∧ (i 2).val < win0_2.index t 2 * 512 + 512; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.GwaIdeal.Product

namespace Cert.GwaRefIdeal.Product

open Cert.GwaRefIdeal Cert.GwaRefIdeal.Gen Cert.GwaRefIdeal.Read

/-- The host's gradient, element by element. -/
theorem value (x : FVec Ideal S2048x1024 .bf16) (dy : FVec Ideal S2048x2048 .bf16) :
    val_main_v8 (F := Ideal) x dy = Cert.GwaIdeal.Product.product x dy := by
  funext i
  have h0 : (i 0).val < 4 := (i 0).isLt
  have h1 : (i 1).val < 1024 := (i 1).isLt
  have h2 : (i 2).val < 512 := (i 2).isLt
  rw [val_main_v8_apply, val_main_v7_apply, val_main_v6_apply, val_main_v5_apply]
  refine (val_main_v4_apply x dy _).trans (Finset.sum_congr rfl fun k _ => ?_)
  rw [mul_comm]
  refine congrArg₂ (· * ·) (congrArg x (funext fun a => Fin.ext ?_)) (congrArg dy (funext fun a => Fin.ext ?_))
  · match a with
    | ⟨0, _⟩ => rfl
    | ⟨1, _⟩ => show (((i 1).val * 4 + (i 0).val) * 512 + (i 2).val) / 2048 = (i 1).val; omega
  · match a with
    | ⟨0, _⟩ => rfl
    | ⟨1, _⟩ => show (((i 1).val * 4 + (i 0).val) * 512 + (i 2).val) % 2048 = 512 * (i 0).val + (i 2).val; omega

end Cert.GwaRefIdeal.Product

namespace Cert.Proof

/-- `mm_gwa` and `mm_gwb` compute the gradients of the branch projections' weights. -/
theorem algebraic_Gwa : Cert.algebraic_GwaIdeal_GwaRefIdeal (hGwaIdeal := Cert.GwaIdeal.Gen.facts)
    (hGwaRefIdeal := Cert.GwaRefIdeal.Gen.facts) := by
  intro m g m' g' _ hargs
  refine ⟨fun c => Cert.GwaIdeal.Product.product (m ((c.tc : Thread Cert.GwaIdeal.nD Cert.GwaIdeal.τ).loc Cert.GwaIdeal.main_arg0))
    (m ((c.tc : Thread Cert.GwaIdeal.nD Cert.GwaIdeal.τ).loc Cert.GwaIdeal.main_arg1)), ?_, ?_⟩
  · exact (θ_run _ _ _).mono (fun _ h c => ⟨(h c).1.trans (Cert.GwaIdeal.Product.final m c), (h c).2⟩)
      (Cert.GwaIdeal.Value.run_blocks m g)
  · refine (θ_run _ _ _).mono (fun _ h c => ⟨(h c).1.trans ?_, (h c).2⟩) (Cert.GwaRefIdeal.Value.run m' g')
    rw [(hargs c).1, (hargs c).2]
    exact (Cert.GwaRefIdeal.Read.val_main_v8_eq _ _).trans (Cert.GwaRefIdeal.Product.value _ _)

end Cert.Proof

end
-- ==== Proof.Dh.Value.lean ====
/-
  `mm_dh`, the gradient of the normalised input: what the array holds after the run, as sums over the 12288 columns of
  the projection, and the host reference's array as the same sums.
-/
module

public import proofs.«01_k».proof.Defs
public import proofs.«01_k».proof.Proof.Gen.Dh.Frame
public import proofs.«01_k».proof.Proof.Gen.DhIdeal.Value
public import proofs.«01_k».proof.Proof.Gen.DhRefIdeal.Run
public import proofs.«01_k».proof.Proof.Gen.DhRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.DhIdeal.Product

open Cert.DhIdeal Cert.DhIdeal.Gen

variable (m : (ℓ : Loc nD τ sig) → Buf (Elt Ideal) ℓ) (ρ : Dev nD → PrngReg)

/-- The product of the left argument with the transposed right one, whose columns are cut in four blocks. -/
def product (dy : FVec Ideal S2304x12288 .bf16) (w : FVec Ideal S4x2048x3072 .bf16) : FVec Ideal S2304x2048 .f32 :=
  fun i => ∑ k : Fin 12288, dy (ix2 (i 0) k) * w (ix3 ⟨k.val / 3072, by have := k.isLt; omega⟩ (i 1) ⟨k.val % 3072, by omega⟩)

/-- The product of two blocks, element by element. -/
def blocks (a : FVec Ideal S768x1024 .bf16) (b : FVec Ideal S1x2048x1024 .bf16) : S768x2048.Idx → EReal :=
  fun y => ∑ k : Fin 1024, a (ix2 (y 0) k) * b (ix3 ⟨0, by decide⟩ (y 1) k)

/-- One step of the sum, element by element. -/
theorem step_apply (acc : FVec Ideal S768x2048 .f32) (a : FVec Ideal S768x1024 .bf16) (b : FVec Ideal S1x2048x1024 .bf16)
    (y : S768x2048.Idx) :
    k0_pay2 (F := Ideal) acc a b y = acc y + blocks a b y := by
  unfold blocks
  pointwise [k0_pay2]

theorem zero_apply (y : S768x2048.Idx) : k0_pay1 (F := Ideal) y = 0 := by
  pointwise [k0_pay1]

/-- The first of a row of points leaves its product in the accumulator. -/
theorem acc_first (c : Dev nD) (t : Fin cfg0.N) (h0 : t.val % 12 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 c (y := y) ..)]
  unfold kernelRun0_A
  dsimp only
  sl_unfold_words
  rw [View.canon_cons_unit_zero (S := S768x2048) zeros2, View.readCov_unit_zero (S := S768x2048) _ zeros2]
  simp only [View.readAt_eq_ld, (hs0_0 t).read_unread, (hs0_1 t).read_unread, View.ld_unit_zero (S := S768x1024) zeros2,
    View.ld_unit_zero (S := S1x2048x1024) zeros3]

/-- Every later point adds its product. -/
theorem acc_next (c : Dev nD) (t : Fin cfg0.N) (h0 : ¬t.val % 12 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  have hw := Memref.isWhole_whole (cc0_scratch0)
  by_cases h1 : t.val % 12 = 11
  · rw [outsAt0_C m c t h0 h1]
    dsimp only
    unfold sout0_C_0
    rw [View.read_writes_eq_canon _ _ _ (fun y => scover0_C_0 c (y := y) ..)]
    unfold kernelRun0_C
    dsimp only
    sl_unfold_words
    rw [View.canon_unit_zero (S := S768x2048) zeros2]
    simp only [View.readAt_eq_ld, (hs0_0 t).read_unread, (hs0_1 t).read_unread, hw.read_unread,
      View.ld_unit_zero (S := S768x1024) zeros2, View.ld_unit_zero (S := S768x2048) zeros2, View.ld_unit_zero (S := S1x2048x1024) zeros3]
  · rw [outsAt0_B m c t h0 h1]
    dsimp only
    unfold sout0_B_0
    rw [View.read_writes_eq_canon _ _ _ (fun y => scover0_B_0 c (y := y) ..)]
    unfold kernelRun0_B
    dsimp only
    sl_unfold_words
    rw [View.canon_unit_zero (S := S768x2048) zeros2]
    simp only [View.readAt_eq_ld, (hs0_0 t).read_unread, (hs0_1 t).read_unread, hw.read_unread,
      View.ld_unit_zero (S := S768x1024) zeros2, View.ld_unit_zero (S := S768x2048) zeros2, View.ld_unit_zero (S := S1x2048x1024) zeros3]

/-- The last of a row of points copies the accumulator to the result's block. -/
theorem out_last (c : Dev nD) (t : Fin cfg0.N) (h1 : t.val % 12 = 11) :
    (outsAt0 m c t.val t.isLt).1 = (outsAt0 m c t.val t.isLt).2 := by
  have h0 : ¬t.val % 12 = 0 := by omega
  rw [acc_next m c t h0, outsAt0_C m c t h0 h1]
  have hw := Memref.isWhole_whole (cc0_scratch0)
  dsimp only
  unfold out0_C_2
  rw [View.read_writes_eq_canon _ _ _ (fun y => cover0_C_2 c (y := y) ..)]
  unfold kernelRun0_C
  dsimp only
  sl_unfold_words
  rw [View.canon_unit_zero (S := S768x2048) zeros2, View.readCov_unit_zero (S := S768x2048) _ zeros2]
  simp only [View.readAt_eq_ld, (hs0_0 t).read_unread, (hs0_1 t).read_unread, hw.read_unread,
    View.ld_unit_zero (S := S768x1024) zeros2, View.ld_unit_zero (S := S768x2048) zeros2, View.ld_unit_zero (S := S1x2048x1024) zeros3]

/-- Where the windows' blocks lie at a grid point. -/
theorem places : ∀ t : Fin cfg0.N,
    win0_0.index t 0 = t.val / 12 ∧ win0_0.index t 1 = t.val % 12 ∧ win0_1.index t 0 = t.val % 12 / 3 ∧ win0_1.index t 1 = 0
    ∧ win0_1.index t 2 = t.val % 12 % 3 ∧ win0_2.index t 0 = t.val / 12 ∧ win0_2.index t 1 = 0 :=
  (by decide +kernel : ∀ t : Fin grid0.N, _)

/-- A point's share of an element of the block. -/
def share (c : Dev nD) (y : S768x2048.Idx) (n : ℕ) (h : n < cfg0.N) : EReal :=
  blocks (iblk m c 0 ⟨n, h⟩) (iblk m c 1 ⟨n, h⟩) y

/-- A row's last point holds the sum of the shares of the row's twelve points. -/
theorem acc_last (c : Dev nD) (y : S768x2048.Idx) (q : ℕ) (h : 12 * q + 11 < cfg0.N) :
    (outsAt0 m c (12 * q + 11) h).2 y = ∑ s : Fin 12, share m c y (12 * q + s.val) (by have := s.isLt; omega) :=
  Cert.Proof.gathered (T := 12) (fun n h => (outsAt0 m c n h).2 y) (share m c y)
    (fun n h hn => by
      rw [acc_first m c ⟨n, h⟩ hn]
      refine (step_apply _ _ _ y).trans ?_
      rw [zero_apply, zero_add]
      rfl)
    (fun n h hn => by
      rw [acc_next m c ⟨n, h⟩ hn]
      exact step_apply _ _ _ y) q 11 (by decide) h

/-- A row's last point writes back its block of the product. -/
theorem flushed_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1))) := by
  have h1 : t.val % 12 = 11 := (flush0_2 t).mp hf
  have ht : t.val < 36 := t.isLt
  rw [Value.flushed2, out_last m c t h1]
  obtain ⟨n, hn⟩ := t
  obtain ⟨q, rfl⟩ : ∃ q, n = 12 * q + 11 := ⟨n / 12, by dsimp only at h1; omega⟩
  obtain ⟨-, -, -, -, -, e20, e21⟩ := places ⟨12 * q + 11, hn⟩
  funext y
  have h0 : (y 0).val < 768 := (y 0).isLt
  have h1 : (y 1).val < 2048 := (y 1).isLt
  refine (acc_last m c y q hn).trans ?_
  rw [View.read_apply]
  unfold product
  rw [Fin.sum_univ_tiles 12 1024 rfl]
  refine Finset.sum_congr rfl fun s _ => ?_
  unfold share blocks
  refine Finset.sum_congr rfl fun k _ => ?_
  have hs := s.isLt
  have hk := k.isLt
  obtain ⟨e00, e01, e10, e11, e12, -, -⟩ := places ⟨12 * q + s.val, Nat.lt_of_le_of_lt (by omega) hn⟩
  dsimp only at e00 e01 e10 e11 e12 e20 e21
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index ⟨12 * q + s.val, _⟩ 0 * 768 + 1 * (y 0).val = win0_2.index ⟨12 * q + 11, hn⟩ 0 * 768 + 1 * (y 0).val; omega
    | ⟨1, _⟩ => show win0_0.index ⟨12 * q + s.val, _⟩ 1 * 1024 + 1 * k.val = s.val * 1024 + k.val; omega
  · match a with
    | ⟨0, _⟩ => show win0_1.index ⟨12 * q + s.val, _⟩ 0 * 1 + 1 * 0 = (s.val * 1024 + k.val) / 3072; omega
    | ⟨1, _⟩ => show win0_1.index ⟨12 * q + s.val, _⟩ 1 * 2048 + 1 * (y 1).val = win0_2.index ⟨12 * q + 11, hn⟩ 1 * 2048 + 1 * (y 1).val; omega
    | ⟨2, _⟩ => show win0_1.index ⟨12 * q + s.val, _⟩ 2 * 1024 + 1 * k.val = (s.val * 1024 + k.val) % 3072; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (flushed_eq m c) fun i => (Value.covered_iff2 i).2
    ⟨Nat.zero_le _, (i 0).isLt, Nat.zero_le _, (i 1).isLt⟩

end Cert.DhIdeal.Product

namespace Cert.DhRefIdeal.Product

open Cert.DhRefIdeal Cert.DhRefIdeal.Gen Cert.DhRefIdeal.Read

/-- The host's gradient, element by element. -/
theorem value (dy : FVec Ideal S2304x12288 .bf16) (w : FVec Ideal S4x2048x3072 .bf16) :
    val_main_v6 (F := Ideal) dy w = Cert.DhIdeal.Product.product dy w := by
  funext i
  have h1 : (i 1).val < 2048 := (i 1).isLt
  refine (val_main_v6_apply dy w i).trans (Finset.sum_congr rfl fun k _ => ?_)
  have hk := k.isLt
  rw [val_main_v5_apply, val_main_v3_apply, val_main_v1_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => show ((i 1).val * 12288 + k.val) / 3072 % 4 = k.val / 3072; omega
    | ⟨1, _⟩ => show ((i 1).val * 12288 + k.val) / 12288 = (i 1).val; omega
    | ⟨2, _⟩ => show ((i 1).val * 12288 + k.val) % 3072 = k.val % 3072; omega

end Cert.DhRefIdeal.Product

namespace Cert.Proof

/-- `mm_dh` computes the gradient of the normalised input. -/
theorem algebraic_Dh : Cert.algebraic_DhIdeal_DhRefIdeal (hDhIdeal := Cert.DhIdeal.Gen.facts)
    (hDhRefIdeal := Cert.DhRefIdeal.Gen.facts) := by
  intro m g m' g' _ hargs
  refine ⟨fun c => Cert.DhIdeal.Product.product (m ((c.tc : Thread Cert.DhIdeal.nD Cert.DhIdeal.τ).loc Cert.DhIdeal.main_arg0))
    (m ((c.tc : Thread Cert.DhIdeal.nD Cert.DhIdeal.τ).loc Cert.DhIdeal.main_arg1)), ?_, ?_⟩
  · exact (θ_run _ _ _).mono (fun _ h c => ⟨(h c).1.trans (Cert.DhIdeal.Product.final m c), (h c).2⟩)
      (Cert.DhIdeal.Value.run_blocks m g)
  · refine (θ_run _ _ _).mono (fun _ h c => ⟨(h c).1.trans ?_, (h c).2⟩) (Cert.DhRefIdeal.Value.run m' g')
    rw [(hargs c).1, (hargs c).2]
    exact (Cert.DhRefIdeal.Read.val_main_v6_eq _ _).trans (Cert.DhRefIdeal.Product.value _ _)

end Cert.Proof

end
-- ==== Proof.Dh2.Value.lean ====
/-
  `mm_dh2a` and `mm_dh2b`, the gradients of the gated layers' input. The array after the run is written as sums, and the
  host reference's array is shown to be the same sums.
-/
module

public import proofs.«01_k».proof.Defs
public import proofs.«01_k».proof.Proof.Gen.Dh2.Frame
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.Dh2Ideal.Product

open Cert.Dh2Ideal Cert.Dh2Ideal.Gen

variable (m : (ℓ : Loc nD τ sig) → Buf (Elt Ideal) ℓ) (ρ : Dev nD → PrngReg)

/-- The product of the left argument with the transposed right one, whose columns are cut in 4 blocks. -/
def product (dy : FVec Ideal S2048x5632 .bf16) (w : FVec Ideal S4x2048x1408 .bf16) : FVec Ideal S2048x2048 .f32 :=
  fun i => ∑ k : Fin 5632, dy (ix2 (i 0) k) * w (ix3 ⟨k.val / 1408, by have := k.isLt; omega⟩ (i 1) ⟨k.val % 1408, by omega⟩)

/-- The product of two blocks, element by element. -/
def blocks (a : FVec Ideal S1024x1408 .bf16) (b : FVec Ideal S1x2048x1408 .bf16) : S1024x2048.Idx → EReal :=
  fun y => ∑ k : Fin 1408, a (ix2 (y 0) k) * b (ix3 ⟨0, by decide⟩ (y 1) k)

/-- One step of the sum, element by element. -/
theorem step_apply (acc : FVec Ideal S1024x2048 .f32) (a : FVec Ideal S1024x1408 .bf16) (b : FVec Ideal S1x2048x1408 .bf16)
    (y : S1024x2048.Idx) :
    k0_pay2 (F := Ideal) acc a b y = acc y + blocks a b y := by
  unfold blocks
  pointwise [k0_pay2]

theorem zero_apply (y : S1024x2048.Idx) : k0_pay1 (F := Ideal) y = 0 := by
  pointwise [k0_pay1]

/-- The first of a row of points leaves its product in the accumulator. -/
theorem acc_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 c (y := y) ..)]
  unfold kernelRun0_A
  dsimp only
  sl_unfold_words
  rw [View.canon_cons_unit_zero (S := S1024x2048) zeros2, View.readCov_unit_zero (S := S1024x2048) _ zeros2]
  simp only [View.readAt_eq_ld, (hs0_0 t).read_unread, (hs0_1 t).read_unread, View.ld_unit_zero (S := S1024x1408) zeros2, View.ld_unit_zero (S := S1x2048x1408) zeros3]

/-- Every later point adds its product. -/
theorem acc_next (c : Dev nD) (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  have hw := Memref.isWhole_whole (cc0_scratch0)
  by_cases h1 : t.val % 4 = 3
  · rw [outsAt0_C m c t h0 h1]
    dsimp only
    unfold sout0_C_0
    rw [View.read_writes_eq_canon _ _ _ (fun y => scover0_C_0 c (y := y) ..)]
    unfold kernelRun0_C
    dsimp only
    sl_unfold_words
    rw [View.canon_unit_zero (S := S1024x2048) zeros2]
    simp only [View.readAt_eq_ld, (hs0_0 t).read_unread, (hs0_1 t).read_unread, hw.read_unread,
      View.ld_unit_zero (S := S1024x1408) zeros2, View.ld_unit_zero (S := S1024x2048) zeros2, View.ld_unit_zero (S := S1x2048x1408) zeros3]
  · rw [outsAt0_B m c t h0 h1]
    dsimp only
    unfold sout0_B_0
    rw [View.read_writes_eq_canon _ _ _ (fun y => scover0_B_0 c (y := y) ..)]
    unfold kernelRun0_B
    dsimp only
    sl_unfold_words
    rw [View.canon_unit_zero (S := S1024x2048) zeros2]
    simp only [View.readAt_eq_ld, (hs0_0 t).read_unread, (hs0_1 t).read_unread, hw.read_unread,
      View.ld_unit_zero (S := S1024x1408) zeros2, View.ld_unit_zero (S := S1024x2048) zeros2, View.ld_unit_zero (S := S1x2048x1408) zeros3]

/-- The last of a row of points copies the accumulator to the result's block. -/
theorem out_last (c : Dev nD) (t : Fin cfg0.N) (h1 : t.val % 4 = 3) :
    (outsAt0 m c t.val t.isLt).1 = (outsAt0 m c t.val t.isLt).2 := by
  have h0 : ¬t.val % 4 = 0 := by omega
  rw [acc_next m c t h0, outsAt0_C m c t h0 h1]
  have hw := Memref.isWhole_whole (cc0_scratch0)
  dsimp only
  unfold out0_C_2
  rw [View.read_writes_eq_canon _ _ _ (fun y => cover0_C_2 c (y := y) ..)]
  unfold kernelRun0_C
  dsimp only
  sl_unfold_words
  rw [View.canon_unit_zero (S := S1024x2048) zeros2, View.readCov_unit_zero (S := S1024x2048) _ zeros2]
  simp only [View.readAt_eq_ld, (hs0_0 t).read_unread, (hs0_1 t).read_unread, hw.read_unread,
    View.ld_unit_zero (S := S1024x1408) zeros2, View.ld_unit_zero (S := S1024x2048) zeros2, View.ld_unit_zero (S := S1x2048x1408) zeros3]

/-- Where the windows' blocks lie at a grid point. -/
theorem places : ∀ t : Fin cfg0.N,
    win0_0.index t 0 = t.val / 4 ∧ win0_0.index t 1 = t.val % 4 ∧ win0_1.index t 0 = t.val % 4 ∧ win0_1.index t 1 = 0
    ∧ win0_1.index t 2 = 0 ∧ win0_2.index t 0 = t.val / 4 ∧ win0_2.index t 1 = 0 :=
  (by decide +kernel : ∀ t : Fin grid0.N, _)

/-- A point's share of an element of the block. -/
def share (c : Dev nD) (y : S1024x2048.Idx) (n : ℕ) (h : n < cfg0.N) : EReal :=
  blocks (iblk m c 0 ⟨n, h⟩) (iblk m c 1 ⟨n, h⟩) y

/-- A row's last point holds the sum of the shares of the row's points. -/
theorem acc_last (c : Dev nD) (y : S1024x2048.Idx) (q : ℕ) (h : 4 * q + 3 < cfg0.N) :
    (outsAt0 m c (4 * q + 3) h).2 y = ∑ s : Fin 4, share m c y (4 * q + s.val) (by have := s.isLt; omega) :=
  Cert.Proof.gathered (T := 4) (fun n h => (outsAt0 m c n h).2 y) (share m c y)
    (fun n h hn => by
      rw [acc_first m c ⟨n, h⟩ hn]
      refine (step_apply _ _ _ y).trans ?_
      rw [zero_apply, zero_add]
      rfl)
    (fun n h hn => by
      rw [acc_next m c ⟨n, h⟩ hn]
      exact step_apply _ _ _ y) q 3 (by decide) h

/-- A row's last point writes back its block of the product. -/
theorem flushed_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1))) := by
  have h1 : t.val % 4 = 3 := (flush0_2 t).mp hf
  have ht : t.val < 8 := t.isLt
  rw [Value.flushed2, out_last m c t h1]
  obtain ⟨n, hn⟩ := t
  obtain ⟨q, rfl⟩ : ∃ q, n = 4 * q + 3 := ⟨n / 4, by dsimp only at h1; omega⟩
  obtain ⟨-, -, -, -, -, e20, e21⟩ := places ⟨4 * q + 3, hn⟩
  funext y
  have h0 : (y 0).val < 1024 := (y 0).isLt
  have h1 : (y 1).val < 2048 := (y 1).isLt
  refine (acc_last m c y q hn).trans ?_
  rw [View.read_apply]
  unfold product
  rw [Fin.sum_univ_tiles 4 1408 rfl]
  refine Finset.sum_congr rfl fun s _ => ?_
  unfold share blocks
  refine Finset.sum_congr rfl fun k _ => ?_
  have hs := s.isLt
  have hk := k.isLt
  obtain ⟨e00, e01, e10, e11, e12, -, -⟩ := places ⟨4 * q + s.val, Nat.lt_of_le_of_lt (by omega) hn⟩
  dsimp only at e00 e01 e10 e11 e12 e20 e21
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index ⟨4 * q + s.val, _⟩ 0 * 1024 + 1 * (y 0).val = win0_2.index ⟨4 * q + 3, hn⟩ 0 * 1024 + 1 * (y 0).val; omega
    | ⟨1, _⟩ => show win0_0.index ⟨4 * q + s.val, _⟩ 1 * 1408 + 1 * k.val = s.val * 1408 + k.val; omega
  · match a with
    | ⟨0, _⟩ => show win0_1.index ⟨4 * q + s.val, _⟩ 0 * 1 + 1 * 0 = (s.val * 1408 + k.val) / 1408; omega
    | ⟨1, _⟩ => show win0_1.index ⟨4 * q + s.val, _⟩ 1 * 2048 + 1 * (y 1).val = win0_2.index ⟨4 * q + 3, hn⟩ 1 * 2048 + 1 * (y 1).val; omega
    | ⟨2, _⟩ => show win0_1.index ⟨4 * q + s.val, _⟩ 2 * 1408 + 1 * k.val = (s.val * 1408 + k.val) % 1408; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (flushed_eq m c) fun i => (Value.covered_iff2 i).2
    ⟨Nat.zero_le _, (i 0).isLt, Nat.zero_le _, (i 1).isLt⟩

end Cert.Dh2Ideal.Product

namespace Cert.Dh2RefIdeal.Product

open Cert.Dh2RefIdeal Cert.Dh2RefIdeal.Gen Cert.Dh2RefIdeal.Read

/-- The host's gradient, element by element. -/
theorem value (dy : FVec Ideal S2048x5632 .bf16) (w : FVec Ideal S4x2048x1408 .bf16) :
    val_main_v6 (F := Ideal) dy w = Cert.Dh2Ideal.Product.product dy w := by
  funext i
  have h1 : (i 1).val < 2048 := (i 1).isLt
  refine (val_main_v6_apply dy w _).trans (Finset.sum_congr rfl fun k _ => ?_)
  have hk := k.isLt
  rw [val_main_v5_apply, val_main_v3_apply, val_main_v1_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => show ((i 1).val * 5632 + k.val) / 1408 % 4 = k.val / 1408; omega
    | ⟨1, _⟩ => show ((i 1).val * 5632 + k.val) / 5632 = (i 1).val; omega
    | ⟨2, _⟩ => show ((i 1).val * 5632 + k.val) % 1408 = k.val % 1408; omega

end Cert.Dh2RefIdeal.Product

namespace Cert.Proof

/-- `mm_dh2a` and `mm_dh2b` compute the gradients of the gated layers' input. -/
theorem algebraic_Dh2 : Cert.algebraic_Dh2Ideal_Dh2RefIdeal (hDh2Ideal := Cert.Dh2Ideal.Gen.facts)
    (hDh2RefIdeal := Cert.Dh2RefIdeal.Gen.facts) := by
  intro m g m' g' _ hargs
  refine ⟨fun c => Cert.Dh2Ideal.Product.product (m ((c.tc : Thread Cert.Dh2Ideal.nD Cert.Dh2Ideal.τ).loc Cert.Dh2Ideal.main_arg0))
    (m ((c.tc : Thread Cert.Dh2Ideal.nD Cert.Dh2Ideal.τ).loc Cert.Dh2Ideal.main_arg1)), ?_, ?_⟩
  · exact (θ_run _ _ _).mono (fun _ h c => ⟨(h c).1.trans (Cert.Dh2Ideal.Product.final m c), (h c).2⟩)
      (Cert.Dh2Ideal.Value.run_blocks m g)
  · refine (θ_run _ _ _).mono (fun _ h c => ⟨(h c).1.trans ?_, (h c).2⟩) (Cert.Dh2RefIdeal.Value.run m' g')
    rw [(hargs c).1, (hargs c).2]
    exact (Cert.Dh2RefIdeal.Read.val_main_v6_eq _ _).trans (Cert.Dh2RefIdeal.Product.value _ _)

end Cert.Proof

end
-- ==== Proof.Da.Value.lean ====
/-
  `mm_da`, the gradient of the gated product. The array after the run is written as sums, and the
  host reference's array is shown to be the same sums.
-/
module

public import proofs.«01_k».proof.Defs
public import proofs.«01_k».proof.Proof.Gen.Da.Frame
public import proofs.«01_k».proof.Proof.Gen.DaIdeal.Value
public import proofs.«01_k».proof.Proof.Gen.DaRefIdeal.Run
public import proofs.«01_k».proof.Proof.Gen.DaRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.DaIdeal.Product

open Cert.DaIdeal Cert.DaIdeal.Gen

variable (m : (ℓ : Loc nD τ sig) → Buf (Elt Ideal) ℓ) (ρ : Dev nD → PrngReg)

/-- The product of the left argument with the transposed right one. -/
def product (dy : FVec Ideal S2048x2048 .bf16) (w : FVec Ideal S1x5632x2048 .bf16) : FVec Ideal S2048x5632 .bf16 :=
  fun i => ∑ k : Fin 2048, dy (ix2 (i 0) k) * w (ix3 ⟨0, by decide⟩ (i 1) k)

/-- The product of two blocks, element by element. -/
def blocks (a : FVec Ideal S1024x2048 .bf16) (b : FVec Ideal S1x1408x2048 .bf16) : S1024x1408.Idx → EReal :=
  fun y => ∑ k : Fin 2048, a (ix2 (y 0) k) * b (ix3 ⟨0, by decide⟩ (y 1) k)

/-- One step of the sum, element by element. -/
theorem step_apply (acc : FVec Ideal S1024x1408 .f32) (a : FVec Ideal S1024x2048 .bf16) (b : FVec Ideal S1x1408x2048 .bf16)
    (y : S1024x1408.Idx) :
    k0_pay2 (F := Ideal) acc a b y = acc y + blocks a b y := by
  unfold blocks
  pointwise [k0_pay2]

theorem zero_apply (y : S1024x1408.Idx) : k0_pay1 (F := Ideal) y = 0 := by
  pointwise [k0_pay1]

/-- What a grid point leaves in the result's block. -/
theorem out_eq (c : Dev nD) (t : Fin cfg0.N) :
    outsAt0 m c t = k0_pay3 (F := Ideal) (k0_pay2 (F := Ideal) (k0_pay1 (F := Ideal)) (iblk m c 0 t) (iblk m c 1 t)) := by
  unfold outsAt0 out0_A_2
  rw [View.read_writes_eq_canon _ _ _ (fun y => cover0_A_2 c (y := y) ..)]
  unfold kernelRun0_A
  dsimp only
  sl_unfold_words
  rw [View.canon_unit_zero (S := S1024x1408) zeros2, Cert.Proof.readCov_last (S := S1024x1408) _ zeros2, View.readCov_unit_zero (S := S1024x1408) _ zeros2]
  simp only [View.readAt_eq_ld, (hs0_0 t).read_unread, (hs0_1 t).read_unread, View.ld_unit_zero (S := S1024x2048) zeros2, View.ld_unit_zero (S := S1x1408x2048) zeros3]

/-- Where the windows' blocks lie at a grid point. -/
theorem places : ∀ t : Fin cfg0.N,
    win0_0.index t 0 = t.val / 4 ∧ win0_0.index t 1 = 0 ∧ win0_1.index t 0 = 0 ∧ win0_1.index t 1 = t.val % 4
    ∧ win0_1.index t 2 = 0 ∧ win0_2.index t 0 = t.val / 4 ∧ win0_2.index t 1 = t.val % 4 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2, out_eq]
  obtain ⟨e00, e01, e10, e11, e12, e20, e21⟩ := places t
  funext y
  have ht : t.val < 8 := t.isLt
  refine (step_apply _ _ _ y).trans ?_
  rw [zero_apply, zero_add, View.read_apply]
  unfold product blocks
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1024 + 1 * (y 0).val = win0_2.index t 0 * 1024 + 1 * (y 0).val; omega
    | ⟨1, _⟩ => show win0_0.index t 1 * 2048 + 1 * k.val = k.val; omega
  · match a with
    | ⟨0, _⟩ => show win0_1.index t 0 * 1 + 1 * 0 = 0; omega
    | ⟨1, _⟩ => show win0_1.index t 1 * 1408 + 1 * (y 1).val = win0_2.index t 1 * 1408 + 1 * (y 1).val; omega
    | ⟨2, _⟩ => show win0_1.index t 2 * 2048 + 1 * k.val = k.val; omega

/-- Every element of the result lies in some grid point's block. -/
theorem cover (i : S2048x5632.Idx) : ∃ t : Fin cfg0.N, (cfg0.win 2).flush t = true ∧ i ∈ ((cfg0.win 2).blk t).view.set := by
  have h0 : (i 0).val < 2048 := (i 0).isLt
  have h1 : (i 1).val < 5632 := (i 1).isLt
  let t : Fin cfg0.N := ⟨(i 0).val / 1024 * 4 + (i 1).val / 1408, by show _ < 8; omega⟩
  have ht : t.val = (i 0).val / 1024 * 4 + (i 1).val / 1408 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 1024 ≤ (i 0).val ∧ (i 0).val < win0_2.index t 0 * 1024 + 1024; omega
  | ⟨1, _⟩ => show win0_2.index t 1 * 1408 ≤ (i 1).val ∧ (i 1).val < win0_2.index t 1 * 1408 + 1408; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.DaIdeal.Product

namespace Cert.DaRefIdeal.Product

open Cert.DaRefIdeal Cert.DaRefIdeal.Gen Cert.DaRefIdeal.Read

/-- The host's gradient, element by element. -/
theorem value (dy : FVec Ideal S2048x2048 .bf16) (w : FVec Ideal S1x5632x2048 .bf16) :
    val_main_v6 (F := Ideal) dy w = Cert.DaIdeal.Product.product dy w := by
  funext i
  have h1 : (i 1).val < 5632 := (i 1).isLt
  rw [val_main_v6_apply]
  refine (val_main_v5_apply dy w _).trans (Finset.sum_congr rfl fun k _ => ?_)
  have hk := k.isLt
  rw [val_main_v4_apply, val_main_v2_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => rfl
    | ⟨1, _⟩ => show ((i 1).val * 2048 + k.val) / 2048 % 5632 = (i 1).val; omega
    | ⟨2, _⟩ => show ((i 1).val * 2048 + k.val) % 2048 = k.val; omega

end Cert.DaRefIdeal.Product

namespace Cert.Proof

/-- `mm_da` computes the gradient of the gated product. -/
theorem algebraic_Da : Cert.algebraic_DaIdeal_DaRefIdeal (hDaIdeal := Cert.DaIdeal.Gen.facts)
    (hDaRefIdeal := Cert.DaRefIdeal.Gen.facts) := by
  intro m g m' g' _ hargs
  refine ⟨fun c => Cert.DaIdeal.Product.product (m ((c.tc : Thread Cert.DaIdeal.nD Cert.DaIdeal.τ).loc Cert.DaIdeal.main_arg0))
    (m ((c.tc : Thread Cert.DaIdeal.nD Cert.DaIdeal.τ).loc Cert.DaIdeal.main_arg1)), ?_, ?_⟩
  · exact (θ_run _ _ _).mono (fun _ h c => ⟨(h c).1.trans (Cert.DaIdeal.Product.final m c), (h c).2⟩)
      (Cert.DaIdeal.Value.run_blocks m g)
  · refine (θ_run _ _ _).mono (fun _ h c => ⟨(h c).1.trans ?_, (h c).2⟩) (Cert.DaRefIdeal.Value.run m' g')
    rw [(hargs c).1, (hargs c).2]
    exact (Cert.DaRefIdeal.Read.val_main_v6_eq _ _).trans (Cert.DaRefIdeal.Product.value _ _)

end Cert.Proof

end
-- ==== Proof.Dz.Value.lean ====
/-
  `mm_dz`, the gradient of the merged branches. The array after the run is written as sums, and the
  host reference's array is shown to be the same sums.
-/
module

public import proofs.«01_k».proof.Defs
public import proofs.«01_k».proof.Proof.Gen.Dz.Frame
public import proofs.«01_k».proof.Proof.Gen.DzIdeal.Value
public import proofs.«01_k».proof.Proof.Gen.DzRefIdeal.Run
public import proofs.«01_k».proof.Proof.Gen.DzRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.DzIdeal.Product

open Cert.DzIdeal Cert.DzIdeal.Gen

variable (m : (ℓ : Loc nD τ sig) → Buf (Elt Ideal) ℓ) (ρ : Dev nD → PrngReg)

/-- The product of the left argument with the transposed right one. -/
def product (dy : FVec Ideal S2048x2048 .bf16) (w : FVec Ideal S1x2048x2048 .bf16) : FVec Ideal S2048x2048 .bf16 :=
  fun i => ∑ k : Fin 2048, dy (ix2 (i 0) k) * w (ix3 ⟨0, by decide⟩ (i 1) k)

/-- The product of two blocks, element by element. -/
def blocks (a : FVec Ideal S1024x2048 .bf16) (b : FVec Ideal S1x2048x2048 .bf16) : S1024x2048.Idx → EReal :=
  fun y => ∑ k : Fin 2048, a (ix2 (y 0) k) * b (ix3 ⟨0, by decide⟩ (y 1) k)

/-- One step of the sum, element by element. -/
theorem step_apply (acc : FVec Ideal S1024x2048 .f32) (a : FVec Ideal S1024x2048 .bf16) (b : FVec Ideal S1x2048x2048 .bf16)
    (y : S1024x2048.Idx) :
    k0_pay2 (F := Ideal) acc a b y = acc y + blocks a b y := by
  unfold blocks
  pointwise [k0_pay2]

theorem zero_apply (y : S1024x2048.Idx) : k0_pay1 (F := Ideal) y = 0 := by
  pointwise [k0_pay1]

/-- What a grid point leaves in the result's block. -/
theorem out_eq (c : Dev nD) (t : Fin cfg0.N) :
    outsAt0 m c t = k0_pay3 (F := Ideal) (k0_pay2 (F := Ideal) (k0_pay1 (F := Ideal)) (iblk m c 0 t) (iblk m c 1 t)) := by
  unfold outsAt0 out0_A_2
  rw [View.read_writes_eq_canon _ _ _ (fun y => cover0_A_2 c (y := y) ..)]
  unfold kernelRun0_A
  dsimp only
  sl_unfold_words
  rw [View.canon_unit_zero (S := S1024x2048) zeros2, Cert.Proof.readCov_last (S := S1024x2048) _ zeros2, View.readCov_unit_zero (S := S1024x2048) _ zeros2]
  simp only [View.readAt_eq_ld, (hs0_0 t).read_unread, (hs0_1 t).read_unread, View.ld_unit_zero (S := S1024x2048) zeros2, View.ld_unit_zero (S := S1x2048x2048) zeros3]

/-- Where the windows' blocks lie at a grid point. -/
theorem places : ∀ t : Fin cfg0.N,
    win0_0.index t 0 = t.val ∧ win0_0.index t 1 = 0 ∧ win0_1.index t 0 = 0 ∧ win0_1.index t 1 = 0
    ∧ win0_1.index t 2 = 0 ∧ win0_2.index t 0 = t.val ∧ win0_2.index t 1 = 0 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2, out_eq]
  obtain ⟨e00, e01, e10, e11, e12, e20, e21⟩ := places t
  funext y
  have ht : t.val < 2 := t.isLt
  refine (step_apply _ _ _ y).trans ?_
  rw [zero_apply, zero_add, View.read_apply]
  unfold product blocks
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1024 + 1 * (y 0).val = win0_2.index t 0 * 1024 + 1 * (y 0).val; omega
    | ⟨1, _⟩ => show win0_0.index t 1 * 2048 + 1 * k.val = k.val; omega
  · match a with
    | ⟨0, _⟩ => show win0_1.index t 0 * 1 + 1 * 0 = 0; omega
    | ⟨1, _⟩ => show win0_1.index t 1 * 2048 + 1 * (y 1).val = win0_2.index t 1 * 2048 + 1 * (y 1).val; omega
    | ⟨2, _⟩ => show win0_1.index t 2 * 2048 + 1 * k.val = k.val; omega

/-- Every element of the result lies in some grid point's block. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  let t : Fin cfg0.N := ⟨(i 0).val / 1024, by show _ < 2; omega⟩
  have ht : t.val = (i 0).val / 1024 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 1024 ≤ (i 0).val ∧ (i 0).val < win0_2.index t 0 * 1024 + 1024; omega
  | ⟨1, _⟩ => show win0_2.index t 1 * 2048 ≤ (i 1).val ∧ (i 1).val < win0_2.index t 1 * 2048 + 2048; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.DzIdeal.Product

namespace Cert.DzRefIdeal.Product

open Cert.DzRefIdeal Cert.DzRefIdeal.Gen Cert.DzRefIdeal.Read

/-- The host's gradient, element by element. -/
theorem value (dy : FVec Ideal S2048x2048 .bf16) (w : FVec Ideal S1x2048x2048 .bf16) :
    val_main_v6 (F := Ideal) dy w = Cert.DzIdeal.Product.product dy w := by
  funext i
  have h1 : (i 1).val < 2048 := (i 1).isLt
  rw [val_main_v6_apply]
  refine (val_main_v5_apply dy w _).trans (Finset.sum_congr rfl fun k _ => ?_)
  have hk := k.isLt
  rw [val_main_v4_apply, val_main_v2_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => rfl
    | ⟨1, _⟩ => show ((i 1).val * 2048 + k.val) / 2048 % 2048 = (i 1).val; omega
    | ⟨2, _⟩ => show ((i 1).val * 2048 + k.val) % 2048 = k.val; omega

end Cert.DzRefIdeal.Product

namespace Cert.Proof

/-- `mm_dz` computes the gradient of the merged branches. -/
theorem algebraic_Dz : Cert.algebraic_DzIdeal_DzRefIdeal (hDzIdeal := Cert.DzIdeal.Gen.facts)
    (hDzRefIdeal := Cert.DzRefIdeal.Gen.facts) := by
  intro m g m' g' _ hargs
  refine ⟨fun c => Cert.DzIdeal.Product.product (m ((c.tc : Thread Cert.DzIdeal.nD Cert.DzIdeal.τ).loc Cert.DzIdeal.main_arg0))
    (m ((c.tc : Thread Cert.DzIdeal.nD Cert.DzIdeal.τ).loc Cert.DzIdeal.main_arg1)), ?_, ?_⟩
  · exact (θ_run _ _ _).mono (fun _ h c => ⟨(h c).1.trans (Cert.DzIdeal.Product.final m c), (h c).2⟩)
      (Cert.DzIdeal.Value.run_blocks m g)
  · refine (θ_run _ _ _).mono (fun _ h c => ⟨(h c).1.trans ?_, (h c).2⟩) (Cert.DzRefIdeal.Value.run m' g')
    rw [(hargs c).1, (hargs c).2]
    exact (Cert.DzRefIdeal.Read.val_main_v6_eq _ _).trans (Cert.DzRefIdeal.Product.value _ _)

end Cert.Proof

end
-- ==== Proof.Dya.Value.lean ====
/-
  `mm_dya`, the gradient of the first branch. The array after the run is written as sums, and the
  host reference's array is shown to be the same sums.
-/
module

public import proofs.«01_k».proof.Defs
public import proofs.«01_k».proof.Proof.Gen.Dya.Frame
public import proofs.«01_k».proof.Proof.Gen.DyaIdeal.Value
public import proofs.«01_k».proof.Proof.Gen.DyaRefIdeal.Run
public import proofs.«01_k».proof.Proof.Gen.DyaRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.DyaIdeal.Product

open Cert.DyaIdeal Cert.DyaIdeal.Gen

variable (m : (ℓ : Loc nD τ sig) → Buf (Elt Ideal) ℓ) (ρ : Dev nD → PrngReg)

/-- The product of the left argument with the transposed right one, whose columns are cut in 4 blocks. -/
def product (dy : FVec Ideal S2048x2048 .bf16) (w : FVec Ideal S4x1024x512 .bf16) : FVec Ideal S2048x1024 .f32 :=
  fun i => ∑ k : Fin 2048, dy (ix2 (i 0) k) * w (ix3 ⟨k.val / 512, by have := k.isLt; omega⟩ (i 1) ⟨k.val % 512, by omega⟩)

/-- The product of two blocks, element by element. -/
def blocks (a : FVec Ideal S1024x512 .bf16) (b : FVec Ideal S1x1024x512 .bf16) : S1024x1024.Idx → EReal :=
  fun y => ∑ k : Fin 512, a (ix2 (y 0) k) * b (ix3 ⟨0, by decide⟩ (y 1) k)

/-- One step of the sum, element by element. -/
theorem step_apply (acc : FVec Ideal S1024x1024 .f32) (a : FVec Ideal S1024x512 .bf16) (b : FVec Ideal S1x1024x512 .bf16)
    (y : S1024x1024.Idx) :
    k0_pay2 (F := Ideal) acc a b y = acc y + blocks a b y := by
  unfold blocks
  pointwise [k0_pay2]

theorem zero_apply (y : S1024x1024.Idx) : k0_pay1 (F := Ideal) y = 0 := by
  pointwise [k0_pay1]

/-- The first of a row of points leaves its product in the accumulator. -/
theorem acc_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 c (y := y) ..)]
  unfold kernelRun0_A
  dsimp only
  sl_unfold_words
  rw [View.canon_cons_unit_zero (S := S1024x1024) zeros2, View.readCov_unit_zero (S := S1024x1024) _ zeros2]
  simp only [View.readAt_eq_ld, (hs0_0 t).read_unread, (hs0_1 t).read_unread, View.ld_unit_zero (S := S1024x512) zeros2, View.ld_unit_zero (S := S1x1024x512) zeros3]

/-- Every later point adds its product. -/
theorem acc_next (c : Dev nD) (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  have hw := Memref.isWhole_whole (cc0_scratch0)
  by_cases h1 : t.val % 4 = 3
  · rw [outsAt0_C m c t h0 h1]
    dsimp only
    unfold sout0_C_0
    rw [View.read_writes_eq_canon _ _ _ (fun y => scover0_C_0 c (y := y) ..)]
    unfold kernelRun0_C
    dsimp only
    sl_unfold_words
    rw [View.canon_unit_zero (S := S1024x1024) zeros2]
    simp only [View.readAt_eq_ld, (hs0_0 t).read_unread, (hs0_1 t).read_unread, hw.read_unread,
      View.ld_unit_zero (S := S1024x512) zeros2, View.ld_unit_zero (S := S1024x1024) zeros2, View.ld_unit_zero (S := S1x1024x512) zeros3]
  · rw [outsAt0_B m c t h0 h1]
    dsimp only
    unfold sout0_B_0
    rw [View.read_writes_eq_canon _ _ _ (fun y => scover0_B_0 c (y := y) ..)]
    unfold kernelRun0_B
    dsimp only
    sl_unfold_words
    rw [View.canon_unit_zero (S := S1024x1024) zeros2]
    simp only [View.readAt_eq_ld, (hs0_0 t).read_unread, (hs0_1 t).read_unread, hw.read_unread,
      View.ld_unit_zero (S := S1024x512) zeros2, View.ld_unit_zero (S := S1024x1024) zeros2, View.ld_unit_zero (S := S1x1024x512) zeros3]

/-- The last of a row of points copies the accumulator to the result's block. -/
theorem out_last (c : Dev nD) (t : Fin cfg0.N) (h1 : t.val % 4 = 3) :
    (outsAt0 m c t.val t.isLt).1 = (outsAt0 m c t.val t.isLt).2 := by
  have h0 : ¬t.val % 4 = 0 := by omega
  rw [acc_next m c t h0, outsAt0_C m c t h0 h1]
  have hw := Memref.isWhole_whole (cc0_scratch0)
  dsimp only
  unfold out0_C_2
  rw [View.read_writes_eq_canon _ _ _ (fun y => cover0_C_2 c (y := y) ..)]
  unfold kernelRun0_C
  dsimp only
  sl_unfold_words
  rw [View.canon_unit_zero (S := S1024x1024) zeros2, View.readCov_unit_zero (S := S1024x1024) _ zeros2]
  simp only [View.readAt_eq_ld, (hs0_0 t).read_unread, (hs0_1 t).read_unread, hw.read_unread,
    View.ld_unit_zero (S := S1024x512) zeros2, View.ld_unit_zero (S := S1024x1024) zeros2, View.ld_unit_zero (S := S1x1024x512) zeros3]

/-- Where the windows' blocks lie at a grid point. -/
theorem places : ∀ t : Fin cfg0.N,
    win0_0.index t 0 = t.val / 4 ∧ win0_0.index t 1 = t.val % 4 ∧ win0_1.index t 0 = t.val % 4 ∧ win0_1.index t 1 = 0
    ∧ win0_1.index t 2 = 0 ∧ win0_2.index t 0 = t.val / 4 ∧ win0_2.index t 1 = 0 :=
  (by decide +kernel : ∀ t : Fin grid0.N, _)

/-- A point's share of an element of the block. -/
def share (c : Dev nD) (y : S1024x1024.Idx) (n : ℕ) (h : n < cfg0.N) : EReal :=
  blocks (iblk m c 0 ⟨n, h⟩) (iblk m c 1 ⟨n, h⟩) y

/-- A row's last point holds the sum of the shares of the row's points. -/
theorem acc_last (c : Dev nD) (y : S1024x1024.Idx) (q : ℕ) (h : 4 * q + 3 < cfg0.N) :
    (outsAt0 m c (4 * q + 3) h).2 y = ∑ s : Fin 4, share m c y (4 * q + s.val) (by have := s.isLt; omega) :=
  Cert.Proof.gathered (T := 4) (fun n h => (outsAt0 m c n h).2 y) (share m c y)
    (fun n h hn => by
      rw [acc_first m c ⟨n, h⟩ hn]
      refine (step_apply _ _ _ y).trans ?_
      rw [zero_apply, zero_add]
      rfl)
    (fun n h hn => by
      rw [acc_next m c ⟨n, h⟩ hn]
      exact step_apply _ _ _ y) q 3 (by decide) h

/-- A row's last point writes back its block of the product. -/
theorem flushed_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1))) := by
  have h1 : t.val % 4 = 3 := (flush0_2 t).mp hf
  have ht : t.val < 8 := t.isLt
  rw [Value.flushed2, out_last m c t h1]
  obtain ⟨n, hn⟩ := t
  obtain ⟨q, rfl⟩ : ∃ q, n = 4 * q + 3 := ⟨n / 4, by dsimp only at h1; omega⟩
  obtain ⟨-, -, -, -, -, e20, e21⟩ := places ⟨4 * q + 3, hn⟩
  funext y
  have h0 : (y 0).val < 1024 := (y 0).isLt
  have h1 : (y 1).val < 1024 := (y 1).isLt
  refine (acc_last m c y q hn).trans ?_
  rw [View.read_apply]
  unfold product
  rw [Fin.sum_univ_tiles 4 512 rfl]
  refine Finset.sum_congr rfl fun s _ => ?_
  unfold share blocks
  refine Finset.sum_congr rfl fun k _ => ?_
  have hs := s.isLt
  have hk := k.isLt
  obtain ⟨e00, e01, e10, e11, e12, -, -⟩ := places ⟨4 * q + s.val, Nat.lt_of_le_of_lt (by omega) hn⟩
  dsimp only at e00 e01 e10 e11 e12 e20 e21
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index ⟨4 * q + s.val, _⟩ 0 * 1024 + 1 * (y 0).val = win0_2.index ⟨4 * q + 3, hn⟩ 0 * 1024 + 1 * (y 0).val; omega
    | ⟨1, _⟩ => show win0_0.index ⟨4 * q + s.val, _⟩ 1 * 512 + 1 * k.val = s.val * 512 + k.val; omega
  · match a with
    | ⟨0, _⟩ => show win0_1.index ⟨4 * q + s.val, _⟩ 0 * 1 + 1 * 0 = (s.val * 512 + k.val) / 512; omega
    | ⟨1, _⟩ => show win0_1.index ⟨4 * q + s.val, _⟩ 1 * 1024 + 1 * (y 1).val = win0_2.index ⟨4 * q + 3, hn⟩ 1 * 1024 + 1 * (y 1).val; omega
    | ⟨2, _⟩ => show win0_1.index ⟨4 * q + s.val, _⟩ 2 * 512 + 1 * k.val = (s.val * 512 + k.val) % 512; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (flushed_eq m c) fun i => (Value.covered_iff2 i).2
    ⟨Nat.zero_le _, (i 0).isLt, Nat.zero_le _, (i 1).isLt⟩

end Cert.DyaIdeal.Product

namespace Cert.DyaRefIdeal.Product

open Cert.DyaRefIdeal Cert.DyaRefIdeal.Gen Cert.DyaRefIdeal.Read

/-- The host's gradient, element by element. -/
theorem value (dy : FVec Ideal S2048x2048 .bf16) (w : FVec Ideal S4x1024x512 .bf16) :
    val_main_v6 (F := Ideal) dy w = Cert.DyaIdeal.Product.product dy w := by
  funext i
  have h1 : (i 1).val < 1024 := (i 1).isLt
  refine (val_main_v6_apply dy w _).trans (Finset.sum_congr rfl fun k _ => ?_)
  have hk := k.isLt
  rw [val_main_v5_apply, val_main_v3_apply, val_main_v1_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => show ((i 1).val * 2048 + k.val) / 512 % 4 = k.val / 512; omega
    | ⟨1, _⟩ => show ((i 1).val * 2048 + k.val) / 2048 = (i 1).val; omega
    | ⟨2, _⟩ => show ((i 1).val * 2048 + k.val) % 512 = k.val % 512; omega

end Cert.DyaRefIdeal.Product

namespace Cert.Proof

/-- `mm_dya` computes the gradient of the first branch. -/
theorem algebraic_Dya : Cert.algebraic_DyaIdeal_DyaRefIdeal (hDyaIdeal := Cert.DyaIdeal.Gen.facts)
    (hDyaRefIdeal := Cert.DyaRefIdeal.Gen.facts) := by
  intro m g m' g' _ hargs
  refine ⟨fun c => Cert.DyaIdeal.Product.product (m ((c.tc : Thread Cert.DyaIdeal.nD Cert.DyaIdeal.τ).loc Cert.DyaIdeal.main_arg0))
    (m ((c.tc : Thread Cert.DyaIdeal.nD Cert.DyaIdeal.τ).loc Cert.DyaIdeal.main_arg1)), ?_, ?_⟩
  · exact (θ_run _ _ _).mono (fun _ h c => ⟨(h c).1.trans (Cert.DyaIdeal.Product.final m c), (h c).2⟩)
      (Cert.DyaIdeal.Value.run_blocks m g)
  · refine (θ_run _ _ _).mono (fun _ h c => ⟨(h c).1.trans ?_, (h c).2⟩) (Cert.DyaRefIdeal.Value.run m' g')
    rw [(hargs c).1, (hargs c).2]
    exact (Cert.DyaRefIdeal.Read.val_main_v6_eq _ _).trans (Cert.DyaRefIdeal.Product.value _ _)

end Cert.Proof

end
-- ==== Proof.Dyb.Value.lean ====
/-
  `mm_dyb`, the gradient of the second branch. The array after the run is written as sums, and the
  host reference's array is shown to be the same sums.
-/
module

public import proofs.«01_k».proof.Defs
public import proofs.«01_k».proof.Proof.Gen.Dyb.Frame
public import proofs.«01_k».proof.Proof.Gen.DybIdeal.Value
public import proofs.«01_k».proof.Proof.Gen.DybRefIdeal.Run
public import proofs.«01_k».proof.Proof.Gen.DybRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.DybIdeal.Product

open Cert.DybIdeal Cert.DybIdeal.Gen

variable (m : (ℓ : Loc nD τ sig) → Buf (Elt Ideal) ℓ) (ρ : Dev nD → PrngReg)

/-- The product of the left argument with the transposed right one, whose columns are cut in 4 blocks. -/
def product (dy : FVec Ideal S2048x2048 .bf16) (w : FVec Ideal S4x1024x512 .bf16) : FVec Ideal S2048x1024 .bf16 :=
  fun i => ∑ k : Fin 2048, dy (ix2 (i 0) k) * w (ix3 ⟨k.val / 512, by have := k.isLt; omega⟩ (i 1) ⟨k.val % 512, by omega⟩)

/-- The product of two blocks, element by element. -/
def blocks (a : FVec Ideal S1024x512 .bf16) (b : FVec Ideal S1x1024x512 .bf16) : S1024x1024.Idx → EReal :=
  fun y => ∑ k : Fin 512, a (ix2 (y 0) k) * b (ix3 ⟨0, by decide⟩ (y 1) k)

/-- One step of the sum, element by element. -/
theorem step_apply (acc : FVec Ideal S1024x1024 .f32) (a : FVec Ideal S1024x512 .bf16) (b : FVec Ideal S1x1024x512 .bf16)
    (y : S1024x1024.Idx) :
    k0_pay2 (F := Ideal) acc a b y = acc y + blocks a b y := by
  unfold blocks
  pointwise [k0_pay2]

theorem zero_apply (y : S1024x1024.Idx) : k0_pay1 (F := Ideal) y = 0 := by
  pointwise [k0_pay1]

/-- The first of a row of points leaves its product in the accumulator. -/
theorem acc_first (c : Dev nD) (t : Fin cfg0.N) (h0 : t.val % 4 = 0) :
    (outsAt0 m c t.val t.isLt).2 = k0_pay2 (F := Ideal) (k0_pay1 (F := Ideal)) (iblk m c 0 t) (iblk m c 1 t) := by
  rw [outsAt0_A m c t h0 (by omega)]
  dsimp only
  unfold sout0_A_0
  rw [View.read_writes_eq_canon _ _ _ (fun y => scover0_A_0 c (y := y) ..)]
  unfold kernelRun0_A
  dsimp only
  sl_unfold_words
  rw [View.canon_cons_unit_zero (S := S1024x1024) zeros2, View.readCov_unit_zero (S := S1024x1024) _ zeros2]
  simp only [View.readAt_eq_ld, (hs0_0 t).read_unread, (hs0_1 t).read_unread, View.ld_unit_zero (S := S1024x512) zeros2, View.ld_unit_zero (S := S1x1024x512) zeros3]

/-- Every later point adds its product. -/
theorem acc_next (c : Dev nD) (t : Fin cfg0.N) (h0 : ¬t.val % 4 = 0) :
    (outsAt0 m c t.val t.isLt).2 = k0_pay2 (F := Ideal)
      (outsAt0 m c (t.val - 1) (Nat.lt_of_le_of_lt (Nat.sub_le _ _) t.isLt)).2 (iblk m c 0 t) (iblk m c 1 t) := by
  have hw := Memref.isWhole_whole (cc0_scratch0)
  by_cases h1 : t.val % 4 = 3
  · rw [outsAt0_C m c t h0 h1]
    dsimp only
    unfold sout0_C_0
    rw [View.read_writes_eq_canon _ _ _ (fun y => scover0_C_0 c (y := y) ..)]
    unfold kernelRun0_C
    dsimp only
    sl_unfold_words
    rw [View.canon_unit_zero (S := S1024x1024) zeros2]
    simp only [View.readAt_eq_ld, (hs0_0 t).read_unread, (hs0_1 t).read_unread, hw.read_unread,
      View.ld_unit_zero (S := S1024x512) zeros2, View.ld_unit_zero (S := S1024x1024) zeros2, View.ld_unit_zero (S := S1x1024x512) zeros3]
  · rw [outsAt0_B m c t h0 h1]
    dsimp only
    unfold sout0_B_0
    rw [View.read_writes_eq_canon _ _ _ (fun y => scover0_B_0 c (y := y) ..)]
    unfold kernelRun0_B
    dsimp only
    sl_unfold_words
    rw [View.canon_unit_zero (S := S1024x1024) zeros2]
    simp only [View.readAt_eq_ld, (hs0_0 t).read_unread, (hs0_1 t).read_unread, hw.read_unread,
      View.ld_unit_zero (S := S1024x512) zeros2, View.ld_unit_zero (S := S1024x1024) zeros2, View.ld_unit_zero (S := S1x1024x512) zeros3]

/-- The last of a row of points copies the accumulator to the result's block. -/
theorem out_last (c : Dev nD) (t : Fin cfg0.N) (h1 : t.val % 4 = 3) :
    (outsAt0 m c t.val t.isLt).1 = k0_pay3 (F := Ideal) (outsAt0 m c t.val t.isLt).2 := by
  have h0 : ¬t.val % 4 = 0 := by omega
  rw [acc_next m c t h0, outsAt0_C m c t h0 h1]
  have hw := Memref.isWhole_whole (cc0_scratch0)
  dsimp only
  unfold out0_C_2
  rw [View.read_writes_eq_canon _ _ _ (fun y => cover0_C_2 c (y := y) ..)]
  unfold kernelRun0_C
  dsimp only
  sl_unfold_words
  rw [View.canon_unit_zero (S := S1024x1024) zeros2, View.readCov_unit_zero (S := S1024x1024) _ zeros2]
  simp only [View.readAt_eq_ld, (hs0_0 t).read_unread, (hs0_1 t).read_unread, hw.read_unread,
    View.ld_unit_zero (S := S1024x512) zeros2, View.ld_unit_zero (S := S1024x1024) zeros2, View.ld_unit_zero (S := S1x1024x512) zeros3]

/-- Where the windows' blocks lie at a grid point. -/
theorem places : ∀ t : Fin cfg0.N,
    win0_0.index t 0 = t.val / 4 ∧ win0_0.index t 1 = t.val % 4 ∧ win0_1.index t 0 = t.val % 4 ∧ win0_1.index t 1 = 0
    ∧ win0_1.index t 2 = 0 ∧ win0_2.index t 0 = t.val / 4 ∧ win0_2.index t 1 = 0 :=
  (by decide +kernel : ∀ t : Fin grid0.N, _)

/-- A point's share of an element of the block. -/
def share (c : Dev nD) (y : S1024x1024.Idx) (n : ℕ) (h : n < cfg0.N) : EReal :=
  blocks (iblk m c 0 ⟨n, h⟩) (iblk m c 1 ⟨n, h⟩) y

/-- A row's last point holds the sum of the shares of the row's points. -/
theorem acc_last (c : Dev nD) (y : S1024x1024.Idx) (q : ℕ) (h : 4 * q + 3 < cfg0.N) :
    (outsAt0 m c (4 * q + 3) h).2 y = ∑ s : Fin 4, share m c y (4 * q + s.val) (by have := s.isLt; omega) :=
  Cert.Proof.gathered (T := 4) (fun n h => (outsAt0 m c n h).2 y) (share m c y)
    (fun n h hn => by
      rw [acc_first m c ⟨n, h⟩ hn]
      refine (step_apply _ _ _ y).trans ?_
      rw [zero_apply, zero_add]
      rfl)
    (fun n h hn => by
      rw [acc_next m c ⟨n, h⟩ hn]
      exact step_apply _ _ _ y) q 3 (by decide) h

/-- A row's last point writes back its block of the product. -/
theorem flushed_eq (c : Dev nD) (t : Fin cfg0.N) (hf : (cfg0.win 2).flush t = true) :
    (dats m 0 c).flushed 2 t = ((cfg0.win 2).blk t).view.read (Elt Ideal)
      (product (m ((c : Thread nD τ).loc main_arg0)) (m ((c : Thread nD τ).loc main_arg1))) := by
  have h1 : t.val % 4 = 3 := (flush0_2 t).mp hf
  have ht : t.val < 8 := t.isLt
  rw [Value.flushed2, out_last m c t h1]
  obtain ⟨n, hn⟩ := t
  obtain ⟨q, rfl⟩ : ∃ q, n = 4 * q + 3 := ⟨n / 4, by dsimp only at h1; omega⟩
  obtain ⟨-, -, -, -, -, e20, e21⟩ := places ⟨4 * q + 3, hn⟩
  funext y
  have h0 : (y 0).val < 1024 := (y 0).isLt
  have h1 : (y 1).val < 1024 := (y 1).isLt
  refine (acc_last m c y q hn).trans ?_
  rw [View.read_apply]
  unfold product
  rw [Fin.sum_univ_tiles 4 512 rfl]
  refine Finset.sum_congr rfl fun s _ => ?_
  unfold share blocks
  refine Finset.sum_congr rfl fun k _ => ?_
  have hs := s.isLt
  have hk := k.isLt
  obtain ⟨e00, e01, e10, e11, e12, -, -⟩ := places ⟨4 * q + s.val, Nat.lt_of_le_of_lt (by omega) hn⟩
  dsimp only at e00 e01 e10 e11 e12 e20 e21
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index ⟨4 * q + s.val, _⟩ 0 * 1024 + 1 * (y 0).val = win0_2.index ⟨4 * q + 3, hn⟩ 0 * 1024 + 1 * (y 0).val; omega
    | ⟨1, _⟩ => show win0_0.index ⟨4 * q + s.val, _⟩ 1 * 512 + 1 * k.val = s.val * 512 + k.val; omega
  · match a with
    | ⟨0, _⟩ => show win0_1.index ⟨4 * q + s.val, _⟩ 0 * 1 + 1 * 0 = (s.val * 512 + k.val) / 512; omega
    | ⟨1, _⟩ => show win0_1.index ⟨4 * q + s.val, _⟩ 1 * 1024 + 1 * (y 1).val = win0_2.index ⟨4 * q + 3, hn⟩ 1 * 1024 + 1 * (y 1).val; omega
    | ⟨2, _⟩ => show win0_1.index ⟨4 * q + s.val, _⟩ 2 * 512 + 1 * k.val = (s.val * 512 + k.val) % 512; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (flushed_eq m c) fun i => (Value.covered_iff2 i).2
    ⟨Nat.zero_le _, (i 0).isLt, Nat.zero_le _, (i 1).isLt⟩

end Cert.DybIdeal.Product

namespace Cert.DybRefIdeal.Product

open Cert.DybRefIdeal Cert.DybRefIdeal.Gen Cert.DybRefIdeal.Read

/-- The host's gradient, element by element. -/
theorem value (dy : FVec Ideal S2048x2048 .bf16) (w : FVec Ideal S4x1024x512 .bf16) :
    val_main_v7 (F := Ideal) dy w = Cert.DybIdeal.Product.product dy w := by
  funext i
  have h1 : (i 1).val < 1024 := (i 1).isLt
  rw [val_main_v7_apply]
  refine (val_main_v6_apply dy w _).trans (Finset.sum_congr rfl fun k _ => ?_)
  have hk := k.isLt
  rw [val_main_v5_apply, val_main_v3_apply, val_main_v1_apply, val_main_v0_apply]
  refine congrArg₂ (· * ·) (congrArg dy (funext fun a => Fin.ext ?_)) (congrArg w (funext fun a => Fin.ext ?_))
  · match a with
    | ⟨0, _⟩ => rfl
    | ⟨1, _⟩ => rfl
  · match a with
    | ⟨0, _⟩ => show ((i 1).val * 2048 + k.val) / 512 % 4 = k.val / 512; omega
    | ⟨1, _⟩ => show ((i 1).val * 2048 + k.val) / 2048 = (i 1).val; omega
    | ⟨2, _⟩ => show ((i 1).val * 2048 + k.val) % 512 = k.val % 512; omega

end Cert.DybRefIdeal.Product

namespace Cert.Proof

/-- `mm_dyb` computes the gradient of the second branch. -/
theorem algebraic_Dyb : Cert.algebraic_DybIdeal_DybRefIdeal (hDybIdeal := Cert.DybIdeal.Gen.facts)
    (hDybRefIdeal := Cert.DybRefIdeal.Gen.facts) := by
  intro m g m' g' _ hargs
  refine ⟨fun c => Cert.DybIdeal.Product.product (m ((c.tc : Thread Cert.DybIdeal.nD Cert.DybIdeal.τ).loc Cert.DybIdeal.main_arg0))
    (m ((c.tc : Thread Cert.DybIdeal.nD Cert.DybIdeal.τ).loc Cert.DybIdeal.main_arg1)), ?_, ?_⟩
  · exact (θ_run _ _ _).mono (fun _ h c => ⟨(h c).1.trans (Cert.DybIdeal.Product.final m c), (h c).2⟩)
      (Cert.DybIdeal.Value.run_blocks m g)
  · refine (θ_run _ _ _).mono (fun _ h c => ⟨(h c).1.trans ?_, (h c).2⟩) (Cert.DybRefIdeal.Value.run m' g')
    rw [(hargs c).1, (hargs c).2]
    exact (Cert.DybRefIdeal.Read.val_main_v7_eq _ _).trans (Cert.DybRefIdeal.Product.value _ _)

end Cert.Proof

end
-- ==== Proof.U1.Value.lean ====
/-
  `mm_u1` and `mm_u3`, the two gated layers. The array after the run is written as sums, and the
  host reference's array is shown to be the same sums.
-/
module

public import proofs.«01_k».proof.Defs
public import proofs.«01_k».proof.Proof.Gen.U1.Frame
public import proofs.«01_k».proof.Proof.Gen.U1Ideal.Value
public import proofs.«01_k».proof.Proof.Gen.U1RefIdeal.Run
public import proofs.«01_k».proof.Proof.Gen.U1RefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.U1Ideal.Product

open Cert.U1Ideal Cert.U1Ideal.Gen

variable (m : (ℓ : Loc nD τ sig) → Buf (Elt Ideal) ℓ) (ρ : Dev nD → PrngReg)

/-- The product of the left argument with the right one, whose columns are cut in 4 blocks. -/
def product (x : FVec Ideal S2048x2048 .bf16) (w : FVec Ideal S4x2048x1408 .bf16) : FVec Ideal S2048x5632 .bf16 :=
  fun i => ∑ k : Fin 2048, x (ix2 (i 0) k) * w (ix3 ⟨(i 1).val / 1408, by
    have h1 : (i 1).val < 5632 := (i 1).isLt
    omega⟩ k ⟨(i 1).val % 1408, by omega⟩)

/-- One block of the product, element by element. -/
theorem block_apply (a : FVec Ideal S1024x2048 .bf16) (b : FVec Ideal S1x2048x1408 .bf16) (y : S1024x1408.Idx) :
    k0_pay1 (F := Ideal) a b y = ∑ k : Fin 2048, a (ix2 (y 0) k) * b (ix3 ⟨0, by decide⟩ k (y 1)) := by
  pointwise [k0_pay1]

/-- Where the windows' blocks lie at a grid point. -/
theorem places : ∀ t : Fin cfg0.N,
    win0_0.index t 0 = t.val / 4 ∧ win0_0.index t 1 = 0 ∧ win0_1.index t 0 = t.val % 4 ∧ win0_1.index t 1 = 0
    ∧ win0_1.index t 2 = 0 ∧ win0_2.index t 0 = t.val / 4 ∧ win0_2.index t 1 = t.val % 4 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros2, View.ld_unit_zero zeros2, View.ld_unit_zero zeros3]
  obtain ⟨e00, e01, e10, e11, e12, e20, e21⟩ := places t
  funext y
  have h1 : (y 1).val < 1408 := (y 1).isLt
  have ht : t.val < 8 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1024 + 1 * (y 0).val = win0_2.index t 0 * 1024 + 1 * (y 0).val; omega
    | ⟨1, _⟩ => show win0_0.index t 1 * 2048 + 1 * k.val = k.val; omega
  · match a with
    | ⟨0, _⟩ => show win0_1.index t 0 * 1 + 1 * 0 = (win0_2.index t 1 * 1408 + 1 * (y 1).val) / 1408; omega
    | ⟨1, _⟩ => show win0_1.index t 1 * 2048 + 1 * k.val = k.val; omega
    | ⟨2, _⟩ => show win0_1.index t 2 * 1408 + 1 * (y 1).val = (win0_2.index t 1 * 1408 + 1 * (y 1).val) % 1408; omega

/-- Every element of the result lies in some grid point's block. -/
theorem cover (i : S2048x5632.Idx) : ∃ t : Fin cfg0.N, (cfg0.win 2).flush t = true ∧ i ∈ ((cfg0.win 2).blk t).view.set := by
  have h0 : (i 0).val < 2048 := (i 0).isLt
  have h1 : (i 1).val < 5632 := (i 1).isLt
  let t : Fin cfg0.N := ⟨(i 0).val / 1024 * 4 + (i 1).val / 1408, by show _ < 8; omega⟩
  have ht : t.val = (i 0).val / 1024 * 4 + (i 1).val / 1408 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 1024 ≤ (i 0).val ∧ (i 0).val < win0_2.index t 0 * 1024 + 1024; omega
  | ⟨1, _⟩ => show win0_2.index t 1 * 1408 ≤ (i 1).val ∧ (i 1).val < win0_2.index t 1 * 1408 + 1408; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.U1Ideal.Product

namespace Cert.U1RefIdeal.Product

open Cert.U1RefIdeal Cert.U1RefIdeal.Gen Cert.U1RefIdeal.Read

/-- The host's product, element by element. -/
theorem value (x : FVec Ideal S2048x2048 .bf16) (w : FVec Ideal S4x2048x1408 .bf16) :
    val_main_v5 (F := Ideal) x w = Cert.U1Ideal.Product.product x w := by
  funext i
  have h1 : (i 1).val < 5632 := (i 1).isLt
  rw [val_main_v5_apply]
  refine (val_main_v4_apply x w _).trans (Finset.sum_congr rfl fun k _ => ?_)
  have hk := k.isLt
  rw [val_main_v2_apply, val_main_v3_apply, val_main_v1_apply, val_main_v0_apply]
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => show (k.val * 5632 + (i 1).val) / 1408 % 4 = (i 1).val / 1408; omega
    | ⟨1, _⟩ => show (k.val * 5632 + (i 1).val) / 5632 = k.val; omega
    | ⟨2, _⟩ => show (k.val * 5632 + (i 1).val) % 1408 = (i 1).val % 1408; omega

end Cert.U1RefIdeal.Product

namespace Cert.Proof

/-- `mm_u1` and `mm_u3` compute the gated layers' products. -/
theorem algebraic_U1 : Cert.algebraic_U1Ideal_U1RefIdeal (hU1Ideal := Cert.U1Ideal.Gen.facts)
    (hU1RefIdeal := Cert.U1RefIdeal.Gen.facts) := by
  intro m g m' g' _ hargs
  refine ⟨fun c => Cert.U1Ideal.Product.product (m ((c.tc : Thread Cert.U1Ideal.nD Cert.U1Ideal.τ).loc Cert.U1Ideal.main_arg0))
    (m ((c.tc : Thread Cert.U1Ideal.nD Cert.U1Ideal.τ).loc Cert.U1Ideal.main_arg1)), ?_, ?_⟩
  · exact (θ_run _ _ _).mono (fun _ h c => ⟨(h c).1.trans (Cert.U1Ideal.Product.final m c), (h c).2⟩)
      (Cert.U1Ideal.Value.run_blocks m g)
  · refine (θ_run _ _ _).mono (fun _ h c => ⟨(h c).1.trans ?_, (h c).2⟩) (Cert.U1RefIdeal.Value.run m' g')
    rw [(hargs c).1, (hargs c).2]
    exact (Cert.U1RefIdeal.Read.val_main_v5_eq _ _).trans (Cert.U1RefIdeal.Product.value _ _)

end Cert.Proof

end
-- ==== Proof.Mf.Value.lean ====
/-
  `mm_f`, the layer out of the gated pair. The array after the run is written as sums, and the
  host reference's array is shown to be the same sums.
-/
module

public import proofs.«01_k».proof.Defs
public import proofs.«01_k».proof.Proof.Gen.Mf.Frame
public import proofs.«01_k».proof.Proof.Gen.MfIdeal.Value
public import proofs.«01_k».proof.Proof.Gen.MfRefIdeal.Run
public import proofs.«01_k».proof.Proof.Gen.MfRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.MfIdeal.Product

open Cert.MfIdeal Cert.MfIdeal.Gen

variable (m : (ℓ : Loc nD τ sig) → Buf (Elt Ideal) ℓ) (ρ : Dev nD → PrngReg)

/-- The product of the two arguments. -/
def product (x : FVec Ideal S2048x5632 .bf16) (w : FVec Ideal S1x5632x2048 .bf16) : FVec Ideal S2048x2048 .f32 :=
  fun i => ∑ k : Fin 5632, x (ix2 (i 0) k) * w (ix3 ⟨0, by decide⟩ k (i 1))

/-- One block of the product, element by element. -/
theorem block_apply (a : FVec Ideal S512x5632 .bf16) (b : FVec Ideal S1x5632x1024 .bf16) (y : S512x1024.Idx) :
    k0_pay1 (F := Ideal) a b y = ∑ k : Fin 5632, a (ix2 (y 0) k) * b (ix3 ⟨0, by decide⟩ k (y 1)) := by
  pointwise [k0_pay1]

/-- Where the windows' blocks lie at a grid point. -/
theorem places : ∀ t : Fin cfg0.N,
    win0_0.index t 0 = t.val / 2 ∧ win0_0.index t 1 = 0 ∧ win0_1.index t 0 = 0 ∧ win0_1.index t 1 = 0
    ∧ win0_1.index t 2 = t.val % 2 ∧ win0_2.index t 0 = t.val / 2 ∧ win0_2.index t 1 = t.val % 2 :=
  (by decide +kernel : ∀ t : Fin grid0.N, _)

set_option maxRecDepth 16384 in
/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros2, View.ld_unit_zero zeros2, View.ld_unit_zero zeros3]
  obtain ⟨e00, e01, e10, e11, e12, e20, e21⟩ := places t
  funext y
  have h1 : (y 1).val < 1024 := (y 1).isLt
  have ht : t.val < 8 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 512 + 1 * (y 0).val = win0_2.index t 0 * 512 + 1 * (y 0).val; omega
    | ⟨1, _⟩ => show win0_0.index t 1 * 5632 + 1 * k.val = k.val; omega
  · match a with
    | ⟨0, _⟩ => show win0_1.index t 0 * 1 + 1 * 0 = 0; omega
    | ⟨1, _⟩ => show win0_1.index t 1 * 5632 + 1 * k.val = k.val; omega
    | ⟨2, _⟩ => show win0_1.index t 2 * 1024 + 1 * (y 1).val = win0_2.index t 1 * 1024 + 1 * (y 1).val; omega

/-- Every element of the result lies in some grid point's block. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  let t : Fin cfg0.N := ⟨(i 0).val / 512 * 2 + (i 1).val / 1024, by show _ < 8; omega⟩
  have ht : t.val = (i 0).val / 512 * 2 + (i 1).val / 1024 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 512 ≤ (i 0).val ∧ (i 0).val < win0_2.index t 0 * 512 + 512; omega
  | ⟨1, _⟩ => show win0_2.index t 1 * 1024 ≤ (i 1).val ∧ (i 1).val < win0_2.index t 1 * 1024 + 1024; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.MfIdeal.Product

namespace Cert.MfRefIdeal.Product

open Cert.MfRefIdeal Cert.MfRefIdeal.Gen Cert.MfRefIdeal.Read

/-- The host's product, element by element. -/
theorem value (x : FVec Ideal S2048x5632 .bf16) (w : FVec Ideal S1x5632x2048 .bf16) :
    val_main_v3 (F := Ideal) x w = Cert.MfIdeal.Product.product x w := by
  funext i
  have h1 : (i 1).val < 2048 := (i 1).isLt
  refine (val_main_v3_apply x w _).trans (Finset.sum_congr rfl fun k _ => ?_)
  have hk := k.isLt
  rw [val_main_v1_apply, val_main_v2_apply, val_main_v0_apply]
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => show (k.val * 2048 + (i 1).val) / 2048 % 5632 = k.val; omega
    | ⟨2, _⟩ => show (k.val * 2048 + (i 1).val) % 2048 = (i 1).val; omega

end Cert.MfRefIdeal.Product

namespace Cert.Proof

/-- `mm_f` computes its product. -/
theorem algebraic_Mf : Cert.algebraic_MfIdeal_MfRefIdeal (hMfIdeal := Cert.MfIdeal.Gen.facts)
    (hMfRefIdeal := Cert.MfRefIdeal.Gen.facts) := by
  intro m g m' g' _ hargs
  refine ⟨fun c => Cert.MfIdeal.Product.product (m ((c.tc : Thread Cert.MfIdeal.nD Cert.MfIdeal.τ).loc Cert.MfIdeal.main_arg0))
    (m ((c.tc : Thread Cert.MfIdeal.nD Cert.MfIdeal.τ).loc Cert.MfIdeal.main_arg1)), ?_, ?_⟩
  · exact (θ_run _ _ _).mono (fun _ h c => ⟨(h c).1.trans (Cert.MfIdeal.Product.final m c), (h c).2⟩)
      (Cert.MfIdeal.Value.run_blocks m g)
  · refine (θ_run _ _ _).mono (fun _ h c => ⟨(h c).1.trans ?_, (h c).2⟩) (Cert.MfRefIdeal.Value.run m' g')
    rw [(hargs c).1, (hargs c).2]
    exact (Cert.MfRefIdeal.Read.val_main_v3_eq _ _).trans (Cert.MfRefIdeal.Product.value _ _)

end Cert.Proof

end
-- ==== Proof.Mo.Value.lean ====
/-
  `mm_mo`, the output projection. The array after the run is written as sums, and the
  host reference's array is shown to be the same sums.
-/
module

public import proofs.«01_k».proof.Defs
public import proofs.«01_k».proof.Proof.Gen.Mo.Frame
public import proofs.«01_k».proof.Proof.Gen.MoIdeal.Value
public import proofs.«01_k».proof.Proof.Gen.MoRefIdeal.Run
public import proofs.«01_k».proof.Proof.Gen.MoRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.MoIdeal.Product

open Cert.MoIdeal Cert.MoIdeal.Gen

variable (m : (ℓ : Loc nD τ sig) → Buf (Elt Ideal) ℓ) (ρ : Dev nD → PrngReg)

/-- The product of the two arguments. -/
def product (x : FVec Ideal S2048x2048 .bf16) (w : FVec Ideal S1x2048x2048 .bf16) : FVec Ideal S2048x2048 .f32 :=
  fun i => ∑ k : Fin 2048, x (ix2 (i 0) k) * w (ix3 ⟨0, by decide⟩ k (i 1))

/-- One block of the product, element by element. -/
theorem block_apply (a : FVec Ideal S1024x2048 .bf16) (b : FVec Ideal S1x2048x1024 .bf16) (y : S1024x1024.Idx) :
    k0_pay1 (F := Ideal) a b y = ∑ k : Fin 2048, a (ix2 (y 0) k) * b (ix3 ⟨0, by decide⟩ k (y 1)) := by
  pointwise [k0_pay1]

/-- Where the windows' blocks lie at a grid point. -/
theorem places : ∀ t : Fin cfg0.N,
    win0_0.index t 0 = t.val / 2 ∧ win0_0.index t 1 = 0 ∧ win0_1.index t 0 = 0 ∧ win0_1.index t 1 = 0
    ∧ win0_1.index t 2 = t.val % 2 ∧ win0_2.index t 0 = t.val / 2 ∧ win0_2.index t 1 = t.val % 2 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros2, View.ld_unit_zero zeros2, View.ld_unit_zero zeros3]
  obtain ⟨e00, e01, e10, e11, e12, e20, e21⟩ := places t
  funext y
  have h1 : (y 1).val < 1024 := (y 1).isLt
  have ht : t.val < 4 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1024 + 1 * (y 0).val = win0_2.index t 0 * 1024 + 1 * (y 0).val; omega
    | ⟨1, _⟩ => show win0_0.index t 1 * 2048 + 1 * k.val = k.val; omega
  · match a with
    | ⟨0, _⟩ => show win0_1.index t 0 * 1 + 1 * 0 = 0; omega
    | ⟨1, _⟩ => show win0_1.index t 1 * 2048 + 1 * k.val = k.val; omega
    | ⟨2, _⟩ => show win0_1.index t 2 * 1024 + 1 * (y 1).val = win0_2.index t 1 * 1024 + 1 * (y 1).val; omega

/-- Every element of the result lies in some grid point's block. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  let t : Fin cfg0.N := ⟨(i 0).val / 1024 * 2 + (i 1).val / 1024, by show _ < 4; omega⟩
  have ht : t.val = (i 0).val / 1024 * 2 + (i 1).val / 1024 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.MoIdeal.Product

namespace Cert.MoRefIdeal.Product

open Cert.MoRefIdeal Cert.MoRefIdeal.Gen Cert.MoRefIdeal.Read

/-- The host's product, element by element. -/
theorem value (x : FVec Ideal S2048x2048 .bf16) (w : FVec Ideal S1x2048x2048 .bf16) :
    val_main_v3 (F := Ideal) x w = Cert.MoIdeal.Product.product x w := by
  funext i
  have h1 : (i 1).val < 2048 := (i 1).isLt
  refine (val_main_v3_apply x w _).trans (Finset.sum_congr rfl fun k _ => ?_)
  have hk := k.isLt
  rw [val_main_v1_apply, val_main_v2_apply, val_main_v0_apply]
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => rfl
    | ⟨1, _⟩ => show (k.val * 2048 + (i 1).val) / 2048 % 2048 = k.val; omega
    | ⟨2, _⟩ => show (k.val * 2048 + (i 1).val) % 2048 = (i 1).val; omega

end Cert.MoRefIdeal.Product

namespace Cert.Proof

/-- `mm_mo` computes its product. -/
theorem algebraic_Mo : Cert.algebraic_MoIdeal_MoRefIdeal (hMoIdeal := Cert.MoIdeal.Gen.facts)
    (hMoRefIdeal := Cert.MoRefIdeal.Gen.facts) := by
  intro m g m' g' _ hargs
  refine ⟨fun c => Cert.MoIdeal.Product.product (m ((c.tc : Thread Cert.MoIdeal.nD Cert.MoIdeal.τ).loc Cert.MoIdeal.main_arg0))
    (m ((c.tc : Thread Cert.MoIdeal.nD Cert.MoIdeal.τ).loc Cert.MoIdeal.main_arg1)), ?_, ?_⟩
  · exact (θ_run _ _ _).mono (fun _ h c => ⟨(h c).1.trans (Cert.MoIdeal.Product.final m c), (h c).2⟩)
      (Cert.MoIdeal.Value.run_blocks m g)
  · refine (θ_run _ _ _).mono (fun _ h c => ⟨(h c).1.trans ?_, (h c).2⟩) (Cert.MoRefIdeal.Value.run m' g')
    rw [(hargs c).1, (hargs c).2]
    exact (Cert.MoRefIdeal.Read.val_main_v3_eq _ _).trans (Cert.MoRefIdeal.Product.value _ _)

end Cert.Proof

end
-- ==== Proof.Za.Value.lean ====
/-
  `mm_za` and `mm_zb`, the two branch projections. The array after the run is written as sums, and the
  host reference's array is shown to be the same sums.
-/
module

public import proofs.«01_k».proof.Defs
public import proofs.«01_k».proof.Proof.Gen.Za.Frame
public import proofs.«01_k».proof.Proof.Gen.ZaIdeal.Value
public import proofs.«01_k».proof.Proof.Gen.ZaRefIdeal.Run
public import proofs.«01_k».proof.Proof.Gen.ZaRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 zeros3)

namespace Cert.ZaIdeal.Product

open Cert.ZaIdeal Cert.ZaIdeal.Gen

variable (m : (ℓ : Loc nD τ sig) → Buf (Elt Ideal) ℓ) (ρ : Dev nD → PrngReg)

/-- The product of the left argument with the right one, whose columns are cut in 4 blocks. -/
def product (x : FVec Ideal S2048x1024 .bf16) (w : FVec Ideal S4x1024x512 .bf16) : FVec Ideal S2048x2048 .bf16 :=
  fun i => ∑ k : Fin 1024, x (ix2 (i 0) k) * w (ix3 ⟨(i 1).val / 512, by
    have h1 : (i 1).val < 2048 := (i 1).isLt
    omega⟩ k ⟨(i 1).val % 512, by omega⟩)

/-- One block of the product, element by element. -/
theorem block_apply (a : FVec Ideal S1024x1024 .bf16) (b : FVec Ideal S1x1024x512 .bf16) (y : S1024x512.Idx) :
    k0_pay1 (F := Ideal) a b y = ∑ k : Fin 1024, a (ix2 (y 0) k) * b (ix3 ⟨0, by decide⟩ k (y 1)) := by
  pointwise [k0_pay1]

/-- Where the windows' blocks lie at a grid point. -/
theorem places : ∀ t : Fin cfg0.N,
    win0_0.index t 0 = t.val / 4 ∧ win0_0.index t 1 = 0 ∧ win0_1.index t 0 = t.val % 4 ∧ win0_1.index t 1 = 0
    ∧ win0_1.index t 2 = 0 ∧ win0_2.index t 0 = t.val / 4 ∧ win0_2.index t 1 = t.val % 4 :=
  (by decide +kernel : ∀ t : Fin grid0.N, _)

/-- A grid point writes back its block of the product. -/
theorem flushed_eq (c : Dev nD) (t : Fin cfg0.N) :
    (dats m 0 c).flushed 2 t = ((cfg0.win 2).blk t).view.read (Elt Ideal)
      (product (m ((c : Thread nD τ).loc main_arg0)) (m ((c : Thread nD τ).loc main_arg1))) := by
  rw [Value.flushed2]
  unfold out0_2
  rw [View.canon_unit_zero zeros2, View.ld_unit_zero zeros2, View.ld_unit_zero zeros3]
  obtain ⟨e00, e01, e10, e11, e12, e20, e21⟩ := places t
  funext y
  have h1 : (y 1).val < 512 := (y 1).isLt
  have ht : t.val < 8 := t.isLt
  refine (block_apply _ _ y).trans ?_
  rw [View.read_apply]
  unfold product
  refine Finset.sum_congr rfl fun k _ => ?_
  refine congrArg₂ (· * ·) (congrArg (m ((c : Thread nD τ).loc main_arg0)) (funext fun a => Fin.ext ?_))
    (congrArg (m ((c : Thread nD τ).loc main_arg1)) (funext fun a => Fin.ext ?_))
  · match a with
    | ⟨0, _⟩ => show win0_0.index t 0 * 1024 + 1 * (y 0).val = win0_2.index t 0 * 1024 + 1 * (y 0).val; omega
    | ⟨1, _⟩ => show win0_0.index t 1 * 1024 + 1 * k.val = k.val; omega
  · match a with
    | ⟨0, _⟩ => show win0_1.index t 0 * 1 + 1 * 0 = (win0_2.index t 1 * 512 + 1 * (y 1).val) / 512; omega
    | ⟨1, _⟩ => show win0_1.index t 1 * 1024 + 1 * k.val = k.val; omega
    | ⟨2, _⟩ => show win0_1.index t 2 * 512 + 1 * (y 1).val = (win0_2.index t 1 * 512 + 1 * (y 1).val) % 512; omega

/-- Every element of the result lies in some grid point's block. -/
theorem cover (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  let t : Fin cfg0.N := ⟨(i 0).val / 1024 * 4 + (i 1).val / 512, by show _ < 8; omega⟩
  have ht : t.val = (i 0).val / 1024 * 4 + (i 1).val / 512 := rfl
  refine ⟨t, flush0_2 t, ?_⟩
  show i ∈ ((View.whole main_v0).slice (win0_2.rect t)).set
  rw [View.set_slice_whole, Rect.mem_set_unit]
  obtain ⟨-, -, -, -, -, e20, e21⟩ := places t
  intro a
  match a with
  | ⟨0, _⟩ => show win0_2.index t 0 * 1024 ≤ (i 0).val ∧ (i 0).val < win0_2.index t 0 * 1024 + 1024; omega
  | ⟨1, _⟩ => show win0_2.index t 1 * 512 ≤ (i 1).val ∧ (i 1).val < win0_2.index t 1 * 512 + 512; omega

/-- The run leaves the product in the result array. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover

end Cert.ZaIdeal.Product

namespace Cert.ZaRefIdeal.Product

open Cert.ZaRefIdeal Cert.ZaRefIdeal.Gen Cert.ZaRefIdeal.Read

/-- The host's product, element by element. -/
theorem value (x : FVec Ideal S2048x1024 .bf16) (w : FVec Ideal S4x1024x512 .bf16) :
    val_main_v5 (F := Ideal) x w = Cert.ZaIdeal.Product.product x w := by
  funext i
  have h1 : (i 1).val < 2048 := (i 1).isLt
  rw [val_main_v5_apply]
  refine (val_main_v4_apply x w _).trans (Finset.sum_congr rfl fun k _ => ?_)
  have hk := k.isLt
  rw [val_main_v2_apply, val_main_v3_apply, val_main_v1_apply, val_main_v0_apply]
  refine congrArg₂ (· * ·) (congrArg x (funext fun a => Fin.ext ?_)) (congrArg w (funext fun a => Fin.ext ?_))
  · match a with
    | ⟨0, _⟩ => rfl
    | ⟨1, _⟩ => rfl
  · match a with
    | ⟨0, _⟩ => show (k.val * 2048 + (i 1).val) / 512 % 4 = (i 1).val / 512; omega
    | ⟨1, _⟩ => show (k.val * 2048 + (i 1).val) / 2048 = k.val; omega
    | ⟨2, _⟩ => show (k.val * 2048 + (i 1).val) % 512 = (i 1).val % 512; omega

end Cert.ZaRefIdeal.Product

namespace Cert.Proof

/-- `mm_za` and `mm_zb` compute the branch projections' products. -/
theorem algebraic_Za : Cert.algebraic_ZaIdeal_ZaRefIdeal (hZaIdeal := Cert.ZaIdeal.Gen.facts)
    (hZaRefIdeal := Cert.ZaRefIdeal.Gen.facts) := by
  intro m g m' g' _ hargs
  refine ⟨fun c => Cert.ZaIdeal.Product.product (m ((c.tc : Thread Cert.ZaIdeal.nD Cert.ZaIdeal.τ).loc Cert.ZaIdeal.main_arg0))
    (m ((c.tc : Thread Cert.ZaIdeal.nD Cert.ZaIdeal.τ).loc Cert.ZaIdeal.main_arg1)), ?_, ?_⟩
  · exact (θ_run _ _ _).mono (fun _ h c => ⟨(h c).1.trans (Cert.ZaIdeal.Product.final m c), (h c).2⟩)
      (Cert.ZaIdeal.Value.run_blocks m g)
  · refine (θ_run _ _ _).mono (fun _ h c => ⟨(h c).1.trans ?_, (h c).2⟩) (Cert.ZaRefIdeal.Value.run m' g')
    rw [(hargs c).1, (hargs c).2]
    exact (Cert.ZaRefIdeal.Read.val_main_v5_eq _ _).trans (Cert.ZaRefIdeal.Product.value _ _)

end Cert.Proof

end
-- ==== Proof.AdaB.Value.lean ====
/-
  `ada_bwd`, the gradients of the modulation's projection: the weight's, a block of columns at each grid point, and the
  activation's, gathered over the grid points; and the host reference's arrays as the same sums.
-/
module

public import proofs.«01_k».proof.Defs
public import proofs.«01_k».proof.Proof.Gen.AdaBIdeal.Value
public import proofs.«01_k».proof.Proof.Gen.AdaBRefIdeal.Run
public import proofs.«01_k».proof.Proof.Gen.AdaBRefIdeal.Read
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2 readCov_last)

namespace Cert.AdaBIdeal.Product

open Cert.AdaBIdeal Cert.AdaBIdeal.Gen

variable (m : (ℓ : Loc nD τ sig) → Buf (Elt Ideal) ℓ) (ρ : Dev nD → PrngReg)

/-- The activation, element by element. -/
def act (cs : FVec Ideal S16x2048 .f32) : S16x2048.Idx → EReal :=
  fun y => cs y * Ideal.div 1 (1 + Ideal.exp (-cs y))

/-- The weight's gradient. -/
def weight (cs : FVec Ideal S16x2048 .f32) (d : FVec Ideal S16x3072 .f32) : FVec Ideal S2048x3072 .f32 :=
  fun i => ∑ k : Fin 16, act cs (ix2 k (i 0)) * d (ix2 k (i 1))

/-- The activation's gradient. -/
def active (w : FVec Ideal S2048x3072 .f32) (d : FVec Ideal S16x3072 .f32) : FVec Ideal S16x2048 .f32 :=
  fun i => ∑ k : Fin 3072, d (ix2 (i 0) k) * w (ix2 (i 1) k)

/-- The product of two blocks, element by element. -/
def blocks (d : FVec Ideal S16x512 .f32) (w : FVec Ideal S2048x512 .f32) : S16x2048.Idx → EReal :=
  fun y => ∑ k : Fin 512, d (ix2 (y 0) k) * w (ix2 (y 1) k)

theorem weight_apply (cs : FVec Ideal S16x2048 .f32) (d : FVec Ideal S16x512 .f32) (y : S2048x512.Idx) :
    k0_pay1 (F := Ideal) cs d y = ∑ k : Fin 16, act cs (ix2 k (y 0)) * d (ix2 k (y 1)) := by
  simp only [act, ← zero_sub]
  pointwise [k0_pay1]

/-- One step of the sum, element by element. -/
theorem step_apply (d : FVec Ideal S16x512 .f32) (acc : FVec Ideal S16x2048 .f32) (w : FVec Ideal S2048x512 .f32)
    (y : S16x2048.Idx) :
    k0_pay3 (F := Ideal) d acc w y = acc y + blocks d w y := by
  unfold blocks
  pointwise [k0_pay3]

theorem zero_apply (y : S16x2048.Idx) : k0_pay2 (F := Ideal) y = 0 := by
  pointwise [k0_pay2]

/-- Every point leaves its columns of the weight's gradient. -/
theorem out_weight (c : Dev nD) (t : Fin cfg0.N) :
    (outsAt0 m c t.val t.isLt).1 = k0_pay1 (F := Ideal) (iblk m c 0 t) (iblk m c 2 t) := by
  by_cases h0 : t.val % 6 = 0
  · rw [outsAt0_A m c t h0]
    dsimp only
    unfold out0_A_3
    rw [View.read_writes_eq_canon _ _ _ (fun y => cover0_A_3 c (y := y) ..)]
    unfold kernelRun0_A
    dsimp only
    sl_unfold_words
    rw [View.canon_unit_zero (S := S2048x512) zeros2]
    simp only [View.readAt_eq_ld, (hs0_0 t).read_unread, (hs0_1 t).read_unread, (hs0_2 t).read_unread,
      View.ld_unit_zero (S := S16x2048) zeros2, View.ld_unit_zero (S := S16x512) zeros2]
  · rw [outsAt0_B m c t h0]
    dsimp only
    unfold out0_B_3
    rw [View.read_writes_eq_canon _ _ _ (fun y => cover0_B_3 c (y := y) ..)]
    unfold kernelRun0_B
    dsimp only
    sl_unfold_words
    rw [View.canon_unit_zero (S := S2048x512) zeros2]
    simp only [View.readAt_eq_ld, (hs0_0 t).read_unread, (hs0_1 t).read_unread, (hs0_2 t).read_unread,
      View.ld_unit_zero (S := S16x2048) zeros2, View.ld_unit_zero (S := S16x512) zeros2]

/-- The first point leaves its product in the activation's gradient. -/
theorem acc_first (c : Dev nD) (t : Fin cfg0.N) (h0 : t.val % 6 = 0) :
    (outsAt0 m c t.val t.isLt).2 = k0_pay3 (F := Ideal) (iblk m c 2 t) (k0_pay2 (F := Ideal)) (iblk m c 1 t) := by
  rw [outsAt0_A m c t h0]
  dsimp only
  unfold out0_A_4
  rw [View.read_writes_eq_canon _ _ _ (fun y => cover0_A_4 c (y := y) ..)]
  unfold kernelRun0_A
  dsimp only
  sl_unfold_words
  rw [View.canon_cons_unit_zero (S := S16x2048) zeros2, View.readCov_unit_zero (S := S16x2048) _ zeros2]
  simp only [View.readAt_eq_ld, (hs0_0 t).read_unread, (hs0_1 t).read_unread, (hs0_2 t).read_unread,
    View.ld_unit_zero (S := S2048x512) zeros2, View.ld_unit_zero (S := S16x512) zeros2]

/-- Every later point adds its product. -/
theorem acc_next (c : Dev nD) (t : Fin cfg0.N) (h0 : ¬t.val % 6 = 0) :
    (outsAt0 m c t.val t.isLt).2 = k0_pay3 (F := Ideal) (iblk m c 2 t)
      (outsAt0 m c (t.val - 1) (Nat.lt_of_le_of_lt (Nat.sub_le _ _) t.isLt)).2 (iblk m c 1 t) := by
  rw [outsAt0_B m c t h0]
  dsimp only
  unfold out0_B_4
  rw [View.read_writes_eq_canon _ _ _ (fun y => cover0_B_4 c (y := y) ..)]
  unfold kernelRun0_B
  dsimp only
  sl_unfold_words
  rw [View.canon_unit_zero (S := S16x2048) zeros2]
  simp only [View.readAt_eq_ld, (hs0_0 t).read_unread, (hs0_1 t).read_unread, (hs0_2 t).read_unread, (hs0_4 t).read_unread,
    View.ld_unit_zero (S := S2048x512) zeros2, View.ld_unit_zero (S := S16x512) zeros2, View.ld_unit_zero (S := S16x2048) zeros2]

/-- Where the windows' blocks lie at a grid point. -/
theorem places : ∀ t : Fin cfg0.N,
    win0_0.index t 0 = 0 ∧ win0_0.index t 1 = 0 ∧ win0_1.index t 0 = 0 ∧ win0_1.index t 1 = t.val ∧ win0_2.index t 0 = 0
    ∧ win0_2.index t 1 = t.val ∧ win0_3.index t 0 = 0 ∧ win0_3.index t 1 = t.val ∧ win0_4.index t 0 = 0 ∧ win0_4.index t 1 = 0 :=
  (by decide +kernel : ∀ t : Fin grid0.N, _)

/-- A point writes back its columns of the weight's gradient. -/
theorem flushed_weight (c : Dev nD) (t : Fin cfg0.N) (hf : (cfg0.win 3).flush t = true) :
    (dats m 0 c).flushed 3 t = ((cfg0.win 3).blk t).view.read (Elt Ideal)
      (weight (m ((c : Thread nD τ).loc main_arg0)) (m ((c : Thread nD τ).loc main_arg2))) := by
  have ht : t.val < 6 := t.isLt
  rw [Value.flushed3, out_weight m c t]
  obtain ⟨e00, e01, -, -, e20, e21, e30, e31, -, -⟩ := places t
  funext y
  have h0 : (y 0).val < 2048 := (y 0).isLt
  have h1 : (y 1).val < 512 := (y 1).isLt
  refine (weight_apply _ _ y).trans ?_
  have hb : iblk m c 0 t = m ((c : Thread nD τ).loc main_arg0) := by
    funext x
    refine congrArg (m ((c : Thread nD τ).loc main_arg0)) (funext fun a => Fin.ext ?_)
    match a with
    | ⟨0, _⟩ => show win0_0.index t 0 * 16 + 1 * (x 0).val = (x 0).val; omega
    | ⟨1, _⟩ => show win0_0.index t 1 * 2048 + 1 * (x 1).val = (x 1).val; omega
  rw [hb, View.read_apply]
  unfold weight
  refine Finset.sum_congr rfl fun k _ => ?_
  have hk := k.isLt
  refine congrArg₂ (· * ·) (congrArg (act _) (funext fun a => Fin.ext ?_))
    (congrArg (m ((c : Thread nD τ).loc main_arg2)) (funext fun a => Fin.ext ?_))
  · match a with
    | ⟨0, _⟩ => rfl
    | ⟨1, _⟩ => show (y 0).val = win0_3.index t 0 * 2048 + 1 * (y 0).val; omega
  · match a with
    | ⟨0, _⟩ => show win0_2.index t 0 * 16 + 1 * k.val = k.val; omega
    | ⟨1, _⟩ => show win0_2.index t 1 * 512 + 1 * (y 1).val = win0_3.index t 1 * 512 + 1 * (y 1).val; omega

/-- A point's share of an element of the activation's gradient. -/
def share (c : Dev nD) (y : S16x2048.Idx) (n : ℕ) (h : n < cfg0.N) : EReal :=
  blocks (iblk m c 2 ⟨n, h⟩) (iblk m c 1 ⟨n, h⟩) y

/-- The last point holds the sum of the six points' shares. -/
theorem acc_last (c : Dev nD) (y : S16x2048.Idx) (h : 6 * 0 + 5 < cfg0.N) :
    (outsAt0 m c (6 * 0 + 5) h).2 y = ∑ s : Fin 6, share m c y (6 * 0 + s.val) (by have := s.isLt; omega) :=
  Cert.Proof.gathered (T := 6) (fun n h => (outsAt0 m c n h).2 y) (share m c y)
    (fun n h hn => by
      rw [acc_first m c ⟨n, h⟩ hn]
      refine (step_apply _ _ _ y).trans ?_
      rw [zero_apply, zero_add]
      rfl)
    (fun n h hn => by
      rw [acc_next m c ⟨n, h⟩ hn]
      exact step_apply _ _ _ y) 0 5 (by decide) h

/-- The last point writes back the activation's gradient. -/
theorem flushed_active (c : Dev nD) (t : Fin cfg0.N) (hf : (cfg0.win 4).flush t = true) :
    (dats m 0 c).flushed 4 t = ((cfg0.win 4).blk t).view.read (Elt Ideal)
      (active (m ((c : Thread nD τ).loc main_arg1)) (m ((c : Thread nD τ).loc main_arg2))) := by
  have h1 : t.val % 6 = 5 := (flush0_4 t).mp hf
  have ht : t.val < 6 := t.isLt
  rw [Value.flushed4]
  obtain ⟨n, hn⟩ := t
  obtain rfl : n = 6 * 0 + 5 := by dsimp only at h1 ht; omega
  obtain ⟨-, -, -, -, -, -, -, -, e40, e41⟩ := places ⟨6 * 0 + 5, hn⟩
  funext y
  have h0 : (y 0).val < 16 := (y 0).isLt
  have h1 : (y 1).val < 2048 := (y 1).isLt
  refine (acc_last m c y hn).trans ?_
  rw [View.read_apply]
  unfold active
  rw [Fin.sum_univ_tiles 6 512 rfl]
  refine Finset.sum_congr rfl fun s _ => ?_
  unfold share blocks
  refine Finset.sum_congr rfl fun k _ => ?_
  have hs := s.isLt
  have hk := k.isLt
  obtain ⟨-, -, e10, e11, e20, e21, -, -, -, -⟩ := places ⟨6 * 0 + s.val, Nat.lt_of_le_of_lt (by omega) hn⟩
  dsimp only at e10 e11 e20 e21 e40 e41
  refine congrArg₂ (· * ·) (congrArg (m ((c : Thread nD τ).loc main_arg2)) (funext fun a => Fin.ext ?_))
    (congrArg (m ((c : Thread nD τ).loc main_arg1)) (funext fun a => Fin.ext ?_))
  · match a with
    | ⟨0, _⟩ => show win0_2.index ⟨6 * 0 + s.val, _⟩ 0 * 16 + 1 * (y 0).val = win0_4.index ⟨6 * 0 + 5, hn⟩ 0 * 16 + 1 * (y 0).val; omega
    | ⟨1, _⟩ => show win0_2.index ⟨6 * 0 + s.val, _⟩ 1 * 512 + 1 * k.val = s.val * 512 + k.val; omega
  · match a with
    | ⟨0, _⟩ => show win0_1.index ⟨6 * 0 + s.val, _⟩ 0 * 2048 + 1 * (y 1).val = win0_4.index ⟨6 * 0 + 5, hn⟩ 1 * 2048 + 1 * (y 1).val; omega
    | ⟨1, _⟩ => show win0_1.index ⟨6 * 0 + s.val, _⟩ 1 * 512 + 1 * k.val = s.val * 512 + k.val; omega

/-- Every element of the weight's gradient lies in the columns of some grid point. -/
theorem cover_weight (i : S2048x3072.Idx) : ∃ t : Fin cfg0.N, (cfg0.win 3).flush t = true ∧ i ∈ ((cfg0.win 3).blk t).view.set := by
  have h0 : (i 0).val < 2048 := (i 0).isLt
  have h1 : (i 1).val < 3072 := (i 1).isLt
  let t : Fin cfg0.N := ⟨(i 1).val / 512, by show _ < 6; omega⟩
  have ht : t.val = (i 1).val / 512 := rfl
  refine ⟨t, flush0_3 t, ?_⟩
  show i ∈ ((View.whole main_v0_0).slice (win0_3.rect t)).set
  rw [View.set_slice_whole, Rect.mem_set_unit]
  obtain ⟨-, -, -, -, -, -, e30, e31, -, -⟩ := places t
  intro a
  match a with
  | ⟨0, _⟩ => show win0_3.index t 0 * 2048 ≤ (i 0).val ∧ (i 0).val < win0_3.index t 0 * 2048 + 2048; omega
  | ⟨1, _⟩ => show win0_3.index t 1 * 512 ≤ (i 1).val ∧ (i 1).val < win0_3.index t 1 * 512 + 512; omega

/-- The last point's block is the whole of the activation's gradient. -/
theorem cover_active (i : S16x2048.Idx) : ∃ t : Fin cfg0.N, (cfg0.win 4).flush t = true ∧ i ∈ ((cfg0.win 4).blk t).view.set := by
  have h0 : (i 0).val < 16 := (i 0).isLt
  have h1 : (i 1).val < 2048 := (i 1).isLt
  let t : Fin cfg0.N := ⟨5, by decide⟩
  refine ⟨t, (flush0_4 t).mpr rfl, ?_⟩
  show i ∈ ((View.whole main_v0_1).slice (win0_4.rect t)).set
  rw [View.set_slice_whole, Rect.mem_set_unit]
  obtain ⟨-, -, -, -, -, -, -, -, e40, e41⟩ := places t
  intro a
  match a with
  | ⟨0, _⟩ => show win0_4.index t 0 * 16 ≤ (i 0).val ∧ (i 0).val < win0_4.index t 0 * 16 + 16; omega
  | ⟨1, _⟩ => show win0_4.index t 1 * 2048 ≤ (i 1).val ∧ (i 1).val < win0_4.index t 1 * 2048 + 2048; omega

/-- The run leaves the two gradients in the result arrays. -/
theorem final_weight (c : Dev nD) : (dats m 0 c).arrAt 3 cfg0.N
    = weight (m ((c : Thread nD τ).loc main_arg0)) (m ((c : Thread nD τ).loc main_arg2)) :=
  (dats m 0 c).arrAt_eq_of_cover 3 _ (flushed_weight m c) cover_weight

theorem final_active (c : Dev nD) : (dats m 0 c).arrAt 4 cfg0.N
    = active (m ((c : Thread nD τ).loc main_arg1)) (m ((c : Thread nD τ).loc main_arg2)) :=
  (dats m 0 c).arrAt_eq_of_cover 4 _ (flushed_active m c) cover_active

end Cert.AdaBIdeal.Product

namespace Cert.AdaBRefIdeal.Product

open Cert.AdaBRefIdeal Cert.AdaBRefIdeal.Gen Cert.AdaBRefIdeal.Read

/-- The host's activation. -/
theorem act_value (cs : FVec Ideal S16x2048 .f32) : val_main_v0 (F := Ideal) cs = Cert.AdaBIdeal.Product.act cs := by
  funext y
  unfold Cert.AdaBIdeal.Product.act
  simp only [val_main_v0_apply, val_main_call0_v5_apply, val_main_call0_v4_apply, val_main_call0_v3_apply]
  pointwise [val_main_call0_cst_0, val_main_call0_v2, val_main_call0_cst, val_main_call0_v1, val_main_call0_v0]

/-- The host's gradients, element by element. -/
theorem weight_value (cs : FVec Ideal S16x2048 .f32) (d : FVec Ideal S16x3072 .f32) :
    val_main_v3 (F := Ideal) cs d = Cert.AdaBIdeal.Product.weight cs d := by
  funext i
  rw [val_main_v3_apply, val_main_v2_apply]
  refine Finset.sum_congr rfl fun k _ => ?_
  rw [mul_comm, act_value]
  refine congrArg₂ (· * ·) (congrArg (Cert.AdaBIdeal.Product.act cs) (funext fun a => Fin.ext ?_)) (congrArg d (funext fun a => Fin.ext ?_))
  · match a with
    | ⟨0, _⟩ => rfl
    | ⟨1, _⟩ => rfl
  · match a with
    | ⟨0, _⟩ => rfl
    | ⟨1, _⟩ => rfl

theorem active_value (w : FVec Ideal S2048x3072 .f32) (d : FVec Ideal S16x3072 .f32) :
    val_main_v4 (F := Ideal) w d = Cert.AdaBIdeal.Product.active w d := by
  funext i
  refine (val_main_v4_apply w d i).trans (Finset.sum_congr rfl fun k _ => ?_)
  refine congrArg₂ (· * ·) (congrArg d (funext fun a => Fin.ext ?_)) (congrArg w (funext fun a => Fin.ext ?_))
  · match a with
    | ⟨0, _⟩ => rfl
    | ⟨1, _⟩ => rfl
  · match a with
    | ⟨0, _⟩ => rfl
    | ⟨1, _⟩ => rfl

end Cert.AdaBRefIdeal.Product

namespace Cert.Proof

/-- `ada_bwd` computes the gradients of the modulation's projection. -/
theorem algebraic_AdaB : Cert.algebraic_AdaBIdeal_AdaBRefIdeal (hAdaBIdeal := Cert.AdaBIdeal.Gen.facts)
    (hAdaBRefIdeal := Cert.AdaBRefIdeal.Gen.facts) := by
  intro m g m' g' _ hargs
  refine ⟨fun c => Cert.AdaBIdeal.Product.weight (m ((c.tc : Thread Cert.AdaBIdeal.nD Cert.AdaBIdeal.τ).loc Cert.AdaBIdeal.main_arg0))
      (m ((c.tc : Thread Cert.AdaBIdeal.nD Cert.AdaBIdeal.τ).loc Cert.AdaBIdeal.main_arg2)),
    fun c => Cert.AdaBIdeal.Product.active (m ((c.tc : Thread Cert.AdaBIdeal.nD Cert.AdaBIdeal.τ).loc Cert.AdaBIdeal.main_arg1))
      (m ((c.tc : Thread Cert.AdaBIdeal.nD Cert.AdaBIdeal.τ).loc Cert.AdaBIdeal.main_arg2)), ?_, ?_⟩
  · exact (θ_run _ _ _).mono (fun _ h c => ⟨(h c).1.trans (Cert.AdaBIdeal.Product.final_weight m c),
      (h c).2.1.trans (Cert.AdaBIdeal.Product.final_active m c), (h c).2.2⟩) (Cert.AdaBIdeal.Value.run_blocks m g)
  · refine (θ_run _ _ _).mono (fun _ h c => ⟨(h c).1.trans ?_, (h c).2.1.trans ?_, (h c).2.2⟩) (Cert.AdaBRefIdeal.Value.run m' g')
    · rw [(hargs c).1, (hargs c).2.2]
      exact (Cert.AdaBRefIdeal.Read.val_main_v3_eq _ _).trans (Cert.AdaBRefIdeal.Product.weight_value _ _)
    · rw [(hargs c).2.1, (hargs c).2.2]
      exact (Cert.AdaBRefIdeal.Read.val_main_v4_eq _ _).trans (Cert.AdaBRefIdeal.Product.active_value _ _)

end Cert.Proof

end
-- ==== Proof.CCtx.Value.lean ====
/-
  `grad_c_ctx`, the gradient of the context's condition: the sum of the four chips' rows times the slope of silu. The
  kernel multiplies the sum by the slope in one piece, the host reference by its two terms, and a finite sum goes over them.
-/
module

public import proofs.«01_k».proof.Defs
public import proofs.«01_k».proof.Proof.Gen.CCtxIdeal.Value
public import proofs.«01_k».proof.Proof.Gen.CCtxRefIdeal.Run
public import proofs.«01_k».proof.Proof.Gen.CCtxRefIdeal.Read
public import proofs.«01_k».proof.Proof.Gen.Pre_finite_rows
public import Idealize.ShloMosaic.Lib.Pipeline.Value
public import Idealize.ShloMosaic.Lib.Pointwise
public import Idealize.ShloMosaic.Lib.ReduceAll

@[expose] public section

noncomputable section

open Idealize.ShloMosaic Idealize.ShloMosaic.TcCoe Idealize.SL.Sem Idealize.ShloMosaic.StableHlo

namespace Cert.Proof.Slope

/-- The sigmoid. -/
def sigmoid (t : EReal) : EReal := Ideal.div 1 (1 + Ideal.exp (0 - t))

theorem sigmoid_top : sigmoid ⊤ = 1 := by
  unfold sigmoid
  rw [show (0 : EReal) - ⊤ = ⊥ from rfl, Ideal.exp_bot, add_zero, Ideal.div, if_neg one_ne_zero, inv_one, mul_one]

theorem sigmoid_bot : sigmoid ⊥ = 0 := by
  unfold sigmoid
  rw [show (0 : EReal) - ⊥ = ⊤ from rfl, Ideal.exp_top, show (1 : EReal) + ⊤ = ⊤ from rfl, Ideal.div,
    if_neg EReal.top_ne_zero, EReal.inv_top, mul_zero]

theorem sigmoid_coe (t : ℝ) : sigmoid t = ((1 / (1 + Real.exp (-t)) : ℝ) : EReal) := by
  have h : 1 + Real.exp (-t) ≠ 0 := by positivity
  unfold sigmoid
  rw [show (0 : EReal) - (t : EReal) = ((-t : ℝ) : EReal) by rw [zero_sub, EReal.coe_neg], Ideal.exp_coe,
    show (1 : EReal) + ((Real.exp (-t) : ℝ) : EReal) = ((1 + Real.exp (-t) : ℝ) : EReal) by rw [EReal.coe_add, EReal.coe_one],
    Ideal.div_coe h, one_mul]

/-- The kernel's slope of silu. -/
def siluSlope (t : EReal) : EReal := sigmoid t * (1 + t * (1 - sigmoid t))

/-- A finite factor goes over the two terms. -/
theorem split (r : ℝ) (t : EReal) : (r : EReal) * sigmoid t + t * r * (sigmoid t * (1 - sigmoid t)) = (r : EReal) * siluSlope t := by
  unfold siluSlope
  induction t with
  | bot => rw [sigmoid_bot, zero_mul, zero_mul, mul_zero, mul_zero, add_zero]
  | top =>
    rw [sigmoid_top, show (1 : EReal) - 1 = 0 by rw [← EReal.coe_one, ← EReal.coe_sub, sub_self, EReal.coe_zero], mul_zero, mul_zero,
      mul_zero, add_zero, add_zero, one_mul]
  | coe t =>
    rw [sigmoid_coe]
    generalize 1 / (1 + Real.exp (-t)) = s
    norm_cast
    congr 1
    ring

/-- Four finite numbers have a finite sum. -/
theorem sum_coe (f : Fin 4 → EReal) (h : ∀ k, ∃ r : ℝ, f k = r) : ∃ r : ℝ, ∑ k : Fin 4, f k = r := by
  choose g hg using h
  exact ⟨∑ k : Fin 4, g k, by rw [Finset.sum_congr rfl fun k _ => hg k, Fin.sum_univ_four, Fin.sum_univ_four]; norm_cast⟩

/-- The pattern of infinity. -/
theorem inf_eq : (FloatOps.ofBits .f32 0x7F800000#32 : Ideal .f32) = ⊤ := by
  show Ideal.ieee 8 23 0x7F800000#32 = ⊤
  have e : (BitVec.extractLsb' 23 8 (0x7F800000#32)).toNat = 2 ^ 8 - 1 := by decide
  have f : (BitVec.extractLsb' 0 23 (0x7F800000#32)).toNat = 0 := by decide
  have s : (BitVec.extractLsb' (8 + 23) 1 (0x7F800000#32) == 1#1) = false := by decide
  unfold Ideal.ieee
  simp only [e, f, s, if_true, Bool.false_eq_true, if_false]

/-- Under the precondition every element of the rows is finite. -/
theorem finite (x : FVec Ideal Pre_finite_rows.S4x2048 .f32) (y : FVec Ideal Pre_finite_rows.S2048 .f32)
    (h : Pre_finite_rows.fn (F := Ideal) x y = fun _ => 1#1) (i : Pre_finite_rows.S4x2048.Idx) :
    ∃ r : ℝ, x i = r := by
  have e := Host.reduce_andi_all _ _ _ _ (fun a => a.elim0) (congrFun h (fun a => a.elim0)) i
  have lt : max (x i) (-x i) < ⊤ := by
    have e' : BitVec.ofBool (decide (max (x i) (-x i) < FloatOps.ofBits (F := Ideal) .f32 0x7F800000#32)) = 1#1 := e
    rw [inf_eq] at e'
    by_contra hn
    rw [decide_eq_false hn] at e'
    exact absurd e' (by decide)
  have ht : x i ≠ ⊤ := fun h' => absurd (lt_of_le_of_lt (le_max_left _ _) lt) (by rw [h']; exact lt_irrefl _)
  have hb : x i ≠ ⊥ := fun h' => absurd (lt_of_le_of_lt (le_max_right _ _) lt) (by rw [h', EReal.neg_bot]; exact lt_irrefl _)
  exact ⟨(x i).toReal, (EReal.coe_toReal ht hb).symm⟩

end Cert.Proof.Slope

namespace Cert.CCtxIdeal.Update

open Cert.CCtxIdeal Cert.CCtxIdeal.Gen Cert.Proof.Slope

variable (m : (ℓ : Loc nD τ sig) → Buf (Elt Ideal) ℓ) (ρ : Dev nD → PrngReg)

/-- The sum of the four rows times the slope. -/
def gradient (x : FVec Ideal S4x2048 .f32) (t : FVec Ideal S2048 .f32) : FVec Ideal S1x2048 .f32 := fun i =>
  (∑ k : Fin 4, x (ix2 k (i 1))) * siluSlope (t (ix1 (i 1)))

/-- The rows as the kernel reads them, four more under them. -/
theorem rows_apply (c : Dev nD) (k : Fin 4) (l : Fin 2048) :
    V m c main_v1 (ix2 ⟨k.val, by omega⟩ l) = m ((c : Thread nD τ).loc main_arg0) (ix2 k l) := by
  have e : V m c main_v1 = concatenate S8x2048 0 [⟨S4x2048, m ((c : Thread nD τ).loc main_arg0)⟩,
      ⟨S4x2048, broadcastInDim S4x2048 ![] bcast_S_S4x2048 (constant S_ .f32 0x00000000#32 : FVec Ideal S_ .f32)⟩]
      concatenates_S4x2048_S4x2048_S8x2048_d0 := by
    unfold_abbrev_sides
    after_results
  rw [e]
  exact concatenate_pair_apply_left (t := S8x2048) (s₁ := S4x2048) (s₂ := S4x2048) 0 _ _ _ _ rfl (ix2 k l) (fun a => match a with | ⟨0, _⟩ => rfl | ⟨1, _⟩ => rfl)

theorem cond_apply (c : Dev nD) (l : Fin 2048) (z : Fin 1) :
    V m c main_v2 (ix2 z l) = m ((c : Thread nD τ).loc main_arg1) (ix1 l) := by
  have e : V m c main_v2 = broadcastInDim S1x2048 ![1] bcast_S2048_S1x2048_1 (m ((c : Thread nD τ).loc main_arg1)) := by
    unfold_abbrev_sides
    after_results
  rw [e]
  exact broadcastInDim_apply _ bcast_S2048_S1x2048_1 _ _ (ix1 l) (fun a => match a with
    | ⟨0, _⟩ => by show l.val = if (2048 : Nat) = 1 then 0 else l.val; rw [if_neg (by decide)])

/-- The one grid point reads the whole arrays and writes the whole result. -/
theorem read_rows (X : S8x2048.Idx → EReal) (t : Fin cfg0.N) : ((cfg0.win 0).blk t).view.read (Elt Ideal) X = X := by
  obtain ⟨n, hn⟩ := t
  obtain rfl : n = 0 := Nat.lt_one_iff.1 hn
  funext y
  refine congrArg X (funext fun a => Fin.ext ?_)
  match a with
  | ⟨0, _⟩ => show 0 * 8 + 1 * (y 0).val = (y 0).val; omega
  | ⟨1, _⟩ => show 0 * 2048 + 1 * (y 1).val = (y 1).val; omega

theorem read_cond (X : S1x2048.Idx → EReal) (t : Fin cfg0.N) : ((cfg0.win 1).blk t).view.read (Elt Ideal) X = X := by
  obtain ⟨n, hn⟩ := t
  obtain rfl : n = 0 := Nat.lt_one_iff.1 hn
  funext y
  refine congrArg X (funext fun a => Fin.ext ?_)
  match a with
  | ⟨0, _⟩ => show 0 * 1 + 1 * (y 0).val = (y 0).val; omega
  | ⟨1, _⟩ => show 0 * 2048 + 1 * (y 1).val = (y 1).val; omega

theorem result_whole (X : S1x2048.Idx → EReal) (t : Fin cfg0.N) : ((cfg0.win 2).blk t).view.read (Elt Ideal) X = X := by
  obtain ⟨n, hn⟩ := t
  obtain rfl : n = 0 := Nat.lt_one_iff.1 hn
  funext y
  refine congrArg X (funext fun a => Fin.ext ?_)
  match a with
  | ⟨0, _⟩ => show 0 * 1 + 1 * (y 0).val = (y 0).val; omega
  | ⟨1, _⟩ => show 0 * 2048 + 1 * (y 1).val = (y 1).val; omega

/-- The kernel's result, element by element. -/
theorem out_apply (x : Vec Ideal S8x2048 .f32) (t : Vec Ideal S1x2048 .f32) (i : S1x2048.Idx) :
    out0_2 (F := Ideal) x t i
      = (∑ k : Fin 4, x (ix2 (⟨k.val, by omega⟩ : Fin 8) (i 1))) * siluSlope (t (ix2 (0 : Fin 1) (i 1))) := by
  unfold out0_2
  rw [Value.canon2_eq]
  have e (b : Nat) (hb : b < 8) (inb) (y : S1x2048.Idx) (h1 : (y 1).val = (i 1).val) :
      View.ld x (Rect.unit (s := S8x2048) ![b, 0] S1x2048.size inb) y = x (ix2 (⟨b, hb⟩ : Fin 8) (i 1)) := by
    have h0 : (y 0).val < 1 := (y 0).isLt
    refine congrArg x (funext fun a => Fin.ext ?_)
    match a with
    | ⟨0, _⟩ => show b + 1 * (y 0).val = b; omega
    | ⟨1, _⟩ => show 0 + 1 * (y 1).val = (i 1).val; omega
  have f (inb) (y : S1x2048.Idx) (h1 : (y 1).val = (i 1).val) :
      View.ld t (Rect.unit (s := S1x2048) ![0, 0] S1x2048.size inb) y = t (ix2 (0 : Fin 1) (i 1)) := by
    have h0 : (y 0).val < 1 := (y 0).isLt
    refine congrArg t (funext fun a => Fin.ext ?_)
    match a with
    | ⟨0, _⟩ => show 0 + 1 * (y 0).val = 0; omega
    | ⟨1, _⟩ => show 0 + 1 * (y 1).val = (i 1).val; omega
  have one : (Scalar.ofBits .f32 0x3F800000#32 : Ideal .f32) = 1 := by pointwise
  have zero : (Scalar.ofBits .f32 0x00000000#32 : Ideal .f32) = 0 := by pointwise
  unfold siluSlope sigmoid
  rw [Fin.sum_univ_four]
  unfold Value.E2
  rw [show View.ld x r0_1 (Value.ix2_0 i) = _ from e 0 (by omega) _ _ rfl, show View.ld x r0_2 (Value.ix2_1 i) = _ from e 1 (by omega) _ _ rfl,
    show View.ld x r0_3 (Value.ix2_2 i) = _ from e 2 (by omega) _ _ rfl, show View.ld x r0_4 (Value.ix2_3 i) = _ from e 3 (by omega) _ _ rfl,
    show View.ld t r0_0 (Value.ix2_4 i) = _ from f _ _ rfl, one, zero]
  rfl

theorem flushed_gradient (c : Dev nD) (t : Fin cfg0.N) :
    (dats m 0 c).flushed 2 t = ((cfg0.win 2).blk t).view.read (Elt Ideal)
      (gradient (m ((c : Thread nD τ).loc main_arg0)) (m ((c : Thread nD τ).loc main_arg1))) := by
  rw [Value.flushed2, result_whole]
  have e : iblk m c 0 t = V m c main_v1 := read_rows _ t
  have f : iblk m c 1 t = V m c main_v2 := read_cond _ t
  rw [e, f]
  funext i
  exact (out_apply _ _ i).trans (congrArg₂ (fun s w => s * siluSlope w) (Finset.sum_congr rfl fun k _ => rows_apply m c k (i 1))
    (cond_apply m c (i 1) 0))

theorem cover (i : S1x2048.Idx) : ∃ t : Fin cfg0.N, i ∈ (win0_2.rect t).set := by
  have h0 : (i 0).val < 1 := (i 0).isLt
  have h1 : (i 1).val < 2048 := (i 1).isLt
  refine ⟨⟨0, by decide⟩, ?_⟩
  rw [Rect.mem_set_unit]
  intro a
  match a with
  | ⟨0, _⟩ => show 0 * 1 ≤ (i 0).val ∧ (i 0).val < 0 * 1 + 1; omega
  | ⟨1, _⟩ => show 0 * 2048 ≤ (i 1).val ∧ (i 1).val < 0 * 2048 + 2048; omega

theorem final (c : Dev nD) : (dats m 0 c).arrAt 2 cfg0.N
    = gradient (m ((c : Thread nD τ).loc main_arg0)) (m ((c : Thread nD τ).loc main_arg1)) :=
  (dats m 0 c).arrAt_eq_of_cover 2 _ (fun t _ => flushed_gradient m c t) fun i =>
    let ⟨t, h⟩ := cover i
    ⟨t, flush0_2 t, by show i ∈ ((View.whole main_v3).slice (win0_2.rect t)).set; rw [View.set_slice_whole]; exact h⟩

end Cert.CCtxIdeal.Update

namespace Cert.CCtxRefIdeal.Update

open Cert.CCtxRefIdeal Cert.CCtxRefIdeal.Gen Cert.CCtxRefIdeal.Read Cert.Proof.Slope

/-- The host's sigmoid. -/
theorem sigmoid_apply (t : FVec Ideal S2048 .f32) (i : S2048.Idx) : val_main_v0_2 (F := Ideal) t i = sigmoid (t i) := by
  unfold sigmoid
  rw [zero_sub]
  pointwise [val_main_v0_2, val_main_call0_v4, val_main_call0_cst_0, val_main_call0_v3, val_main_call0_v2, val_main_call0_cst,
    val_main_call0_v1, val_main_call0_v0]

theorem rest_apply (t : FVec Ideal S2048 .f32) (i : S2048.Idx) : val_main_v0_1 (F := Ideal) t i = sigmoid (t i) * (1 - sigmoid (t i)) := by
  rw [val_main_v0_1_apply, val_main_call0_v7_apply, sigmoid_apply, val_main_call0_v6_apply, val_main_call0_cst_1_apply]
  pointwise

/-- The host's sum of the rows. -/
theorem sum_apply (x : FVec Ideal S4x2048 .f32) (i : S2048.Idx) :
    val_main_v1 (F := Ideal) x i = ∑ k : Fin 4, x (ix2 k (i 0)) := by
  have z : val_main_cst (F := Ideal) (Shape.Idx.first h_S_) = (0 : EReal) := by pointwise [val_main_cst]
  rw [val_main_v1_apply, z, zero_add]
  exact Finset.sum_congr rfl fun k _ => congrArg x (funext fun a => match a with | ⟨0, _⟩ => rfl | ⟨1, _⟩ => rfl)

theorem value_gradient (x : FVec Ideal S4x2048 .f32) (t : FVec Ideal S2048 .f32) (h : ∀ i, ∃ r : ℝ, x i = r) :
    val_main_v3 (F := Ideal) x t = Cert.CCtxIdeal.Update.gradient x t := by
  funext i
  obtain ⟨r, hr⟩ := sum_coe (fun k => x (ix2 k (i 1))) fun k => h _
  rw [val_main_v3_apply, val_main_v2_apply, val_main_call1_v1_apply, val_main_call1_v2_apply, val_main_call1_v0_apply,
    sum_apply, sigmoid_apply, rest_apply]
  unfold Cert.CCtxIdeal.Update.gradient
  rw [hr, ← split]
  have e : ∑ k : Fin 4, x (ix2 k (idx_main_v3 i 0)) = r := hr
  rw [e, show idx_main_v3 i = ix1 (i 1) from funext fun a => match a with | ⟨0, _⟩ => rfl]
  rfl

end Cert.CCtxRefIdeal.Update

namespace Cert.Proof

theorem algebraic_CCtx : Cert.algebraic_CCtxIdeal_CCtxRefIdeal_pre_finite_rows (hCCtxIdeal := Cert.CCtxIdeal.Gen.facts)
    (hCCtxRefIdeal := Cert.CCtxRefIdeal.Gen.facts) (hPre_finite_rows := Cert.Pre_finite_rows.Gen.facts) := by
  intro m g m' g' hpre hargs
  refine ⟨fun c => Cert.CCtxIdeal.Update.gradient (m ((c.tc : Thread Cert.CCtxIdeal.nD Cert.CCtxIdeal.τ).loc Cert.CCtxIdeal.main_arg0))
      (m ((c.tc : Thread Cert.CCtxIdeal.nD Cert.CCtxIdeal.τ).loc Cert.CCtxIdeal.main_arg1)), ?_, ?_⟩
  · exact (θ_run _ _ _).mono (fun _ h c => ⟨(h c).1.trans (Cert.CCtxIdeal.Update.final m c), (h c).2⟩) (Cert.CCtxIdeal.Value.run_blocks m g)
  · refine (θ_run _ _ _).mono (fun _ h c => ⟨(h c).1.trans ?_, (h c).2⟩) (Cert.CCtxRefIdeal.Value.run m' g')
    rw [(hargs c).1, (hargs c).2]
    exact (Cert.CCtxRefIdeal.Read.val_main_v3_eq _ _).trans (Cert.CCtxRefIdeal.Update.value_gradient _ _ (Slope.finite _ _ (hpre c)))

end Cert.Proof

end
-- ==== Proof.Packing.lean ====
/-
  Arrays laid end to end: padding, reshaping and joining move elements and never combine them, so a function of the
  elements may be applied before or after; and joining along the second axis is joining each row.
-/
module

public import Idealize.ShloMosaic.Lib.Pipeline.Value
public import Idealize.ShloMosaic.Lib.KernelVsHost
public import Idealize.ShloMosaic.Lib.Pointwise

@[expose] public section

noncomputable section

open Idealize.ShloMosaic

namespace Cert.Proof.Packing

variable {α β : Type}

/-- A piece of a joined array, and the piece with a function applied to every element. -/
abbrev Piece (α : Type) : Type := (s : Shape) × (s.Idx → α)

def Piece.map (f : α → β) (p : Piece α) : Piece β := ⟨p.1, fun i => f (p.2 i)⟩

theorem concatenateAt_map (f : α → β) {t : Shape} (a : Fin t.rank) (j : t.Idx) :
    ∀ (xs : List (Piece α)) (hs : ∀ s ∈ xs.map (·.1), s.FitsOff t a)
      (hs' : ∀ s ∈ (xs.map (Piece.map f)).map (·.1), s.FitsOff t a) (c : Nat) (hc : c < (axisSizes t a xs).sum)
      (hc' : c < (axisSizes t a (xs.map (Piece.map f))).sum),
      concatenateAt t a j (xs.map (Piece.map f)) hs' c hc' = f (concatenateAt t a j xs hs c hc)
  | [], _, _, _, hc, _ => absurd hc (Nat.not_lt_zero _)
  | [p], hs, hs', c, hc, hc' => by
    simp only [List.map_cons, List.map_nil, Piece.map, concatenateAt]
  | p :: q :: xs, hs, hs', c, hc, hc' => by
    refine (concatenateAt_cons a j (fun i => f (p.2 i)) (Piece.map f q) (xs.map (Piece.map f)) hs' c hc').trans
      (.trans ?_ (congrArg f (concatenateAt_cons a j p.2 q xs hs c hc)).symm)
    by_cases hlt : c < p.1.size (a.cast (hs p.1 List.mem_cons_self).rank_eq.symm)
    · rw [dif_pos hlt, dif_pos hlt]
    · rw [dif_neg hlt, dif_neg hlt]
      exact concatenateAt_map f a j (q :: xs) _ _ _ _ _

/-- A function of the elements may be applied before or after joining. -/
theorem concatenate_map (f : α → β) {t : Shape} (a : Fin t.rank) (xs : List (Piece α))
    (h : Shape.Concatenates (xs.map (·.1)) t a) (h' : Shape.Concatenates ((xs.map (Piece.map f)).map (·.1)) t a) (j : t.Idx) :
    concatenate t a (xs.map (Piece.map f)) h' j = f (concatenate t a xs h j) := by
  rw [concatenate_apply, concatenate_apply]
  exact concatenateAt_map f a j xs _ _ _ _ _

/-- A function of the elements may be applied before or after padding. -/
theorem pad_map (f : α → β) {s t u : Shape} (lo hi interior : Fin s.rank → Nat) (x : s.Idx → α) (v : u.Idx → α) (v' : u.Idx → β)
    (hv : ∀ i, v' i = f (v i)) (h : s.Pads lo hi interior t) (hu : 0 < u.numel) :
    pad t lo hi interior (fun i => f (x i)) v' h hu = fun j => f (pad t lo hi interior x v h hu j) := by
  funext j
  unfold pad
  split
  · rfl
  · exact hv _

/-- The arrays of `B` rows of length `n`, and of length `n`. -/
abbrev rows (B n : Nat) : Shape := ⟨2, ![B, n]⟩
abbrev flat (n : Nat) : Shape := ⟨1, ![n]⟩

/-- An array of `B` rows, as the pieces of the joined rows, and its row `b`. -/
abbrev Rows (B : Nat) (α : Type) : Type := (n : Nat) × ((rows B n).Idx → α)

def Rows.whole {B : Nat} (x : Rows B α) : Piece α := ⟨rows B x.1, x.2⟩
def Rows.row {B : Nat} (b : Fin B) (x : Rows B α) : Piece α := ⟨flat x.1, fun i => x.2 (ix2 b (i 0))⟩

theorem concatenateAt_rows {B N : Nat} (b : Fin B) (j : Fin N) :
    ∀ (xs : List (Rows B α)) (hs : ∀ s ∈ (xs.map Rows.whole).map (·.1), s.FitsOff (rows B N) 1)
      (hs' : ∀ s ∈ (xs.map (Rows.row b)).map (·.1), s.FitsOff (flat N) 0) (c : Nat)
      (hc : c < (axisSizes (rows B N) 1 (xs.map Rows.whole)).sum)
      (hc' : c < (axisSizes (flat N) 0 (xs.map (Rows.row b))).sum),
      concatenateAt (rows B N) 1 (ix2 b j) (xs.map Rows.whole) hs c hc
        = concatenateAt (flat N) 0 (ix1 j) (xs.map (Rows.row b)) hs' c hc'
  | [], _, _, _, hc, _ => absurd hc (Nat.not_lt_zero _)
  | [p], hs, hs', c, hc, hc' => by
    simp only [List.map_cons, List.map_nil, Rows.whole, Rows.row, concatenateAt]
    refine congrArg p.2 (funext fun x => Fin.ext ?_)
    match x with
    | ⟨0, _⟩ => rfl
    | ⟨1, _⟩ => rfl
  | p :: q :: xs, hs, hs', c, hc, hc' => by
    refine (concatenateAt_cons (t := rows B N) 1 (ix2 b j) p.2 (Rows.whole q) (xs.map Rows.whole) hs c hc).trans
      (.trans ?_ (concatenateAt_cons (t := flat N) 0 (ix1 j) (fun i : (flat p.1).Idx => p.2 (ix2 b (i 0))) (Rows.row b q)
        (xs.map (Rows.row b)) hs' c hc').symm)
    by_cases hlt : c < p.1
    · rw [dif_pos (by exact hlt), dif_pos (by exact hlt)]
      refine congrArg p.2 (funext fun x => Fin.ext ?_)
      match x with
      | ⟨0, _⟩ => rfl
      | ⟨1, _⟩ => rfl
    · rw [dif_neg (by exact hlt), dif_neg (by exact hlt)]
      exact concatenateAt_rows b j (q :: xs) _ _ _ _ _

/-- Joining along the second axis joins each row. -/
theorem concatenate_rows {B N : Nat} (xs : List (Rows B α))
    (h : Shape.Concatenates ((xs.map Rows.whole).map (·.1)) (rows B N) 1) (b : Fin B)
    (h' : Shape.Concatenates ((xs.map (Rows.row b)).map (·.1)) (flat N) 0) (j : Fin N) :
    concatenate (rows B N) 1 (xs.map Rows.whole) h (ix2 b j)
      = concatenate (flat N) 0 (xs.map (Rows.row b)) h' (ix1 j) := by
  rw [concatenate_apply, concatenate_apply]
  exact concatenateAt_rows b j xs _ _ _ _ _

/-- Padding every row at its end pads each row. -/
theorem pad_rows {B n p N : Nat} {u : Shape} (x : (rows B n).Idx → α) (v : u.Idx → α)
    (h : (rows B n).Pads ![0, 0] ![0, p] ![0, 0] (rows B N)) (h' : (flat n).Pads ![0] ![p] ![0] (flat N)) (hu : 0 < u.numel)
    (b : Fin B) (j : Fin N) :
    pad (rows B N) ![0, 0] ![0, p] ![0, 0] x v h hu (ix2 b j)
      = pad (flat N) ![0] ![p] ![0] (fun i : (flat n).Idx => x (ix2 b (i 0))) v h' hu (ix1 j) := by
  by_cases hj : j.val < n
  · rw [pad_apply_of_inside _ _ _ _ _ _ _ _ (ix2 b ⟨j.val, hj⟩) (fun a => ?_),
      pad_apply_of_inside _ _ _ _ _ _ _ _ (ix1 ⟨j.val, hj⟩) (fun a => ?_)]
    · rfl
    · match a with
      | ⟨0, _⟩ => show j.val = 0 + j.val * 1; omega
    · match a with
      | ⟨0, _⟩ => show b.val = 0 + b.val * 1; omega
      | ⟨1, _⟩ => show j.val = 0 + j.val * 1; omega
  · rw [pad_apply_of_not_inside _ _ _ _ _ _ _ _ 1 (fun hk => hj ?_), pad_apply_of_not_inside _ _ _ _ _ _ _ _ 0 (fun hk => hj ?_)]
    · have e : (j.val - 0) / 1 < n := hk.2.2
      omega
    · have e : (j.val - 0) / 1 < n := hk.2.2
      omega

/-- Reading an array of rows in row order reads each row in row order. -/
theorem shapeCast_rows2 {B p q n : Nat} (hn : n = p * q) (x : (⟨3, ![B, p, q]⟩ : Shape).Idx → α)
    (h : (⟨3, ![B, p, q]⟩ : Shape).ShapeCasts (rows B n)) (h' : (⟨2, ![p, q]⟩ : Shape).ShapeCasts (flat n)) (b : Fin B) (j : Fin n) :
    shapeCast (rows B n) x h (ix2 b j) = shapeCast (flat n) (fun i : (⟨2, ![p, q]⟩ : Shape).Idx => x (ix3 b (i 0) (i 1))) h' (ix1 j) := by
  have e := Shape.rowMajor_reshapeEquiv h' (ix1 j)
  rw [Shape.rowMajor_val_two, Shape.rowMajor_val_one] at e
  refine shapeCast_apply _ _ _ _ ?_
  rw [Shape.rowMajor_val_three, Shape.rowMajor_val_two]
  refine .trans (b := b.val * (p * q) + j.val) ?_ (congrArg (b.val * · + j.val) hn.symm)
  refine .trans ?_ (congrArg (b.val * (p * q) + ·) e)
  show (b.val * p + (Shape.reshapeEquiv h' (ix1 j) 0).val) * q + (Shape.reshapeEquiv h' (ix1 j) 1).val
    = b.val * (p * q) + ((Shape.reshapeEquiv h' (ix1 j) 0).val * q + (Shape.reshapeEquiv h' (ix1 j) 1).val)
  ring

theorem shapeCast_rows3 {B p q r n : Nat} (hn : n = p * q * r) (x : (⟨4, ![B, p, q, r]⟩ : Shape).Idx → α)
    (h : (⟨4, ![B, p, q, r]⟩ : Shape).ShapeCasts (rows B n)) (h' : (⟨3, ![p, q, r]⟩ : Shape).ShapeCasts (flat n)) (b : Fin B) (j : Fin n) :
    shapeCast (rows B n) x h (ix2 b j)
      = shapeCast (flat n) (fun i : (⟨3, ![p, q, r]⟩ : Shape).Idx => x (ix4 b (i 0) (i 1) (i 2))) h' (ix1 j) := by
  have e := Shape.rowMajor_reshapeEquiv h' (ix1 j)
  rw [Shape.rowMajor_val_three, Shape.rowMajor_val_one] at e
  refine shapeCast_apply _ _ _ _ ?_
  rw [Shape.rowMajor_val_four, Shape.rowMajor_val_two]
  refine .trans (b := b.val * (p * q * r) + j.val) ?_ (congrArg (b.val * · + j.val) hn.symm)
  refine .trans ?_ (congrArg (b.val * (p * q * r) + ·) e)
  show ((b.val * p + (Shape.reshapeEquiv h' (ix1 j) 0).val) * q + (Shape.reshapeEquiv h' (ix1 j) 1).val) * r
      + (Shape.reshapeEquiv h' (ix1 j) 2).val
    = b.val * (p * q * r) + (((Shape.reshapeEquiv h' (ix1 j) 0).val * q + (Shape.reshapeEquiv h' (ix1 j) 1).val) * r
      + (Shape.reshapeEquiv h' (ix1 j) 2).val)
  ring

/-- One array of the packing: its elements in row order, then the filler up to the length `N`. -/
def ended {n : Nat} (N p : Nat) (x : (flat n).Idx → α) (z : α) (h : (flat n).Pads ![0] ![p] ![0] (flat N)) : Piece α :=
  ⟨flat N, pad (flat N) ![0] ![p] ![0] x (fun _ : (⟨0, ![]⟩ : Shape).Idx => z) h (by decide)⟩

theorem ended_map (f : α → β) {n : Nat} (N p : Nat) (x : (flat n).Idx → α) (z : α) (z' : β) (hz : z' = f z)
    (h : (flat n).Pads ![0] ![p] ![0] (flat N)) : ended N p (fun i => f (x i)) z' h = (ended N p x z h).map f := by
  unfold ended Piece.map
  rw [pad_map f ![0] ![p] ![0] x (fun _ : (⟨0, ![]⟩ : Shape).Idx => z) (fun _ => z') (fun _ => hz) h]

/-- A padded row of the joined rows. -/
theorem row_pad {B n p N : Nat} {u : Shape} (x : (rows B n).Idx → α) (v : u.Idx → α) (z : α) (hv : ∀ i, v i = z)
    (h : (rows B n).Pads ![0, 0] ![0, p] ![0, 0] (rows B N)) (hu : 0 < u.numel)
    (h' : (flat n).Pads ![0] ![p] ![0] (flat N)) (b : Fin B) :
    Rows.row b ⟨N, pad (rows B N) ![0, 0] ![0, p] ![0, 0] x v h hu⟩ = ended N p (fun i : (flat n).Idx => x (ix2 b (i 0))) z h' := by
  unfold Rows.row ended
  refine congrArg (Sigma.mk (flat N)) (funext fun i => ?_)
  obtain ⟨j, rfl⟩ : ∃ j, i = ix1 j := ⟨i 0, funext fun a => match a with | ⟨0, _⟩ => rfl⟩
  refine (pad_rows x v h h' hu b j).trans ?_
  unfold pad
  split
  · rfl
  · exact hv _

theorem row_shapeCast2 {B p q n : Nat} (hn : n = p * q) (x : (⟨3, ![B, p, q]⟩ : Shape).Idx → α)
    (h : (⟨3, ![B, p, q]⟩ : Shape).ShapeCasts (rows B n)) (h' : (⟨2, ![p, q]⟩ : Shape).ShapeCasts (flat n)) (b : Fin B) :
    (fun i : (flat n).Idx => shapeCast (rows B n) x h (ix2 b (i 0)))
      = shapeCast (flat n) (fun i : (⟨2, ![p, q]⟩ : Shape).Idx => x (ix3 b (i 0) (i 1))) h' := by
  funext i
  obtain ⟨j, rfl⟩ : ∃ j, i = ix1 j := ⟨i 0, funext fun a => match a with | ⟨0, _⟩ => rfl⟩
  exact shapeCast_rows2 hn x h h' b j

theorem row_shapeCast3 {B p q r n : Nat} (hn : n = p * q * r) (x : (⟨4, ![B, p, q, r]⟩ : Shape).Idx → α)
    (h : (⟨4, ![B, p, q, r]⟩ : Shape).ShapeCasts (rows B n)) (h' : (⟨3, ![p, q, r]⟩ : Shape).ShapeCasts (flat n)) (b : Fin B) :
    (fun i : (flat n).Idx => shapeCast (rows B n) x h (ix2 b (i 0)))
      = shapeCast (flat n) (fun i : (⟨3, ![p, q, r]⟩ : Shape).Idx => x (ix4 b (i 0) (i 1) (i 2))) h' := by
  funext i
  obtain ⟨j, rfl⟩ : ∃ j, i = ix1 j := ⟨i 0, funext fun a => match a with | ⟨0, _⟩ => rfl⟩
  exact shapeCast_rows3 hn x h h' b j

/-- The filler after the last array. -/
def filler (N : Nat) (z : α) : Piece α := ⟨flat N, fun _ => z⟩

theorem filler_map (f : α → β) (N : Nat) (z : α) (z' : β) (hz : z' = f z) : filler N z' = (filler N z).map f := by
  rw [hz]; rfl

end Cert.Proof.Packing

end
-- ==== Proof.SumSmall.Value.lean ====
/-
  The sum of the devices' small gradients: the kernel adds the eight packed rows, the host reference packs the eight
  sums, and packing only moves elements. The first two sections of the sum, added, are the modulation's bias.
-/
module

public import proofs.«01_k».proof.Defs
public import proofs.«01_k».proof.Proof.Gen.SumSmallIdeal.Frame
public import proofs.«01_k».proof.Proof.Gen.SumSmallRefIdeal.Run
public import proofs.«01_k».proof.Proof.Gen.SumSmallRefIdeal.Read
public import proofs.«01_k».proof.Proof.Packing
public import proofs.«01_k».proof.Proof.Sums
public import Idealize.ShloMosaic.Lib.Pipeline.Value
public import Idealize.ShloMosaic.Lib.Pointwise

@[expose] public section

noncomputable section

open Idealize.ShloMosaic Idealize.ShloMosaic.TcCoe Idealize.SL.Sem Idealize.ShloMosaic.StableHlo
open Cert.Proof.Packing

namespace Cert.Proof.SmallSum

/-- The arrays of the packing, in its order. -/
structure Parts (α : Type) where
  modL : (⟨2, ![6, 2048]⟩ : Shape).Idx → α
  modC : (⟨2, ![6, 2048]⟩ : Shape).Idx → α
  norm1 : (flat 2048).Idx → α
  norm2 : (flat 2048).Idx → α
  bound : (⟨3, ![2, 2, 1024]⟩ : Shape).Idx → α
  normH : (flat 128).Idx → α
  normQ : (flat 128).Idx → α
  normK : (flat 128).Idx → α
  bias : (⟨3, ![8, 15, 31]⟩ : Shape).Idx → α
  convW : (⟨2, ![3, 5632]⟩ : Shape).Idx → α
  convB : (flat 5632).Idx → α

variable {α β : Type}

def Parts.map (f : α → β) (p : Parts α) : Parts β where
  modL i := f (p.modL i)
  modC i := f (p.modC i)
  norm1 i := f (p.norm1 i)
  norm2 i := f (p.norm2 i)
  bound i := f (p.bound i)
  normH i := f (p.normH i)
  normQ i := f (p.normQ i)
  normK i := f (p.normK i)
  bias i := f (p.bias i)
  convW i := f (p.convW i)
  convB i := f (p.convB i)

def pieces (z : α) (p : Parts α) : List (Piece α) :=
  [ended 12288 0 (shapeCast (flat 12288) p.modL) z (by decide), ended 12288 0 (shapeCast (flat 12288) p.modC) z (by decide),
    ended 2048 0 p.norm1 z (by decide), ended 2048 0 p.norm2 z (by decide),
    ended 4096 0 (shapeCast (flat 4096) p.bound) z (by decide), ended 1024 896 p.normH z (by decide),
    ended 1024 896 p.normQ z (by decide), ended 1024 896 p.normK z (by decide),
    ended 4096 376 (shapeCast (flat 3720) p.bias) z (by decide), ended 17408 512 (shapeCast (flat 16896) p.convW) z (by decide),
    ended 6144 512 p.convB z (by decide), filler 2048 z]

theorem pieces_map (f : α → β) (z : α) (z' : β) (hz : z' = f z) (p : Parts α) :
    pieces z' (p.map f) = (pieces z p).map (Piece.map f) := by
  simp only [pieces, List.map_cons, List.map_nil, ← ended_map f _ _ _ z z' hz, ← filler_map f _ z z' hz]
  rfl

theorem fits (z : α) (p : Parts α) : Shape.Concatenates ((pieces z p).map (·.1)) (flat 65536) 0 := by
  show Shape.Concatenates [flat 12288, flat 12288, flat 2048, flat 2048, flat 4096, flat 1024, flat 1024, flat 1024, flat 4096,
    flat 17408, flat 6144, flat 2048] (flat 65536) 0
  decide

/-- The arrays laid end to end, each from the start of a row of 1024. -/
def packed (z : α) (p : Parts α) : (flat 65536).Idx → α := concatenate (flat 65536) 0 (pieces z p) (fits z p)

theorem joined_eq {t : Shape} {a : Fin t.rank} {xs ys : List (Piece α)} (e : xs = ys) (h : Shape.Concatenates (xs.map (·.1)) t a)
    (h' : Shape.Concatenates (ys.map (·.1)) t a) : concatenate t a xs h = concatenate t a ys h' := by
  subst e; rfl

/-- A function of the elements may be applied before or after the packing. -/
theorem packed_map (f : α → β) (z : α) (z' : β) (hz : z' = f z) (p : Parts α) (j : (flat 65536).Idx) :
    packed z' (p.map f) j = f (packed z p j) := by
  unfold packed
  rw [joined_eq (pieces_map f z z' hz p) _ (pieces_map f z z' hz p ▸ fits z' (p.map f))]
  exact concatenate_map f 0 _ _ _ j

/-- A section that needs no filler, at one of its elements. -/
theorem section_apply (x : (⟨2, ![6, 2048]⟩ : Shape).Idx → α) (z : α) (h : (flat 12288).Pads ![0] ![0] ![0] (flat 12288)) (hu)
    (hs : (⟨2, ![6, 2048]⟩ : Shape).ShapeCasts (flat 12288)) (r : Fin 6) (l : Fin 2048) :
    pad (flat 12288) ![0] ![0] ![0] (shapeCast (flat 12288) x hs) (fun _ : (⟨0, ![]⟩ : Shape).Idx => z) h hu
      (ix1 ⟨r.val * 2048 + l.val, by omega⟩) = x (ix2 r l) := by
  rw [pad_apply_of_inside _ _ _ _ _ _ _ _ (ix1 (⟨r.val * 2048 + l.val, by omega⟩ : Fin 12288)) (fun a => match a with
    | ⟨0, _⟩ => by show r.val * 2048 + l.val = 0 + (r.val * 2048 + l.val) * 1; omega)]
  exact shapeCast_apply _ _ _ (ix2 r l) (by rw [Shape.rowMajor_val_two, Shape.rowMajor_val_one]; rfl)

/-- The first section of the packing is the first array, the second the second. -/
theorem packed_modL (z : α) (p : Parts α) (r : Fin 6) (l : Fin 2048) :
    packed z p (ix1 ⟨r.val * 2048 + l.val, by omega⟩) = p.modL (ix2 r l) :=
  (concatenate_apply_piece (t := flat 65536) 0 (pieces z p) (fits z p) _ 0 (by show 0 < 12; omega) (flat 12288) _ rfl rfl 0 rfl
    (ix1 (⟨r.val * 2048 + l.val, by omega⟩ : Fin 12288)) (fun b hb => absurd (Subsingleton.elim (α := Fin 1) _ _) hb)
    (by show 0 + (r.val * 2048 + l.val) = r.val * 2048 + l.val; omega)).trans (section_apply p.modL z _ _ _ r l)

theorem packed_modC (z : α) (p : Parts α) (r : Fin 6) (l : Fin 2048) :
    packed z p (ix1 ⟨12288 + (r.val * 2048 + l.val), by omega⟩) = p.modC (ix2 r l) :=
  (concatenate_apply_piece (t := flat 65536) 0 (pieces z p) (fits z p) _ 1 (by show 1 < 12; omega) (flat 12288) _ rfl rfl 12288 rfl
    (ix1 (⟨r.val * 2048 + l.val, by omega⟩ : Fin 12288)) (fun b hb => absurd (Subsingleton.elim (α := Fin 1) _ _) hb)
    (by show 12288 + (r.val * 2048 + l.val) = 12288 + (r.val * 2048 + l.val); rfl)).trans (section_apply p.modC z _ _ _ r l)

end Cert.Proof.SmallSum

namespace Cert.SumSmallIdeal.Update

open Cert.SumSmallIdeal Cert.SumSmallIdeal.Gen Cert.Proof.SmallSum

variable (m : (ℓ : Loc nD τ sig) → Buf (Elt Ideal) ℓ) (ρ : Dev nD → PrngReg)

/-- The zero that fills the rows. -/
theorem zero_eq (i : S_.Idx) : (sitofp .f32 (constantI S_ 32 0#32) : FVec Ideal S_ .f32) i = 0 := by
  show (((0#32 : BitVec 32).toInt : ℝ) : EReal) = 0
  simp

theorem zero_const (i : S_.Idx) : (constant S_ .f32 0x00000000#32 : FVec Ideal S_ .f32) i = 0 := by
  pointwise

/-- The devices' arrays, each element the eight devices' together. -/
def parts (c : Dev nD) : Parts (Fin 8 → EReal) where
  modL i b := m ((c : Thread nD τ).loc main_arg0) (ix3 b (i 0) (i 1))
  modC i b := m ((c : Thread nD τ).loc main_arg1) (ix3 b (i 0) (i 1))
  norm1 i b := m ((c : Thread nD τ).loc main_arg2) (ix2 b (i 0))
  norm2 i b := m ((c : Thread nD τ).loc main_arg3) (ix2 b (i 0))
  bound i b := m ((c : Thread nD τ).loc main_arg4) (ix4 b (i 0) (i 1) (i 2))
  normH i b := m ((c : Thread nD τ).loc main_arg5) (ix2 b (i 0))
  normQ i b := m ((c : Thread nD τ).loc main_arg6) (ix2 b (i 0))
  normK i b := m ((c : Thread nD τ).loc main_arg7) (ix2 b (i 0))
  bias i b := m ((c : Thread nD τ).loc main_arg8) (ix4 b (i 0) (i 1) (i 2))
  convW i b := m ((c : Thread nD τ).loc main_arg9) (ix3 b (i 0) (i 1))
  convB i b := m ((c : Thread nD τ).loc main_arg10) (ix2 b (i 0))

/-- The eight rows as the host joins them. -/
def rowsOf (c : Dev nD) : List (Rows 8 EReal) :=
  [⟨12288, pad S8x12288 ![0, 0] ![0, 0] ![0, 0] (shapeCast S8x12288 (m ((c : Thread nD τ).loc main_arg0)) shapeCasts_S8x6x2048_S8x12288) (sitofp .f32 (constantI S_ 32 0#32) : FVec Ideal S_ .f32) pads_S8x12288_S8x12288_000_000 h_S_⟩,
    ⟨12288, pad S8x12288 ![0, 0] ![0, 0] ![0, 0] (shapeCast S8x12288 (m ((c : Thread nD τ).loc main_arg1)) shapeCasts_S8x6x2048_S8x12288) (sitofp .f32 (constantI S_ 32 0#32) : FVec Ideal S_ .f32) pads_S8x12288_S8x12288_000_000 h_S_⟩,
    ⟨2048, pad S8x2048 ![0, 0] ![0, 0] ![0, 0] (m ((c : Thread nD τ).loc main_arg2)) (sitofp .f32 (constantI S_ 32 0#32) : FVec Ideal S_ .f32) pads_S8x2048_S8x2048_000_000 h_S_⟩,
    ⟨2048, pad S8x2048 ![0, 0] ![0, 0] ![0, 0] (m ((c : Thread nD τ).loc main_arg3)) (sitofp .f32 (constantI S_ 32 0#32) : FVec Ideal S_ .f32) pads_S8x2048_S8x2048_000_000 h_S_⟩,
    ⟨4096, pad S8x4096 ![0, 0] ![0, 0] ![0, 0] (shapeCast S8x4096 (m ((c : Thread nD τ).loc main_arg4)) shapeCasts_S8x2x2x1024_S8x4096) (sitofp .f32 (constantI S_ 32 0#32) : FVec Ideal S_ .f32) pads_S8x4096_S8x4096_000_000 h_S_⟩,
    ⟨1024, pad S8x1024 ![0, 0] ![0, 896] ![0, 0] (m ((c : Thread nD τ).loc main_arg5)) (sitofp .f32 (constantI S_ 32 0#32) : FVec Ideal S_ .f32) pads_S8x128_S8x1024_000_08960 h_S_⟩,
    ⟨1024, pad S8x1024 ![0, 0] ![0, 896] ![0, 0] (m ((c : Thread nD τ).loc main_arg6)) (sitofp .f32 (constantI S_ 32 0#32) : FVec Ideal S_ .f32) pads_S8x128_S8x1024_000_08960 h_S_⟩,
    ⟨1024, pad S8x1024 ![0, 0] ![0, 896] ![0, 0] (m ((c : Thread nD τ).loc main_arg7)) (sitofp .f32 (constantI S_ 32 0#32) : FVec Ideal S_ .f32) pads_S8x128_S8x1024_000_08960 h_S_⟩,
    ⟨4096, pad S8x4096 ![0, 0] ![0, 376] ![0, 0] (shapeCast S8x3720 (m ((c : Thread nD τ).loc main_arg8)) shapeCasts_S8x8x15x31_S8x3720) (sitofp .f32 (constantI S_ 32 0#32) : FVec Ideal S_ .f32) pads_S8x3720_S8x4096_000_03760 h_S_⟩,
    ⟨17408, pad S8x17408 ![0, 0] ![0, 512] ![0, 0] (shapeCast S8x16896 (m ((c : Thread nD τ).loc main_arg9)) shapeCasts_S8x3x5632_S8x16896) (sitofp .f32 (constantI S_ 32 0#32) : FVec Ideal S_ .f32) pads_S8x16896_S8x17408_000_05120 h_S_⟩,
    ⟨6144, pad S8x6144 ![0, 0] ![0, 512] ![0, 0] (m ((c : Thread nD τ).loc main_arg10)) (sitofp .f32 (constantI S_ 32 0#32) : FVec Ideal S_ .f32) pads_S8x5632_S8x6144_000_05120 h_S_⟩,
    ⟨2048, broadcastInDim S8x2048 ![1] bcast_S2048_S8x2048_1 (broadcastInDim S2048 ![] bcast_S_S2048 (constant S_ .f32 0x00000000#32 : FVec Ideal S_ .f32))⟩]

theorem rows_fit (c : Dev nD) : Shape.Concatenates (((rowsOf m c).map Rows.whole).map (·.1)) (rows 8 65536) 1 :=
  concatenates_S8x12288_S8x12288_S8x2048_S8x2048_S8x4096_S8x1024_S8x1024_S8x1024_S8x4096_S8x17408_S8x6144_S8x2048_S8x65536_d1

set_option maxHeartbeats 1000000 in
set_option maxRecDepth 16384 in
/-- The array the kernel reads. -/
theorem laid (c : Dev nD) : V m c main_v19 = shapeCast S8x64x1024 (concatenate (rows 8 65536) 1 ((rowsOf m c).map Rows.whole) (rows_fit m c))
    shapeCasts_S8x65536_S8x64x1024 := by
  unfold_abbrev_sides
  simp only [List.flatten_cons, List.flatten_nil, List.append_nil, List.cons_append, List.nil_append, TRef.binary, TRef.unary, TRef.toBuf, TRef.ofBuf, cast_eq]
  after_results_simp
  rfl

set_option maxHeartbeats 1000000 in
/-- Row `b` of the joined rows is device `b`'s arrays packed. -/
theorem row_eq (c : Dev nD) (b : Fin 8) : (rowsOf m c).map (Rows.row b) = pieces 0 ((parts m c).map (· b)) := by
  have flatRow {n N p : Nat} (x : (rows 8 n).Idx → EReal) (h hu) (h' : (flat n).Pads ![0] ![p] ![0] (flat N)) :
      Rows.row b ⟨N, pad (rows 8 N) ![0, 0] ![0, p] ![0, 0] x (sitofp .f32 (constantI S_ 32 0#32) : FVec Ideal S_ .f32) h hu⟩
        = ended N p (fun i : (flat n).Idx => x (ix2 b (i 0))) 0 h' := row_pad x _ 0 zero_eq h hu h' b
  have tableRow {a q n N p : Nat} (hn : n = a * q) (x : (⟨3, ![8, a, q]⟩ : Shape).Idx → EReal) (hs h hu)
      (hs' : (⟨2, ![a, q]⟩ : Shape).ShapeCasts (flat n)) (h' : (flat n).Pads ![0] ![p] ![0] (flat N)) :
      Rows.row b ⟨N, pad (rows 8 N) ![0, 0] ![0, p] ![0, 0] (shapeCast (rows 8 n) x hs)
          (sitofp .f32 (constantI S_ 32 0#32) : FVec Ideal S_ .f32) h hu⟩
        = ended N p (shapeCast (flat n) (fun i : (⟨2, ![a, q]⟩ : Shape).Idx => x (ix3 b (i 0) (i 1))) hs') 0 h' :=
    (flatRow _ h hu h').trans (congrArg (ended N p · 0 h') (row_shapeCast2 hn x hs hs' b))
  have cubeRow {a q r n N p : Nat} (hn : n = a * q * r) (x : (⟨4, ![8, a, q, r]⟩ : Shape).Idx → EReal) (hs h hu)
      (hs' : (⟨3, ![a, q, r]⟩ : Shape).ShapeCasts (flat n)) (h' : (flat n).Pads ![0] ![p] ![0] (flat N)) :
      Rows.row b ⟨N, pad (rows 8 N) ![0, 0] ![0, p] ![0, 0] (shapeCast (rows 8 n) x hs)
          (sitofp .f32 (constantI S_ 32 0#32) : FVec Ideal S_ .f32) h hu⟩
        = ended N p (shapeCast (flat n) (fun i : (⟨3, ![a, q, r]⟩ : Shape).Idx => x (ix4 b (i 0) (i 1) (i 2))) hs') 0 h' :=
    (flatRow _ h hu h').trans (congrArg (ended N p · 0 h') (row_shapeCast3 hn x hs hs' b))
  have last : Rows.row b ⟨2048, broadcastInDim S8x2048 ![1] bcast_S2048_S8x2048_1
      (broadcastInDim S2048 ![] bcast_S_S2048 (constant S_ .f32 0x00000000#32 : FVec Ideal S_ .f32))⟩ = filler 2048 0 :=
    congrArg (Sigma.mk (flat 2048)) (funext fun _ => zero_const (fun a => a.elim0))
  unfold rowsOf pieces
  simp only [List.map_cons, List.map_nil]
  refine congrArg₂ List.cons (tableRow (a := 6) (q := 2048) (by norm_num) _ _ _ _ (by decide) (by decide)) ?_
  refine congrArg₂ List.cons (tableRow (a := 6) (q := 2048) (by norm_num) _ _ _ _ (by decide) (by decide)) ?_
  refine congrArg₂ List.cons (flatRow _ _ _ (by decide)) (congrArg₂ List.cons (flatRow _ _ _ (by decide)) ?_)
  refine congrArg₂ List.cons (cubeRow (a := 2) (q := 2) (r := 1024) (by norm_num) _ _ _ _ (by decide) (by decide)) ?_
  refine congrArg₂ List.cons (flatRow _ _ _ (by decide)) (congrArg₂ List.cons (flatRow _ _ _ (by decide)) ?_)
  refine congrArg₂ List.cons (flatRow _ _ _ (by decide)) ?_
  refine congrArg₂ List.cons (cubeRow (a := 8) (q := 15) (r := 31) (by norm_num) _ _ _ _ (by decide) (by decide)) ?_
  refine congrArg₂ List.cons (tableRow (a := 3) (q := 5632) (by norm_num) _ _ _ _ (by decide) (by decide)) ?_
  exact congrArg₂ List.cons (flatRow _ _ _ (by decide)) (congrArg₂ List.cons last rfl)

/-- An element of the array the kernel reads. -/
theorem laid_apply (c : Dev nD) (b : Fin 8) (r : Fin 64) (l : Fin 1024) :
    V m c main_v19 (ix3 b r l) = packed (fun _ => 0) (parts m c) (ix1 ⟨r.val * 1024 + l.val, by omega⟩) b := by
  rw [laid]
  refine (shapeCast_apply _ _ (ix3 b r l) (ix2 b ⟨r.val * 1024 + l.val, by omega⟩) ?_).trans ?_
  · rw [Shape.rowMajor_val_two, Shape.rowMajor_val_three]
    show b.val * 65536 + (r.val * 1024 + l.val) = (b.val * 64 + r.val) * 1024 + l.val
    omega
  · rw [concatenate_rows (rowsOf m c) _ b (row_eq m c b ▸ fits _ _)]
    rw [joined_eq (row_eq m c b) _ (fits _ _)]
    exact packed_map (· b) (fun _ => 0) 0 rfl (parts m c) _

/-- The sum of the eight packings. -/
def total (c : Dev nD) : FVec Ideal S64x1024 .f32 := fun i =>
  ∑ b : Fin 8, packed (fun _ => 0) (parts m c) (ix1 ⟨(i 0).val * 1024 + (i 1).val, by
    have h0 : (i 0).val < 64 := (i 0).isLt
    have h1 : (i 1).val < 1024 := (i 1).isLt
    show _ < 65536; omega⟩) b

/-- The one grid point reads the whole array and writes the whole result. -/
theorem read_whole (X : S8x64x1024.Idx → EReal) (t : Fin cfg0.N) : ((cfg0.win 0).blk t).view.read (Elt Ideal) X = X := by
  obtain ⟨n, hn⟩ := t
  obtain rfl : n = 0 := Nat.lt_one_iff.1 hn
  funext y
  refine congrArg X (funext fun a => Fin.ext ?_)
  match a with
  | ⟨0, _⟩ => show 0 * 8 + 1 * (y 0).val = (y 0).val; omega
  | ⟨1, _⟩ => show 0 * 64 + 1 * (y 1).val = (y 1).val; omega
  | ⟨2, _⟩ => show 0 * 1024 + 1 * (y 2).val = (y 2).val; omega

theorem result_whole (X : S64x1024.Idx → EReal) (t : Fin cfg0.N) : ((cfg0.win 1).blk t).view.read (Elt Ideal) X = X := by
  obtain ⟨n, hn⟩ := t
  obtain rfl : n = 0 := Nat.lt_one_iff.1 hn
  funext y
  refine congrArg X (funext fun a => Fin.ext ?_)
  match a with
  | ⟨0, _⟩ => show 0 * 64 + 1 * (y 0).val = (y 0).val; omega
  | ⟨1, _⟩ => show 0 * 1024 + 1 * (y 1).val = (y 1).val; omega

/-- The kernel's sum, element by element. -/
theorem sum_apply (x : Vec Ideal S8x64x1024 .f32) (i : S64x1024.Idx) :
    out0_1 (F := Ideal) x i = ∑ b : Fin 8, x (ix3 b (i 0) (i 1)) := by
  unfold out0_1
  refine View.canon_apply_of_pieces (Val := Elt Ideal) (fun i => ∑ b : Fin 8, x (ix3 b (i 0) (i 1))) _ ?_ i (cover0_1 _ i)
  intro pc hpc
  obtain rfl := List.mem_singleton.1 hpc
  intro i
  have ei : r0_8.idx i = i := funext fun a => Fin.ext (match a with
    | ⟨0, _⟩ => by show 0 + 1 * (i 0).val = (i 0).val; omega
    | ⟨1, _⟩ => by show 0 + 1 * (i 1).val = (i 1).val; omega)
  show k0_pay1 (F := Ideal) _ _ _ _ _ _ _ _ i = ∑ b : Fin 8, x (ix3 b (r0_8.idx i 0) (r0_8.idx i 1))
  rw [ei]
  have e (b : Nat) (hb : b < 8) (inb) :
      shapeCast S64x1024 (View.ld x (Rect.unit (s := S8x64x1024) ![b, 0, 0] S1x64x1024.size inb)) shapeCasts_S1x64x1024_S64x1024 i
        = x (ix3 (⟨b, hb⟩ : Fin 8) (i 0) (i 1)) := by
    refine (shapeCast_apply _ _ i (ix3 (0 : Fin 1) (i 0) (i 1)) ?_).trans ?_
    · rw [Shape.rowMajor_val_three, Shape.rowMajor_val_two]
      show (0 * 64 + (i 0).val) * 1024 + (i 1).val = (i 0).val * 1024 + (i 1).val
      omega
    refine congrArg x (funext fun a => Fin.ext ?_)
    match a with
    | ⟨0, _⟩ => show b + 1 * 0 = b; omega
    | ⟨1, _⟩ => show 0 + 1 * (i 0).val = (i 0).val; omega
    | ⟨2, _⟩ => show 0 + 1 * (i 1).val = (i 1).val; omega
  rw [Fin.sum_univ_eight]
  exact congrArg₂ (· + ·) (congrArg₂ (· + ·) (congrArg₂ (· + ·) (congrArg₂ (· + ·) (congrArg₂ (· + ·) (congrArg₂ (· + ·) (congrArg₂ (· + ·)
    (e 0 (by omega) inb_S8x64x1024_S1x64x1024_0_0_0) (e 1 (by omega) inb_S8x64x1024_S1x64x1024_1_0_0))
    (e 2 (by omega) inb_S8x64x1024_S1x64x1024_2_0_0)) (e 3 (by omega) inb_S8x64x1024_S1x64x1024_3_0_0))
    (e 4 (by omega) inb_S8x64x1024_S1x64x1024_4_0_0)) (e 5 (by omega) inb_S8x64x1024_S1x64x1024_5_0_0))
    (e 6 (by omega) inb_S8x64x1024_S1x64x1024_6_0_0)) (e 7 (by omega) inb_S8x64x1024_S1x64x1024_7_0_0)

theorem flushed_total (c : Dev nD) (t : Fin cfg0.N) :
    (dats m 0 c).flushed 1 t = ((cfg0.win 1).blk t).view.read (Elt Ideal) (total m c) := by
  rw [result_whole]
  show (cfg0.win 1).cut (grid0.coords t) ((dats m 0 c).after 1 t) = _
  rw [after0_1]
  have e : iblk m c 0 t = V m c main_v19 := read_whole _ t
  rw [e]
  funext i
  exact (sum_apply _ i).trans (Finset.sum_congr rfl fun b _ => laid_apply m c b (i 0) (i 1))

theorem cover (i : S64x1024.Idx) : ∃ t : Fin cfg0.N, i ∈ (win0_1.rect t).set := by
  have h0 : (i 0).val < 64 := (i 0).isLt
  have h1 : (i 1).val < 1024 := (i 1).isLt
  refine ⟨⟨0, by decide⟩, ?_⟩
  rw [Rect.mem_set_unit]
  intro a
  match a with
  | ⟨0, _⟩ => show 0 * 64 ≤ (i 0).val ∧ (i 0).val < 0 * 64 + 64; omega
  | ⟨1, _⟩ => show 0 * 1024 ≤ (i 1).val ∧ (i 1).val < 0 * 1024 + 1024; omega

theorem final (c : Dev nD) : (dats m 0 c).arrAt 1 cfg0.N = total m c :=
  (dats m 0 c).arrAt_eq_of_cover 1 _ (fun t _ => flushed_total m c t) fun i =>
    let ⟨t, h⟩ := cover i
    ⟨t, flush0_1 t, by show i ∈ ((View.whole main_v20).slice (win0_1.rect t)).set; rw [View.set_slice_whole]; exact h⟩

/-- What the host takes from the sum: its first two sections, added. -/
def taken (x : FVec Ideal S64x1024 .f32) : FVec Ideal S1x12288 .f32 :=
  shapeCast S1x12288 (addf (shapeCast S6x2048 (extractStridedSlice S12288 ![0] (shapeCast S65536 x shapeCasts_S64x1024_S65536)
      slices_S65536_S12288_0) shapeCasts_S12288_S6x2048)
    (shapeCast S6x2048 (extractStridedSlice S12288 ![12288] (shapeCast S65536 x shapeCasts_S64x1024_S65536)
      slices_S65536_S12288_12288) shapeCasts_S12288_S6x2048)) shapeCasts_S6x2048_S1x12288

/-- The lines after the call, at the array that the call returns. -/
theorem tail (c : Dev nD) : Pipeline.afterTail₀ cfgs (dats (F := Ideal) m) 0 (V0 m) [hostOps1] c main_v28 = taken (total m c) := by
  have h20 : Pipeline.withArrays (cfgs 0).spec c (V0 m c) (fun w => (dats (F := Ideal) m 0 c).arrAt w (cfgs 0).N)
      (Proc.devRef .tc main_v20) = total m c :=
    (Pipeline.withArrays_arr spec0 (by decide) c _ _ 1).trans (final m c)
  unfold Pipeline.afterTail₀
  simp only [hostOps1, List.flatten_cons, List.flatten_nil, List.append_nil]
  after_results_simp
  rw [h20]
  rfl

/-- A section of the sum, at one of its elements. -/
theorem part_apply (x : FVec Ideal S64x1024 .f32) (o : Nat) (hs : S65536.Slices ![o] S12288) (r : Fin 6) (l : Fin 2048)
    (hj : o + (r.val * 2048 + l.val) < 65536) :
    shapeCast S6x2048 (extractStridedSlice S12288 ![o] (shapeCast S65536 x shapeCasts_S64x1024_S65536) hs) shapeCasts_S12288_S6x2048
        (ix2 r l)
      = x (ix2 (⟨(o + (r.val * 2048 + l.val)) / 1024, by omega⟩ : Fin 64)
          (⟨(o + (r.val * 2048 + l.val)) % 1024, by omega⟩ : Fin 1024)) := by
  refine (shapeCast_apply _ _ (ix2 r l) (ix1 (⟨r.val * 2048 + l.val, by omega⟩ : Fin 12288)) ?_).trans ?_
  · rw [Shape.rowMajor_val_two, Shape.rowMajor_val_one]; rfl
  refine (extractStridedSlice_apply _ _ hs _ (ix1 (⟨o + (r.val * 2048 + l.val), hj⟩ : Fin 65536)) (fun a => match a with
    | ⟨0, _⟩ => rfl)).trans ?_
  refine shapeCast_apply _ _ _ _ ?_
  rw [Shape.rowMajor_val_two, Shape.rowMajor_val_one]
  show (o + (r.val * 2048 + l.val)) / 1024 * 1024 + (o + (r.val * 2048 + l.val)) % 1024 = o + (r.val * 2048 + l.val)
  omega

/-- The two sections, added, are the sums over the devices of the two arrays, added. -/
theorem taken_apply (c : Dev nD) (i : S1x12288.Idx) (r : Fin 6) (l : Fin 2048) (hi : (i 1).val = r.val * 2048 + l.val) :
    taken (total m c) i = ∑ b : Fin 8, (parts m c).modL (ix2 r l) b + ∑ b : Fin 8, (parts m c).modC (ix2 r l) b := by
  have h0 : (i 0).val < 1 := (i 0).isLt
  have at_ (j : Nat) (hj : j < 65536) : total m c (ix2 (⟨j / 1024, by omega⟩ : Fin 64) (⟨j % 1024, by omega⟩ : Fin 1024))
      = ∑ b : Fin 8, packed (fun _ => 0) (parts m c) (ix1 ⟨j, hj⟩) b := by
    refine Finset.sum_congr rfl fun b _ => congrArg (fun k => packed (fun _ => 0) (parts m c) (ix1 k) b) (Fin.ext ?_)
    show j / 1024 * 1024 + j % 1024 = j
    omega
  unfold taken
  refine (shapeCast_apply _ _ i (ix2 r l) ?_).trans ?_
  · rw [Shape.rowMajor_val_two, Shape.rowMajor_val_two]
    show r.val * 2048 + l.val = (i 0).val * 12288 + (i 1).val
    omega
  refine congrArg₂ (· + ·) ((part_apply _ 0 _ r l (by omega)).trans ((at_ _ (by omega)).trans ?_))
    ((part_apply _ 12288 _ r l (by omega)).trans ((at_ _ (by omega)).trans ?_))
  · refine Finset.sum_congr rfl fun b _ => congrFun (.trans ?_ (packed_modL (fun _ => 0) (parts m c) r l)) b
    exact congrArg (fun k => packed (fun _ => 0) (parts m c) (ix1 k)) (Fin.ext (Nat.zero_add _))
  · exact Finset.sum_congr rfl fun b _ => congrFun (packed_modC (fun _ => 0) (parts m c) r l) b

/-- The run, with the two results named. -/
theorem run : θ_run defs (onTc (τ := τ) (main (F := Ideal))) ⟨m, fun _ => 0, ρ⟩ (fun r => ∀ c : Dev nD,
      r.2.mem ((c : Thread nD τ).loc main_v20) = total m c
      ∧ r.2.mem ((c : Thread nD τ).loc main_v28) = taken (total m c)) :=
  (θ_run _ _ _).mono (fun _ h c => ⟨((h c).1 1).trans (final m c),
    ((h c).2 main_v28 (Pipeline.mem_restRefs_of main_v28 (by decide) (by decide))).trans (tail m c)⟩) (run_main m ρ)

end Cert.SumSmallIdeal.Update

namespace Cert.SumSmallRefIdeal.Update

open Cert.SumSmallRefIdeal Cert.SumSmallRefIdeal.Gen Cert.SumSmallRefIdeal.Read Cert.Proof.SmallSum

/-- The zero that fills the rows. -/
theorem zero_eq (i : S_.Idx) : (sitofp .f32 (constantI S_ 32 0#32) : FVec Ideal S_ .f32) i = 0 := by
  show (((0#32 : BitVec 32).toInt : ℝ) : EReal) = 0
  simp

theorem zero_const (i : S_.Idx) : (constant S_ .f32 0x00000000#32 : FVec Ideal S_ .f32) i = 0 := by
  pointwise

theorem idx2 {a b : Nat} (i : (⟨2, ![a, b]⟩ : Shape).Idx) : i = ix2 (i 0) (i 1) :=
  funext fun k => match k with | ⟨0, _⟩ => rfl | ⟨1, _⟩ => rfl
theorem idx3 {a b d : Nat} (i : (⟨3, ![a, b, d]⟩ : Shape).Idx) : i = ix3 (i 0) (i 1) (i 2) :=
  funext fun k => match k with | ⟨0, _⟩ => rfl | ⟨1, _⟩ => rfl | ⟨2, _⟩ => rfl
theorem idx4 {a b d e : Nat} (i : (⟨4, ![a, b, d, e]⟩ : Shape).Idx) : i = ix4 (i 0) (i 1) (i 2) (i 3) :=
  funext fun k => match k with | ⟨0, _⟩ => rfl | ⟨1, _⟩ => rfl | ⟨2, _⟩ => rfl | ⟨3, _⟩ => rfl

/-- A sum over the devices that starts from the constant zero. -/
theorem from_zero {S : Shape} (x : S.Idx → EReal) (y y' : Fin 8 → S.Idx) (h : ∀ k, y k = y' k) :
    (constant S_ .f32 0x00000000#32 : FVec Ideal S_ .f32) (Shape.Idx.first h_S_) + ∑ k : Fin 8, x (y k) = ∑ k : Fin 8, x (y' k) := by
  rw [zero_const, zero_add]
  exact Finset.sum_congr rfl fun k _ => congrArg x (h k)

/-- The devices' arrays, each element the eight devices' together. -/
def parts (x0 x1 : FVec Ideal S8x6x2048 .f32) (x2 x3 : FVec Ideal S8x2048 .f32) (x4 : FVec Ideal S8x2x2x1024 .f32)
    (x5 x6 x7 : FVec Ideal S8x128 .f32) (x8 : FVec Ideal S8x8x15x31 .f32) (x9 : FVec Ideal S8x3x5632 .f32)
    (x10 : FVec Ideal S8x5632 .f32) : Parts (Fin 8 → EReal) where
  modL i b := x0 (ix3 b (i 0) (i 1))
  modC i b := x1 (ix3 b (i 0) (i 1))
  norm1 i b := x2 (ix2 b (i 0))
  norm2 i b := x3 (ix2 b (i 0))
  bound i b := x4 (ix4 b (i 0) (i 1) (i 2))
  normH i b := x5 (ix2 b (i 0))
  normQ i b := x6 (ix2 b (i 0))
  normK i b := x7 (ix2 b (i 0))
  bias i b := x8 (ix4 b (i 0) (i 1) (i 2))
  convW i b := x9 (ix3 b (i 0) (i 1))
  convB i b := x10 (ix2 b (i 0))

/-- The host's joined array: the sums, packed. -/
theorem value_packed (x0 x1 : FVec Ideal S8x6x2048 .f32) (x2 x3 : FVec Ideal S8x2048 .f32) (x4 : FVec Ideal S8x2x2x1024 .f32)
    (x5 x6 x7 : FVec Ideal S8x128 .f32) (x8 : FVec Ideal S8x8x15x31 .f32) (x9 : FVec Ideal S8x3x5632 .f32)
    (x10 : FVec Ideal S8x5632 .f32) : val_main_v28 (F := Ideal) x0 x1 x2 x3 x4 x5 x6 x7 x8 x9 x10
      = packed 0 ((parts x0 x1 x2 x3 x4 x5 x6 x7 x8 x9 x10).map fun v => ∑ b : Fin 8, v b) := by
  have piece {n N p : Nat} (x x' : (flat n).Idx → EReal) (e : x = x') (h hu) (h' : (flat n).Pads ![0] ![p] ![0] (flat N)) :
      (⟨flat N, pad (flat N) ![0] ![p] ![0] x (sitofp .f32 (constantI S_ 32 0#32) : FVec Ideal S_ .f32) h hu⟩ : Piece EReal)
        = ended N p x' 0 h' := by
    rw [e, show (sitofp .f32 (constantI S_ 32 0#32) : FVec Ideal S_ .f32) = fun _ => 0 from funext zero_eq]
    rfl
  refine joined_eq ?_ _ _
  unfold pieces
  refine congrArg₂ List.cons (piece _ _ (congrArg (shapeCast S12288 · shapeCasts_S6x2048_S12288)
    (funext fun i => (val_main_v0_apply x0 i).trans (from_zero x0 _ _ fun k => idx3 _))) _ _ (by decide)) ?_
  refine congrArg₂ List.cons (piece _ _ (congrArg (shapeCast S12288 · shapeCasts_S6x2048_S12288)
    (funext fun i => (val_main_v1_apply x1 i).trans (from_zero x1 _ _ fun k => idx3 _))) _ _ (by decide)) ?_
  refine congrArg₂ List.cons (piece _ _ (funext fun i => (val_main_v2_apply x2 i).trans (from_zero x2 _ _ fun k => idx2 _)) _ _ (by decide)) ?_
  refine congrArg₂ List.cons (piece _ _ (funext fun i => (val_main_v3_apply x3 i).trans (from_zero x3 _ _ fun k => idx2 _)) _ _ (by decide)) ?_
  refine congrArg₂ List.cons (piece _ _ (congrArg (shapeCast S4096 · shapeCasts_S2x2x1024_S4096)
    (funext fun i => (val_main_v4_apply x4 i).trans (from_zero x4 _ _ fun k => idx4 _))) _ _ (by decide)) ?_
  refine congrArg₂ List.cons (piece _ _ (funext fun i => (val_main_v5_apply x5 i).trans (from_zero x5 _ _ fun k => idx2 _)) _ _ (by decide)) ?_
  refine congrArg₂ List.cons (piece _ _ (funext fun i => (val_main_v6_apply x6 i).trans (from_zero x6 _ _ fun k => idx2 _)) _ _ (by decide)) ?_
  refine congrArg₂ List.cons (piece _ _ (funext fun i => (val_main_v7_apply x7 i).trans (from_zero x7 _ _ fun k => idx2 _)) _ _ (by decide)) ?_
  refine congrArg₂ List.cons (piece _ _ (congrArg (shapeCast S3720 · shapeCasts_S8x15x31_S3720)
    (funext fun i => (val_main_v8_apply x8 i).trans (from_zero x8 _ _ fun k => idx4 _))) _ _ (by decide)) ?_
  refine congrArg₂ List.cons (piece _ _ (congrArg (shapeCast S16896 · shapeCasts_S3x5632_S16896)
    (funext fun i => (val_main_v9_apply x9 i).trans (from_zero x9 _ _ fun k => idx3 _))) _ _ (by decide)) ?_
  refine congrArg₂ List.cons (piece _ _ (funext fun i => (val_main_v10_apply x10 i).trans (from_zero x10 _ _ fun k => idx2 _)) _ _ (by decide)) ?_
  exact congrArg₂ List.cons (congrArg (Sigma.mk (flat 2048)) (funext fun i => (val_main_v27_apply i).trans (zero_const _))) rfl

theorem value_total (x0 x1 : FVec Ideal S8x6x2048 .f32) (x2 x3 : FVec Ideal S8x2048 .f32) (x4 : FVec Ideal S8x2x2x1024 .f32)
    (x5 x6 x7 : FVec Ideal S8x128 .f32) (x8 : FVec Ideal S8x8x15x31 .f32) (x9 : FVec Ideal S8x3x5632 .f32)
    (x10 : FVec Ideal S8x5632 .f32) : val_main_v29 (F := Ideal) x0 x1 x2 x3 x4 x5 x6 x7 x8 x9 x10
      = fun i => ∑ b : Fin 8, packed (fun _ => 0) (parts x0 x1 x2 x3 x4 x5 x6 x7 x8 x9 x10)
          (ix1 ⟨(i 0).val * 1024 + (i 1).val, by
            have h0 : (i 0).val < 64 := (i 0).isLt
            have h1 : (i 1).val < 1024 := (i 1).isLt
            show _ < 65536; omega⟩) b := by
  funext i
  rw [val_main_v29_apply, value_packed]
  exact (packed_map (fun v : Fin 8 → EReal => ∑ b : Fin 8, v b) (fun _ => 0) 0 (by simp) _ (idx_main_v29 i)).trans
    (Finset.sum_congr rfl fun b _ => congrArg (fun j => packed (fun _ => 0) _ j b) (funext fun a => match a with | ⟨0, _⟩ => rfl))

/-- The sums of the first two arrays, added. -/
theorem bias_apply (x0 x1 : FVec Ideal S8x6x2048 .f32) (i : S1x12288.Idx) (r : Fin 6) (l : Fin 2048)
    (hi : (i 1).val = r.val * 2048 + l.val) :
    val_main_v31 (F := Ideal) x0 x1 i = ∑ b : Fin 8, x0 (ix3 b r l) + ∑ b : Fin 8, x1 (ix3 b r l) := by
  have h0 : (i 0).val < 1 := (i 0).isLt
  have ei : idx_main_v31 i = ix2 r l := funext fun a => Fin.ext (match a with
    | ⟨0, _⟩ => by show ((i 0).val * 12288 + (i 1).val) / 2048 = r.val; omega
    | ⟨1, _⟩ => by show ((i 0).val * 12288 + (i 1).val) % 2048 = l.val; omega)
  rw [val_main_v31_apply, ei, val_main_v30_apply]
  exact congrArg₂ (· + ·) ((val_main_v0_apply x0 _).trans (from_zero x0 _ _ fun k => idx3 _))
    ((val_main_v1_apply x1 _).trans (from_zero x1 _ _ fun k => idx3 _))

end Cert.SumSmallRefIdeal.Update

namespace Cert.Proof

/-- The kernel's sum of the packed rows is the packing of the devices' sums, and its first two sections are those sums. -/
theorem algebraic_SumSmall : Cert.algebraic_SumSmallIdeal_SumSmallRefIdeal (hSumSmallIdeal := Cert.SumSmallIdeal.Gen.facts)
    (hSumSmallRefIdeal := Cert.SumSmallRefIdeal.Gen.facts) := by
  intro m g m' g' _ hargs
  refine ⟨fun c => Cert.SumSmallIdeal.Update.total m c, fun c => Cert.SumSmallIdeal.Update.taken (Cert.SumSmallIdeal.Update.total m c),
    (θ_run _ _ _).mono (fun _ h c => ⟨(h.1 c).1, (h.1 c).2, h.2 c⟩) (θ_run_and (Cert.SumSmallIdeal.Update.run m g) (Cert.SumSmallIdeal.Gen.unchanged m g)), ?_⟩
  refine (θ_run _ _ _).mono (fun _ h c => ?_) (Cert.SumSmallRefIdeal.Value.run m' g')
  obtain ⟨e0, e1, e2, e3, e4, e5, e6, e7, e8, e9, e10⟩ := hargs c
  refine ⟨(h c).1.trans (by
    rw [e0, e1, e2, e3, e4, e5, e6, e7, e8, e9, e10]
    exact (Cert.SumSmallRefIdeal.Read.val_main_v29_eq _ _ _ _ _ _ _ _ _ _ _).trans (Cert.SumSmallRefIdeal.Update.value_total _ _ _ _ _ _ _ _ _ _ _)),
    (h c).2.1.trans (by
    rw [e0, e1]
    refine (Cert.SumSmallRefIdeal.Read.val_main_v31_eq _ _).trans (funext fun i => ?_)
    have h1 : (i 1).val < 12288 := (i 1).isLt
    exact (Cert.SumSmallRefIdeal.Update.bias_apply _ _ i ⟨(i 1).val / 2048, by omega⟩ ⟨(i 1).val % 2048, by omega⟩ (by
      show (i 1).val = (i 1).val / 2048 * 2048 + (i 1).val % 2048; omega)).trans
      (Cert.SumSmallIdeal.Update.taken_apply m c i ⟨(i 1).val / 2048, by omega⟩ ⟨(i 1).val % 2048, by omega⟩ (by
      show (i 1).val = (i 1).val / 2048 * 2048 + (i 1).val % 2048; omega)).symm), (h c).2.2⟩

end Cert.Proof

end
-- ==== Proof.SumInTop.Value.lean ====
/-
  The sum of the chips' parts of a weight's gradient, on the first core: the call picks its blocks by the device's place, which a
  table holds; the table is read off the host's lines, and with it the blocks, their sums and the rows that are returned.
-/
module

public import proofs.«01_k».proof.Defs
public import proofs.«01_k».proof.Proof.Gen.SumInTop.Frame
public import proofs.«01_k».proof.Proof.Gen.SumInTopIdeal.Frame
public import proofs.«01_k».proof.Proof.Gen.SumInTopRefIdeal.Run
public import proofs.«01_k».proof.Proof.Gen.SumInTopRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumInTop.Placed

open Cert.SumInTop Cert.SumInTop.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 16 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 16 := (i 0).isLt
  funext a
  match a with
  | ⟨0, _⟩ =>
    show ((0#32 * 16#32 : BitVec 32) + BitVec.ofNat 32 (i 0).val).toNat = (i 0).val
    rw [show (0#32 * 16#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumInTop.Placed

namespace Cert.SumInTopIdeal.Placed

open Cert.SumInTopIdeal Cert.SumInTopIdeal.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 16 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 16 := (i 0).isLt
  funext a
  match a with
  | ⟨0, _⟩ =>
    show ((0#32 * 16#32 : BitVec 32) + BitVec.ofNat 32 (i 0).val).toNat = (i 0).val
    rw [show (0#32 * 16#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumInTopIdeal.Placed

namespace Cert.SumInTopIdeal.Placed

open Cert.SumInTopIdeal Cert.SumInTopIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![(i 0).val, 0] from funext rows_out]
  revert t
  exact (by decide +kernel : ∀ t : Fin grid0.N, Pipeline.Window.flushOf grid0 true (fun i => ![(i 0).val, 0]) t = true)

/-- What the body leaves, element by element: its own block and the three received ones, added. -/
theorem out_apply (c : Dev nD) (g : grid0.Coords) (a2 : Memref sig .tc .vmem S1x64x3072 .bf16) (h2 : a2.IsWhole)
    (a3 : Memref sig .tc .vmem S3x64x3072 .bf16) (h3 : a3.IsWhole) (a4 : Memref sig .tc .vmem S64x3072 .f32) (h4 : a4.IsWhole)
    (x0 : FVec Ideal S1x64x3072 .bf16) (x1 : FVec Ideal S3x64x3072 .bf16) (xt : TbBuf0 (F := Ideal) c tbM0_0) (i : S64x3072.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S64x3072) ![0, 0] S64x3072.size Facts₀.inb_S64x3072_S64x3072_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 64, 3072]⟩ : Shape) .bf16) (h : a.IsWhole)
      (x : FVec Ideal (⟨3, ![n, 64, 3072]⟩ : Shape) .bf16) (b : Fin n) (inb) (hs) :
      shapeCast S64x3072 (View.readAt (Elt Ideal) a.view (Rect.unit (s := (⟨3, ![n, 64, 3072]⟩ : Shape)) ![b.val, 0, 0] ![1, 64, 3072] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 64 + (i 0).val) * 3072 + (i 1).val = (i 0).val * 3072 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x1024x3072 .bf16) (r : FVec Ideal S3x1024x3072 .bf16) (i : Fin 1024) (j : Fin 3072) : EReal :=
  p (ix3 (0 : Fin 4) i j) + r (ix3 (0 : Fin 3) i j) + r (ix3 (1 : Fin 3) i j) + r (ix3 (2 : Fin 3) i j)

/-- The sum in the upper half of the result's rows; the lower half is the other core's. -/
def total (p : FVec Ideal S4x1024x3072 .bf16) (r : FVec Ideal S3x1024x3072 .bf16) : FVec Ideal S2048x3072 .f32 :=
  fun i => if h : (i 0).val < 1024 then added p r ⟨(i 0).val, h⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 16 := (grid0.coords t 0).isLt
  funext a
  match a with
  | ⟨0, _⟩ => rfl
  | ⟨1, _⟩ => exact (BitVec.toNat_ofNat _ _).trans (Nat.mod_eq_of_lt (lt_trans (b := 16) h (by decide)))
  | ⟨2, _⟩ => rfl

theorem place2 (t : Fin (cfgM m (ok m)).N) : ((cfgM m (ok m)).win 2).index t = ![(grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S64x3072.Idx) => ?_
  have h0 : (y 0).val < 64 := (y 0).isLt
  have h1 : (y 1).val < 3072 := (y 1).isLt
  have hg : (grid0.coords t 0).val < 16 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![(grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨(grid0.coords t 0).val * 64 + (y 0).val, by omega⟩ : Fin 2048) (⟨(y 1).val, h1⟩ : Fin 3072) := by
    funext a
    refine Fin.ext ?_
    match a with
    | ⟨0, _⟩ =>
      show ((cfgM m (ok m)).win 2).index t (0 : Fin 2) * 64 + 1 * (y 0).val = (grid0.coords t 0).val * 64 + (y 0).val
      rw [e2]; show (grid0.coords t 0).val * 64 + 1 * (y 0).val = _; omega
    | ⟨1, _⟩ =>
      show ((cfgM m (ok m)).win 2).index t (1 : Fin 2) * 3072 + 1 * (y 1).val = (y 1).val
      rw [e2]; show 0 * 3072 + 1 * (y 1).val = _; omega
  show _ = total _ _ ((((cfgM m (ok m)).win 2).blk t).view.emb y)
  rw [ey]
  have hlt : (grid0.coords t 0).val * 64 + (y 0).val < 1024 := by omega
  refine Eq.trans ?_ (dif_pos hlt).symm
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 64 + 1 * (y 0).val = (grid0.coords t 0).val * 64 + (y 0).val
                rw [e0]; show (grid0.coords t 0).val * 64 + 1 * (y 0).val = _; omega
    | ⟨2, _⟩ => show ((cfgM m (ok m)).win 0).index t (2 : Fin 3) * 3072 + 1 * (y 1).val = (y 1).val
                rw [e0]; show 0 * 3072 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 64 + 1 * (y 0).val = (grid0.coords t 0).val * 64 + (y 0).val
                rw [e1]; show (grid0.coords t 0).val * 64 + 1 * (y 0).val = _; omega
    | ⟨2, _⟩ => show ((cfgM m (ok m)).win 1).index t (2 : Fin 3) * 3072 + 1 * (y 1).val = (y 1).val
                rw [e1]; show 0 * 3072 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 16, ∃ t : Fin grid0.N, (grid0.coords t 0).val = q.val := by decide +kernel

/-- The rows that the device sums. -/
theorem half (c : Dev nD) (i : S2048x3072.Idx) (h : (i 0).val < 1024) : (dats m (ok m) 0 c).arrAt 2 (cfgM m (ok m)).N i
    = total (m ((c : Thread nD τ).loc main_arg0)) (m ((c : Thread nD τ).loc main_arg1)) i := by
  have h1 : (i 1).val < 3072 := (i 1).isLt
  obtain ⟨t, ht⟩ := point ⟨(i 0).val / 64, by omega⟩
  have ht' : (grid0.coords t 0).val = (i 0).val / 64 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![(grid0.coords t 0).val, 0] : Fin 2 → Nat) a := fun a => congrFun (place2 m t) a
  intro a
  match a with
  | ⟨0, _⟩ =>
    show ((cfgM m (ok m)).win 2).index t (0 : Fin 2) * 64 ≤ (i 0).val ∧ (i 0).val < ((cfgM m (ok m)).win 2).index t (0 : Fin 2) * 64 + 64
    rw [e2]; show (grid0.coords t 0).val * 64 ≤ _ ∧ _ < (grid0.coords t 0).val * 64 + 64; omega
  | ⟨1, _⟩ =>
    show ((cfgM m (ok m)).win 2).index t (1 : Fin 2) * 3072 ≤ (i 1).val ∧ (i 1).val < ((cfgM m (ok m)).win 2).index t (1 : Fin 2) * 3072 + 3072
    rw [e2]; show 0 * 3072 ≤ _ ∧ _ < 0 * 3072 + 3072; omega

/-- The rows of the result that the claim is about. -/
def result (c : Dev nD) : FVec Ideal S1024x3072 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 1024 := (i 0).isLt
  refine (extractStridedSlice_apply _ _ Facts₀.slices_S2048x3072_S1024x3072_0_0 i
    (ix2 (⟨(i 0).val, by omega⟩ : Fin 2048) (⟨(i 1).val, (i 1).isLt⟩ : Fin 3072)) (fun a => match a with
    | ⟨0, _⟩ => by show (i 0).val = 0 + (i 0).val; omega
    | ⟨1, _⟩ => by show (i 1).val = 0 + (i 1).val; omega)).trans ?_
  exact (half m c _ h0).trans (dif_pos h0)

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumInTopIdeal.Placed

namespace Cert.SumInTopRefIdeal.Placed

open Cert.SumInTopRefIdeal Cert.SumInTopRefIdeal.Gen Cert.SumInTopRefIdeal.Read

/-- The host's sum, element by element. -/
theorem value (p : FVec Ideal S4x1024x3072 .bf16) (r : FVec Ideal S3x1024x3072 .bf16) (i : S1024x3072.Idx) :
    val_main_v5 (F := Ideal) p r i = Cert.SumInTopIdeal.Placed.added p r (i 0) (i 1) := by
  have h0 : (i 0).val < 1024 := (i 0).isLt
  have h1 : (i 1).val < 3072 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 3072 + (i 1).val) / 3072 % 1024 = (i 0).val; omega
    | ⟨2, _⟩ => show ((i 0).val * 3072 + (i 1).val) % 3072 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumInTopRefIdeal.Placed

namespace Cert.Proof

/-- The chips' parts of the gradient, added by the kernel and by the host. -/
theorem algebraic_SumInTop : Cert.algebraic_SumInTopIdeal_SumInTopRefIdeal (hSumInTopIdeal := Cert.SumInTopIdeal.Gen.facts)
    (hSumInTopRefIdeal := Cert.SumInTopRefIdeal.Gen.facts) := by
  intro m g m' g' _ hargs
  refine ⟨fun c => Cert.SumInTopIdeal.Placed.result m c,
    (θ_run _ _ _).mono (fun _ h c => ⟨h.1 c, h.2 c⟩) (θ_run_and (Cert.SumInTopIdeal.Placed.run m g)
      (Cert.SumInTopIdeal.Gen.unchanged m g (Cert.SumInTopIdeal.Placed.ok m))), ?_⟩
  refine (θ_run _ _ _).mono (fun _ h c => ?_) (Cert.SumInTopRefIdeal.Value.run m' g')
  obtain ⟨e0, e1⟩ := hargs c
  refine ⟨(h c).1.trans (by
    rw [e0, e1]
    exact (Cert.SumInTopRefIdeal.Read.val_main_v5_eq _ _).trans (funext fun i => Cert.SumInTopRefIdeal.Placed.value _ _ i)), (h c).2⟩

end Cert.Proof

end
-- ==== Proof.SumInBottom.Value.lean ====
/-
  The sum of the chips' parts of a weight's gradient, on the second core: the call picks its blocks by the device's place, which a
  table holds; the table is read off the host's lines, and with it the blocks, their sums and the rows that are returned.
-/
module

public import proofs.«01_k».proof.Defs
public import proofs.«01_k».proof.Proof.Gen.SumInBottom.Frame
public import proofs.«01_k».proof.Proof.Gen.SumInBottomIdeal.Frame
public import proofs.«01_k».proof.Proof.Gen.SumInBottomRefIdeal.Run
public import proofs.«01_k».proof.Proof.Gen.SumInBottomRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumInBottom.Placed

open Cert.SumInBottom Cert.SumInBottom.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 16 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![16 + (i 0).val, 0] := by
  have h : (i 0).val < 16 := (i 0).isLt
  funext a
  match a with
  | ⟨0, _⟩ =>
    show ((1#32 * 16#32 : BitVec 32) + BitVec.ofNat 32 (i 0).val).toNat = 16 + (i 0).val
    rw [show (1#32 * 16#32 : BitVec 32) = BitVec.ofNat 32 16 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumInBottom.Placed

namespace Cert.SumInBottomIdeal.Placed

open Cert.SumInBottomIdeal Cert.SumInBottomIdeal.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 16 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![16 + (i 0).val, 0] := by
  have h : (i 0).val < 16 := (i 0).isLt
  funext a
  match a with
  | ⟨0, _⟩ =>
    show ((1#32 * 16#32 : BitVec 32) + BitVec.ofNat 32 (i 0).val).toNat = 16 + (i 0).val
    rw [show (1#32 * 16#32 : BitVec 32) = BitVec.ofNat 32 16 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumInBottomIdeal.Placed

namespace Cert.SumInBottomIdeal.Placed

open Cert.SumInBottomIdeal Cert.SumInBottomIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![16 + (i 0).val, 0] from funext rows_out]
  revert t
  exact (by decide +kernel : ∀ t : Fin grid0.N, Pipeline.Window.flushOf grid0 true (fun i => ![16 + (i 0).val, 0]) t = true)

/-- What the body leaves, element by element: its own block and the three received ones, added. -/
theorem out_apply (c : Dev nD) (g : grid0.Coords) (a2 : Memref sig .tc .vmem S1x64x3072 .bf16) (h2 : a2.IsWhole)
    (a3 : Memref sig .tc .vmem S3x64x3072 .bf16) (h3 : a3.IsWhole) (a4 : Memref sig .tc .vmem S64x3072 .f32) (h4 : a4.IsWhole)
    (x0 : FVec Ideal S1x64x3072 .bf16) (x1 : FVec Ideal S3x64x3072 .bf16) (xt : TbBuf0 (F := Ideal) c tbM0_0) (i : S64x3072.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S64x3072) ![0, 0] S64x3072.size Facts₀.inb_S64x3072_S64x3072_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 64, 3072]⟩ : Shape) .bf16) (h : a.IsWhole)
      (x : FVec Ideal (⟨3, ![n, 64, 3072]⟩ : Shape) .bf16) (b : Fin n) (inb) (hs) :
      shapeCast S64x3072 (View.readAt (Elt Ideal) a.view (Rect.unit (s := (⟨3, ![n, 64, 3072]⟩ : Shape)) ![b.val, 0, 0] ![1, 64, 3072] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 64 + (i 0).val) * 3072 + (i 1).val = (i 0).val * 3072 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x1024x3072 .bf16) (r : FVec Ideal S3x1024x3072 .bf16) (i : Fin 1024) (j : Fin 3072) : EReal :=
  p (ix3 (0 : Fin 4) i j) + r (ix3 (0 : Fin 3) i j) + r (ix3 (1 : Fin 3) i j) + r (ix3 (2 : Fin 3) i j)

/-- The sum in the lower half of the result's rows; the upper half is the other core's. -/
def total (p : FVec Ideal S4x1024x3072 .bf16) (r : FVec Ideal S3x1024x3072 .bf16) : FVec Ideal S2048x3072 .f32 :=
  fun i => if h : 1024 ≤ (i 0).val then added p r ⟨(i 0).val - 1024, by have : (i 0).val < 2048 := (i 0).isLt; omega⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 16 := (grid0.coords t 0).isLt
  funext a
  match a with
  | ⟨0, _⟩ => rfl
  | ⟨1, _⟩ => exact (BitVec.toNat_ofNat _ _).trans (Nat.mod_eq_of_lt (lt_trans (b := 16) h (by decide)))
  | ⟨2, _⟩ => rfl

theorem place2 (t : Fin (cfgM m (ok m)).N) : ((cfgM m (ok m)).win 2).index t = ![16 + (grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S64x3072.Idx) => ?_
  have h0 : (y 0).val < 64 := (y 0).isLt
  have h1 : (y 1).val < 3072 := (y 1).isLt
  have hg : (grid0.coords t 0).val < 16 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![16 + (grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨1024 + ((grid0.coords t 0).val * 64 + (y 0).val), by omega⟩ : Fin 2048) (⟨(y 1).val, h1⟩ : Fin 3072) := by
    funext a
    refine Fin.ext ?_
    match a with
    | ⟨0, _⟩ =>
      show ((cfgM m (ok m)).win 2).index t (0 : Fin 2) * 64 + 1 * (y 0).val = 1024 + ((grid0.coords t 0).val * 64 + (y 0).val)
      rw [e2]; show (16 + (grid0.coords t 0).val) * 64 + 1 * (y 0).val = _; omega
    | ⟨1, _⟩ =>
      show ((cfgM m (ok m)).win 2).index t (1 : Fin 2) * 3072 + 1 * (y 1).val = (y 1).val
      rw [e2]; show 0 * 3072 + 1 * (y 1).val = _; omega
  show _ = total _ _ ((((cfgM m (ok m)).win 2).blk t).view.emb y)
  rw [ey]
  have hlt : (grid0.coords t 0).val * 64 + (y 0).val < 1024 := by omega
  refine Eq.trans ?_ (dif_pos (Nat.le_add_right 1024 _)).symm
  refine Eq.trans ?_ (congrArg (fun q : Fin 1024 => added (m ((c : Thread nD τ).loc main_arg0)) (m ((c : Thread nD τ).loc main_arg1)) q ⟨(y 1).val, h1⟩)
    (Fin.ext (Nat.add_sub_cancel_left 1024 _).symm : (⟨(grid0.coords t 0).val * 64 + (y 0).val, hlt⟩ : Fin 1024) = _))
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 64 + 1 * (y 0).val = (grid0.coords t 0).val * 64 + (y 0).val
                rw [e0]; show (grid0.coords t 0).val * 64 + 1 * (y 0).val = _; omega
    | ⟨2, _⟩ => show ((cfgM m (ok m)).win 0).index t (2 : Fin 3) * 3072 + 1 * (y 1).val = (y 1).val
                rw [e0]; show 0 * 3072 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 64 + 1 * (y 0).val = (grid0.coords t 0).val * 64 + (y 0).val
                rw [e1]; show (grid0.coords t 0).val * 64 + 1 * (y 0).val = _; omega
    | ⟨2, _⟩ => show ((cfgM m (ok m)).win 1).index t (2 : Fin 3) * 3072 + 1 * (y 1).val = (y 1).val
                rw [e1]; show 0 * 3072 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 16, ∃ t : Fin grid0.N, (grid0.coords t 0).val = q.val := by decide +kernel

/-- The rows that the device sums. -/
theorem half (c : Dev nD) (i : S2048x3072.Idx) (h : 1024 ≤ (i 0).val) : (dats m (ok m) 0 c).arrAt 2 (cfgM m (ok m)).N i
    = total (m ((c : Thread nD τ).loc main_arg0)) (m ((c : Thread nD τ).loc main_arg1)) i := by
  have h1 : (i 1).val < 3072 := (i 1).isLt
  have h0 : (i 0).val < 2048 := (i 0).isLt
  obtain ⟨t, ht⟩ := point ⟨((i 0).val - 1024) / 64, by omega⟩
  have ht' : (grid0.coords t 0).val = ((i 0).val - 1024) / 64 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![16 + (grid0.coords t 0).val, 0] : Fin 2 → Nat) a := fun a => congrFun (place2 m t) a
  intro a
  match a with
  | ⟨0, _⟩ =>
    show ((cfgM m (ok m)).win 2).index t (0 : Fin 2) * 64 ≤ (i 0).val ∧ (i 0).val < ((cfgM m (ok m)).win 2).index t (0 : Fin 2) * 64 + 64
    rw [e2]; show (16 + (grid0.coords t 0).val) * 64 ≤ _ ∧ _ < (16 + (grid0.coords t 0).val) * 64 + 64; omega
  | ⟨1, _⟩ =>
    show ((cfgM m (ok m)).win 2).index t (1 : Fin 2) * 3072 ≤ (i 1).val ∧ (i 1).val < ((cfgM m (ok m)).win 2).index t (1 : Fin 2) * 3072 + 3072
    rw [e2]; show 0 * 3072 ≤ _ ∧ _ < 0 * 3072 + 3072; omega

/-- The rows of the result that the claim is about. -/
def result (c : Dev nD) : FVec Ideal S1024x3072 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 1024 := (i 0).isLt
  refine (extractStridedSlice_apply _ _ Facts₀.slices_S2048x3072_S1024x3072_1024_0 i
    (ix2 (⟨1024 + (i 0).val, by omega⟩ : Fin 2048) (⟨(i 1).val, (i 1).isLt⟩ : Fin 3072)) (fun a => match a with
    | ⟨0, _⟩ => by show 1024 + (i 0).val = 1024 + (i 0).val; rfl
    | ⟨1, _⟩ => by show (i 1).val = 0 + (i 1).val; omega)).trans ?_
  refine (half m c _ (Nat.le_add_right 1024 _)).trans ((dif_pos (Nat.le_add_right 1024 _)).trans ?_)
  exact congrArg (fun q : Fin 1024 => added (m ((c : Thread nD τ).loc main_arg0)) (m ((c : Thread nD τ).loc main_arg1)) q (i 1))
    (Fin.ext (Nat.add_sub_cancel_left 1024 _))

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumInBottomIdeal.Placed

namespace Cert.SumInBottomRefIdeal.Placed

open Cert.SumInBottomRefIdeal Cert.SumInBottomRefIdeal.Gen Cert.SumInBottomRefIdeal.Read

/-- The host's sum, element by element. -/
theorem value (p : FVec Ideal S4x1024x3072 .bf16) (r : FVec Ideal S3x1024x3072 .bf16) (i : S1024x3072.Idx) :
    val_main_v5 (F := Ideal) p r i = Cert.SumInBottomIdeal.Placed.added p r (i 0) (i 1) := by
  have h0 : (i 0).val < 1024 := (i 0).isLt
  have h1 : (i 1).val < 3072 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 3072 + (i 1).val) / 3072 % 1024 = (i 0).val; omega
    | ⟨2, _⟩ => show ((i 0).val * 3072 + (i 1).val) % 3072 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumInBottomRefIdeal.Placed

namespace Cert.Proof

/-- The chips' parts of the gradient, added by the kernel and by the host. -/
theorem algebraic_SumInBottom : Cert.algebraic_SumInBottomIdeal_SumInBottomRefIdeal (hSumInBottomIdeal := Cert.SumInBottomIdeal.Gen.facts)
    (hSumInBottomRefIdeal := Cert.SumInBottomRefIdeal.Gen.facts) := by
  intro m g m' g' _ hargs
  refine ⟨fun c => Cert.SumInBottomIdeal.Placed.result m c,
    (θ_run _ _ _).mono (fun _ h c => ⟨h.1 c, h.2 c⟩) (θ_run_and (Cert.SumInBottomIdeal.Placed.run m g)
      (Cert.SumInBottomIdeal.Gen.unchanged m g (Cert.SumInBottomIdeal.Placed.ok m))), ?_⟩
  refine (θ_run _ _ _).mono (fun _ h c => ?_) (Cert.SumInBottomRefIdeal.Value.run m' g')
  obtain ⟨e0, e1⟩ := hargs c
  refine ⟨(h c).1.trans (by
    rw [e0, e1]
    exact (Cert.SumInBottomRefIdeal.Read.val_main_v5_eq _ _).trans (funext fun i => Cert.SumInBottomRefIdeal.Placed.value _ _ i)), (h c).2⟩

end Cert.Proof

end
-- ==== Proof.SumBranchTop.Value.lean ====
/-
  The sum of the chips' parts of a weight's gradient, on the first core: the call picks its blocks by the device's place, which a
  table holds; the table is read off the host's lines, and with it the blocks, their sums and the rows that are returned.
-/
module

public import proofs.«01_k».proof.Defs
public import proofs.«01_k».proof.Proof.Gen.SumBranchTop.Frame
public import proofs.«01_k».proof.Proof.Gen.SumBranchTopIdeal.Frame
public import proofs.«01_k».proof.Proof.Gen.SumBranchTopRefIdeal.Run
public import proofs.«01_k».proof.Proof.Gen.SumBranchTopRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumBranchTop.Placed

open Cert.SumBranchTop Cert.SumBranchTop.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 1 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 1 := (i 0).isLt
  funext a
  match a with
  | ⟨0, _⟩ =>
    show ((0#32 * 1#32 : BitVec 32) + BitVec.ofNat 32 (i 0).val).toNat = (i 0).val
    rw [show (0#32 * 1#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumBranchTop.Placed

namespace Cert.SumBranchTopIdeal.Placed

open Cert.SumBranchTopIdeal Cert.SumBranchTopIdeal.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 1 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 1 := (i 0).isLt
  funext a
  match a with
  | ⟨0, _⟩ =>
    show ((0#32 * 1#32 : BitVec 32) + BitVec.ofNat 32 (i 0).val).toNat = (i 0).val
    rw [show (0#32 * 1#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumBranchTopIdeal.Placed

namespace Cert.SumBranchTopIdeal.Placed

open Cert.SumBranchTopIdeal Cert.SumBranchTopIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![(i 0).val, 0] from funext rows_out]
  revert t
  exact (by decide +kernel : ∀ t : Fin grid0.N, Pipeline.Window.flushOf grid0 true (fun i => ![(i 0).val, 0]) t = true)

/-- What the body leaves, element by element: its own block and the three received ones, added. -/
theorem out_apply (c : Dev nD) (g : grid0.Coords) (a2 : Memref sig .tc .vmem S1x512x512 .bf16) (h2 : a2.IsWhole)
    (a3 : Memref sig .tc .vmem S3x512x512 .bf16) (h3 : a3.IsWhole) (a4 : Memref sig .tc .vmem S512x512 .f32) (h4 : a4.IsWhole)
    (x0 : FVec Ideal S1x512x512 .bf16) (x1 : FVec Ideal S3x512x512 .bf16) (xt : TbBuf0 (F := Ideal) c tbM0_0) (i : S512x512.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S512x512) ![0, 0] S512x512.size Facts₀.inb_S512x512_S512x512_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 512, 512]⟩ : Shape) .bf16) (h : a.IsWhole)
      (x : FVec Ideal (⟨3, ![n, 512, 512]⟩ : Shape) .bf16) (b : Fin n) (inb) (hs) :
      shapeCast S512x512 (View.readAt (Elt Ideal) a.view (Rect.unit (s := (⟨3, ![n, 512, 512]⟩ : Shape)) ![b.val, 0, 0] ![1, 512, 512] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 512 + (i 0).val) * 512 + (i 1).val = (i 0).val * 512 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x512x512 .bf16) (r : FVec Ideal S3x512x512 .bf16) (i : Fin 512) (j : Fin 512) : EReal :=
  p (ix3 (0 : Fin 4) i j) + r (ix3 (0 : Fin 3) i j) + r (ix3 (1 : Fin 3) i j) + r (ix3 (2 : Fin 3) i j)

/-- The sum in the upper half of the result's rows; the lower half is the other core's. -/
def total (p : FVec Ideal S4x512x512 .bf16) (r : FVec Ideal S3x512x512 .bf16) : FVec Ideal S1024x512 .f32 :=
  fun i => if h : (i 0).val < 512 then added p r ⟨(i 0).val, h⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 1 := (grid0.coords t 0).isLt
  funext a
  match a with
  | ⟨0, _⟩ => rfl
  | ⟨1, _⟩ => exact (BitVec.toNat_ofNat _ _).trans (Nat.mod_eq_of_lt (lt_trans (b := 1) h (by decide)))
  | ⟨2, _⟩ => rfl

theorem place2 (t : Fin (cfgM m (ok m)).N) : ((cfgM m (ok m)).win 2).index t = ![(grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S512x512.Idx) => ?_
  have h0 : (y 0).val < 512 := (y 0).isLt
  have h1 : (y 1).val < 512 := (y 1).isLt
  have hg : (grid0.coords t 0).val < 1 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![(grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨(grid0.coords t 0).val * 512 + (y 0).val, by omega⟩ : Fin 1024) (⟨(y 1).val, h1⟩ : Fin 512) := by
    funext a
    refine Fin.ext ?_
    match a with
    | ⟨0, _⟩ =>
      show ((cfgM m (ok m)).win 2).index t (0 : Fin 2) * 512 + 1 * (y 0).val = (grid0.coords t 0).val * 512 + (y 0).val
      rw [e2]; show (grid0.coords t 0).val * 512 + 1 * (y 0).val = _; omega
    | ⟨1, _⟩ =>
      show ((cfgM m (ok m)).win 2).index t (1 : Fin 2) * 512 + 1 * (y 1).val = (y 1).val
      rw [e2]; show 0 * 512 + 1 * (y 1).val = _; omega
  show _ = total _ _ ((((cfgM m (ok m)).win 2).blk t).view.emb y)
  rw [ey]
  have hlt : (grid0.coords t 0).val * 512 + (y 0).val < 512 := by omega
  refine Eq.trans ?_ (dif_pos hlt).symm
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 512 + 1 * (y 0).val = (grid0.coords t 0).val * 512 + (y 0).val
                rw [e0]; show (grid0.coords t 0).val * 512 + 1 * (y 0).val = _; omega
    | ⟨2, _⟩ => show ((cfgM m (ok m)).win 0).index t (2 : Fin 3) * 512 + 1 * (y 1).val = (y 1).val
                rw [e0]; show 0 * 512 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 512 + 1 * (y 0).val = (grid0.coords t 0).val * 512 + (y 0).val
                rw [e1]; show (grid0.coords t 0).val * 512 + 1 * (y 0).val = _; omega
    | ⟨2, _⟩ => show ((cfgM m (ok m)).win 1).index t (2 : Fin 3) * 512 + 1 * (y 1).val = (y 1).val
                rw [e1]; show 0 * 512 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 1, ∃ t : Fin grid0.N, (grid0.coords t 0).val = q.val := by decide +kernel

/-- The rows that the device sums. -/
theorem half (c : Dev nD) (i : S1024x512.Idx) (h : (i 0).val < 512) : (dats m (ok m) 0 c).arrAt 2 (cfgM m (ok m)).N i
    = total (m ((c : Thread nD τ).loc main_arg0)) (m ((c : Thread nD τ).loc main_arg1)) i := by
  have h1 : (i 1).val < 512 := (i 1).isLt
  obtain ⟨t, ht⟩ := point ⟨(i 0).val / 512, by omega⟩
  have ht' : (grid0.coords t 0).val = (i 0).val / 512 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![(grid0.coords t 0).val, 0] : Fin 2 → Nat) a := fun a => congrFun (place2 m t) a
  intro a
  match a with
  | ⟨0, _⟩ =>
    show ((cfgM m (ok m)).win 2).index t (0 : Fin 2) * 512 ≤ (i 0).val ∧ (i 0).val < ((cfgM m (ok m)).win 2).index t (0 : Fin 2) * 512 + 512
    rw [e2]; show (grid0.coords t 0).val * 512 ≤ _ ∧ _ < (grid0.coords t 0).val * 512 + 512; omega
  | ⟨1, _⟩ =>
    show ((cfgM m (ok m)).win 2).index t (1 : Fin 2) * 512 ≤ (i 1).val ∧ (i 1).val < ((cfgM m (ok m)).win 2).index t (1 : Fin 2) * 512 + 512
    rw [e2]; show 0 * 512 ≤ _ ∧ _ < 0 * 512 + 512; omega

/-- The rows of the result that the claim is about. -/
def result (c : Dev nD) : FVec Ideal S512x512 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 512 := (i 0).isLt
  refine (extractStridedSlice_apply _ _ Facts₀.slices_S1024x512_S512x512_0_0 i
    (ix2 (⟨(i 0).val, by omega⟩ : Fin 1024) (⟨(i 1).val, (i 1).isLt⟩ : Fin 512)) (fun a => match a with
    | ⟨0, _⟩ => by show (i 0).val = 0 + (i 0).val; omega
    | ⟨1, _⟩ => by show (i 1).val = 0 + (i 1).val; omega)).trans ?_
  exact (half m c _ h0).trans (dif_pos h0)

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumBranchTopIdeal.Placed

namespace Cert.SumBranchTopRefIdeal.Placed

open Cert.SumBranchTopRefIdeal Cert.SumBranchTopRefIdeal.Gen Cert.SumBranchTopRefIdeal.Read

/-- The host's sum, element by element. -/
theorem value (p : FVec Ideal S4x512x512 .bf16) (r : FVec Ideal S3x512x512 .bf16) (i : S512x512.Idx) :
    val_main_v5 (F := Ideal) p r i = Cert.SumBranchTopIdeal.Placed.added p r (i 0) (i 1) := by
  have h0 : (i 0).val < 512 := (i 0).isLt
  have h1 : (i 1).val < 512 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 512 + (i 1).val) / 512 % 512 = (i 0).val; omega
    | ⟨2, _⟩ => show ((i 0).val * 512 + (i 1).val) % 512 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumBranchTopRefIdeal.Placed

namespace Cert.Proof

/-- The chips' parts of the gradient, added by the kernel and by the host. -/
theorem algebraic_SumBranchTop : Cert.algebraic_SumBranchTopIdeal_SumBranchTopRefIdeal (hSumBranchTopIdeal := Cert.SumBranchTopIdeal.Gen.facts)
    (hSumBranchTopRefIdeal := Cert.SumBranchTopRefIdeal.Gen.facts) := by
  intro m g m' g' _ hargs
  refine ⟨fun c => Cert.SumBranchTopIdeal.Placed.result m c,
    (θ_run _ _ _).mono (fun _ h c => ⟨h.1 c, h.2 c⟩) (θ_run_and (Cert.SumBranchTopIdeal.Placed.run m g)
      (Cert.SumBranchTopIdeal.Gen.unchanged m g (Cert.SumBranchTopIdeal.Placed.ok m))), ?_⟩
  refine (θ_run _ _ _).mono (fun _ h c => ?_) (Cert.SumBranchTopRefIdeal.Value.run m' g')
  obtain ⟨e0, e1⟩ := hargs c
  refine ⟨(h c).1.trans (by
    rw [e0, e1]
    exact (Cert.SumBranchTopRefIdeal.Read.val_main_v5_eq _ _).trans (funext fun i => Cert.SumBranchTopRefIdeal.Placed.value _ _ i)), (h c).2⟩

end Cert.Proof

end
-- ==== Proof.SumBranchBottom.Value.lean ====
/-
  The sum of the chips' parts of a weight's gradient, on the second core: the call picks its blocks by the device's place, which a
  table holds; the table is read off the host's lines, and with it the blocks, their sums and the rows that are returned.
-/
module

public import proofs.«01_k».proof.Defs
public import proofs.«01_k».proof.Proof.Gen.SumBranchBottom.Frame
public import proofs.«01_k».proof.Proof.Gen.SumBranchBottomIdeal.Frame
public import proofs.«01_k».proof.Proof.Gen.SumBranchBottomRefIdeal.Run
public import proofs.«01_k».proof.Proof.Gen.SumBranchBottomRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumBranchBottom.Placed

open Cert.SumBranchBottom Cert.SumBranchBottom.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 1 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![1 + (i 0).val, 0] := by
  have h : (i 0).val < 1 := (i 0).isLt
  funext a
  match a with
  | ⟨0, _⟩ =>
    show ((1#32 * 1#32 : BitVec 32) + BitVec.ofNat 32 (i 0).val).toNat = 1 + (i 0).val
    rw [show (1#32 * 1#32 : BitVec 32) = BitVec.ofNat 32 1 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumBranchBottom.Placed

namespace Cert.SumBranchBottomIdeal.Placed

open Cert.SumBranchBottomIdeal Cert.SumBranchBottomIdeal.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 1 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![1 + (i 0).val, 0] := by
  have h : (i 0).val < 1 := (i 0).isLt
  funext a
  match a with
  | ⟨0, _⟩ =>
    show ((1#32 * 1#32 : BitVec 32) + BitVec.ofNat 32 (i 0).val).toNat = 1 + (i 0).val
    rw [show (1#32 * 1#32 : BitVec 32) = BitVec.ofNat 32 1 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumBranchBottomIdeal.Placed

namespace Cert.SumBranchBottomIdeal.Placed

open Cert.SumBranchBottomIdeal Cert.SumBranchBottomIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![1 + (i 0).val, 0] from funext rows_out]
  revert t
  exact (by decide +kernel : ∀ t : Fin grid0.N, Pipeline.Window.flushOf grid0 true (fun i => ![1 + (i 0).val, 0]) t = true)

/-- What the body leaves, element by element: its own block and the three received ones, added. -/
theorem out_apply (c : Dev nD) (g : grid0.Coords) (a2 : Memref sig .tc .vmem S1x512x512 .bf16) (h2 : a2.IsWhole)
    (a3 : Memref sig .tc .vmem S3x512x512 .bf16) (h3 : a3.IsWhole) (a4 : Memref sig .tc .vmem S512x512 .f32) (h4 : a4.IsWhole)
    (x0 : FVec Ideal S1x512x512 .bf16) (x1 : FVec Ideal S3x512x512 .bf16) (xt : TbBuf0 (F := Ideal) c tbM0_0) (i : S512x512.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S512x512) ![0, 0] S512x512.size Facts₀.inb_S512x512_S512x512_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 512, 512]⟩ : Shape) .bf16) (h : a.IsWhole)
      (x : FVec Ideal (⟨3, ![n, 512, 512]⟩ : Shape) .bf16) (b : Fin n) (inb) (hs) :
      shapeCast S512x512 (View.readAt (Elt Ideal) a.view (Rect.unit (s := (⟨3, ![n, 512, 512]⟩ : Shape)) ![b.val, 0, 0] ![1, 512, 512] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 512 + (i 0).val) * 512 + (i 1).val = (i 0).val * 512 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x512x512 .bf16) (r : FVec Ideal S3x512x512 .bf16) (i : Fin 512) (j : Fin 512) : EReal :=
  p (ix3 (0 : Fin 4) i j) + r (ix3 (0 : Fin 3) i j) + r (ix3 (1 : Fin 3) i j) + r (ix3 (2 : Fin 3) i j)

/-- The sum in the lower half of the result's rows; the upper half is the other core's. -/
def total (p : FVec Ideal S4x512x512 .bf16) (r : FVec Ideal S3x512x512 .bf16) : FVec Ideal S1024x512 .f32 :=
  fun i => if h : 512 ≤ (i 0).val then added p r ⟨(i 0).val - 512, by have : (i 0).val < 1024 := (i 0).isLt; omega⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 1 := (grid0.coords t 0).isLt
  funext a
  match a with
  | ⟨0, _⟩ => rfl
  | ⟨1, _⟩ => exact (BitVec.toNat_ofNat _ _).trans (Nat.mod_eq_of_lt (lt_trans (b := 1) h (by decide)))
  | ⟨2, _⟩ => rfl

theorem place2 (t : Fin (cfgM m (ok m)).N) : ((cfgM m (ok m)).win 2).index t = ![1 + (grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S512x512.Idx) => ?_
  have h0 : (y 0).val < 512 := (y 0).isLt
  have h1 : (y 1).val < 512 := (y 1).isLt
  have hg : (grid0.coords t 0).val < 1 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![1 + (grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨512 + ((grid0.coords t 0).val * 512 + (y 0).val), by omega⟩ : Fin 1024) (⟨(y 1).val, h1⟩ : Fin 512) := by
    funext a
    refine Fin.ext ?_
    match a with
    | ⟨0, _⟩ =>
      show ((cfgM m (ok m)).win 2).index t (0 : Fin 2) * 512 + 1 * (y 0).val = 512 + ((grid0.coords t 0).val * 512 + (y 0).val)
      rw [e2]; show (1 + (grid0.coords t 0).val) * 512 + 1 * (y 0).val = _; omega
    | ⟨1, _⟩ =>
      show ((cfgM m (ok m)).win 2).index t (1 : Fin 2) * 512 + 1 * (y 1).val = (y 1).val
      rw [e2]; show 0 * 512 + 1 * (y 1).val = _; omega
  show _ = total _ _ ((((cfgM m (ok m)).win 2).blk t).view.emb y)
  rw [ey]
  have hlt : (grid0.coords t 0).val * 512 + (y 0).val < 512 := by omega
  refine Eq.trans ?_ (dif_pos (Nat.le_add_right 512 _)).symm
  refine Eq.trans ?_ (congrArg (fun q : Fin 512 => added (m ((c : Thread nD τ).loc main_arg0)) (m ((c : Thread nD τ).loc main_arg1)) q ⟨(y 1).val, h1⟩)
    (Fin.ext (Nat.add_sub_cancel_left 512 _).symm : (⟨(grid0.coords t 0).val * 512 + (y 0).val, hlt⟩ : Fin 512) = _))
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 512 + 1 * (y 0).val = (grid0.coords t 0).val * 512 + (y 0).val
                rw [e0]; show (grid0.coords t 0).val * 512 + 1 * (y 0).val = _; omega
    | ⟨2, _⟩ => show ((cfgM m (ok m)).win 0).index t (2 : Fin 3) * 512 + 1 * (y 1).val = (y 1).val
                rw [e0]; show 0 * 512 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 512 + 1 * (y 0).val = (grid0.coords t 0).val * 512 + (y 0).val
                rw [e1]; show (grid0.coords t 0).val * 512 + 1 * (y 0).val = _; omega
    | ⟨2, _⟩ => show ((cfgM m (ok m)).win 1).index t (2 : Fin 3) * 512 + 1 * (y 1).val = (y 1).val
                rw [e1]; show 0 * 512 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 1, ∃ t : Fin grid0.N, (grid0.coords t 0).val = q.val := by decide +kernel

/-- The rows that the device sums. -/
theorem half (c : Dev nD) (i : S1024x512.Idx) (h : 512 ≤ (i 0).val) : (dats m (ok m) 0 c).arrAt 2 (cfgM m (ok m)).N i
    = total (m ((c : Thread nD τ).loc main_arg0)) (m ((c : Thread nD τ).loc main_arg1)) i := by
  have h1 : (i 1).val < 512 := (i 1).isLt
  have h0 : (i 0).val < 1024 := (i 0).isLt
  obtain ⟨t, ht⟩ := point ⟨((i 0).val - 512) / 512, by omega⟩
  have ht' : (grid0.coords t 0).val = ((i 0).val - 512) / 512 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![1 + (grid0.coords t 0).val, 0] : Fin 2 → Nat) a := fun a => congrFun (place2 m t) a
  intro a
  match a with
  | ⟨0, _⟩ =>
    show ((cfgM m (ok m)).win 2).index t (0 : Fin 2) * 512 ≤ (i 0).val ∧ (i 0).val < ((cfgM m (ok m)).win 2).index t (0 : Fin 2) * 512 + 512
    rw [e2]; show (1 + (grid0.coords t 0).val) * 512 ≤ _ ∧ _ < (1 + (grid0.coords t 0).val) * 512 + 512; omega
  | ⟨1, _⟩ =>
    show ((cfgM m (ok m)).win 2).index t (1 : Fin 2) * 512 ≤ (i 1).val ∧ (i 1).val < ((cfgM m (ok m)).win 2).index t (1 : Fin 2) * 512 + 512
    rw [e2]; show 0 * 512 ≤ _ ∧ _ < 0 * 512 + 512; omega

/-- The rows of the result that the claim is about. -/
def result (c : Dev nD) : FVec Ideal S512x512 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 512 := (i 0).isLt
  refine (extractStridedSlice_apply _ _ Facts₀.slices_S1024x512_S512x512_512_0 i
    (ix2 (⟨512 + (i 0).val, by omega⟩ : Fin 1024) (⟨(i 1).val, (i 1).isLt⟩ : Fin 512)) (fun a => match a with
    | ⟨0, _⟩ => by show 512 + (i 0).val = 512 + (i 0).val; rfl
    | ⟨1, _⟩ => by show (i 1).val = 0 + (i 1).val; omega)).trans ?_
  refine (half m c _ (Nat.le_add_right 512 _)).trans ((dif_pos (Nat.le_add_right 512 _)).trans ?_)
  exact congrArg (fun q : Fin 512 => added (m ((c : Thread nD τ).loc main_arg0)) (m ((c : Thread nD τ).loc main_arg1)) q (i 1))
    (Fin.ext (Nat.add_sub_cancel_left 512 _))

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumBranchBottomIdeal.Placed

namespace Cert.SumBranchBottomRefIdeal.Placed

open Cert.SumBranchBottomRefIdeal Cert.SumBranchBottomRefIdeal.Gen Cert.SumBranchBottomRefIdeal.Read

/-- The host's sum, element by element. -/
theorem value (p : FVec Ideal S4x512x512 .bf16) (r : FVec Ideal S3x512x512 .bf16) (i : S512x512.Idx) :
    val_main_v5 (F := Ideal) p r i = Cert.SumBranchBottomIdeal.Placed.added p r (i 0) (i 1) := by
  have h0 : (i 0).val < 512 := (i 0).isLt
  have h1 : (i 1).val < 512 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 512 + (i 1).val) / 512 % 512 = (i 0).val; omega
    | ⟨2, _⟩ => show ((i 0).val * 512 + (i 1).val) % 512 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumBranchBottomRefIdeal.Placed

namespace Cert.Proof

/-- The chips' parts of the gradient, added by the kernel and by the host. -/
theorem algebraic_SumBranchBottom : Cert.algebraic_SumBranchBottomIdeal_SumBranchBottomRefIdeal (hSumBranchBottomIdeal := Cert.SumBranchBottomIdeal.Gen.facts)
    (hSumBranchBottomRefIdeal := Cert.SumBranchBottomRefIdeal.Gen.facts) := by
  intro m g m' g' _ hargs
  refine ⟨fun c => Cert.SumBranchBottomIdeal.Placed.result m c,
    (θ_run _ _ _).mono (fun _ h c => ⟨h.1 c, h.2 c⟩) (θ_run_and (Cert.SumBranchBottomIdeal.Placed.run m g)
      (Cert.SumBranchBottomIdeal.Gen.unchanged m g (Cert.SumBranchBottomIdeal.Placed.ok m))), ?_⟩
  refine (θ_run _ _ _).mono (fun _ h c => ?_) (Cert.SumBranchBottomRefIdeal.Value.run m' g')
  obtain ⟨e0, e1⟩ := hargs c
  refine ⟨(h c).1.trans (by
    rw [e0, e1]
    exact (Cert.SumBranchBottomRefIdeal.Read.val_main_v5_eq _ _).trans (funext fun i => Cert.SumBranchBottomRefIdeal.Placed.value _ _ i)), (h c).2⟩

end Cert.Proof

end
-- ==== Proof.SumOutTop.Value.lean ====
/-
  The sum of the chips' parts of a weight's gradient, on the first core: the call picks its blocks by the device's place, which a
  table holds; the table is read off the host's lines, and with it the blocks, their sums and the rows that are returned.
-/
module

public import proofs.«01_k».proof.Defs
public import proofs.«01_k».proof.Proof.Gen.SumOutTop.Frame
public import proofs.«01_k».proof.Proof.Gen.SumOutTopIdeal.Frame
public import proofs.«01_k».proof.Proof.Gen.SumOutTopRefIdeal.Run
public import proofs.«01_k».proof.Proof.Gen.SumOutTopRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumOutTop.Placed

open Cert.SumOutTop Cert.SumOutTop.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 2 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 2 := (i 0).isLt
  funext a
  match a with
  | ⟨0, _⟩ =>
    show ((0#32 * 2#32 : BitVec 32) + BitVec.ofNat 32 (i 0).val).toNat = (i 0).val
    rw [show (0#32 * 2#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumOutTop.Placed

namespace Cert.SumOutTopIdeal.Placed

open Cert.SumOutTopIdeal Cert.SumOutTopIdeal.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 2 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 2 := (i 0).isLt
  funext a
  match a with
  | ⟨0, _⟩ =>
    show ((0#32 * 2#32 : BitVec 32) + BitVec.ofNat 32 (i 0).val).toNat = (i 0).val
    rw [show (0#32 * 2#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumOutTopIdeal.Placed

namespace Cert.SumOutTopIdeal.Placed

open Cert.SumOutTopIdeal Cert.SumOutTopIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![(i 0).val, 0] from funext rows_out]
  revert t
  exact (by decide +kernel : ∀ t : Fin grid0.N, Pipeline.Window.flushOf grid0 true (fun i => ![(i 0).val, 0]) t = true)

/-- What the body leaves, element by element: its own block and the three received ones, added. -/
theorem out_apply (c : Dev nD) (g : grid0.Coords) (a2 : Memref sig .tc .vmem S1x128x2048 .bf16) (h2 : a2.IsWhole)
    (a3 : Memref sig .tc .vmem S3x128x2048 .bf16) (h3 : a3.IsWhole) (a4 : Memref sig .tc .vmem S128x2048 .f32) (h4 : a4.IsWhole)
    (x0 : FVec Ideal S1x128x2048 .bf16) (x1 : FVec Ideal S3x128x2048 .bf16) (xt : TbBuf0 (F := Ideal) c tbM0_0) (i : S128x2048.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S128x2048) ![0, 0] S128x2048.size Facts₀.inb_S128x2048_S128x2048_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 128, 2048]⟩ : Shape) .bf16) (h : a.IsWhole)
      (x : FVec Ideal (⟨3, ![n, 128, 2048]⟩ : Shape) .bf16) (b : Fin n) (inb) (hs) :
      shapeCast S128x2048 (View.readAt (Elt Ideal) a.view (Rect.unit (s := (⟨3, ![n, 128, 2048]⟩ : Shape)) ![b.val, 0, 0] ![1, 128, 2048] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 128 + (i 0).val) * 2048 + (i 1).val = (i 0).val * 2048 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x256x2048 .bf16) (r : FVec Ideal S3x256x2048 .bf16) (i : Fin 256) (j : Fin 2048) : EReal :=
  p (ix3 (0 : Fin 4) i j) + r (ix3 (0 : Fin 3) i j) + r (ix3 (1 : Fin 3) i j) + r (ix3 (2 : Fin 3) i j)

/-- The sum in the upper half of the result's rows; the lower half is the other core's. -/
def total (p : FVec Ideal S4x256x2048 .bf16) (r : FVec Ideal S3x256x2048 .bf16) : FVec Ideal S512x2048 .f32 :=
  fun i => if h : (i 0).val < 256 then added p r ⟨(i 0).val, h⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 2 := (grid0.coords t 0).isLt
  funext a
  match a with
  | ⟨0, _⟩ => rfl
  | ⟨1, _⟩ => exact (BitVec.toNat_ofNat _ _).trans (Nat.mod_eq_of_lt (lt_trans (b := 2) h (by decide)))
  | ⟨2, _⟩ => rfl

theorem place2 (t : Fin (cfgM m (ok m)).N) : ((cfgM m (ok m)).win 2).index t = ![(grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S128x2048.Idx) => ?_
  have h0 : (y 0).val < 128 := (y 0).isLt
  have h1 : (y 1).val < 2048 := (y 1).isLt
  have hg : (grid0.coords t 0).val < 2 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![(grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨(grid0.coords t 0).val * 128 + (y 0).val, by omega⟩ : Fin 512) (⟨(y 1).val, h1⟩ : Fin 2048) := by
    funext a
    refine Fin.ext ?_
    match a with
    | ⟨0, _⟩ =>
      show ((cfgM m (ok m)).win 2).index t (0 : Fin 2) * 128 + 1 * (y 0).val = (grid0.coords t 0).val * 128 + (y 0).val
      rw [e2]; show (grid0.coords t 0).val * 128 + 1 * (y 0).val = _; omega
    | ⟨1, _⟩ =>
      show ((cfgM m (ok m)).win 2).index t (1 : Fin 2) * 2048 + 1 * (y 1).val = (y 1).val
      rw [e2]; show 0 * 2048 + 1 * (y 1).val = _; omega
  show _ = total _ _ ((((cfgM m (ok m)).win 2).blk t).view.emb y)
  rw [ey]
  have hlt : (grid0.coords t 0).val * 128 + (y 0).val < 256 := by omega
  refine Eq.trans ?_ (dif_pos hlt).symm
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 128 + 1 * (y 0).val = (grid0.coords t 0).val * 128 + (y 0).val
                rw [e0]; show (grid0.coords t 0).val * 128 + 1 * (y 0).val = _; omega
    | ⟨2, _⟩ => show ((cfgM m (ok m)).win 0).index t (2 : Fin 3) * 2048 + 1 * (y 1).val = (y 1).val
                rw [e0]; show 0 * 2048 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 128 + 1 * (y 0).val = (grid0.coords t 0).val * 128 + (y 0).val
                rw [e1]; show (grid0.coords t 0).val * 128 + 1 * (y 0).val = _; omega
    | ⟨2, _⟩ => show ((cfgM m (ok m)).win 1).index t (2 : Fin 3) * 2048 + 1 * (y 1).val = (y 1).val
                rw [e1]; show 0 * 2048 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 2, ∃ t : Fin grid0.N, (grid0.coords t 0).val = q.val := by decide +kernel

/-- The rows that the device sums. -/
theorem half (c : Dev nD) (i : S512x2048.Idx) (h : (i 0).val < 256) : (dats m (ok m) 0 c).arrAt 2 (cfgM m (ok m)).N i
    = total (m ((c : Thread nD τ).loc main_arg0)) (m ((c : Thread nD τ).loc main_arg1)) i := by
  have h1 : (i 1).val < 2048 := (i 1).isLt
  obtain ⟨t, ht⟩ := point ⟨(i 0).val / 128, by omega⟩
  have ht' : (grid0.coords t 0).val = (i 0).val / 128 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![(grid0.coords t 0).val, 0] : Fin 2 → Nat) a := fun a => congrFun (place2 m t) a
  intro a
  match a with
  | ⟨0, _⟩ =>
    show ((cfgM m (ok m)).win 2).index t (0 : Fin 2) * 128 ≤ (i 0).val ∧ (i 0).val < ((cfgM m (ok m)).win 2).index t (0 : Fin 2) * 128 + 128
    rw [e2]; show (grid0.coords t 0).val * 128 ≤ _ ∧ _ < (grid0.coords t 0).val * 128 + 128; omega
  | ⟨1, _⟩ =>
    show ((cfgM m (ok m)).win 2).index t (1 : Fin 2) * 2048 ≤ (i 1).val ∧ (i 1).val < ((cfgM m (ok m)).win 2).index t (1 : Fin 2) * 2048 + 2048
    rw [e2]; show 0 * 2048 ≤ _ ∧ _ < 0 * 2048 + 2048; omega

/-- The rows of the result that the claim is about. -/
def result (c : Dev nD) : FVec Ideal S256x2048 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 256 := (i 0).isLt
  refine (extractStridedSlice_apply _ _ Facts₀.slices_S512x2048_S256x2048_0_0 i
    (ix2 (⟨(i 0).val, by omega⟩ : Fin 512) (⟨(i 1).val, (i 1).isLt⟩ : Fin 2048)) (fun a => match a with
    | ⟨0, _⟩ => by show (i 0).val = 0 + (i 0).val; omega
    | ⟨1, _⟩ => by show (i 1).val = 0 + (i 1).val; omega)).trans ?_
  exact (half m c _ h0).trans (dif_pos h0)

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumOutTopIdeal.Placed

namespace Cert.SumOutTopRefIdeal.Placed

open Cert.SumOutTopRefIdeal Cert.SumOutTopRefIdeal.Gen Cert.SumOutTopRefIdeal.Read

/-- The host's sum, element by element. -/
theorem value (p : FVec Ideal S4x256x2048 .bf16) (r : FVec Ideal S3x256x2048 .bf16) (i : S256x2048.Idx) :
    val_main_v5 (F := Ideal) p r i = Cert.SumOutTopIdeal.Placed.added p r (i 0) (i 1) := by
  have h0 : (i 0).val < 256 := (i 0).isLt
  have h1 : (i 1).val < 2048 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 2048 + (i 1).val) / 2048 % 256 = (i 0).val; omega
    | ⟨2, _⟩ => show ((i 0).val * 2048 + (i 1).val) % 2048 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumOutTopRefIdeal.Placed

namespace Cert.Proof

/-- The chips' parts of the gradient, added by the kernel and by the host. -/
theorem algebraic_SumOutTop : Cert.algebraic_SumOutTopIdeal_SumOutTopRefIdeal (hSumOutTopIdeal := Cert.SumOutTopIdeal.Gen.facts)
    (hSumOutTopRefIdeal := Cert.SumOutTopRefIdeal.Gen.facts) := by
  intro m g m' g' _ hargs
  refine ⟨fun c => Cert.SumOutTopIdeal.Placed.result m c,
    (θ_run _ _ _).mono (fun _ h c => ⟨h.1 c, h.2 c⟩) (θ_run_and (Cert.SumOutTopIdeal.Placed.run m g)
      (Cert.SumOutTopIdeal.Gen.unchanged m g (Cert.SumOutTopIdeal.Placed.ok m))), ?_⟩
  refine (θ_run _ _ _).mono (fun _ h c => ?_) (Cert.SumOutTopRefIdeal.Value.run m' g')
  obtain ⟨e0, e1⟩ := hargs c
  refine ⟨(h c).1.trans (by
    rw [e0, e1]
    exact (Cert.SumOutTopRefIdeal.Read.val_main_v5_eq _ _).trans (funext fun i => Cert.SumOutTopRefIdeal.Placed.value _ _ i)), (h c).2⟩

end Cert.Proof

end
-- ==== Proof.SumOutBottom.Value.lean ====
/-
  The sum of the chips' parts of a weight's gradient, on the second core: the call picks its blocks by the device's place, which a
  table holds; the table is read off the host's lines, and with it the blocks, their sums and the rows that are returned.
-/
module

public import proofs.«01_k».proof.Defs
public import proofs.«01_k».proof.Proof.Gen.SumOutBottom.Frame
public import proofs.«01_k».proof.Proof.Gen.SumOutBottomIdeal.Frame
public import proofs.«01_k».proof.Proof.Gen.SumOutBottomRefIdeal.Run
public import proofs.«01_k».proof.Proof.Gen.SumOutBottomRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumOutBottom.Placed

open Cert.SumOutBottom Cert.SumOutBottom.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 2 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![2 + (i 0).val, 0] := by
  have h : (i 0).val < 2 := (i 0).isLt
  funext a
  match a with
  | ⟨0, _⟩ =>
    show ((1#32 * 2#32 : BitVec 32) + BitVec.ofNat 32 (i 0).val).toNat = 2 + (i 0).val
    rw [show (1#32 * 2#32 : BitVec 32) = BitVec.ofNat 32 2 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumOutBottom.Placed

namespace Cert.SumOutBottomIdeal.Placed

open Cert.SumOutBottomIdeal Cert.SumOutBottomIdeal.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 2 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![2 + (i 0).val, 0] := by
  have h : (i 0).val < 2 := (i 0).isLt
  funext a
  match a with
  | ⟨0, _⟩ =>
    show ((1#32 * 2#32 : BitVec 32) + BitVec.ofNat 32 (i 0).val).toNat = 2 + (i 0).val
    rw [show (1#32 * 2#32 : BitVec 32) = BitVec.ofNat 32 2 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumOutBottomIdeal.Placed

namespace Cert.SumOutBottomIdeal.Placed

open Cert.SumOutBottomIdeal Cert.SumOutBottomIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![2 + (i 0).val, 0] from funext rows_out]
  revert t
  exact (by decide +kernel : ∀ t : Fin grid0.N, Pipeline.Window.flushOf grid0 true (fun i => ![2 + (i 0).val, 0]) t = true)

/-- What the body leaves, element by element: its own block and the three received ones, added. -/
theorem out_apply (c : Dev nD) (g : grid0.Coords) (a2 : Memref sig .tc .vmem S1x128x2048 .bf16) (h2 : a2.IsWhole)
    (a3 : Memref sig .tc .vmem S3x128x2048 .bf16) (h3 : a3.IsWhole) (a4 : Memref sig .tc .vmem S128x2048 .f32) (h4 : a4.IsWhole)
    (x0 : FVec Ideal S1x128x2048 .bf16) (x1 : FVec Ideal S3x128x2048 .bf16) (xt : TbBuf0 (F := Ideal) c tbM0_0) (i : S128x2048.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S128x2048) ![0, 0] S128x2048.size Facts₀.inb_S128x2048_S128x2048_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 128, 2048]⟩ : Shape) .bf16) (h : a.IsWhole)
      (x : FVec Ideal (⟨3, ![n, 128, 2048]⟩ : Shape) .bf16) (b : Fin n) (inb) (hs) :
      shapeCast S128x2048 (View.readAt (Elt Ideal) a.view (Rect.unit (s := (⟨3, ![n, 128, 2048]⟩ : Shape)) ![b.val, 0, 0] ![1, 128, 2048] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 128 + (i 0).val) * 2048 + (i 1).val = (i 0).val * 2048 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x256x2048 .bf16) (r : FVec Ideal S3x256x2048 .bf16) (i : Fin 256) (j : Fin 2048) : EReal :=
  p (ix3 (0 : Fin 4) i j) + r (ix3 (0 : Fin 3) i j) + r (ix3 (1 : Fin 3) i j) + r (ix3 (2 : Fin 3) i j)

/-- The sum in the lower half of the result's rows; the upper half is the other core's. -/
def total (p : FVec Ideal S4x256x2048 .bf16) (r : FVec Ideal S3x256x2048 .bf16) : FVec Ideal S512x2048 .f32 :=
  fun i => if h : 256 ≤ (i 0).val then added p r ⟨(i 0).val - 256, by have : (i 0).val < 512 := (i 0).isLt; omega⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 2 := (grid0.coords t 0).isLt
  funext a
  match a with
  | ⟨0, _⟩ => rfl
  | ⟨1, _⟩ => exact (BitVec.toNat_ofNat _ _).trans (Nat.mod_eq_of_lt (lt_trans (b := 2) h (by decide)))
  | ⟨2, _⟩ => rfl

theorem place2 (t : Fin (cfgM m (ok m)).N) : ((cfgM m (ok m)).win 2).index t = ![2 + (grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S128x2048.Idx) => ?_
  have h0 : (y 0).val < 128 := (y 0).isLt
  have h1 : (y 1).val < 2048 := (y 1).isLt
  have hg : (grid0.coords t 0).val < 2 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![2 + (grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨256 + ((grid0.coords t 0).val * 128 + (y 0).val), by omega⟩ : Fin 512) (⟨(y 1).val, h1⟩ : Fin 2048) := by
    funext a
    refine Fin.ext ?_
    match a with
    | ⟨0, _⟩ =>
      show ((cfgM m (ok m)).win 2).index t (0 : Fin 2) * 128 + 1 * (y 0).val = 256 + ((grid0.coords t 0).val * 128 + (y 0).val)
      rw [e2]; show (2 + (grid0.coords t 0).val) * 128 + 1 * (y 0).val = _; omega
    | ⟨1, _⟩ =>
      show ((cfgM m (ok m)).win 2).index t (1 : Fin 2) * 2048 + 1 * (y 1).val = (y 1).val
      rw [e2]; show 0 * 2048 + 1 * (y 1).val = _; omega
  show _ = total _ _ ((((cfgM m (ok m)).win 2).blk t).view.emb y)
  rw [ey]
  have hlt : (grid0.coords t 0).val * 128 + (y 0).val < 256 := by omega
  refine Eq.trans ?_ (dif_pos (Nat.le_add_right 256 _)).symm
  refine Eq.trans ?_ (congrArg (fun q : Fin 256 => added (m ((c : Thread nD τ).loc main_arg0)) (m ((c : Thread nD τ).loc main_arg1)) q ⟨(y 1).val, h1⟩)
    (Fin.ext (Nat.add_sub_cancel_left 256 _).symm : (⟨(grid0.coords t 0).val * 128 + (y 0).val, hlt⟩ : Fin 256) = _))
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 128 + 1 * (y 0).val = (grid0.coords t 0).val * 128 + (y 0).val
                rw [e0]; show (grid0.coords t 0).val * 128 + 1 * (y 0).val = _; omega
    | ⟨2, _⟩ => show ((cfgM m (ok m)).win 0).index t (2 : Fin 3) * 2048 + 1 * (y 1).val = (y 1).val
                rw [e0]; show 0 * 2048 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 128 + 1 * (y 0).val = (grid0.coords t 0).val * 128 + (y 0).val
                rw [e1]; show (grid0.coords t 0).val * 128 + 1 * (y 0).val = _; omega
    | ⟨2, _⟩ => show ((cfgM m (ok m)).win 1).index t (2 : Fin 3) * 2048 + 1 * (y 1).val = (y 1).val
                rw [e1]; show 0 * 2048 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 2, ∃ t : Fin grid0.N, (grid0.coords t 0).val = q.val := by decide +kernel

/-- The rows that the device sums. -/
theorem half (c : Dev nD) (i : S512x2048.Idx) (h : 256 ≤ (i 0).val) : (dats m (ok m) 0 c).arrAt 2 (cfgM m (ok m)).N i
    = total (m ((c : Thread nD τ).loc main_arg0)) (m ((c : Thread nD τ).loc main_arg1)) i := by
  have h1 : (i 1).val < 2048 := (i 1).isLt
  have h0 : (i 0).val < 512 := (i 0).isLt
  obtain ⟨t, ht⟩ := point ⟨((i 0).val - 256) / 128, by omega⟩
  have ht' : (grid0.coords t 0).val = ((i 0).val - 256) / 128 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![2 + (grid0.coords t 0).val, 0] : Fin 2 → Nat) a := fun a => congrFun (place2 m t) a
  intro a
  match a with
  | ⟨0, _⟩ =>
    show ((cfgM m (ok m)).win 2).index t (0 : Fin 2) * 128 ≤ (i 0).val ∧ (i 0).val < ((cfgM m (ok m)).win 2).index t (0 : Fin 2) * 128 + 128
    rw [e2]; show (2 + (grid0.coords t 0).val) * 128 ≤ _ ∧ _ < (2 + (grid0.coords t 0).val) * 128 + 128; omega
  | ⟨1, _⟩ =>
    show ((cfgM m (ok m)).win 2).index t (1 : Fin 2) * 2048 ≤ (i 1).val ∧ (i 1).val < ((cfgM m (ok m)).win 2).index t (1 : Fin 2) * 2048 + 2048
    rw [e2]; show 0 * 2048 ≤ _ ∧ _ < 0 * 2048 + 2048; omega

/-- The rows of the result that the claim is about. -/
def result (c : Dev nD) : FVec Ideal S256x2048 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 256 := (i 0).isLt
  refine (extractStridedSlice_apply _ _ Facts₀.slices_S512x2048_S256x2048_256_0 i
    (ix2 (⟨256 + (i 0).val, by omega⟩ : Fin 512) (⟨(i 1).val, (i 1).isLt⟩ : Fin 2048)) (fun a => match a with
    | ⟨0, _⟩ => by show 256 + (i 0).val = 256 + (i 0).val; rfl
    | ⟨1, _⟩ => by show (i 1).val = 0 + (i 1).val; omega)).trans ?_
  refine (half m c _ (Nat.le_add_right 256 _)).trans ((dif_pos (Nat.le_add_right 256 _)).trans ?_)
  exact congrArg (fun q : Fin 256 => added (m ((c : Thread nD τ).loc main_arg0)) (m ((c : Thread nD τ).loc main_arg1)) q (i 1))
    (Fin.ext (Nat.add_sub_cancel_left 256 _))

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumOutBottomIdeal.Placed

namespace Cert.SumOutBottomRefIdeal.Placed

open Cert.SumOutBottomRefIdeal Cert.SumOutBottomRefIdeal.Gen Cert.SumOutBottomRefIdeal.Read

/-- The host's sum, element by element. -/
theorem value (p : FVec Ideal S4x256x2048 .bf16) (r : FVec Ideal S3x256x2048 .bf16) (i : S256x2048.Idx) :
    val_main_v5 (F := Ideal) p r i = Cert.SumOutBottomIdeal.Placed.added p r (i 0) (i 1) := by
  have h0 : (i 0).val < 256 := (i 0).isLt
  have h1 : (i 1).val < 2048 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 2048 + (i 1).val) / 2048 % 256 = (i 0).val; omega
    | ⟨2, _⟩ => show ((i 0).val * 2048 + (i 1).val) % 2048 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumOutBottomRefIdeal.Placed

namespace Cert.Proof

/-- The chips' parts of the gradient, added by the kernel and by the host. -/
theorem algebraic_SumOutBottom : Cert.algebraic_SumOutBottomIdeal_SumOutBottomRefIdeal (hSumOutBottomIdeal := Cert.SumOutBottomIdeal.Gen.facts)
    (hSumOutBottomRefIdeal := Cert.SumOutBottomRefIdeal.Gen.facts) := by
  intro m g m' g' _ hargs
  refine ⟨fun c => Cert.SumOutBottomIdeal.Placed.result m c,
    (θ_run _ _ _).mono (fun _ h c => ⟨h.1 c, h.2 c⟩) (θ_run_and (Cert.SumOutBottomIdeal.Placed.run m g)
      (Cert.SumOutBottomIdeal.Gen.unchanged m g (Cert.SumOutBottomIdeal.Placed.ok m))), ?_⟩
  refine (θ_run _ _ _).mono (fun _ h c => ?_) (Cert.SumOutBottomRefIdeal.Value.run m' g')
  obtain ⟨e0, e1⟩ := hargs c
  refine ⟨(h c).1.trans (by
    rw [e0, e1]
    exact (Cert.SumOutBottomRefIdeal.Read.val_main_v5_eq _ _).trans (funext fun i => Cert.SumOutBottomRefIdeal.Placed.value _ _ i)), (h c).2⟩

end Cert.Proof

end
-- ==== Proof.SumFfn1Top.Value.lean ====
/-
  The sum of the chips' parts of a weight's gradient, on the first core: the call picks its blocks by the device's place, which a
  table holds; the table is read off the host's lines, and with it the blocks, their sums and the rows that are returned.
-/
module

public import proofs.«01_k».proof.Defs
public import proofs.«01_k».proof.Proof.Gen.SumFfn1Top.Frame
public import proofs.«01_k».proof.Proof.Gen.SumFfn1TopIdeal.Frame
public import proofs.«01_k».proof.Proof.Gen.SumFfn1TopRefIdeal.Run
public import proofs.«01_k».proof.Proof.Gen.SumFfn1TopRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumFfn1Top.Placed

open Cert.SumFfn1Top Cert.SumFfn1Top.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 8 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 8 := (i 0).isLt
  funext a
  match a with
  | ⟨0, _⟩ =>
    show ((0#32 * 8#32 : BitVec 32) + BitVec.ofNat 32 (i 0).val).toNat = (i 0).val
    rw [show (0#32 * 8#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn1Top.Placed

namespace Cert.SumFfn1TopIdeal.Placed

open Cert.SumFfn1TopIdeal Cert.SumFfn1TopIdeal.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 8 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 8 := (i 0).isLt
  funext a
  match a with
  | ⟨0, _⟩ =>
    show ((0#32 * 8#32 : BitVec 32) + BitVec.ofNat 32 (i 0).val).toNat = (i 0).val
    rw [show (0#32 * 8#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn1TopIdeal.Placed

namespace Cert.SumFfn1TopIdeal.Placed

open Cert.SumFfn1TopIdeal Cert.SumFfn1TopIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![(i 0).val, 0] from funext rows_out]
  revert t
  exact (by decide +kernel : ∀ t : Fin grid0.N, Pipeline.Window.flushOf grid0 true (fun i => ![(i 0).val, 0]) t = true)

/-- What the body leaves, element by element: its own block and the three received ones, added. -/
theorem out_apply (c : Dev nD) (g : grid0.Coords) (a2 : Memref sig .tc .vmem S1x128x1408 .bf16) (h2 : a2.IsWhole)
    (a3 : Memref sig .tc .vmem S3x128x1408 .bf16) (h3 : a3.IsWhole) (a4 : Memref sig .tc .vmem S128x1408 .f32) (h4 : a4.IsWhole)
    (x0 : FVec Ideal S1x128x1408 .bf16) (x1 : FVec Ideal S3x128x1408 .bf16) (xt : TbBuf0 (F := Ideal) c tbM0_0) (i : S128x1408.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S128x1408) ![0, 0] S128x1408.size Facts₀.inb_S128x1408_S128x1408_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 128, 1408]⟩ : Shape) .bf16) (h : a.IsWhole)
      (x : FVec Ideal (⟨3, ![n, 128, 1408]⟩ : Shape) .bf16) (b : Fin n) (inb) (hs) :
      shapeCast S128x1408 (View.readAt (Elt Ideal) a.view (Rect.unit (s := (⟨3, ![n, 128, 1408]⟩ : Shape)) ![b.val, 0, 0] ![1, 128, 1408] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 128 + (i 0).val) * 1408 + (i 1).val = (i 0).val * 1408 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x1024x1408 .bf16) (r : FVec Ideal S3x1024x1408 .bf16) (i : Fin 1024) (j : Fin 1408) : EReal :=
  p (ix3 (0 : Fin 4) i j) + r (ix3 (0 : Fin 3) i j) + r (ix3 (1 : Fin 3) i j) + r (ix3 (2 : Fin 3) i j)

/-- The sum in the upper half of the result's rows; the lower half is the other core's. -/
def total (p : FVec Ideal S4x1024x1408 .bf16) (r : FVec Ideal S3x1024x1408 .bf16) : FVec Ideal S2048x1408 .f32 :=
  fun i => if h : (i 0).val < 1024 then added p r ⟨(i 0).val, h⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 8 := (grid0.coords t 0).isLt
  funext a
  match a with
  | ⟨0, _⟩ => rfl
  | ⟨1, _⟩ => exact (BitVec.toNat_ofNat _ _).trans (Nat.mod_eq_of_lt (lt_trans (b := 8) h (by decide)))
  | ⟨2, _⟩ => rfl

theorem place2 (t : Fin (cfgM m (ok m)).N) : ((cfgM m (ok m)).win 2).index t = ![(grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S128x1408.Idx) => ?_
  have h0 : (y 0).val < 128 := (y 0).isLt
  have h1 : (y 1).val < 1408 := (y 1).isLt
  have hg : (grid0.coords t 0).val < 8 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![(grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨(grid0.coords t 0).val * 128 + (y 0).val, by omega⟩ : Fin 2048) (⟨(y 1).val, h1⟩ : Fin 1408) := by
    funext a
    refine Fin.ext ?_
    match a with
    | ⟨0, _⟩ =>
      show ((cfgM m (ok m)).win 2).index t (0 : Fin 2) * 128 + 1 * (y 0).val = (grid0.coords t 0).val * 128 + (y 0).val
      rw [e2]; show (grid0.coords t 0).val * 128 + 1 * (y 0).val = _; omega
    | ⟨1, _⟩ =>
      show ((cfgM m (ok m)).win 2).index t (1 : Fin 2) * 1408 + 1 * (y 1).val = (y 1).val
      rw [e2]; show 0 * 1408 + 1 * (y 1).val = _; omega
  show _ = total _ _ ((((cfgM m (ok m)).win 2).blk t).view.emb y)
  rw [ey]
  have hlt : (grid0.coords t 0).val * 128 + (y 0).val < 1024 := by omega
  refine Eq.trans ?_ (dif_pos hlt).symm
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 128 + 1 * (y 0).val = (grid0.coords t 0).val * 128 + (y 0).val
                rw [e0]; show (grid0.coords t 0).val * 128 + 1 * (y 0).val = _; omega
    | ⟨2, _⟩ => show ((cfgM m (ok m)).win 0).index t (2 : Fin 3) * 1408 + 1 * (y 1).val = (y 1).val
                rw [e0]; show 0 * 1408 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 128 + 1 * (y 0).val = (grid0.coords t 0).val * 128 + (y 0).val
                rw [e1]; show (grid0.coords t 0).val * 128 + 1 * (y 0).val = _; omega
    | ⟨2, _⟩ => show ((cfgM m (ok m)).win 1).index t (2 : Fin 3) * 1408 + 1 * (y 1).val = (y 1).val
                rw [e1]; show 0 * 1408 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 8, ∃ t : Fin grid0.N, (grid0.coords t 0).val = q.val := by decide +kernel

/-- The rows that the device sums. -/
theorem half (c : Dev nD) (i : S2048x1408.Idx) (h : (i 0).val < 1024) : (dats m (ok m) 0 c).arrAt 2 (cfgM m (ok m)).N i
    = total (m ((c : Thread nD τ).loc main_arg0)) (m ((c : Thread nD τ).loc main_arg1)) i := by
  have h1 : (i 1).val < 1408 := (i 1).isLt
  obtain ⟨t, ht⟩ := point ⟨(i 0).val / 128, by omega⟩
  have ht' : (grid0.coords t 0).val = (i 0).val / 128 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![(grid0.coords t 0).val, 0] : Fin 2 → Nat) a := fun a => congrFun (place2 m t) a
  intro a
  match a with
  | ⟨0, _⟩ =>
    show ((cfgM m (ok m)).win 2).index t (0 : Fin 2) * 128 ≤ (i 0).val ∧ (i 0).val < ((cfgM m (ok m)).win 2).index t (0 : Fin 2) * 128 + 128
    rw [e2]; show (grid0.coords t 0).val * 128 ≤ _ ∧ _ < (grid0.coords t 0).val * 128 + 128; omega
  | ⟨1, _⟩ =>
    show ((cfgM m (ok m)).win 2).index t (1 : Fin 2) * 1408 ≤ (i 1).val ∧ (i 1).val < ((cfgM m (ok m)).win 2).index t (1 : Fin 2) * 1408 + 1408
    rw [e2]; show 0 * 1408 ≤ _ ∧ _ < 0 * 1408 + 1408; omega

/-- The rows of the result that the claim is about. -/
def result (c : Dev nD) : FVec Ideal S1024x1408 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 1024 := (i 0).isLt
  refine (extractStridedSlice_apply _ _ Facts₀.slices_S2048x1408_S1024x1408_0_0 i
    (ix2 (⟨(i 0).val, by omega⟩ : Fin 2048) (⟨(i 1).val, (i 1).isLt⟩ : Fin 1408)) (fun a => match a with
    | ⟨0, _⟩ => by show (i 0).val = 0 + (i 0).val; omega
    | ⟨1, _⟩ => by show (i 1).val = 0 + (i 1).val; omega)).trans ?_
  exact (half m c _ h0).trans (dif_pos h0)

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumFfn1TopIdeal.Placed

namespace Cert.SumFfn1TopRefIdeal.Placed

open Cert.SumFfn1TopRefIdeal Cert.SumFfn1TopRefIdeal.Gen Cert.SumFfn1TopRefIdeal.Read

/-- The host's sum, element by element. -/
theorem value (p : FVec Ideal S4x1024x1408 .bf16) (r : FVec Ideal S3x1024x1408 .bf16) (i : S1024x1408.Idx) :
    val_main_v5 (F := Ideal) p r i = Cert.SumFfn1TopIdeal.Placed.added p r (i 0) (i 1) := by
  have h0 : (i 0).val < 1024 := (i 0).isLt
  have h1 : (i 1).val < 1408 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 1408 + (i 1).val) / 1408 % 1024 = (i 0).val; omega
    | ⟨2, _⟩ => show ((i 0).val * 1408 + (i 1).val) % 1408 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumFfn1TopRefIdeal.Placed

namespace Cert.Proof

/-- The chips' parts of the gradient, added by the kernel and by the host. -/
theorem algebraic_SumFfn1Top : Cert.algebraic_SumFfn1TopIdeal_SumFfn1TopRefIdeal (hSumFfn1TopIdeal := Cert.SumFfn1TopIdeal.Gen.facts)
    (hSumFfn1TopRefIdeal := Cert.SumFfn1TopRefIdeal.Gen.facts) := by
  intro m g m' g' _ hargs
  refine ⟨fun c => Cert.SumFfn1TopIdeal.Placed.result m c,
    (θ_run _ _ _).mono (fun _ h c => ⟨h.1 c, h.2 c⟩) (θ_run_and (Cert.SumFfn1TopIdeal.Placed.run m g)
      (Cert.SumFfn1TopIdeal.Gen.unchanged m g (Cert.SumFfn1TopIdeal.Placed.ok m))), ?_⟩
  refine (θ_run _ _ _).mono (fun _ h c => ?_) (Cert.SumFfn1TopRefIdeal.Value.run m' g')
  obtain ⟨e0, e1⟩ := hargs c
  refine ⟨(h c).1.trans (by
    rw [e0, e1]
    exact (Cert.SumFfn1TopRefIdeal.Read.val_main_v5_eq _ _).trans (funext fun i => Cert.SumFfn1TopRefIdeal.Placed.value _ _ i)), (h c).2⟩

end Cert.Proof

end
-- ==== Proof.SumFfn1Bottom.Value.lean ====
/-
  The sum of the chips' parts of a weight's gradient, on the second core: the call picks its blocks by the device's place, which a
  table holds; the table is read off the host's lines, and with it the blocks, their sums and the rows that are returned.
-/
module

public import proofs.«01_k».proof.Defs
public import proofs.«01_k».proof.Proof.Gen.SumFfn1Bottom.Frame
public import proofs.«01_k».proof.Proof.Gen.SumFfn1BottomIdeal.Frame
public import proofs.«01_k».proof.Proof.Gen.SumFfn1BottomRefIdeal.Run
public import proofs.«01_k».proof.Proof.Gen.SumFfn1BottomRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumFfn1Bottom.Placed

open Cert.SumFfn1Bottom Cert.SumFfn1Bottom.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 8 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![8 + (i 0).val, 0] := by
  have h : (i 0).val < 8 := (i 0).isLt
  funext a
  match a with
  | ⟨0, _⟩ =>
    show ((1#32 * 8#32 : BitVec 32) + BitVec.ofNat 32 (i 0).val).toNat = 8 + (i 0).val
    rw [show (1#32 * 8#32 : BitVec 32) = BitVec.ofNat 32 8 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn1Bottom.Placed

namespace Cert.SumFfn1BottomIdeal.Placed

open Cert.SumFfn1BottomIdeal Cert.SumFfn1BottomIdeal.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 8 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![8 + (i 0).val, 0] := by
  have h : (i 0).val < 8 := (i 0).isLt
  funext a
  match a with
  | ⟨0, _⟩ =>
    show ((1#32 * 8#32 : BitVec 32) + BitVec.ofNat 32 (i 0).val).toNat = 8 + (i 0).val
    rw [show (1#32 * 8#32 : BitVec 32) = BitVec.ofNat 32 8 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn1BottomIdeal.Placed

namespace Cert.SumFfn1BottomIdeal.Placed

open Cert.SumFfn1BottomIdeal Cert.SumFfn1BottomIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![8 + (i 0).val, 0] from funext rows_out]
  revert t
  exact (by decide +kernel : ∀ t : Fin grid0.N, Pipeline.Window.flushOf grid0 true (fun i => ![8 + (i 0).val, 0]) t = true)

/-- What the body leaves, element by element: its own block and the three received ones, added. -/
theorem out_apply (c : Dev nD) (g : grid0.Coords) (a2 : Memref sig .tc .vmem S1x128x1408 .bf16) (h2 : a2.IsWhole)
    (a3 : Memref sig .tc .vmem S3x128x1408 .bf16) (h3 : a3.IsWhole) (a4 : Memref sig .tc .vmem S128x1408 .f32) (h4 : a4.IsWhole)
    (x0 : FVec Ideal S1x128x1408 .bf16) (x1 : FVec Ideal S3x128x1408 .bf16) (xt : TbBuf0 (F := Ideal) c tbM0_0) (i : S128x1408.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S128x1408) ![0, 0] S128x1408.size Facts₀.inb_S128x1408_S128x1408_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 128, 1408]⟩ : Shape) .bf16) (h : a.IsWhole)
      (x : FVec Ideal (⟨3, ![n, 128, 1408]⟩ : Shape) .bf16) (b : Fin n) (inb) (hs) :
      shapeCast S128x1408 (View.readAt (Elt Ideal) a.view (Rect.unit (s := (⟨3, ![n, 128, 1408]⟩ : Shape)) ![b.val, 0, 0] ![1, 128, 1408] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 128 + (i 0).val) * 1408 + (i 1).val = (i 0).val * 1408 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x1024x1408 .bf16) (r : FVec Ideal S3x1024x1408 .bf16) (i : Fin 1024) (j : Fin 1408) : EReal :=
  p (ix3 (0 : Fin 4) i j) + r (ix3 (0 : Fin 3) i j) + r (ix3 (1 : Fin 3) i j) + r (ix3 (2 : Fin 3) i j)

/-- The sum in the lower half of the result's rows; the upper half is the other core's. -/
def total (p : FVec Ideal S4x1024x1408 .bf16) (r : FVec Ideal S3x1024x1408 .bf16) : FVec Ideal S2048x1408 .f32 :=
  fun i => if h : 1024 ≤ (i 0).val then added p r ⟨(i 0).val - 1024, by have : (i 0).val < 2048 := (i 0).isLt; omega⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 8 := (grid0.coords t 0).isLt
  funext a
  match a with
  | ⟨0, _⟩ => rfl
  | ⟨1, _⟩ => exact (BitVec.toNat_ofNat _ _).trans (Nat.mod_eq_of_lt (lt_trans (b := 8) h (by decide)))
  | ⟨2, _⟩ => rfl

theorem place2 (t : Fin (cfgM m (ok m)).N) : ((cfgM m (ok m)).win 2).index t = ![8 + (grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S128x1408.Idx) => ?_
  have h0 : (y 0).val < 128 := (y 0).isLt
  have h1 : (y 1).val < 1408 := (y 1).isLt
  have hg : (grid0.coords t 0).val < 8 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![8 + (grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨1024 + ((grid0.coords t 0).val * 128 + (y 0).val), by omega⟩ : Fin 2048) (⟨(y 1).val, h1⟩ : Fin 1408) := by
    funext a
    refine Fin.ext ?_
    match a with
    | ⟨0, _⟩ =>
      show ((cfgM m (ok m)).win 2).index t (0 : Fin 2) * 128 + 1 * (y 0).val = 1024 + ((grid0.coords t 0).val * 128 + (y 0).val)
      rw [e2]; show (8 + (grid0.coords t 0).val) * 128 + 1 * (y 0).val = _; omega
    | ⟨1, _⟩ =>
      show ((cfgM m (ok m)).win 2).index t (1 : Fin 2) * 1408 + 1 * (y 1).val = (y 1).val
      rw [e2]; show 0 * 1408 + 1 * (y 1).val = _; omega
  show _ = total _ _ ((((cfgM m (ok m)).win 2).blk t).view.emb y)
  rw [ey]
  have hlt : (grid0.coords t 0).val * 128 + (y 0).val < 1024 := by omega
  refine Eq.trans ?_ (dif_pos (Nat.le_add_right 1024 _)).symm
  refine Eq.trans ?_ (congrArg (fun q : Fin 1024 => added (m ((c : Thread nD τ).loc main_arg0)) (m ((c : Thread nD τ).loc main_arg1)) q ⟨(y 1).val, h1⟩)
    (Fin.ext (Nat.add_sub_cancel_left 1024 _).symm : (⟨(grid0.coords t 0).val * 128 + (y 0).val, hlt⟩ : Fin 1024) = _))
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 128 + 1 * (y 0).val = (grid0.coords t 0).val * 128 + (y 0).val
                rw [e0]; show (grid0.coords t 0).val * 128 + 1 * (y 0).val = _; omega
    | ⟨2, _⟩ => show ((cfgM m (ok m)).win 0).index t (2 : Fin 3) * 1408 + 1 * (y 1).val = (y 1).val
                rw [e0]; show 0 * 1408 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 128 + 1 * (y 0).val = (grid0.coords t 0).val * 128 + (y 0).val
                rw [e1]; show (grid0.coords t 0).val * 128 + 1 * (y 0).val = _; omega
    | ⟨2, _⟩ => show ((cfgM m (ok m)).win 1).index t (2 : Fin 3) * 1408 + 1 * (y 1).val = (y 1).val
                rw [e1]; show 0 * 1408 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 8, ∃ t : Fin grid0.N, (grid0.coords t 0).val = q.val := by decide +kernel

/-- The rows that the device sums. -/
theorem half (c : Dev nD) (i : S2048x1408.Idx) (h : 1024 ≤ (i 0).val) : (dats m (ok m) 0 c).arrAt 2 (cfgM m (ok m)).N i
    = total (m ((c : Thread nD τ).loc main_arg0)) (m ((c : Thread nD τ).loc main_arg1)) i := by
  have h1 : (i 1).val < 1408 := (i 1).isLt
  have h0 : (i 0).val < 2048 := (i 0).isLt
  obtain ⟨t, ht⟩ := point ⟨((i 0).val - 1024) / 128, by omega⟩
  have ht' : (grid0.coords t 0).val = ((i 0).val - 1024) / 128 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![8 + (grid0.coords t 0).val, 0] : Fin 2 → Nat) a := fun a => congrFun (place2 m t) a
  intro a
  match a with
  | ⟨0, _⟩ =>
    show ((cfgM m (ok m)).win 2).index t (0 : Fin 2) * 128 ≤ (i 0).val ∧ (i 0).val < ((cfgM m (ok m)).win 2).index t (0 : Fin 2) * 128 + 128
    rw [e2]; show (8 + (grid0.coords t 0).val) * 128 ≤ _ ∧ _ < (8 + (grid0.coords t 0).val) * 128 + 128; omega
  | ⟨1, _⟩ =>
    show ((cfgM m (ok m)).win 2).index t (1 : Fin 2) * 1408 ≤ (i 1).val ∧ (i 1).val < ((cfgM m (ok m)).win 2).index t (1 : Fin 2) * 1408 + 1408
    rw [e2]; show 0 * 1408 ≤ _ ∧ _ < 0 * 1408 + 1408; omega

/-- The rows of the result that the claim is about. -/
def result (c : Dev nD) : FVec Ideal S1024x1408 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 1024 := (i 0).isLt
  refine (extractStridedSlice_apply _ _ Facts₀.slices_S2048x1408_S1024x1408_1024_0 i
    (ix2 (⟨1024 + (i 0).val, by omega⟩ : Fin 2048) (⟨(i 1).val, (i 1).isLt⟩ : Fin 1408)) (fun a => match a with
    | ⟨0, _⟩ => by show 1024 + (i 0).val = 1024 + (i 0).val; rfl
    | ⟨1, _⟩ => by show (i 1).val = 0 + (i 1).val; omega)).trans ?_
  refine (half m c _ (Nat.le_add_right 1024 _)).trans ((dif_pos (Nat.le_add_right 1024 _)).trans ?_)
  exact congrArg (fun q : Fin 1024 => added (m ((c : Thread nD τ).loc main_arg0)) (m ((c : Thread nD τ).loc main_arg1)) q (i 1))
    (Fin.ext (Nat.add_sub_cancel_left 1024 _))

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumFfn1BottomIdeal.Placed

namespace Cert.SumFfn1BottomRefIdeal.Placed

open Cert.SumFfn1BottomRefIdeal Cert.SumFfn1BottomRefIdeal.Gen Cert.SumFfn1BottomRefIdeal.Read

/-- The host's sum, element by element. -/
theorem value (p : FVec Ideal S4x1024x1408 .bf16) (r : FVec Ideal S3x1024x1408 .bf16) (i : S1024x1408.Idx) :
    val_main_v5 (F := Ideal) p r i = Cert.SumFfn1BottomIdeal.Placed.added p r (i 0) (i 1) := by
  have h0 : (i 0).val < 1024 := (i 0).isLt
  have h1 : (i 1).val < 1408 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 1408 + (i 1).val) / 1408 % 1024 = (i 0).val; omega
    | ⟨2, _⟩ => show ((i 0).val * 1408 + (i 1).val) % 1408 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumFfn1BottomRefIdeal.Placed

namespace Cert.Proof

/-- The chips' parts of the gradient, added by the kernel and by the host. -/
theorem algebraic_SumFfn1Bottom : Cert.algebraic_SumFfn1BottomIdeal_SumFfn1BottomRefIdeal (hSumFfn1BottomIdeal := Cert.SumFfn1BottomIdeal.Gen.facts)
    (hSumFfn1BottomRefIdeal := Cert.SumFfn1BottomRefIdeal.Gen.facts) := by
  intro m g m' g' _ hargs
  refine ⟨fun c => Cert.SumFfn1BottomIdeal.Placed.result m c,
    (θ_run _ _ _).mono (fun _ h c => ⟨h.1 c, h.2 c⟩) (θ_run_and (Cert.SumFfn1BottomIdeal.Placed.run m g)
      (Cert.SumFfn1BottomIdeal.Gen.unchanged m g (Cert.SumFfn1BottomIdeal.Placed.ok m))), ?_⟩
  refine (θ_run _ _ _).mono (fun _ h c => ?_) (Cert.SumFfn1BottomRefIdeal.Value.run m' g')
  obtain ⟨e0, e1⟩ := hargs c
  refine ⟨(h c).1.trans (by
    rw [e0, e1]
    exact (Cert.SumFfn1BottomRefIdeal.Read.val_main_v5_eq _ _).trans (funext fun i => Cert.SumFfn1BottomRefIdeal.Placed.value _ _ i)), (h c).2⟩

end Cert.Proof

end
-- ==== Proof.SumFfn2Top.Value.lean ====
/-
  The sum of the chips' parts of a weight's gradient, on the first core: the call picks its blocks by the device's place, which a
  table holds; the table is read off the host's lines, and with it the blocks, their sums and the rows that are returned.
-/
module

public import proofs.«01_k».proof.Defs
public import proofs.«01_k».proof.Proof.Gen.SumFfn2Top.Frame
public import proofs.«01_k».proof.Proof.Gen.SumFfn2TopIdeal.Frame
public import proofs.«01_k».proof.Proof.Gen.SumFfn2TopRefIdeal.Run
public import proofs.«01_k».proof.Proof.Gen.SumFfn2TopRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumFfn2Top.Placed

open Cert.SumFfn2Top Cert.SumFfn2Top.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 11 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 11 := (i 0).isLt
  funext a
  match a with
  | ⟨0, _⟩ =>
    show ((0#32 * 11#32 : BitVec 32) + BitVec.ofNat 32 (i 0).val).toNat = (i 0).val
    rw [show (0#32 * 11#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn2Top.Placed

namespace Cert.SumFfn2TopIdeal.Placed

open Cert.SumFfn2TopIdeal Cert.SumFfn2TopIdeal.Gen

variable {F : FTy → Type} [FloatOps F] (m : (ℓ : Loc nD τ sig) → Buf (Elt F) ℓ)

/-- The device's place, all spot. -/
def spot : pre0.Contents (Elt F) := fun | 0 => fun _ => (0#32 : BitVec 32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun _ => (0#32 : BitVec 32)
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 11 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![(i 0).val, 0] := by
  have h : (i 0).val < 11 := (i 0).isLt
  funext a
  match a with
  | ⟨0, _⟩ =>
    show ((0#32 * 11#32 : BitVec 32) + BitVec.ofNat 32 (i 0).val).toNat = (i 0).val
    rw [show (0#32 * 11#32 : BitVec 32) = 0#32 from rfl, BitVec.zero_add]
    exact (BitVec.toNat_ofNat _ _).trans (Nat.mod_eq_of_lt (by omega))
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn2TopIdeal.Placed

namespace Cert.SumFfn2TopIdeal.Placed

open Cert.SumFfn2TopIdeal Cert.SumFfn2TopIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![(i 0).val, 0] from funext rows_out]
  revert t
  exact (by decide +kernel : ∀ t : Fin grid0.N, Pipeline.Window.flushOf grid0 true (fun i => ![(i 0).val, 0]) t = true)

/-- What the body leaves, element by element: its own block and the three received ones, added. -/
theorem out_apply (c : Dev nD) (g : grid0.Coords) (a2 : Memref sig .tc .vmem S1x64x2048 .bf16) (h2 : a2.IsWhole)
    (a3 : Memref sig .tc .vmem S3x64x2048 .bf16) (h3 : a3.IsWhole) (a4 : Memref sig .tc .vmem S64x2048 .f32) (h4 : a4.IsWhole)
    (x0 : FVec Ideal S1x64x2048 .bf16) (x1 : FVec Ideal S3x64x2048 .bf16) (xt : TbBuf0 (F := Ideal) c tbM0_0) (i : S64x2048.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S64x2048) ![0, 0] S64x2048.size Facts₀.inb_S64x2048_S64x2048_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 64, 2048]⟩ : Shape) .bf16) (h : a.IsWhole)
      (x : FVec Ideal (⟨3, ![n, 64, 2048]⟩ : Shape) .bf16) (b : Fin n) (inb) (hs) :
      shapeCast S64x2048 (View.readAt (Elt Ideal) a.view (Rect.unit (s := (⟨3, ![n, 64, 2048]⟩ : Shape)) ![b.val, 0, 0] ![1, 64, 2048] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 64 + (i 0).val) * 2048 + (i 1).val = (i 0).val * 2048 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x704x2048 .bf16) (r : FVec Ideal S3x704x2048 .bf16) (i : Fin 704) (j : Fin 2048) : EReal :=
  p (ix3 (0 : Fin 4) i j) + r (ix3 (0 : Fin 3) i j) + r (ix3 (1 : Fin 3) i j) + r (ix3 (2 : Fin 3) i j)

/-- The sum in the upper half of the result's rows; the lower half is the other core's. -/
def total (p : FVec Ideal S4x704x2048 .bf16) (r : FVec Ideal S3x704x2048 .bf16) : FVec Ideal S1408x2048 .f32 :=
  fun i => if h : (i 0).val < 704 then added p r ⟨(i 0).val, h⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 11 := (grid0.coords t 0).isLt
  funext a
  match a with
  | ⟨0, _⟩ => rfl
  | ⟨1, _⟩ => exact (BitVec.toNat_ofNat _ _).trans (Nat.mod_eq_of_lt (lt_trans (b := 11) h (by decide)))
  | ⟨2, _⟩ => rfl

theorem place2 (t : Fin (cfgM m (ok m)).N) : ((cfgM m (ok m)).win 2).index t = ![(grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S64x2048.Idx) => ?_
  have h0 : (y 0).val < 64 := (y 0).isLt
  have h1 : (y 1).val < 2048 := (y 1).isLt
  have hg : (grid0.coords t 0).val < 11 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![(grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨(grid0.coords t 0).val * 64 + (y 0).val, by omega⟩ : Fin 1408) (⟨(y 1).val, h1⟩ : Fin 2048) := by
    funext a
    refine Fin.ext ?_
    match a with
    | ⟨0, _⟩ =>
      show ((cfgM m (ok m)).win 2).index t (0 : Fin 2) * 64 + 1 * (y 0).val = (grid0.coords t 0).val * 64 + (y 0).val
      rw [e2]; show (grid0.coords t 0).val * 64 + 1 * (y 0).val = _; omega
    | ⟨1, _⟩ =>
      show ((cfgM m (ok m)).win 2).index t (1 : Fin 2) * 2048 + 1 * (y 1).val = (y 1).val
      rw [e2]; show 0 * 2048 + 1 * (y 1).val = _; omega
  show _ = total _ _ ((((cfgM m (ok m)).win 2).blk t).view.emb y)
  rw [ey]
  have hlt : (grid0.coords t 0).val * 64 + (y 0).val < 704 := by omega
  refine Eq.trans ?_ (dif_pos hlt).symm
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 64 + 1 * (y 0).val = (grid0.coords t 0).val * 64 + (y 0).val
                rw [e0]; show (grid0.coords t 0).val * 64 + 1 * (y 0).val = _; omega
    | ⟨2, _⟩ => show ((cfgM m (ok m)).win 0).index t (2 : Fin 3) * 2048 + 1 * (y 1).val = (y 1).val
                rw [e0]; show 0 * 2048 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 64 + 1 * (y 0).val = (grid0.coords t 0).val * 64 + (y 0).val
                rw [e1]; show (grid0.coords t 0).val * 64 + 1 * (y 0).val = _; omega
    | ⟨2, _⟩ => show ((cfgM m (ok m)).win 1).index t (2 : Fin 3) * 2048 + 1 * (y 1).val = (y 1).val
                rw [e1]; show 0 * 2048 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 11, ∃ t : Fin grid0.N, (grid0.coords t 0).val = q.val := by decide +kernel

/-- The rows that the device sums. -/
theorem half (c : Dev nD) (i : S1408x2048.Idx) (h : (i 0).val < 704) : (dats m (ok m) 0 c).arrAt 2 (cfgM m (ok m)).N i
    = total (m ((c : Thread nD τ).loc main_arg0)) (m ((c : Thread nD τ).loc main_arg1)) i := by
  have h1 : (i 1).val < 2048 := (i 1).isLt
  obtain ⟨t, ht⟩ := point ⟨(i 0).val / 64, by omega⟩
  have ht' : (grid0.coords t 0).val = (i 0).val / 64 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![(grid0.coords t 0).val, 0] : Fin 2 → Nat) a := fun a => congrFun (place2 m t) a
  intro a
  match a with
  | ⟨0, _⟩ =>
    show ((cfgM m (ok m)).win 2).index t (0 : Fin 2) * 64 ≤ (i 0).val ∧ (i 0).val < ((cfgM m (ok m)).win 2).index t (0 : Fin 2) * 64 + 64
    rw [e2]; show (grid0.coords t 0).val * 64 ≤ _ ∧ _ < (grid0.coords t 0).val * 64 + 64; omega
  | ⟨1, _⟩ =>
    show ((cfgM m (ok m)).win 2).index t (1 : Fin 2) * 2048 ≤ (i 1).val ∧ (i 1).val < ((cfgM m (ok m)).win 2).index t (1 : Fin 2) * 2048 + 2048
    rw [e2]; show 0 * 2048 ≤ _ ∧ _ < 0 * 2048 + 2048; omega

/-- The rows of the result that the claim is about. -/
def result (c : Dev nD) : FVec Ideal S704x2048 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 704 := (i 0).isLt
  refine (extractStridedSlice_apply _ _ Facts₀.slices_S1408x2048_S704x2048_0_0 i
    (ix2 (⟨(i 0).val, by omega⟩ : Fin 1408) (⟨(i 1).val, (i 1).isLt⟩ : Fin 2048)) (fun a => match a with
    | ⟨0, _⟩ => by show (i 0).val = 0 + (i 0).val; omega
    | ⟨1, _⟩ => by show (i 1).val = 0 + (i 1).val; omega)).trans ?_
  exact (half m c _ h0).trans (dif_pos h0)

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumFfn2TopIdeal.Placed

namespace Cert.SumFfn2TopRefIdeal.Placed

open Cert.SumFfn2TopRefIdeal Cert.SumFfn2TopRefIdeal.Gen Cert.SumFfn2TopRefIdeal.Read

/-- The host's sum, element by element. -/
theorem value (p : FVec Ideal S4x704x2048 .bf16) (r : FVec Ideal S3x704x2048 .bf16) (i : S704x2048.Idx) :
    val_main_v5 (F := Ideal) p r i = Cert.SumFfn2TopIdeal.Placed.added p r (i 0) (i 1) := by
  have h0 : (i 0).val < 704 := (i 0).isLt
  have h1 : (i 1).val < 2048 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 2048 + (i 1).val) / 2048 % 704 = (i 0).val; omega
    | ⟨2, _⟩ => show ((i 0).val * 2048 + (i 1).val) % 2048 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumFfn2TopRefIdeal.Placed

namespace Cert.Proof

/-- The chips' parts of the gradient, added by the kernel and by the host. -/
theorem algebraic_SumFfn2Top : Cert.algebraic_SumFfn2TopIdeal_SumFfn2TopRefIdeal (hSumFfn2TopIdeal := Cert.SumFfn2TopIdeal.Gen.facts)
    (hSumFfn2TopRefIdeal := Cert.SumFfn2TopRefIdeal.Gen.facts) := by
  intro m g m' g' _ hargs
  refine ⟨fun c => Cert.SumFfn2TopIdeal.Placed.result m c,
    (θ_run _ _ _).mono (fun _ h c => ⟨h.1 c, h.2 c⟩) (θ_run_and (Cert.SumFfn2TopIdeal.Placed.run m g)
      (Cert.SumFfn2TopIdeal.Gen.unchanged m g (Cert.SumFfn2TopIdeal.Placed.ok m))), ?_⟩
  refine (θ_run _ _ _).mono (fun _ h c => ?_) (Cert.SumFfn2TopRefIdeal.Value.run m' g')
  obtain ⟨e0, e1⟩ := hargs c
  refine ⟨(h c).1.trans (by
    rw [e0, e1]
    exact (Cert.SumFfn2TopRefIdeal.Read.val_main_v5_eq _ _).trans (funext fun i => Cert.SumFfn2TopRefIdeal.Placed.value _ _ i)), (h c).2⟩

end Cert.Proof

end
-- ==== Proof.SumFfn2Bottom.Value.lean ====
/-
  The sum of the chips' parts of a weight's gradient, on the second core: the call picks its blocks by the device's place, which a
  table holds; the table is read off the host's lines, and with it the blocks, their sums and the rows that are returned.
-/
module

public import proofs.«01_k».proof.Defs
public import proofs.«01_k».proof.Proof.Gen.SumFfn2Bottom.Frame
public import proofs.«01_k».proof.Proof.Gen.SumFfn2BottomIdeal.Frame
public import proofs.«01_k».proof.Proof.Gen.SumFfn2BottomRefIdeal.Run
public import proofs.«01_k».proof.Proof.Gen.SumFfn2BottomRefIdeal.Read
public import proofs.«01_k».proof.Proof.Packing
public import Idealize.ShloMosaic.Lib.Pipeline.Value
public import Idealize.ShloMosaic.Lib.WholeRead
import Idealize.ShloMosaic.Lib.Pointwise

@[expose] public section

noncomputable section

open Idealize.ShloMosaic Idealize.ShloMosaic.TcCoe Idealize.SL.Sem Idealize.ShloMosaic.StableHlo
open Cert.Proof.Packing

namespace Cert.SumFfn2Bottom.Placed

open Cert.SumFfn2Bottom Cert.SumFfn2Bottom.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 11 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![11 + (i 0).val, 0] := by
  have h : (i 0).val < 11 := (i 0).isLt
  funext a
  match a with
  | ⟨0, _⟩ =>
    show ((1#32 * 11#32 : BitVec 32) + BitVec.ofNat 32 (i 0).val).toNat = 11 + (i 0).val
    rw [show (1#32 * 11#32 : BitVec 32) = BitVec.ofNat 32 11 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn2Bottom.Placed

namespace Cert.SumFfn2BottomIdeal.Placed

open Cert.SumFfn2BottomIdeal Cert.SumFfn2BottomIdeal.Gen

variable {F : FTy → Type} [FloatOps F] (m : (ℓ : Loc nD τ sig) → Buf (Elt F) ℓ)

/-- The device's place: the first chip, the second core. -/
def spot : pre0.Contents (Elt F) := fun | 0 => fun (i : S2.Idx) => (match i 0 with | ⟨0, _⟩ => (0#32 : BitVec 32) | ⟨_ + 1, _⟩ => 1#32) | ⟨_ + 1, h⟩ => absurd h (Nat.not_lt.2 (Nat.le_add_left _ _))

/-- The table that the blocks are chosen by holds the device's place. -/
theorem place : tbl m = spot := by
  funext j
  match j with
  | ⟨0, _⟩ =>
    show V m (0 : Dev nD) main_v4 = fun (i : S2.Idx) => match i 0 with | ⟨0, _⟩ => (0#32 : BitVec 32) | ⟨_ + 1, _⟩ => 1#32
    unfold_abbrev_sides
    simp only [List.flatten_cons, List.flatten_nil, List.append_nil, List.cons_append, List.nil_append, TRef.binary, TRef.unary, TRef.toBuf, TRef.ofBuf, cast_eq]
    after_results_simp
    funext i
    match hi : i 0 with
    | ⟨0, _⟩ =>
      obtain rfl : i = ix1 (0 : Fin 2) := funext fun a => match a with | ⟨0, _⟩ => hi
      rfl
    | ⟨1, _⟩ =>
      obtain rfl : i = ix1 (1 : Fin 2) := funext fun a => match a with | ⟨0, _⟩ => hi
      rfl

theorem rows_in (i : grid0.Coords) : cc0_transform_0 Facts₀.inb_S2_S1_0 Facts₀.numel1_S1 (spot (F := F)) i = ![0, (i 0).val, 0] := by
  have h : (i 0).val < 11 := (i 0).isLt
  funext a
  match a with
  | ⟨0, _⟩ => rfl
  | ⟨1, _⟩ => exact (BitVec.toNat_ofNat _ _).trans (Nat.mod_eq_of_lt (by omega))
  | ⟨2, _⟩ => rfl

theorem rows_out (i : grid0.Coords) : cc0_transform_2 Facts₀.inb_S2_S1_1 Facts₀.numel1_S1 (spot (F := F)) i = ![11 + (i 0).val, 0] := by
  have h : (i 0).val < 11 := (i 0).isLt
  funext a
  match a with
  | ⟨0, _⟩ =>
    show ((1#32 * 11#32 : BitVec 32) + BitVec.ofNat 32 (i 0).val).toNat = 11 + (i 0).val
    rw [show (1#32 * 11#32 : BitVec 32) = BitVec.ofNat 32 11 from rfl, BitVec.toNat_add, BitVec.toNat_ofNat, BitVec.toNat_ofNat]
    omega
  | ⟨1, _⟩ => rfl

/-- At that place every block lies inside its array. -/
theorem ok : Ok m := by
  show ok0 (tbl m)
  rw [place]
  unfold ok0
  refine ⟨fun i => ?_, fun i => ?_⟩
  · rw [rows_in]
    revert i
    decide +kernel
  · rw [rows_out]
    revert i
    decide +kernel

end Cert.SumFfn2BottomIdeal.Placed

namespace Cert.SumFfn2BottomIdeal.Placed

open Cert.SumFfn2BottomIdeal Cert.SumFfn2BottomIdeal.Gen

variable (m : (ℓ : Loc nD τ sig) → Buf (Elt Ideal) ℓ) (ρ : Dev nD → PrngReg)

/-- Every grid point writes its block back. -/
theorem flush_eq (t : Fin (cfgM m (ok m)).N) : ((cfgM m (ok m)).win 2).flush t = true := by
  show Pipeline.Window.flushOf grid0 true (cc0_transform_2 Facts₀.inb_S2_S1_1 Facts₀.numel1_S1 (tbl m)) t = true
  rw [place, show cc0_transform_2 Facts₀.inb_S2_S1_1 Facts₀.numel1_S1 (spot (F := Ideal)) = fun i => ![11 + (i 0).val, 0] from funext rows_out]
  revert t
  exact (by decide +kernel : ∀ t : Fin grid0.N, Pipeline.Window.flushOf grid0 true (fun i => ![11 + (i 0).val, 0]) t = true)

/-- What the body leaves, element by element: its own block and the three received ones, added. -/
theorem out_apply (c : Dev nD) (g : grid0.Coords) (a2 : Memref sig .tc .vmem S1x64x2048 .bf16) (h2 : a2.IsWhole)
    (a3 : Memref sig .tc .vmem S3x64x2048 .bf16) (h3 : a3.IsWhole) (a4 : Memref sig .tc .vmem S64x2048 .f32) (h4 : a4.IsWhole)
    (x0 : FVec Ideal S1x64x2048 .bf16) (x1 : FVec Ideal S3x64x2048 .bf16) (xt : TbBuf0 (F := Ideal) c tbM0_0) (i : S64x2048.Idx) :
    out0_A_2 (F := Ideal) c g a2 h2 a3 h3 a4 h4 x0 x1 xt i = x0 (ix3 (0 : Fin 1) (i 0) (i 1)) + x1 (ix3 (0 : Fin 3) (i 0) (i 1))
      + x1 (ix3 (1 : Fin 3) (i 0) (i 1)) + x1 (ix3 (2 : Fin 3) (i 0) (i 1)) := by
  unfold out0_A_2 kernelRun0_A
  dsimp only
  have ei : i = (Rect.unit (s := S64x2048) ![0, 0] S64x2048.size Facts₀.inb_S64x2048_S64x2048_0_0).emb i :=
    funext fun a => Fin.ext (match a with
      | ⟨0, _⟩ => by show (i 0).val = 0 + 1 * (i 0).val; omega
      | ⟨1, _⟩ => by show (i 1).val = 0 + 1 * (i 1).val; omega)
  conv_lhs => rw [ei]
  rw [View.read_writes_cons_emb]
  unfold k0_pay1
  have e {n : Nat} (a : Memref sig .tc .vmem (⟨3, ![n, 64, 2048]⟩ : Shape) .bf16) (h : a.IsWhole)
      (x : FVec Ideal (⟨3, ![n, 64, 2048]⟩ : Shape) .bf16) (b : Fin n) (inb) (hs) :
      shapeCast S64x2048 (View.readAt (Elt Ideal) a.view (Rect.unit (s := (⟨3, ![n, 64, 2048]⟩ : Shape)) ![b.val, 0, 0] ![1, 64, 2048] inb).toLoadRect
        (h.unread x)) hs i = x (ix3 b (i 0) (i 1)) := by
    refine (shapeCast_apply _ _ i (ix3 (0 : Fin 1) (i 0) (i 1)) ?_).trans ?_
    · rw [Shape.rowMajor_val_three, Shape.rowMajor_val_two]
      show (0 * 64 + (i 0).val) * 2048 + (i 1).val = (i 0).val * 2048 + (i 1).val
      omega
    refine (h.readAt_unread (Val := Elt Ideal) x _ _).trans ?_
    refine congrArg x (funext fun k => Fin.ext ?_)
    match k with
    | ⟨0, _⟩ => show b.val + 1 * 0 = b.val; omega
    | ⟨1, _⟩ => show 0 + 1 * (i 0).val = (i 0).val; omega
    | ⟨2, _⟩ => show 0 + 1 * (i 1).val = (i 1).val; omega
  exact congrArg₂ (· + ·) (congrArg₂ (· + ·) (congrArg₂ (· + ·) (e a2 h2 x0 0 _ _) (e a3 h3 x1 0 _ _)) (e a3 h3 x1 1 _ _))
    (e a3 h3 x1 2 _ _)

/-- The device's own block and the three received ones, added. -/
def added (p : FVec Ideal S4x704x2048 .bf16) (r : FVec Ideal S3x704x2048 .bf16) (i : Fin 704) (j : Fin 2048) : EReal :=
  p (ix3 (0 : Fin 4) i j) + r (ix3 (0 : Fin 3) i j) + r (ix3 (1 : Fin 3) i j) + r (ix3 (2 : Fin 3) i j)

/-- The sum in the lower half of the result's rows; the upper half is the other core's. -/
def total (p : FVec Ideal S4x704x2048 .bf16) (r : FVec Ideal S3x704x2048 .bf16) : FVec Ideal S1408x2048 .f32 :=
  fun i => if h : 704 ≤ (i 0).val then added p r ⟨(i 0).val - 704, by have : (i 0).val < 1408 := (i 0).isLt; omega⟩ (i 1) else 0

theorem place0 (t : Fin (cfgM m (ok m)).N) : ((cfgM m (ok m)).win 0).index t = ![0, (grid0.coords t 0).val, 0] := by
  show cc0_transform_0 Facts₀.inb_S2_S1_0 Facts₀.numel1_S1 (tbl m) (grid0.coords t) = _
  rw [place, rows_in]

theorem place1 (t : Fin (cfgM m (ok m)).N) : ((cfgM m (ok m)).win 1).index t = ![0, (grid0.coords t 0).val, 0] := by
  have h : (grid0.coords t 0).val < 11 := (grid0.coords t 0).isLt
  funext a
  match a with
  | ⟨0, _⟩ => rfl
  | ⟨1, _⟩ => exact (BitVec.toNat_ofNat _ _).trans (Nat.mod_eq_of_lt (lt_trans (b := 11) h (by decide)))
  | ⟨2, _⟩ => rfl

theorem place2 (t : Fin (cfgM m (ok m)).N) : ((cfgM m (ok m)).win 2).index t = ![11 + (grid0.coords t 0).val, 0] := by
  show cc0_transform_2 Facts₀.inb_S2_S1_1 Facts₀.numel1_S1 (tbl m) (grid0.coords t) = _
  rw [place, rows_out]

/-- A grid point writes back its block of the sum. -/
theorem flushed_eq (c : Dev nD) (t : Fin (cfgM m (ok m)).N) :
    (dats m (ok m) 0 c).flushed 2 t = (((cfgM m (ok m)).win 2).blk t).view.read (Elt Ideal)
      (total (m ((c : Thread nD τ).loc main_arg0)) (m ((c : Thread nD τ).loc main_arg1))) := by
  show ((cfgM m (ok m)).win 2).cut (grid0.coords t) ((dats m (ok m) 0 c).after 2 t) = _
  rw [after0_2]
  refine funext fun (y : S64x2048.Idx) => ?_
  have h0 : (y 0).val < 64 := (y 0).isLt
  have h1 : (y 1).val < 2048 := (y 1).isLt
  have hg : (grid0.coords t 0).val < 11 := (grid0.coords t 0).isLt
  have e0 : ∀ a : Fin 3, ((cfgM m (ok m)).win 0).index t a = (![0, (grid0.coords t 0).val, 0] : Fin 3 → Nat) a := fun a => congrFun (place0 m t) a
  have e1 : ∀ a : Fin 3, ((cfgM m (ok m)).win 1).index t a = (![0, (grid0.coords t 0).val, 0] : Fin 3 → Nat) a := fun a => congrFun (place1 m t) a
  have e2 : ∀ a : Fin 2, ((cfgM m (ok m)).win 2).index t a = (![11 + (grid0.coords t 0).val, 0] : Fin 2 → Nat) a := fun a => congrFun (place2 m t) a
  unfold outsAt0
  refine (out_apply c _ _ _ _ _ _ _ (iblk m (ok m) c 0 t) (iblk m (ok m) c 1 t) _ y).trans ?_
  have ey : (((cfgM m (ok m)).win 2).blk t).view.emb y = ix2 (⟨704 + ((grid0.coords t 0).val * 64 + (y 0).val), by omega⟩ : Fin 1408) (⟨(y 1).val, h1⟩ : Fin 2048) := by
    funext a
    refine Fin.ext ?_
    match a with
    | ⟨0, _⟩ =>
      show ((cfgM m (ok m)).win 2).index t (0 : Fin 2) * 64 + 1 * (y 0).val = 704 + ((grid0.coords t 0).val * 64 + (y 0).val)
      rw [e2]; show (11 + (grid0.coords t 0).val) * 64 + 1 * (y 0).val = _; omega
    | ⟨1, _⟩ =>
      show ((cfgM m (ok m)).win 2).index t (1 : Fin 2) * 2048 + 1 * (y 1).val = (y 1).val
      rw [e2]; show 0 * 2048 + 1 * (y 1).val = _; omega
  show _ = total _ _ ((((cfgM m (ok m)).win 2).blk t).view.emb y)
  rw [ey]
  have hlt : (grid0.coords t 0).val * 64 + (y 0).val < 704 := by omega
  refine Eq.trans ?_ (dif_pos (Nat.le_add_right 704 _)).symm
  refine Eq.trans ?_ (congrArg (fun q : Fin 704 => added (m ((c : Thread nD τ).loc main_arg0)) (m ((c : Thread nD τ).loc main_arg1)) q ⟨(y 1).val, h1⟩)
    (Fin.ext (Nat.add_sub_cancel_left 704 _).symm : (⟨(grid0.coords t 0).val * 64 + (y 0).val, hlt⟩ : Fin 704) = _))
  have own : iblk m (ok m) c 0 t (ix3 (0 : Fin 1) (y 0) (y 1)) = m ((c : Thread nD τ).loc main_arg0) (ix3 (0 : Fin 4) ⟨_, hlt⟩ ⟨(y 1).val, h1⟩) := by
    refine (congrFun (V_main_arg0 m c) _).trans (congrArg (m ((c : Thread nD τ).loc main_arg0)) (funext fun a => Fin.ext ?_))
    match a with
    | ⟨0, _⟩ => show ((cfgM m (ok m)).win 0).index t (0 : Fin 3) * 1 + 1 * 0 = 0; rw [e0]; rfl
    | ⟨1, _⟩ => show ((cfgM m (ok m)).win 0).index t (1 : Fin 3) * 64 + 1 * (y 0).val = (grid0.coords t 0).val * 64 + (y 0).val
                rw [e0]; show (grid0.coords t 0).val * 64 + 1 * (y 0).val = _; omega
    | ⟨2, _⟩ => show ((cfgM m (ok m)).win 0).index t (2 : Fin 3) * 2048 + 1 * (y 1).val = (y 1).val
                rw [e0]; show 0 * 2048 + 1 * (y 1).val = _; omega
  have received (b : Fin 3) : iblk m (ok m) c 1 t (ix3 b (y 0) (y 1)) = m ((c : Thread nD τ).loc main_arg1) (ix3 b ⟨_, hlt⟩ ⟨(y 1).val, h1⟩) := by
    refine (congrFun (V_main_arg1 m c) _).trans (congrArg (m ((c : Thread nD τ).loc main_arg1)) (funext fun a => Fin.ext ?_))
    match a with
    | ⟨0, _⟩ => show ((cfgM m (ok m)).win 1).index t (0 : Fin 3) * 3 + 1 * b.val = b.val; rw [e1]; show 0 * 3 + 1 * b.val = _; omega
    | ⟨1, _⟩ => show ((cfgM m (ok m)).win 1).index t (1 : Fin 3) * 64 + 1 * (y 0).val = (grid0.coords t 0).val * 64 + (y 0).val
                rw [e1]; show (grid0.coords t 0).val * 64 + 1 * (y 0).val = _; omega
    | ⟨2, _⟩ => show ((cfgM m (ok m)).win 1).index t (2 : Fin 3) * 2048 + 1 * (y 1).val = (y 1).val
                rw [e1]; show 0 * 2048 + 1 * (y 1).val = _; omega
  exact congrArg₂ (fun a b : EReal => a + b) (congrArg₂ (fun a b : EReal => a + b) (congrArg₂ (fun a b : EReal => a + b) own (received 0)) (received 1)) (received 2)

/-- Some grid point has the row block `q`. -/
theorem point : ∀ q : Fin 11, ∃ t : Fin grid0.N, (grid0.coords t 0).val = q.val := by decide +kernel

/-- The rows that the device sums. -/
theorem half (c : Dev nD) (i : S1408x2048.Idx) (h : 704 ≤ (i 0).val) : (dats m (ok m) 0 c).arrAt 2 (cfgM m (ok m)).N i
    = total (m ((c : Thread nD τ).loc main_arg0)) (m ((c : Thread nD τ).loc main_arg1)) i := by
  have h1 : (i 1).val < 2048 := (i 1).isLt
  have h0 : (i 0).val < 1408 := (i 0).isLt
  obtain ⟨t, ht⟩ := point ⟨((i 0).val - 704) / 64, by omega⟩
  have ht' : (grid0.coords t 0).val = ((i 0).val - 704) / 64 := ht
  refine (dats m (ok m) 0 c).arrAt_apply_of_mem 2 _ (fun t _ => flushed_eq m c t) _ t i t.isLt (flush_eq m t) ?_
  refine Eq.mpr (congrArg (fun s => i ∈ s) (View.set_slice_whole main_v5 (((cfgM m (ok m)).win 2).rect t))) (Rect.mem_set_unit.mpr ?_)
  have e2 : ∀ a : Fin 2, ((cfgM m (ok m)).win 2).index t a = (![11 + (grid0.coords t 0).val, 0] : Fin 2 → Nat) a := fun a => congrFun (place2 m t) a
  intro a
  match a with
  | ⟨0, _⟩ =>
    show ((cfgM m (ok m)).win 2).index t (0 : Fin 2) * 64 ≤ (i 0).val ∧ (i 0).val < ((cfgM m (ok m)).win 2).index t (0 : Fin 2) * 64 + 64
    rw [e2]; show (11 + (grid0.coords t 0).val) * 64 ≤ _ ∧ _ < (11 + (grid0.coords t 0).val) * 64 + 64; omega
  | ⟨1, _⟩ =>
    show ((cfgM m (ok m)).win 2).index t (1 : Fin 2) * 2048 ≤ (i 1).val ∧ (i 1).val < ((cfgM m (ok m)).win 2).index t (1 : Fin 2) * 2048 + 2048
    rw [e2]; show 0 * 2048 ≤ _ ∧ _ < 0 * 2048 + 2048; omega

/-- The rows of the result that the claim is about. -/
def result (c : Dev nD) : FVec Ideal S704x2048 .f32 := fun i =>
  added (m ((c : Thread nD τ).loc main_arg0)) (m ((c : Thread nD τ).loc main_arg1)) (i 0) (i 1)

theorem tail (c : Dev nD) : Pipeline.afterTail pcfgs (fun _ => adm m (ok m)) (dats (F := Ideal) m (ok m)) 0 (V0 m) [hostOps1] c main_v6 = result m c := by
  have h5 : Pipeline.withArrays (Pipeline.pin (pcfgs (F := Ideal)) (fun _ => adm m (ok m)) 0).spec c (V0 m c)
      (fun w => (dats (F := Ideal) m (ok m) 0 c).arrAt w (Pipeline.pin (pcfgs (F := Ideal)) (fun _ => adm m (ok m)) 0).N)
      (Proc.devRef .tc main_v5) = (dats m (ok m) 0 c).arrAt 2 (cfgM m (ok m)).N :=
    Pipeline.withArrays_arr spec0 (by decide) c _ _ 2
  unfold Pipeline.afterTail
  simp only [hostOps1, List.flatten_cons, List.flatten_nil, List.append_nil]
  after_results_simp
  rw [h5]
  funext i
  have h0 : (i 0).val < 704 := (i 0).isLt
  refine (extractStridedSlice_apply _ _ Facts₀.slices_S1408x2048_S704x2048_704_0 i
    (ix2 (⟨704 + (i 0).val, by omega⟩ : Fin 1408) (⟨(i 1).val, (i 1).isLt⟩ : Fin 2048)) (fun a => match a with
    | ⟨0, _⟩ => by show 704 + (i 0).val = 704 + (i 0).val; rfl
    | ⟨1, _⟩ => by show (i 1).val = 0 + (i 1).val; omega)).trans ?_
  refine (half m c _ (Nat.le_add_right 704 _)).trans ((dif_pos (Nat.le_add_right 704 _)).trans ?_)
  exact congrArg (fun q : Fin 704 => added (m ((c : Thread nD τ).loc main_arg0)) (m ((c : Thread nD τ).loc main_arg1)) q (i 1))
    (Fin.ext (Nat.add_sub_cancel_left 704 _))

/-- The run leaves the sum in the result. -/
theorem run : θ_run defs (onTc (τ := τ) (main (F := Ideal))) ⟨m, fun _ => 0, ρ⟩ (fun r => ∀ c : Dev nD,
      r.2.mem ((c : Thread nD τ).loc main_v6) = result m c) :=
  (θ_run _ _ _).mono (fun _ h c => ((h c).2 main_v6 (Pipeline.mem_restRefs_of main_v6 (by decide)
    (show ∀ w, (spec0 w).arr.view.ref ≠ main_v6 by decide))).trans (tail m c)) (run_main m ρ (ok m))

end Cert.SumFfn2BottomIdeal.Placed

namespace Cert.SumFfn2BottomRefIdeal.Placed

open Cert.SumFfn2BottomRefIdeal Cert.SumFfn2BottomRefIdeal.Gen Cert.SumFfn2BottomRefIdeal.Read

/-- The host's sum, element by element. -/
theorem value (p : FVec Ideal S4x704x2048 .bf16) (r : FVec Ideal S3x704x2048 .bf16) (i : S704x2048.Idx) :
    val_main_v5 (F := Ideal) p r i = Cert.SumFfn2BottomIdeal.Placed.added p r (i 0) (i 1) := by
  have h0 : (i 0).val < 704 := (i 0).isLt
  have h1 : (i 1).val < 2048 := (i 1).isLt
  have own : val_main_v2 (F := Ideal) p i = p (ix3 (0 : Fin 4) (i 0) (i 1)) := by
    rw [val_main_v2_apply, val_main_v1_apply, val_main_v0_apply]
    refine congrArg p (funext fun a => Fin.ext ?_)
    match a with
    | ⟨0, _⟩ => rfl
    | ⟨1, _⟩ => show ((i 0).val * 2048 + (i 1).val) / 2048 % 704 = (i 0).val; omega
    | ⟨2, _⟩ => show ((i 0).val * 2048 + (i 1).val) % 2048 = (i 1).val; omega
  have zero : val_main_cst (F := Ideal) (Shape.Idx.first h_S_) = 0 := by
    show (constant S_ .f32 0x00000000#32 : FVec Ideal S_ .f32) _ = 0
    pointwise
  have three (k : Fin 3) : val_main_v3 (F := Ideal) r (idx_main_v4 i k) = r (ix3 k (i 0) (i 1)) := by
    rw [val_main_v3_apply]
    exact congrArg r (funext fun a => match a with | ⟨0, _⟩ => rfl | ⟨1, _⟩ => rfl | ⟨2, _⟩ => rfl)
  rw [val_main_v5_apply, own, val_main_v4_apply, zero, Fin.sum_univ_three, three, three, three]
  show p _ + (0 + (r _ + r _ + r _)) = p _ + r _ + r _ + r _
  rw [zero_add, ← add_assoc, ← add_assoc]

end Cert.SumFfn2BottomRefIdeal.Placed

namespace Cert.Proof

/-- The chips' parts of the gradient, added by the kernel and by the host. -/
theorem algebraic_SumFfn2Bottom : Cert.algebraic_SumFfn2BottomIdeal_SumFfn2BottomRefIdeal (hSumFfn2BottomIdeal := Cert.SumFfn2BottomIdeal.Gen.facts)
    (hSumFfn2BottomRefIdeal := Cert.SumFfn2BottomRefIdeal.Gen.facts) := by
  intro m g m' g' _ hargs
  refine ⟨fun c => Cert.SumFfn2BottomIdeal.Placed.result m c,
    (θ_run _ _ _).mono (fun _ h c => ⟨h.1 c, h.2 c⟩) (θ_run_and (Cert.SumFfn2BottomIdeal.Placed.run m g)
      (Cert.SumFfn2BottomIdeal.Gen.unchanged m g (Cert.SumFfn2BottomIdeal.Placed.ok m))), ?_⟩
  refine (θ_run _ _ _).mono (fun _ h c => ?_) (Cert.SumFfn2BottomRefIdeal.Value.run m' g')
  obtain ⟨e0, e1⟩ := hargs c
  refine ⟨(h c).1.trans (by
    rw [e0, e1]
    exact (Cert.SumFfn2BottomRefIdeal.Read.val_main_v5_eq _ _).trans (funext fun i => Cert.SumFfn2BottomRefIdeal.Placed.value _ _ i)), (h c).2⟩

end Cert.Proof

end
-- ==== Proof.Adam.lean ====
/-
  The optimiser's update of one element, as both sides compute it: the two moments and the step.
-/
module

public import Idealize.ShloMosaic.Lib.Pipeline.Value
public import Idealize.ShloMosaic.Lib.Pointwise

@[expose] public section

noncomputable section

open Idealize.ShloMosaic

namespace Cert.Proof.Adam

variable {S : Shape}

/-- A constant of the update, read as the real its float is. -/
abbrev num (b : BitVec 32) : EReal := FloatOps.ofBits (F := Ideal) .f32 b

/-- The new first moment from the gradient and the old one. -/
def mean (g m : FVec Ideal S .f32) : FVec Ideal S .f32 :=
  fun i => num 0x3F666666#32 * m i + num 0x3DCCCCCD#32 * g i

/-- The new second moment from the gradient and the old one. -/
def square (g v : FVec Ideal S .f32) : FVec Ideal S .f32 :=
  fun i => num 0x3F7FBE77#32 * v i + num 0x3A83126F#32 * (g i * g i)

/-- The step taken from a weight, its gradient and the old moments. -/
def step (w g m v : FVec Ideal S .f32) : FVec Ideal S .f32 :=
  fun i => num 0xBA83126F#32 * (Ideal.div (Ideal.div (mean g m i) (num 0x3F26BD02#32))
      (Ideal.sqrt (Ideal.div (square g v i) (num 0x3C231ACC#32)) + num 0x322BCC77#32) + num 0x3C23D70A#32 * w i)

end Cert.Proof.Adam

end
-- ==== Proof.AdamIn.Value.lean ====
/-
  The optimiser's update of the input projection's weight: the arrays after the run, element by element, and the host reference's as the same
  elements.
-/
module

public import proofs.«01_k».proof.Defs
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamInIdeal.Update

open Cert.AdamInIdeal Cert.AdamInIdeal.Gen

variable (m : (ℓ : Loc nD τ sig) → Buf (Elt Ideal) ℓ) (ρ : Dev nD → PrngReg)

/-- The body's three results on a block. -/
theorem block_mean (g a : FVec Ideal S64x3072 .f32) : k0_pay1 (F := Ideal) g a = mean g a := rfl
theorem block_square (g v : FVec Ideal S64x3072 .f32) : k0_pay2 (F := Ideal) g v = square g v := rfl
theorem block_step (w g a v : FVec Ideal S64x3072 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S64x3072) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S64x3072) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S64x3072) zeros2, block_square]
  rfl

/-- A grid point writes back its rows of the gradient. -/
theorem flushed_copy (c : Dev nD) (t : Fin cfg0.N) : (dats m 0 c).flushed 7 t = ((cfg0.win 7).blk t).view.read (Elt Ideal)
    (m ((c : Thread nD τ).loc main_arg1)) := by
  rw [Value.flushed7]
  unfold out0_7
  rw [View.canon_unit_zero zeros2]
  simp only [View.ld_unit_zero (S := S64x3072) zeros2]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S2048x3072.Idx) : ∃ t : Fin cfg0.N, i ∈ (win0_4.rect t).set := by
  have h0 : (i 0).val < 2048 := (i 0).isLt
  have h1 : (i 1).val < 3072 := (i 1).isLt
  let t : Fin cfg0.N := ⟨(i 0).val / 64, by show _ < 32; omega⟩
  have ht : t.val = (i 0).val / 64 := rfl
  refine ⟨t, ?_⟩
  rw [Rect.mem_set_unit]
  obtain ⟨e0, e1⟩ := places t
  intro a
  match a with
  | ⟨0, _⟩ => show win0_4.index t 0 * 64 ≤ (i 0).val ∧ (i 0).val < win0_4.index t 0 * 64 + 64; omega
  | ⟨1, _⟩ => show win0_4.index t 1 * 3072 ≤ (i 1).val ∧ (i 1).val < win0_4.index t 1 * 3072 + 3072; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

theorem final_copy (c : Dev nD) : (dats m 0 c).arrAt 7 cfg0.N = (m ((c : Thread nD τ).loc main_arg1)) :=
  (dats m 0 c).arrAt_eq_of_cover 7 _ (fun t _ => flushed_copy m c t) fun i =>
    let ⟨t, h⟩ := cover i
    ⟨t, flush0_7 t, by show i ∈ ((View.whole main_v0_3).slice (win0_7.rect t)).set; rw [View.set_slice_whole]; exact h⟩

end Cert.AdamInIdeal.Update

namespace Cert.AdamInRefIdeal.Update

open Cert.AdamInRefIdeal Cert.AdamInRefIdeal.Gen Cert.AdamInRefIdeal.Read

/-- The host's three results. -/
theorem value_mean (g a : FVec Ideal S2048x3072 .f32) : val_main_v4 (F := Ideal) g a = mean g a := rfl
theorem value_square (g v : FVec Ideal S2048x3072 .f32) : val_main_v10 (F := Ideal) g v = square g v := rfl
theorem value_step (w g a v : FVec Ideal S2048x3072 .f32) : val_main_v23 (F := Ideal) w g a v = step w g a v := rfl

end Cert.AdamInRefIdeal.Update

namespace Cert.Proof

/-- The kernel's update of the input projection's weight is the optimiser's. -/
theorem algebraic_AdamIn : Cert.algebraic_AdamInIdeal_AdamInRefIdeal (hAdamInIdeal := Cert.AdamInIdeal.Gen.facts)
    (hAdamInRefIdeal := Cert.AdamInRefIdeal.Gen.facts) := by
  intro m g m' g' _ hargs
  refine ⟨fun c => step (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1))
      (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)),
    fun c => mean (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)),
    fun c => square (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg3)),
    fun c => (m ((c.tc : Thread Cert.AdamInIdeal.nD Cert.AdamInIdeal.τ).loc Cert.AdamInIdeal.main_arg1)),
    (θ_run _ _ _).mono (fun _ h c => ⟨(h c).1.trans (Cert.AdamInIdeal.Update.final_step m c),
      (h c).2.1.trans (Cert.AdamInIdeal.Update.final_mean m c),
      (h c).2.2.1.trans (Cert.AdamInIdeal.Update.final_square m c),
      (h c).2.2.2.1.trans (Cert.AdamInIdeal.Update.final_copy m c),
      (h c).2.2.2.2⟩) (Cert.AdamInIdeal.Value.run_blocks m g), ?_⟩
  refine (θ_run _ _ _).mono (fun _ h c => ?_) (Cert.AdamInRefIdeal.Value.run m' g')
  obtain ⟨e0, e1, e2, e3⟩ := hargs c
  exact ⟨(h c).1.trans (by rw [e0, e1, e2, e3]; exact (Cert.AdamInRefIdeal.Read.val_main_v23_eq _ _ _ _).trans (Cert.AdamInRefIdeal.Update.value_step _ _ _ _)),
    (h c).2.1.trans (by rw [e1, e2]; exact (Cert.AdamInRefIdeal.Read.val_main_v4_eq _ _).trans (Cert.AdamInRefIdeal.Update.value_mean _ _)),
    (h c).2.2.1.trans (by rw [e1, e3]; exact (Cert.AdamInRefIdeal.Read.val_main_v10_eq _ _).trans (Cert.AdamInRefIdeal.Update.value_square _ _)),
    (h c).2.2.2.1.trans e1,
    (h c).2.2.2.2⟩

end Cert.Proof

end
-- ==== Proof.AdamBranch.Value.lean ====
/-
  The optimiser's update of the branch projections' weights: the arrays after the run, element by element, and the host reference's as the same
  elements.
-/
module

public import proofs.«01_k».proof.Defs
public import proofs.«01_k».proof.Proof.Gen.AdamBranch.Frame
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamBranchIdeal.Update

open Cert.AdamBranchIdeal Cert.AdamBranchIdeal.Gen

variable (m : (ℓ : Loc nD τ sig) → Buf (Elt Ideal) ℓ) (ρ : Dev nD → PrngReg)

/-- The body's three results on a block. -/
theorem block_mean (g a : FVec Ideal S512x512 .f32) : k0_pay1 (F := Ideal) g a = mean g a := rfl
theorem block_square (g v : FVec Ideal S512x512 .f32) : k0_pay2 (F := Ideal) g v = square g v := rfl
theorem block_step (w g a v : FVec Ideal S512x512 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S512x512) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S512x512) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S512x512) zeros2, block_square]
  rfl

/-- A grid point writes back its rows of the gradient. -/
theorem flushed_copy (c : Dev nD) (t : Fin cfg0.N) : (dats m 0 c).flushed 7 t = ((cfg0.win 7).blk t).view.read (Elt Ideal)
    (m ((c : Thread nD τ).loc main_arg1)) := by
  rw [Value.flushed7]
  unfold out0_7
  rw [View.canon_unit_zero zeros2]
  simp only [View.ld_unit_zero (S := S512x512) zeros2]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S1024x512.Idx) : ∃ t : Fin cfg0.N, i ∈ (win0_4.rect t).set := by
  have h0 : (i 0).val < 1024 := (i 0).isLt
  have h1 : (i 1).val < 512 := (i 1).isLt
  let t : Fin cfg0.N := ⟨(i 0).val / 512, by show _ < 2; omega⟩
  have ht : t.val = (i 0).val / 512 := rfl
  refine ⟨t, ?_⟩
  rw [Rect.mem_set_unit]
  obtain ⟨e0, e1⟩ := places t
  intro a
  match a with
  | ⟨0, _⟩ => show win0_4.index t 0 * 512 ≤ (i 0).val ∧ (i 0).val < win0_4.index t 0 * 512 + 512; omega
  | ⟨1, _⟩ => show win0_4.index t 1 * 512 ≤ (i 1).val ∧ (i 1).val < win0_4.index t 1 * 512 + 512; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

theorem final_copy (c : Dev nD) : (dats m 0 c).arrAt 7 cfg0.N = (m ((c : Thread nD τ).loc main_arg1)) :=
  (dats m 0 c).arrAt_eq_of_cover 7 _ (fun t _ => flushed_copy m c t) fun i =>
    let ⟨t, h⟩ := cover i
    ⟨t, flush0_7 t, by show i ∈ ((View.whole main_v0_3).slice (win0_7.rect t)).set; rw [View.set_slice_whole]; exact h⟩

end Cert.AdamBranchIdeal.Update

namespace Cert.AdamBranchRefIdeal.Update

open Cert.AdamBranchRefIdeal Cert.AdamBranchRefIdeal.Gen Cert.AdamBranchRefIdeal.Read

/-- The host's three results. -/
theorem value_mean (g a : FVec Ideal S1024x512 .f32) : val_main_v4 (F := Ideal) g a = mean g a := rfl
theorem value_square (g v : FVec Ideal S1024x512 .f32) : val_main_v10 (F := Ideal) g v = square g v := rfl
theorem value_step (w g a v : FVec Ideal S1024x512 .f32) : val_main_v23 (F := Ideal) w g a v = step w g a v := rfl

end Cert.AdamBranchRefIdeal.Update

namespace Cert.Proof

/-- The kernel's update of the branch projections' weights is the optimiser's. -/
theorem algebraic_AdamBranch : Cert.algebraic_AdamBranchIdeal_AdamBranchRefIdeal (hAdamBranchIdeal := Cert.AdamBranchIdeal.Gen.facts)
    (hAdamBranchRefIdeal := Cert.AdamBranchRefIdeal.Gen.facts) := by
  intro m g m' g' _ hargs
  refine ⟨fun c => step (m ((c.tc : Thread Cert.AdamBranchIdeal.nD Cert.AdamBranchIdeal.τ).loc Cert.AdamBranchIdeal.main_arg0)) (m ((c.tc : Thread Cert.AdamBranchIdeal.nD Cert.AdamBranchIdeal.τ).loc Cert.AdamBranchIdeal.main_arg1))
      (m ((c.tc : Thread Cert.AdamBranchIdeal.nD Cert.AdamBranchIdeal.τ).loc Cert.AdamBranchIdeal.main_arg2)) (m ((c.tc : Thread Cert.AdamBranchIdeal.nD Cert.AdamBranchIdeal.τ).loc Cert.AdamBranchIdeal.main_arg3)),
    fun c => mean (m ((c.tc : Thread Cert.AdamBranchIdeal.nD Cert.AdamBranchIdeal.τ).loc Cert.AdamBranchIdeal.main_arg1)) (m ((c.tc : Thread Cert.AdamBranchIdeal.nD Cert.AdamBranchIdeal.τ).loc Cert.AdamBranchIdeal.main_arg2)),
    fun c => square (m ((c.tc : Thread Cert.AdamBranchIdeal.nD Cert.AdamBranchIdeal.τ).loc Cert.AdamBranchIdeal.main_arg1)) (m ((c.tc : Thread Cert.AdamBranchIdeal.nD Cert.AdamBranchIdeal.τ).loc Cert.AdamBranchIdeal.main_arg3)),
    fun c => (m ((c.tc : Thread Cert.AdamBranchIdeal.nD Cert.AdamBranchIdeal.τ).loc Cert.AdamBranchIdeal.main_arg1)),
    (θ_run _ _ _).mono (fun _ h c => ⟨(h c).1.trans (Cert.AdamBranchIdeal.Update.final_step m c),
      (h c).2.1.trans (Cert.AdamBranchIdeal.Update.final_mean m c),
      (h c).2.2.1.trans (Cert.AdamBranchIdeal.Update.final_square m c),
      (h c).2.2.2.1.trans (Cert.AdamBranchIdeal.Update.final_copy m c),
      (h c).2.2.2.2⟩) (Cert.AdamBranchIdeal.Value.run_blocks m g), ?_⟩
  refine (θ_run _ _ _).mono (fun _ h c => ?_) (Cert.AdamBranchRefIdeal.Value.run m' g')
  obtain ⟨e0, e1, e2, e3⟩ := hargs c
  exact ⟨(h c).1.trans (by rw [e0, e1, e2, e3]; exact (Cert.AdamBranchRefIdeal.Read.val_main_v23_eq _ _ _ _).trans (Cert.AdamBranchRefIdeal.Update.value_step _ _ _ _)),
    (h c).2.1.trans (by rw [e1, e2]; exact (Cert.AdamBranchRefIdeal.Read.val_main_v4_eq _ _).trans (Cert.AdamBranchRefIdeal.Update.value_mean _ _)),
    (h c).2.2.1.trans (by rw [e1, e3]; exact (Cert.AdamBranchRefIdeal.Read.val_main_v10_eq _ _).trans (Cert.AdamBranchRefIdeal.Update.value_square _ _)),
    (h c).2.2.2.1.trans e1,
    (h c).2.2.2.2⟩

end Cert.Proof

end
-- ==== Proof.AdamOut.Value.lean ====
/-
  The optimiser's update of the output projection's weight: the arrays after the run, element by element, and the host reference's as the same
  elements.
-/
module

public import proofs.«01_k».proof.Defs
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamOutIdeal.Update

open Cert.AdamOutIdeal Cert.AdamOutIdeal.Gen

variable (m : (ℓ : Loc nD τ sig) → Buf (Elt Ideal) ℓ) (ρ : Dev nD → PrngReg)

/-- The body's three results on a block. -/
theorem block_mean (g a : FVec Ideal S128x2048 .f32) : k0_pay1 (F := Ideal) g a = mean g a := rfl
theorem block_square (g v : FVec Ideal S128x2048 .f32) : k0_pay2 (F := Ideal) g v = square g v := rfl
theorem block_step (w g a v : FVec Ideal S128x2048 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S128x2048) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S128x2048) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S128x2048) zeros2, block_square]
  rfl

/-- A grid point writes back its rows of the gradient. -/
theorem flushed_copy (c : Dev nD) (t : Fin cfg0.N) : (dats m 0 c).flushed 7 t = ((cfg0.win 7).blk t).view.read (Elt Ideal)
    (m ((c : Thread nD τ).loc main_arg1)) := by
  rw [Value.flushed7]
  unfold out0_7
  rw [View.canon_unit_zero zeros2]
  simp only [View.ld_unit_zero (S := S128x2048) zeros2]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S512x2048.Idx) : ∃ t : Fin cfg0.N, i ∈ (win0_4.rect t).set := by
  have h0 : (i 0).val < 512 := (i 0).isLt
  have h1 : (i 1).val < 2048 := (i 1).isLt
  let t : Fin cfg0.N := ⟨(i 0).val / 128, by show _ < 4; omega⟩
  have ht : t.val = (i 0).val / 128 := rfl
  refine ⟨t, ?_⟩
  rw [Rect.mem_set_unit]
  obtain ⟨e0, e1⟩ := places t
  intro a
  match a with
  | ⟨0, _⟩ => show win0_4.index t 0 * 128 ≤ (i 0).val ∧ (i 0).val < win0_4.index t 0 * 128 + 128; omega
  | ⟨1, _⟩ => show win0_4.index t 1 * 2048 ≤ (i 1).val ∧ (i 1).val < win0_4.index t 1 * 2048 + 2048; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

theorem final_copy (c : Dev nD) : (dats m 0 c).arrAt 7 cfg0.N = (m ((c : Thread nD τ).loc main_arg1)) :=
  (dats m 0 c).arrAt_eq_of_cover 7 _ (fun t _ => flushed_copy m c t) fun i =>
    let ⟨t, h⟩ := cover i
    ⟨t, flush0_7 t, by show i ∈ ((View.whole main_v0_3).slice (win0_7.rect t)).set; rw [View.set_slice_whole]; exact h⟩

end Cert.AdamOutIdeal.Update

namespace Cert.AdamOutRefIdeal.Update

open Cert.AdamOutRefIdeal Cert.AdamOutRefIdeal.Gen Cert.AdamOutRefIdeal.Read

/-- The host's three results. -/
theorem value_mean (g a : FVec Ideal S512x2048 .f32) : val_main_v4 (F := Ideal) g a = mean g a := rfl
theorem value_square (g v : FVec Ideal S512x2048 .f32) : val_main_v10 (F := Ideal) g v = square g v := rfl
theorem value_step (w g a v : FVec Ideal S512x2048 .f32) : val_main_v23 (F := Ideal) w g a v = step w g a v := rfl

end Cert.AdamOutRefIdeal.Update

namespace Cert.Proof

/-- The kernel's update of the output projection's weight is the optimiser's. -/
theorem algebraic_AdamOut : Cert.algebraic_AdamOutIdeal_AdamOutRefIdeal (hAdamOutIdeal := Cert.AdamOutIdeal.Gen.facts)
    (hAdamOutRefIdeal := Cert.AdamOutRefIdeal.Gen.facts) := by
  intro m g m' g' _ hargs
  refine ⟨fun c => step (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1))
      (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)),
    fun c => mean (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)),
    fun c => square (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg3)),
    fun c => (m ((c.tc : Thread Cert.AdamOutIdeal.nD Cert.AdamOutIdeal.τ).loc Cert.AdamOutIdeal.main_arg1)),
    (θ_run _ _ _).mono (fun _ h c => ⟨(h c).1.trans (Cert.AdamOutIdeal.Update.final_step m c),
      (h c).2.1.trans (Cert.AdamOutIdeal.Update.final_mean m c),
      (h c).2.2.1.trans (Cert.AdamOutIdeal.Update.final_square m c),
      (h c).2.2.2.1.trans (Cert.AdamOutIdeal.Update.final_copy m c),
      (h c).2.2.2.2⟩) (Cert.AdamOutIdeal.Value.run_blocks m g), ?_⟩
  refine (θ_run _ _ _).mono (fun _ h c => ?_) (Cert.AdamOutRefIdeal.Value.run m' g')
  obtain ⟨e0, e1, e2, e3⟩ := hargs c
  exact ⟨(h c).1.trans (by rw [e0, e1, e2, e3]; exact (Cert.AdamOutRefIdeal.Read.val_main_v23_eq _ _ _ _).trans (Cert.AdamOutRefIdeal.Update.value_step _ _ _ _)),
    (h c).2.1.trans (by rw [e1, e2]; exact (Cert.AdamOutRefIdeal.Read.val_main_v4_eq _ _).trans (Cert.AdamOutRefIdeal.Update.value_mean _ _)),
    (h c).2.2.1.trans (by rw [e1, e3]; exact (Cert.AdamOutRefIdeal.Read.val_main_v10_eq _ _).trans (Cert.AdamOutRefIdeal.Update.value_square _ _)),
    (h c).2.2.2.1.trans e1,
    (h c).2.2.2.2⟩

end Cert.Proof

end
-- ==== Proof.AdamFfn1.Value.lean ====
/-
  The optimiser's update of the gated layers' weights: the arrays after the run, element by element, and the host reference's as the same
  elements.
-/
module

public import proofs.«01_k».proof.Defs
public import proofs.«01_k».proof.Proof.Gen.AdamFfn1.Frame
public import proofs.«01_k».proof.Proof.Gen.AdamFfn1Ideal.Value
public import proofs.«01_k».proof.Proof.Gen.AdamFfn1RefIdeal.Run
public import proofs.«01_k».proof.Proof.Gen.AdamFfn1RefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamFfn1Ideal.Update

open Cert.AdamFfn1Ideal Cert.AdamFfn1Ideal.Gen

variable (m : (ℓ : Loc nD τ sig) → Buf (Elt Ideal) ℓ) (ρ : Dev nD → PrngReg)

/-- The body's three results on a block. -/
theorem block_mean (g a : FVec Ideal S128x1408 .f32) : k0_pay1 (F := Ideal) g a = mean g a := rfl
theorem block_square (g v : FVec Ideal S128x1408 .f32) : k0_pay2 (F := Ideal) g v = square g v := rfl
theorem block_step (w g a v : FVec Ideal S128x1408 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S128x1408) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S128x1408) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S128x1408) zeros2, block_square]
  rfl

/-- A grid point writes back its rows of the gradient. -/
theorem flushed_copy (c : Dev nD) (t : Fin cfg0.N) : (dats m 0 c).flushed 7 t = ((cfg0.win 7).blk t).view.read (Elt Ideal)
    (m ((c : Thread nD τ).loc main_arg1)) := by
  rw [Value.flushed7]
  unfold out0_7
  rw [View.canon_unit_zero zeros2]
  simp only [View.ld_unit_zero (S := S128x1408) zeros2]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S2048x1408.Idx) : ∃ t : Fin cfg0.N, i ∈ (win0_4.rect t).set := by
  have h0 : (i 0).val < 2048 := (i 0).isLt
  have h1 : (i 1).val < 1408 := (i 1).isLt
  let t : Fin cfg0.N := ⟨(i 0).val / 128, by show _ < 16; omega⟩
  have ht : t.val = (i 0).val / 128 := rfl
  refine ⟨t, ?_⟩
  rw [Rect.mem_set_unit]
  obtain ⟨e0, e1⟩ := places t
  intro a
  match a with
  | ⟨0, _⟩ => show win0_4.index t 0 * 128 ≤ (i 0).val ∧ (i 0).val < win0_4.index t 0 * 128 + 128; omega
  | ⟨1, _⟩ => show win0_4.index t 1 * 1408 ≤ (i 1).val ∧ (i 1).val < win0_4.index t 1 * 1408 + 1408; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

theorem final_copy (c : Dev nD) : (dats m 0 c).arrAt 7 cfg0.N = (m ((c : Thread nD τ).loc main_arg1)) :=
  (dats m 0 c).arrAt_eq_of_cover 7 _ (fun t _ => flushed_copy m c t) fun i =>
    let ⟨t, h⟩ := cover i
    ⟨t, flush0_7 t, by show i ∈ ((View.whole main_v0_3).slice (win0_7.rect t)).set; rw [View.set_slice_whole]; exact h⟩

end Cert.AdamFfn1Ideal.Update

namespace Cert.AdamFfn1RefIdeal.Update

open Cert.AdamFfn1RefIdeal Cert.AdamFfn1RefIdeal.Gen Cert.AdamFfn1RefIdeal.Read

/-- The host's three results. -/
theorem value_mean (g a : FVec Ideal S2048x1408 .f32) : val_main_v4 (F := Ideal) g a = mean g a := rfl
theorem value_square (g v : FVec Ideal S2048x1408 .f32) : val_main_v10 (F := Ideal) g v = square g v := rfl
theorem value_step (w g a v : FVec Ideal S2048x1408 .f32) : val_main_v23 (F := Ideal) w g a v = step w g a v := rfl

end Cert.AdamFfn1RefIdeal.Update

namespace Cert.Proof

/-- The kernel's update of the gated layers' weights is the optimiser's. -/
theorem algebraic_AdamFfn1 : Cert.algebraic_AdamFfn1Ideal_AdamFfn1RefIdeal (hAdamFfn1Ideal := Cert.AdamFfn1Ideal.Gen.facts)
    (hAdamFfn1RefIdeal := Cert.AdamFfn1RefIdeal.Gen.facts) := by
  intro m g m' g' _ hargs
  refine ⟨fun c => step (m ((c.tc : Thread Cert.AdamFfn1Ideal.nD Cert.AdamFfn1Ideal.τ).loc Cert.AdamFfn1Ideal.main_arg0)) (m ((c.tc : Thread Cert.AdamFfn1Ideal.nD Cert.AdamFfn1Ideal.τ).loc Cert.AdamFfn1Ideal.main_arg1))
      (m ((c.tc : Thread Cert.AdamFfn1Ideal.nD Cert.AdamFfn1Ideal.τ).loc Cert.AdamFfn1Ideal.main_arg2)) (m ((c.tc : Thread Cert.AdamFfn1Ideal.nD Cert.AdamFfn1Ideal.τ).loc Cert.AdamFfn1Ideal.main_arg3)),
    fun c => mean (m ((c.tc : Thread Cert.AdamFfn1Ideal.nD Cert.AdamFfn1Ideal.τ).loc Cert.AdamFfn1Ideal.main_arg1)) (m ((c.tc : Thread Cert.AdamFfn1Ideal.nD Cert.AdamFfn1Ideal.τ).loc Cert.AdamFfn1Ideal.main_arg2)),
    fun c => square (m ((c.tc : Thread Cert.AdamFfn1Ideal.nD Cert.AdamFfn1Ideal.τ).loc Cert.AdamFfn1Ideal.main_arg1)) (m ((c.tc : Thread Cert.AdamFfn1Ideal.nD Cert.AdamFfn1Ideal.τ).loc Cert.AdamFfn1Ideal.main_arg3)),
    fun c => (m ((c.tc : Thread Cert.AdamFfn1Ideal.nD Cert.AdamFfn1Ideal.τ).loc Cert.AdamFfn1Ideal.main_arg1)),
    (θ_run _ _ _).mono (fun _ h c => ⟨(h c).1.trans (Cert.AdamFfn1Ideal.Update.final_step m c),
      (h c).2.1.trans (Cert.AdamFfn1Ideal.Update.final_mean m c),
      (h c).2.2.1.trans (Cert.AdamFfn1Ideal.Update.final_square m c),
      (h c).2.2.2.1.trans (Cert.AdamFfn1Ideal.Update.final_copy m c),
      (h c).2.2.2.2⟩) (Cert.AdamFfn1Ideal.Value.run_blocks m g), ?_⟩
  refine (θ_run _ _ _).mono (fun _ h c => ?_) (Cert.AdamFfn1RefIdeal.Value.run m' g')
  obtain ⟨e0, e1, e2, e3⟩ := hargs c
  exact ⟨(h c).1.trans (by rw [e0, e1, e2, e3]; exact (Cert.AdamFfn1RefIdeal.Read.val_main_v23_eq _ _ _ _).trans (Cert.AdamFfn1RefIdeal.Update.value_step _ _ _ _)),
    (h c).2.1.trans (by rw [e1, e2]; exact (Cert.AdamFfn1RefIdeal.Read.val_main_v4_eq _ _).trans (Cert.AdamFfn1RefIdeal.Update.value_mean _ _)),
    (h c).2.2.1.trans (by rw [e1, e3]; exact (Cert.AdamFfn1RefIdeal.Read.val_main_v10_eq _ _).trans (Cert.AdamFfn1RefIdeal.Update.value_square _ _)),
    (h c).2.2.2.1.trans e1,
    (h c).2.2.2.2⟩

end Cert.Proof

end
-- ==== Proof.AdamFfn2.Value.lean ====
/-
  The optimiser's update of the weight of the layer out of the gated pair: the arrays after the run, element by element, and the host reference's as the same
  elements.
-/
module

public import proofs.«01_k».proof.Defs
public import proofs.«01_k».proof.Proof.Gen.AdamFfn2.Frame
public import proofs.«01_k».proof.Proof.Gen.AdamFfn2Ideal.Value
public import proofs.«01_k».proof.Proof.Gen.AdamFfn2RefIdeal.Run
public import proofs.«01_k».proof.Proof.Gen.AdamFfn2RefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamFfn2Ideal.Update

open Cert.AdamFfn2Ideal Cert.AdamFfn2Ideal.Gen

variable (m : (ℓ : Loc nD τ sig) → Buf (Elt Ideal) ℓ) (ρ : Dev nD → PrngReg)

/-- The body's three results on a block. -/
theorem block_mean (g a : FVec Ideal S128x2048 .f32) : k0_pay1 (F := Ideal) g a = mean g a := rfl
theorem block_square (g v : FVec Ideal S128x2048 .f32) : k0_pay2 (F := Ideal) g v = square g v := rfl
theorem block_step (w g a v : FVec Ideal S128x2048 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S128x2048) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S128x2048) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S128x2048) zeros2, block_square]
  rfl

/-- A grid point writes back its rows of the gradient. -/
theorem flushed_copy (c : Dev nD) (t : Fin cfg0.N) : (dats m 0 c).flushed 7 t = ((cfg0.win 7).blk t).view.read (Elt Ideal)
    (m ((c : Thread nD τ).loc main_arg1)) := by
  rw [Value.flushed7]
  unfold out0_7
  rw [View.canon_unit_zero zeros2]
  simp only [View.ld_unit_zero (S := S128x2048) zeros2]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S1408x2048.Idx) : ∃ t : Fin cfg0.N, i ∈ (win0_4.rect t).set := by
  have h0 : (i 0).val < 1408 := (i 0).isLt
  have h1 : (i 1).val < 2048 := (i 1).isLt
  let t : Fin cfg0.N := ⟨(i 0).val / 128, by show _ < 11; omega⟩
  have ht : t.val = (i 0).val / 128 := rfl
  refine ⟨t, ?_⟩
  rw [Rect.mem_set_unit]
  obtain ⟨e0, e1⟩ := places t
  intro a
  match a with
  | ⟨0, _⟩ => show win0_4.index t 0 * 128 ≤ (i 0).val ∧ (i 0).val < win0_4.index t 0 * 128 + 128; omega
  | ⟨1, _⟩ => show win0_4.index t 1 * 2048 ≤ (i 1).val ∧ (i 1).val < win0_4.index t 1 * 2048 + 2048; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

theorem final_copy (c : Dev nD) : (dats m 0 c).arrAt 7 cfg0.N = (m ((c : Thread nD τ).loc main_arg1)) :=
  (dats m 0 c).arrAt_eq_of_cover 7 _ (fun t _ => flushed_copy m c t) fun i =>
    let ⟨t, h⟩ := cover i
    ⟨t, flush0_7 t, by show i ∈ ((View.whole main_v0_3).slice (win0_7.rect t)).set; rw [View.set_slice_whole]; exact h⟩

end Cert.AdamFfn2Ideal.Update

namespace Cert.AdamFfn2RefIdeal.Update

open Cert.AdamFfn2RefIdeal Cert.AdamFfn2RefIdeal.Gen Cert.AdamFfn2RefIdeal.Read

/-- The host's three results. -/
theorem value_mean (g a : FVec Ideal S1408x2048 .f32) : val_main_v4 (F := Ideal) g a = mean g a := rfl
theorem value_square (g v : FVec Ideal S1408x2048 .f32) : val_main_v10 (F := Ideal) g v = square g v := rfl
theorem value_step (w g a v : FVec Ideal S1408x2048 .f32) : val_main_v23 (F := Ideal) w g a v = step w g a v := rfl

end Cert.AdamFfn2RefIdeal.Update

namespace Cert.Proof

/-- The kernel's update of the weight of the layer out of the gated pair is the optimiser's. -/
theorem algebraic_AdamFfn2 : Cert.algebraic_AdamFfn2Ideal_AdamFfn2RefIdeal (hAdamFfn2Ideal := Cert.AdamFfn2Ideal.Gen.facts)
    (hAdamFfn2RefIdeal := Cert.AdamFfn2RefIdeal.Gen.facts) := by
  intro m g m' g' _ hargs
  refine ⟨fun c => step (m ((c.tc : Thread Cert.AdamFfn2Ideal.nD Cert.AdamFfn2Ideal.τ).loc Cert.AdamFfn2Ideal.main_arg0)) (m ((c.tc : Thread Cert.AdamFfn2Ideal.nD Cert.AdamFfn2Ideal.τ).loc Cert.AdamFfn2Ideal.main_arg1))
      (m ((c.tc : Thread Cert.AdamFfn2Ideal.nD Cert.AdamFfn2Ideal.τ).loc Cert.AdamFfn2Ideal.main_arg2)) (m ((c.tc : Thread Cert.AdamFfn2Ideal.nD Cert.AdamFfn2Ideal.τ).loc Cert.AdamFfn2Ideal.main_arg3)),
    fun c => mean (m ((c.tc : Thread Cert.AdamFfn2Ideal.nD Cert.AdamFfn2Ideal.τ).loc Cert.AdamFfn2Ideal.main_arg1)) (m ((c.tc : Thread Cert.AdamFfn2Ideal.nD Cert.AdamFfn2Ideal.τ).loc Cert.AdamFfn2Ideal.main_arg2)),
    fun c => square (m ((c.tc : Thread Cert.AdamFfn2Ideal.nD Cert.AdamFfn2Ideal.τ).loc Cert.AdamFfn2Ideal.main_arg1)) (m ((c.tc : Thread Cert.AdamFfn2Ideal.nD Cert.AdamFfn2Ideal.τ).loc Cert.AdamFfn2Ideal.main_arg3)),
    fun c => (m ((c.tc : Thread Cert.AdamFfn2Ideal.nD Cert.AdamFfn2Ideal.τ).loc Cert.AdamFfn2Ideal.main_arg1)),
    (θ_run _ _ _).mono (fun _ h c => ⟨(h c).1.trans (Cert.AdamFfn2Ideal.Update.final_step m c),
      (h c).2.1.trans (Cert.AdamFfn2Ideal.Update.final_mean m c),
      (h c).2.2.1.trans (Cert.AdamFfn2Ideal.Update.final_square m c),
      (h c).2.2.2.1.trans (Cert.AdamFfn2Ideal.Update.final_copy m c),
      (h c).2.2.2.2⟩) (Cert.AdamFfn2Ideal.Value.run_blocks m g), ?_⟩
  refine (θ_run _ _ _).mono (fun _ h c => ?_) (Cert.AdamFfn2RefIdeal.Value.run m' g')
  obtain ⟨e0, e1, e2, e3⟩ := hargs c
  exact ⟨(h c).1.trans (by rw [e0, e1, e2, e3]; exact (Cert.AdamFfn2RefIdeal.Read.val_main_v23_eq _ _ _ _).trans (Cert.AdamFfn2RefIdeal.Update.value_step _ _ _ _)),
    (h c).2.1.trans (by rw [e1, e2]; exact (Cert.AdamFfn2RefIdeal.Read.val_main_v4_eq _ _).trans (Cert.AdamFfn2RefIdeal.Update.value_mean _ _)),
    (h c).2.2.1.trans (by rw [e1, e3]; exact (Cert.AdamFfn2RefIdeal.Read.val_main_v10_eq _ _).trans (Cert.AdamFfn2RefIdeal.Update.value_square _ _)),
    (h c).2.2.2.1.trans e1,
    (h c).2.2.2.2⟩

end Cert.Proof

end
-- ==== Proof.AdamAda.Value.lean ====
/-
  The optimiser's update of the modulation's weight: the arrays after the run, element by element, and the host reference's as the same
  elements.
-/
module

public import proofs.«01_k».proof.Defs
public import proofs.«01_k».proof.Proof.Gen.AdamAda.Frame
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem
open Idealize.ShloMosaic.Pipeline (Dat)
open Cert.Proof (zeros2)
open Cert.Proof.Adam

namespace Cert.AdamAdaIdeal.Update

open Cert.AdamAdaIdeal Cert.AdamAdaIdeal.Gen

variable (m : (ℓ : Loc nD τ sig) → Buf (Elt Ideal) ℓ) (ρ : Dev nD → PrngReg)

/-- The body's three results on a block. -/
theorem block_mean (g a : FVec Ideal S64x3072 .f32) : k0_pay1 (F := Ideal) g a = mean g a := rfl
theorem block_square (g v : FVec Ideal S64x3072 .f32) : k0_pay2 (F := Ideal) g v = square g v := rfl
theorem block_step (w g a v : FVec Ideal S64x3072 .f32) : k0_pay3 (F := Ideal) g a v w = step w g a v := rfl

/-- A grid point writes back its rows of the step. -/
theorem flushed_step (c : Dev nD) (t : Fin cfg0.N) : (dats m 0 c).flushed 4 t = ((cfg0.win 4).blk t).view.read (Elt Ideal)
    (step (m ((c : Thread nD τ).loc main_arg0)) (m ((c : Thread nD τ).loc main_arg1)) (m ((c : Thread nD τ).loc main_arg2)) (m ((c : Thread nD τ).loc main_arg3))) := by
  rw [Value.flushed4]
  unfold out0_4
  rw [View.canon_unit_zero zeros2]
  simp only [View.ld_unit_zero (S := S64x3072) zeros2, block_step]
  rfl

/-- A grid point writes back its rows of the first moment. -/
theorem flushed_mean (c : Dev nD) (t : Fin cfg0.N) : (dats m 0 c).flushed 5 t = ((cfg0.win 5).blk t).view.read (Elt Ideal)
    (mean (m ((c : Thread nD τ).loc main_arg1)) (m ((c : Thread nD τ).loc main_arg2))) := by
  rw [Value.flushed5]
  unfold out0_5
  rw [View.canon_unit_zero zeros2]
  simp only [View.ld_unit_zero (S := S64x3072) zeros2, block_mean]
  rfl

/-- A grid point writes back its rows of the second moment. -/
theorem flushed_square (c : Dev nD) (t : Fin cfg0.N) : (dats m 0 c).flushed 6 t = ((cfg0.win 6).blk t).view.read (Elt Ideal)
    (square (m ((c : Thread nD τ).loc main_arg1)) (m ((c : Thread nD τ).loc main_arg3))) := by
  rw [Value.flushed6]
  unfold out0_6
  rw [View.canon_unit_zero zeros2]
  simp only [View.ld_unit_zero (S := S64x3072) zeros2, block_square]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S2048x3072.Idx) : ∃ t : Fin cfg0.N, i ∈ (win0_4.rect t).set := by
  have h0 : (i 0).val < 2048 := (i 0).isLt
  have h1 : (i 1).val < 3072 := (i 1).isLt
  let t : Fin cfg0.N := ⟨(i 0).val / 64, by show _ < 32; omega⟩
  have ht : t.val = (i 0).val / 64 := rfl
  refine ⟨t, ?_⟩
  rw [Rect.mem_set_unit]
  obtain ⟨e0, e1⟩ := places t
  intro a
  match a with
  | ⟨0, _⟩ => show win0_4.index t 0 * 64 ≤ (i 0).val ∧ (i 0).val < win0_4.index t 0 * 64 + 64; omega
  | ⟨1, _⟩ => show win0_4.index t 1 * 3072 ≤ (i 1).val ∧ (i 1).val < win0_4.index t 1 * 3072 + 3072; omega

theorem final_step (c : Dev nD) : (dats m 0 c).arrAt 4 cfg0.N = step (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_step m c t) fun i =>
    let ⟨t, h⟩ := cover i
    ⟨t, flush0_4 t, by show i ∈ ((View.whole main_v0_0).slice (win0_4.rect t)).set; rw [View.set_slice_whole]; exact h⟩

theorem final_mean (c : Dev nD) : (dats m 0 c).arrAt 5 cfg0.N = mean (m ((c : Thread nD τ).loc main_arg1)) (m ((c : Thread nD τ).loc main_arg2)) :=
  (dats m 0 c).arrAt_eq_of_cover 5 _ (fun t _ => flushed_mean m c t) fun i =>
    let ⟨t, h⟩ := cover i
    ⟨t, flush0_5 t, by show i ∈ ((View.whole main_v0_1).slice (win0_5.rect t)).set; rw [View.set_slice_whole]; exact h⟩

theorem final_square (c : Dev nD) : (dats m 0 c).arrAt 6 cfg0.N = square (m ((c : Thread nD τ).loc main_arg1)) (m ((c : Thread nD τ).loc main_arg3)) :=
  (dats m 0 c).arrAt_eq_of_cover 6 _ (fun t _ => flushed_square m c t) fun i =>
    let ⟨t, h⟩ := cover i
    ⟨t, flush0_6 t, by show i ∈ ((View.whole main_v0_2).slice (win0_6.rect t)).set; rw [View.set_slice_whole]; exact h⟩

end Cert.AdamAdaIdeal.Update

namespace Cert.AdamAdaRefIdeal.Update

open Cert.AdamAdaRefIdeal Cert.AdamAdaRefIdeal.Gen Cert.AdamAdaRefIdeal.Read

/-- The host's three results. -/
theorem value_mean (g a : FVec Ideal S2048x3072 .f32) : val_main_v4 (F := Ideal) g a = mean g a := rfl
theorem value_square (g v : FVec Ideal S2048x3072 .f32) : val_main_v10 (F := Ideal) g v = square g v := rfl
theorem value_step (w g a v : FVec Ideal S2048x3072 .f32) : val_main_v23 (F := Ideal) w g a v = step w g a v := rfl

end Cert.AdamAdaRefIdeal.Update

namespace Cert.Proof

/-- The kernel's update of the modulation's weight is the optimiser's. -/
theorem algebraic_AdamAda : Cert.algebraic_AdamAdaIdeal_AdamAdaRefIdeal (hAdamAdaIdeal := Cert.AdamAdaIdeal.Gen.facts)
    (hAdamAdaRefIdeal := Cert.AdamAdaRefIdeal.Gen.facts) := by
  intro m g m' g' _ hargs
  refine ⟨fun c => step (m ((c.tc : Thread Cert.AdamAdaIdeal.nD Cert.AdamAdaIdeal.τ).loc Cert.AdamAdaIdeal.main_arg0)) (m ((c.tc : Thread Cert.AdamAdaIdeal.nD Cert.AdamAdaIdeal.τ).loc Cert.AdamAdaIdeal.main_arg1))
      (m ((c.tc : Thread Cert.AdamAdaIdeal.nD Cert.AdamAdaIdeal.τ).loc Cert.AdamAdaIdeal.main_arg2)) (m ((c.tc : Thread Cert.AdamAdaIdeal.nD Cert.AdamAdaIdeal.τ).loc Cert.AdamAdaIdeal.main_arg3)),
    fun c => mean (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg2)),
    fun c => square (m ((c.tc : Thread Cert.AdamAdaIdeal.nD Cert.AdamAdaIdeal.τ).loc Cert.AdamAdaIdeal.main_arg1)) (m ((c.tc : Thread Cert.AdamAdaIdeal.nD Cert.AdamAdaIdeal.τ).loc Cert.AdamAdaIdeal.main_arg3)),
    (θ_run _ _ _).mono (fun _ h c => ⟨(h c).1.trans (Cert.AdamAdaIdeal.Update.final_step m c),
      (h c).2.1.trans (Cert.AdamAdaIdeal.Update.final_mean m c),
      (h c).2.2.1.trans (Cert.AdamAdaIdeal.Update.final_square m c),
      (h c).2.2.2⟩) (Cert.AdamAdaIdeal.Value.run_blocks m g), ?_⟩
  refine (θ_run _ _ _).mono (fun _ h c => ?_) (Cert.AdamAdaRefIdeal.Value.run m' g')
  obtain ⟨e0, e1, e2, e3⟩ := hargs c
  exact ⟨(h c).1.trans (by rw [e0, e1, e2, e3]; exact (Cert.AdamAdaRefIdeal.Read.val_main_v23_eq _ _ _ _).trans (Cert.AdamAdaRefIdeal.Update.value_step _ _ _ _)),
    (h c).2.1.trans (by rw [e1, e2]; exact (Cert.AdamAdaRefIdeal.Read.val_main_v4_eq _ _).trans (Cert.AdamAdaRefIdeal.Update.value_mean _ _)),
    (h c).2.2.1.trans (by rw [e1, e3]; exact (Cert.AdamAdaRefIdeal.Read.val_main_v10_eq _ _).trans (Cert.AdamAdaRefIdeal.Update.value_square _ _)),
    (h c).2.2.2⟩

end Cert.Proof

end
-- ==== Proof.AdamSmall.Value.lean ====
/-
  The optimiser's update of the small arrays: the kernel steps the packed rows, the host reference packs the steps, and packing
  only moves elements.
-/
module

public import proofs.«01_k».proof.Defs
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Packing
public import proofs.«01_k».proof.Proof.Sums
public import proofs.«01_k».proof.Proof.Adam
public import Idealize.ShloMosaic.Lib.Pipeline.Value
public import Idealize.ShloMosaic.Lib.Pointwise

@[expose] public section

noncomputable section

open Idealize.ShloMosaic Idealize.ShloMosaic.TcCoe Idealize.SL.Sem Idealize.ShloMosaic.StableHlo
open Cert.Proof.Packing Cert.Proof.Adam
open Cert.Proof (zeros2)

namespace Cert.Proof.SmallStep

/-- The arrays of the packing, in its order. -/
structure Parts (α : Type) where
  ctx : (flat 2048).Idx → α
  adaB : (⟨2, ![1, 12288]⟩ : Shape).Idx → α
  norm1 : (⟨2, ![1, 2048]⟩ : Shape).Idx → α
  norm2 : (⟨2, ![1, 2048]⟩ : Shape).Idx → α
  bound : (⟨3, ![2, 2, 256]⟩ : Shape).Idx → α
  normH : (⟨2, ![1, 128]⟩ : Shape).Idx → α
  normQ : (⟨2, ![1, 128]⟩ : Shape).Idx → α
  normK : (⟨2, ![1, 128]⟩ : Shape).Idx → α
  bias : (⟨4, ![1, 8, 15, 31]⟩ : Shape).Idx → α
  convW : (⟨3, ![1, 3, 1408]⟩ : Shape).Idx → α
  convB : (⟨2, ![1, 5632]⟩ : Shape).Idx → α

variable {α β : Type}

def Parts.map (f : α → β) (p : Parts α) : Parts β where
  ctx i := f (p.ctx i)
  adaB i := f (p.adaB i)
  norm1 i := f (p.norm1 i)
  norm2 i := f (p.norm2 i)
  bound i := f (p.bound i)
  normH i := f (p.normH i)
  normQ i := f (p.normQ i)
  normK i := f (p.normK i)
  bias i := f (p.bias i)
  convW i := f (p.convW i)
  convB i := f (p.convB i)

/-- The arrays laid end to end, each from the start of a row of 1024. -/
def pieces (z : α) (p : Parts α) : List (Piece α) :=
  [ended 2048 0 p.ctx z (by decide),
    ended 12288 0 (shapeCast (flat 12288) p.adaB (by decide)) z (by decide),
    ended 2048 0 (shapeCast (flat 2048) p.norm1 (by decide)) z (by decide),
    ended 2048 0 (shapeCast (flat 2048) p.norm2 (by decide)) z (by decide),
    ended 1024 0 (shapeCast (flat 1024) p.bound (by decide)) z (by decide),
    ended 1024 896 (shapeCast (flat 128) p.normH (by decide)) z (by decide),
    ended 1024 896 (shapeCast (flat 128) p.normQ (by decide)) z (by decide),
    ended 1024 896 (shapeCast (flat 128) p.normK (by decide)) z (by decide),
    ended 4096 376 (shapeCast (flat 3720) p.bias (by decide)) z (by decide),
    ended 5120 896 (shapeCast (flat 4224) p.convW (by decide)) z (by decide),
    ended 6144 512 (shapeCast (flat 5632) p.convB (by decide)) z (by decide),
    filler 3072 z]

theorem pieces_map (f : α → β) (z : α) (z' : β) (hz : z' = f z) (p : Parts α) :
    pieces z' (p.map f) = (pieces z p).map (Piece.map f) := by
  simp only [pieces, List.map_cons, List.map_nil, ← ended_map f _ _ _ z z' hz, ← filler_map f _ z z' hz]
  rfl

theorem fits (z : α) (p : Parts α) : Shape.Concatenates ((pieces z p).map (·.1)) (flat 40960) 0 := by
  show Shape.Concatenates [flat 2048, flat 12288, flat 2048, flat 2048, flat 1024, flat 1024, flat 1024, flat 1024, flat 4096, flat 5120, flat 6144,
    flat 3072] (flat 40960) 0
  decide

def packed (z : α) (p : Parts α) : (flat 40960).Idx → α := concatenate (flat 40960) 0 (pieces z p) (fits z p)

theorem joined_eq {t : Shape} {a : Fin t.rank} {xs ys : List (Piece α)} (e : xs = ys) (h : Shape.Concatenates (xs.map (·.1)) t a)
    (h' : Shape.Concatenates (ys.map (·.1)) t a) : concatenate t a xs h = concatenate t a ys h' := by
  subst e; rfl

/-- A function of the elements may be applied before or after the packing. -/
theorem packed_map (f : α → β) (z : α) (z' : β) (hz : z' = f z) (p : Parts α) (j : (flat 40960).Idx) :
    packed z' (p.map f) j = f (packed z p j) := by
  unfold packed
  rw [joined_eq (pieces_map f z z' hz p) _ (pieces_map f z z' hz p ▸ fits z' (p.map f))]
  exact concatenate_map f 0 _ _ _ j

/-- The zero that fills the rows. -/
abbrev zero : FVec Ideal (⟨0, ![]⟩ : Shape) .f32 := sitofp .f32 (constantI (⟨0, ![]⟩ : Shape) 32 0#32)

theorem zero_eq : zero = fun _ => 0 := by
  funext i
  show (((0#32 : BitVec 32).toInt : ℝ) : EReal) = 0
  simp

theorem zero_const (i : (⟨0, ![]⟩ : Shape).Idx) : (constant (⟨0, ![]⟩ : Shape) .f32 0x00000000#32 : FVec Ideal (⟨0, ![]⟩ : Shape) .f32) i = 0 := by
  pointwise

/-- The pieces as the host joins them. -/
def joined (p : Parts EReal) : List (Piece EReal) :=
  [⟨flat 2048, pad (flat 2048) ![0] ![0] ![0] p.ctx zero (by decide) (by decide)⟩,
    ⟨flat 12288, pad (flat 12288) ![0] ![0] ![0] (shapeCast (flat 12288) p.adaB (by decide)) zero (by decide) (by decide)⟩,
    ⟨flat 2048, pad (flat 2048) ![0] ![0] ![0] (shapeCast (flat 2048) p.norm1 (by decide)) zero (by decide) (by decide)⟩,
    ⟨flat 2048, pad (flat 2048) ![0] ![0] ![0] (shapeCast (flat 2048) p.norm2 (by decide)) zero (by decide) (by decide)⟩,
    ⟨flat 1024, pad (flat 1024) ![0] ![0] ![0] (shapeCast (flat 1024) p.bound (by decide)) zero (by decide) (by decide)⟩,
    ⟨flat 1024, pad (flat 1024) ![0] ![896] ![0] (shapeCast (flat 128) p.normH (by decide)) zero (by decide) (by decide)⟩,
    ⟨flat 1024, pad (flat 1024) ![0] ![896] ![0] (shapeCast (flat 128) p.normQ (by decide)) zero (by decide) (by decide)⟩,
    ⟨flat 1024, pad (flat 1024) ![0] ![896] ![0] (shapeCast (flat 128) p.normK (by decide)) zero (by decide) (by decide)⟩,
    ⟨flat 4096, pad (flat 4096) ![0] ![376] ![0] (shapeCast (flat 3720) p.bias (by decide)) zero (by decide) (by decide)⟩,
    ⟨flat 5120, pad (flat 5120) ![0] ![896] ![0] (shapeCast (flat 4224) p.convW (by decide)) zero (by decide) (by decide)⟩,
    ⟨flat 6144, pad (flat 6144) ![0] ![512] ![0] (shapeCast (flat 5632) p.convB (by decide)) zero (by decide) (by decide)⟩,
    ⟨flat 3072, broadcastInDim (flat 3072) ![] (by decide) (constant (⟨0, ![]⟩ : Shape) .f32 0x00000000#32 : FVec Ideal (⟨0, ![]⟩ : Shape) .f32)⟩]

theorem joined_pieces (p : Parts EReal) : joined p = pieces 0 p := by
  unfold joined pieces
  rw [zero_eq]
  have e : broadcastInDim (flat 3072) ![] (by decide) (constant (⟨0, ![]⟩ : Shape) .f32 0x00000000#32 : FVec Ideal (⟨0, ![]⟩ : Shape) .f32)
      = fun _ => 0 := funext fun i => zero_const _
  rw [e]
  rfl

theorem joined_fits (p : Parts EReal) : Shape.Concatenates ((joined p).map (·.1)) (flat 40960) 0 := by
  show Shape.Concatenates [flat 2048, flat 12288, flat 2048, flat 2048, flat 1024, flat 1024, flat 1024, flat 1024, flat 4096, flat 5120, flat 6144,
    flat 3072] (flat 40960) 0
  decide

/-- An element's weight, gradient and two moments. -/
abbrev Four : Type := EReal × EReal × EReal × EReal

def together (w g a v : Parts EReal) : Parts Four where
  ctx i := (w.ctx i, g.ctx i, a.ctx i, v.ctx i)
  adaB i := (w.adaB i, g.adaB i, a.adaB i, v.adaB i)
  norm1 i := (w.norm1 i, g.norm1 i, a.norm1 i, v.norm1 i)
  norm2 i := (w.norm2 i, g.norm2 i, a.norm2 i, v.norm2 i)
  bound i := (w.bound i, g.bound i, a.bound i, v.bound i)
  normH i := (w.normH i, g.normH i, a.normH i, v.normH i)
  normQ i := (w.normQ i, g.normQ i, a.normQ i, v.normQ i)
  normK i := (w.normK i, g.normK i, a.normK i, v.normK i)
  bias i := (w.bias i, g.bias i, a.bias i, v.bias i)
  convW i := (w.convW i, g.convW i, a.convW i, v.convW i)
  convB i := (w.convB i, g.convB i, a.convB i, v.convB i)

abbrev one : (⟨0, ![]⟩ : Shape).Idx := fun k => k.elim0

/-- The update of one element. -/
def stepAt (q : Four) : EReal := step (S := ⟨0, ![]⟩) (fun _ => q.1) (fun _ => q.2.1) (fun _ => q.2.2.1) (fun _ => q.2.2.2) one
def meanAt (q : Four) : EReal := mean (S := ⟨0, ![]⟩) (fun _ => q.2.1) (fun _ => q.2.2.1) one
def squareAt (q : Four) : EReal := square (S := ⟨0, ![]⟩) (fun _ => q.2.1) (fun _ => q.2.2.2) one

/-- The filler's update is zero. -/
theorem meanAt_zero : (0 : EReal) = meanAt (0, 0, 0, 0) := by
  unfold meanAt mean; simp
theorem squareAt_zero : (0 : EReal) = squareAt (0, 0, 0, 0) := by
  unfold squareAt square; simp
/-- A constant with a normal exponent is not zero. -/
theorem num_ne (b : BitVec 32) (h : (b.extractLsb' 23 8).toNat ≠ 255) (h' : (b.extractLsb' 23 8).toNat ≠ 0) : num b ≠ 0 := by
  show Ideal.ieee 8 23 b ≠ 0
  unfold Ideal.ieee
  dsimp only
  rw [if_neg (by simpa using h), if_neg h']
  refine EReal.coe_ne_zero.2 (mul_ne_zero (mul_ne_zero (by split <;> norm_num) ?_) (zpow_ne_zero _ two_ne_zero))
  exact Nat.cast_ne_zero.2 (by omega)

theorem stepAt_zero : (0 : EReal) = stepAt (0, 0, 0, 0) := by
  have e (y : EReal) (hy : y ≠ 0) : Ideal.div 0 y = 0 := by unfold Ideal.div; rw [if_neg hy, zero_mul]
  have r : Ideal.sqrt 0 = 0 := by
    show (if (0 : ℝ) < 0 then (⊥ : EReal) else ((Real.sqrt 0 : ℝ) : EReal)) = 0
    simp
  unfold stepAt step mean square
  simp only [mul_zero, add_zero, zero_add, r, e _ (num_ne 0x3F26BD02#32 (by decide) (by decide)),
    e _ (num_ne 0x3C231ACC#32 (by decide) (by decide)), e _ (num_ne 0x322BCC77#32 (by decide) (by decide))]

/-- The packed rows of a function of the elements. -/
def laid (f : Four → EReal) (q : Parts Four) : FVec Ideal (⟨2, ![40, 1024]⟩ : Shape) .f32 := fun i =>
  packed 0 (q.map f) (ix1 ⟨(i 0).val * 1024 + (i 1).val, by
    have h0 : (i 0).val < 40 := (i 0).isLt
    have h1 : (i 1).val < 1024 := (i 1).isLt
    show _ < 40960; omega⟩)

/-- The host's joined array is the packed rows. -/
theorem laid_host (p : Parts EReal) (f : Four → EReal) (q : Parts Four) (e : p = q.map f) (h) :
    shapeCast (⟨2, ![40, 1024]⟩ : Shape) (concatenate (flat 40960) 0 (joined p) (joined_fits p)) h = laid f q := by
  subst e
  funext i
  refine (shapeCast_apply _ _ i (ix1 ⟨(i 0).val * 1024 + (i 1).val, by
    have h0 : (i 0).val < 40 := (i 0).isLt
    have h1 : (i 1).val < 1024 := (i 1).isLt
    show _ < 40960; omega⟩) ?_).trans ?_
  · rw [Shape.rowMajor_val_two, Shape.rowMajor_val_one]
    rfl
  · rw [joined_eq (joined_pieces _) _ (fits _ _)]
    rfl

theorem laid_apply (f : Four → EReal) (hf : 0 = f (0, 0, 0, 0)) (q : Parts Four) (i : (⟨2, ![40, 1024]⟩ : Shape).Idx) :
    laid f q i = f (laid (·.1) q i, laid (·.2.1) q i, laid (·.2.2.1) q i, laid (·.2.2.2) q i) := by
  have e (f : Four → EReal) (hf : 0 = f (0, 0, 0, 0)) := packed_map f (0, 0, 0, 0) 0 hf q
  unfold laid
  rw [e f hf, e (·.1) rfl, e (·.2.1) rfl, e (·.2.2.1) rfl, e (·.2.2.2) rfl]

end Cert.Proof.SmallStep

namespace Cert.AdamSmallIdeal.Update

open Cert.AdamSmallIdeal Cert.AdamSmallIdeal.Gen Cert.Proof.SmallStep

variable (m : (ℓ : Loc nD τ sig) → Buf (Elt Ideal) ℓ) (ρ : Dev nD → PrngReg)

/-- The weights, the gradients and the two moments. -/
def weights (c : Dev nD) : Parts EReal where
  ctx := m ((c : Thread nD τ).loc main_arg0)
  adaB := m ((c : Thread nD τ).loc main_arg1)
  norm1 := m ((c : Thread nD τ).loc main_arg2)
  norm2 := m ((c : Thread nD τ).loc main_arg3)
  bound := m ((c : Thread nD τ).loc main_arg4)
  normH := m ((c : Thread nD τ).loc main_arg5)
  normQ := m ((c : Thread nD τ).loc main_arg6)
  normK := m ((c : Thread nD τ).loc main_arg7)
  bias := m ((c : Thread nD τ).loc main_arg8)
  convW := m ((c : Thread nD τ).loc main_arg9)
  convB := m ((c : Thread nD τ).loc main_arg10)

def grads (c : Dev nD) : Parts EReal where
  ctx := m ((c : Thread nD τ).loc main_arg11)
  adaB := m ((c : Thread nD τ).loc main_arg12)
  norm1 := m ((c : Thread nD τ).loc main_arg13)
  norm2 := m ((c : Thread nD τ).loc main_arg14)
  bound := m ((c : Thread nD τ).loc main_arg15)
  normH := m ((c : Thread nD τ).loc main_arg16)
  normQ := m ((c : Thread nD τ).loc main_arg17)
  normK := m ((c : Thread nD τ).loc main_arg18)
  bias := m ((c : Thread nD τ).loc main_arg19)
  convW := m ((c : Thread nD τ).loc main_arg20)
  convB := m ((c : Thread nD τ).loc main_arg21)

def means (c : Dev nD) : Parts EReal where
  ctx := m ((c : Thread nD τ).loc main_arg22)
  adaB := m ((c : Thread nD τ).loc main_arg23)
  norm1 := m ((c : Thread nD τ).loc main_arg24)
  norm2 := m ((c : Thread nD τ).loc main_arg25)
  bound := m ((c : Thread nD τ).loc main_arg26)
  normH := m ((c : Thread nD τ).loc main_arg27)
  normQ := m ((c : Thread nD τ).loc main_arg28)
  normK := m ((c : Thread nD τ).loc main_arg29)
  bias := m ((c : Thread nD τ).loc main_arg30)
  convW := m ((c : Thread nD τ).loc main_arg31)
  convB := m ((c : Thread nD τ).loc main_arg32)

def squares (c : Dev nD) : Parts EReal where
  ctx := m ((c : Thread nD τ).loc main_arg33)
  adaB := m ((c : Thread nD τ).loc main_arg34)
  norm1 := m ((c : Thread nD τ).loc main_arg35)
  norm2 := m ((c : Thread nD τ).loc main_arg36)
  bound := m ((c : Thread nD τ).loc main_arg37)
  normH := m ((c : Thread nD τ).loc main_arg38)
  normQ := m ((c : Thread nD τ).loc main_arg39)
  normK := m ((c : Thread nD τ).loc main_arg40)
  bias := m ((c : Thread nD τ).loc main_arg41)
  convW := m ((c : Thread nD τ).loc main_arg42)
  convB := m ((c : Thread nD τ).loc main_arg43)

def quad (c : Dev nD) : Parts Four := together (weights m c) (grads m c) (means m c) (squares m c)

set_option maxHeartbeats 4000000 in
set_option maxRecDepth 16384 in
theorem host_weights (c : Dev nD) : V m c main_v23 = shapeCast S40x1024 (concatenate (flat 40960) 0 (joined (weights m c)) (joined_fits _))
    shapeCasts_S40960_S40x1024 := by
  unfold_abbrev_sides
  simp only [List.flatten_cons, List.flatten_nil, List.append_nil, List.cons_append, List.nil_append, TRef.binary, TRef.unary, TRef.toBuf, TRef.ofBuf, cast_eq]
  after_results_simp
  rfl

theorem rows_weights (c : Dev nD) : V m c main_v23 = laid (·.1) (quad m c) :=
  (host_weights m c).trans (laid_host (weights m c) (·.1) (quad m c) rfl _)

set_option maxHeartbeats 4000000 in
set_option maxRecDepth 16384 in
theorem host_grads (c : Dev nD) : V m c main_v47 = shapeCast S40x1024 (concatenate (flat 40960) 0 (joined (grads m c)) (joined_fits _))
    shapeCasts_S40960_S40x1024 := by
  unfold_abbrev_sides
  simp only [List.flatten_cons, List.flatten_nil, List.append_nil, List.cons_append, List.nil_append, TRef.binary, TRef.unary, TRef.toBuf, TRef.ofBuf, cast_eq]
  after_results_simp
  rfl

theorem rows_grads (c : Dev nD) : V m c main_v47 = laid (·.2.1) (quad m c) :=
  (host_grads m c).trans (laid_host (grads m c) (·.2.1) (quad m c) rfl _)

set_option maxHeartbeats 4000000 in
set_option maxRecDepth 16384 in
theorem host_means (c : Dev nD) : V m c main_v71 = shapeCast S40x1024 (concatenate (flat 40960) 0 (joined (means m c)) (joined_fits _))
    shapeCasts_S40960_S40x1024 := by
  unfold_abbrev_sides
  simp only [List.flatten_cons, List.flatten_nil, List.append_nil, List.cons_append, List.nil_append, TRef.binary, TRef.unary, TRef.toBuf, TRef.ofBuf, cast_eq]
  after_results_simp
  rfl

theorem rows_means (c : Dev nD) : V m c main_v71 = laid (·.2.2.1) (quad m c) :=
  (host_means m c).trans (laid_host (means m c) (·.2.2.1) (quad m c) rfl _)

set_option maxHeartbeats 4000000 in
set_option maxRecDepth 16384 in
theorem host_squares (c : Dev nD) : V m c main_v95 = shapeCast S40x1024 (concatenate (flat 40960) 0 (joined (squares m c)) (joined_fits _))
    shapeCasts_S40960_S40x1024 := by
  unfold_abbrev_sides
  simp only [List.flatten_cons, List.flatten_nil, List.append_nil, List.cons_append, List.nil_append, TRef.binary, TRef.unary, TRef.toBuf, TRef.ofBuf, cast_eq]
  after_results_simp
  rfl

theorem rows_squares (c : Dev nD) : V m c main_v95 = laid (·.2.2.2) (quad m c) :=
  (host_squares m c).trans (laid_host (squares m c) (·.2.2.2) (quad m c) rfl _)

/-- The body's three results on a block. -/
theorem block_mean (g a : FVec Ideal S8x1024 .f32) : k0_pay2 (F := Ideal) g a = mean g a := by
  unfold k0_pay2 k0_pay1; simp only [shapeCast_self]; rfl

theorem block_square (g v : FVec Ideal S8x1024 .f32) : k0_pay3 (F := Ideal) g v = square g v := by
  unfold k0_pay3 k0_pay1; simp only [shapeCast_self]; rfl

theorem block_step (w g a v : FVec Ideal S8x1024 .f32) : k0_pay4 (F := Ideal) g a v w = step w g a v := by
  unfold k0_pay4; simp only [block_mean, block_square, shapeCast_self]; rfl

/-- A grid point writes back its rows. -/
theorem flushed_step (c : Dev nD) (t : Fin cfg0.N) : (dats m 0 c).flushed 4 t = ((cfg0.win 4).blk t).view.read (Elt Ideal)
    (laid stepAt (quad m c)) := by
  have e : laid stepAt (quad m c) = step (V m c main_v23) (V m c main_v47) (V m c main_v71) (V m c main_v95) := by
    rw [rows_weights, rows_grads, rows_means, rows_squares]
    exact funext fun i => laid_apply stepAt stepAt_zero (quad m c) i
  rw [e, Value.flushed4]
  unfold out0_4
  rw [View.canon_unit_zero zeros2]
  simp only [View.ld_unit_zero (S := S8x1024) zeros2, block_step]
  rfl

/-- A grid point writes back its rows. -/
theorem flushed_mean (c : Dev nD) (t : Fin cfg0.N) : (dats m 0 c).flushed 5 t = ((cfg0.win 5).blk t).view.read (Elt Ideal)
    (laid meanAt (quad m c)) := by
  have e : laid meanAt (quad m c) = mean (V m c main_v47) (V m c main_v71) := by
    rw [rows_grads, rows_means]
    exact funext fun i => laid_apply meanAt meanAt_zero (quad m c) i
  rw [e, Value.flushed5]
  unfold out0_5
  rw [View.canon_unit_zero zeros2]
  simp only [View.ld_unit_zero (S := S8x1024) zeros2, block_mean]
  rfl

/-- A grid point writes back its rows. -/
theorem flushed_square (c : Dev nD) (t : Fin cfg0.N) : (dats m 0 c).flushed 6 t = ((cfg0.win 6).blk t).view.read (Elt Ideal)
    (laid squareAt (quad m c)) := by
  have e : laid squareAt (quad m c) = square (V m c main_v47) (V m c main_v95) := by
    rw [rows_grads, rows_squares]
    exact funext fun i => laid_apply squareAt squareAt_zero (quad m c) i
  rw [e, Value.flushed6]
  unfold out0_6
  rw [View.canon_unit_zero zeros2]
  simp only [View.ld_unit_zero (S := S8x1024) zeros2, block_square]
  rfl

/-- Where the results' blocks lie at a grid point. -/
theorem places : ∀ t : Fin cfg0.N, win0_4.index t 0 = t.val ∧ win0_4.index t 1 = 0 :=
  (by decide +kernel : ∀ t : Fin grid0.N, _)

/-- Every element lies in the rows of some grid point. -/
theorem cover (i : S40x1024.Idx) : ∃ t : Fin cfg0.N, i ∈ (win0_4.rect t).set := by
  have h0 : (i 0).val < 40 := (i 0).isLt
  have h1 : (i 1).val < 1024 := (i 1).isLt
  let t : Fin cfg0.N := ⟨(i 0).val / 8, by show _ < 5; omega⟩
  have ht : t.val = (i 0).val / 8 := rfl
  refine ⟨t, ?_⟩
  rw [Rect.mem_set_unit]
  obtain ⟨e0, e1⟩ := places t
  intro a
  match a with
  | ⟨0, _⟩ => show win0_4.index t 0 * 8 ≤ (i 0).val ∧ (i 0).val < win0_4.index t 0 * 8 + 8; omega
  | ⟨1, _⟩ => show win0_4.index t 1 * 1024 ≤ (i 1).val ∧ (i 1).val < win0_4.index t 1 * 1024 + 1024; omega

theorem final_step (c : Dev nD) : (dats m 0 c).arrAt 4 cfg0.N = laid stepAt (quad m c) :=
  (dats m 0 c).arrAt_eq_of_cover 4 _ (fun t _ => flushed_step m c t) fun i =>
    let ⟨t, h⟩ := cover i
    ⟨t, flush0_4 t, by show i ∈ ((View.whole main_v96_0).slice (win0_4.rect t)).set; rw [View.set_slice_whole]; exact h⟩

theorem final_mean (c : Dev nD) : (dats m 0 c).arrAt 5 cfg0.N = laid meanAt (quad m c) :=
  (dats m 0 c).arrAt_eq_of_cover 5 _ (fun t _ => flushed_mean m c t) fun i =>
    let ⟨t, h⟩ := cover i
    ⟨t, flush0_5 t, by show i ∈ ((View.whole main_v96_1).slice (win0_5.rect t)).set; rw [View.set_slice_whole]; exact h⟩

theorem final_square (c : Dev nD) : (dats m 0 c).arrAt 6 cfg0.N = laid squareAt (quad m c) :=
  (dats m 0 c).arrAt_eq_of_cover 6 _ (fun t _ => flushed_square m c t) fun i =>
    let ⟨t, h⟩ := cover i
    ⟨t, flush0_6 t, by show i ∈ ((View.whole main_v96_2).slice (win0_6.rect t)).set; rw [View.set_slice_whole]; exact h⟩

end Cert.AdamSmallIdeal.Update

namespace Cert.AdamSmallRefIdeal.Update

open Cert.AdamSmallRefIdeal Cert.AdamSmallRefIdeal.Gen Cert.AdamSmallRefIdeal.Read Cert.Proof.SmallStep

variable (x0 : FVec Ideal S2048 .f32) (x1 : FVec Ideal S1x12288 .f32) (x2 x3 : FVec Ideal S1x2048 .f32) (x4 : FVec Ideal S2x2x256 .f32) (x5 x6 x7 : FVec Ideal S1x128 .f32) (x8 : FVec Ideal S1x8x15x31 .f32) (x9 : FVec Ideal S1x3x1408 .f32) (x10 : FVec Ideal S1x5632 .f32) (x11 : FVec Ideal S2048 .f32) (x12 : FVec Ideal S1x12288 .f32) (x13 x14 : FVec Ideal S1x2048 .f32) (x15 : FVec Ideal S2x2x256 .f32) (x16 x17 x18 : FVec Ideal S1x128 .f32) (x19 : FVec Ideal S1x8x15x31 .f32) (x20 : FVec Ideal S1x3x1408 .f32) (x21 : FVec Ideal S1x5632 .f32) (x22 : FVec Ideal S2048 .f32) (x23 : FVec Ideal S1x12288 .f32) (x24 x25 : FVec Ideal S1x2048 .f32) (x26 : FVec Ideal S2x2x256 .f32) (x27 x28 x29 : FVec Ideal S1x128 .f32) (x30 : FVec Ideal S1x8x15x31 .f32) (x31 : FVec Ideal S1x3x1408 .f32) (x32 : FVec Ideal S1x5632 .f32) (x33 : FVec Ideal S2048 .f32) (x34 : FVec Ideal S1x12288 .f32) (x35 x36 : FVec Ideal S1x2048 .f32) (x37 : FVec Ideal S2x2x256 .f32) (x38 x39 x40 : FVec Ideal S1x128 .f32) (x41 : FVec Ideal S1x8x15x31 .f32) (x42 : FVec Ideal S1x3x1408 .f32) (x43 : FVec Ideal S1x5632 .f32)

/-- The weights, the gradients and the two moments. -/
abbrev quad : Parts Four := together ⟨x0, x1, x2, x3, x4, x5, x6, x7, x8, x9, x10⟩ ⟨x11, x12, x13, x14, x15, x16, x17, x18, x19, x20, x21⟩
  ⟨x22, x23, x24, x25, x26, x27, x28, x29, x30, x31, x32⟩ ⟨x33, x34, x35, x36, x37, x38, x39, x40, x41, x42, x43⟩

/-- Each array's update by the host, element by element. -/
theorem step_ctx : val_main_v23 (F := Ideal) x0 x11 x22 x33 = step x0 x11 x22 x33 := rfl
theorem step_adaB : val_main_v47 (F := Ideal) x1 x12 x23 x34 = step x1 x12 x23 x34 := rfl
theorem step_norm1 : val_main_v71 (F := Ideal) x2 x13 x24 x35 = step x2 x13 x24 x35 := rfl
theorem step_norm2 : val_main_v95 (F := Ideal) x3 x14 x25 x36 = step x3 x14 x25 x36 := rfl
theorem step_bound : val_main_v119 (F := Ideal) x4 x15 x26 x37 = step x4 x15 x26 x37 := rfl
theorem step_normH : val_main_v143 (F := Ideal) x5 x16 x27 x38 = step x5 x16 x27 x38 := rfl
theorem step_normQ : val_main_v167 (F := Ideal) x6 x17 x28 x39 = step x6 x17 x28 x39 := rfl
theorem step_normK : val_main_v191 (F := Ideal) x7 x18 x29 x40 = step x7 x18 x29 x40 := rfl
theorem step_bias : val_main_v215 (F := Ideal) x8 x19 x30 x41 = step x8 x19 x30 x41 := rfl
theorem step_convW : val_main_v239 (F := Ideal) x9 x20 x31 x42 = step x9 x20 x31 x42 := rfl
theorem step_convB : val_main_v263 (F := Ideal) x10 x21 x32 x43 = step x10 x21 x32 x43 := rfl
theorem mean_ctx : val_main_v4 (F := Ideal) x11 x22 = mean x11 x22 := rfl
theorem mean_adaB : val_main_v28 (F := Ideal) x12 x23 = mean x12 x23 := rfl
theorem mean_norm1 : val_main_v52 (F := Ideal) x13 x24 = mean x13 x24 := rfl
theorem mean_norm2 : val_main_v76 (F := Ideal) x14 x25 = mean x14 x25 := rfl
theorem mean_bound : val_main_v100 (F := Ideal) x15 x26 = mean x15 x26 := rfl
theorem mean_normH : val_main_v124 (F := Ideal) x16 x27 = mean x16 x27 := rfl
theorem mean_normQ : val_main_v148 (F := Ideal) x17 x28 = mean x17 x28 := rfl
theorem mean_normK : val_main_v172 (F := Ideal) x18 x29 = mean x18 x29 := rfl
theorem mean_bias : val_main_v196 (F := Ideal) x19 x30 = mean x19 x30 := rfl
theorem mean_convW : val_main_v220 (F := Ideal) x20 x31 = mean x20 x31 := rfl
theorem mean_convB : val_main_v244 (F := Ideal) x21 x32 = mean x21 x32 := rfl
theorem square_ctx : val_main_v10 (F := Ideal) x11 x33 = square x11 x33 := rfl
theorem square_adaB : val_main_v34 (F := Ideal) x12 x34 = square x12 x34 := rfl
theorem square_norm1 : val_main_v58 (F := Ideal) x13 x35 = square x13 x35 := rfl
theorem square_norm2 : val_main_v82 (F := Ideal) x14 x36 = square x14 x36 := rfl
theorem square_bound : val_main_v106 (F := Ideal) x15 x37 = square x15 x37 := rfl
theorem square_normH : val_main_v130 (F := Ideal) x16 x38 = square x16 x38 := rfl
theorem square_normQ : val_main_v154 (F := Ideal) x17 x39 = square x17 x39 := rfl
theorem square_normK : val_main_v178 (F := Ideal) x18 x40 = square x18 x40 := rfl
theorem square_bias : val_main_v202 (F := Ideal) x19 x41 = square x19 x41 := rfl
theorem square_convW : val_main_v226 (F := Ideal) x20 x42 = square x20 x42 := rfl
theorem square_convB : val_main_v250 (F := Ideal) x21 x43 = square x21 x43 := rfl

theorem value_step : val_main_v287 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 = laid stepAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) := by
  unfold val_main_v287 val_main_v286
  refine Eq.trans ?_ (laid_host ((quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map stepAt) stepAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) rfl shapeCasts_S40960_S40x1024)
  rfl

theorem value_mean : val_main_v311 (F := Ideal) x11 x12 x13 x14 x15 x16 x17 x18 x19 x20 x21 x22 x23 x24 x25 x26 x27 x28 x29 x30 x31 x32 = laid meanAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) := by
  unfold val_main_v311 val_main_v310
  refine Eq.trans ?_ (laid_host ((quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map meanAt) meanAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) rfl shapeCasts_S40960_S40x1024)
  rfl

theorem value_square : val_main_v335 (F := Ideal) x11 x12 x13 x14 x15 x16 x17 x18 x19 x20 x21 x33 x34 x35 x36 x37 x38 x39 x40 x41 x42 x43 = laid squareAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) := by
  unfold val_main_v335 val_main_v334
  refine Eq.trans ?_ (laid_host ((quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43).map squareAt) squareAt (quad x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43) rfl shapeCasts_S40960_S40x1024)
  rfl

end Cert.AdamSmallRefIdeal.Update

namespace Cert.Proof

/-- The kernel's update of the packed small arrays is the packing of the arrays' updates. -/
theorem algebraic_AdamSmall : Cert.algebraic_AdamSmallIdeal_AdamSmallRefIdeal (hAdamSmallIdeal := Cert.AdamSmallIdeal.Gen.facts)
    (hAdamSmallRefIdeal := Cert.AdamSmallRefIdeal.Gen.facts) := by
  intro m g m' g' _ hargs
  refine ⟨fun c => SmallStep.laid SmallStep.stepAt (Cert.AdamSmallIdeal.Update.quad m c), fun c => SmallStep.laid SmallStep.meanAt (Cert.AdamSmallIdeal.Update.quad m c),
    fun c => SmallStep.laid SmallStep.squareAt (Cert.AdamSmallIdeal.Update.quad m c),
    (θ_run _ _ _).mono (fun _ h c => ⟨(h c).1.trans (Cert.AdamSmallIdeal.Update.final_step m c), (h c).2.1.trans (Cert.AdamSmallIdeal.Update.final_mean m c),
      (h c).2.2.1.trans (Cert.AdamSmallIdeal.Update.final_square m c), (h c).2.2.2⟩) (Cert.AdamSmallIdeal.Value.run_blocks m g), ?_⟩
  refine (θ_run _ _ _).mono (fun _ h c => ?_) (Cert.AdamSmallRefIdeal.Value.run m' g')
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43⟩ := hargs c
  have same : Cert.AdamSmallRefIdeal.Update.quad (m' ((c.tc : Thread Cert.AdamSmallRefIdeal.nD Cert.AdamSmallRefIdeal.τ).loc Cert.AdamSmallRefIdeal.main_arg0)) (m' ((c.tc : Thread Cert.AdamSmallRefIdeal.nD Cert.AdamSmallRefIdeal.τ).loc Cert.AdamSmallRefIdeal.main_arg1)) (m' ((c.tc : Thread Cert.AdamSmallRefIdeal.nD Cert.AdamSmallRefIdeal.τ).loc Cert.AdamSmallRefIdeal.main_arg2)) (m' ((c.tc : Thread Cert.AdamSmallRefIdeal.nD Cert.AdamSmallRefIdeal.τ).loc Cert.AdamSmallRefIdeal.main_arg3)) (m' ((c.tc : Thread Cert.AdamSmallRefIdeal.nD Cert.AdamSmallRefIdeal.τ).loc Cert.AdamSmallRefIdeal.main_arg4)) (m' ((c.tc : Thread Cert.AdamSmallRefIdeal.nD Cert.AdamSmallRefIdeal.τ).loc Cert.AdamSmallRefIdeal.main_arg5)) (m' ((c.tc : Thread Cert.AdamSmallRefIdeal.nD Cert.AdamSmallRefIdeal.τ).loc Cert.AdamSmallRefIdeal.main_arg6)) (m' ((c.tc : Thread Cert.AdamSmallRefIdeal.nD Cert.AdamSmallRefIdeal.τ).loc Cert.AdamSmallRefIdeal.main_arg7)) (m' ((c.tc : Thread Cert.AdamSmallRefIdeal.nD Cert.AdamSmallRefIdeal.τ).loc Cert.AdamSmallRefIdeal.main_arg8)) (m' ((c.tc : Thread Cert.AdamSmallRefIdeal.nD Cert.AdamSmallRefIdeal.τ).loc Cert.AdamSmallRefIdeal.main_arg9)) (m' ((c.tc : Thread Cert.AdamSmallRefIdeal.nD Cert.AdamSmallRefIdeal.τ).loc Cert.AdamSmallRefIdeal.main_arg10)) (m' ((c.tc : Thread Cert.AdamSmallRefIdeal.nD Cert.AdamSmallRefIdeal.τ).loc Cert.AdamSmallRefIdeal.main_arg11)) (m' ((c.tc : Thread Cert.AdamSmallRefIdeal.nD Cert.AdamSmallRefIdeal.τ).loc Cert.AdamSmallRefIdeal.main_arg12)) (m' ((c.tc : Thread Cert.AdamSmallRefIdeal.nD Cert.AdamSmallRefIdeal.τ).loc Cert.AdamSmallRefIdeal.main_arg13)) (m' ((c.tc : Thread Cert.AdamSmallRefIdeal.nD Cert.AdamSmallRefIdeal.τ).loc Cert.AdamSmallRefIdeal.main_arg14)) (m' ((c.tc : Thread Cert.AdamSmallRefIdeal.nD Cert.AdamSmallRefIdeal.τ).loc Cert.AdamSmallRefIdeal.main_arg15)) (m' ((c.tc : Thread Cert.AdamSmallRefIdeal.nD Cert.AdamSmallRefIdeal.τ).loc Cert.AdamSmallRefIdeal.main_arg16)) (m' ((c.tc : Thread Cert.AdamSmallRefIdeal.nD Cert.AdamSmallRefIdeal.τ).loc Cert.AdamSmallRefIdeal.main_arg17)) (m' ((c.tc : Thread Cert.AdamSmallRefIdeal.nD Cert.AdamSmallRefIdeal.τ).loc Cert.AdamSmallRefIdeal.main_arg18)) (m' ((c.tc : Thread Cert.AdamSmallRefIdeal.nD Cert.AdamSmallRefIdeal.τ).loc Cert.AdamSmallRefIdeal.main_arg19)) (m' ((c.tc : Thread Cert.AdamSmallRefIdeal.nD Cert.AdamSmallRefIdeal.τ).loc Cert.AdamSmallRefIdeal.main_arg20)) (m' ((c.tc : Thread Cert.AdamSmallRefIdeal.nD Cert.AdamSmallRefIdeal.τ).loc Cert.AdamSmallRefIdeal.main_arg21)) (m' ((c.tc : Thread Cert.AdamSmallRefIdeal.nD Cert.AdamSmallRefIdeal.τ).loc Cert.AdamSmallRefIdeal.main_arg22)) (m' ((c.tc : Thread Cert.AdamSmallRefIdeal.nD Cert.AdamSmallRefIdeal.τ).loc Cert.AdamSmallRefIdeal.main_arg23)) (m' ((c.tc : Thread Cert.AdamSmallRefIdeal.nD Cert.AdamSmallRefIdeal.τ).loc Cert.AdamSmallRefIdeal.main_arg24)) (m' ((c.tc : Thread Cert.AdamSmallRefIdeal.nD Cert.AdamSmallRefIdeal.τ).loc Cert.AdamSmallRefIdeal.main_arg25)) (m' ((c.tc : Thread Cert.AdamSmallRefIdeal.nD Cert.AdamSmallRefIdeal.τ).loc Cert.AdamSmallRefIdeal.main_arg26)) (m' ((c.tc : Thread Cert.AdamSmallRefIdeal.nD Cert.AdamSmallRefIdeal.τ).loc Cert.AdamSmallRefIdeal.main_arg27)) (m' ((c.tc : Thread Cert.AdamSmallRefIdeal.nD Cert.AdamSmallRefIdeal.τ).loc Cert.AdamSmallRefIdeal.main_arg28)) (m' ((c.tc : Thread Cert.AdamSmallRefIdeal.nD Cert.AdamSmallRefIdeal.τ).loc Cert.AdamSmallRefIdeal.main_arg29)) (m' ((c.tc : Thread Cert.AdamSmallRefIdeal.nD Cert.AdamSmallRefIdeal.τ).loc Cert.AdamSmallRefIdeal.main_arg30)) (m' ((c.tc : Thread Cert.AdamSmallRefIdeal.nD Cert.AdamSmallRefIdeal.τ).loc Cert.AdamSmallRefIdeal.main_arg31)) (m' ((c.tc : Thread Cert.AdamSmallRefIdeal.nD Cert.AdamSmallRefIdeal.τ).loc Cert.AdamSmallRefIdeal.main_arg32)) (m' ((c.tc : Thread Cert.AdamSmallRefIdeal.nD Cert.AdamSmallRefIdeal.τ).loc Cert.AdamSmallRefIdeal.main_arg33)) (m' ((c.tc : Thread Cert.AdamSmallRefIdeal.nD Cert.AdamSmallRefIdeal.τ).loc Cert.AdamSmallRefIdeal.main_arg34)) (m' ((c.tc : Thread Cert.AdamSmallRefIdeal.nD Cert.AdamSmallRefIdeal.τ).loc Cert.AdamSmallRefIdeal.main_arg35)) (m' ((c.tc : Thread Cert.AdamSmallRefIdeal.nD Cert.AdamSmallRefIdeal.τ).loc Cert.AdamSmallRefIdeal.main_arg36)) (m' ((c.tc : Thread Cert.AdamSmallRefIdeal.nD Cert.AdamSmallRefIdeal.τ).loc Cert.AdamSmallRefIdeal.main_arg37)) (m' ((c.tc : Thread Cert.AdamSmallRefIdeal.nD Cert.AdamSmallRefIdeal.τ).loc Cert.AdamSmallRefIdeal.main_arg38)) (m' ((c.tc : Thread Cert.AdamSmallRefIdeal.nD Cert.AdamSmallRefIdeal.τ).loc Cert.AdamSmallRefIdeal.main_arg39)) (m' ((c.tc : Thread Cert.AdamSmallRefIdeal.nD Cert.AdamSmallRefIdeal.τ).loc Cert.AdamSmallRefIdeal.main_arg40)) (m' ((c.tc : Thread Cert.AdamSmallRefIdeal.nD Cert.AdamSmallRefIdeal.τ).loc Cert.AdamSmallRefIdeal.main_arg41)) (m' ((c.tc : Thread Cert.AdamSmallRefIdeal.nD Cert.AdamSmallRefIdeal.τ).loc Cert.AdamSmallRefIdeal.main_arg42)) (m' ((c.tc : Thread Cert.AdamSmallRefIdeal.nD Cert.AdamSmallRefIdeal.τ).loc Cert.AdamSmallRefIdeal.main_arg43)) = Cert.AdamSmallIdeal.Update.quad m c := by
    rw [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43]
    rfl
  exact ⟨(h c).1.trans ((Cert.AdamSmallRefIdeal.Read.val_main_v287_eq _).trans
      ((Cert.AdamSmallRefIdeal.Update.value_step _ _ _ _ _ _ _ _ _ _ _ _ _ _ _ _ _ _ _ _ _ _ _ _ _ _ _ _ _ _ _ _ _ _ _ _ _ _ _ _ _ _ _ _).trans (congrArg (SmallStep.laid SmallStep.stepAt) same))),
    (h c).2.1.trans ((Cert.AdamSmallRefIdeal.Read.val_main_v311_eq _).trans
      ((Cert.AdamSmallRefIdeal.Update.value_mean _ _ _ _ _ _ _ _ _ _ _ _ _ _ _ _ _ _ _ _ _ _ _ _ _ _ _ _ _ _ _ _ _ _ _ _ _ _ _ _ _ _ _ _).trans (congrArg (SmallStep.laid SmallStep.meanAt) same))),
    (h c).2.2.1.trans ((Cert.AdamSmallRefIdeal.Read.val_main_v335_eq _).trans
      ((Cert.AdamSmallRefIdeal.Update.value_square _ _ _ _ _ _ _ _ _ _ _ _ _ _ _ _ _ _ _ _ _ _ _ _ _ _ _ _ _ _ _ _ _ _ _ _ _ _ _ _ _ _ _ _).trans (congrArg (SmallStep.laid SmallStep.squareAt) same))),
    (h c).2.2.2⟩

end Cert.Proof

end
-- ==== Proof.lean ====
/-
  The claims, put together: for each program, that it and its ideal reading run and leave their arguments and the
  counters as they were, the same of its reference, and that the two compute one function over the extended reals.
-/
module

public import proofs.«01_k».proof.Defs
public import proofs.«01_k».proof.Proof.Gen.Gwin.Frame
public import proofs.«01_k».proof.Proof.Gen.GwinIdeal.Value
public import proofs.«01_k».proof.Proof.Gen.GwinRefIdeal.Run
public import proofs.«01_k».proof.Proof.Gen.GwinRefIdeal.Read
public import proofs.«01_k».proof.Proof.Gen.Gw1.Frame
public import proofs.«01_k».proof.Proof.Gen.Gw1Ideal.Value
public import proofs.«01_k».proof.Proof.Gen.Gw1RefIdeal.Run
public import proofs.«01_k».proof.Proof.Gen.Gw1RefIdeal.Read
public import proofs.«01_k».proof.Proof.Gen.Gw2.Frame
public import proofs.«01_k».proof.Proof.Gen.Gw2Ideal.Value
public import proofs.«01_k».proof.Proof.Gen.Gw2RefIdeal.Run
public import proofs.«01_k».proof.Proof.Gen.Gw2RefIdeal.Read
public import proofs.«01_k».proof.Proof.Gen.Gwo.Frame
public import proofs.«01_k».proof.Proof.Gen.GwoIdeal.Value
public import proofs.«01_k».proof.Proof.Gen.GwoRefIdeal.Run
public import proofs.«01_k».proof.Proof.Gen.GwoRefIdeal.Read
public import proofs.«01_k».proof.Proof.Gen.Gwa.Frame
public import proofs.«01_k».proof.Proof.Gen.GwaIdeal.Value
public import proofs.«01_k».proof.Proof.Gen.GwaRefIdeal.Run
public import proofs.«01_k».proof.Proof.Gen.GwaRefIdeal.Read
public import proofs.«01_k».proof.Proof.Gen.Dh.Frame
public import proofs.«01_k».proof.Proof.Gen.DhIdeal.Value
public import proofs.«01_k».proof.Proof.Gen.DhRefIdeal.Run
public import proofs.«01_k».proof.Proof.Gen.DhRefIdeal.Read
public import proofs.«01_k».proof.Proof.Gen.Dh2.Frame
public import proofs.«01_k».proof.Proof.Gen.Dh2Ideal.Value
public import proofs.«01_k».proof.Proof.Gen.Dh2RefIdeal.Run
public import proofs.«01_k».proof.Proof.Gen.Dh2RefIdeal.Read
public import proofs.«01_k».proof.Proof.Gen.Da.Frame
public import proofs.«01_k».proof.Proof.Gen.DaIdeal.Value
public import proofs.«01_k».proof.Proof.Gen.DaRefIdeal.Run
public import proofs.«01_k».proof.Proof.Gen.DaRefIdeal.Read
public import proofs.«01_k».proof.Proof.Gen.Dz.Frame
public import proofs.«01_k».proof.Proof.Gen.DzIdeal.Value
public import proofs.«01_k».proof.Proof.Gen.DzRefIdeal.Run
public import proofs.«01_k».proof.Proof.Gen.DzRefIdeal.Read
public import proofs.«01_k».proof.Proof.Gen.Dya.Frame
public import proofs.«01_k».proof.Proof.Gen.DyaIdeal.Value
public import proofs.«01_k».proof.Proof.Gen.DyaRefIdeal.Run
public import proofs.«01_k».proof.Proof.Gen.DyaRefIdeal.Read
public import proofs.«01_k».proof.Proof.Gen.Dyb.Frame
public import proofs.«01_k».proof.Proof.Gen.DybIdeal.Value
public import proofs.«01_k».proof.Proof.Gen.DybRefIdeal.Run
public import proofs.«01_k».proof.Proof.Gen.DybRefIdeal.Read
public import proofs.«01_k».proof.Proof.Gen.U1.Frame
public import proofs.«01_k».proof.Proof.Gen.U1Ideal.Value
public import proofs.«01_k».proof.Proof.Gen.U1RefIdeal.Run
public import proofs.«01_k».proof.Proof.Gen.U1RefIdeal.Read
public import proofs.«01_k».proof.Proof.Gen.Mf.Frame
public import proofs.«01_k».proof.Proof.Gen.MfIdeal.Value
public import proofs.«01_k».proof.Proof.Gen.MfRefIdeal.Run
public import proofs.«01_k».proof.Proof.Gen.MfRefIdeal.Read
public import proofs.«01_k».proof.Proof.Gen.Mo.Frame
public import proofs.«01_k».proof.Proof.Gen.MoIdeal.Value
public import proofs.«01_k».proof.Proof.Gen.MoRefIdeal.Run
public import proofs.«01_k».proof.Proof.Gen.MoRefIdeal.Read
public import proofs.«01_k».proof.Proof.Gen.Za.Frame
public import proofs.«01_k».proof.Proof.Gen.ZaIdeal.Value
public import proofs.«01_k».proof.Proof.Gen.ZaRefIdeal.Run
public import proofs.«01_k».proof.Proof.Gen.ZaRefIdeal.Read
public import proofs.«01_k».proof.Proof.Gen.AdaB.Frame
public import proofs.«01_k».proof.Proof.Gen.AdaBIdeal.Value
public import proofs.«01_k».proof.Proof.Gen.AdaBRefIdeal.Run
public import proofs.«01_k».proof.Proof.Gen.AdaBRefIdeal.Read
public import proofs.«01_k».proof.Proof.Gen.CCtx.Frame
public import proofs.«01_k».proof.Proof.Gen.CCtxIdeal.Value
public import proofs.«01_k».proof.Proof.Gen.CCtxRefIdeal.Run
public import proofs.«01_k».proof.Proof.Gen.CCtxRefIdeal.Read
public import proofs.«01_k».proof.Proof.Gen.SumSmall.Frame
public import proofs.«01_k».proof.Proof.Gen.SumSmallIdeal.Frame
public import proofs.«01_k».proof.Proof.Gen.SumSmallRefIdeal.Run
public import proofs.«01_k».proof.Proof.Gen.SumSmallRefIdeal.Read
public import proofs.«01_k».proof.Proof.Gen.SumInTop.Frame
public import proofs.«01_k».proof.Proof.Gen.SumInTopIdeal.Frame
public import proofs.«01_k».proof.Proof.Gen.SumInTopRefIdeal.Run
public import proofs.«01_k».proof.Proof.Gen.SumInTopRefIdeal.Read
public import proofs.«01_k».proof.Proof.Gen.SumInBottom.Frame
public import proofs.«01_k».proof.Proof.Gen.SumInBottomIdeal.Frame
public import proofs.«01_k».proof.Proof.Gen.SumInBottomRefIdeal.Run
public import proofs.«01_k».proof.Proof.Gen.SumInBottomRefIdeal.Read
public import proofs.«01_k».proof.Proof.Gen.SumBranchTop.Frame
public import proofs.«01_k».proof.Proof.Gen.SumBranchTopIdeal.Frame
public import proofs.«01_k».proof.Proof.Gen.SumBranchTopRefIdeal.Run
public import proofs.«01_k».proof.Proof.Gen.SumBranchTopRefIdeal.Read
public import proofs.«01_k».proof.Proof.Gen.SumBranchBottom.Frame
public import proofs.«01_k».proof.Proof.Gen.SumBranchBottomIdeal.Frame
public import proofs.«01_k».proof.Proof.Gen.SumBranchBottomRefIdeal.Run
public import proofs.«01_k».proof.Proof.Gen.SumBranchBottomRefIdeal.Read
public import proofs.«01_k».proof.Proof.Gen.SumOutTop.Frame
public import proofs.«01_k».proof.Proof.Gen.SumOutTopIdeal.Frame
public import proofs.«01_k».proof.Proof.Gen.SumOutTopRefIdeal.Run
public import proofs.«01_k».proof.Proof.Gen.SumOutTopRefIdeal.Read
public import proofs.«01_k».proof.Proof.Gen.SumOutBottom.Frame
public import proofs.«01_k».proof.Proof.Gen.SumOutBottomIdeal.Frame
public import proofs.«01_k».proof.Proof.Gen.SumOutBottomRefIdeal.Run
public import proofs.«01_k».proof.Proof.Gen.SumOutBottomRefIdeal.Read
public import proofs.«01_k».proof.Proof.Gen.SumFfn1Top.Frame
public import proofs.«01_k».proof.Proof.Gen.SumFfn1TopIdeal.Frame
public import proofs.«01_k».proof.Proof.Gen.SumFfn1TopRefIdeal.Run
public import proofs.«01_k».proof.Proof.Gen.SumFfn1TopRefIdeal.Read
public import proofs.«01_k».proof.Proof.Gen.SumFfn1Bottom.Frame
public import proofs.«01_k».proof.Proof.Gen.SumFfn1BottomIdeal.Frame
public import proofs.«01_k».proof.Proof.Gen.SumFfn1BottomRefIdeal.Run
public import proofs.«01_k».proof.Proof.Gen.SumFfn1BottomRefIdeal.Read
public import proofs.«01_k».proof.Proof.Gen.SumFfn2Top.Frame
public import proofs.«01_k».proof.Proof.Gen.SumFfn2TopIdeal.Frame
public import proofs.«01_k».proof.Proof.Gen.SumFfn2TopRefIdeal.Run
public import proofs.«01_k».proof.Proof.Gen.SumFfn2TopRefIdeal.Read
public import proofs.«01_k».proof.Proof.Gen.SumFfn2Bottom.Frame
public import proofs.«01_k».proof.Proof.Gen.SumFfn2BottomIdeal.Frame
public import proofs.«01_k».proof.Proof.Gen.SumFfn2BottomRefIdeal.Run
public import proofs.«01_k».proof.Proof.Gen.SumFfn2BottomRefIdeal.Read
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamInRefIdeal.Read
public import proofs.«01_k».proof.Proof.Gen.AdamBranch.Frame
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamOutRefIdeal.Read
public import proofs.«01_k».proof.Proof.Gen.AdamFfn1.Frame
public import proofs.«01_k».proof.Proof.Gen.AdamFfn1Ideal.Value
public import proofs.«01_k».proof.Proof.Gen.AdamFfn1RefIdeal.Run
public import proofs.«01_k».proof.Proof.Gen.AdamFfn1RefIdeal.Read
public import proofs.«01_k».proof.Proof.Gen.AdamFfn2.Frame
public import proofs.«01_k».proof.Proof.Gen.AdamFfn2Ideal.Value
public import proofs.«01_k».proof.Proof.Gen.AdamFfn2RefIdeal.Run
public import proofs.«01_k».proof.Proof.Gen.AdamFfn2RefIdeal.Read
public import proofs.«01_k».proof.Proof.Gen.AdamAda.Frame
public import proofs.«01_k».proof.Proof.Gen.AdamAdaIdeal.Value
public import proofs.«01_k».proof.Proof.Gen.AdamAdaRefIdeal.Run
public import proofs.«01_k».proof.Proof.Gen.AdamAdaRefIdeal.Read
public import proofs.«01_k».proof.Proof.Gen.AdamSmall.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.Pre_finite_rows
public import proofs.«01_k».proof.Proof.Gwin.Value
public import proofs.«01_k».proof.Proof.Gw1.Value
public import proofs.«01_k».proof.Proof.Gw2.Value
public import proofs.«01_k».proof.Proof.Gwo.Value
public import proofs.«01_k».proof.Proof.Gwa.Value
public import proofs.«01_k».proof.Proof.Dh.Value
public import proofs.«01_k».proof.Proof.Dh2.Value
public import proofs.«01_k».proof.Proof.Da.Value
public import proofs.«01_k».proof.Proof.Dz.Value
public import proofs.«01_k».proof.Proof.Dya.Value
public import proofs.«01_k».proof.Proof.Dyb.Value
public import proofs.«01_k».proof.Proof.U1.Value
public import proofs.«01_k».proof.Proof.Mf.Value
public import proofs.«01_k».proof.Proof.Mo.Value
public import proofs.«01_k».proof.Proof.Za.Value
public import proofs.«01_k».proof.Proof.AdaB.Value
public import proofs.«01_k».proof.Proof.CCtx.Value
public import proofs.«01_k».proof.Proof.SumSmall.Value
public import proofs.«01_k».proof.Proof.SumInTop.Value
public import proofs.«01_k».proof.Proof.SumInBottom.Value
public import proofs.«01_k».proof.Proof.SumBranchTop.Value
public import proofs.«01_k».proof.Proof.SumBranchBottom.Value
public import proofs.«01_k».proof.Proof.SumOutTop.Value
public import proofs.«01_k».proof.Proof.SumOutBottom.Value
public import proofs.«01_k».proof.Proof.SumFfn1Top.Value
public import proofs.«01_k».proof.Proof.SumFfn1Bottom.Value
public import proofs.«01_k».proof.Proof.SumFfn2Top.Value
public import proofs.«01_k».proof.Proof.SumFfn2Bottom.Value
public import proofs.«01_k».proof.Proof.AdamIn.Value
public import proofs.«01_k».proof.Proof.AdamBranch.Value
public import proofs.«01_k».proof.Proof.AdamOut.Value
public import proofs.«01_k».proof.Proof.AdamFfn1.Value
public import proofs.«01_k».proof.Proof.AdamFfn2.Value
public import proofs.«01_k».proof.Proof.AdamAda.Value
public import proofs.«01_k».proof.Proof.AdamSmall.Value

@[expose] public section

open Idealize.ShloMosaic Idealize.SL.Sem

namespace Cert.Proof

set_option maxRecDepth 8192 in
theorem claim : Cert.Claim := ⟨Cert.Gwin.Gen.facts, Cert.GwinIdeal.Gen.facts, Cert.GwinRefIdeal.Gen.facts, Cert.Gw1.Gen.facts, Cert.Gw1Ideal.Gen.facts, Cert.Gw1RefIdeal.Gen.facts, Cert.Gw2.Gen.facts, Cert.Gw2Ideal.Gen.facts, Cert.Gw2RefIdeal.Gen.facts, Cert.Gwo.Gen.facts, Cert.GwoIdeal.Gen.facts, Cert.GwoRefIdeal.Gen.facts, Cert.Gwa.Gen.facts, Cert.GwaIdeal.Gen.facts, Cert.GwaRefIdeal.Gen.facts, Cert.Dh.Gen.facts, Cert.DhIdeal.Gen.facts, Cert.DhRefIdeal.Gen.facts, Cert.Dh2.Gen.facts, Cert.Dh2Ideal.Gen.facts, Cert.Dh2RefIdeal.Gen.facts, Cert.Da.Gen.facts, Cert.DaIdeal.Gen.facts, Cert.DaRefIdeal.Gen.facts, Cert.Dz.Gen.facts, Cert.DzIdeal.Gen.facts, Cert.DzRefIdeal.Gen.facts, Cert.Dya.Gen.facts, Cert.DyaIdeal.Gen.facts, Cert.DyaRefIdeal.Gen.facts, Cert.Dyb.Gen.facts, Cert.DybIdeal.Gen.facts, Cert.DybRefIdeal.Gen.facts, Cert.U1.Gen.facts, Cert.U1Ideal.Gen.facts, Cert.U1RefIdeal.Gen.facts, Cert.Mf.Gen.facts, Cert.MfIdeal.Gen.facts, Cert.MfRefIdeal.Gen.facts, Cert.Mo.Gen.facts, Cert.MoIdeal.Gen.facts, Cert.MoRefIdeal.Gen.facts, Cert.Za.Gen.facts, Cert.ZaIdeal.Gen.facts, Cert.ZaRefIdeal.Gen.facts, Cert.AdaB.Gen.facts, Cert.AdaBIdeal.Gen.facts, Cert.AdaBRefIdeal.Gen.facts, Cert.CCtx.Gen.facts, Cert.CCtxIdeal.Gen.facts, Cert.CCtxRefIdeal.Gen.facts, Cert.SumSmall.Gen.facts, Cert.SumSmallIdeal.Gen.facts, Cert.SumSmallRefIdeal.Gen.facts, Cert.SumInTop.Gen.facts, Cert.SumInTopIdeal.Gen.facts, Cert.SumInTopRefIdeal.Gen.facts, Cert.SumInBottom.Gen.facts, Cert.SumInBottomIdeal.Gen.facts, Cert.SumInBottomRefIdeal.Gen.facts, Cert.SumBranchTop.Gen.facts, Cert.SumBranchTopIdeal.Gen.facts, Cert.SumBranchTopRefIdeal.Gen.facts, Cert.SumBranchBottom.Gen.facts, Cert.SumBranchBottomIdeal.Gen.facts, Cert.SumBranchBottomRefIdeal.Gen.facts, Cert.SumOutTop.Gen.facts, Cert.SumOutTopIdeal.Gen.facts, Cert.SumOutTopRefIdeal.Gen.facts, Cert.SumOutBottom.Gen.facts, Cert.SumOutBottomIdeal.Gen.facts, Cert.SumOutBottomRefIdeal.Gen.facts, Cert.SumFfn1Top.Gen.facts, Cert.SumFfn1TopIdeal.Gen.facts, Cert.SumFfn1TopRefIdeal.Gen.facts, Cert.SumFfn1Bottom.Gen.facts, Cert.SumFfn1BottomIdeal.Gen.facts, Cert.SumFfn1BottomRefIdeal.Gen.facts, Cert.SumFfn2Top.Gen.facts, Cert.SumFfn2TopIdeal.Gen.facts, Cert.SumFfn2TopRefIdeal.Gen.facts, Cert.SumFfn2Bottom.Gen.facts, Cert.SumFfn2BottomIdeal.Gen.facts, Cert.SumFfn2BottomRefIdeal.Gen.facts, Cert.AdamIn.Gen.facts, Cert.AdamInIdeal.Gen.facts, Cert.AdamInRefIdeal.Gen.facts, Cert.AdamBranch.Gen.facts, Cert.AdamBranchIdeal.Gen.facts, Cert.AdamBranchRefIdeal.Gen.facts, Cert.AdamOut.Gen.facts, Cert.AdamOutIdeal.Gen.facts, Cert.AdamOutRefIdeal.Gen.facts, Cert.AdamFfn1.Gen.facts, Cert.AdamFfn1Ideal.Gen.facts, Cert.AdamFfn1RefIdeal.Gen.facts, Cert.AdamFfn2.Gen.facts, Cert.AdamFfn2Ideal.Gen.facts, Cert.AdamFfn2RefIdeal.Gen.facts, Cert.AdamAda.Gen.facts, Cert.AdamAdaIdeal.Gen.facts, Cert.AdamAdaRefIdeal.Gen.facts, Cert.AdamSmall.Gen.facts, Cert.AdamSmallIdeal.Gen.facts, Cert.AdamSmallRefIdeal.Gen.facts, Cert.Pre_finite_rows.Gen.facts,
  fun m ρ _ => Cert.Gwin.Gen.frame m ρ,
  fun m ρ _ => Cert.GwinIdeal.Gen.frame m ρ,
  fun m ρ _ => (θ_run _ _ _).mono (fun r h => ⟨fun c => (h c).2, sem_eq_zero_of_no_sems (by decide) r.2⟩) (Cert.GwinRefIdeal.Value.run m ρ),
  fun m ρ _ => Cert.Gw1.Gen.frame m ρ,
  fun m ρ _ => Cert.Gw1Ideal.Gen.frame m ρ,
  fun m ρ _ => (θ_run _ _ _).mono (fun r h => ⟨fun c => (h c).2, sem_eq_zero_of_no_sems (by decide) r.2⟩) (Cert.Gw1RefIdeal.Value.run m ρ),
  fun m ρ _ => Cert.Gw2.Gen.frame m ρ,
  fun m ρ _ => Cert.Gw2Ideal.Gen.frame m ρ,
  fun m ρ _ => (θ_run _ _ _).mono (fun r h => ⟨fun c => (h c).2, sem_eq_zero_of_no_sems (by decide) r.2⟩) (Cert.Gw2RefIdeal.Value.run m ρ),
  fun m ρ _ => Cert.Gwo.Gen.frame m ρ,
  fun m ρ _ => Cert.GwoIdeal.Gen.frame m ρ,
  fun m ρ _ => (θ_run _ _ _).mono (fun r h => ⟨fun c => (h c).2, sem_eq_zero_of_no_sems (by decide) r.2⟩) (Cert.GwoRefIdeal.Value.run m ρ),
  fun m ρ _ => Cert.Gwa.Gen.frame m ρ,
  fun m ρ _ => Cert.GwaIdeal.Gen.frame m ρ,
  fun m ρ _ => (θ_run _ _ _).mono (fun r h => ⟨fun c => (h c).2, sem_eq_zero_of_no_sems (by decide) r.2⟩) (Cert.GwaRefIdeal.Value.run m ρ),
  fun m ρ _ => Cert.Dh.Gen.frame m ρ,
  fun m ρ _ => Cert.DhIdeal.Gen.frame m ρ,
  fun m ρ _ => (θ_run _ _ _).mono (fun r h => ⟨fun c => (h c).2, sem_eq_zero_of_no_sems (by decide) r.2⟩) (Cert.DhRefIdeal.Value.run m ρ),
  fun m ρ _ => Cert.Dh2.Gen.frame m ρ,
  fun m ρ _ => Cert.Dh2Ideal.Gen.frame m ρ,
  fun m ρ _ => (θ_run _ _ _).mono (fun r h => ⟨fun c => (h c).2, sem_eq_zero_of_no_sems (by decide) r.2⟩) (Cert.Dh2RefIdeal.Value.run m ρ),
  fun m ρ _ => Cert.Da.Gen.frame m ρ,
  fun m ρ _ => Cert.DaIdeal.Gen.frame m ρ,
  fun m ρ _ => (θ_run _ _ _).mono (fun r h => ⟨fun c => (h c).2, sem_eq_zero_of_no_sems (by decide) r.2⟩) (Cert.DaRefIdeal.Value.run m ρ),
  fun m ρ _ => Cert.Dz.Gen.frame m ρ,
  fun m ρ _ => Cert.DzIdeal.Gen.frame m ρ,
  fun m ρ _ => (θ_run _ _ _).mono (fun r h => ⟨fun c => (h c).2, sem_eq_zero_of_no_sems (by decide) r.2⟩) (Cert.DzRefIdeal.Value.run m ρ),
  fun m ρ _ => Cert.Dya.Gen.frame m ρ,
  fun m ρ _ => Cert.DyaIdeal.Gen.frame m ρ,
  fun m ρ _ => (θ_run _ _ _).mono (fun r h => ⟨fun c => (h c).2, sem_eq_zero_of_no_sems (by decide) r.2⟩) (Cert.DyaRefIdeal.Value.run m ρ),
  fun m ρ _ => Cert.Dyb.Gen.frame m ρ,
  fun m ρ _ => Cert.DybIdeal.Gen.frame m ρ,
  fun m ρ _ => (θ_run _ _ _).mono (fun r h => ⟨fun c => (h c).2, sem_eq_zero_of_no_sems (by decide) r.2⟩) (Cert.DybRefIdeal.Value.run m ρ),
  fun m ρ _ => Cert.U1.Gen.frame m ρ,
  fun m ρ _ => Cert.U1Ideal.Gen.frame m ρ,
  fun m ρ _ => (θ_run _ _ _).mono (fun r h => ⟨fun c => (h c).2, sem_eq_zero_of_no_sems (by decide) r.2⟩) (Cert.U1RefIdeal.Value.run m ρ),
  fun m ρ _ => Cert.Mf.Gen.frame m ρ,
  fun m ρ _ => Cert.MfIdeal.Gen.frame m ρ,
  fun m ρ _ => (θ_run _ _ _).mono (fun r h => ⟨fun c => (h c).2, sem_eq_zero_of_no_sems (by decide) r.2⟩) (Cert.MfRefIdeal.Value.run m ρ),
  fun m ρ _ => Cert.Mo.Gen.frame m ρ,
  fun m ρ _ => Cert.MoIdeal.Gen.frame m ρ,
  fun m ρ _ => (θ_run _ _ _).mono (fun r h => ⟨fun c => (h c).2, sem_eq_zero_of_no_sems (by decide) r.2⟩) (Cert.MoRefIdeal.Value.run m ρ),
  fun m ρ _ => Cert.Za.Gen.frame m ρ,
  fun m ρ _ => Cert.ZaIdeal.Gen.frame m ρ,
  fun m ρ _ => (θ_run _ _ _).mono (fun r h => ⟨fun c => (h c).2, sem_eq_zero_of_no_sems (by decide) r.2⟩) (Cert.ZaRefIdeal.Value.run m ρ),
  fun m ρ _ => Cert.AdaB.Gen.frame m ρ,
  fun m ρ _ => Cert.AdaBIdeal.Gen.frame m ρ,
  fun m ρ _ => (θ_run _ _ _).mono (fun r h => ⟨fun c => (h c).2.2, sem_eq_zero_of_no_sems (by decide) r.2⟩) (Cert.AdaBRefIdeal.Value.run m ρ),
  fun m ρ _ => Cert.CCtx.Gen.frame m ρ,
  fun m ρ _ => Cert.CCtxIdeal.Gen.frame m ρ,
  fun m ρ _ => Cert.CCtxIdeal.Gen.frame m ρ,
  fun m ρ _ => (θ_run _ _ _).mono (fun r h => ⟨fun c => (h c).2, sem_eq_zero_of_no_sems (by decide) r.2⟩) (Cert.CCtxRefIdeal.Value.run m ρ),
  fun m ρ _ => (θ_run _ _ _).mono (fun r h => ⟨fun c => (h c).2, sem_eq_zero_of_no_sems (by decide) r.2⟩) (Cert.CCtxRefIdeal.Value.run m ρ),
  fun m ρ _ => Cert.SumSmall.Gen.frame m ρ,
  fun m ρ _ => Cert.SumSmallIdeal.Gen.frame m ρ,
  fun m ρ _ => (θ_run _ _ _).mono (fun r h => ⟨fun c => (h c).2.2, sem_eq_zero_of_no_sems (by decide) r.2⟩) (Cert.SumSmallRefIdeal.Value.run m ρ),
  fun m ρ _ => Cert.SumInTop.Gen.frame m ρ (Cert.SumInTop.Placed.ok m),
  fun m ρ _ => Cert.SumInTopIdeal.Gen.frame m ρ (Cert.SumInTopIdeal.Placed.ok m),
  fun m ρ _ => (θ_run _ _ _).mono (fun r h => ⟨fun c => (h c).2, sem_eq_zero_of_no_sems (by decide) r.2⟩) (Cert.SumInTopRefIdeal.Value.run m ρ),
  fun m ρ _ => Cert.SumInBottom.Gen.frame m ρ (Cert.SumInBottom.Placed.ok m),
  fun m ρ _ => Cert.SumInBottomIdeal.Gen.frame m ρ (Cert.SumInBottomIdeal.Placed.ok m),
  fun m ρ _ => (θ_run _ _ _).mono (fun r h => ⟨fun c => (h c).2, sem_eq_zero_of_no_sems (by decide) r.2⟩) (Cert.SumInBottomRefIdeal.Value.run m ρ),
  fun m ρ _ => Cert.SumBranchTop.Gen.frame m ρ (Cert.SumBranchTop.Placed.ok m),
  fun m ρ _ => Cert.SumBranchTopIdeal.Gen.frame m ρ (Cert.SumBranchTopIdeal.Placed.ok m),
  fun m ρ _ => (θ_run _ _ _).mono (fun r h => ⟨fun c => (h c).2, sem_eq_zero_of_no_sems (by decide) r.2⟩) (Cert.SumBranchTopRefIdeal.Value.run m ρ),
  fun m ρ _ => Cert.SumBranchBottom.Gen.frame m ρ (Cert.SumBranchBottom.Placed.ok m),
  fun m ρ _ => Cert.SumBranchBottomIdeal.Gen.frame m ρ (Cert.SumBranchBottomIdeal.Placed.ok m),
  fun m ρ _ => (θ_run _ _ _).mono (fun r h => ⟨fun c => (h c).2, sem_eq_zero_of_no_sems (by decide) r.2⟩) (Cert.SumBranchBottomRefIdeal.Value.run m ρ),
  fun m ρ _ => Cert.SumOutTop.Gen.frame m ρ (Cert.SumOutTop.Placed.ok m),
  fun m ρ _ => Cert.SumOutTopIdeal.Gen.frame m ρ (Cert.SumOutTopIdeal.Placed.ok m),
  fun m ρ _ => (θ_run _ _ _).mono (fun r h => ⟨fun c => (h c).2, sem_eq_zero_of_no_sems (by decide) r.2⟩) (Cert.SumOutTopRefIdeal.Value.run m ρ),
  fun m ρ _ => Cert.SumOutBottom.Gen.frame m ρ (Cert.SumOutBottom.Placed.ok m),
  fun m ρ _ => Cert.SumOutBottomIdeal.Gen.frame m ρ (Cert.SumOutBottomIdeal.Placed.ok m),
  fun m ρ _ => (θ_run _ _ _).mono (fun r h => ⟨fun c => (h c).2, sem_eq_zero_of_no_sems (by decide) r.2⟩) (Cert.SumOutBottomRefIdeal.Value.run m ρ),
  fun m ρ _ => Cert.SumFfn1Top.Gen.frame m ρ (Cert.SumFfn1Top.Placed.ok m),
  fun m ρ _ => Cert.SumFfn1TopIdeal.Gen.frame m ρ (Cert.SumFfn1TopIdeal.Placed.ok m),
  fun m ρ _ => (θ_run _ _ _).mono (fun r h => ⟨fun c => (h c).2, sem_eq_zero_of_no_sems (by decide) r.2⟩) (Cert.SumFfn1TopRefIdeal.Value.run m ρ),
  fun m ρ _ => Cert.SumFfn1Bottom.Gen.frame m ρ (Cert.SumFfn1Bottom.Placed.ok m),
  fun m ρ _ => Cert.SumFfn1BottomIdeal.Gen.frame m ρ (Cert.SumFfn1BottomIdeal.Placed.ok m),
  fun m ρ _ => (θ_run _ _ _).mono (fun r h => ⟨fun c => (h c).2, sem_eq_zero_of_no_sems (by decide) r.2⟩) (Cert.SumFfn1BottomRefIdeal.Value.run m ρ),
  fun m ρ _ => Cert.SumFfn2Top.Gen.frame m ρ (Cert.SumFfn2Top.Placed.ok m),
  fun m ρ _ => Cert.SumFfn2TopIdeal.Gen.frame m ρ (Cert.SumFfn2TopIdeal.Placed.ok m),
  fun m ρ _ => (θ_run _ _ _).mono (fun r h => ⟨fun c => (h c).2, sem_eq_zero_of_no_sems (by decide) r.2⟩) (Cert.SumFfn2TopRefIdeal.Value.run m ρ),
  fun m ρ _ => Cert.SumFfn2Bottom.Gen.frame m ρ (Cert.SumFfn2Bottom.Placed.ok m),
  fun m ρ _ => Cert.SumFfn2BottomIdeal.Gen.frame m ρ (Cert.SumFfn2BottomIdeal.Placed.ok m),
  fun m ρ _ => (θ_run _ _ _).mono (fun r h => ⟨fun c => (h c).2, sem_eq_zero_of_no_sems (by decide) r.2⟩) (Cert.SumFfn2BottomRefIdeal.Value.run m ρ),
  fun m ρ _ => Cert.AdamIn.Gen.frame m ρ,
  fun m ρ _ => Cert.AdamInIdeal.Gen.frame m ρ,
  fun m ρ _ => (θ_run _ _ _).mono (fun r h => ⟨fun c => (h c).2.2.2.2, sem_eq_zero_of_no_sems (by decide) r.2⟩) (Cert.AdamInRefIdeal.Value.run m ρ),
  fun m ρ _ => Cert.AdamBranch.Gen.frame m ρ,
  fun m ρ _ => Cert.AdamBranchIdeal.Gen.frame m ρ,
  fun m ρ _ => (θ_run _ _ _).mono (fun r h => ⟨fun c => (h c).2.2.2.2, sem_eq_zero_of_no_sems (by decide) r.2⟩) (Cert.AdamBranchRefIdeal.Value.run m ρ),
  fun m ρ _ => Cert.AdamOut.Gen.frame m ρ,
  fun m ρ _ => Cert.AdamOutIdeal.Gen.frame m ρ,
  fun m ρ _ => (θ_run _ _ _).mono (fun r h => ⟨fun c => (h c).2.2.2.2, sem_eq_zero_of_no_sems (by decide) r.2⟩) (Cert.AdamOutRefIdeal.Value.run m ρ),
  fun m ρ _ => Cert.AdamFfn1.Gen.frame m ρ,
  fun m ρ _ => Cert.AdamFfn1Ideal.Gen.frame m ρ,
  fun m ρ _ => (θ_run _ _ _).mono (fun r h => ⟨fun c => (h c).2.2.2.2, sem_eq_zero_of_no_sems (by decide) r.2⟩) (Cert.AdamFfn1RefIdeal.Value.run m ρ),
  fun m ρ _ => Cert.AdamFfn2.Gen.frame m ρ,
  fun m ρ _ => Cert.AdamFfn2Ideal.Gen.frame m ρ,
  fun m ρ _ => (θ_run _ _ _).mono (fun r h => ⟨fun c => (h c).2.2.2.2, sem_eq_zero_of_no_sems (by decide) r.2⟩) (Cert.AdamFfn2RefIdeal.Value.run m ρ),
  fun m ρ _ => Cert.AdamAda.Gen.frame m ρ,
  fun m ρ _ => Cert.AdamAdaIdeal.Gen.frame m ρ,
  fun m ρ _ => (θ_run _ _ _).mono (fun r h => ⟨fun c => (h c).2.2.2, sem_eq_zero_of_no_sems (by decide) r.2⟩) (Cert.AdamAdaRefIdeal.Value.run m ρ),
  fun m ρ _ => Cert.AdamSmall.Gen.frame m ρ,
  fun m ρ _ => Cert.AdamSmallIdeal.Gen.frame m ρ,
  fun m ρ _ => (θ_run _ _ _).mono (fun r h => ⟨fun c => (h c).2.2.2, sem_eq_zero_of_no_sems (by decide) r.2⟩) (Cert.AdamSmallRefIdeal.Value.run m ρ),
  trivial,
  algebraic_Gwin,
  trivial,
  algebraic_Gw1,
  trivial,
  algebraic_Gw2,
  trivial,
  algebraic_Gwo,
  trivial,
  algebraic_Gwa,
  trivial,
  algebraic_Dh,
  trivial,
  algebraic_Dh2,
  trivial,
  algebraic_Da,
  trivial,
  algebraic_Dz,
  trivial,
  algebraic_Dya,
  trivial,
  algebraic_Dyb,
  trivial,
  algebraic_U1,
  trivial,
  algebraic_Mf,
  trivial,
  algebraic_Mo,
  trivial,
  algebraic_Za,
  trivial,
  algebraic_AdaB,
  trivial,
  algebraic_CCtx,
  trivial,
  algebraic_SumSmall,
  trivial,
  algebraic_SumInTop,
  trivial,
  algebraic_SumInBottom,
  trivial,
  algebraic_SumBranchTop,
  trivial,
  algebraic_SumBranchBottom,
  trivial,
  algebraic_SumOutTop,
  trivial,
  algebraic_SumOutBottom,
  trivial,
  algebraic_SumFfn1Top,
  trivial,
  algebraic_SumFfn1Bottom,
  trivial,
  algebraic_SumFfn2Top,
  trivial,
  algebraic_SumFfn2Bottom,
  trivial,
  algebraic_AdamIn,
  trivial,
  algebraic_AdamBranch,
  trivial,
  algebraic_AdamOut,
  trivial,
  algebraic_AdamFfn1,
  trivial,
  algebraic_AdamFfn2,
  trivial,
  algebraic_AdamAda,
  trivial,
  algebraic_AdamSmall⟩

end Cert.Proof

end
